-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDh2 (m : (ℓ : Loc Cert.KernelDh2.nD Cert.KernelDh2.τ Cert.KernelDh2.sig) → Buf (Elt Bits) ℓ) : Prop :=
  True

def Pre_KernelDh2Ideal (m : (ℓ : Loc Cert.KernelDh2Ideal.nD Cert.KernelDh2Ideal.τ Cert.KernelDh2Ideal.sig) → Buf (Elt Ideal) ℓ) : Prop :=
  True

def Pre_ReferenceDh2Ideal (m : (ℓ : Loc Cert.ReferenceDh2Ideal.nD Cert.ReferenceDh2Ideal.τ Cert.ReferenceDh2Ideal.sig) → Buf (Elt Ideal) ℓ) : Prop :=
  True

def Pre_KernelWUp (m : (ℓ : Loc Cert.KernelWUp.nD Cert.KernelWUp.τ Cert.KernelWUp.sig) → Buf (Elt Bits) ℓ) : Prop :=
  True

def Pre_KernelWUpIdeal (m : (ℓ : Loc Cert.KernelWUpIdeal.nD Cert.KernelWUpIdeal.τ Cert.KernelWUpIdeal.sig) → Buf (Elt Ideal) ℓ) : Prop :=
  True

def Pre_ReferenceWUpIdeal (m : (ℓ : Loc Cert.ReferenceWUpIdeal.nD Cert.ReferenceWUpIdeal.τ Cert.ReferenceWUpIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelWDown (m : (ℓ : Loc Cert.KernelWDown.nD Cert.KernelWDown.τ Cert.KernelWDown.sig) → Buf (Elt Bits) ℓ) : Prop :=
  True

def Pre_KernelWDownIdeal (m : (ℓ : Loc Cert.KernelWDownIdeal.nD Cert.KernelWDownIdeal.τ Cert.KernelWDownIdeal.sig) → Buf (Elt Ideal) ℓ) : Prop :=
  True

def Pre_ReferenceWDownIdeal (m : (ℓ : Loc Cert.ReferenceWDownIdeal.nD Cert.ReferenceWDownIdeal.τ Cert.ReferenceWDownIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelWBr (m : (ℓ : Loc Cert.KernelWBr.nD Cert.KernelWBr.τ Cert.KernelWBr.sig) → Buf (Elt Bits) ℓ) : Prop :=
  True

def Pre_KernelWBrIdeal (m : (ℓ : Loc Cert.KernelWBrIdeal.nD Cert.KernelWBrIdeal.τ Cert.KernelWBrIdeal.sig) → Buf (Elt Ideal) ℓ) : Prop :=
  True

def Pre_ReferenceWBrIdeal (m : (ℓ : Loc Cert.ReferenceWBrIdeal.nD Cert.ReferenceWBrIdeal.τ Cert.ReferenceWBrIdeal.sig) → Buf (Elt Ideal) ℓ) : Prop :=
  True

def Pre_KernelWInFox (m : (ℓ : Loc Cert.KernelWInFox.nD Cert.KernelWInFox.τ Cert.KernelWInFox.sig) → Buf (Elt Bits) ℓ) : Prop :=
  True

def Pre_KernelWInFoxIdeal (m : (ℓ : Loc Cert.KernelWInFoxIdeal.nD Cert.KernelWInFoxIdeal.τ Cert.KernelWInFoxIdeal.sig) → Buf (Elt Ideal) ℓ) : Prop :=
  True

def Pre_ReferenceWInFoxIdeal (m : (ℓ : Loc Cert.ReferenceWInFoxIdeal.nD Cert.ReferenceWInFoxIdeal.τ Cert.ReferenceWInFoxIdeal.sig) → Buf (Elt Ideal) ℓ) : Prop :=
  True

def Pre_KernelWInMq (m : (ℓ : Loc Cert.KernelWInMq.nD Cert.KernelWInMq.τ Cert.KernelWInMq.sig) → Buf (Elt Bits) ℓ) : Prop :=
  True

def Pre_KernelWInMqIdeal (m : (ℓ : Loc Cert.KernelWInMqIdeal.nD Cert.KernelWInMqIdeal.τ Cert.KernelWInMqIdeal.sig) → Buf (Elt Ideal) ℓ) : Prop :=
  True

def Pre_ReferenceWInMqIdeal (m : (ℓ : Loc Cert.ReferenceWInMqIdeal.nD Cert.ReferenceWInMqIdeal.τ Cert.ReferenceWInMqIdeal.sig) → Buf (Elt Ideal) ℓ) : Prop :=
  True

def Pre_KernelWInHg (m : (ℓ : Loc Cert.KernelWInHg.nD Cert.KernelWInHg.τ Cert.KernelWInHg.sig) → Buf (Elt Bits) ℓ) : Prop :=
  True

def Pre_KernelWInHgIdeal (m : (ℓ : Loc Cert.KernelWInHgIdeal.nD Cert.KernelWInHgIdeal.τ Cert.KernelWInHgIdeal.sig) → Buf (Elt Ideal) ℓ) : Prop :=
  True

def Pre_ReferenceWInHgIdeal (m : (ℓ : Loc Cert.ReferenceWInHgIdeal.nD Cert.ReferenceWInHgIdeal.τ Cert.ReferenceWInHgIdeal.sig) → Buf (Elt Ideal) ℓ) : Prop :=
  True

def Pre_KernelWInGate (m : (ℓ : Loc Cert.KernelWInGate.nD Cert.KernelWInGate.τ Cert.KernelWInGate.sig) → Buf (Elt Bits) ℓ) : Prop :=
  True

def Pre_KernelWInGateIdeal (m : (ℓ : Loc Cert.KernelWInGateIdeal.nD Cert.KernelWInGateIdeal.τ Cert.KernelWInGateIdeal.sig) → Buf (Elt Ideal) ℓ) : Prop :=
  True

def Pre_ReferenceWInGateIdeal (m : (ℓ : Loc Cert.ReferenceWInGateIdeal.nD Cert.ReferenceWInGateIdeal.τ Cert.ReferenceWInGateIdeal.sig) → Buf (Elt Ideal) ℓ) : Prop :=
  True

def Pre_KernelWInFf (m : (ℓ : Loc Cert.KernelWInFf.nD Cert.KernelWInFf.τ Cert.KernelWInFf.sig) → Buf (Elt Bits) ℓ) : Prop :=
  True

def Pre_KernelWInFfIdeal (m : (ℓ : Loc Cert.KernelWInFfIdeal.nD Cert.KernelWInFfIdeal.τ Cert.KernelWInFfIdeal.sig) → Buf (Elt Ideal) ℓ) : Prop :=
  True

def Pre_ReferenceWInFfIdeal (m : (ℓ : Loc Cert.ReferenceWInFfIdeal.nD Cert.ReferenceWInFfIdeal.τ Cert.ReferenceWInFfIdeal.sig) → Buf (Elt Ideal) ℓ) : Prop :=
  True

def Pre_KernelProjIn (m : (ℓ : Loc Cert.KernelProjIn.nD Cert.KernelProjIn.τ Cert.KernelProjIn.sig) → Buf (Elt Bits) ℓ) : Prop :=
  True

def Pre_KernelProjInIdeal (m : (ℓ : Loc Cert.KernelProjInIdeal.nD Cert.KernelProjInIdeal.τ Cert.KernelProjInIdeal.sig) → Buf (Elt Ideal) ℓ) : Prop :=
  True

def Pre_ReferenceProjInIdeal (m : (ℓ : Loc Cert.ReferenceProjInIdeal.nD Cert.ReferenceProjInIdeal.τ Cert.ReferenceProjInIdeal.sig) → Buf (Elt Ideal) ℓ) : Prop :=
  True

def Pre_KernelFfnUp (m : (ℓ : Loc Cert.KernelFfnUp.nD Cert.KernelFfnUp.τ Cert.KernelFfnUp.sig) → Buf (Elt Bits) ℓ) : Prop :=
  True

def Pre_KernelFfnUpIdeal (m : (ℓ : Loc Cert.KernelFfnUpIdeal.nD Cert.KernelFfnUpIdeal.τ Cert.KernelFfnUpIdeal.sig) → Buf (Elt Ideal) ℓ) : Prop :=
  True

def Pre_ReferenceFfnUpIdeal (m : (ℓ : Loc Cert.ReferenceFfnUpIdeal.nD Cert.ReferenceFfnUpIdeal.τ Cert.ReferenceFfnUpIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelMergeB (m : (ℓ : Loc Cert.KernelMergeB.nD Cert.KernelMergeB.τ Cert.KernelMergeB.sig) → Buf (Elt Bits) ℓ) : Prop :=
  True

def Pre_KernelMergeBIdeal (m : (ℓ : Loc Cert.KernelMergeBIdeal.nD Cert.KernelMergeBIdeal.τ Cert.KernelMergeBIdeal.sig) → Buf (Elt Ideal) ℓ) : Prop :=
  True

def Pre_ReferenceMergeBIdeal (m : (ℓ : Loc Cert.ReferenceMergeBIdeal.nD Cert.ReferenceMergeBIdeal.τ Cert.ReferenceMergeBIdeal.sig) → Buf (Elt Ideal) ℓ) : Prop :=
  True

def Pre_KernelMergeF (m : (ℓ : Loc Cert.KernelMergeF.nD Cert.KernelMergeF.τ Cert.KernelMergeF.sig) → Buf (Elt Bits) ℓ) : Prop :=
  True

def Pre_KernelMergeFIdeal (m : (ℓ : Loc Cert.KernelMergeFIdeal.nD Cert.KernelMergeFIdeal.τ Cert.KernelMergeFIdeal.sig) → Buf (Elt Ideal) ℓ) : Prop :=
  True

def Pre_ReferenceMergeFIdeal (m : (ℓ : Loc Cert.ReferenceMergeFIdeal.nD Cert.ReferenceMergeFIdeal.τ Cert.ReferenceMergeFIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelNormB (m : (ℓ : Loc Cert.KernelNormB.nD Cert.KernelNormB.τ Cert.KernelNormB.sig) → Buf (Elt Bits) ℓ) : Prop :=
  True

def Pre_KernelNormBIdeal (m : (ℓ : Loc Cert.KernelNormBIdeal.nD Cert.KernelNormBIdeal.τ Cert.KernelNormBIdeal.sig) → Buf (Elt Ideal) ℓ) : Prop :=
  True

def Pre_ReferenceNormBIdeal (m : (ℓ : Loc Cert.ReferenceNormBIdeal.nD Cert.ReferenceNormBIdeal.τ Cert.ReferenceNormBIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamBr (m : (ℓ : Loc Cert.KernelAdamBr.nD Cert.KernelAdamBr.τ Cert.KernelAdamBr.sig) → Buf (Elt Bits) ℓ) : Prop :=
  True

def Pre_KernelAdamBrIdeal (m : (ℓ : Loc Cert.KernelAdamBrIdeal.nD Cert.KernelAdamBrIdeal.τ Cert.KernelAdamBrIdeal.sig) → Buf (Elt Ideal) ℓ) : Prop :=
  True

def Pre_ReferenceAdamBrIdeal (m : (ℓ : Loc Cert.ReferenceAdamBrIdeal.nD Cert.ReferenceAdamBrIdeal.τ Cert.ReferenceAdamBrIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelWMem (m : (ℓ : Loc Cert.KernelWMem.nD Cert.KernelWMem.τ Cert.KernelWMem.sig) → Buf (Elt Bits) ℓ) : Prop :=
  True

def Pre_KernelWMemIdeal (m : (ℓ : Loc Cert.KernelWMemIdeal.nD Cert.KernelWMemIdeal.τ Cert.KernelWMemIdeal.sig) → Buf (Elt Ideal) ℓ) : Prop :=
  True

def Pre_ReferenceWMemIdeal (m : (ℓ : Loc Cert.ReferenceWMemIdeal.nD Cert.ReferenceWMemIdeal.τ Cert.ReferenceWMemIdeal.sig) → Buf (Elt Ideal) ℓ) : Prop :=
  True

def Pre_KernelNormM (m : (ℓ : Loc Cert.KernelNormM.nD Cert.KernelNormM.τ Cert.KernelNormM.sig) → Buf (Elt Bits) ℓ) : Prop :=
  True

def Pre_KernelNormMIdeal (m : (ℓ : Loc Cert.KernelNormMIdeal.nD Cert.KernelNormMIdeal.τ Cert.KernelNormMIdeal.sig) → Buf (Elt Ideal) ℓ) : Prop :=
  True

def Pre_ReferenceNormMIdeal (m : (ℓ : Loc Cert.ReferenceNormMIdeal.nD Cert.ReferenceNormMIdeal.τ Cert.ReferenceNormMIdeal.sig) → Buf (Elt Ideal) ℓ) : Prop :=
  True

def Pre_KernelProjMem (m : (ℓ : Loc Cert.KernelProjMem.nD Cert.KernelProjMem.τ Cert.KernelProjMem.sig) → Buf (Elt Bits) ℓ) : Prop :=
  True

def Pre_KernelProjMemIdeal (m : (ℓ : Loc Cert.KernelProjMemIdeal.nD Cert.KernelProjMemIdeal.τ Cert.KernelProjMemIdeal.sig) → Buf (Elt Ideal) ℓ) : Prop :=
  True

def Pre_ReferenceProjMemIdeal (m : (ℓ : Loc Cert.ReferenceProjMemIdeal.nD Cert.ReferenceProjMemIdeal.τ Cert.ReferenceProjMemIdeal.sig) → Buf (Elt Ideal) ℓ) : Prop :=
  True

def Pre_KernelDMemn (m : (ℓ : Loc Cert.KernelDMemn.nD Cert.KernelDMemn.τ Cert.KernelDMemn.sig) → Buf (Elt Bits) ℓ) : Prop :=
  True

def Pre_KernelDMemnIdeal (m : (ℓ : Loc Cert.KernelDMemnIdeal.nD Cert.KernelDMemnIdeal.τ Cert.KernelDMemnIdeal.sig) → Buf (Elt Ideal) ℓ) : Prop :=
  True

def Pre_ReferenceDMemnIdeal (m : (ℓ : Loc Cert.ReferenceDMemnIdeal.nD Cert.ReferenceDMemnIdeal.τ Cert.ReferenceDMemnIdeal.sig) → Buf (Elt Ideal) ℓ) : Prop :=
  True

def Pre_KernelNormF (m : (ℓ : Loc Cert.KernelNormF.nD Cert.KernelNormF.τ Cert.KernelNormF.sig) → Buf (Elt Bits) ℓ) : Prop :=
  True

def Pre_KernelNormFIdeal (m : (ℓ : Loc Cert.KernelNormFIdeal.nD Cert.KernelNormFIdeal.τ Cert.KernelNormFIdeal.sig) → Buf (Elt Ideal) ℓ) : Prop :=
  True

def Pre_ReferenceNormFIdeal (m : (ℓ : Loc Cert.ReferenceNormFIdeal.nD Cert.ReferenceNormFIdeal.τ Cert.ReferenceNormFIdeal.sig) → Buf (Elt Ideal) ℓ) : Prop :=
  True

def Pre_KernelNormMF (m : (ℓ : Loc Cert.KernelNormMF.nD Cert.KernelNormMF.τ Cert.KernelNormMF.sig) → Buf (Elt Bits) ℓ) : Prop :=
  True

def Pre_KernelNormMFIdeal (m : (ℓ : Loc Cert.KernelNormMFIdeal.nD Cert.KernelNormMFIdeal.τ Cert.KernelNormMFIdeal.sig) → Buf (Elt Ideal) ℓ) : Prop :=
  True

def Pre_ReferenceNormMFIdeal (m : (ℓ : Loc Cert.ReferenceNormMFIdeal.nD Cert.ReferenceNormMFIdeal.τ Cert.ReferenceNormMFIdeal.sig) → Buf (Elt Ideal) ℓ) : Prop :=
  True

def Pre_KernelMemF (m : (ℓ : Loc Cert.KernelMemF.nD Cert.KernelMemF.τ Cert.KernelMemF.sig) → Buf (Elt Bits) ℓ) : Prop :=
  True

def Pre_KernelMemFIdeal (m : (ℓ : Loc Cert.KernelMemFIdeal.nD Cert.KernelMemFIdeal.τ Cert.KernelMemFIdeal.sig) → Buf (Elt Ideal) ℓ) : Prop :=
  True

def Pre_ReferenceMemFIdeal (m : (ℓ : Loc Cert.ReferenceMemFIdeal.nD Cert.ReferenceMemFIdeal.τ Cert.ReferenceMemFIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDh2 [hKernelDh2 : Cert.KernelDh2.Facts] : Prop :=
  ∀ (m : (ℓ : Loc Cert.KernelDh2.nD Cert.KernelDh2.τ Cert.KernelDh2.sig) → Buf (Elt Bits) ℓ) (g : Dev Cert.KernelDh2.nD → PrngReg), Pre_KernelDh2 m →
    θ_run (Cert.KernelDh2.defs (F := Bits)) (onTc (τ := Cert.KernelDh2.τ) (Cert.KernelDh2.main (F := Bits))) ⟨m, fun _ => 0, g⟩ (fun r => (∀ c : Dev Cert.KernelDh2.nD,
      r.2.mem ((c.tc : Thread Cert.KernelDh2.nD Cert.KernelDh2.τ).loc Cert.KernelDh2.main_arg0) = m ((c.tc : Thread Cert.KernelDh2.nD Cert.KernelDh2.τ).loc Cert.KernelDh2.main_arg0)
      ∧ r.2.mem ((c.tc : Thread Cert.KernelDh2.nD Cert.KernelDh2.τ).loc Cert.KernelDh2.main_arg1) = m ((c.tc : Thread Cert.KernelDh2.nD Cert.KernelDh2.τ).loc Cert.KernelDh2.main_arg1)
      ∧ r.2.mem ((c.tc : Thread Cert.KernelDh2.nD Cert.KernelDh2.τ).loc Cert.KernelDh2.main_arg2) = m ((c.tc : Thread Cert.KernelDh2.nD Cert.KernelDh2.τ).loc Cert.KernelDh2.main_arg2))
      ∧ r.2.sem = fun _ => 0)

def quiescent_KernelDh2Ideal [hKernelDh2Ideal : Cert.KernelDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
      ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2))
      ∧ r.2.sem = fun _ => 0)

def quiescent_ReferenceDh2Ideal [hReferenceDh2Ideal : Cert.ReferenceDh2Ideal.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1)
      ∧ r.2.mem ((c.tc : Thread Cert.ReferenceDh2Ideal.nD Cert.ReferenceDh2Ideal.τ).loc Cert.ReferenceDh2Ideal.main_arg2) = m ((c.tc : Thread Cert.ReferenceDh2Ideal.nD Cert.ReferenceDh2Ideal.τ).loc Cert.ReferenceDh2Ideal.main_arg2))
      ∧ r.2.sem = fun _ => 0)

def quiescent_KernelWUp [hKernelWUp : Cert.KernelWUp.Facts] : Prop :=
  ∀ (m : (ℓ : Loc Cert.KernelWUp.nD Cert.KernelWUp.τ Cert.KernelWUp.sig) → Buf (Elt Bits) ℓ) (g : Dev Cert.KernelWUp.nD → PrngReg), Pre_KernelWUp m →
    θ_run (Cert.KernelWUp.defs (F := Bits)) (onTc (τ := Cert.KernelWUp.τ) (Cert.KernelWUp.main (F := Bits))) ⟨m, fun _ => 0, g⟩ (fun r => (∀ c : Dev Cert.KernelWUp.nD,
      r.2.mem ((c.tc : Thread Cert.KernelWUp.nD Cert.KernelWUp.τ).loc Cert.KernelWUp.main_arg0) = m ((c.tc : Thread Cert.KernelWUp.nD Cert.KernelWUp.τ).loc Cert.KernelWUp.main_arg0)
      ∧ r.2.mem ((c.tc : Thread Cert.KernelWUp.nD Cert.KernelWUp.τ).loc Cert.KernelWUp.main_arg1) = m ((c.tc : Thread Cert.KernelWUp.nD Cert.KernelWUp.τ).loc Cert.KernelWUp.main_arg1))
      ∧ r.2.sem = fun _ => 0)

def quiescent_KernelWUpIdeal [hKernelWUpIdeal : Cert.KernelWUpIdeal.Facts] : Prop :=
  ∀ (m : (ℓ : Loc Cert.KernelWUpIdeal.nD Cert.KernelWUpIdeal.τ Cert.KernelWUpIdeal.sig) → Buf (Elt Ideal) ℓ) (g : Dev Cert.KernelWUpIdeal.nD → PrngReg), Pre_KernelWUpIdeal m →
    θ_run (Cert.KernelWUpIdeal.defs (F := Ideal)) (onTc (τ := Cert.KernelWUpIdeal.τ) (Cert.KernelWUpIdeal.main (F := Ideal))) ⟨m, fun _ => 0, g⟩ (fun r => (∀ c : Dev Cert.KernelWUpIdeal.nD,
      r.2.mem ((c.tc : Thread Cert.KernelWUpIdeal.nD Cert.KernelWUpIdeal.τ).loc Cert.KernelWUpIdeal.main_arg0) = m ((c.tc : Thread Cert.KernelWUpIdeal.nD Cert.KernelWUpIdeal.τ).loc Cert.KernelWUpIdeal.main_arg0)
      ∧ r.2.mem ((c.tc : Thread Cert.KernelWUpIdeal.nD Cert.KernelWUpIdeal.τ).loc Cert.KernelWUpIdeal.main_arg1) = m ((c.tc : Thread Cert.KernelWUpIdeal.nD Cert.KernelWUpIdeal.τ).loc Cert.KernelWUpIdeal.main_arg1))
      ∧ r.2.sem = fun _ => 0)

def quiescent_ReferenceWUpIdeal [hReferenceWUpIdeal : Cert.ReferenceWUpIdeal.Facts] : Prop :=
  ∀ (m : (ℓ : Loc Cert.ReferenceWUpIdeal.nD Cert.ReferenceWUpIdeal.τ Cert.ReferenceWUpIdeal.sig) → Buf (Elt Ideal) ℓ) (g : Dev Cert.ReferenceWUpIdeal.nD → PrngReg), Pre_ReferenceWUpIdeal m →
    θ_run (Cert.ReferenceWUpIdeal.defs (F := Ideal)) (onTc (τ := Cert.ReferenceWUpIdeal.τ) (Cert.ReferenceWUpIdeal.main (F := Ideal))) ⟨m, fun _ => 0, g⟩ (fun r => (∀ c : Dev Cert.ReferenceWUpIdeal.nD,
      r.2.mem ((c.tc : Thread Cert.ReferenceWUpIdeal.nD Cert.ReferenceWUpIdeal.τ).loc Cert.ReferenceWUpIdeal.main_arg0) = m ((c.tc : Thread Cert.ReferenceWUpIdeal.nD Cert.ReferenceWUpIdeal.τ).loc Cert.ReferenceWUpIdeal.main_arg0)
      ∧ r.2.mem ((c.tc : Thread Cert.ReferenceWUpIdeal.nD Cert.ReferenceWUpIdeal.τ).loc Cert.ReferenceWUpIdeal.main_arg1) = m ((c.tc : Thread Cert.ReferenceWUpIdeal.nD Cert.ReferenceWUpIdeal.τ).loc Cert.ReferenceWUpIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_KernelWDown [hKernelWDown : Cert.KernelWDown.Facts] : Prop :=
  ∀ (m : (ℓ : Loc Cert.KernelWDown.nD Cert.KernelWDown.τ Cert.KernelWDown.sig) → Buf (Elt Bits) ℓ) (g : Dev Cert.KernelWDown.nD → PrngReg), Pre_KernelWDown m →
    θ_run (Cert.KernelWDown.defs (F := Bits)) (onTc (τ := Cert.KernelWDown.τ) (Cert.KernelWDown.main (F := Bits))) ⟨m, fun _ => 0, g⟩ (fun r => (∀ c : Dev Cert.KernelWDown.nD,
      r.2.mem ((c.tc : Thread Cert.KernelWDown.nD Cert.KernelWDown.τ).loc Cert.KernelWDown.main_arg0) = m ((c.tc : Thread Cert.KernelWDown.nD Cert.KernelWDown.τ).loc Cert.KernelWDown.main_arg0)
      ∧ r.2.mem ((c.tc : Thread Cert.KernelWDown.nD Cert.KernelWDown.τ).loc Cert.KernelWDown.main_arg1) = m ((c.tc : Thread Cert.KernelWDown.nD Cert.KernelWDown.τ).loc Cert.KernelWDown.main_arg1))
      ∧ r.2.sem = fun _ => 0)

def quiescent_KernelWDownIdeal [hKernelWDownIdeal : Cert.KernelWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg), Pre_KernelWDownIdeal m →
    θ_run (Cert.KernelWDownIdeal.defs (F := Ideal)) (onTc (τ := Cert.KernelWDownIdeal.τ) (Cert.KernelWDownIdeal.main (F := Ideal))) ⟨m, fun _ => 0, g⟩ (fun r => (∀ c : Dev Cert.KernelWDownIdeal.nD,
      r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
      ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1))
      ∧ r.2.sem = fun _ => 0)

def quiescent_ReferenceWDownIdeal [hReferenceWDownIdeal : Cert.ReferenceWDownIdeal.Facts] : Prop :=
  ∀ (m : (ℓ : Loc Cert.ReferenceWDownIdeal.nD Cert.ReferenceWDownIdeal.τ Cert.ReferenceWDownIdeal.sig) → Buf (Elt Ideal) ℓ) (g : Dev Cert.ReferenceWDownIdeal.nD → PrngReg), Pre_ReferenceWDownIdeal m →
    θ_run (Cert.ReferenceWDownIdeal.defs (F := Ideal)) (onTc (τ := Cert.ReferenceWDownIdeal.τ) (Cert.ReferenceWDownIdeal.main (F := Ideal))) ⟨m, fun _ => 0, g⟩ (fun r => (∀ c : Dev Cert.ReferenceWDownIdeal.nD,
      r.2.mem ((c.tc : Thread Cert.ReferenceWDownIdeal.nD Cert.ReferenceWDownIdeal.τ).loc Cert.ReferenceWDownIdeal.main_arg0) = m ((c.tc : Thread Cert.ReferenceWDownIdeal.nD Cert.ReferenceWDownIdeal.τ).loc Cert.ReferenceWDownIdeal.main_arg0)
      ∧ r.2.mem ((c.tc : Thread Cert.ReferenceWDownIdeal.nD Cert.ReferenceWDownIdeal.τ).loc Cert.ReferenceWDownIdeal.main_arg1) = m ((c.tc : Thread Cert.ReferenceWDownIdeal.nD Cert.ReferenceWDownIdeal.τ).loc Cert.ReferenceWDownIdeal.main_arg1))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1))
      ∧ r.2.sem = fun _ => 0)

def quiescent_KernelWBr [hKernelWBr : Cert.KernelWBr.Facts] : Prop :=
  ∀ (m : (ℓ : Loc Cert.KernelWBr.nD Cert.KernelWBr.τ Cert.KernelWBr.sig) → Buf (Elt Bits) ℓ) (g : Dev Cert.KernelWBr.nD → PrngReg), Pre_KernelWBr m →
    θ_run (Cert.KernelWBr.defs (F := Bits)) (onTc (τ := Cert.KernelWBr.τ) (Cert.KernelWBr.main (F := Bits))) ⟨m, fun _ => 0, g⟩ (fun r => (∀ c : Dev Cert.KernelWBr.nD,
      r.2.mem ((c.tc : Thread Cert.KernelWBr.nD Cert.KernelWBr.τ).loc Cert.KernelWBr.main_arg0) = m ((c.tc : Thread Cert.KernelWBr.nD Cert.KernelWBr.τ).loc Cert.KernelWBr.main_arg0)
      ∧ r.2.mem ((c.tc : Thread Cert.KernelWBr.nD Cert.KernelWBr.τ).loc Cert.KernelWBr.main_arg1) = m ((c.tc : Thread Cert.KernelWBr.nD Cert.KernelWBr.τ).loc Cert.KernelWBr.main_arg1))
      ∧ r.2.sem = fun _ => 0)

def quiescent_KernelWBrIdeal [hKernelWBrIdeal : Cert.KernelWBrIdeal.Facts] : Prop :=
  ∀ (m : (ℓ : Loc Cert.KernelWBrIdeal.nD Cert.KernelWBrIdeal.τ Cert.KernelWBrIdeal.sig) → Buf (Elt Ideal) ℓ) (g : Dev Cert.KernelWBrIdeal.nD → PrngReg), Pre_KernelWBrIdeal m →
    θ_run (Cert.KernelWBrIdeal.defs (F := Ideal)) (onTc (τ := Cert.KernelWBrIdeal.τ) (Cert.KernelWBrIdeal.main (F := Ideal))) ⟨m, fun _ => 0, g⟩ (fun r => (∀ c : Dev Cert.KernelWBrIdeal.nD,
      r.2.mem ((c.tc : Thread Cert.KernelWBrIdeal.nD Cert.KernelWBrIdeal.τ).loc Cert.KernelWBrIdeal.main_arg0) = m ((c.tc : Thread Cert.KernelWBrIdeal.nD Cert.KernelWBrIdeal.τ).loc Cert.KernelWBrIdeal.main_arg0)
      ∧ r.2.mem ((c.tc : Thread Cert.KernelWBrIdeal.nD Cert.KernelWBrIdeal.τ).loc Cert.KernelWBrIdeal.main_arg1) = m ((c.tc : Thread Cert.KernelWBrIdeal.nD Cert.KernelWBrIdeal.τ).loc Cert.KernelWBrIdeal.main_arg1))
      ∧ r.2.sem = fun _ => 0)

def quiescent_ReferenceWBrIdeal [hReferenceWBrIdeal : Cert.ReferenceWBrIdeal.Facts] : Prop :=
  ∀ (m : (ℓ : Loc Cert.ReferenceWBrIdeal.nD Cert.ReferenceWBrIdeal.τ Cert.ReferenceWBrIdeal.sig) → Buf (Elt Ideal) ℓ) (g : Dev Cert.ReferenceWBrIdeal.nD → PrngReg), Pre_ReferenceWBrIdeal m →
    θ_run (Cert.ReferenceWBrIdeal.defs (F := Ideal)) (onTc (τ := Cert.ReferenceWBrIdeal.τ) (Cert.ReferenceWBrIdeal.main (F := Ideal))) ⟨m, fun _ => 0, g⟩ (fun r => (∀ c : Dev Cert.ReferenceWBrIdeal.nD,
      r.2.mem ((c.tc : Thread Cert.ReferenceWBrIdeal.nD Cert.ReferenceWBrIdeal.τ).loc Cert.ReferenceWBrIdeal.main_arg0) = m ((c.tc : Thread Cert.ReferenceWBrIdeal.nD Cert.ReferenceWBrIdeal.τ).loc Cert.ReferenceWBrIdeal.main_arg0)
      ∧ r.2.mem ((c.tc : Thread Cert.ReferenceWBrIdeal.nD Cert.ReferenceWBrIdeal.τ).loc Cert.ReferenceWBrIdeal.main_arg1) = m ((c.tc : Thread Cert.ReferenceWBrIdeal.nD Cert.ReferenceWBrIdeal.τ).loc Cert.ReferenceWBrIdeal.main_arg1))
      ∧ r.2.sem = fun _ => 0)

def quiescent_KernelWInFox [hKernelWInFox : Cert.KernelWInFox.Facts] : Prop :=
  ∀ (m : (ℓ : Loc Cert.KernelWInFox.nD Cert.KernelWInFox.τ Cert.KernelWInFox.sig) → Buf (Elt Bits) ℓ) (g : Dev Cert.KernelWInFox.nD → PrngReg), Pre_KernelWInFox m →
    θ_run (Cert.KernelWInFox.defs (F := Bits)) (onTc (τ := Cert.KernelWInFox.τ) (Cert.KernelWInFox.main (F := Bits))) ⟨m, fun _ => 0, g⟩ (fun r => (∀ c : Dev Cert.KernelWInFox.nD,
      r.2.mem ((c.tc : Thread Cert.KernelWInFox.nD Cert.KernelWInFox.τ).loc Cert.KernelWInFox.main_arg0) = m ((c.tc : Thread Cert.KernelWInFox.nD Cert.KernelWInFox.τ).loc Cert.KernelWInFox.main_arg0)
      ∧ r.2.mem ((c.tc : Thread Cert.KernelWInFox.nD Cert.KernelWInFox.τ).loc Cert.KernelWInFox.main_arg1) = m ((c.tc : Thread Cert.KernelWInFox.nD Cert.KernelWInFox.τ).loc Cert.KernelWInFox.main_arg1))
      ∧ r.2.sem = fun _ => 0)

def quiescent_KernelWInFoxIdeal [hKernelWInFoxIdeal : Cert.KernelWInFoxIdeal.Facts] : Prop :=
  ∀ (m : (ℓ : Loc Cert.KernelWInFoxIdeal.nD Cert.KernelWInFoxIdeal.τ Cert.KernelWInFoxIdeal.sig) → Buf (Elt Ideal) ℓ) (g : Dev Cert.KernelWInFoxIdeal.nD → PrngReg), Pre_KernelWInFoxIdeal m →
    θ_run (Cert.KernelWInFoxIdeal.defs (F := Ideal)) (onTc (τ := Cert.KernelWInFoxIdeal.τ) (Cert.KernelWInFoxIdeal.main (F := Ideal))) ⟨m, fun _ => 0, g⟩ (fun r => (∀ c : Dev Cert.KernelWInFoxIdeal.nD,
      r.2.mem ((c.tc : Thread Cert.KernelWInFoxIdeal.nD Cert.KernelWInFoxIdeal.τ).loc Cert.KernelWInFoxIdeal.main_arg0) = m ((c.tc : Thread Cert.KernelWInFoxIdeal.nD Cert.KernelWInFoxIdeal.τ).loc Cert.KernelWInFoxIdeal.main_arg0)
      ∧ r.2.mem ((c.tc : Thread Cert.KernelWInFoxIdeal.nD Cert.KernelWInFoxIdeal.τ).loc Cert.KernelWInFoxIdeal.main_arg1) = m ((c.tc : Thread Cert.KernelWInFoxIdeal.nD Cert.KernelWInFoxIdeal.τ).loc Cert.KernelWInFoxIdeal.main_arg1))
      ∧ r.2.sem = fun _ => 0)

def quiescent_ReferenceWInFoxIdeal [hReferenceWInFoxIdeal : Cert.ReferenceWInFoxIdeal.Facts] : Prop :=
  ∀ (m : (ℓ : Loc Cert.ReferenceWInFoxIdeal.nD Cert.ReferenceWInFoxIdeal.τ Cert.ReferenceWInFoxIdeal.sig) → Buf (Elt Ideal) ℓ) (g : Dev Cert.ReferenceWInFoxIdeal.nD → PrngReg), Pre_ReferenceWInFoxIdeal m →
    θ_run (Cert.ReferenceWInFoxIdeal.defs (F := Ideal)) (onTc (τ := Cert.ReferenceWInFoxIdeal.τ) (Cert.ReferenceWInFoxIdeal.main (F := Ideal))) ⟨m, fun _ => 0, g⟩ (fun r => (∀ c : Dev Cert.ReferenceWInFoxIdeal.nD,
      r.2.mem ((c.tc : Thread Cert.ReferenceWInFoxIdeal.nD Cert.ReferenceWInFoxIdeal.τ).loc Cert.ReferenceWInFoxIdeal.main_arg0) = m ((c.tc : Thread Cert.ReferenceWInFoxIdeal.nD Cert.ReferenceWInFoxIdeal.τ).loc Cert.ReferenceWInFoxIdeal.main_arg0)
      ∧ r.2.mem ((c.tc : Thread Cert.ReferenceWInFoxIdeal.nD Cert.ReferenceWInFoxIdeal.τ).loc Cert.ReferenceWInFoxIdeal.main_arg1) = m ((c.tc : Thread Cert.ReferenceWInFoxIdeal.nD Cert.ReferenceWInFoxIdeal.τ).loc Cert.ReferenceWInFoxIdeal.main_arg1))
      ∧ r.2.sem = fun _ => 0)

def quiescent_KernelWInMq [hKernelWInMq : Cert.KernelWInMq.Facts] : Prop :=
  ∀ (m : (ℓ : Loc Cert.KernelWInMq.nD Cert.KernelWInMq.τ Cert.KernelWInMq.sig) → Buf (Elt Bits) ℓ) (g : Dev Cert.KernelWInMq.nD → PrngReg), Pre_KernelWInMq m →
    θ_run (Cert.KernelWInMq.defs (F := Bits)) (onTc (τ := Cert.KernelWInMq.τ) (Cert.KernelWInMq.main (F := Bits))) ⟨m, fun _ => 0, g⟩ (fun r => (∀ c : Dev Cert.KernelWInMq.nD,
      r.2.mem ((c.tc : Thread Cert.KernelWInMq.nD Cert.KernelWInMq.τ).loc Cert.KernelWInMq.main_arg0) = m ((c.tc : Thread Cert.KernelWInMq.nD Cert.KernelWInMq.τ).loc Cert.KernelWInMq.main_arg0)
      ∧ r.2.mem ((c.tc : Thread Cert.KernelWInMq.nD Cert.KernelWInMq.τ).loc Cert.KernelWInMq.main_arg1) = m ((c.tc : Thread Cert.KernelWInMq.nD Cert.KernelWInMq.τ).loc Cert.KernelWInMq.main_arg1))
      ∧ r.2.sem = fun _ => 0)

def quiescent_KernelWInMqIdeal [hKernelWInMqIdeal : Cert.KernelWInMqIdeal.Facts] : Prop :=
  ∀ (m : (ℓ : Loc Cert.KernelWInMqIdeal.nD Cert.KernelWInMqIdeal.τ Cert.KernelWInMqIdeal.sig) → Buf (Elt Ideal) ℓ) (g : Dev Cert.KernelWInMqIdeal.nD → PrngReg), Pre_KernelWInMqIdeal m →
    θ_run (Cert.KernelWInMqIdeal.defs (F := Ideal)) (onTc (τ := Cert.KernelWInMqIdeal.τ) (Cert.KernelWInMqIdeal.main (F := Ideal))) ⟨m, fun _ => 0, g⟩ (fun r => (∀ c : Dev Cert.KernelWInMqIdeal.nD,
      r.2.mem ((c.tc : Thread Cert.KernelWInMqIdeal.nD Cert.KernelWInMqIdeal.τ).loc Cert.KernelWInMqIdeal.main_arg0) = m ((c.tc : Thread Cert.KernelWInMqIdeal.nD Cert.KernelWInMqIdeal.τ).loc Cert.KernelWInMqIdeal.main_arg0)
      ∧ r.2.mem ((c.tc : Thread Cert.KernelWInMqIdeal.nD Cert.KernelWInMqIdeal.τ).loc Cert.KernelWInMqIdeal.main_arg1) = m ((c.tc : Thread Cert.KernelWInMqIdeal.nD Cert.KernelWInMqIdeal.τ).loc Cert.KernelWInMqIdeal.main_arg1))
      ∧ r.2.sem = fun _ => 0)

def quiescent_ReferenceWInMqIdeal [hReferenceWInMqIdeal : Cert.ReferenceWInMqIdeal.Facts] : Prop :=
  ∀ (m : (ℓ : Loc Cert.ReferenceWInMqIdeal.nD Cert.ReferenceWInMqIdeal.τ Cert.ReferenceWInMqIdeal.sig) → Buf (Elt Ideal) ℓ) (g : Dev Cert.ReferenceWInMqIdeal.nD → PrngReg), Pre_ReferenceWInMqIdeal m →
    θ_run (Cert.ReferenceWInMqIdeal.defs (F := Ideal)) (onTc (τ := Cert.ReferenceWInMqIdeal.τ) (Cert.ReferenceWInMqIdeal.main (F := Ideal))) ⟨m, fun _ => 0, g⟩ (fun r => (∀ c : Dev Cert.ReferenceWInMqIdeal.nD,
      r.2.mem ((c.tc : Thread Cert.ReferenceWInMqIdeal.nD Cert.ReferenceWInMqIdeal.τ).loc Cert.ReferenceWInMqIdeal.main_arg0) = m ((c.tc : Thread Cert.ReferenceWInMqIdeal.nD Cert.ReferenceWInMqIdeal.τ).loc Cert.ReferenceWInMqIdeal.main_arg0)
      ∧ r.2.mem ((c.tc : Thread Cert.ReferenceWInMqIdeal.nD Cert.ReferenceWInMqIdeal.τ).loc Cert.ReferenceWInMqIdeal.main_arg1) = m ((c.tc : Thread Cert.ReferenceWInMqIdeal.nD Cert.ReferenceWInMqIdeal.τ).loc Cert.ReferenceWInMqIdeal.main_arg1))
      ∧ r.2.sem = fun _ => 0)

def quiescent_KernelWInHg [hKernelWInHg : Cert.KernelWInHg.Facts] : Prop :=
  ∀ (m : (ℓ : Loc Cert.KernelWInHg.nD Cert.KernelWInHg.τ Cert.KernelWInHg.sig) → Buf (Elt Bits) ℓ) (g : Dev Cert.KernelWInHg.nD → PrngReg), Pre_KernelWInHg m →
    θ_run (Cert.KernelWInHg.defs (F := Bits)) (onTc (τ := Cert.KernelWInHg.τ) (Cert.KernelWInHg.main (F := Bits))) ⟨m, fun _ => 0, g⟩ (fun r => (∀ c : Dev Cert.KernelWInHg.nD,
      r.2.mem ((c.tc : Thread Cert.KernelWInHg.nD Cert.KernelWInHg.τ).loc Cert.KernelWInHg.main_arg0) = m ((c.tc : Thread Cert.KernelWInHg.nD Cert.KernelWInHg.τ).loc Cert.KernelWInHg.main_arg0)
      ∧ r.2.mem ((c.tc : Thread Cert.KernelWInHg.nD Cert.KernelWInHg.τ).loc Cert.KernelWInHg.main_arg1) = m ((c.tc : Thread Cert.KernelWInHg.nD Cert.KernelWInHg.τ).loc Cert.KernelWInHg.main_arg1))
      ∧ r.2.sem = fun _ => 0)

def quiescent_KernelWInHgIdeal [hKernelWInHgIdeal : Cert.KernelWInHgIdeal.Facts] : Prop :=
  ∀ (m : (ℓ : Loc Cert.KernelWInHgIdeal.nD Cert.KernelWInHgIdeal.τ Cert.KernelWInHgIdeal.sig) → Buf (Elt Ideal) ℓ) (g : Dev Cert.KernelWInHgIdeal.nD → PrngReg), Pre_KernelWInHgIdeal m →
    θ_run (Cert.KernelWInHgIdeal.defs (F := Ideal)) (onTc (τ := Cert.KernelWInHgIdeal.τ) (Cert.KernelWInHgIdeal.main (F := Ideal))) ⟨m, fun _ => 0, g⟩ (fun r => (∀ c : Dev Cert.KernelWInHgIdeal.nD,
      r.2.mem ((c.tc : Thread Cert.KernelWInHgIdeal.nD Cert.KernelWInHgIdeal.τ).loc Cert.KernelWInHgIdeal.main_arg0) = m ((c.tc : Thread Cert.KernelWInHgIdeal.nD Cert.KernelWInHgIdeal.τ).loc Cert.KernelWInHgIdeal.main_arg0)
      ∧ r.2.mem ((c.tc : Thread Cert.KernelWInHgIdeal.nD Cert.KernelWInHgIdeal.τ).loc Cert.KernelWInHgIdeal.main_arg1) = m ((c.tc : Thread Cert.KernelWInHgIdeal.nD Cert.KernelWInHgIdeal.τ).loc Cert.KernelWInHgIdeal.main_arg1))
      ∧ r.2.sem = fun _ => 0)

def quiescent_ReferenceWInHgIdeal [hReferenceWInHgIdeal : Cert.ReferenceWInHgIdeal.Facts] : Prop :=
  ∀ (m : (ℓ : Loc Cert.ReferenceWInHgIdeal.nD Cert.ReferenceWInHgIdeal.τ Cert.ReferenceWInHgIdeal.sig) → Buf (Elt Ideal) ℓ) (g : Dev Cert.ReferenceWInHgIdeal.nD → PrngReg), Pre_ReferenceWInHgIdeal m →
    θ_run (Cert.ReferenceWInHgIdeal.defs (F := Ideal)) (onTc (τ := Cert.ReferenceWInHgIdeal.τ) (Cert.ReferenceWInHgIdeal.main (F := Ideal))) ⟨m, fun _ => 0, g⟩ (fun r => (∀ c : Dev Cert.ReferenceWInHgIdeal.nD,
      r.2.mem ((c.tc : Thread Cert.ReferenceWInHgIdeal.nD Cert.ReferenceWInHgIdeal.τ).loc Cert.ReferenceWInHgIdeal.main_arg0) = m ((c.tc : Thread Cert.ReferenceWInHgIdeal.nD Cert.ReferenceWInHgIdeal.τ).loc Cert.ReferenceWInHgIdeal.main_arg0)
      ∧ r.2.mem ((c.tc : Thread Cert.ReferenceWInHgIdeal.nD Cert.ReferenceWInHgIdeal.τ).loc Cert.ReferenceWInHgIdeal.main_arg1) = m ((c.tc : Thread Cert.ReferenceWInHgIdeal.nD Cert.ReferenceWInHgIdeal.τ).loc Cert.ReferenceWInHgIdeal.main_arg1))
      ∧ r.2.sem = fun _ => 0)

def quiescent_KernelWInGate [hKernelWInGate : Cert.KernelWInGate.Facts] : Prop :=
  ∀ (m : (ℓ : Loc Cert.KernelWInGate.nD Cert.KernelWInGate.τ Cert.KernelWInGate.sig) → Buf (Elt Bits) ℓ) (g : Dev Cert.KernelWInGate.nD → PrngReg), Pre_KernelWInGate m →
    θ_run (Cert.KernelWInGate.defs (F := Bits)) (onTc (τ := Cert.KernelWInGate.τ) (Cert.KernelWInGate.main (F := Bits))) ⟨m, fun _ => 0, g⟩ (fun r => (∀ c : Dev Cert.KernelWInGate.nD,
      r.2.mem ((c.tc : Thread Cert.KernelWInGate.nD Cert.KernelWInGate.τ).loc Cert.KernelWInGate.main_arg0) = m ((c.tc : Thread Cert.KernelWInGate.nD Cert.KernelWInGate.τ).loc Cert.KernelWInGate.main_arg0)
      ∧ r.2.mem ((c.tc : Thread Cert.KernelWInGate.nD Cert.KernelWInGate.τ).loc Cert.KernelWInGate.main_arg1) = m ((c.tc : Thread Cert.KernelWInGate.nD Cert.KernelWInGate.τ).loc Cert.KernelWInGate.main_arg1))
      ∧ r.2.sem = fun _ => 0)

def quiescent_KernelWInGateIdeal [hKernelWInGateIdeal : Cert.KernelWInGateIdeal.Facts] : Prop :=
  ∀ (m : (ℓ : Loc Cert.KernelWInGateIdeal.nD Cert.KernelWInGateIdeal.τ Cert.KernelWInGateIdeal.sig) → Buf (Elt Ideal) ℓ) (g : Dev Cert.KernelWInGateIdeal.nD → PrngReg), Pre_KernelWInGateIdeal m →
    θ_run (Cert.KernelWInGateIdeal.defs (F := Ideal)) (onTc (τ := Cert.KernelWInGateIdeal.τ) (Cert.KernelWInGateIdeal.main (F := Ideal))) ⟨m, fun _ => 0, g⟩ (fun r => (∀ c : Dev Cert.KernelWInGateIdeal.nD,
      r.2.mem ((c.tc : Thread Cert.KernelWInGateIdeal.nD Cert.KernelWInGateIdeal.τ).loc Cert.KernelWInGateIdeal.main_arg0) = m ((c.tc : Thread Cert.KernelWInGateIdeal.nD Cert.KernelWInGateIdeal.τ).loc Cert.KernelWInGateIdeal.main_arg0)
      ∧ r.2.mem ((c.tc : Thread Cert.KernelWInGateIdeal.nD Cert.KernelWInGateIdeal.τ).loc Cert.KernelWInGateIdeal.main_arg1) = m ((c.tc : Thread Cert.KernelWInGateIdeal.nD Cert.KernelWInGateIdeal.τ).loc Cert.KernelWInGateIdeal.main_arg1))
      ∧ r.2.sem = fun _ => 0)

def quiescent_ReferenceWInGateIdeal [hReferenceWInGateIdeal : Cert.ReferenceWInGateIdeal.Facts] : Prop :=
  ∀ (m : (ℓ : Loc Cert.ReferenceWInGateIdeal.nD Cert.ReferenceWInGateIdeal.τ Cert.ReferenceWInGateIdeal.sig) → Buf (Elt Ideal) ℓ) (g : Dev Cert.ReferenceWInGateIdeal.nD → PrngReg), Pre_ReferenceWInGateIdeal m →
    θ_run (Cert.ReferenceWInGateIdeal.defs (F := Ideal)) (onTc (τ := Cert.ReferenceWInGateIdeal.τ) (Cert.ReferenceWInGateIdeal.main (F := Ideal))) ⟨m, fun _ => 0, g⟩ (fun r => (∀ c : Dev Cert.ReferenceWInGateIdeal.nD,
      r.2.mem ((c.tc : Thread Cert.ReferenceWInGateIdeal.nD Cert.ReferenceWInGateIdeal.τ).loc Cert.ReferenceWInGateIdeal.main_arg0) = m ((c.tc : Thread Cert.ReferenceWInGateIdeal.nD Cert.ReferenceWInGateIdeal.τ).loc Cert.ReferenceWInGateIdeal.main_arg0)
      ∧ r.2.mem ((c.tc : Thread Cert.ReferenceWInGateIdeal.nD Cert.ReferenceWInGateIdeal.τ).loc Cert.ReferenceWInGateIdeal.main_arg1) = m ((c.tc : Thread Cert.ReferenceWInGateIdeal.nD Cert.ReferenceWInGateIdeal.τ).loc Cert.ReferenceWInGateIdeal.main_arg1))
      ∧ r.2.sem = fun _ => 0)

def quiescent_KernelWInFf [hKernelWInFf : Cert.KernelWInFf.Facts] : Prop :=
  ∀ (m : (ℓ : Loc Cert.KernelWInFf.nD Cert.KernelWInFf.τ Cert.KernelWInFf.sig) → Buf (Elt Bits) ℓ) (g : Dev Cert.KernelWInFf.nD → PrngReg), Pre_KernelWInFf m →
    θ_run (Cert.KernelWInFf.defs (F := Bits)) (onTc (τ := Cert.KernelWInFf.τ) (Cert.KernelWInFf.main (F := Bits))) ⟨m, fun _ => 0, g⟩ (fun r => (∀ c : Dev Cert.KernelWInFf.nD,
      r.2.mem ((c.tc : Thread Cert.KernelWInFf.nD Cert.KernelWInFf.τ).loc Cert.KernelWInFf.main_arg0) = m ((c.tc : Thread Cert.KernelWInFf.nD Cert.KernelWInFf.τ).loc Cert.KernelWInFf.main_arg0)
      ∧ r.2.mem ((c.tc : Thread Cert.KernelWInFf.nD Cert.KernelWInFf.τ).loc Cert.KernelWInFf.main_arg1) = m ((c.tc : Thread Cert.KernelWInFf.nD Cert.KernelWInFf.τ).loc Cert.KernelWInFf.main_arg1))
      ∧ r.2.sem = fun _ => 0)

def quiescent_KernelWInFfIdeal [hKernelWInFfIdeal : Cert.KernelWInFfIdeal.Facts] : Prop :=
  ∀ (m : (ℓ : Loc Cert.KernelWInFfIdeal.nD Cert.KernelWInFfIdeal.τ Cert.KernelWInFfIdeal.sig) → Buf (Elt Ideal) ℓ) (g : Dev Cert.KernelWInFfIdeal.nD → PrngReg), Pre_KernelWInFfIdeal m →
    θ_run (Cert.KernelWInFfIdeal.defs (F := Ideal)) (onTc (τ := Cert.KernelWInFfIdeal.τ) (Cert.KernelWInFfIdeal.main (F := Ideal))) ⟨m, fun _ => 0, g⟩ (fun r => (∀ c : Dev Cert.KernelWInFfIdeal.nD,
      r.2.mem ((c.tc : Thread Cert.KernelWInFfIdeal.nD Cert.KernelWInFfIdeal.τ).loc Cert.KernelWInFfIdeal.main_arg0) = m ((c.tc : Thread Cert.KernelWInFfIdeal.nD Cert.KernelWInFfIdeal.τ).loc Cert.KernelWInFfIdeal.main_arg0)
      ∧ r.2.mem ((c.tc : Thread Cert.KernelWInFfIdeal.nD Cert.KernelWInFfIdeal.τ).loc Cert.KernelWInFfIdeal.main_arg1) = m ((c.tc : Thread Cert.KernelWInFfIdeal.nD Cert.KernelWInFfIdeal.τ).loc Cert.KernelWInFfIdeal.main_arg1))
      ∧ r.2.sem = fun _ => 0)

def quiescent_ReferenceWInFfIdeal [hReferenceWInFfIdeal : Cert.ReferenceWInFfIdeal.Facts] : Prop :=
  ∀ (m : (ℓ : Loc Cert.ReferenceWInFfIdeal.nD Cert.ReferenceWInFfIdeal.τ Cert.ReferenceWInFfIdeal.sig) → Buf (Elt Ideal) ℓ) (g : Dev Cert.ReferenceWInFfIdeal.nD → PrngReg), Pre_ReferenceWInFfIdeal m →
    θ_run (Cert.ReferenceWInFfIdeal.defs (F := Ideal)) (onTc (τ := Cert.ReferenceWInFfIdeal.τ) (Cert.ReferenceWInFfIdeal.main (F := Ideal))) ⟨m, fun _ => 0, g⟩ (fun r => (∀ c : Dev Cert.ReferenceWInFfIdeal.nD,
      r.2.mem ((c.tc : Thread Cert.ReferenceWInFfIdeal.nD Cert.ReferenceWInFfIdeal.τ).loc Cert.ReferenceWInFfIdeal.main_arg0) = m ((c.tc : Thread Cert.ReferenceWInFfIdeal.nD Cert.ReferenceWInFfIdeal.τ).loc Cert.ReferenceWInFfIdeal.main_arg0)
      ∧ r.2.mem ((c.tc : Thread Cert.ReferenceWInFfIdeal.nD Cert.ReferenceWInFfIdeal.τ).loc Cert.ReferenceWInFfIdeal.main_arg1) = m ((c.tc : Thread Cert.ReferenceWInFfIdeal.nD Cert.ReferenceWInFfIdeal.τ).loc Cert.ReferenceWInFfIdeal.main_arg1))
      ∧ r.2.sem = fun _ => 0)

def quiescent_KernelProjIn [hKernelProjIn : Cert.KernelProjIn.Facts] : Prop :=
  ∀ (m : (ℓ : Loc Cert.KernelProjIn.nD Cert.KernelProjIn.τ Cert.KernelProjIn.sig) → Buf (Elt Bits) ℓ) (g : Dev Cert.KernelProjIn.nD → PrngReg), Pre_KernelProjIn m →
    θ_run (Cert.KernelProjIn.defs (F := Bits)) (onTc (τ := Cert.KernelProjIn.τ) (Cert.KernelProjIn.main (F := Bits))) ⟨m, fun _ => 0, g⟩ (fun r => (∀ c : Dev Cert.KernelProjIn.nD,
      r.2.mem ((c.tc : Thread Cert.KernelProjIn.nD Cert.KernelProjIn.τ).loc Cert.KernelProjIn.main_arg0) = m ((c.tc : Thread Cert.KernelProjIn.nD Cert.KernelProjIn.τ).loc Cert.KernelProjIn.main_arg0)
      ∧ r.2.mem ((c.tc : Thread Cert.KernelProjIn.nD Cert.KernelProjIn.τ).loc Cert.KernelProjIn.main_arg1) = m ((c.tc : Thread Cert.KernelProjIn.nD Cert.KernelProjIn.τ).loc Cert.KernelProjIn.main_arg1))
      ∧ r.2.sem = fun _ => 0)

def quiescent_KernelProjInIdeal [hKernelProjInIdeal : Cert.KernelProjInIdeal.Facts] : Prop :=
  ∀ (m : (ℓ : Loc Cert.KernelProjInIdeal.nD Cert.KernelProjInIdeal.τ Cert.KernelProjInIdeal.sig) → Buf (Elt Ideal) ℓ) (g : Dev Cert.KernelProjInIdeal.nD → PrngReg), Pre_KernelProjInIdeal m →
    θ_run (Cert.KernelProjInIdeal.defs (F := Ideal)) (onTc (τ := Cert.KernelProjInIdeal.τ) (Cert.KernelProjInIdeal.main (F := Ideal))) ⟨m, fun _ => 0, g⟩ (fun r => (∀ c : Dev Cert.KernelProjInIdeal.nD,
      r.2.mem ((c.tc : Thread Cert.KernelProjInIdeal.nD Cert.KernelProjInIdeal.τ).loc Cert.KernelProjInIdeal.main_arg0) = m ((c.tc : Thread Cert.KernelProjInIdeal.nD Cert.KernelProjInIdeal.τ).loc Cert.KernelProjInIdeal.main_arg0)
      ∧ r.2.mem ((c.tc : Thread Cert.KernelProjInIdeal.nD Cert.KernelProjInIdeal.τ).loc Cert.KernelProjInIdeal.main_arg1) = m ((c.tc : Thread Cert.KernelProjInIdeal.nD Cert.KernelProjInIdeal.τ).loc Cert.KernelProjInIdeal.main_arg1))
      ∧ r.2.sem = fun _ => 0)

def quiescent_ReferenceProjInIdeal [hReferenceProjInIdeal : Cert.ReferenceProjInIdeal.Facts] : Prop :=
  ∀ (m : (ℓ : Loc Cert.ReferenceProjInIdeal.nD Cert.ReferenceProjInIdeal.τ Cert.ReferenceProjInIdeal.sig) → Buf (Elt Ideal) ℓ) (g : Dev Cert.ReferenceProjInIdeal.nD → PrngReg), Pre_ReferenceProjInIdeal m →
    θ_run (Cert.ReferenceProjInIdeal.defs (F := Ideal)) (onTc (τ := Cert.ReferenceProjInIdeal.τ) (Cert.ReferenceProjInIdeal.main (F := Ideal))) ⟨m, fun _ => 0, g⟩ (fun r => (∀ c : Dev Cert.ReferenceProjInIdeal.nD,
      r.2.mem ((c.tc : Thread Cert.ReferenceProjInIdeal.nD Cert.ReferenceProjInIdeal.τ).loc Cert.ReferenceProjInIdeal.main_arg0) = m ((c.tc : Thread Cert.ReferenceProjInIdeal.nD Cert.ReferenceProjInIdeal.τ).loc Cert.ReferenceProjInIdeal.main_arg0)
      ∧ r.2.mem ((c.tc : Thread Cert.ReferenceProjInIdeal.nD Cert.ReferenceProjInIdeal.τ).loc Cert.ReferenceProjInIdeal.main_arg1) = m ((c.tc : Thread Cert.ReferenceProjInIdeal.nD Cert.ReferenceProjInIdeal.τ).loc Cert.ReferenceProjInIdeal.main_arg1))
      ∧ r.2.sem = fun _ => 0)

def quiescent_KernelFfnUp [hKernelFfnUp : Cert.KernelFfnUp.Facts] : Prop :=
  ∀ (m : (ℓ : Loc Cert.KernelFfnUp.nD Cert.KernelFfnUp.τ Cert.KernelFfnUp.sig) → Buf (Elt Bits) ℓ) (g : Dev Cert.KernelFfnUp.nD → PrngReg), Pre_KernelFfnUp m →
    θ_run (Cert.KernelFfnUp.defs (F := Bits)) (onTc (τ := Cert.KernelFfnUp.τ) (Cert.KernelFfnUp.main (F := Bits))) ⟨m, fun _ => 0, g⟩ (fun r => (∀ c : Dev Cert.KernelFfnUp.nD,
      r.2.mem ((c.tc : Thread Cert.KernelFfnUp.nD Cert.KernelFfnUp.τ).loc Cert.KernelFfnUp.main_arg0) = m ((c.tc : Thread Cert.KernelFfnUp.nD Cert.KernelFfnUp.τ).loc Cert.KernelFfnUp.main_arg0)
      ∧ r.2.mem ((c.tc : Thread Cert.KernelFfnUp.nD Cert.KernelFfnUp.τ).loc Cert.KernelFfnUp.main_arg1) = m ((c.tc : Thread Cert.KernelFfnUp.nD Cert.KernelFfnUp.τ).loc Cert.KernelFfnUp.main_arg1))
      ∧ r.2.sem = fun _ => 0)

def quiescent_KernelFfnUpIdeal [hKernelFfnUpIdeal : Cert.KernelFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg), Pre_KernelFfnUpIdeal m →
    θ_run (Cert.KernelFfnUpIdeal.defs (F := Ideal)) (onTc (τ := Cert.KernelFfnUpIdeal.τ) (Cert.KernelFfnUpIdeal.main (F := Ideal))) ⟨m, fun _ => 0, g⟩ (fun r => (∀ c : Dev Cert.KernelFfnUpIdeal.nD,
      r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
      ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1))
      ∧ r.2.sem = fun _ => 0)

def quiescent_ReferenceFfnUpIdeal [hReferenceFfnUpIdeal : Cert.ReferenceFfnUpIdeal.Facts] : Prop :=
  ∀ (m : (ℓ : Loc Cert.ReferenceFfnUpIdeal.nD Cert.ReferenceFfnUpIdeal.τ Cert.ReferenceFfnUpIdeal.sig) → Buf (Elt Ideal) ℓ) (g : Dev Cert.ReferenceFfnUpIdeal.nD → PrngReg), Pre_ReferenceFfnUpIdeal m →
    θ_run (Cert.ReferenceFfnUpIdeal.defs (F := Ideal)) (onTc (τ := Cert.ReferenceFfnUpIdeal.τ) (Cert.ReferenceFfnUpIdeal.main (F := Ideal))) ⟨m, fun _ => 0, g⟩ (fun r => (∀ c : Dev Cert.ReferenceFfnUpIdeal.nD,
      r.2.mem ((c.tc : Thread Cert.ReferenceFfnUpIdeal.nD Cert.ReferenceFfnUpIdeal.τ).loc Cert.ReferenceFfnUpIdeal.main_arg0) = m ((c.tc : Thread Cert.ReferenceFfnUpIdeal.nD Cert.ReferenceFfnUpIdeal.τ).loc Cert.ReferenceFfnUpIdeal.main_arg0)
      ∧ r.2.mem ((c.tc : Thread Cert.ReferenceFfnUpIdeal.nD Cert.ReferenceFfnUpIdeal.τ).loc Cert.ReferenceFfnUpIdeal.main_arg1) = m ((c.tc : Thread Cert.ReferenceFfnUpIdeal.nD Cert.ReferenceFfnUpIdeal.τ).loc Cert.ReferenceFfnUpIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4)
      ∧ r.2.mem ((c.tc : Thread Cert.KernelDh.nD Cert.KernelDh.τ).loc Cert.KernelDh.main_arg5) = m ((c.tc : Thread Cert.KernelDh.nD Cert.KernelDh.τ).loc Cert.KernelDh.main_arg5))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5))
      ∧ r.2.sem = fun _ => 0)

def quiescent_KernelMergeB [hKernelMergeB : Cert.KernelMergeB.Facts] : Prop :=
  ∀ (m : (ℓ : Loc Cert.KernelMergeB.nD Cert.KernelMergeB.τ Cert.KernelMergeB.sig) → Buf (Elt Bits) ℓ) (g : Dev Cert.KernelMergeB.nD → PrngReg), Pre_KernelMergeB m →
    θ_run (Cert.KernelMergeB.defs (F := Bits)) (onTc (τ := Cert.KernelMergeB.τ) (Cert.KernelMergeB.main (F := Bits))) ⟨m, fun _ => 0, g⟩ (fun r => (∀ c : Dev Cert.KernelMergeB.nD,
      r.2.mem ((c.tc : Thread Cert.KernelMergeB.nD Cert.KernelMergeB.τ).loc Cert.KernelMergeB.main_arg0) = m ((c.tc : Thread Cert.KernelMergeB.nD Cert.KernelMergeB.τ).loc Cert.KernelMergeB.main_arg0)
      ∧ r.2.mem ((c.tc : Thread Cert.KernelMergeB.nD Cert.KernelMergeB.τ).loc Cert.KernelMergeB.main_arg1) = m ((c.tc : Thread Cert.KernelMergeB.nD Cert.KernelMergeB.τ).loc Cert.KernelMergeB.main_arg1)
      ∧ r.2.mem ((c.tc : Thread Cert.KernelMergeB.nD Cert.KernelMergeB.τ).loc Cert.KernelMergeB.main_arg2) = m ((c.tc : Thread Cert.KernelMergeB.nD Cert.KernelMergeB.τ).loc Cert.KernelMergeB.main_arg2)
      ∧ r.2.mem ((c.tc : Thread Cert.KernelMergeB.nD Cert.KernelMergeB.τ).loc Cert.KernelMergeB.main_arg3) = m ((c.tc : Thread Cert.KernelMergeB.nD Cert.KernelMergeB.τ).loc Cert.KernelMergeB.main_arg3)
      ∧ r.2.mem ((c.tc : Thread Cert.KernelMergeB.nD Cert.KernelMergeB.τ).loc Cert.KernelMergeB.main_arg4) = m ((c.tc : Thread Cert.KernelMergeB.nD Cert.KernelMergeB.τ).loc Cert.KernelMergeB.main_arg4)
      ∧ r.2.mem ((c.tc : Thread Cert.KernelMergeB.nD Cert.KernelMergeB.τ).loc Cert.KernelMergeB.main_arg5) = m ((c.tc : Thread Cert.KernelMergeB.nD Cert.KernelMergeB.τ).loc Cert.KernelMergeB.main_arg5)
      ∧ r.2.mem ((c.tc : Thread Cert.KernelMergeB.nD Cert.KernelMergeB.τ).loc Cert.KernelMergeB.main_arg6) = m ((c.tc : Thread Cert.KernelMergeB.nD Cert.KernelMergeB.τ).loc Cert.KernelMergeB.main_arg6)
      ∧ r.2.mem ((c.tc : Thread Cert.KernelMergeB.nD Cert.KernelMergeB.τ).loc Cert.KernelMergeB.main_arg7) = m ((c.tc : Thread Cert.KernelMergeB.nD Cert.KernelMergeB.τ).loc Cert.KernelMergeB.main_arg7)
      ∧ r.2.mem ((c.tc : Thread Cert.KernelMergeB.nD Cert.KernelMergeB.τ).loc Cert.KernelMergeB.main_arg8) = m ((c.tc : Thread Cert.KernelMergeB.nD Cert.KernelMergeB.τ).loc Cert.KernelMergeB.main_arg8))
      ∧ r.2.sem = fun _ => 0)

def quiescent_KernelMergeBIdeal [hKernelMergeBIdeal : Cert.KernelMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg), Pre_KernelMergeBIdeal m →
    θ_run (Cert.KernelMergeBIdeal.defs (F := Ideal)) (onTc (τ := Cert.KernelMergeBIdeal.τ) (Cert.KernelMergeBIdeal.main (F := Ideal))) ⟨m, fun _ => 0, g⟩ (fun r => (∀ c : Dev Cert.KernelMergeBIdeal.nD,
      r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
      ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
      ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2)
      ∧ r.2.mem ((c.tc : Thread Cert.KernelMergeBIdeal.nD Cert.KernelMergeBIdeal.τ).loc Cert.KernelMergeBIdeal.main_arg3) = m ((c.tc : Thread Cert.KernelMergeBIdeal.nD Cert.KernelMergeBIdeal.τ).loc Cert.KernelMergeBIdeal.main_arg3)
      ∧ r.2.mem ((c.tc : Thread Cert.KernelMergeBIdeal.nD Cert.KernelMergeBIdeal.τ).loc Cert.KernelMergeBIdeal.main_arg4) = m ((c.tc : Thread Cert.KernelMergeBIdeal.nD Cert.KernelMergeBIdeal.τ).loc Cert.KernelMergeBIdeal.main_arg4)
      ∧ r.2.mem ((c.tc : Thread Cert.KernelMergeBIdeal.nD Cert.KernelMergeBIdeal.τ).loc Cert.KernelMergeBIdeal.main_arg5) = m ((c.tc : Thread Cert.KernelMergeBIdeal.nD Cert.KernelMergeBIdeal.τ).loc Cert.KernelMergeBIdeal.main_arg5)
      ∧ r.2.mem ((c.tc : Thread Cert.KernelMergeBIdeal.nD Cert.KernelMergeBIdeal.τ).loc Cert.KernelMergeBIdeal.main_arg6) = m ((c.tc : Thread Cert.KernelMergeBIdeal.nD Cert.KernelMergeBIdeal.τ).loc Cert.KernelMergeBIdeal.main_arg6)
      ∧ r.2.mem ((c.tc : Thread Cert.KernelMergeBIdeal.nD Cert.KernelMergeBIdeal.τ).loc Cert.KernelMergeBIdeal.main_arg7) = m ((c.tc : Thread Cert.KernelMergeBIdeal.nD Cert.KernelMergeBIdeal.τ).loc Cert.KernelMergeBIdeal.main_arg7)
      ∧ r.2.mem ((c.tc : Thread Cert.KernelMergeBIdeal.nD Cert.KernelMergeBIdeal.τ).loc Cert.KernelMergeBIdeal.main_arg8) = m ((c.tc : Thread Cert.KernelMergeBIdeal.nD Cert.KernelMergeBIdeal.τ).loc Cert.KernelMergeBIdeal.main_arg8))
      ∧ r.2.sem = fun _ => 0)

def quiescent_ReferenceMergeBIdeal [hReferenceMergeBIdeal : Cert.ReferenceMergeBIdeal.Facts] : Prop :=
  ∀ (m : (ℓ : Loc Cert.ReferenceMergeBIdeal.nD Cert.ReferenceMergeBIdeal.τ Cert.ReferenceMergeBIdeal.sig) → Buf (Elt Ideal) ℓ) (g : Dev Cert.ReferenceMergeBIdeal.nD → PrngReg), Pre_ReferenceMergeBIdeal m →
    θ_run (Cert.ReferenceMergeBIdeal.defs (F := Ideal)) (onTc (τ := Cert.ReferenceMergeBIdeal.τ) (Cert.ReferenceMergeBIdeal.main (F := Ideal))) ⟨m, fun _ => 0, g⟩ (fun r => (∀ c : Dev Cert.ReferenceMergeBIdeal.nD,
      r.2.mem ((c.tc : Thread Cert.ReferenceMergeBIdeal.nD Cert.ReferenceMergeBIdeal.τ).loc Cert.ReferenceMergeBIdeal.main_arg0) = m ((c.tc : Thread Cert.ReferenceMergeBIdeal.nD Cert.ReferenceMergeBIdeal.τ).loc Cert.ReferenceMergeBIdeal.main_arg0)
      ∧ r.2.mem ((c.tc : Thread Cert.ReferenceMergeBIdeal.nD Cert.ReferenceMergeBIdeal.τ).loc Cert.ReferenceMergeBIdeal.main_arg1) = m ((c.tc : Thread Cert.ReferenceMergeBIdeal.nD Cert.ReferenceMergeBIdeal.τ).loc Cert.ReferenceMergeBIdeal.main_arg1)
      ∧ r.2.mem ((c.tc : Thread Cert.ReferenceMergeBIdeal.nD Cert.ReferenceMergeBIdeal.τ).loc Cert.ReferenceMergeBIdeal.main_arg2) = m ((c.tc : Thread Cert.ReferenceMergeBIdeal.nD Cert.ReferenceMergeBIdeal.τ).loc Cert.ReferenceMergeBIdeal.main_arg2)
      ∧ r.2.mem ((c.tc : Thread Cert.ReferenceMergeBIdeal.nD Cert.ReferenceMergeBIdeal.τ).loc Cert.ReferenceMergeBIdeal.main_arg3) = m ((c.tc : Thread Cert.ReferenceMergeBIdeal.nD Cert.ReferenceMergeBIdeal.τ).loc Cert.ReferenceMergeBIdeal.main_arg3)
      ∧ r.2.mem ((c.tc : Thread Cert.ReferenceMergeBIdeal.nD Cert.ReferenceMergeBIdeal.τ).loc Cert.ReferenceMergeBIdeal.main_arg4) = m ((c.tc : Thread Cert.ReferenceMergeBIdeal.nD Cert.ReferenceMergeBIdeal.τ).loc Cert.ReferenceMergeBIdeal.main_arg4)
      ∧ r.2.mem ((c.tc : Thread Cert.ReferenceMergeBIdeal.nD Cert.ReferenceMergeBIdeal.τ).loc Cert.ReferenceMergeBIdeal.main_arg5) = m ((c.tc : Thread Cert.ReferenceMergeBIdeal.nD Cert.ReferenceMergeBIdeal.τ).loc Cert.ReferenceMergeBIdeal.main_arg5)
      ∧ r.2.mem ((c.tc : Thread Cert.ReferenceMergeBIdeal.nD Cert.ReferenceMergeBIdeal.τ).loc Cert.ReferenceMergeBIdeal.main_arg6) = m ((c.tc : Thread Cert.ReferenceMergeBIdeal.nD Cert.ReferenceMergeBIdeal.τ).loc Cert.ReferenceMergeBIdeal.main_arg6)
      ∧ r.2.mem ((c.tc : Thread Cert.ReferenceMergeBIdeal.nD Cert.ReferenceMergeBIdeal.τ).loc Cert.ReferenceMergeBIdeal.main_arg7) = m ((c.tc : Thread Cert.ReferenceMergeBIdeal.nD Cert.ReferenceMergeBIdeal.τ).loc Cert.ReferenceMergeBIdeal.main_arg7)
      ∧ r.2.mem ((c.tc : Thread Cert.ReferenceMergeBIdeal.nD Cert.ReferenceMergeBIdeal.τ).loc Cert.ReferenceMergeBIdeal.main_arg8) = m ((c.tc : Thread Cert.ReferenceMergeBIdeal.nD Cert.ReferenceMergeBIdeal.τ).loc Cert.ReferenceMergeBIdeal.main_arg8))
      ∧ r.2.sem = fun _ => 0)

def quiescent_KernelMergeF [hKernelMergeF : Cert.KernelMergeF.Facts] : Prop :=
  ∀ (m : (ℓ : Loc Cert.KernelMergeF.nD Cert.KernelMergeF.τ Cert.KernelMergeF.sig) → Buf (Elt Bits) ℓ) (g : Dev Cert.KernelMergeF.nD → PrngReg), Pre_KernelMergeF m →
    θ_run (Cert.KernelMergeF.defs (F := Bits)) (onTc (τ := Cert.KernelMergeF.τ) (Cert.KernelMergeF.main (F := Bits))) ⟨m, fun _ => 0, g⟩ (fun r => (∀ c : Dev Cert.KernelMergeF.nD,
      r.2.mem ((c.tc : Thread Cert.KernelMergeF.nD Cert.KernelMergeF.τ).loc Cert.KernelMergeF.main_arg0) = m ((c.tc : Thread Cert.KernelMergeF.nD Cert.KernelMergeF.τ).loc Cert.KernelMergeF.main_arg0)
      ∧ r.2.mem ((c.tc : Thread Cert.KernelMergeF.nD Cert.KernelMergeF.τ).loc Cert.KernelMergeF.main_arg1) = m ((c.tc : Thread Cert.KernelMergeF.nD Cert.KernelMergeF.τ).loc Cert.KernelMergeF.main_arg1)
      ∧ r.2.mem ((c.tc : Thread Cert.KernelMergeF.nD Cert.KernelMergeF.τ).loc Cert.KernelMergeF.main_arg2) = m ((c.tc : Thread Cert.KernelMergeF.nD Cert.KernelMergeF.τ).loc Cert.KernelMergeF.main_arg2)
      ∧ r.2.mem ((c.tc : Thread Cert.KernelMergeF.nD Cert.KernelMergeF.τ).loc Cert.KernelMergeF.main_arg3) = m ((c.tc : Thread Cert.KernelMergeF.nD Cert.KernelMergeF.τ).loc Cert.KernelMergeF.main_arg3)
      ∧ r.2.mem ((c.tc : Thread Cert.KernelMergeF.nD Cert.KernelMergeF.τ).loc Cert.KernelMergeF.main_arg4) = m ((c.tc : Thread Cert.KernelMergeF.nD Cert.KernelMergeF.τ).loc Cert.KernelMergeF.main_arg4)
      ∧ r.2.mem ((c.tc : Thread Cert.KernelMergeF.nD Cert.KernelMergeF.τ).loc Cert.KernelMergeF.main_arg5) = m ((c.tc : Thread Cert.KernelMergeF.nD Cert.KernelMergeF.τ).loc Cert.KernelMergeF.main_arg5)
      ∧ r.2.mem ((c.tc : Thread Cert.KernelMergeF.nD Cert.KernelMergeF.τ).loc Cert.KernelMergeF.main_arg6) = m ((c.tc : Thread Cert.KernelMergeF.nD Cert.KernelMergeF.τ).loc Cert.KernelMergeF.main_arg6)
      ∧ r.2.mem ((c.tc : Thread Cert.KernelMergeF.nD Cert.KernelMergeF.τ).loc Cert.KernelMergeF.main_arg7) = m ((c.tc : Thread Cert.KernelMergeF.nD Cert.KernelMergeF.τ).loc Cert.KernelMergeF.main_arg7)
      ∧ r.2.mem ((c.tc : Thread Cert.KernelMergeF.nD Cert.KernelMergeF.τ).loc Cert.KernelMergeF.main_arg8) = m ((c.tc : Thread Cert.KernelMergeF.nD Cert.KernelMergeF.τ).loc Cert.KernelMergeF.main_arg8)
      ∧ r.2.mem ((c.tc : Thread Cert.KernelMergeF.nD Cert.KernelMergeF.τ).loc Cert.KernelMergeF.main_arg9) = m ((c.tc : Thread Cert.KernelMergeF.nD Cert.KernelMergeF.τ).loc Cert.KernelMergeF.main_arg9))
      ∧ r.2.sem = fun _ => 0)

def quiescent_KernelMergeFIdeal [hKernelMergeFIdeal : Cert.KernelMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg), Pre_KernelMergeFIdeal m →
    θ_run (Cert.KernelMergeFIdeal.defs (F := Ideal)) (onTc (τ := Cert.KernelMergeFIdeal.τ) (Cert.KernelMergeFIdeal.main (F := Ideal))) ⟨m, fun _ => 0, g⟩ (fun r => (∀ c : Dev Cert.KernelMergeFIdeal.nD,
      r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
      ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
      ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
      ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3)
      ∧ r.2.mem ((c.tc : Thread Cert.KernelMergeFIdeal.nD Cert.KernelMergeFIdeal.τ).loc Cert.KernelMergeFIdeal.main_arg4) = m ((c.tc : Thread Cert.KernelMergeFIdeal.nD Cert.KernelMergeFIdeal.τ).loc Cert.KernelMergeFIdeal.main_arg4)
      ∧ r.2.mem ((c.tc : Thread Cert.KernelMergeFIdeal.nD Cert.KernelMergeFIdeal.τ).loc Cert.KernelMergeFIdeal.main_arg5) = m ((c.tc : Thread Cert.KernelMergeFIdeal.nD Cert.KernelMergeFIdeal.τ).loc Cert.KernelMergeFIdeal.main_arg5)
      ∧ r.2.mem ((c.tc : Thread Cert.KernelMergeFIdeal.nD Cert.KernelMergeFIdeal.τ).loc Cert.KernelMergeFIdeal.main_arg6) = m ((c.tc : Thread Cert.KernelMergeFIdeal.nD Cert.KernelMergeFIdeal.τ).loc Cert.KernelMergeFIdeal.main_arg6)
      ∧ r.2.mem ((c.tc : Thread Cert.KernelMergeFIdeal.nD Cert.KernelMergeFIdeal.τ).loc Cert.KernelMergeFIdeal.main_arg7) = m ((c.tc : Thread Cert.KernelMergeFIdeal.nD Cert.KernelMergeFIdeal.τ).loc Cert.KernelMergeFIdeal.main_arg7)
      ∧ r.2.mem ((c.tc : Thread Cert.KernelMergeFIdeal.nD Cert.KernelMergeFIdeal.τ).loc Cert.KernelMergeFIdeal.main_arg8) = m ((c.tc : Thread Cert.KernelMergeFIdeal.nD Cert.KernelMergeFIdeal.τ).loc Cert.KernelMergeFIdeal.main_arg8)
      ∧ r.2.mem ((c.tc : Thread Cert.KernelMergeFIdeal.nD Cert.KernelMergeFIdeal.τ).loc Cert.KernelMergeFIdeal.main_arg9) = m ((c.tc : Thread Cert.KernelMergeFIdeal.nD Cert.KernelMergeFIdeal.τ).loc Cert.KernelMergeFIdeal.main_arg9))
      ∧ r.2.sem = fun _ => 0)

def quiescent_ReferenceMergeFIdeal [hReferenceMergeFIdeal : Cert.ReferenceMergeFIdeal.Facts] : Prop :=
  ∀ (m : (ℓ : Loc Cert.ReferenceMergeFIdeal.nD Cert.ReferenceMergeFIdeal.τ Cert.ReferenceMergeFIdeal.sig) → Buf (Elt Ideal) ℓ) (g : Dev Cert.ReferenceMergeFIdeal.nD → PrngReg), Pre_ReferenceMergeFIdeal m →
    θ_run (Cert.ReferenceMergeFIdeal.defs (F := Ideal)) (onTc (τ := Cert.ReferenceMergeFIdeal.τ) (Cert.ReferenceMergeFIdeal.main (F := Ideal))) ⟨m, fun _ => 0, g⟩ (fun r => (∀ c : Dev Cert.ReferenceMergeFIdeal.nD,
      r.2.mem ((c.tc : Thread Cert.ReferenceMergeFIdeal.nD Cert.ReferenceMergeFIdeal.τ).loc Cert.ReferenceMergeFIdeal.main_arg0) = m ((c.tc : Thread Cert.ReferenceMergeFIdeal.nD Cert.ReferenceMergeFIdeal.τ).loc Cert.ReferenceMergeFIdeal.main_arg0)
      ∧ r.2.mem ((c.tc : Thread Cert.ReferenceMergeFIdeal.nD Cert.ReferenceMergeFIdeal.τ).loc Cert.ReferenceMergeFIdeal.main_arg1) = m ((c.tc : Thread Cert.ReferenceMergeFIdeal.nD Cert.ReferenceMergeFIdeal.τ).loc Cert.ReferenceMergeFIdeal.main_arg1)
      ∧ r.2.mem ((c.tc : Thread Cert.ReferenceMergeFIdeal.nD Cert.ReferenceMergeFIdeal.τ).loc Cert.ReferenceMergeFIdeal.main_arg2) = m ((c.tc : Thread Cert.ReferenceMergeFIdeal.nD Cert.ReferenceMergeFIdeal.τ).loc Cert.ReferenceMergeFIdeal.main_arg2)
      ∧ r.2.mem ((c.tc : Thread Cert.ReferenceMergeFIdeal.nD Cert.ReferenceMergeFIdeal.τ).loc Cert.ReferenceMergeFIdeal.main_arg3) = m ((c.tc : Thread Cert.ReferenceMergeFIdeal.nD Cert.ReferenceMergeFIdeal.τ).loc Cert.ReferenceMergeFIdeal.main_arg3)
      ∧ r.2.mem ((c.tc : Thread Cert.ReferenceMergeFIdeal.nD Cert.ReferenceMergeFIdeal.τ).loc Cert.ReferenceMergeFIdeal.main_arg4) = m ((c.tc : Thread Cert.ReferenceMergeFIdeal.nD Cert.ReferenceMergeFIdeal.τ).loc Cert.ReferenceMergeFIdeal.main_arg4)
      ∧ r.2.mem ((c.tc : Thread Cert.ReferenceMergeFIdeal.nD Cert.ReferenceMergeFIdeal.τ).loc Cert.ReferenceMergeFIdeal.main_arg5) = m ((c.tc : Thread Cert.ReferenceMergeFIdeal.nD Cert.ReferenceMergeFIdeal.τ).loc Cert.ReferenceMergeFIdeal.main_arg5)
      ∧ r.2.mem ((c.tc : Thread Cert.ReferenceMergeFIdeal.nD Cert.ReferenceMergeFIdeal.τ).loc Cert.ReferenceMergeFIdeal.main_arg6) = m ((c.tc : Thread Cert.ReferenceMergeFIdeal.nD Cert.ReferenceMergeFIdeal.τ).loc Cert.ReferenceMergeFIdeal.main_arg6)
      ∧ r.2.mem ((c.tc : Thread Cert.ReferenceMergeFIdeal.nD Cert.ReferenceMergeFIdeal.τ).loc Cert.ReferenceMergeFIdeal.main_arg7) = m ((c.tc : Thread Cert.ReferenceMergeFIdeal.nD Cert.ReferenceMergeFIdeal.τ).loc Cert.ReferenceMergeFIdeal.main_arg7)
      ∧ r.2.mem ((c.tc : Thread Cert.ReferenceMergeFIdeal.nD Cert.ReferenceMergeFIdeal.τ).loc Cert.ReferenceMergeFIdeal.main_arg8) = m ((c.tc : Thread Cert.ReferenceMergeFIdeal.nD Cert.ReferenceMergeFIdeal.τ).loc Cert.ReferenceMergeFIdeal.main_arg8)
      ∧ r.2.mem ((c.tc : Thread Cert.ReferenceMergeFIdeal.nD Cert.ReferenceMergeFIdeal.τ).loc Cert.ReferenceMergeFIdeal.main_arg9) = m ((c.tc : Thread Cert.ReferenceMergeFIdeal.nD Cert.ReferenceMergeFIdeal.τ).loc Cert.ReferenceMergeFIdeal.main_arg9))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelNormB [hKernelNormB : Cert.KernelNormB.Facts] : Prop :=
  ∀ (m : (ℓ : Loc Cert.KernelNormB.nD Cert.KernelNormB.τ Cert.KernelNormB.sig) → Buf (Elt Bits) ℓ) (g : Dev Cert.KernelNormB.nD → PrngReg), Pre_KernelNormB m →
    θ_run (Cert.KernelNormB.defs (F := Bits)) (onTc (τ := Cert.KernelNormB.τ) (Cert.KernelNormB.main (F := Bits))) ⟨m, fun _ => 0, g⟩ (fun r => (∀ c : Dev Cert.KernelNormB.nD,
      r.2.mem ((c.tc : Thread Cert.KernelNormB.nD Cert.KernelNormB.τ).loc Cert.KernelNormB.main_arg0) = m ((c.tc : Thread Cert.KernelNormB.nD Cert.KernelNormB.τ).loc Cert.KernelNormB.main_arg0)
      ∧ r.2.mem ((c.tc : Thread Cert.KernelNormB.nD Cert.KernelNormB.τ).loc Cert.KernelNormB.main_arg1) = m ((c.tc : Thread Cert.KernelNormB.nD Cert.KernelNormB.τ).loc Cert.KernelNormB.main_arg1)
      ∧ r.2.mem ((c.tc : Thread Cert.KernelNormB.nD Cert.KernelNormB.τ).loc Cert.KernelNormB.main_arg2) = m ((c.tc : Thread Cert.KernelNormB.nD Cert.KernelNormB.τ).loc Cert.KernelNormB.main_arg2)
      ∧ r.2.mem ((c.tc : Thread Cert.KernelNormB.nD Cert.KernelNormB.τ).loc Cert.KernelNormB.main_arg3) = m ((c.tc : Thread Cert.KernelNormB.nD Cert.KernelNormB.τ).loc Cert.KernelNormB.main_arg3))
      ∧ r.2.sem = fun _ => 0)

def quiescent_KernelNormBIdeal [hKernelNormBIdeal : Cert.KernelNormBIdeal.Facts] : Prop :=
  ∀ (m : (ℓ : Loc Cert.KernelNormBIdeal.nD Cert.KernelNormBIdeal.τ Cert.KernelNormBIdeal.sig) → Buf (Elt Ideal) ℓ) (g : Dev Cert.KernelNormBIdeal.nD → PrngReg), Pre_KernelNormBIdeal m →
    θ_run (Cert.KernelNormBIdeal.defs (F := Ideal)) (onTc (τ := Cert.KernelNormBIdeal.τ) (Cert.KernelNormBIdeal.main (F := Ideal))) ⟨m, fun _ => 0, g⟩ (fun r => (∀ c : Dev Cert.KernelNormBIdeal.nD,
      r.2.mem ((c.tc : Thread Cert.KernelNormBIdeal.nD Cert.KernelNormBIdeal.τ).loc Cert.KernelNormBIdeal.main_arg0) = m ((c.tc : Thread Cert.KernelNormBIdeal.nD Cert.KernelNormBIdeal.τ).loc Cert.KernelNormBIdeal.main_arg0)
      ∧ r.2.mem ((c.tc : Thread Cert.KernelNormBIdeal.nD Cert.KernelNormBIdeal.τ).loc Cert.KernelNormBIdeal.main_arg1) = m ((c.tc : Thread Cert.KernelNormBIdeal.nD Cert.KernelNormBIdeal.τ).loc Cert.KernelNormBIdeal.main_arg1)
      ∧ r.2.mem ((c.tc : Thread Cert.KernelNormBIdeal.nD Cert.KernelNormBIdeal.τ).loc Cert.KernelNormBIdeal.main_arg2) = m ((c.tc : Thread Cert.KernelNormBIdeal.nD Cert.KernelNormBIdeal.τ).loc Cert.KernelNormBIdeal.main_arg2)
      ∧ r.2.mem ((c.tc : Thread Cert.KernelNormBIdeal.nD Cert.KernelNormBIdeal.τ).loc Cert.KernelNormBIdeal.main_arg3) = m ((c.tc : Thread Cert.KernelNormBIdeal.nD Cert.KernelNormBIdeal.τ).loc Cert.KernelNormBIdeal.main_arg3))
      ∧ r.2.sem = fun _ => 0)

def quiescent_ReferenceNormBIdeal [hReferenceNormBIdeal : Cert.ReferenceNormBIdeal.Facts] : Prop :=
  ∀ (m : (ℓ : Loc Cert.ReferenceNormBIdeal.nD Cert.ReferenceNormBIdeal.τ Cert.ReferenceNormBIdeal.sig) → Buf (Elt Ideal) ℓ) (g : Dev Cert.ReferenceNormBIdeal.nD → PrngReg), Pre_ReferenceNormBIdeal m →
    θ_run (Cert.ReferenceNormBIdeal.defs (F := Ideal)) (onTc (τ := Cert.ReferenceNormBIdeal.τ) (Cert.ReferenceNormBIdeal.main (F := Ideal))) ⟨m, fun _ => 0, g⟩ (fun r => (∀ c : Dev Cert.ReferenceNormBIdeal.nD,
      r.2.mem ((c.tc : Thread Cert.ReferenceNormBIdeal.nD Cert.ReferenceNormBIdeal.τ).loc Cert.ReferenceNormBIdeal.main_arg0) = m ((c.tc : Thread Cert.ReferenceNormBIdeal.nD Cert.ReferenceNormBIdeal.τ).loc Cert.ReferenceNormBIdeal.main_arg0)
      ∧ r.2.mem ((c.tc : Thread Cert.ReferenceNormBIdeal.nD Cert.ReferenceNormBIdeal.τ).loc Cert.ReferenceNormBIdeal.main_arg1) = m ((c.tc : Thread Cert.ReferenceNormBIdeal.nD Cert.ReferenceNormBIdeal.τ).loc Cert.ReferenceNormBIdeal.main_arg1)
      ∧ r.2.mem ((c.tc : Thread Cert.ReferenceNormBIdeal.nD Cert.ReferenceNormBIdeal.τ).loc Cert.ReferenceNormBIdeal.main_arg2) = m ((c.tc : Thread Cert.ReferenceNormBIdeal.nD Cert.ReferenceNormBIdeal.τ).loc Cert.ReferenceNormBIdeal.main_arg2)
      ∧ r.2.mem ((c.tc : Thread Cert.ReferenceNormBIdeal.nD Cert.ReferenceNormBIdeal.τ).loc Cert.ReferenceNormBIdeal.main_arg3) = m ((c.tc : Thread Cert.ReferenceNormBIdeal.nD Cert.ReferenceNormBIdeal.τ).loc Cert.ReferenceNormBIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamBr [hKernelAdamBr : Cert.KernelAdamBr.Facts] : Prop :=
  ∀ (m : (ℓ : Loc Cert.KernelAdamBr.nD Cert.KernelAdamBr.τ Cert.KernelAdamBr.sig) → Buf (Elt Bits) ℓ) (g : Dev Cert.KernelAdamBr.nD → PrngReg), Pre_KernelAdamBr m →
    θ_run (Cert.KernelAdamBr.defs (F := Bits)) (onTc (τ := Cert.KernelAdamBr.τ) (Cert.KernelAdamBr.main (F := Bits))) ⟨m, fun _ => 0, g⟩ (fun r => (∀ c : Dev Cert.KernelAdamBr.nD,
      r.2.mem ((c.tc : Thread Cert.KernelAdamBr.nD Cert.KernelAdamBr.τ).loc Cert.KernelAdamBr.main_arg0) = m ((c.tc : Thread Cert.KernelAdamBr.nD Cert.KernelAdamBr.τ).loc Cert.KernelAdamBr.main_arg0)
      ∧ r.2.mem ((c.tc : Thread Cert.KernelAdamBr.nD Cert.KernelAdamBr.τ).loc Cert.KernelAdamBr.main_arg1) = m ((c.tc : Thread Cert.KernelAdamBr.nD Cert.KernelAdamBr.τ).loc Cert.KernelAdamBr.main_arg1)
      ∧ r.2.mem ((c.tc : Thread Cert.KernelAdamBr.nD Cert.KernelAdamBr.τ).loc Cert.KernelAdamBr.main_arg2) = m ((c.tc : Thread Cert.KernelAdamBr.nD Cert.KernelAdamBr.τ).loc Cert.KernelAdamBr.main_arg2)
      ∧ r.2.mem ((c.tc : Thread Cert.KernelAdamBr.nD Cert.KernelAdamBr.τ).loc Cert.KernelAdamBr.main_arg3) = m ((c.tc : Thread Cert.KernelAdamBr.nD Cert.KernelAdamBr.τ).loc Cert.KernelAdamBr.main_arg3))
      ∧ r.2.sem = fun _ => 0)

def quiescent_KernelAdamBrIdeal [hKernelAdamBrIdeal : Cert.KernelAdamBrIdeal.Facts] : Prop :=
  ∀ (m : (ℓ : Loc Cert.KernelAdamBrIdeal.nD Cert.KernelAdamBrIdeal.τ Cert.KernelAdamBrIdeal.sig) → Buf (Elt Ideal) ℓ) (g : Dev Cert.KernelAdamBrIdeal.nD → PrngReg), Pre_KernelAdamBrIdeal m →
    θ_run (Cert.KernelAdamBrIdeal.defs (F := Ideal)) (onTc (τ := Cert.KernelAdamBrIdeal.τ) (Cert.KernelAdamBrIdeal.main (F := Ideal))) ⟨m, fun _ => 0, g⟩ (fun r => (∀ c : Dev Cert.KernelAdamBrIdeal.nD,
      r.2.mem ((c.tc : Thread Cert.KernelAdamBrIdeal.nD Cert.KernelAdamBrIdeal.τ).loc Cert.KernelAdamBrIdeal.main_arg0) = m ((c.tc : Thread Cert.KernelAdamBrIdeal.nD Cert.KernelAdamBrIdeal.τ).loc Cert.KernelAdamBrIdeal.main_arg0)
      ∧ r.2.mem ((c.tc : Thread Cert.KernelAdamBrIdeal.nD Cert.KernelAdamBrIdeal.τ).loc Cert.KernelAdamBrIdeal.main_arg1) = m ((c.tc : Thread Cert.KernelAdamBrIdeal.nD Cert.KernelAdamBrIdeal.τ).loc Cert.KernelAdamBrIdeal.main_arg1)
      ∧ r.2.mem ((c.tc : Thread Cert.KernelAdamBrIdeal.nD Cert.KernelAdamBrIdeal.τ).loc Cert.KernelAdamBrIdeal.main_arg2) = m ((c.tc : Thread Cert.KernelAdamBrIdeal.nD Cert.KernelAdamBrIdeal.τ).loc Cert.KernelAdamBrIdeal.main_arg2)
      ∧ r.2.mem ((c.tc : Thread Cert.KernelAdamBrIdeal.nD Cert.KernelAdamBrIdeal.τ).loc Cert.KernelAdamBrIdeal.main_arg3) = m ((c.tc : Thread Cert.KernelAdamBrIdeal.nD Cert.KernelAdamBrIdeal.τ).loc Cert.KernelAdamBrIdeal.main_arg3))
      ∧ r.2.sem = fun _ => 0)

def quiescent_ReferenceAdamBrIdeal [hReferenceAdamBrIdeal : Cert.ReferenceAdamBrIdeal.Facts] : Prop :=
  ∀ (m : (ℓ : Loc Cert.ReferenceAdamBrIdeal.nD Cert.ReferenceAdamBrIdeal.τ Cert.ReferenceAdamBrIdeal.sig) → Buf (Elt Ideal) ℓ) (g : Dev Cert.ReferenceAdamBrIdeal.nD → PrngReg), Pre_ReferenceAdamBrIdeal m →
    θ_run (Cert.ReferenceAdamBrIdeal.defs (F := Ideal)) (onTc (τ := Cert.ReferenceAdamBrIdeal.τ) (Cert.ReferenceAdamBrIdeal.main (F := Ideal))) ⟨m, fun _ => 0, g⟩ (fun r => (∀ c : Dev Cert.ReferenceAdamBrIdeal.nD,
      r.2.mem ((c.tc : Thread Cert.ReferenceAdamBrIdeal.nD Cert.ReferenceAdamBrIdeal.τ).loc Cert.ReferenceAdamBrIdeal.main_arg0) = m ((c.tc : Thread Cert.ReferenceAdamBrIdeal.nD Cert.ReferenceAdamBrIdeal.τ).loc Cert.ReferenceAdamBrIdeal.main_arg0)
      ∧ r.2.mem ((c.tc : Thread Cert.ReferenceAdamBrIdeal.nD Cert.ReferenceAdamBrIdeal.τ).loc Cert.ReferenceAdamBrIdeal.main_arg1) = m ((c.tc : Thread Cert.ReferenceAdamBrIdeal.nD Cert.ReferenceAdamBrIdeal.τ).loc Cert.ReferenceAdamBrIdeal.main_arg1)
      ∧ r.2.mem ((c.tc : Thread Cert.ReferenceAdamBrIdeal.nD Cert.ReferenceAdamBrIdeal.τ).loc Cert.ReferenceAdamBrIdeal.main_arg2) = m ((c.tc : Thread Cert.ReferenceAdamBrIdeal.nD Cert.ReferenceAdamBrIdeal.τ).loc Cert.ReferenceAdamBrIdeal.main_arg2)
      ∧ r.2.mem ((c.tc : Thread Cert.ReferenceAdamBrIdeal.nD Cert.ReferenceAdamBrIdeal.τ).loc Cert.ReferenceAdamBrIdeal.main_arg3) = m ((c.tc : Thread Cert.ReferenceAdamBrIdeal.nD Cert.ReferenceAdamBrIdeal.τ).loc Cert.ReferenceAdamBrIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelWMem [hKernelWMem : Cert.KernelWMem.Facts] : Prop :=
  ∀ (m : (ℓ : Loc Cert.KernelWMem.nD Cert.KernelWMem.τ Cert.KernelWMem.sig) → Buf (Elt Bits) ℓ) (g : Dev Cert.KernelWMem.nD → PrngReg), Pre_KernelWMem m →
    θ_run (Cert.KernelWMem.defs (F := Bits)) (onTc (τ := Cert.KernelWMem.τ) (Cert.KernelWMem.main (F := Bits))) ⟨m, fun _ => 0, g⟩ (fun r => (∀ c : Dev Cert.KernelWMem.nD,
      r.2.mem ((c.tc : Thread Cert.KernelWMem.nD Cert.KernelWMem.τ).loc Cert.KernelWMem.main_arg0) = m ((c.tc : Thread Cert.KernelWMem.nD Cert.KernelWMem.τ).loc Cert.KernelWMem.main_arg0)
      ∧ r.2.mem ((c.tc : Thread Cert.KernelWMem.nD Cert.KernelWMem.τ).loc Cert.KernelWMem.main_arg1) = m ((c.tc : Thread Cert.KernelWMem.nD Cert.KernelWMem.τ).loc Cert.KernelWMem.main_arg1))
      ∧ r.2.sem = fun _ => 0)

def quiescent_KernelWMemIdeal [hKernelWMemIdeal : Cert.KernelWMemIdeal.Facts] : Prop :=
  ∀ (m : (ℓ : Loc Cert.KernelWMemIdeal.nD Cert.KernelWMemIdeal.τ Cert.KernelWMemIdeal.sig) → Buf (Elt Ideal) ℓ) (g : Dev Cert.KernelWMemIdeal.nD → PrngReg), Pre_KernelWMemIdeal m →
    θ_run (Cert.KernelWMemIdeal.defs (F := Ideal)) (onTc (τ := Cert.KernelWMemIdeal.τ) (Cert.KernelWMemIdeal.main (F := Ideal))) ⟨m, fun _ => 0, g⟩ (fun r => (∀ c : Dev Cert.KernelWMemIdeal.nD,
      r.2.mem ((c.tc : Thread Cert.KernelWMemIdeal.nD Cert.KernelWMemIdeal.τ).loc Cert.KernelWMemIdeal.main_arg0) = m ((c.tc : Thread Cert.KernelWMemIdeal.nD Cert.KernelWMemIdeal.τ).loc Cert.KernelWMemIdeal.main_arg0)
      ∧ r.2.mem ((c.tc : Thread Cert.KernelWMemIdeal.nD Cert.KernelWMemIdeal.τ).loc Cert.KernelWMemIdeal.main_arg1) = m ((c.tc : Thread Cert.KernelWMemIdeal.nD Cert.KernelWMemIdeal.τ).loc Cert.KernelWMemIdeal.main_arg1))
      ∧ r.2.sem = fun _ => 0)

def quiescent_ReferenceWMemIdeal [hReferenceWMemIdeal : Cert.ReferenceWMemIdeal.Facts] : Prop :=
  ∀ (m : (ℓ : Loc Cert.ReferenceWMemIdeal.nD Cert.ReferenceWMemIdeal.τ Cert.ReferenceWMemIdeal.sig) → Buf (Elt Ideal) ℓ) (g : Dev Cert.ReferenceWMemIdeal.nD → PrngReg), Pre_ReferenceWMemIdeal m →
    θ_run (Cert.ReferenceWMemIdeal.defs (F := Ideal)) (onTc (τ := Cert.ReferenceWMemIdeal.τ) (Cert.ReferenceWMemIdeal.main (F := Ideal))) ⟨m, fun _ => 0, g⟩ (fun r => (∀ c : Dev Cert.ReferenceWMemIdeal.nD,
      r.2.mem ((c.tc : Thread Cert.ReferenceWMemIdeal.nD Cert.ReferenceWMemIdeal.τ).loc Cert.ReferenceWMemIdeal.main_arg0) = m ((c.tc : Thread Cert.ReferenceWMemIdeal.nD Cert.ReferenceWMemIdeal.τ).loc Cert.ReferenceWMemIdeal.main_arg0)
      ∧ r.2.mem ((c.tc : Thread Cert.ReferenceWMemIdeal.nD Cert.ReferenceWMemIdeal.τ).loc Cert.ReferenceWMemIdeal.main_arg1) = m ((c.tc : Thread Cert.ReferenceWMemIdeal.nD Cert.ReferenceWMemIdeal.τ).loc Cert.ReferenceWMemIdeal.main_arg1))
      ∧ r.2.sem = fun _ => 0)

def quiescent_KernelNormM [hKernelNormM : Cert.KernelNormM.Facts] : Prop :=
  ∀ (m : (ℓ : Loc Cert.KernelNormM.nD Cert.KernelNormM.τ Cert.KernelNormM.sig) → Buf (Elt Bits) ℓ) (g : Dev Cert.KernelNormM.nD → PrngReg), Pre_KernelNormM m →
    θ_run (Cert.KernelNormM.defs (F := Bits)) (onTc (τ := Cert.KernelNormM.τ) (Cert.KernelNormM.main (F := Bits))) ⟨m, fun _ => 0, g⟩ (fun r => (∀ c : Dev Cert.KernelNormM.nD,
      r.2.mem ((c.tc : Thread Cert.KernelNormM.nD Cert.KernelNormM.τ).loc Cert.KernelNormM.main_arg0) = m ((c.tc : Thread Cert.KernelNormM.nD Cert.KernelNormM.τ).loc Cert.KernelNormM.main_arg0)
      ∧ r.2.mem ((c.tc : Thread Cert.KernelNormM.nD Cert.KernelNormM.τ).loc Cert.KernelNormM.main_arg1) = m ((c.tc : Thread Cert.KernelNormM.nD Cert.KernelNormM.τ).loc Cert.KernelNormM.main_arg1)
      ∧ r.2.mem ((c.tc : Thread Cert.KernelNormM.nD Cert.KernelNormM.τ).loc Cert.KernelNormM.main_arg2) = m ((c.tc : Thread Cert.KernelNormM.nD Cert.KernelNormM.τ).loc Cert.KernelNormM.main_arg2))
      ∧ r.2.sem = fun _ => 0)

def quiescent_KernelNormMIdeal [hKernelNormMIdeal : Cert.KernelNormMIdeal.Facts] : Prop :=
  ∀ (m : (ℓ : Loc Cert.KernelNormMIdeal.nD Cert.KernelNormMIdeal.τ Cert.KernelNormMIdeal.sig) → Buf (Elt Ideal) ℓ) (g : Dev Cert.KernelNormMIdeal.nD → PrngReg), Pre_KernelNormMIdeal m →
    θ_run (Cert.KernelNormMIdeal.defs (F := Ideal)) (onTc (τ := Cert.KernelNormMIdeal.τ) (Cert.KernelNormMIdeal.main (F := Ideal))) ⟨m, fun _ => 0, g⟩ (fun r => (∀ c : Dev Cert.KernelNormMIdeal.nD,
      r.2.mem ((c.tc : Thread Cert.KernelNormMIdeal.nD Cert.KernelNormMIdeal.τ).loc Cert.KernelNormMIdeal.main_arg0) = m ((c.tc : Thread Cert.KernelNormMIdeal.nD Cert.KernelNormMIdeal.τ).loc Cert.KernelNormMIdeal.main_arg0)
      ∧ r.2.mem ((c.tc : Thread Cert.KernelNormMIdeal.nD Cert.KernelNormMIdeal.τ).loc Cert.KernelNormMIdeal.main_arg1) = m ((c.tc : Thread Cert.KernelNormMIdeal.nD Cert.KernelNormMIdeal.τ).loc Cert.KernelNormMIdeal.main_arg1)
      ∧ r.2.mem ((c.tc : Thread Cert.KernelNormMIdeal.nD Cert.KernelNormMIdeal.τ).loc Cert.KernelNormMIdeal.main_arg2) = m ((c.tc : Thread Cert.KernelNormMIdeal.nD Cert.KernelNormMIdeal.τ).loc Cert.KernelNormMIdeal.main_arg2))
      ∧ r.2.sem = fun _ => 0)

def quiescent_ReferenceNormMIdeal [hReferenceNormMIdeal : Cert.ReferenceNormMIdeal.Facts] : Prop :=
  ∀ (m : (ℓ : Loc Cert.ReferenceNormMIdeal.nD Cert.ReferenceNormMIdeal.τ Cert.ReferenceNormMIdeal.sig) → Buf (Elt Ideal) ℓ) (g : Dev Cert.ReferenceNormMIdeal.nD → PrngReg), Pre_ReferenceNormMIdeal m →
    θ_run (Cert.ReferenceNormMIdeal.defs (F := Ideal)) (onTc (τ := Cert.ReferenceNormMIdeal.τ) (Cert.ReferenceNormMIdeal.main (F := Ideal))) ⟨m, fun _ => 0, g⟩ (fun r => (∀ c : Dev Cert.ReferenceNormMIdeal.nD,
      r.2.mem ((c.tc : Thread Cert.ReferenceNormMIdeal.nD Cert.ReferenceNormMIdeal.τ).loc Cert.ReferenceNormMIdeal.main_arg0) = m ((c.tc : Thread Cert.ReferenceNormMIdeal.nD Cert.ReferenceNormMIdeal.τ).loc Cert.ReferenceNormMIdeal.main_arg0)
      ∧ r.2.mem ((c.tc : Thread Cert.ReferenceNormMIdeal.nD Cert.ReferenceNormMIdeal.τ).loc Cert.ReferenceNormMIdeal.main_arg1) = m ((c.tc : Thread Cert.ReferenceNormMIdeal.nD Cert.ReferenceNormMIdeal.τ).loc Cert.ReferenceNormMIdeal.main_arg1)
      ∧ r.2.mem ((c.tc : Thread Cert.ReferenceNormMIdeal.nD Cert.ReferenceNormMIdeal.τ).loc Cert.ReferenceNormMIdeal.main_arg2) = m ((c.tc : Thread Cert.ReferenceNormMIdeal.nD Cert.ReferenceNormMIdeal.τ).loc Cert.ReferenceNormMIdeal.main_arg2))
      ∧ r.2.sem = fun _ => 0)

def quiescent_KernelProjMem [hKernelProjMem : Cert.KernelProjMem.Facts] : Prop :=
  ∀ (m : (ℓ : Loc Cert.KernelProjMem.nD Cert.KernelProjMem.τ Cert.KernelProjMem.sig) → Buf (Elt Bits) ℓ) (g : Dev Cert.KernelProjMem.nD → PrngReg), Pre_KernelProjMem m →
    θ_run (Cert.KernelProjMem.defs (F := Bits)) (onTc (τ := Cert.KernelProjMem.τ) (Cert.KernelProjMem.main (F := Bits))) ⟨m, fun _ => 0, g⟩ (fun r => (∀ c : Dev Cert.KernelProjMem.nD,
      r.2.mem ((c.tc : Thread Cert.KernelProjMem.nD Cert.KernelProjMem.τ).loc Cert.KernelProjMem.main_arg0) = m ((c.tc : Thread Cert.KernelProjMem.nD Cert.KernelProjMem.τ).loc Cert.KernelProjMem.main_arg0)
      ∧ r.2.mem ((c.tc : Thread Cert.KernelProjMem.nD Cert.KernelProjMem.τ).loc Cert.KernelProjMem.main_arg1) = m ((c.tc : Thread Cert.KernelProjMem.nD Cert.KernelProjMem.τ).loc Cert.KernelProjMem.main_arg1))
      ∧ r.2.sem = fun _ => 0)

def quiescent_KernelProjMemIdeal [hKernelProjMemIdeal : Cert.KernelProjMemIdeal.Facts] : Prop :=
  ∀ (m : (ℓ : Loc Cert.KernelProjMemIdeal.nD Cert.KernelProjMemIdeal.τ Cert.KernelProjMemIdeal.sig) → Buf (Elt Ideal) ℓ) (g : Dev Cert.KernelProjMemIdeal.nD → PrngReg), Pre_KernelProjMemIdeal m →
    θ_run (Cert.KernelProjMemIdeal.defs (F := Ideal)) (onTc (τ := Cert.KernelProjMemIdeal.τ) (Cert.KernelProjMemIdeal.main (F := Ideal))) ⟨m, fun _ => 0, g⟩ (fun r => (∀ c : Dev Cert.KernelProjMemIdeal.nD,
      r.2.mem ((c.tc : Thread Cert.KernelProjMemIdeal.nD Cert.KernelProjMemIdeal.τ).loc Cert.KernelProjMemIdeal.main_arg0) = m ((c.tc : Thread Cert.KernelProjMemIdeal.nD Cert.KernelProjMemIdeal.τ).loc Cert.KernelProjMemIdeal.main_arg0)
      ∧ r.2.mem ((c.tc : Thread Cert.KernelProjMemIdeal.nD Cert.KernelProjMemIdeal.τ).loc Cert.KernelProjMemIdeal.main_arg1) = m ((c.tc : Thread Cert.KernelProjMemIdeal.nD Cert.KernelProjMemIdeal.τ).loc Cert.KernelProjMemIdeal.main_arg1))
      ∧ r.2.sem = fun _ => 0)

def quiescent_ReferenceProjMemIdeal [hReferenceProjMemIdeal : Cert.ReferenceProjMemIdeal.Facts] : Prop :=
  ∀ (m : (ℓ : Loc Cert.ReferenceProjMemIdeal.nD Cert.ReferenceProjMemIdeal.τ Cert.ReferenceProjMemIdeal.sig) → Buf (Elt Ideal) ℓ) (g : Dev Cert.ReferenceProjMemIdeal.nD → PrngReg), Pre_ReferenceProjMemIdeal m →
    θ_run (Cert.ReferenceProjMemIdeal.defs (F := Ideal)) (onTc (τ := Cert.ReferenceProjMemIdeal.τ) (Cert.ReferenceProjMemIdeal.main (F := Ideal))) ⟨m, fun _ => 0, g⟩ (fun r => (∀ c : Dev Cert.ReferenceProjMemIdeal.nD,
      r.2.mem ((c.tc : Thread Cert.ReferenceProjMemIdeal.nD Cert.ReferenceProjMemIdeal.τ).loc Cert.ReferenceProjMemIdeal.main_arg0) = m ((c.tc : Thread Cert.ReferenceProjMemIdeal.nD Cert.ReferenceProjMemIdeal.τ).loc Cert.ReferenceProjMemIdeal.main_arg0)
      ∧ r.2.mem ((c.tc : Thread Cert.ReferenceProjMemIdeal.nD Cert.ReferenceProjMemIdeal.τ).loc Cert.ReferenceProjMemIdeal.main_arg1) = m ((c.tc : Thread Cert.ReferenceProjMemIdeal.nD Cert.ReferenceProjMemIdeal.τ).loc Cert.ReferenceProjMemIdeal.main_arg1))
      ∧ r.2.sem = fun _ => 0)

def quiescent_KernelDMemn [hKernelDMemn : Cert.KernelDMemn.Facts] : Prop :=
  ∀ (m : (ℓ : Loc Cert.KernelDMemn.nD Cert.KernelDMemn.τ Cert.KernelDMemn.sig) → Buf (Elt Bits) ℓ) (g : Dev Cert.KernelDMemn.nD → PrngReg), Pre_KernelDMemn m →
    θ_run (Cert.KernelDMemn.defs (F := Bits)) (onTc (τ := Cert.KernelDMemn.τ) (Cert.KernelDMemn.main (F := Bits))) ⟨m, fun _ => 0, g⟩ (fun r => (∀ c : Dev Cert.KernelDMemn.nD,
      r.2.mem ((c.tc : Thread Cert.KernelDMemn.nD Cert.KernelDMemn.τ).loc Cert.KernelDMemn.main_arg0) = m ((c.tc : Thread Cert.KernelDMemn.nD Cert.KernelDMemn.τ).loc Cert.KernelDMemn.main_arg0)
      ∧ r.2.mem ((c.tc : Thread Cert.KernelDMemn.nD Cert.KernelDMemn.τ).loc Cert.KernelDMemn.main_arg1) = m ((c.tc : Thread Cert.KernelDMemn.nD Cert.KernelDMemn.τ).loc Cert.KernelDMemn.main_arg1))
      ∧ r.2.sem = fun _ => 0)

def quiescent_KernelDMemnIdeal [hKernelDMemnIdeal : Cert.KernelDMemnIdeal.Facts] : Prop :=
  ∀ (m : (ℓ : Loc Cert.KernelDMemnIdeal.nD Cert.KernelDMemnIdeal.τ Cert.KernelDMemnIdeal.sig) → Buf (Elt Ideal) ℓ) (g : Dev Cert.KernelDMemnIdeal.nD → PrngReg), Pre_KernelDMemnIdeal m →
    θ_run (Cert.KernelDMemnIdeal.defs (F := Ideal)) (onTc (τ := Cert.KernelDMemnIdeal.τ) (Cert.KernelDMemnIdeal.main (F := Ideal))) ⟨m, fun _ => 0, g⟩ (fun r => (∀ c : Dev Cert.KernelDMemnIdeal.nD,
      r.2.mem ((c.tc : Thread Cert.KernelDMemnIdeal.nD Cert.KernelDMemnIdeal.τ).loc Cert.KernelDMemnIdeal.main_arg0) = m ((c.tc : Thread Cert.KernelDMemnIdeal.nD Cert.KernelDMemnIdeal.τ).loc Cert.KernelDMemnIdeal.main_arg0)
      ∧ r.2.mem ((c.tc : Thread Cert.KernelDMemnIdeal.nD Cert.KernelDMemnIdeal.τ).loc Cert.KernelDMemnIdeal.main_arg1) = m ((c.tc : Thread Cert.KernelDMemnIdeal.nD Cert.KernelDMemnIdeal.τ).loc Cert.KernelDMemnIdeal.main_arg1))
      ∧ r.2.sem = fun _ => 0)

def quiescent_ReferenceDMemnIdeal [hReferenceDMemnIdeal : Cert.ReferenceDMemnIdeal.Facts] : Prop :=
  ∀ (m : (ℓ : Loc Cert.ReferenceDMemnIdeal.nD Cert.ReferenceDMemnIdeal.τ Cert.ReferenceDMemnIdeal.sig) → Buf (Elt Ideal) ℓ) (g : Dev Cert.ReferenceDMemnIdeal.nD → PrngReg), Pre_ReferenceDMemnIdeal m →
    θ_run (Cert.ReferenceDMemnIdeal.defs (F := Ideal)) (onTc (τ := Cert.ReferenceDMemnIdeal.τ) (Cert.ReferenceDMemnIdeal.main (F := Ideal))) ⟨m, fun _ => 0, g⟩ (fun r => (∀ c : Dev Cert.ReferenceDMemnIdeal.nD,
      r.2.mem ((c.tc : Thread Cert.ReferenceDMemnIdeal.nD Cert.ReferenceDMemnIdeal.τ).loc Cert.ReferenceDMemnIdeal.main_arg0) = m ((c.tc : Thread Cert.ReferenceDMemnIdeal.nD Cert.ReferenceDMemnIdeal.τ).loc Cert.ReferenceDMemnIdeal.main_arg0)
      ∧ r.2.mem ((c.tc : Thread Cert.ReferenceDMemnIdeal.nD Cert.ReferenceDMemnIdeal.τ).loc Cert.ReferenceDMemnIdeal.main_arg1) = m ((c.tc : Thread Cert.ReferenceDMemnIdeal.nD Cert.ReferenceDMemnIdeal.τ).loc Cert.ReferenceDMemnIdeal.main_arg1))
      ∧ r.2.sem = fun _ => 0)

def quiescent_KernelNormF [hKernelNormF : Cert.KernelNormF.Facts] : Prop :=
  ∀ (m : (ℓ : Loc Cert.KernelNormF.nD Cert.KernelNormF.τ Cert.KernelNormF.sig) → Buf (Elt Bits) ℓ) (g : Dev Cert.KernelNormF.nD → PrngReg), Pre_KernelNormF m →
    θ_run (Cert.KernelNormF.defs (F := Bits)) (onTc (τ := Cert.KernelNormF.τ) (Cert.KernelNormF.main (F := Bits))) ⟨m, fun _ => 0, g⟩ (fun r => (∀ c : Dev Cert.KernelNormF.nD,
      r.2.mem ((c.tc : Thread Cert.KernelNormF.nD Cert.KernelNormF.τ).loc Cert.KernelNormF.main_arg0) = m ((c.tc : Thread Cert.KernelNormF.nD Cert.KernelNormF.τ).loc Cert.KernelNormF.main_arg0)
      ∧ r.2.mem ((c.tc : Thread Cert.KernelNormF.nD Cert.KernelNormF.τ).loc Cert.KernelNormF.main_arg1) = m ((c.tc : Thread Cert.KernelNormF.nD Cert.KernelNormF.τ).loc Cert.KernelNormF.main_arg1))
      ∧ r.2.sem = fun _ => 0)

def quiescent_KernelNormFIdeal [hKernelNormFIdeal : Cert.KernelNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg), Pre_KernelNormFIdeal m →
    θ_run (Cert.KernelNormFIdeal.defs (F := Ideal)) (onTc (τ := Cert.KernelNormFIdeal.τ) (Cert.KernelNormFIdeal.main (F := Ideal))) ⟨m, fun _ => 0, g⟩ (fun r => (∀ c : Dev Cert.KernelNormFIdeal.nD,
      r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
      ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1))
      ∧ r.2.sem = fun _ => 0)

def quiescent_ReferenceNormFIdeal [hReferenceNormFIdeal : Cert.ReferenceNormFIdeal.Facts] : Prop :=
  ∀ (m : (ℓ : Loc Cert.ReferenceNormFIdeal.nD Cert.ReferenceNormFIdeal.τ Cert.ReferenceNormFIdeal.sig) → Buf (Elt Ideal) ℓ) (g : Dev Cert.ReferenceNormFIdeal.nD → PrngReg), Pre_ReferenceNormFIdeal m →
    θ_run (Cert.ReferenceNormFIdeal.defs (F := Ideal)) (onTc (τ := Cert.ReferenceNormFIdeal.τ) (Cert.ReferenceNormFIdeal.main (F := Ideal))) ⟨m, fun _ => 0, g⟩ (fun r => (∀ c : Dev Cert.ReferenceNormFIdeal.nD,
      r.2.mem ((c.tc : Thread Cert.ReferenceNormFIdeal.nD Cert.ReferenceNormFIdeal.τ).loc Cert.ReferenceNormFIdeal.main_arg0) = m ((c.tc : Thread Cert.ReferenceNormFIdeal.nD Cert.ReferenceNormFIdeal.τ).loc Cert.ReferenceNormFIdeal.main_arg0)
      ∧ r.2.mem ((c.tc : Thread Cert.ReferenceNormFIdeal.nD Cert.ReferenceNormFIdeal.τ).loc Cert.ReferenceNormFIdeal.main_arg1) = m ((c.tc : Thread Cert.ReferenceNormFIdeal.nD Cert.ReferenceNormFIdeal.τ).loc Cert.ReferenceNormFIdeal.main_arg1))
      ∧ r.2.sem = fun _ => 0)

def quiescent_KernelNormMF [hKernelNormMF : Cert.KernelNormMF.Facts] : Prop :=
  ∀ (m : (ℓ : Loc Cert.KernelNormMF.nD Cert.KernelNormMF.τ Cert.KernelNormMF.sig) → Buf (Elt Bits) ℓ) (g : Dev Cert.KernelNormMF.nD → PrngReg), Pre_KernelNormMF m →
    θ_run (Cert.KernelNormMF.defs (F := Bits)) (onTc (τ := Cert.KernelNormMF.τ) (Cert.KernelNormMF.main (F := Bits))) ⟨m, fun _ => 0, g⟩ (fun r => (∀ c : Dev Cert.KernelNormMF.nD,
      r.2.mem ((c.tc : Thread Cert.KernelNormMF.nD Cert.KernelNormMF.τ).loc Cert.KernelNormMF.main_arg0) = m ((c.tc : Thread Cert.KernelNormMF.nD Cert.KernelNormMF.τ).loc Cert.KernelNormMF.main_arg0)
      ∧ r.2.mem ((c.tc : Thread Cert.KernelNormMF.nD Cert.KernelNormMF.τ).loc Cert.KernelNormMF.main_arg1) = m ((c.tc : Thread Cert.KernelNormMF.nD Cert.KernelNormMF.τ).loc Cert.KernelNormMF.main_arg1))
      ∧ r.2.sem = fun _ => 0)

def quiescent_KernelNormMFIdeal [hKernelNormMFIdeal : Cert.KernelNormMFIdeal.Facts] : Prop :=
  ∀ (m : (ℓ : Loc Cert.KernelNormMFIdeal.nD Cert.KernelNormMFIdeal.τ Cert.KernelNormMFIdeal.sig) → Buf (Elt Ideal) ℓ) (g : Dev Cert.KernelNormMFIdeal.nD → PrngReg), Pre_KernelNormMFIdeal m →
    θ_run (Cert.KernelNormMFIdeal.defs (F := Ideal)) (onTc (τ := Cert.KernelNormMFIdeal.τ) (Cert.KernelNormMFIdeal.main (F := Ideal))) ⟨m, fun _ => 0, g⟩ (fun r => (∀ c : Dev Cert.KernelNormMFIdeal.nD,
      r.2.mem ((c.tc : Thread Cert.KernelNormMFIdeal.nD Cert.KernelNormMFIdeal.τ).loc Cert.KernelNormMFIdeal.main_arg0) = m ((c.tc : Thread Cert.KernelNormMFIdeal.nD Cert.KernelNormMFIdeal.τ).loc Cert.KernelNormMFIdeal.main_arg0)
      ∧ r.2.mem ((c.tc : Thread Cert.KernelNormMFIdeal.nD Cert.KernelNormMFIdeal.τ).loc Cert.KernelNormMFIdeal.main_arg1) = m ((c.tc : Thread Cert.KernelNormMFIdeal.nD Cert.KernelNormMFIdeal.τ).loc Cert.KernelNormMFIdeal.main_arg1))
      ∧ r.2.sem = fun _ => 0)

def quiescent_ReferenceNormMFIdeal [hReferenceNormMFIdeal : Cert.ReferenceNormMFIdeal.Facts] : Prop :=
  ∀ (m : (ℓ : Loc Cert.ReferenceNormMFIdeal.nD Cert.ReferenceNormMFIdeal.τ Cert.ReferenceNormMFIdeal.sig) → Buf (Elt Ideal) ℓ) (g : Dev Cert.ReferenceNormMFIdeal.nD → PrngReg), Pre_ReferenceNormMFIdeal m →
    θ_run (Cert.ReferenceNormMFIdeal.defs (F := Ideal)) (onTc (τ := Cert.ReferenceNormMFIdeal.τ) (Cert.ReferenceNormMFIdeal.main (F := Ideal))) ⟨m, fun _ => 0, g⟩ (fun r => (∀ c : Dev Cert.ReferenceNormMFIdeal.nD,
      r.2.mem ((c.tc : Thread Cert.ReferenceNormMFIdeal.nD Cert.ReferenceNormMFIdeal.τ).loc Cert.ReferenceNormMFIdeal.main_arg0) = m ((c.tc : Thread Cert.ReferenceNormMFIdeal.nD Cert.ReferenceNormMFIdeal.τ).loc Cert.ReferenceNormMFIdeal.main_arg0)
      ∧ r.2.mem ((c.tc : Thread Cert.ReferenceNormMFIdeal.nD Cert.ReferenceNormMFIdeal.τ).loc Cert.ReferenceNormMFIdeal.main_arg1) = m ((c.tc : Thread Cert.ReferenceNormMFIdeal.nD Cert.ReferenceNormMFIdeal.τ).loc Cert.ReferenceNormMFIdeal.main_arg1))
      ∧ r.2.sem = fun _ => 0)

def quiescent_KernelMemF [hKernelMemF : Cert.KernelMemF.Facts] : Prop :=
  ∀ (m : (ℓ : Loc Cert.KernelMemF.nD Cert.KernelMemF.τ Cert.KernelMemF.sig) → Buf (Elt Bits) ℓ) (g : Dev Cert.KernelMemF.nD → PrngReg), Pre_KernelMemF m →
    θ_run (Cert.KernelMemF.defs (F := Bits)) (onTc (τ := Cert.KernelMemF.τ) (Cert.KernelMemF.main (F := Bits))) ⟨m, fun _ => 0, g⟩ (fun r => (∀ c : Dev Cert.KernelMemF.nD,
      r.2.mem ((c.tc : Thread Cert.KernelMemF.nD Cert.KernelMemF.τ).loc Cert.KernelMemF.main_arg0) = m ((c.tc : Thread Cert.KernelMemF.nD Cert.KernelMemF.τ).loc Cert.KernelMemF.main_arg0)
      ∧ r.2.mem ((c.tc : Thread Cert.KernelMemF.nD Cert.KernelMemF.τ).loc Cert.KernelMemF.main_arg1) = m ((c.tc : Thread Cert.KernelMemF.nD Cert.KernelMemF.τ).loc Cert.KernelMemF.main_arg1)
      ∧ r.2.mem ((c.tc : Thread Cert.KernelMemF.nD Cert.KernelMemF.τ).loc Cert.KernelMemF.main_arg2) = m ((c.tc : Thread Cert.KernelMemF.nD Cert.KernelMemF.τ).loc Cert.KernelMemF.main_arg2)
      ∧ r.2.mem ((c.tc : Thread Cert.KernelMemF.nD Cert.KernelMemF.τ).loc Cert.KernelMemF.main_arg3) = m ((c.tc : Thread Cert.KernelMemF.nD Cert.KernelMemF.τ).loc Cert.KernelMemF.main_arg3))
      ∧ r.2.sem = fun _ => 0)

def quiescent_KernelMemFIdeal [hKernelMemFIdeal : Cert.KernelMemFIdeal.Facts] : Prop :=
  ∀ (m : (ℓ : Loc Cert.KernelMemFIdeal.nD Cert.KernelMemFIdeal.τ Cert.KernelMemFIdeal.sig) → Buf (Elt Ideal) ℓ) (g : Dev Cert.KernelMemFIdeal.nD → PrngReg), Pre_KernelMemFIdeal m →
    θ_run (Cert.KernelMemFIdeal.defs (F := Ideal)) (onTc (τ := Cert.KernelMemFIdeal.τ) (Cert.KernelMemFIdeal.main (F := Ideal))) ⟨m, fun _ => 0, g⟩ (fun r => (∀ c : Dev Cert.KernelMemFIdeal.nD,
      r.2.mem ((c.tc : Thread Cert.KernelMemFIdeal.nD Cert.KernelMemFIdeal.τ).loc Cert.KernelMemFIdeal.main_arg0) = m ((c.tc : Thread Cert.KernelMemFIdeal.nD Cert.KernelMemFIdeal.τ).loc Cert.KernelMemFIdeal.main_arg0)
      ∧ r.2.mem ((c.tc : Thread Cert.KernelMemFIdeal.nD Cert.KernelMemFIdeal.τ).loc Cert.KernelMemFIdeal.main_arg1) = m ((c.tc : Thread Cert.KernelMemFIdeal.nD Cert.KernelMemFIdeal.τ).loc Cert.KernelMemFIdeal.main_arg1)
      ∧ r.2.mem ((c.tc : Thread Cert.KernelMemFIdeal.nD Cert.KernelMemFIdeal.τ).loc Cert.KernelMemFIdeal.main_arg2) = m ((c.tc : Thread Cert.KernelMemFIdeal.nD Cert.KernelMemFIdeal.τ).loc Cert.KernelMemFIdeal.main_arg2)
      ∧ r.2.mem ((c.tc : Thread Cert.KernelMemFIdeal.nD Cert.KernelMemFIdeal.τ).loc Cert.KernelMemFIdeal.main_arg3) = m ((c.tc : Thread Cert.KernelMemFIdeal.nD Cert.KernelMemFIdeal.τ).loc Cert.KernelMemFIdeal.main_arg3))
      ∧ r.2.sem = fun _ => 0)

def quiescent_ReferenceMemFIdeal [hReferenceMemFIdeal : Cert.ReferenceMemFIdeal.Facts] : Prop :=
  ∀ (m : (ℓ : Loc Cert.ReferenceMemFIdeal.nD Cert.ReferenceMemFIdeal.τ Cert.ReferenceMemFIdeal.sig) → Buf (Elt Ideal) ℓ) (g : Dev Cert.ReferenceMemFIdeal.nD → PrngReg), Pre_ReferenceMemFIdeal m →
    θ_run (Cert.ReferenceMemFIdeal.defs (F := Ideal)) (onTc (τ := Cert.ReferenceMemFIdeal.τ) (Cert.ReferenceMemFIdeal.main (F := Ideal))) ⟨m, fun _ => 0, g⟩ (fun r => (∀ c : Dev Cert.ReferenceMemFIdeal.nD,
      r.2.mem ((c.tc : Thread Cert.ReferenceMemFIdeal.nD Cert.ReferenceMemFIdeal.τ).loc Cert.ReferenceMemFIdeal.main_arg0) = m ((c.tc : Thread Cert.ReferenceMemFIdeal.nD Cert.ReferenceMemFIdeal.τ).loc Cert.ReferenceMemFIdeal.main_arg0)
      ∧ r.2.mem ((c.tc : Thread Cert.ReferenceMemFIdeal.nD Cert.ReferenceMemFIdeal.τ).loc Cert.ReferenceMemFIdeal.main_arg1) = m ((c.tc : Thread Cert.ReferenceMemFIdeal.nD Cert.ReferenceMemFIdeal.τ).loc Cert.ReferenceMemFIdeal.main_arg1)
      ∧ r.2.mem ((c.tc : Thread Cert.ReferenceMemFIdeal.nD Cert.ReferenceMemFIdeal.τ).loc Cert.ReferenceMemFIdeal.main_arg2) = m ((c.tc : Thread Cert.ReferenceMemFIdeal.nD Cert.ReferenceMemFIdeal.τ).loc Cert.ReferenceMemFIdeal.main_arg2)
      ∧ r.2.mem ((c.tc : Thread Cert.ReferenceMemFIdeal.nD Cert.ReferenceMemFIdeal.τ).loc Cert.ReferenceMemFIdeal.main_arg3) = m ((c.tc : Thread Cert.ReferenceMemFIdeal.nD Cert.ReferenceMemFIdeal.τ).loc Cert.ReferenceMemFIdeal.main_arg3))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDh2_KernelDh2Ideal : Prop :=
  True

def algebraic_KernelDh2Ideal_ReferenceDh2Ideal [hKernelDh2Ideal : Cert.KernelDh2Ideal.Facts] [hReferenceDh2Ideal : Cert.ReferenceDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg)
    (m' : (ℓ : Loc Cert.ReferenceDh2Ideal.nD Cert.ReferenceDh2Ideal.τ Cert.ReferenceDh2Ideal.sig) → Buf (Elt Ideal) ℓ) (g' : Dev Cert.ReferenceDh2Ideal.nD → PrngReg), Pre_KernelDh2Ideal m →
    (∀ c : Dev Cert.KernelDh2Ideal.nD,
      m' ((c.tc : Thread Cert.ReferenceDh2Ideal.nD Cert.ReferenceDh2Ideal.τ).loc Cert.ReferenceDh2Ideal.main_arg0) = m ((c.tc : Thread Cert.KernelDh2Ideal.nD Cert.KernelDh2Ideal.τ).loc Cert.KernelDh2Ideal.main_arg0)
      ∧ m' ((c.tc : Thread Cert.ReferenceDh2Ideal.nD Cert.ReferenceDh2Ideal.τ).loc Cert.ReferenceDh2Ideal.main_arg1) = m ((c.tc : Thread Cert.KernelDh2Ideal.nD Cert.KernelDh2Ideal.τ).loc Cert.KernelDh2Ideal.main_arg1)
      ∧ m' ((c.tc : Thread Cert.ReferenceDh2Ideal.nD Cert.ReferenceDh2Ideal.τ).loc Cert.ReferenceDh2Ideal.main_arg2) = m ((c.tc : Thread Cert.KernelDh2Ideal.nD Cert.KernelDh2Ideal.τ).loc Cert.KernelDh2Ideal.main_arg2)) →
    ∃ (v0 : (c : Dev Cert.KernelDh2Ideal.nD) → Buf (Elt Ideal) ((c.tc : Thread Cert.KernelDh2Ideal.nD Cert.KernelDh2Ideal.τ).loc Cert.KernelDh2Ideal.main_v5)),
      θ_run (Cert.KernelDh2Ideal.defs (F := Ideal)) (onTc (τ := Cert.KernelDh2Ideal.τ) (Cert.KernelDh2Ideal.main (F := Ideal))) ⟨m, fun _ => 0, g⟩ (fun r => ∀ c : Dev Cert.KernelDh2Ideal.nD,
          r.2.mem ((c.tc : Thread Cert.KernelDh2Ideal.nD Cert.KernelDh2Ideal.τ).loc Cert.KernelDh2Ideal.main_v5) = v0 c
          ∧ r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
          ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
          ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2))
      ∧ θ_run (Cert.ReferenceDh2Ideal.defs (F := Ideal)) (onTc (τ := Cert.ReferenceDh2Ideal.τ) (Cert.ReferenceDh2Ideal.main (F := Ideal))) ⟨m', fun _ => 0, g'⟩ (fun r => ∀ c : Dev Cert.ReferenceDh2Ideal.nD,
          r.2.mem ((c.tc : Thread Cert.ReferenceDh2Ideal.nD Cert.ReferenceDh2Ideal.τ).loc Cert.ReferenceDh2Ideal.main_v4) = v0 c
          ∧ r.2.mem ((c.tc : Thread Cert.ReferenceDh2Ideal.nD Cert.ReferenceDh2Ideal.τ).loc Cert.ReferenceDh2Ideal.main_arg0) = m' ((c.tc : Thread Cert.ReferenceDh2Ideal.nD Cert.ReferenceDh2Ideal.τ).loc Cert.ReferenceDh2Ideal.main_arg0)
          ∧ r.2.mem ((c.tc : Thread Cert.ReferenceDh2Ideal.nD Cert.ReferenceDh2Ideal.τ).loc Cert.ReferenceDh2Ideal.main_arg1) = m' ((c.tc : Thread Cert.ReferenceDh2Ideal.nD Cert.ReferenceDh2Ideal.τ).loc Cert.ReferenceDh2Ideal.main_arg1)
          ∧ r.2.mem ((c.tc : Thread Cert.ReferenceDh2Ideal.nD Cert.ReferenceDh2Ideal.τ).loc Cert.ReferenceDh2Ideal.main_arg2) = m' ((c.tc : Thread Cert.ReferenceDh2Ideal.nD Cert.ReferenceDh2Ideal.τ).loc Cert.ReferenceDh2Ideal.main_arg2))

def preserves_KernelWUp_KernelWUpIdeal : Prop :=
  True

def algebraic_KernelWUpIdeal_ReferenceWUpIdeal [hKernelWUpIdeal : Cert.KernelWUpIdeal.Facts] [hReferenceWUpIdeal : Cert.ReferenceWUpIdeal.Facts] : Prop :=
  ∀ (m : (ℓ : Loc Cert.KernelWUpIdeal.nD Cert.KernelWUpIdeal.τ Cert.KernelWUpIdeal.sig) → Buf (Elt Ideal) ℓ) (g : Dev Cert.KernelWUpIdeal.nD → PrngReg)
    (m' : (ℓ : Loc Cert.ReferenceWUpIdeal.nD Cert.ReferenceWUpIdeal.τ Cert.ReferenceWUpIdeal.sig) → Buf (Elt Ideal) ℓ) (g' : Dev Cert.ReferenceWUpIdeal.nD → PrngReg), Pre_KernelWUpIdeal m →
    (∀ c : Dev Cert.KernelWUpIdeal.nD,
      m' ((c.tc : Thread Cert.ReferenceWUpIdeal.nD Cert.ReferenceWUpIdeal.τ).loc Cert.ReferenceWUpIdeal.main_arg0) = m ((c.tc : Thread Cert.KernelWUpIdeal.nD Cert.KernelWUpIdeal.τ).loc Cert.KernelWUpIdeal.main_arg0)
      ∧ m' ((c.tc : Thread Cert.ReferenceWUpIdeal.nD Cert.ReferenceWUpIdeal.τ).loc Cert.ReferenceWUpIdeal.main_arg1) = m ((c.tc : Thread Cert.KernelWUpIdeal.nD Cert.KernelWUpIdeal.τ).loc Cert.KernelWUpIdeal.main_arg1)) →
    ∃ (v0 : (c : Dev Cert.KernelWUpIdeal.nD) → Buf (Elt Ideal) ((c.tc : Thread Cert.KernelWUpIdeal.nD Cert.KernelWUpIdeal.τ).loc Cert.KernelWUpIdeal.main_v4)),
      θ_run (Cert.KernelWUpIdeal.defs (F := Ideal)) (onTc (τ := Cert.KernelWUpIdeal.τ) (Cert.KernelWUpIdeal.main (F := Ideal))) ⟨m, fun _ => 0, g⟩ (fun r => ∀ c : Dev Cert.KernelWUpIdeal.nD,
          r.2.mem ((c.tc : Thread Cert.KernelWUpIdeal.nD Cert.KernelWUpIdeal.τ).loc Cert.KernelWUpIdeal.main_v4) = v0 c
          ∧ r.2.mem ((c.tc : Thread Cert.KernelWUpIdeal.nD Cert.KernelWUpIdeal.τ).loc Cert.KernelWUpIdeal.main_arg0) = m ((c.tc : Thread Cert.KernelWUpIdeal.nD Cert.KernelWUpIdeal.τ).loc Cert.KernelWUpIdeal.main_arg0)
          ∧ r.2.mem ((c.tc : Thread Cert.KernelWUpIdeal.nD Cert.KernelWUpIdeal.τ).loc Cert.KernelWUpIdeal.main_arg1) = m ((c.tc : Thread Cert.KernelWUpIdeal.nD Cert.KernelWUpIdeal.τ).loc Cert.KernelWUpIdeal.main_arg1))
      ∧ θ_run (Cert.ReferenceWUpIdeal.defs (F := Ideal)) (onTc (τ := Cert.ReferenceWUpIdeal.τ) (Cert.ReferenceWUpIdeal.main (F := Ideal))) ⟨m', fun _ => 0, g'⟩ (fun r => ∀ c : Dev Cert.ReferenceWUpIdeal.nD,
          r.2.mem ((c.tc : Thread Cert.ReferenceWUpIdeal.nD Cert.ReferenceWUpIdeal.τ).loc Cert.ReferenceWUpIdeal.main_v3) = v0 c
          ∧ r.2.mem ((c.tc : Thread Cert.ReferenceWUpIdeal.nD Cert.ReferenceWUpIdeal.τ).loc Cert.ReferenceWUpIdeal.main_arg0) = m' ((c.tc : Thread Cert.ReferenceWUpIdeal.nD Cert.ReferenceWUpIdeal.τ).loc Cert.ReferenceWUpIdeal.main_arg0)
          ∧ r.2.mem ((c.tc : Thread Cert.ReferenceWUpIdeal.nD Cert.ReferenceWUpIdeal.τ).loc Cert.ReferenceWUpIdeal.main_arg1) = m' ((c.tc : Thread Cert.ReferenceWUpIdeal.nD Cert.ReferenceWUpIdeal.τ).loc Cert.ReferenceWUpIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)) →
    ∃ (v0 : (c : Dev Cert.KernelConvIdeal.nD) → Buf (Elt Ideal) ((c.tc : Thread Cert.KernelConvIdeal.nD Cert.KernelConvIdeal.τ).loc Cert.KernelConvIdeal.main_v1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v42) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1))

def preserves_KernelWDown_KernelWDownIdeal : Prop :=
  True

def algebraic_KernelWDownIdeal_ReferenceWDownIdeal [hKernelWDownIdeal : Cert.KernelWDownIdeal.Facts] [hReferenceWDownIdeal : Cert.ReferenceWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg)
    (m' : (ℓ : Loc Cert.ReferenceWDownIdeal.nD Cert.ReferenceWDownIdeal.τ Cert.ReferenceWDownIdeal.sig) → Buf (Elt Ideal) ℓ) (g' : Dev Cert.ReferenceWDownIdeal.nD → PrngReg), Pre_KernelWDownIdeal m →
    (∀ c : Dev Cert.KernelWDownIdeal.nD,
      m' ((c.tc : Thread Cert.ReferenceWDownIdeal.nD Cert.ReferenceWDownIdeal.τ).loc Cert.ReferenceWDownIdeal.main_arg0) = m ((c.tc : Thread Cert.KernelWDownIdeal.nD Cert.KernelWDownIdeal.τ).loc Cert.KernelWDownIdeal.main_arg0)
      ∧ m' ((c.tc : Thread Cert.ReferenceWDownIdeal.nD Cert.ReferenceWDownIdeal.τ).loc Cert.ReferenceWDownIdeal.main_arg1) = m ((c.tc : Thread Cert.KernelWDownIdeal.nD Cert.KernelWDownIdeal.τ).loc Cert.KernelWDownIdeal.main_arg1)) →
    ∃ (v0 : (c : Dev Cert.KernelWDownIdeal.nD) → Buf (Elt Ideal) ((c.tc : Thread Cert.KernelWDownIdeal.nD Cert.KernelWDownIdeal.τ).loc Cert.KernelWDownIdeal.main_v3)),
      θ_run (Cert.KernelWDownIdeal.defs (F := Ideal)) (onTc (τ := Cert.KernelWDownIdeal.τ) (Cert.KernelWDownIdeal.main (F := Ideal))) ⟨m, fun _ => 0, g⟩ (fun r => ∀ c : Dev Cert.KernelWDownIdeal.nD,
          r.2.mem ((c.tc : Thread Cert.KernelWDownIdeal.nD Cert.KernelWDownIdeal.τ).loc Cert.KernelWDownIdeal.main_v3) = v0 c
          ∧ r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
          ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1))
      ∧ θ_run (Cert.ReferenceWDownIdeal.defs (F := Ideal)) (onTc (τ := Cert.ReferenceWDownIdeal.τ) (Cert.ReferenceWDownIdeal.main (F := Ideal))) ⟨m', fun _ => 0, g'⟩ (fun r => ∀ c : Dev Cert.ReferenceWDownIdeal.nD,
          r.2.mem ((c.tc : Thread Cert.ReferenceWDownIdeal.nD Cert.ReferenceWDownIdeal.τ).loc Cert.ReferenceWDownIdeal.main_v3) = v0 c
          ∧ r.2.mem ((c.tc : Thread Cert.ReferenceWDownIdeal.nD Cert.ReferenceWDownIdeal.τ).loc Cert.ReferenceWDownIdeal.main_arg0) = m' ((c.tc : Thread Cert.ReferenceWDownIdeal.nD Cert.ReferenceWDownIdeal.τ).loc Cert.ReferenceWDownIdeal.main_arg0)
          ∧ r.2.mem ((c.tc : Thread Cert.ReferenceWDownIdeal.nD Cert.ReferenceWDownIdeal.τ).loc Cert.ReferenceWDownIdeal.main_arg1) = m' ((c.tc : Thread Cert.ReferenceWDownIdeal.nD Cert.ReferenceWDownIdeal.τ).loc Cert.ReferenceWDownIdeal.main_arg1))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)) →
    ∃ (v0 : (c : Dev Cert.KernelWOutIdeal.nD) → Buf (Elt Ideal) ((c.tc : Thread Cert.KernelWOutIdeal.nD Cert.KernelWOutIdeal.τ).loc Cert.KernelWOutIdeal.main_v3)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v3) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v3) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1))

def preserves_KernelWBr_KernelWBrIdeal : Prop :=
  True

def algebraic_KernelWBrIdeal_ReferenceWBrIdeal [hKernelWBrIdeal : Cert.KernelWBrIdeal.Facts] [hReferenceWBrIdeal : Cert.ReferenceWBrIdeal.Facts] : Prop :=
  ∀ (m : (ℓ : Loc Cert.KernelWBrIdeal.nD Cert.KernelWBrIdeal.τ Cert.KernelWBrIdeal.sig) → Buf (Elt Ideal) ℓ) (g : Dev Cert.KernelWBrIdeal.nD → PrngReg)
    (m' : (ℓ : Loc Cert.ReferenceWBrIdeal.nD Cert.ReferenceWBrIdeal.τ Cert.ReferenceWBrIdeal.sig) → Buf (Elt Ideal) ℓ) (g' : Dev Cert.ReferenceWBrIdeal.nD → PrngReg), Pre_KernelWBrIdeal m →
    (∀ c : Dev Cert.KernelWBrIdeal.nD,
      m' ((c.tc : Thread Cert.ReferenceWBrIdeal.nD Cert.ReferenceWBrIdeal.τ).loc Cert.ReferenceWBrIdeal.main_arg0) = m ((c.tc : Thread Cert.KernelWBrIdeal.nD Cert.KernelWBrIdeal.τ).loc Cert.KernelWBrIdeal.main_arg0)
      ∧ m' ((c.tc : Thread Cert.ReferenceWBrIdeal.nD Cert.ReferenceWBrIdeal.τ).loc Cert.ReferenceWBrIdeal.main_arg1) = m ((c.tc : Thread Cert.KernelWBrIdeal.nD Cert.KernelWBrIdeal.τ).loc Cert.KernelWBrIdeal.main_arg1)) →
    ∃ (v0 : (c : Dev Cert.KernelWBrIdeal.nD) → Buf (Elt Ideal) ((c.tc : Thread Cert.KernelWBrIdeal.nD Cert.KernelWBrIdeal.τ).loc Cert.KernelWBrIdeal.main_v4)),
      θ_run (Cert.KernelWBrIdeal.defs (F := Ideal)) (onTc (τ := Cert.KernelWBrIdeal.τ) (Cert.KernelWBrIdeal.main (F := Ideal))) ⟨m, fun _ => 0, g⟩ (fun r => ∀ c : Dev Cert.KernelWBrIdeal.nD,
          r.2.mem ((c.tc : Thread Cert.KernelWBrIdeal.nD Cert.KernelWBrIdeal.τ).loc Cert.KernelWBrIdeal.main_v4) = v0 c
          ∧ r.2.mem ((c.tc : Thread Cert.KernelWBrIdeal.nD Cert.KernelWBrIdeal.τ).loc Cert.KernelWBrIdeal.main_arg0) = m ((c.tc : Thread Cert.KernelWBrIdeal.nD Cert.KernelWBrIdeal.τ).loc Cert.KernelWBrIdeal.main_arg0)
          ∧ r.2.mem ((c.tc : Thread Cert.KernelWBrIdeal.nD Cert.KernelWBrIdeal.τ).loc Cert.KernelWBrIdeal.main_arg1) = m ((c.tc : Thread Cert.KernelWBrIdeal.nD Cert.KernelWBrIdeal.τ).loc Cert.KernelWBrIdeal.main_arg1))
      ∧ θ_run (Cert.ReferenceWBrIdeal.defs (F := Ideal)) (onTc (τ := Cert.ReferenceWBrIdeal.τ) (Cert.ReferenceWBrIdeal.main (F := Ideal))) ⟨m', fun _ => 0, g'⟩ (fun r => ∀ c : Dev Cert.ReferenceWBrIdeal.nD,
          r.2.mem ((c.tc : Thread Cert.ReferenceWBrIdeal.nD Cert.ReferenceWBrIdeal.τ).loc Cert.ReferenceWBrIdeal.main_v3) = v0 c
          ∧ r.2.mem ((c.tc : Thread Cert.ReferenceWBrIdeal.nD Cert.ReferenceWBrIdeal.τ).loc Cert.ReferenceWBrIdeal.main_arg0) = m' ((c.tc : Thread Cert.ReferenceWBrIdeal.nD Cert.ReferenceWBrIdeal.τ).loc Cert.ReferenceWBrIdeal.main_arg0)
          ∧ r.2.mem ((c.tc : Thread Cert.ReferenceWBrIdeal.nD Cert.ReferenceWBrIdeal.τ).loc Cert.ReferenceWBrIdeal.main_arg1) = m' ((c.tc : Thread Cert.ReferenceWBrIdeal.nD Cert.ReferenceWBrIdeal.τ).loc Cert.ReferenceWBrIdeal.main_arg1))

def preserves_KernelWInFox_KernelWInFoxIdeal : Prop :=
  True

def algebraic_KernelWInFoxIdeal_ReferenceWInFoxIdeal [hKernelWInFoxIdeal : Cert.KernelWInFoxIdeal.Facts] [hReferenceWInFoxIdeal : Cert.ReferenceWInFoxIdeal.Facts] : Prop :=
  ∀ (m : (ℓ : Loc Cert.KernelWInFoxIdeal.nD Cert.KernelWInFoxIdeal.τ Cert.KernelWInFoxIdeal.sig) → Buf (Elt Ideal) ℓ) (g : Dev Cert.KernelWInFoxIdeal.nD → PrngReg)
    (m' : (ℓ : Loc Cert.ReferenceWInFoxIdeal.nD Cert.ReferenceWInFoxIdeal.τ Cert.ReferenceWInFoxIdeal.sig) → Buf (Elt Ideal) ℓ) (g' : Dev Cert.ReferenceWInFoxIdeal.nD → PrngReg), Pre_KernelWInFoxIdeal m →
    (∀ c : Dev Cert.KernelWInFoxIdeal.nD,
      m' ((c.tc : Thread Cert.ReferenceWInFoxIdeal.nD Cert.ReferenceWInFoxIdeal.τ).loc Cert.ReferenceWInFoxIdeal.main_arg0) = m ((c.tc : Thread Cert.KernelWInFoxIdeal.nD Cert.KernelWInFoxIdeal.τ).loc Cert.KernelWInFoxIdeal.main_arg0)
      ∧ m' ((c.tc : Thread Cert.ReferenceWInFoxIdeal.nD Cert.ReferenceWInFoxIdeal.τ).loc Cert.ReferenceWInFoxIdeal.main_arg1) = m ((c.tc : Thread Cert.KernelWInFoxIdeal.nD Cert.KernelWInFoxIdeal.τ).loc Cert.KernelWInFoxIdeal.main_arg1)) →
    ∃ (v0 : (c : Dev Cert.KernelWInFoxIdeal.nD) → Buf (Elt Ideal) ((c.tc : Thread Cert.KernelWInFoxIdeal.nD Cert.KernelWInFoxIdeal.τ).loc Cert.KernelWInFoxIdeal.main_v4)),
      θ_run (Cert.KernelWInFoxIdeal.defs (F := Ideal)) (onTc (τ := Cert.KernelWInFoxIdeal.τ) (Cert.KernelWInFoxIdeal.main (F := Ideal))) ⟨m, fun _ => 0, g⟩ (fun r => ∀ c : Dev Cert.KernelWInFoxIdeal.nD,
          r.2.mem ((c.tc : Thread Cert.KernelWInFoxIdeal.nD Cert.KernelWInFoxIdeal.τ).loc Cert.KernelWInFoxIdeal.main_v4) = v0 c
          ∧ r.2.mem ((c.tc : Thread Cert.KernelWInFoxIdeal.nD Cert.KernelWInFoxIdeal.τ).loc Cert.KernelWInFoxIdeal.main_arg0) = m ((c.tc : Thread Cert.KernelWInFoxIdeal.nD Cert.KernelWInFoxIdeal.τ).loc Cert.KernelWInFoxIdeal.main_arg0)
          ∧ r.2.mem ((c.tc : Thread Cert.KernelWInFoxIdeal.nD Cert.KernelWInFoxIdeal.τ).loc Cert.KernelWInFoxIdeal.main_arg1) = m ((c.tc : Thread Cert.KernelWInFoxIdeal.nD Cert.KernelWInFoxIdeal.τ).loc Cert.KernelWInFoxIdeal.main_arg1))
      ∧ θ_run (Cert.ReferenceWInFoxIdeal.defs (F := Ideal)) (onTc (τ := Cert.ReferenceWInFoxIdeal.τ) (Cert.ReferenceWInFoxIdeal.main (F := Ideal))) ⟨m', fun _ => 0, g'⟩ (fun r => ∀ c : Dev Cert.ReferenceWInFoxIdeal.nD,
          r.2.mem ((c.tc : Thread Cert.ReferenceWInFoxIdeal.nD Cert.ReferenceWInFoxIdeal.τ).loc Cert.ReferenceWInFoxIdeal.main_v3) = v0 c
          ∧ r.2.mem ((c.tc : Thread Cert.ReferenceWInFoxIdeal.nD Cert.ReferenceWInFoxIdeal.τ).loc Cert.ReferenceWInFoxIdeal.main_arg0) = m' ((c.tc : Thread Cert.ReferenceWInFoxIdeal.nD Cert.ReferenceWInFoxIdeal.τ).loc Cert.ReferenceWInFoxIdeal.main_arg0)
          ∧ r.2.mem ((c.tc : Thread Cert.ReferenceWInFoxIdeal.nD Cert.ReferenceWInFoxIdeal.τ).loc Cert.ReferenceWInFoxIdeal.main_arg1) = m' ((c.tc : Thread Cert.ReferenceWInFoxIdeal.nD Cert.ReferenceWInFoxIdeal.τ).loc Cert.ReferenceWInFoxIdeal.main_arg1))

def preserves_KernelWInMq_KernelWInMqIdeal : Prop :=
  True

def algebraic_KernelWInMqIdeal_ReferenceWInMqIdeal [hKernelWInMqIdeal : Cert.KernelWInMqIdeal.Facts] [hReferenceWInMqIdeal : Cert.ReferenceWInMqIdeal.Facts] : Prop :=
  ∀ (m : (ℓ : Loc Cert.KernelWInMqIdeal.nD Cert.KernelWInMqIdeal.τ Cert.KernelWInMqIdeal.sig) → Buf (Elt Ideal) ℓ) (g : Dev Cert.KernelWInMqIdeal.nD → PrngReg)
    (m' : (ℓ : Loc Cert.ReferenceWInMqIdeal.nD Cert.ReferenceWInMqIdeal.τ Cert.ReferenceWInMqIdeal.sig) → Buf (Elt Ideal) ℓ) (g' : Dev Cert.ReferenceWInMqIdeal.nD → PrngReg), Pre_KernelWInMqIdeal m →
    (∀ c : Dev Cert.KernelWInMqIdeal.nD,
      m' ((c.tc : Thread Cert.ReferenceWInMqIdeal.nD Cert.ReferenceWInMqIdeal.τ).loc Cert.ReferenceWInMqIdeal.main_arg0) = m ((c.tc : Thread Cert.KernelWInMqIdeal.nD Cert.KernelWInMqIdeal.τ).loc Cert.KernelWInMqIdeal.main_arg0)
      ∧ m' ((c.tc : Thread Cert.ReferenceWInMqIdeal.nD Cert.ReferenceWInMqIdeal.τ).loc Cert.ReferenceWInMqIdeal.main_arg1) = m ((c.tc : Thread Cert.KernelWInMqIdeal.nD Cert.KernelWInMqIdeal.τ).loc Cert.KernelWInMqIdeal.main_arg1)) →
    ∃ (v0 : (c : Dev Cert.KernelWInMqIdeal.nD) → Buf (Elt Ideal) ((c.tc : Thread Cert.KernelWInMqIdeal.nD Cert.KernelWInMqIdeal.τ).loc Cert.KernelWInMqIdeal.main_v4)),
      θ_run (Cert.KernelWInMqIdeal.defs (F := Ideal)) (onTc (τ := Cert.KernelWInMqIdeal.τ) (Cert.KernelWInMqIdeal.main (F := Ideal))) ⟨m, fun _ => 0, g⟩ (fun r => ∀ c : Dev Cert.KernelWInMqIdeal.nD,
          r.2.mem ((c.tc : Thread Cert.KernelWInMqIdeal.nD Cert.KernelWInMqIdeal.τ).loc Cert.KernelWInMqIdeal.main_v4) = v0 c
          ∧ r.2.mem ((c.tc : Thread Cert.KernelWInMqIdeal.nD Cert.KernelWInMqIdeal.τ).loc Cert.KernelWInMqIdeal.main_arg0) = m ((c.tc : Thread Cert.KernelWInMqIdeal.nD Cert.KernelWInMqIdeal.τ).loc Cert.KernelWInMqIdeal.main_arg0)
          ∧ r.2.mem ((c.tc : Thread Cert.KernelWInMqIdeal.nD Cert.KernelWInMqIdeal.τ).loc Cert.KernelWInMqIdeal.main_arg1) = m ((c.tc : Thread Cert.KernelWInMqIdeal.nD Cert.KernelWInMqIdeal.τ).loc Cert.KernelWInMqIdeal.main_arg1))
      ∧ θ_run (Cert.ReferenceWInMqIdeal.defs (F := Ideal)) (onTc (τ := Cert.ReferenceWInMqIdeal.τ) (Cert.ReferenceWInMqIdeal.main (F := Ideal))) ⟨m', fun _ => 0, g'⟩ (fun r => ∀ c : Dev Cert.ReferenceWInMqIdeal.nD,
          r.2.mem ((c.tc : Thread Cert.ReferenceWInMqIdeal.nD Cert.ReferenceWInMqIdeal.τ).loc Cert.ReferenceWInMqIdeal.main_v3) = v0 c
          ∧ r.2.mem ((c.tc : Thread Cert.ReferenceWInMqIdeal.nD Cert.ReferenceWInMqIdeal.τ).loc Cert.ReferenceWInMqIdeal.main_arg0) = m' ((c.tc : Thread Cert.ReferenceWInMqIdeal.nD Cert.ReferenceWInMqIdeal.τ).loc Cert.ReferenceWInMqIdeal.main_arg0)
          ∧ r.2.mem ((c.tc : Thread Cert.ReferenceWInMqIdeal.nD Cert.ReferenceWInMqIdeal.τ).loc Cert.ReferenceWInMqIdeal.main_arg1) = m' ((c.tc : Thread Cert.ReferenceWInMqIdeal.nD Cert.ReferenceWInMqIdeal.τ).loc Cert.ReferenceWInMqIdeal.main_arg1))

def preserves_KernelWInHg_KernelWInHgIdeal : Prop :=
  True

def algebraic_KernelWInHgIdeal_ReferenceWInHgIdeal [hKernelWInHgIdeal : Cert.KernelWInHgIdeal.Facts] [hReferenceWInHgIdeal : Cert.ReferenceWInHgIdeal.Facts] : Prop :=
  ∀ (m : (ℓ : Loc Cert.KernelWInHgIdeal.nD Cert.KernelWInHgIdeal.τ Cert.KernelWInHgIdeal.sig) → Buf (Elt Ideal) ℓ) (g : Dev Cert.KernelWInHgIdeal.nD → PrngReg)
    (m' : (ℓ : Loc Cert.ReferenceWInHgIdeal.nD Cert.ReferenceWInHgIdeal.τ Cert.ReferenceWInHgIdeal.sig) → Buf (Elt Ideal) ℓ) (g' : Dev Cert.ReferenceWInHgIdeal.nD → PrngReg), Pre_KernelWInHgIdeal m →
    (∀ c : Dev Cert.KernelWInHgIdeal.nD,
      m' ((c.tc : Thread Cert.ReferenceWInHgIdeal.nD Cert.ReferenceWInHgIdeal.τ).loc Cert.ReferenceWInHgIdeal.main_arg0) = m ((c.tc : Thread Cert.KernelWInHgIdeal.nD Cert.KernelWInHgIdeal.τ).loc Cert.KernelWInHgIdeal.main_arg0)
      ∧ m' ((c.tc : Thread Cert.ReferenceWInHgIdeal.nD Cert.ReferenceWInHgIdeal.τ).loc Cert.ReferenceWInHgIdeal.main_arg1) = m ((c.tc : Thread Cert.KernelWInHgIdeal.nD Cert.KernelWInHgIdeal.τ).loc Cert.KernelWInHgIdeal.main_arg1)) →
    ∃ (v0 : (c : Dev Cert.KernelWInHgIdeal.nD) → Buf (Elt Ideal) ((c.tc : Thread Cert.KernelWInHgIdeal.nD Cert.KernelWInHgIdeal.τ).loc Cert.KernelWInHgIdeal.main_v4)),
      θ_run (Cert.KernelWInHgIdeal.defs (F := Ideal)) (onTc (τ := Cert.KernelWInHgIdeal.τ) (Cert.KernelWInHgIdeal.main (F := Ideal))) ⟨m, fun _ => 0, g⟩ (fun r => ∀ c : Dev Cert.KernelWInHgIdeal.nD,
          r.2.mem ((c.tc : Thread Cert.KernelWInHgIdeal.nD Cert.KernelWInHgIdeal.τ).loc Cert.KernelWInHgIdeal.main_v4) = v0 c
          ∧ r.2.mem ((c.tc : Thread Cert.KernelWInHgIdeal.nD Cert.KernelWInHgIdeal.τ).loc Cert.KernelWInHgIdeal.main_arg0) = m ((c.tc : Thread Cert.KernelWInHgIdeal.nD Cert.KernelWInHgIdeal.τ).loc Cert.KernelWInHgIdeal.main_arg0)
          ∧ r.2.mem ((c.tc : Thread Cert.KernelWInHgIdeal.nD Cert.KernelWInHgIdeal.τ).loc Cert.KernelWInHgIdeal.main_arg1) = m ((c.tc : Thread Cert.KernelWInHgIdeal.nD Cert.KernelWInHgIdeal.τ).loc Cert.KernelWInHgIdeal.main_arg1))
      ∧ θ_run (Cert.ReferenceWInHgIdeal.defs (F := Ideal)) (onTc (τ := Cert.ReferenceWInHgIdeal.τ) (Cert.ReferenceWInHgIdeal.main (F := Ideal))) ⟨m', fun _ => 0, g'⟩ (fun r => ∀ c : Dev Cert.ReferenceWInHgIdeal.nD,
          r.2.mem ((c.tc : Thread Cert.ReferenceWInHgIdeal.nD Cert.ReferenceWInHgIdeal.τ).loc Cert.ReferenceWInHgIdeal.main_v3) = v0 c
          ∧ r.2.mem ((c.tc : Thread Cert.ReferenceWInHgIdeal.nD Cert.ReferenceWInHgIdeal.τ).loc Cert.ReferenceWInHgIdeal.main_arg0) = m' ((c.tc : Thread Cert.ReferenceWInHgIdeal.nD Cert.ReferenceWInHgIdeal.τ).loc Cert.ReferenceWInHgIdeal.main_arg0)
          ∧ r.2.mem ((c.tc : Thread Cert.ReferenceWInHgIdeal.nD Cert.ReferenceWInHgIdeal.τ).loc Cert.ReferenceWInHgIdeal.main_arg1) = m' ((c.tc : Thread Cert.ReferenceWInHgIdeal.nD Cert.ReferenceWInHgIdeal.τ).loc Cert.ReferenceWInHgIdeal.main_arg1))

def preserves_KernelWInGate_KernelWInGateIdeal : Prop :=
  True

def algebraic_KernelWInGateIdeal_ReferenceWInGateIdeal [hKernelWInGateIdeal : Cert.KernelWInGateIdeal.Facts] [hReferenceWInGateIdeal : Cert.ReferenceWInGateIdeal.Facts] : Prop :=
  ∀ (m : (ℓ : Loc Cert.KernelWInGateIdeal.nD Cert.KernelWInGateIdeal.τ Cert.KernelWInGateIdeal.sig) → Buf (Elt Ideal) ℓ) (g : Dev Cert.KernelWInGateIdeal.nD → PrngReg)
    (m' : (ℓ : Loc Cert.ReferenceWInGateIdeal.nD Cert.ReferenceWInGateIdeal.τ Cert.ReferenceWInGateIdeal.sig) → Buf (Elt Ideal) ℓ) (g' : Dev Cert.ReferenceWInGateIdeal.nD → PrngReg), Pre_KernelWInGateIdeal m →
    (∀ c : Dev Cert.KernelWInGateIdeal.nD,
      m' ((c.tc : Thread Cert.ReferenceWInGateIdeal.nD Cert.ReferenceWInGateIdeal.τ).loc Cert.ReferenceWInGateIdeal.main_arg0) = m ((c.tc : Thread Cert.KernelWInGateIdeal.nD Cert.KernelWInGateIdeal.τ).loc Cert.KernelWInGateIdeal.main_arg0)
      ∧ m' ((c.tc : Thread Cert.ReferenceWInGateIdeal.nD Cert.ReferenceWInGateIdeal.τ).loc Cert.ReferenceWInGateIdeal.main_arg1) = m ((c.tc : Thread Cert.KernelWInGateIdeal.nD Cert.KernelWInGateIdeal.τ).loc Cert.KernelWInGateIdeal.main_arg1)) →
    ∃ (v0 : (c : Dev Cert.KernelWInGateIdeal.nD) → Buf (Elt Ideal) ((c.tc : Thread Cert.KernelWInGateIdeal.nD Cert.KernelWInGateIdeal.τ).loc Cert.KernelWInGateIdeal.main_v4)),
      θ_run (Cert.KernelWInGateIdeal.defs (F := Ideal)) (onTc (τ := Cert.KernelWInGateIdeal.τ) (Cert.KernelWInGateIdeal.main (F := Ideal))) ⟨m, fun _ => 0, g⟩ (fun r => ∀ c : Dev Cert.KernelWInGateIdeal.nD,
          r.2.mem ((c.tc : Thread Cert.KernelWInGateIdeal.nD Cert.KernelWInGateIdeal.τ).loc Cert.KernelWInGateIdeal.main_v4) = v0 c
          ∧ r.2.mem ((c.tc : Thread Cert.KernelWInGateIdeal.nD Cert.KernelWInGateIdeal.τ).loc Cert.KernelWInGateIdeal.main_arg0) = m ((c.tc : Thread Cert.KernelWInGateIdeal.nD Cert.KernelWInGateIdeal.τ).loc Cert.KernelWInGateIdeal.main_arg0)
          ∧ r.2.mem ((c.tc : Thread Cert.KernelWInGateIdeal.nD Cert.KernelWInGateIdeal.τ).loc Cert.KernelWInGateIdeal.main_arg1) = m ((c.tc : Thread Cert.KernelWInGateIdeal.nD Cert.KernelWInGateIdeal.τ).loc Cert.KernelWInGateIdeal.main_arg1))
      ∧ θ_run (Cert.ReferenceWInGateIdeal.defs (F := Ideal)) (onTc (τ := Cert.ReferenceWInGateIdeal.τ) (Cert.ReferenceWInGateIdeal.main (F := Ideal))) ⟨m', fun _ => 0, g'⟩ (fun r => ∀ c : Dev Cert.ReferenceWInGateIdeal.nD,
          r.2.mem ((c.tc : Thread Cert.ReferenceWInGateIdeal.nD Cert.ReferenceWInGateIdeal.τ).loc Cert.ReferenceWInGateIdeal.main_v3) = v0 c
          ∧ r.2.mem ((c.tc : Thread Cert.ReferenceWInGateIdeal.nD Cert.ReferenceWInGateIdeal.τ).loc Cert.ReferenceWInGateIdeal.main_arg0) = m' ((c.tc : Thread Cert.ReferenceWInGateIdeal.nD Cert.ReferenceWInGateIdeal.τ).loc Cert.ReferenceWInGateIdeal.main_arg0)
          ∧ r.2.mem ((c.tc : Thread Cert.ReferenceWInGateIdeal.nD Cert.ReferenceWInGateIdeal.τ).loc Cert.ReferenceWInGateIdeal.main_arg1) = m' ((c.tc : Thread Cert.ReferenceWInGateIdeal.nD Cert.ReferenceWInGateIdeal.τ).loc Cert.ReferenceWInGateIdeal.main_arg1))

def preserves_KernelWInFf_KernelWInFfIdeal : Prop :=
  True

def algebraic_KernelWInFfIdeal_ReferenceWInFfIdeal [hKernelWInFfIdeal : Cert.KernelWInFfIdeal.Facts] [hReferenceWInFfIdeal : Cert.ReferenceWInFfIdeal.Facts] : Prop :=
  ∀ (m : (ℓ : Loc Cert.KernelWInFfIdeal.nD Cert.KernelWInFfIdeal.τ Cert.KernelWInFfIdeal.sig) → Buf (Elt Ideal) ℓ) (g : Dev Cert.KernelWInFfIdeal.nD → PrngReg)
    (m' : (ℓ : Loc Cert.ReferenceWInFfIdeal.nD Cert.ReferenceWInFfIdeal.τ Cert.ReferenceWInFfIdeal.sig) → Buf (Elt Ideal) ℓ) (g' : Dev Cert.ReferenceWInFfIdeal.nD → PrngReg), Pre_KernelWInFfIdeal m →
    (∀ c : Dev Cert.KernelWInFfIdeal.nD,
      m' ((c.tc : Thread Cert.ReferenceWInFfIdeal.nD Cert.ReferenceWInFfIdeal.τ).loc Cert.ReferenceWInFfIdeal.main_arg0) = m ((c.tc : Thread Cert.KernelWInFfIdeal.nD Cert.KernelWInFfIdeal.τ).loc Cert.KernelWInFfIdeal.main_arg0)
      ∧ m' ((c.tc : Thread Cert.ReferenceWInFfIdeal.nD Cert.ReferenceWInFfIdeal.τ).loc Cert.ReferenceWInFfIdeal.main_arg1) = m ((c.tc : Thread Cert.KernelWInFfIdeal.nD Cert.KernelWInFfIdeal.τ).loc Cert.KernelWInFfIdeal.main_arg1)) →
    ∃ (v0 : (c : Dev Cert.KernelWInFfIdeal.nD) → Buf (Elt Ideal) ((c.tc : Thread Cert.KernelWInFfIdeal.nD Cert.KernelWInFfIdeal.τ).loc Cert.KernelWInFfIdeal.main_v4)),
      θ_run (Cert.KernelWInFfIdeal.defs (F := Ideal)) (onTc (τ := Cert.KernelWInFfIdeal.τ) (Cert.KernelWInFfIdeal.main (F := Ideal))) ⟨m, fun _ => 0, g⟩ (fun r => ∀ c : Dev Cert.KernelWInFfIdeal.nD,
          r.2.mem ((c.tc : Thread Cert.KernelWInFfIdeal.nD Cert.KernelWInFfIdeal.τ).loc Cert.KernelWInFfIdeal.main_v4) = v0 c
          ∧ r.2.mem ((c.tc : Thread Cert.KernelWInFfIdeal.nD Cert.KernelWInFfIdeal.τ).loc Cert.KernelWInFfIdeal.main_arg0) = m ((c.tc : Thread Cert.KernelWInFfIdeal.nD Cert.KernelWInFfIdeal.τ).loc Cert.KernelWInFfIdeal.main_arg0)
          ∧ r.2.mem ((c.tc : Thread Cert.KernelWInFfIdeal.nD Cert.KernelWInFfIdeal.τ).loc Cert.KernelWInFfIdeal.main_arg1) = m ((c.tc : Thread Cert.KernelWInFfIdeal.nD Cert.KernelWInFfIdeal.τ).loc Cert.KernelWInFfIdeal.main_arg1))
      ∧ θ_run (Cert.ReferenceWInFfIdeal.defs (F := Ideal)) (onTc (τ := Cert.ReferenceWInFfIdeal.τ) (Cert.ReferenceWInFfIdeal.main (F := Ideal))) ⟨m', fun _ => 0, g'⟩ (fun r => ∀ c : Dev Cert.ReferenceWInFfIdeal.nD,
          r.2.mem ((c.tc : Thread Cert.ReferenceWInFfIdeal.nD Cert.ReferenceWInFfIdeal.τ).loc Cert.ReferenceWInFfIdeal.main_v3) = v0 c
          ∧ r.2.mem ((c.tc : Thread Cert.ReferenceWInFfIdeal.nD Cert.ReferenceWInFfIdeal.τ).loc Cert.ReferenceWInFfIdeal.main_arg0) = m' ((c.tc : Thread Cert.ReferenceWInFfIdeal.nD Cert.ReferenceWInFfIdeal.τ).loc Cert.ReferenceWInFfIdeal.main_arg0)
          ∧ r.2.mem ((c.tc : Thread Cert.ReferenceWInFfIdeal.nD Cert.ReferenceWInFfIdeal.τ).loc Cert.ReferenceWInFfIdeal.main_arg1) = m' ((c.tc : Thread Cert.ReferenceWInFfIdeal.nD Cert.ReferenceWInFfIdeal.τ).loc Cert.ReferenceWInFfIdeal.main_arg1))

def preserves_KernelProjIn_KernelProjInIdeal : Prop :=
  True

def algebraic_KernelProjInIdeal_ReferenceProjInIdeal [hKernelProjInIdeal : Cert.KernelProjInIdeal.Facts] [hReferenceProjInIdeal : Cert.ReferenceProjInIdeal.Facts] : Prop :=
  ∀ (m : (ℓ : Loc Cert.KernelProjInIdeal.nD Cert.KernelProjInIdeal.τ Cert.KernelProjInIdeal.sig) → Buf (Elt Ideal) ℓ) (g : Dev Cert.KernelProjInIdeal.nD → PrngReg)
    (m' : (ℓ : Loc Cert.ReferenceProjInIdeal.nD Cert.ReferenceProjInIdeal.τ Cert.ReferenceProjInIdeal.sig) → Buf (Elt Ideal) ℓ) (g' : Dev Cert.ReferenceProjInIdeal.nD → PrngReg), Pre_KernelProjInIdeal m →
    (∀ c : Dev Cert.KernelProjInIdeal.nD,
      m' ((c.tc : Thread Cert.ReferenceProjInIdeal.nD Cert.ReferenceProjInIdeal.τ).loc Cert.ReferenceProjInIdeal.main_arg0) = m ((c.tc : Thread Cert.KernelProjInIdeal.nD Cert.KernelProjInIdeal.τ).loc Cert.KernelProjInIdeal.main_arg0)
      ∧ m' ((c.tc : Thread Cert.ReferenceProjInIdeal.nD Cert.ReferenceProjInIdeal.τ).loc Cert.ReferenceProjInIdeal.main_arg1) = m ((c.tc : Thread Cert.KernelProjInIdeal.nD Cert.KernelProjInIdeal.τ).loc Cert.KernelProjInIdeal.main_arg1)) →
    ∃ (v0 : (c : Dev Cert.KernelProjInIdeal.nD) → Buf (Elt Ideal) ((c.tc : Thread Cert.KernelProjInIdeal.nD Cert.KernelProjInIdeal.τ).loc Cert.KernelProjInIdeal.main_v3)),
      θ_run (Cert.KernelProjInIdeal.defs (F := Ideal)) (onTc (τ := Cert.KernelProjInIdeal.τ) (Cert.KernelProjInIdeal.main (F := Ideal))) ⟨m, fun _ => 0, g⟩ (fun r => ∀ c : Dev Cert.KernelProjInIdeal.nD,
          r.2.mem ((c.tc : Thread Cert.KernelProjInIdeal.nD Cert.KernelProjInIdeal.τ).loc Cert.KernelProjInIdeal.main_v3) = v0 c
          ∧ r.2.mem ((c.tc : Thread Cert.KernelProjInIdeal.nD Cert.KernelProjInIdeal.τ).loc Cert.KernelProjInIdeal.main_arg0) = m ((c.tc : Thread Cert.KernelProjInIdeal.nD Cert.KernelProjInIdeal.τ).loc Cert.KernelProjInIdeal.main_arg0)
          ∧ r.2.mem ((c.tc : Thread Cert.KernelProjInIdeal.nD Cert.KernelProjInIdeal.τ).loc Cert.KernelProjInIdeal.main_arg1) = m ((c.tc : Thread Cert.KernelProjInIdeal.nD Cert.KernelProjInIdeal.τ).loc Cert.KernelProjInIdeal.main_arg1))
      ∧ θ_run (Cert.ReferenceProjInIdeal.defs (F := Ideal)) (onTc (τ := Cert.ReferenceProjInIdeal.τ) (Cert.ReferenceProjInIdeal.main (F := Ideal))) ⟨m', fun _ => 0, g'⟩ (fun r => ∀ c : Dev Cert.ReferenceProjInIdeal.nD,
          r.2.mem ((c.tc : Thread Cert.ReferenceProjInIdeal.nD Cert.ReferenceProjInIdeal.τ).loc Cert.ReferenceProjInIdeal.main_v2) = v0 c
          ∧ r.2.mem ((c.tc : Thread Cert.ReferenceProjInIdeal.nD Cert.ReferenceProjInIdeal.τ).loc Cert.ReferenceProjInIdeal.main_arg0) = m' ((c.tc : Thread Cert.ReferenceProjInIdeal.nD Cert.ReferenceProjInIdeal.τ).loc Cert.ReferenceProjInIdeal.main_arg0)
          ∧ r.2.mem ((c.tc : Thread Cert.ReferenceProjInIdeal.nD Cert.ReferenceProjInIdeal.τ).loc Cert.ReferenceProjInIdeal.main_arg1) = m' ((c.tc : Thread Cert.ReferenceProjInIdeal.nD Cert.ReferenceProjInIdeal.τ).loc Cert.ReferenceProjInIdeal.main_arg1))

def preserves_KernelFfnUp_KernelFfnUpIdeal : Prop :=
  True

def algebraic_KernelFfnUpIdeal_ReferenceFfnUpIdeal [hKernelFfnUpIdeal : Cert.KernelFfnUpIdeal.Facts] [hReferenceFfnUpIdeal : Cert.ReferenceFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg)
    (m' : (ℓ : Loc Cert.ReferenceFfnUpIdeal.nD Cert.ReferenceFfnUpIdeal.τ Cert.ReferenceFfnUpIdeal.sig) → Buf (Elt Ideal) ℓ) (g' : Dev Cert.ReferenceFfnUpIdeal.nD → PrngReg), Pre_KernelFfnUpIdeal m →
    (∀ c : Dev Cert.KernelFfnUpIdeal.nD,
      m' ((c.tc : Thread Cert.ReferenceFfnUpIdeal.nD Cert.ReferenceFfnUpIdeal.τ).loc Cert.ReferenceFfnUpIdeal.main_arg0) = m ((c.tc : Thread Cert.KernelFfnUpIdeal.nD Cert.KernelFfnUpIdeal.τ).loc Cert.KernelFfnUpIdeal.main_arg0)
      ∧ m' ((c.tc : Thread Cert.ReferenceFfnUpIdeal.nD Cert.ReferenceFfnUpIdeal.τ).loc Cert.ReferenceFfnUpIdeal.main_arg1) = m ((c.tc : Thread Cert.KernelFfnUpIdeal.nD Cert.KernelFfnUpIdeal.τ).loc Cert.KernelFfnUpIdeal.main_arg1)) →
    ∃ (v0 : (c : Dev Cert.KernelFfnUpIdeal.nD) → Buf (Elt Ideal) ((c.tc : Thread Cert.KernelFfnUpIdeal.nD Cert.KernelFfnUpIdeal.τ).loc Cert.KernelFfnUpIdeal.main_v3)),
      θ_run (Cert.KernelFfnUpIdeal.defs (F := Ideal)) (onTc (τ := Cert.KernelFfnUpIdeal.τ) (Cert.KernelFfnUpIdeal.main (F := Ideal))) ⟨m, fun _ => 0, g⟩ (fun r => ∀ c : Dev Cert.KernelFfnUpIdeal.nD,
          r.2.mem ((c.tc : Thread Cert.KernelFfnUpIdeal.nD Cert.KernelFfnUpIdeal.τ).loc Cert.KernelFfnUpIdeal.main_v3) = v0 c
          ∧ r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
          ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1))
      ∧ θ_run (Cert.ReferenceFfnUpIdeal.defs (F := Ideal)) (onTc (τ := Cert.ReferenceFfnUpIdeal.τ) (Cert.ReferenceFfnUpIdeal.main (F := Ideal))) ⟨m', fun _ => 0, g'⟩ (fun r => ∀ c : Dev Cert.ReferenceFfnUpIdeal.nD,
          r.2.mem ((c.tc : Thread Cert.ReferenceFfnUpIdeal.nD Cert.ReferenceFfnUpIdeal.τ).loc Cert.ReferenceFfnUpIdeal.main_v2) = v0 c
          ∧ r.2.mem ((c.tc : Thread Cert.ReferenceFfnUpIdeal.nD Cert.ReferenceFfnUpIdeal.τ).loc Cert.ReferenceFfnUpIdeal.main_arg0) = m' ((c.tc : Thread Cert.ReferenceFfnUpIdeal.nD Cert.ReferenceFfnUpIdeal.τ).loc Cert.ReferenceFfnUpIdeal.main_arg0)
          ∧ r.2.mem ((c.tc : Thread Cert.ReferenceFfnUpIdeal.nD Cert.ReferenceFfnUpIdeal.τ).loc Cert.ReferenceFfnUpIdeal.main_arg1) = m' ((c.tc : Thread Cert.ReferenceFfnUpIdeal.nD Cert.ReferenceFfnUpIdeal.τ).loc Cert.ReferenceFfnUpIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)
      ∧ m' ((c.tc : Thread Cert.ReferenceDhIdeal.nD Cert.ReferenceDhIdeal.τ).loc Cert.ReferenceDhIdeal.main_arg5) = m ((c.tc : Thread Cert.KernelDhIdeal.nD Cert.KernelDhIdeal.τ).loc Cert.KernelDhIdeal.main_arg5)) →
    ∃ (v0 : (c : Dev Cert.KernelDhIdeal.nD) → Buf (Elt Ideal) ((c.tc : Thread Cert.KernelDhIdeal.nD Cert.KernelDhIdeal.τ).loc Cert.KernelDhIdeal.main_v11)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v11) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
          ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v4) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4)
          ∧ r.2.mem ((c.tc : Thread Cert.ReferenceDhIdeal.nD Cert.ReferenceDhIdeal.τ).loc Cert.ReferenceDhIdeal.main_arg5) = m' ((c.tc : Thread Cert.ReferenceDhIdeal.nD Cert.ReferenceDhIdeal.τ).loc Cert.ReferenceDhIdeal.main_arg5))

def preserves_KernelMergeB_KernelMergeBIdeal : Prop :=
  True

def algebraic_KernelMergeBIdeal_ReferenceMergeBIdeal [hKernelMergeBIdeal : Cert.KernelMergeBIdeal.Facts] [hReferenceMergeBIdeal : Cert.ReferenceMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg)
    (m' : (ℓ : Loc Cert.ReferenceMergeBIdeal.nD Cert.ReferenceMergeBIdeal.τ Cert.ReferenceMergeBIdeal.sig) → Buf (Elt Ideal) ℓ) (g' : Dev Cert.ReferenceMergeBIdeal.nD → PrngReg), Pre_KernelMergeBIdeal m →
    (∀ c : Dev Cert.KernelMergeBIdeal.nD,
      m' ((c.tc : Thread Cert.ReferenceMergeBIdeal.nD Cert.ReferenceMergeBIdeal.τ).loc Cert.ReferenceMergeBIdeal.main_arg0) = m ((c.tc : Thread Cert.KernelMergeBIdeal.nD Cert.KernelMergeBIdeal.τ).loc Cert.KernelMergeBIdeal.main_arg0)
      ∧ m' ((c.tc : Thread Cert.ReferenceMergeBIdeal.nD Cert.ReferenceMergeBIdeal.τ).loc Cert.ReferenceMergeBIdeal.main_arg1) = m ((c.tc : Thread Cert.KernelMergeBIdeal.nD Cert.KernelMergeBIdeal.τ).loc Cert.KernelMergeBIdeal.main_arg1)
      ∧ m' ((c.tc : Thread Cert.ReferenceMergeBIdeal.nD Cert.ReferenceMergeBIdeal.τ).loc Cert.ReferenceMergeBIdeal.main_arg2) = m ((c.tc : Thread Cert.KernelMergeBIdeal.nD Cert.KernelMergeBIdeal.τ).loc Cert.KernelMergeBIdeal.main_arg2)
      ∧ m' ((c.tc : Thread Cert.ReferenceMergeBIdeal.nD Cert.ReferenceMergeBIdeal.τ).loc Cert.ReferenceMergeBIdeal.main_arg3) = m ((c.tc : Thread Cert.KernelMergeBIdeal.nD Cert.KernelMergeBIdeal.τ).loc Cert.KernelMergeBIdeal.main_arg3)
      ∧ m' ((c.tc : Thread Cert.ReferenceMergeBIdeal.nD Cert.ReferenceMergeBIdeal.τ).loc Cert.ReferenceMergeBIdeal.main_arg4) = m ((c.tc : Thread Cert.KernelMergeBIdeal.nD Cert.KernelMergeBIdeal.τ).loc Cert.KernelMergeBIdeal.main_arg4)
      ∧ m' ((c.tc : Thread Cert.ReferenceMergeBIdeal.nD Cert.ReferenceMergeBIdeal.τ).loc Cert.ReferenceMergeBIdeal.main_arg5) = m ((c.tc : Thread Cert.KernelMergeBIdeal.nD Cert.KernelMergeBIdeal.τ).loc Cert.KernelMergeBIdeal.main_arg5)
      ∧ m' ((c.tc : Thread Cert.ReferenceMergeBIdeal.nD Cert.ReferenceMergeBIdeal.τ).loc Cert.ReferenceMergeBIdeal.main_arg6) = m ((c.tc : Thread Cert.KernelMergeBIdeal.nD Cert.KernelMergeBIdeal.τ).loc Cert.KernelMergeBIdeal.main_arg6)
      ∧ m' ((c.tc : Thread Cert.ReferenceMergeBIdeal.nD Cert.ReferenceMergeBIdeal.τ).loc Cert.ReferenceMergeBIdeal.main_arg7) = m ((c.tc : Thread Cert.KernelMergeBIdeal.nD Cert.KernelMergeBIdeal.τ).loc Cert.KernelMergeBIdeal.main_arg7)
      ∧ m' ((c.tc : Thread Cert.ReferenceMergeBIdeal.nD Cert.ReferenceMergeBIdeal.τ).loc Cert.ReferenceMergeBIdeal.main_arg8) = m ((c.tc : Thread Cert.KernelMergeBIdeal.nD Cert.KernelMergeBIdeal.τ).loc Cert.KernelMergeBIdeal.main_arg8)) →
    ∃ (v0 : (c : Dev Cert.KernelMergeBIdeal.nD) → Buf (Elt Ideal) ((c.tc : Thread Cert.KernelMergeBIdeal.nD Cert.KernelMergeBIdeal.τ).loc Cert.KernelMergeBIdeal.main_v19_0)) (v1 : (c : Dev Cert.KernelMergeBIdeal.nD) → Buf (Elt Ideal) ((c.tc : Thread Cert.KernelMergeBIdeal.nD Cert.KernelMergeBIdeal.τ).loc Cert.KernelMergeBIdeal.main_v19_1)) (v2 : (c : Dev Cert.KernelMergeBIdeal.nD) → Buf (Elt Ideal) ((c.tc : Thread Cert.KernelMergeBIdeal.nD Cert.KernelMergeBIdeal.τ).loc Cert.KernelMergeBIdeal.main_v19_2)) (v3 : (c : Dev Cert.KernelMergeBIdeal.nD) → Buf (Elt Ideal) ((c.tc : Thread Cert.KernelMergeBIdeal.nD Cert.KernelMergeBIdeal.τ).loc Cert.KernelMergeBIdeal.main_v19_3)) (v4 : (c : Dev Cert.KernelMergeBIdeal.nD) → Buf (Elt Ideal) ((c.tc : Thread Cert.KernelMergeBIdeal.nD Cert.KernelMergeBIdeal.τ).loc Cert.KernelMergeBIdeal.main_v19_4)) (v5 : (c : Dev Cert.KernelMergeBIdeal.nD) → Buf (Elt Ideal) ((c.tc : Thread Cert.KernelMergeBIdeal.nD Cert.KernelMergeBIdeal.τ).loc Cert.KernelMergeBIdeal.main_v19_5)) (v6 : (c : Dev Cert.KernelMergeBIdeal.nD) → Buf (Elt Ideal) ((c.tc : Thread Cert.KernelMergeBIdeal.nD Cert.KernelMergeBIdeal.τ).loc Cert.KernelMergeBIdeal.main_v19_6)),
      θ_run (Cert.KernelMergeBIdeal.defs (F := Ideal)) (onTc (τ := Cert.KernelMergeBIdeal.τ) (Cert.KernelMergeBIdeal.main (F := Ideal))) ⟨m, fun _ => 0, g⟩ (fun r => ∀ c : Dev Cert.KernelMergeBIdeal.nD,
          r.2.mem ((c.tc : Thread Cert.KernelMergeBIdeal.nD Cert.KernelMergeBIdeal.τ).loc Cert.KernelMergeBIdeal.main_v19_0) = v0 c
          ∧ r.2.mem ((c.tc : Thread Cert.KernelMergeBIdeal.nD Cert.KernelMergeBIdeal.τ).loc Cert.KernelMergeBIdeal.main_v19_1) = v1 c
          ∧ r.2.mem ((c.tc : Thread Cert.KernelMergeBIdeal.nD Cert.KernelMergeBIdeal.τ).loc Cert.KernelMergeBIdeal.main_v19_2) = v2 c
          ∧ r.2.mem ((c.tc : Thread Cert.KernelMergeBIdeal.nD Cert.KernelMergeBIdeal.τ).loc Cert.KernelMergeBIdeal.main_v19_3) = v3 c
          ∧ r.2.mem ((c.tc : Thread Cert.KernelMergeBIdeal.nD Cert.KernelMergeBIdeal.τ).loc Cert.KernelMergeBIdeal.main_v19_4) = v4 c
          ∧ r.2.mem ((c.tc : Thread Cert.KernelMergeBIdeal.nD Cert.KernelMergeBIdeal.τ).loc Cert.KernelMergeBIdeal.main_v19_5) = v5 c
          ∧ r.2.mem ((c.tc : Thread Cert.KernelMergeBIdeal.nD Cert.KernelMergeBIdeal.τ).loc Cert.KernelMergeBIdeal.main_v19_6) = v6 c
          ∧ r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
          ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
          ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2)
          ∧ r.2.mem ((c.tc : Thread Cert.KernelMergeBIdeal.nD Cert.KernelMergeBIdeal.τ).loc Cert.KernelMergeBIdeal.main_arg3) = m ((c.tc : Thread Cert.KernelMergeBIdeal.nD Cert.KernelMergeBIdeal.τ).loc Cert.KernelMergeBIdeal.main_arg3)
          ∧ r.2.mem ((c.tc : Thread Cert.KernelMergeBIdeal.nD Cert.KernelMergeBIdeal.τ).loc Cert.KernelMergeBIdeal.main_arg4) = m ((c.tc : Thread Cert.KernelMergeBIdeal.nD Cert.KernelMergeBIdeal.τ).loc Cert.KernelMergeBIdeal.main_arg4)
          ∧ r.2.mem ((c.tc : Thread Cert.KernelMergeBIdeal.nD Cert.KernelMergeBIdeal.τ).loc Cert.KernelMergeBIdeal.main_arg5) = m ((c.tc : Thread Cert.KernelMergeBIdeal.nD Cert.KernelMergeBIdeal.τ).loc Cert.KernelMergeBIdeal.main_arg5)
          ∧ r.2.mem ((c.tc : Thread Cert.KernelMergeBIdeal.nD Cert.KernelMergeBIdeal.τ).loc Cert.KernelMergeBIdeal.main_arg6) = m ((c.tc : Thread Cert.KernelMergeBIdeal.nD Cert.KernelMergeBIdeal.τ).loc Cert.KernelMergeBIdeal.main_arg6)
          ∧ r.2.mem ((c.tc : Thread Cert.KernelMergeBIdeal.nD Cert.KernelMergeBIdeal.τ).loc Cert.KernelMergeBIdeal.main_arg7) = m ((c.tc : Thread Cert.KernelMergeBIdeal.nD Cert.KernelMergeBIdeal.τ).loc Cert.KernelMergeBIdeal.main_arg7)
          ∧ r.2.mem ((c.tc : Thread Cert.KernelMergeBIdeal.nD Cert.KernelMergeBIdeal.τ).loc Cert.KernelMergeBIdeal.main_arg8) = m ((c.tc : Thread Cert.KernelMergeBIdeal.nD Cert.KernelMergeBIdeal.τ).loc Cert.KernelMergeBIdeal.main_arg8))
      ∧ θ_run (Cert.ReferenceMergeBIdeal.defs (F := Ideal)) (onTc (τ := Cert.ReferenceMergeBIdeal.τ) (Cert.ReferenceMergeBIdeal.main (F := Ideal))) ⟨m', fun _ => 0, g'⟩ (fun r => ∀ c : Dev Cert.ReferenceMergeBIdeal.nD,
          r.2.mem ((c.tc : Thread Cert.ReferenceMergeBIdeal.nD Cert.ReferenceMergeBIdeal.τ).loc Cert.ReferenceMergeBIdeal.main_v49) = v0 c
          ∧ r.2.mem ((c.tc : Thread Cert.ReferenceMergeBIdeal.nD Cert.ReferenceMergeBIdeal.τ).loc Cert.ReferenceMergeBIdeal.main_v50) = v1 c
          ∧ r.2.mem ((c.tc : Thread Cert.ReferenceMergeBIdeal.nD Cert.ReferenceMergeBIdeal.τ).loc Cert.ReferenceMergeBIdeal.main_v51) = v2 c
          ∧ r.2.mem ((c.tc : Thread Cert.ReferenceMergeBIdeal.nD Cert.ReferenceMergeBIdeal.τ).loc Cert.ReferenceMergeBIdeal.main_v52) = v3 c
          ∧ r.2.mem ((c.tc : Thread Cert.ReferenceMergeBIdeal.nD Cert.ReferenceMergeBIdeal.τ).loc Cert.ReferenceMergeBIdeal.main_v54) = v4 c
          ∧ r.2.mem ((c.tc : Thread Cert.ReferenceMergeBIdeal.nD Cert.ReferenceMergeBIdeal.τ).loc Cert.ReferenceMergeBIdeal.main_v56) = v5 c
          ∧ r.2.mem ((c.tc : Thread Cert.ReferenceMergeBIdeal.nD Cert.ReferenceMergeBIdeal.τ).loc Cert.ReferenceMergeBIdeal.main_v58) = v6 c
          ∧ r.2.mem ((c.tc : Thread Cert.ReferenceMergeBIdeal.nD Cert.ReferenceMergeBIdeal.τ).loc Cert.ReferenceMergeBIdeal.main_arg0) = m' ((c.tc : Thread Cert.ReferenceMergeBIdeal.nD Cert.ReferenceMergeBIdeal.τ).loc Cert.ReferenceMergeBIdeal.main_arg0)
          ∧ r.2.mem ((c.tc : Thread Cert.ReferenceMergeBIdeal.nD Cert.ReferenceMergeBIdeal.τ).loc Cert.ReferenceMergeBIdeal.main_arg1) = m' ((c.tc : Thread Cert.ReferenceMergeBIdeal.nD Cert.ReferenceMergeBIdeal.τ).loc Cert.ReferenceMergeBIdeal.main_arg1)
          ∧ r.2.mem ((c.tc : Thread Cert.ReferenceMergeBIdeal.nD Cert.ReferenceMergeBIdeal.τ).loc Cert.ReferenceMergeBIdeal.main_arg2) = m' ((c.tc : Thread Cert.ReferenceMergeBIdeal.nD Cert.ReferenceMergeBIdeal.τ).loc Cert.ReferenceMergeBIdeal.main_arg2)
          ∧ r.2.mem ((c.tc : Thread Cert.ReferenceMergeBIdeal.nD Cert.ReferenceMergeBIdeal.τ).loc Cert.ReferenceMergeBIdeal.main_arg3) = m' ((c.tc : Thread Cert.ReferenceMergeBIdeal.nD Cert.ReferenceMergeBIdeal.τ).loc Cert.ReferenceMergeBIdeal.main_arg3)
          ∧ r.2.mem ((c.tc : Thread Cert.ReferenceMergeBIdeal.nD Cert.ReferenceMergeBIdeal.τ).loc Cert.ReferenceMergeBIdeal.main_arg4) = m' ((c.tc : Thread Cert.ReferenceMergeBIdeal.nD Cert.ReferenceMergeBIdeal.τ).loc Cert.ReferenceMergeBIdeal.main_arg4)
          ∧ r.2.mem ((c.tc : Thread Cert.ReferenceMergeBIdeal.nD Cert.ReferenceMergeBIdeal.τ).loc Cert.ReferenceMergeBIdeal.main_arg5) = m' ((c.tc : Thread Cert.ReferenceMergeBIdeal.nD Cert.ReferenceMergeBIdeal.τ).loc Cert.ReferenceMergeBIdeal.main_arg5)
          ∧ r.2.mem ((c.tc : Thread Cert.ReferenceMergeBIdeal.nD Cert.ReferenceMergeBIdeal.τ).loc Cert.ReferenceMergeBIdeal.main_arg6) = m' ((c.tc : Thread Cert.ReferenceMergeBIdeal.nD Cert.ReferenceMergeBIdeal.τ).loc Cert.ReferenceMergeBIdeal.main_arg6)
          ∧ r.2.mem ((c.tc : Thread Cert.ReferenceMergeBIdeal.nD Cert.ReferenceMergeBIdeal.τ).loc Cert.ReferenceMergeBIdeal.main_arg7) = m' ((c.tc : Thread Cert.ReferenceMergeBIdeal.nD Cert.ReferenceMergeBIdeal.τ).loc Cert.ReferenceMergeBIdeal.main_arg7)
          ∧ r.2.mem ((c.tc : Thread Cert.ReferenceMergeBIdeal.nD Cert.ReferenceMergeBIdeal.τ).loc Cert.ReferenceMergeBIdeal.main_arg8) = m' ((c.tc : Thread Cert.ReferenceMergeBIdeal.nD Cert.ReferenceMergeBIdeal.τ).loc Cert.ReferenceMergeBIdeal.main_arg8))

def preserves_KernelMergeF_KernelMergeFIdeal : Prop :=
  True

def algebraic_KernelMergeFIdeal_ReferenceMergeFIdeal [hKernelMergeFIdeal : Cert.KernelMergeFIdeal.Facts] [hReferenceMergeFIdeal : Cert.ReferenceMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg)
    (m' : (ℓ : Loc Cert.ReferenceMergeFIdeal.nD Cert.ReferenceMergeFIdeal.τ Cert.ReferenceMergeFIdeal.sig) → Buf (Elt Ideal) ℓ) (g' : Dev Cert.ReferenceMergeFIdeal.nD → PrngReg), Pre_KernelMergeFIdeal m →
    (∀ c : Dev Cert.KernelMergeFIdeal.nD,
      m' ((c.tc : Thread Cert.ReferenceMergeFIdeal.nD Cert.ReferenceMergeFIdeal.τ).loc Cert.ReferenceMergeFIdeal.main_arg0) = m ((c.tc : Thread Cert.KernelMergeFIdeal.nD Cert.KernelMergeFIdeal.τ).loc Cert.KernelMergeFIdeal.main_arg0)
      ∧ m' ((c.tc : Thread Cert.ReferenceMergeFIdeal.nD Cert.ReferenceMergeFIdeal.τ).loc Cert.ReferenceMergeFIdeal.main_arg1) = m ((c.tc : Thread Cert.KernelMergeFIdeal.nD Cert.KernelMergeFIdeal.τ).loc Cert.KernelMergeFIdeal.main_arg1)
      ∧ m' ((c.tc : Thread Cert.ReferenceMergeFIdeal.nD Cert.ReferenceMergeFIdeal.τ).loc Cert.ReferenceMergeFIdeal.main_arg2) = m ((c.tc : Thread Cert.KernelMergeFIdeal.nD Cert.KernelMergeFIdeal.τ).loc Cert.KernelMergeFIdeal.main_arg2)
      ∧ m' ((c.tc : Thread Cert.ReferenceMergeFIdeal.nD Cert.ReferenceMergeFIdeal.τ).loc Cert.ReferenceMergeFIdeal.main_arg3) = m ((c.tc : Thread Cert.KernelMergeFIdeal.nD Cert.KernelMergeFIdeal.τ).loc Cert.KernelMergeFIdeal.main_arg3)
      ∧ m' ((c.tc : Thread Cert.ReferenceMergeFIdeal.nD Cert.ReferenceMergeFIdeal.τ).loc Cert.ReferenceMergeFIdeal.main_arg4) = m ((c.tc : Thread Cert.KernelMergeFIdeal.nD Cert.KernelMergeFIdeal.τ).loc Cert.KernelMergeFIdeal.main_arg4)
      ∧ m' ((c.tc : Thread Cert.ReferenceMergeFIdeal.nD Cert.ReferenceMergeFIdeal.τ).loc Cert.ReferenceMergeFIdeal.main_arg5) = m ((c.tc : Thread Cert.KernelMergeFIdeal.nD Cert.KernelMergeFIdeal.τ).loc Cert.KernelMergeFIdeal.main_arg5)
      ∧ m' ((c.tc : Thread Cert.ReferenceMergeFIdeal.nD Cert.ReferenceMergeFIdeal.τ).loc Cert.ReferenceMergeFIdeal.main_arg6) = m ((c.tc : Thread Cert.KernelMergeFIdeal.nD Cert.KernelMergeFIdeal.τ).loc Cert.KernelMergeFIdeal.main_arg6)
      ∧ m' ((c.tc : Thread Cert.ReferenceMergeFIdeal.nD Cert.ReferenceMergeFIdeal.τ).loc Cert.ReferenceMergeFIdeal.main_arg7) = m ((c.tc : Thread Cert.KernelMergeFIdeal.nD Cert.KernelMergeFIdeal.τ).loc Cert.KernelMergeFIdeal.main_arg7)
      ∧ m' ((c.tc : Thread Cert.ReferenceMergeFIdeal.nD Cert.ReferenceMergeFIdeal.τ).loc Cert.ReferenceMergeFIdeal.main_arg8) = m ((c.tc : Thread Cert.KernelMergeFIdeal.nD Cert.KernelMergeFIdeal.τ).loc Cert.KernelMergeFIdeal.main_arg8)
      ∧ m' ((c.tc : Thread Cert.ReferenceMergeFIdeal.nD Cert.ReferenceMergeFIdeal.τ).loc Cert.ReferenceMergeFIdeal.main_arg9) = m ((c.tc : Thread Cert.KernelMergeFIdeal.nD Cert.KernelMergeFIdeal.τ).loc Cert.KernelMergeFIdeal.main_arg9)) →
    ∃ (v0 : (c : Dev Cert.KernelMergeFIdeal.nD) → Buf (Elt Ideal) ((c.tc : Thread Cert.KernelMergeFIdeal.nD Cert.KernelMergeFIdeal.τ).loc Cert.KernelMergeFIdeal.main_v16_0)) (v1 : (c : Dev Cert.KernelMergeFIdeal.nD) → Buf (Elt Ideal) ((c.tc : Thread Cert.KernelMergeFIdeal.nD Cert.KernelMergeFIdeal.τ).loc Cert.KernelMergeFIdeal.main_v16_1)) (v2 : (c : Dev Cert.KernelMergeFIdeal.nD) → Buf (Elt Ideal) ((c.tc : Thread Cert.KernelMergeFIdeal.nD Cert.KernelMergeFIdeal.τ).loc Cert.KernelMergeFIdeal.main_v16_2)) (v3 : (c : Dev Cert.KernelMergeFIdeal.nD) → Buf (Elt Ideal) ((c.tc : Thread Cert.KernelMergeFIdeal.nD Cert.KernelMergeFIdeal.τ).loc Cert.KernelMergeFIdeal.main_v16_3)) (v4 : (c : Dev Cert.KernelMergeFIdeal.nD) → Buf (Elt Ideal) ((c.tc : Thread Cert.KernelMergeFIdeal.nD Cert.KernelMergeFIdeal.τ).loc Cert.KernelMergeFIdeal.main_v16_4)) (v5 : (c : Dev Cert.KernelMergeFIdeal.nD) → Buf (Elt Ideal) ((c.tc : Thread Cert.KernelMergeFIdeal.nD Cert.KernelMergeFIdeal.τ).loc Cert.KernelMergeFIdeal.main_v16_5)),
      θ_run (Cert.KernelMergeFIdeal.defs (F := Ideal)) (onTc (τ := Cert.KernelMergeFIdeal.τ) (Cert.KernelMergeFIdeal.main (F := Ideal))) ⟨m, fun _ => 0, g⟩ (fun r => ∀ c : Dev Cert.KernelMergeFIdeal.nD,
          r.2.mem ((c.tc : Thread Cert.KernelMergeFIdeal.nD Cert.KernelMergeFIdeal.τ).loc Cert.KernelMergeFIdeal.main_v16_0) = v0 c
          ∧ r.2.mem ((c.tc : Thread Cert.KernelMergeFIdeal.nD Cert.KernelMergeFIdeal.τ).loc Cert.KernelMergeFIdeal.main_v16_1) = v1 c
          ∧ r.2.mem ((c.tc : Thread Cert.KernelMergeFIdeal.nD Cert.KernelMergeFIdeal.τ).loc Cert.KernelMergeFIdeal.main_v16_2) = v2 c
          ∧ r.2.mem ((c.tc : Thread Cert.KernelMergeFIdeal.nD Cert.KernelMergeFIdeal.τ).loc Cert.KernelMergeFIdeal.main_v16_3) = v3 c
          ∧ r.2.mem ((c.tc : Thread Cert.KernelMergeFIdeal.nD Cert.KernelMergeFIdeal.τ).loc Cert.KernelMergeFIdeal.main_v16_4) = v4 c
          ∧ r.2.mem ((c.tc : Thread Cert.KernelMergeFIdeal.nD Cert.KernelMergeFIdeal.τ).loc Cert.KernelMergeFIdeal.main_v16_5) = v5 c
          ∧ r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
          ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
          ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
          ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3)
          ∧ r.2.mem ((c.tc : Thread Cert.KernelMergeFIdeal.nD Cert.KernelMergeFIdeal.τ).loc Cert.KernelMergeFIdeal.main_arg4) = m ((c.tc : Thread Cert.KernelMergeFIdeal.nD Cert.KernelMergeFIdeal.τ).loc Cert.KernelMergeFIdeal.main_arg4)
          ∧ r.2.mem ((c.tc : Thread Cert.KernelMergeFIdeal.nD Cert.KernelMergeFIdeal.τ).loc Cert.KernelMergeFIdeal.main_arg5) = m ((c.tc : Thread Cert.KernelMergeFIdeal.nD Cert.KernelMergeFIdeal.τ).loc Cert.KernelMergeFIdeal.main_arg5)
          ∧ r.2.mem ((c.tc : Thread Cert.KernelMergeFIdeal.nD Cert.KernelMergeFIdeal.τ).loc Cert.KernelMergeFIdeal.main_arg6) = m ((c.tc : Thread Cert.KernelMergeFIdeal.nD Cert.KernelMergeFIdeal.τ).loc Cert.KernelMergeFIdeal.main_arg6)
          ∧ r.2.mem ((c.tc : Thread Cert.KernelMergeFIdeal.nD Cert.KernelMergeFIdeal.τ).loc Cert.KernelMergeFIdeal.main_arg7) = m ((c.tc : Thread Cert.KernelMergeFIdeal.nD Cert.KernelMergeFIdeal.τ).loc Cert.KernelMergeFIdeal.main_arg7)
          ∧ r.2.mem ((c.tc : Thread Cert.KernelMergeFIdeal.nD Cert.KernelMergeFIdeal.τ).loc Cert.KernelMergeFIdeal.main_arg8) = m ((c.tc : Thread Cert.KernelMergeFIdeal.nD Cert.KernelMergeFIdeal.τ).loc Cert.KernelMergeFIdeal.main_arg8)
          ∧ r.2.mem ((c.tc : Thread Cert.KernelMergeFIdeal.nD Cert.KernelMergeFIdeal.τ).loc Cert.KernelMergeFIdeal.main_arg9) = m ((c.tc : Thread Cert.KernelMergeFIdeal.nD Cert.KernelMergeFIdeal.τ).loc Cert.KernelMergeFIdeal.main_arg9))
      ∧ θ_run (Cert.ReferenceMergeFIdeal.defs (F := Ideal)) (onTc (τ := Cert.ReferenceMergeFIdeal.τ) (Cert.ReferenceMergeFIdeal.main (F := Ideal))) ⟨m', fun _ => 0, g'⟩ (fun r => ∀ c : Dev Cert.ReferenceMergeFIdeal.nD,
          r.2.mem ((c.tc : Thread Cert.ReferenceMergeFIdeal.nD Cert.ReferenceMergeFIdeal.τ).loc Cert.ReferenceMergeFIdeal.main_v37) = v0 c
          ∧ r.2.mem ((c.tc : Thread Cert.ReferenceMergeFIdeal.nD Cert.ReferenceMergeFIdeal.τ).loc Cert.ReferenceMergeFIdeal.main_v39) = v1 c
          ∧ r.2.mem ((c.tc : Thread Cert.ReferenceMergeFIdeal.nD Cert.ReferenceMergeFIdeal.τ).loc Cert.ReferenceMergeFIdeal.main_v41) = v2 c
          ∧ r.2.mem ((c.tc : Thread Cert.ReferenceMergeFIdeal.nD Cert.ReferenceMergeFIdeal.τ).loc Cert.ReferenceMergeFIdeal.main_v43) = v3 c
          ∧ r.2.mem ((c.tc : Thread Cert.ReferenceMergeFIdeal.nD Cert.ReferenceMergeFIdeal.τ).loc Cert.ReferenceMergeFIdeal.main_v45) = v4 c
          ∧ r.2.mem ((c.tc : Thread Cert.ReferenceMergeFIdeal.nD Cert.ReferenceMergeFIdeal.τ).loc Cert.ReferenceMergeFIdeal.main_v47) = v5 c
          ∧ r.2.mem ((c.tc : Thread Cert.ReferenceMergeFIdeal.nD Cert.ReferenceMergeFIdeal.τ).loc Cert.ReferenceMergeFIdeal.main_arg0) = m' ((c.tc : Thread Cert.ReferenceMergeFIdeal.nD Cert.ReferenceMergeFIdeal.τ).loc Cert.ReferenceMergeFIdeal.main_arg0)
          ∧ r.2.mem ((c.tc : Thread Cert.ReferenceMergeFIdeal.nD Cert.ReferenceMergeFIdeal.τ).loc Cert.ReferenceMergeFIdeal.main_arg1) = m' ((c.tc : Thread Cert.ReferenceMergeFIdeal.nD Cert.ReferenceMergeFIdeal.τ).loc Cert.ReferenceMergeFIdeal.main_arg1)
          ∧ r.2.mem ((c.tc : Thread Cert.ReferenceMergeFIdeal.nD Cert.ReferenceMergeFIdeal.τ).loc Cert.ReferenceMergeFIdeal.main_arg2) = m' ((c.tc : Thread Cert.ReferenceMergeFIdeal.nD Cert.ReferenceMergeFIdeal.τ).loc Cert.ReferenceMergeFIdeal.main_arg2)
          ∧ r.2.mem ((c.tc : Thread Cert.ReferenceMergeFIdeal.nD Cert.ReferenceMergeFIdeal.τ).loc Cert.ReferenceMergeFIdeal.main_arg3) = m' ((c.tc : Thread Cert.ReferenceMergeFIdeal.nD Cert.ReferenceMergeFIdeal.τ).loc Cert.ReferenceMergeFIdeal.main_arg3)
          ∧ r.2.mem ((c.tc : Thread Cert.ReferenceMergeFIdeal.nD Cert.ReferenceMergeFIdeal.τ).loc Cert.ReferenceMergeFIdeal.main_arg4) = m' ((c.tc : Thread Cert.ReferenceMergeFIdeal.nD Cert.ReferenceMergeFIdeal.τ).loc Cert.ReferenceMergeFIdeal.main_arg4)
          ∧ r.2.mem ((c.tc : Thread Cert.ReferenceMergeFIdeal.nD Cert.ReferenceMergeFIdeal.τ).loc Cert.ReferenceMergeFIdeal.main_arg5) = m' ((c.tc : Thread Cert.ReferenceMergeFIdeal.nD Cert.ReferenceMergeFIdeal.τ).loc Cert.ReferenceMergeFIdeal.main_arg5)
          ∧ r.2.mem ((c.tc : Thread Cert.ReferenceMergeFIdeal.nD Cert.ReferenceMergeFIdeal.τ).loc Cert.ReferenceMergeFIdeal.main_arg6) = m' ((c.tc : Thread Cert.ReferenceMergeFIdeal.nD Cert.ReferenceMergeFIdeal.τ).loc Cert.ReferenceMergeFIdeal.main_arg6)
          ∧ r.2.mem ((c.tc : Thread Cert.ReferenceMergeFIdeal.nD Cert.ReferenceMergeFIdeal.τ).loc Cert.ReferenceMergeFIdeal.main_arg7) = m' ((c.tc : Thread Cert.ReferenceMergeFIdeal.nD Cert.ReferenceMergeFIdeal.τ).loc Cert.ReferenceMergeFIdeal.main_arg7)
          ∧ r.2.mem ((c.tc : Thread Cert.ReferenceMergeFIdeal.nD Cert.ReferenceMergeFIdeal.τ).loc Cert.ReferenceMergeFIdeal.main_arg8) = m' ((c.tc : Thread Cert.ReferenceMergeFIdeal.nD Cert.ReferenceMergeFIdeal.τ).loc Cert.ReferenceMergeFIdeal.main_arg8)
          ∧ r.2.mem ((c.tc : Thread Cert.ReferenceMergeFIdeal.nD Cert.ReferenceMergeFIdeal.τ).loc Cert.ReferenceMergeFIdeal.main_arg9) = m' ((c.tc : Thread Cert.ReferenceMergeFIdeal.nD Cert.ReferenceMergeFIdeal.τ).loc Cert.ReferenceMergeFIdeal.main_arg9))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v5_0)) (v1 : (c : Dev Cert.KernelLossIdeal.nD) → Buf (Elt Ideal) ((c.tc : Thread Cert.KernelLossIdeal.nD Cert.KernelLossIdeal.τ).loc Cert.KernelLossIdeal.main_v6)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v5_0) = v0 c
          ∧ r.2.mem ((c.tc : Thread Cert.KernelLossIdeal.nD Cert.KernelLossIdeal.τ).loc Cert.KernelLossIdeal.main_v6) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v17) = v0 c
          ∧ r.2.mem ((c.tc : Thread Cert.ReferenceLossIdeal.nD Cert.ReferenceLossIdeal.τ).loc Cert.ReferenceLossIdeal.main_v10) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelNormB_KernelNormBIdeal : Prop :=
  True

def algebraic_KernelNormBIdeal_ReferenceNormBIdeal [hKernelNormBIdeal : Cert.KernelNormBIdeal.Facts] [hReferenceNormBIdeal : Cert.ReferenceNormBIdeal.Facts] : Prop :=
  ∀ (m : (ℓ : Loc Cert.KernelNormBIdeal.nD Cert.KernelNormBIdeal.τ Cert.KernelNormBIdeal.sig) → Buf (Elt Ideal) ℓ) (g : Dev Cert.KernelNormBIdeal.nD → PrngReg)
    (m' : (ℓ : Loc Cert.ReferenceNormBIdeal.nD Cert.ReferenceNormBIdeal.τ Cert.ReferenceNormBIdeal.sig) → Buf (Elt Ideal) ℓ) (g' : Dev Cert.ReferenceNormBIdeal.nD → PrngReg), Pre_KernelNormBIdeal m →
    (∀ c : Dev Cert.KernelNormBIdeal.nD,
      m' ((c.tc : Thread Cert.ReferenceNormBIdeal.nD Cert.ReferenceNormBIdeal.τ).loc Cert.ReferenceNormBIdeal.main_arg0) = m ((c.tc : Thread Cert.KernelNormBIdeal.nD Cert.KernelNormBIdeal.τ).loc Cert.KernelNormBIdeal.main_arg0)
      ∧ m' ((c.tc : Thread Cert.ReferenceNormBIdeal.nD Cert.ReferenceNormBIdeal.τ).loc Cert.ReferenceNormBIdeal.main_arg1) = m ((c.tc : Thread Cert.KernelNormBIdeal.nD Cert.KernelNormBIdeal.τ).loc Cert.KernelNormBIdeal.main_arg1)
      ∧ m' ((c.tc : Thread Cert.ReferenceNormBIdeal.nD Cert.ReferenceNormBIdeal.τ).loc Cert.ReferenceNormBIdeal.main_arg2) = m ((c.tc : Thread Cert.KernelNormBIdeal.nD Cert.KernelNormBIdeal.τ).loc Cert.KernelNormBIdeal.main_arg2)
      ∧ m' ((c.tc : Thread Cert.ReferenceNormBIdeal.nD Cert.ReferenceNormBIdeal.τ).loc Cert.ReferenceNormBIdeal.main_arg3) = m ((c.tc : Thread Cert.KernelNormBIdeal.nD Cert.KernelNormBIdeal.τ).loc Cert.KernelNormBIdeal.main_arg3)) →
    ∃ (v0 : (c : Dev Cert.KernelNormBIdeal.nD) → Buf (Elt Ideal) ((c.tc : Thread Cert.KernelNormBIdeal.nD Cert.KernelNormBIdeal.τ).loc Cert.KernelNormBIdeal.main_v3_0)) (v1 : (c : Dev Cert.KernelNormBIdeal.nD) → Buf (Elt Ideal) ((c.tc : Thread Cert.KernelNormBIdeal.nD Cert.KernelNormBIdeal.τ).loc Cert.KernelNormBIdeal.main_v4)),
      θ_run (Cert.KernelNormBIdeal.defs (F := Ideal)) (onTc (τ := Cert.KernelNormBIdeal.τ) (Cert.KernelNormBIdeal.main (F := Ideal))) ⟨m, fun _ => 0, g⟩ (fun r => ∀ c : Dev Cert.KernelNormBIdeal.nD,
          r.2.mem ((c.tc : Thread Cert.KernelNormBIdeal.nD Cert.KernelNormBIdeal.τ).loc Cert.KernelNormBIdeal.main_v3_0) = v0 c
          ∧ r.2.mem ((c.tc : Thread Cert.KernelNormBIdeal.nD Cert.KernelNormBIdeal.τ).loc Cert.KernelNormBIdeal.main_v4) = v1 c
          ∧ r.2.mem ((c.tc : Thread Cert.KernelNormBIdeal.nD Cert.KernelNormBIdeal.τ).loc Cert.KernelNormBIdeal.main_arg0) = m ((c.tc : Thread Cert.KernelNormBIdeal.nD Cert.KernelNormBIdeal.τ).loc Cert.KernelNormBIdeal.main_arg0)
          ∧ r.2.mem ((c.tc : Thread Cert.KernelNormBIdeal.nD Cert.KernelNormBIdeal.τ).loc Cert.KernelNormBIdeal.main_arg1) = m ((c.tc : Thread Cert.KernelNormBIdeal.nD Cert.KernelNormBIdeal.τ).loc Cert.KernelNormBIdeal.main_arg1)
          ∧ r.2.mem ((c.tc : Thread Cert.KernelNormBIdeal.nD Cert.KernelNormBIdeal.τ).loc Cert.KernelNormBIdeal.main_arg2) = m ((c.tc : Thread Cert.KernelNormBIdeal.nD Cert.KernelNormBIdeal.τ).loc Cert.KernelNormBIdeal.main_arg2)
          ∧ r.2.mem ((c.tc : Thread Cert.KernelNormBIdeal.nD Cert.KernelNormBIdeal.τ).loc Cert.KernelNormBIdeal.main_arg3) = m ((c.tc : Thread Cert.KernelNormBIdeal.nD Cert.KernelNormBIdeal.τ).loc Cert.KernelNormBIdeal.main_arg3))
      ∧ θ_run (Cert.ReferenceNormBIdeal.defs (F := Ideal)) (onTc (τ := Cert.ReferenceNormBIdeal.τ) (Cert.ReferenceNormBIdeal.main (F := Ideal))) ⟨m', fun _ => 0, g'⟩ (fun r => ∀ c : Dev Cert.ReferenceNormBIdeal.nD,
          r.2.mem ((c.tc : Thread Cert.ReferenceNormBIdeal.nD Cert.ReferenceNormBIdeal.τ).loc Cert.ReferenceNormBIdeal.main_v38) = v0 c
          ∧ r.2.mem ((c.tc : Thread Cert.ReferenceNormBIdeal.nD Cert.ReferenceNormBIdeal.τ).loc Cert.ReferenceNormBIdeal.main_v22) = v1 c
          ∧ r.2.mem ((c.tc : Thread Cert.ReferenceNormBIdeal.nD Cert.ReferenceNormBIdeal.τ).loc Cert.ReferenceNormBIdeal.main_arg0) = m' ((c.tc : Thread Cert.ReferenceNormBIdeal.nD Cert.ReferenceNormBIdeal.τ).loc Cert.ReferenceNormBIdeal.main_arg0)
          ∧ r.2.mem ((c.tc : Thread Cert.ReferenceNormBIdeal.nD Cert.ReferenceNormBIdeal.τ).loc Cert.ReferenceNormBIdeal.main_arg1) = m' ((c.tc : Thread Cert.ReferenceNormBIdeal.nD Cert.ReferenceNormBIdeal.τ).loc Cert.ReferenceNormBIdeal.main_arg1)
          ∧ r.2.mem ((c.tc : Thread Cert.ReferenceNormBIdeal.nD Cert.ReferenceNormBIdeal.τ).loc Cert.ReferenceNormBIdeal.main_arg2) = m' ((c.tc : Thread Cert.ReferenceNormBIdeal.nD Cert.ReferenceNormBIdeal.τ).loc Cert.ReferenceNormBIdeal.main_arg2)
          ∧ r.2.mem ((c.tc : Thread Cert.ReferenceNormBIdeal.nD Cert.ReferenceNormBIdeal.τ).loc Cert.ReferenceNormBIdeal.main_arg3) = m' ((c.tc : Thread Cert.ReferenceNormBIdeal.nD Cert.ReferenceNormBIdeal.τ).loc Cert.ReferenceNormBIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamBr_KernelAdamBrIdeal : Prop :=
  True

def algebraic_KernelAdamBrIdeal_ReferenceAdamBrIdeal [hKernelAdamBrIdeal : Cert.KernelAdamBrIdeal.Facts] [hReferenceAdamBrIdeal : Cert.ReferenceAdamBrIdeal.Facts] : Prop :=
  ∀ (m : (ℓ : Loc Cert.KernelAdamBrIdeal.nD Cert.KernelAdamBrIdeal.τ Cert.KernelAdamBrIdeal.sig) → Buf (Elt Ideal) ℓ) (g : Dev Cert.KernelAdamBrIdeal.nD → PrngReg)
    (m' : (ℓ : Loc Cert.ReferenceAdamBrIdeal.nD Cert.ReferenceAdamBrIdeal.τ Cert.ReferenceAdamBrIdeal.sig) → Buf (Elt Ideal) ℓ) (g' : Dev Cert.ReferenceAdamBrIdeal.nD → PrngReg), Pre_KernelAdamBrIdeal m →
    (∀ c : Dev Cert.KernelAdamBrIdeal.nD,
      m' ((c.tc : Thread Cert.ReferenceAdamBrIdeal.nD Cert.ReferenceAdamBrIdeal.τ).loc Cert.ReferenceAdamBrIdeal.main_arg0) = m ((c.tc : Thread Cert.KernelAdamBrIdeal.nD Cert.KernelAdamBrIdeal.τ).loc Cert.KernelAdamBrIdeal.main_arg0)
      ∧ m' ((c.tc : Thread Cert.ReferenceAdamBrIdeal.nD Cert.ReferenceAdamBrIdeal.τ).loc Cert.ReferenceAdamBrIdeal.main_arg1) = m ((c.tc : Thread Cert.KernelAdamBrIdeal.nD Cert.KernelAdamBrIdeal.τ).loc Cert.KernelAdamBrIdeal.main_arg1)
      ∧ m' ((c.tc : Thread Cert.ReferenceAdamBrIdeal.nD Cert.ReferenceAdamBrIdeal.τ).loc Cert.ReferenceAdamBrIdeal.main_arg2) = m ((c.tc : Thread Cert.KernelAdamBrIdeal.nD Cert.KernelAdamBrIdeal.τ).loc Cert.KernelAdamBrIdeal.main_arg2)
      ∧ m' ((c.tc : Thread Cert.ReferenceAdamBrIdeal.nD Cert.ReferenceAdamBrIdeal.τ).loc Cert.ReferenceAdamBrIdeal.main_arg3) = m ((c.tc : Thread Cert.KernelAdamBrIdeal.nD Cert.KernelAdamBrIdeal.τ).loc Cert.KernelAdamBrIdeal.main_arg3)) →
    ∃ (v0 : (c : Dev Cert.KernelAdamBrIdeal.nD) → Buf (Elt Ideal) ((c.tc : Thread Cert.KernelAdamBrIdeal.nD Cert.KernelAdamBrIdeal.τ).loc Cert.KernelAdamBrIdeal.main_v0_0)) (v1 : (c : Dev Cert.KernelAdamBrIdeal.nD) → Buf (Elt Ideal) ((c.tc : Thread Cert.KernelAdamBrIdeal.nD Cert.KernelAdamBrIdeal.τ).loc Cert.KernelAdamBrIdeal.main_v0_1)) (v2 : (c : Dev Cert.KernelAdamBrIdeal.nD) → Buf (Elt Ideal) ((c.tc : Thread Cert.KernelAdamBrIdeal.nD Cert.KernelAdamBrIdeal.τ).loc Cert.KernelAdamBrIdeal.main_v0_2)),
      θ_run (Cert.KernelAdamBrIdeal.defs (F := Ideal)) (onTc (τ := Cert.KernelAdamBrIdeal.τ) (Cert.KernelAdamBrIdeal.main (F := Ideal))) ⟨m, fun _ => 0, g⟩ (fun r => ∀ c : Dev Cert.KernelAdamBrIdeal.nD,
          r.2.mem ((c.tc : Thread Cert.KernelAdamBrIdeal.nD Cert.KernelAdamBrIdeal.τ).loc Cert.KernelAdamBrIdeal.main_v0_0) = v0 c
          ∧ r.2.mem ((c.tc : Thread Cert.KernelAdamBrIdeal.nD Cert.KernelAdamBrIdeal.τ).loc Cert.KernelAdamBrIdeal.main_v0_1) = v1 c
          ∧ r.2.mem ((c.tc : Thread Cert.KernelAdamBrIdeal.nD Cert.KernelAdamBrIdeal.τ).loc Cert.KernelAdamBrIdeal.main_v0_2) = v2 c
          ∧ r.2.mem ((c.tc : Thread Cert.KernelAdamBrIdeal.nD Cert.KernelAdamBrIdeal.τ).loc Cert.KernelAdamBrIdeal.main_arg0) = m ((c.tc : Thread Cert.KernelAdamBrIdeal.nD Cert.KernelAdamBrIdeal.τ).loc Cert.KernelAdamBrIdeal.main_arg0)
          ∧ r.2.mem ((c.tc : Thread Cert.KernelAdamBrIdeal.nD Cert.KernelAdamBrIdeal.τ).loc Cert.KernelAdamBrIdeal.main_arg1) = m ((c.tc : Thread Cert.KernelAdamBrIdeal.nD Cert.KernelAdamBrIdeal.τ).loc Cert.KernelAdamBrIdeal.main_arg1)
          ∧ r.2.mem ((c.tc : Thread Cert.KernelAdamBrIdeal.nD Cert.KernelAdamBrIdeal.τ).loc Cert.KernelAdamBrIdeal.main_arg2) = m ((c.tc : Thread Cert.KernelAdamBrIdeal.nD Cert.KernelAdamBrIdeal.τ).loc Cert.KernelAdamBrIdeal.main_arg2)
          ∧ r.2.mem ((c.tc : Thread Cert.KernelAdamBrIdeal.nD Cert.KernelAdamBrIdeal.τ).loc Cert.KernelAdamBrIdeal.main_arg3) = m ((c.tc : Thread Cert.KernelAdamBrIdeal.nD Cert.KernelAdamBrIdeal.τ).loc Cert.KernelAdamBrIdeal.main_arg3))
      ∧ θ_run (Cert.ReferenceAdamBrIdeal.defs (F := Ideal)) (onTc (τ := Cert.ReferenceAdamBrIdeal.τ) (Cert.ReferenceAdamBrIdeal.main (F := Ideal))) ⟨m', fun _ => 0, g'⟩ (fun r => ∀ c : Dev Cert.ReferenceAdamBrIdeal.nD,
          r.2.mem ((c.tc : Thread Cert.ReferenceAdamBrIdeal.nD Cert.ReferenceAdamBrIdeal.τ).loc Cert.ReferenceAdamBrIdeal.main_v23) = v0 c
          ∧ r.2.mem ((c.tc : Thread Cert.ReferenceAdamBrIdeal.nD Cert.ReferenceAdamBrIdeal.τ).loc Cert.ReferenceAdamBrIdeal.main_v4) = v1 c
          ∧ r.2.mem ((c.tc : Thread Cert.ReferenceAdamBrIdeal.nD Cert.ReferenceAdamBrIdeal.τ).loc Cert.ReferenceAdamBrIdeal.main_v10) = v2 c
          ∧ r.2.mem ((c.tc : Thread Cert.ReferenceAdamBrIdeal.nD Cert.ReferenceAdamBrIdeal.τ).loc Cert.ReferenceAdamBrIdeal.main_arg0) = m' ((c.tc : Thread Cert.ReferenceAdamBrIdeal.nD Cert.ReferenceAdamBrIdeal.τ).loc Cert.ReferenceAdamBrIdeal.main_arg0)
          ∧ r.2.mem ((c.tc : Thread Cert.ReferenceAdamBrIdeal.nD Cert.ReferenceAdamBrIdeal.τ).loc Cert.ReferenceAdamBrIdeal.main_arg1) = m' ((c.tc : Thread Cert.ReferenceAdamBrIdeal.nD Cert.ReferenceAdamBrIdeal.τ).loc Cert.ReferenceAdamBrIdeal.main_arg1)
          ∧ r.2.mem ((c.tc : Thread Cert.ReferenceAdamBrIdeal.nD Cert.ReferenceAdamBrIdeal.τ).loc Cert.ReferenceAdamBrIdeal.main_arg2) = m' ((c.tc : Thread Cert.ReferenceAdamBrIdeal.nD Cert.ReferenceAdamBrIdeal.τ).loc Cert.ReferenceAdamBrIdeal.main_arg2)
          ∧ r.2.mem ((c.tc : Thread Cert.ReferenceAdamBrIdeal.nD Cert.ReferenceAdamBrIdeal.τ).loc Cert.ReferenceAdamBrIdeal.main_arg3) = m' ((c.tc : Thread Cert.ReferenceAdamBrIdeal.nD Cert.ReferenceAdamBrIdeal.τ).loc Cert.ReferenceAdamBrIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v23) = v0 c
          ∧ r.2.mem ((c.tc : Thread Cert.ReferenceAdamUpIdeal.nD Cert.ReferenceAdamUpIdeal.τ).loc Cert.ReferenceAdamUpIdeal.main_v4) = v1 c
          ∧ r.2.mem ((c.tc : Thread Cert.ReferenceAdamUpIdeal.nD Cert.ReferenceAdamUpIdeal.τ).loc Cert.ReferenceAdamUpIdeal.main_v10) = v2 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v0_0)) (v1 : (c : Dev Cert.KernelAdamConvIdeal.nD) → Buf (Elt Ideal) ((c.tc : Thread Cert.KernelAdamConvIdeal.nD Cert.KernelAdamConvIdeal.τ).loc Cert.KernelAdamConvIdeal.main_v0_1)) (v2 : (c : Dev Cert.KernelAdamConvIdeal.nD) → Buf (Elt Ideal) ((c.tc : Thread Cert.KernelAdamConvIdeal.nD Cert.KernelAdamConvIdeal.τ).loc Cert.KernelAdamConvIdeal.main_v0_2)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v0_0) = v0 c
          ∧ r.2.mem ((c.tc : Thread Cert.KernelAdamConvIdeal.nD Cert.KernelAdamConvIdeal.τ).loc Cert.KernelAdamConvIdeal.main_v0_1) = v1 c
          ∧ r.2.mem ((c.tc : Thread Cert.KernelAdamConvIdeal.nD Cert.KernelAdamConvIdeal.τ).loc Cert.KernelAdamConvIdeal.main_v0_2) = v2 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v23) = v0 c
          ∧ r.2.mem ((c.tc : Thread Cert.ReferenceAdamConvIdeal.nD Cert.ReferenceAdamConvIdeal.τ).loc Cert.ReferenceAdamConvIdeal.main_v4) = v1 c
          ∧ r.2.mem ((c.tc : Thread Cert.ReferenceAdamConvIdeal.nD Cert.ReferenceAdamConvIdeal.τ).loc Cert.ReferenceAdamConvIdeal.main_v10) = v2 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v23) = v0 c
          ∧ r.2.mem ((c.tc : Thread Cert.ReferenceAdamDownIdeal.nD Cert.ReferenceAdamDownIdeal.τ).loc Cert.ReferenceAdamDownIdeal.main_v4) = v1 c
          ∧ r.2.mem ((c.tc : Thread Cert.ReferenceAdamDownIdeal.nD Cert.ReferenceAdamDownIdeal.τ).loc Cert.ReferenceAdamDownIdeal.main_v10) = v2 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v0) = v0 c
          ∧ r.2.mem ((c.tc : Thread Cert.ReferenceAdamSmallIdeal.nD Cert.ReferenceAdamSmallIdeal.τ).loc Cert.ReferenceAdamSmallIdeal.main_v24) = v1 c
          ∧ r.2.mem ((c.tc : Thread Cert.ReferenceAdamSmallIdeal.nD Cert.ReferenceAdamSmallIdeal.τ).loc Cert.ReferenceAdamSmallIdeal.main_v5) = v2 c
          ∧ r.2.mem ((c.tc : Thread Cert.ReferenceAdamSmallIdeal.nD Cert.ReferenceAdamSmallIdeal.τ).loc Cert.ReferenceAdamSmallIdeal.main_v11) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelWMem_KernelWMemIdeal : Prop :=
  True

def algebraic_KernelWMemIdeal_ReferenceWMemIdeal [hKernelWMemIdeal : Cert.KernelWMemIdeal.Facts] [hReferenceWMemIdeal : Cert.ReferenceWMemIdeal.Facts] : Prop :=
  ∀ (m : (ℓ : Loc Cert.KernelWMemIdeal.nD Cert.KernelWMemIdeal.τ Cert.KernelWMemIdeal.sig) → Buf (Elt Ideal) ℓ) (g : Dev Cert.KernelWMemIdeal.nD → PrngReg)
    (m' : (ℓ : Loc Cert.ReferenceWMemIdeal.nD Cert.ReferenceWMemIdeal.τ Cert.ReferenceWMemIdeal.sig) → Buf (Elt Ideal) ℓ) (g' : Dev Cert.ReferenceWMemIdeal.nD → PrngReg), Pre_KernelWMemIdeal m →
    (∀ c : Dev Cert.KernelWMemIdeal.nD,
      m' ((c.tc : Thread Cert.ReferenceWMemIdeal.nD Cert.ReferenceWMemIdeal.τ).loc Cert.ReferenceWMemIdeal.main_arg0) = m ((c.tc : Thread Cert.KernelWMemIdeal.nD Cert.KernelWMemIdeal.τ).loc Cert.KernelWMemIdeal.main_arg0)
      ∧ m' ((c.tc : Thread Cert.ReferenceWMemIdeal.nD Cert.ReferenceWMemIdeal.τ).loc Cert.ReferenceWMemIdeal.main_arg1) = m ((c.tc : Thread Cert.KernelWMemIdeal.nD Cert.KernelWMemIdeal.τ).loc Cert.KernelWMemIdeal.main_arg1)) →
    ∃ (v0 : (c : Dev Cert.KernelWMemIdeal.nD) → Buf (Elt Ideal) ((c.tc : Thread Cert.KernelWMemIdeal.nD Cert.KernelWMemIdeal.τ).loc Cert.KernelWMemIdeal.main_v3)),
      θ_run (Cert.KernelWMemIdeal.defs (F := Ideal)) (onTc (τ := Cert.KernelWMemIdeal.τ) (Cert.KernelWMemIdeal.main (F := Ideal))) ⟨m, fun _ => 0, g⟩ (fun r => ∀ c : Dev Cert.KernelWMemIdeal.nD,
          r.2.mem ((c.tc : Thread Cert.KernelWMemIdeal.nD Cert.KernelWMemIdeal.τ).loc Cert.KernelWMemIdeal.main_v3) = v0 c
          ∧ r.2.mem ((c.tc : Thread Cert.KernelWMemIdeal.nD Cert.KernelWMemIdeal.τ).loc Cert.KernelWMemIdeal.main_arg0) = m ((c.tc : Thread Cert.KernelWMemIdeal.nD Cert.KernelWMemIdeal.τ).loc Cert.KernelWMemIdeal.main_arg0)
          ∧ r.2.mem ((c.tc : Thread Cert.KernelWMemIdeal.nD Cert.KernelWMemIdeal.τ).loc Cert.KernelWMemIdeal.main_arg1) = m ((c.tc : Thread Cert.KernelWMemIdeal.nD Cert.KernelWMemIdeal.τ).loc Cert.KernelWMemIdeal.main_arg1))
      ∧ θ_run (Cert.ReferenceWMemIdeal.defs (F := Ideal)) (onTc (τ := Cert.ReferenceWMemIdeal.τ) (Cert.ReferenceWMemIdeal.main (F := Ideal))) ⟨m', fun _ => 0, g'⟩ (fun r => ∀ c : Dev Cert.ReferenceWMemIdeal.nD,
          r.2.mem ((c.tc : Thread Cert.ReferenceWMemIdeal.nD Cert.ReferenceWMemIdeal.τ).loc Cert.ReferenceWMemIdeal.main_v3) = v0 c
          ∧ r.2.mem ((c.tc : Thread Cert.ReferenceWMemIdeal.nD Cert.ReferenceWMemIdeal.τ).loc Cert.ReferenceWMemIdeal.main_arg0) = m' ((c.tc : Thread Cert.ReferenceWMemIdeal.nD Cert.ReferenceWMemIdeal.τ).loc Cert.ReferenceWMemIdeal.main_arg0)
          ∧ r.2.mem ((c.tc : Thread Cert.ReferenceWMemIdeal.nD Cert.ReferenceWMemIdeal.τ).loc Cert.ReferenceWMemIdeal.main_arg1) = m' ((c.tc : Thread Cert.ReferenceWMemIdeal.nD Cert.ReferenceWMemIdeal.τ).loc Cert.ReferenceWMemIdeal.main_arg1))

def preserves_KernelNormM_KernelNormMIdeal : Prop :=
  True

def algebraic_KernelNormMIdeal_ReferenceNormMIdeal [hKernelNormMIdeal : Cert.KernelNormMIdeal.Facts] [hReferenceNormMIdeal : Cert.ReferenceNormMIdeal.Facts] : Prop :=
  ∀ (m : (ℓ : Loc Cert.KernelNormMIdeal.nD Cert.KernelNormMIdeal.τ Cert.KernelNormMIdeal.sig) → Buf (Elt Ideal) ℓ) (g : Dev Cert.KernelNormMIdeal.nD → PrngReg)
    (m' : (ℓ : Loc Cert.ReferenceNormMIdeal.nD Cert.ReferenceNormMIdeal.τ Cert.ReferenceNormMIdeal.sig) → Buf (Elt Ideal) ℓ) (g' : Dev Cert.ReferenceNormMIdeal.nD → PrngReg), Pre_KernelNormMIdeal m →
    (∀ c : Dev Cert.KernelNormMIdeal.nD,
      m' ((c.tc : Thread Cert.ReferenceNormMIdeal.nD Cert.ReferenceNormMIdeal.τ).loc Cert.ReferenceNormMIdeal.main_arg0) = m ((c.tc : Thread Cert.KernelNormMIdeal.nD Cert.KernelNormMIdeal.τ).loc Cert.KernelNormMIdeal.main_arg0)
      ∧ m' ((c.tc : Thread Cert.ReferenceNormMIdeal.nD Cert.ReferenceNormMIdeal.τ).loc Cert.ReferenceNormMIdeal.main_arg1) = m ((c.tc : Thread Cert.KernelNormMIdeal.nD Cert.KernelNormMIdeal.τ).loc Cert.KernelNormMIdeal.main_arg1)
      ∧ m' ((c.tc : Thread Cert.ReferenceNormMIdeal.nD Cert.ReferenceNormMIdeal.τ).loc Cert.ReferenceNormMIdeal.main_arg2) = m ((c.tc : Thread Cert.KernelNormMIdeal.nD Cert.KernelNormMIdeal.τ).loc Cert.KernelNormMIdeal.main_arg2)) →
    ∃ (v0 : (c : Dev Cert.KernelNormMIdeal.nD) → Buf (Elt Ideal) ((c.tc : Thread Cert.KernelNormMIdeal.nD Cert.KernelNormMIdeal.τ).loc Cert.KernelNormMIdeal.main_v3)),
      θ_run (Cert.KernelNormMIdeal.defs (F := Ideal)) (onTc (τ := Cert.KernelNormMIdeal.τ) (Cert.KernelNormMIdeal.main (F := Ideal))) ⟨m, fun _ => 0, g⟩ (fun r => ∀ c : Dev Cert.KernelNormMIdeal.nD,
          r.2.mem ((c.tc : Thread Cert.KernelNormMIdeal.nD Cert.KernelNormMIdeal.τ).loc Cert.KernelNormMIdeal.main_v3) = v0 c
          ∧ r.2.mem ((c.tc : Thread Cert.KernelNormMIdeal.nD Cert.KernelNormMIdeal.τ).loc Cert.KernelNormMIdeal.main_arg0) = m ((c.tc : Thread Cert.KernelNormMIdeal.nD Cert.KernelNormMIdeal.τ).loc Cert.KernelNormMIdeal.main_arg0)
          ∧ r.2.mem ((c.tc : Thread Cert.KernelNormMIdeal.nD Cert.KernelNormMIdeal.τ).loc Cert.KernelNormMIdeal.main_arg1) = m ((c.tc : Thread Cert.KernelNormMIdeal.nD Cert.KernelNormMIdeal.τ).loc Cert.KernelNormMIdeal.main_arg1)
          ∧ r.2.mem ((c.tc : Thread Cert.KernelNormMIdeal.nD Cert.KernelNormMIdeal.τ).loc Cert.KernelNormMIdeal.main_arg2) = m ((c.tc : Thread Cert.KernelNormMIdeal.nD Cert.KernelNormMIdeal.τ).loc Cert.KernelNormMIdeal.main_arg2))
      ∧ θ_run (Cert.ReferenceNormMIdeal.defs (F := Ideal)) (onTc (τ := Cert.ReferenceNormMIdeal.τ) (Cert.ReferenceNormMIdeal.main (F := Ideal))) ⟨m', fun _ => 0, g'⟩ (fun r => ∀ c : Dev Cert.ReferenceNormMIdeal.nD,
          r.2.mem ((c.tc : Thread Cert.ReferenceNormMIdeal.nD Cert.ReferenceNormMIdeal.τ).loc Cert.ReferenceNormMIdeal.main_v17) = v0 c
          ∧ r.2.mem ((c.tc : Thread Cert.ReferenceNormMIdeal.nD Cert.ReferenceNormMIdeal.τ).loc Cert.ReferenceNormMIdeal.main_arg0) = m' ((c.tc : Thread Cert.ReferenceNormMIdeal.nD Cert.ReferenceNormMIdeal.τ).loc Cert.ReferenceNormMIdeal.main_arg0)
          ∧ r.2.mem ((c.tc : Thread Cert.ReferenceNormMIdeal.nD Cert.ReferenceNormMIdeal.τ).loc Cert.ReferenceNormMIdeal.main_arg1) = m' ((c.tc : Thread Cert.ReferenceNormMIdeal.nD Cert.ReferenceNormMIdeal.τ).loc Cert.ReferenceNormMIdeal.main_arg1)
          ∧ r.2.mem ((c.tc : Thread Cert.ReferenceNormMIdeal.nD Cert.ReferenceNormMIdeal.τ).loc Cert.ReferenceNormMIdeal.main_arg2) = m' ((c.tc : Thread Cert.ReferenceNormMIdeal.nD Cert.ReferenceNormMIdeal.τ).loc Cert.ReferenceNormMIdeal.main_arg2))

def preserves_KernelProjMem_KernelProjMemIdeal : Prop :=
  True

def algebraic_KernelProjMemIdeal_ReferenceProjMemIdeal [hKernelProjMemIdeal : Cert.KernelProjMemIdeal.Facts] [hReferenceProjMemIdeal : Cert.ReferenceProjMemIdeal.Facts] : Prop :=
  ∀ (m : (ℓ : Loc Cert.KernelProjMemIdeal.nD Cert.KernelProjMemIdeal.τ Cert.KernelProjMemIdeal.sig) → Buf (Elt Ideal) ℓ) (g : Dev Cert.KernelProjMemIdeal.nD → PrngReg)
    (m' : (ℓ : Loc Cert.ReferenceProjMemIdeal.nD Cert.ReferenceProjMemIdeal.τ Cert.ReferenceProjMemIdeal.sig) → Buf (Elt Ideal) ℓ) (g' : Dev Cert.ReferenceProjMemIdeal.nD → PrngReg), Pre_KernelProjMemIdeal m →
    (∀ c : Dev Cert.KernelProjMemIdeal.nD,
      m' ((c.tc : Thread Cert.ReferenceProjMemIdeal.nD Cert.ReferenceProjMemIdeal.τ).loc Cert.ReferenceProjMemIdeal.main_arg0) = m ((c.tc : Thread Cert.KernelProjMemIdeal.nD Cert.KernelProjMemIdeal.τ).loc Cert.KernelProjMemIdeal.main_arg0)
      ∧ m' ((c.tc : Thread Cert.ReferenceProjMemIdeal.nD Cert.ReferenceProjMemIdeal.τ).loc Cert.ReferenceProjMemIdeal.main_arg1) = m ((c.tc : Thread Cert.KernelProjMemIdeal.nD Cert.KernelProjMemIdeal.τ).loc Cert.KernelProjMemIdeal.main_arg1)) →
    ∃ (v0 : (c : Dev Cert.KernelProjMemIdeal.nD) → Buf (Elt Ideal) ((c.tc : Thread Cert.KernelProjMemIdeal.nD Cert.KernelProjMemIdeal.τ).loc Cert.KernelProjMemIdeal.main_v3)),
      θ_run (Cert.KernelProjMemIdeal.defs (F := Ideal)) (onTc (τ := Cert.KernelProjMemIdeal.τ) (Cert.KernelProjMemIdeal.main (F := Ideal))) ⟨m, fun _ => 0, g⟩ (fun r => ∀ c : Dev Cert.KernelProjMemIdeal.nD,
          r.2.mem ((c.tc : Thread Cert.KernelProjMemIdeal.nD Cert.KernelProjMemIdeal.τ).loc Cert.KernelProjMemIdeal.main_v3) = v0 c
          ∧ r.2.mem ((c.tc : Thread Cert.KernelProjMemIdeal.nD Cert.KernelProjMemIdeal.τ).loc Cert.KernelProjMemIdeal.main_arg0) = m ((c.tc : Thread Cert.KernelProjMemIdeal.nD Cert.KernelProjMemIdeal.τ).loc Cert.KernelProjMemIdeal.main_arg0)
          ∧ r.2.mem ((c.tc : Thread Cert.KernelProjMemIdeal.nD Cert.KernelProjMemIdeal.τ).loc Cert.KernelProjMemIdeal.main_arg1) = m ((c.tc : Thread Cert.KernelProjMemIdeal.nD Cert.KernelProjMemIdeal.τ).loc Cert.KernelProjMemIdeal.main_arg1))
      ∧ θ_run (Cert.ReferenceProjMemIdeal.defs (F := Ideal)) (onTc (τ := Cert.ReferenceProjMemIdeal.τ) (Cert.ReferenceProjMemIdeal.main (F := Ideal))) ⟨m', fun _ => 0, g'⟩ (fun r => ∀ c : Dev Cert.ReferenceProjMemIdeal.nD,
          r.2.mem ((c.tc : Thread Cert.ReferenceProjMemIdeal.nD Cert.ReferenceProjMemIdeal.τ).loc Cert.ReferenceProjMemIdeal.main_v1) = v0 c
          ∧ r.2.mem ((c.tc : Thread Cert.ReferenceProjMemIdeal.nD Cert.ReferenceProjMemIdeal.τ).loc Cert.ReferenceProjMemIdeal.main_arg0) = m' ((c.tc : Thread Cert.ReferenceProjMemIdeal.nD Cert.ReferenceProjMemIdeal.τ).loc Cert.ReferenceProjMemIdeal.main_arg0)
          ∧ r.2.mem ((c.tc : Thread Cert.ReferenceProjMemIdeal.nD Cert.ReferenceProjMemIdeal.τ).loc Cert.ReferenceProjMemIdeal.main_arg1) = m' ((c.tc : Thread Cert.ReferenceProjMemIdeal.nD Cert.ReferenceProjMemIdeal.τ).loc Cert.ReferenceProjMemIdeal.main_arg1))

def preserves_KernelDMemn_KernelDMemnIdeal : Prop :=
  True

def algebraic_KernelDMemnIdeal_ReferenceDMemnIdeal [hKernelDMemnIdeal : Cert.KernelDMemnIdeal.Facts] [hReferenceDMemnIdeal : Cert.ReferenceDMemnIdeal.Facts] : Prop :=
  ∀ (m : (ℓ : Loc Cert.KernelDMemnIdeal.nD Cert.KernelDMemnIdeal.τ Cert.KernelDMemnIdeal.sig) → Buf (Elt Ideal) ℓ) (g : Dev Cert.KernelDMemnIdeal.nD → PrngReg)
    (m' : (ℓ : Loc Cert.ReferenceDMemnIdeal.nD Cert.ReferenceDMemnIdeal.τ Cert.ReferenceDMemnIdeal.sig) → Buf (Elt Ideal) ℓ) (g' : Dev Cert.ReferenceDMemnIdeal.nD → PrngReg), Pre_KernelDMemnIdeal m →
    (∀ c : Dev Cert.KernelDMemnIdeal.nD,
      m' ((c.tc : Thread Cert.ReferenceDMemnIdeal.nD Cert.ReferenceDMemnIdeal.τ).loc Cert.ReferenceDMemnIdeal.main_arg0) = m ((c.tc : Thread Cert.KernelDMemnIdeal.nD Cert.KernelDMemnIdeal.τ).loc Cert.KernelDMemnIdeal.main_arg0)
      ∧ m' ((c.tc : Thread Cert.ReferenceDMemnIdeal.nD Cert.ReferenceDMemnIdeal.τ).loc Cert.ReferenceDMemnIdeal.main_arg1) = m ((c.tc : Thread Cert.KernelDMemnIdeal.nD Cert.KernelDMemnIdeal.τ).loc Cert.KernelDMemnIdeal.main_arg1)) →
    ∃ (v0 : (c : Dev Cert.KernelDMemnIdeal.nD) → Buf (Elt Ideal) ((c.tc : Thread Cert.KernelDMemnIdeal.nD Cert.KernelDMemnIdeal.τ).loc Cert.KernelDMemnIdeal.main_v3)),
      θ_run (Cert.KernelDMemnIdeal.defs (F := Ideal)) (onTc (τ := Cert.KernelDMemnIdeal.τ) (Cert.KernelDMemnIdeal.main (F := Ideal))) ⟨m, fun _ => 0, g⟩ (fun r => ∀ c : Dev Cert.KernelDMemnIdeal.nD,
          r.2.mem ((c.tc : Thread Cert.KernelDMemnIdeal.nD Cert.KernelDMemnIdeal.τ).loc Cert.KernelDMemnIdeal.main_v3) = v0 c
          ∧ r.2.mem ((c.tc : Thread Cert.KernelDMemnIdeal.nD Cert.KernelDMemnIdeal.τ).loc Cert.KernelDMemnIdeal.main_arg0) = m ((c.tc : Thread Cert.KernelDMemnIdeal.nD Cert.KernelDMemnIdeal.τ).loc Cert.KernelDMemnIdeal.main_arg0)
          ∧ r.2.mem ((c.tc : Thread Cert.KernelDMemnIdeal.nD Cert.KernelDMemnIdeal.τ).loc Cert.KernelDMemnIdeal.main_arg1) = m ((c.tc : Thread Cert.KernelDMemnIdeal.nD Cert.KernelDMemnIdeal.τ).loc Cert.KernelDMemnIdeal.main_arg1))
      ∧ θ_run (Cert.ReferenceDMemnIdeal.defs (F := Ideal)) (onTc (τ := Cert.ReferenceDMemnIdeal.τ) (Cert.ReferenceDMemnIdeal.main (F := Ideal))) ⟨m', fun _ => 0, g'⟩ (fun r => ∀ c : Dev Cert.ReferenceDMemnIdeal.nD,
          r.2.mem ((c.tc : Thread Cert.ReferenceDMemnIdeal.nD Cert.ReferenceDMemnIdeal.τ).loc Cert.ReferenceDMemnIdeal.main_v3) = v0 c
          ∧ r.2.mem ((c.tc : Thread Cert.ReferenceDMemnIdeal.nD Cert.ReferenceDMemnIdeal.τ).loc Cert.ReferenceDMemnIdeal.main_arg0) = m' ((c.tc : Thread Cert.ReferenceDMemnIdeal.nD Cert.ReferenceDMemnIdeal.τ).loc Cert.ReferenceDMemnIdeal.main_arg0)
          ∧ r.2.mem ((c.tc : Thread Cert.ReferenceDMemnIdeal.nD Cert.ReferenceDMemnIdeal.τ).loc Cert.ReferenceDMemnIdeal.main_arg1) = m' ((c.tc : Thread Cert.ReferenceDMemnIdeal.nD Cert.ReferenceDMemnIdeal.τ).loc Cert.ReferenceDMemnIdeal.main_arg1))

def preserves_KernelNormF_KernelNormFIdeal : Prop :=
  True

def algebraic_KernelNormFIdeal_ReferenceNormFIdeal [hKernelNormFIdeal : Cert.KernelNormFIdeal.Facts] [hReferenceNormFIdeal : Cert.ReferenceNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg)
    (m' : (ℓ : Loc Cert.ReferenceNormFIdeal.nD Cert.ReferenceNormFIdeal.τ Cert.ReferenceNormFIdeal.sig) → Buf (Elt Ideal) ℓ) (g' : Dev Cert.ReferenceNormFIdeal.nD → PrngReg), Pre_KernelNormFIdeal m →
    (∀ c : Dev Cert.KernelNormFIdeal.nD,
      m' ((c.tc : Thread Cert.ReferenceNormFIdeal.nD Cert.ReferenceNormFIdeal.τ).loc Cert.ReferenceNormFIdeal.main_arg0) = m ((c.tc : Thread Cert.KernelNormFIdeal.nD Cert.KernelNormFIdeal.τ).loc Cert.KernelNormFIdeal.main_arg0)
      ∧ m' ((c.tc : Thread Cert.ReferenceNormFIdeal.nD Cert.ReferenceNormFIdeal.τ).loc Cert.ReferenceNormFIdeal.main_arg1) = m ((c.tc : Thread Cert.KernelNormFIdeal.nD Cert.KernelNormFIdeal.τ).loc Cert.KernelNormFIdeal.main_arg1)) →
    ∃ (v0 : (c : Dev Cert.KernelNormFIdeal.nD) → Buf (Elt Ideal) ((c.tc : Thread Cert.KernelNormFIdeal.nD Cert.KernelNormFIdeal.τ).loc Cert.KernelNormFIdeal.main_v1)),
      θ_run (Cert.KernelNormFIdeal.defs (F := Ideal)) (onTc (τ := Cert.KernelNormFIdeal.τ) (Cert.KernelNormFIdeal.main (F := Ideal))) ⟨m, fun _ => 0, g⟩ (fun r => ∀ c : Dev Cert.KernelNormFIdeal.nD,
          r.2.mem ((c.tc : Thread Cert.KernelNormFIdeal.nD Cert.KernelNormFIdeal.τ).loc Cert.KernelNormFIdeal.main_v1) = v0 c
          ∧ r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
          ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1))
      ∧ θ_run (Cert.ReferenceNormFIdeal.defs (F := Ideal)) (onTc (τ := Cert.ReferenceNormFIdeal.τ) (Cert.ReferenceNormFIdeal.main (F := Ideal))) ⟨m', fun _ => 0, g'⟩ (fun r => ∀ c : Dev Cert.ReferenceNormFIdeal.nD,
          r.2.mem ((c.tc : Thread Cert.ReferenceNormFIdeal.nD Cert.ReferenceNormFIdeal.τ).loc Cert.ReferenceNormFIdeal.main_v15) = v0 c
          ∧ r.2.mem ((c.tc : Thread Cert.ReferenceNormFIdeal.nD Cert.ReferenceNormFIdeal.τ).loc Cert.ReferenceNormFIdeal.main_arg0) = m' ((c.tc : Thread Cert.ReferenceNormFIdeal.nD Cert.ReferenceNormFIdeal.τ).loc Cert.ReferenceNormFIdeal.main_arg0)
          ∧ r.2.mem ((c.tc : Thread Cert.ReferenceNormFIdeal.nD Cert.ReferenceNormFIdeal.τ).loc Cert.ReferenceNormFIdeal.main_arg1) = m' ((c.tc : Thread Cert.ReferenceNormFIdeal.nD Cert.ReferenceNormFIdeal.τ).loc Cert.ReferenceNormFIdeal.main_arg1))

def preserves_KernelNormMF_KernelNormMFIdeal : Prop :=
  True

def algebraic_KernelNormMFIdeal_ReferenceNormMFIdeal [hKernelNormMFIdeal : Cert.KernelNormMFIdeal.Facts] [hReferenceNormMFIdeal : Cert.ReferenceNormMFIdeal.Facts] : Prop :=
  ∀ (m : (ℓ : Loc Cert.KernelNormMFIdeal.nD Cert.KernelNormMFIdeal.τ Cert.KernelNormMFIdeal.sig) → Buf (Elt Ideal) ℓ) (g : Dev Cert.KernelNormMFIdeal.nD → PrngReg)
    (m' : (ℓ : Loc Cert.ReferenceNormMFIdeal.nD Cert.ReferenceNormMFIdeal.τ Cert.ReferenceNormMFIdeal.sig) → Buf (Elt Ideal) ℓ) (g' : Dev Cert.ReferenceNormMFIdeal.nD → PrngReg), Pre_KernelNormMFIdeal m →
    (∀ c : Dev Cert.KernelNormMFIdeal.nD,
      m' ((c.tc : Thread Cert.ReferenceNormMFIdeal.nD Cert.ReferenceNormMFIdeal.τ).loc Cert.ReferenceNormMFIdeal.main_arg0) = m ((c.tc : Thread Cert.KernelNormMFIdeal.nD Cert.KernelNormMFIdeal.τ).loc Cert.KernelNormMFIdeal.main_arg0)
      ∧ m' ((c.tc : Thread Cert.ReferenceNormMFIdeal.nD Cert.ReferenceNormMFIdeal.τ).loc Cert.ReferenceNormMFIdeal.main_arg1) = m ((c.tc : Thread Cert.KernelNormMFIdeal.nD Cert.KernelNormMFIdeal.τ).loc Cert.KernelNormMFIdeal.main_arg1)) →
    ∃ (v0 : (c : Dev Cert.KernelNormMFIdeal.nD) → Buf (Elt Ideal) ((c.tc : Thread Cert.KernelNormMFIdeal.nD Cert.KernelNormMFIdeal.τ).loc Cert.KernelNormMFIdeal.main_v1)),
      θ_run (Cert.KernelNormMFIdeal.defs (F := Ideal)) (onTc (τ := Cert.KernelNormMFIdeal.τ) (Cert.KernelNormMFIdeal.main (F := Ideal))) ⟨m, fun _ => 0, g⟩ (fun r => ∀ c : Dev Cert.KernelNormMFIdeal.nD,
          r.2.mem ((c.tc : Thread Cert.KernelNormMFIdeal.nD Cert.KernelNormMFIdeal.τ).loc Cert.KernelNormMFIdeal.main_v1) = v0 c
          ∧ r.2.mem ((c.tc : Thread Cert.KernelNormMFIdeal.nD Cert.KernelNormMFIdeal.τ).loc Cert.KernelNormMFIdeal.main_arg0) = m ((c.tc : Thread Cert.KernelNormMFIdeal.nD Cert.KernelNormMFIdeal.τ).loc Cert.KernelNormMFIdeal.main_arg0)
          ∧ r.2.mem ((c.tc : Thread Cert.KernelNormMFIdeal.nD Cert.KernelNormMFIdeal.τ).loc Cert.KernelNormMFIdeal.main_arg1) = m ((c.tc : Thread Cert.KernelNormMFIdeal.nD Cert.KernelNormMFIdeal.τ).loc Cert.KernelNormMFIdeal.main_arg1))
      ∧ θ_run (Cert.ReferenceNormMFIdeal.defs (F := Ideal)) (onTc (τ := Cert.ReferenceNormMFIdeal.τ) (Cert.ReferenceNormMFIdeal.main (F := Ideal))) ⟨m', fun _ => 0, g'⟩ (fun r => ∀ c : Dev Cert.ReferenceNormMFIdeal.nD,
          r.2.mem ((c.tc : Thread Cert.ReferenceNormMFIdeal.nD Cert.ReferenceNormMFIdeal.τ).loc Cert.ReferenceNormMFIdeal.main_v15) = v0 c
          ∧ r.2.mem ((c.tc : Thread Cert.ReferenceNormMFIdeal.nD Cert.ReferenceNormMFIdeal.τ).loc Cert.ReferenceNormMFIdeal.main_arg0) = m' ((c.tc : Thread Cert.ReferenceNormMFIdeal.nD Cert.ReferenceNormMFIdeal.τ).loc Cert.ReferenceNormMFIdeal.main_arg0)
          ∧ r.2.mem ((c.tc : Thread Cert.ReferenceNormMFIdeal.nD Cert.ReferenceNormMFIdeal.τ).loc Cert.ReferenceNormMFIdeal.main_arg1) = m' ((c.tc : Thread Cert.ReferenceNormMFIdeal.nD Cert.ReferenceNormMFIdeal.τ).loc Cert.ReferenceNormMFIdeal.main_arg1))

def preserves_KernelMemF_KernelMemFIdeal : Prop :=
  True

def algebraic_KernelMemFIdeal_ReferenceMemFIdeal [hKernelMemFIdeal : Cert.KernelMemFIdeal.Facts] [hReferenceMemFIdeal : Cert.ReferenceMemFIdeal.Facts] : Prop :=
  ∀ (m : (ℓ : Loc Cert.KernelMemFIdeal.nD Cert.KernelMemFIdeal.τ Cert.KernelMemFIdeal.sig) → Buf (Elt Ideal) ℓ) (g : Dev Cert.KernelMemFIdeal.nD → PrngReg)
    (m' : (ℓ : Loc Cert.ReferenceMemFIdeal.nD Cert.ReferenceMemFIdeal.τ Cert.ReferenceMemFIdeal.sig) → Buf (Elt Ideal) ℓ) (g' : Dev Cert.ReferenceMemFIdeal.nD → PrngReg), Pre_KernelMemFIdeal m →
    (∀ c : Dev Cert.KernelMemFIdeal.nD,
      m' ((c.tc : Thread Cert.ReferenceMemFIdeal.nD Cert.ReferenceMemFIdeal.τ).loc Cert.ReferenceMemFIdeal.main_arg0) = m ((c.tc : Thread Cert.KernelMemFIdeal.nD Cert.KernelMemFIdeal.τ).loc Cert.KernelMemFIdeal.main_arg0)
      ∧ m' ((c.tc : Thread Cert.ReferenceMemFIdeal.nD Cert.ReferenceMemFIdeal.τ).loc Cert.ReferenceMemFIdeal.main_arg1) = m ((c.tc : Thread Cert.KernelMemFIdeal.nD Cert.KernelMemFIdeal.τ).loc Cert.KernelMemFIdeal.main_arg1)
      ∧ m' ((c.tc : Thread Cert.ReferenceMemFIdeal.nD Cert.ReferenceMemFIdeal.τ).loc Cert.ReferenceMemFIdeal.main_arg2) = m ((c.tc : Thread Cert.KernelMemFIdeal.nD Cert.KernelMemFIdeal.τ).loc Cert.KernelMemFIdeal.main_arg2)
      ∧ m' ((c.tc : Thread Cert.ReferenceMemFIdeal.nD Cert.ReferenceMemFIdeal.τ).loc Cert.ReferenceMemFIdeal.main_arg3) = m ((c.tc : Thread Cert.KernelMemFIdeal.nD Cert.KernelMemFIdeal.τ).loc Cert.KernelMemFIdeal.main_arg3)) →
    ∃ (v0 : (c : Dev Cert.KernelMemFIdeal.nD) → Buf (Elt Ideal) ((c.tc : Thread Cert.KernelMemFIdeal.nD Cert.KernelMemFIdeal.τ).loc Cert.KernelMemFIdeal.main_v6)),
      θ_run (Cert.KernelMemFIdeal.defs (F := Ideal)) (onTc (τ := Cert.KernelMemFIdeal.τ) (Cert.KernelMemFIdeal.main (F := Ideal))) ⟨m, fun _ => 0, g⟩ (fun r => ∀ c : Dev Cert.KernelMemFIdeal.nD,
          r.2.mem ((c.tc : Thread Cert.KernelMemFIdeal.nD Cert.KernelMemFIdeal.τ).loc Cert.KernelMemFIdeal.main_v6) = v0 c
          ∧ r.2.mem ((c.tc : Thread Cert.KernelMemFIdeal.nD Cert.KernelMemFIdeal.τ).loc Cert.KernelMemFIdeal.main_arg0) = m ((c.tc : Thread Cert.KernelMemFIdeal.nD Cert.KernelMemFIdeal.τ).loc Cert.KernelMemFIdeal.main_arg0)
          ∧ r.2.mem ((c.tc : Thread Cert.KernelMemFIdeal.nD Cert.KernelMemFIdeal.τ).loc Cert.KernelMemFIdeal.main_arg1) = m ((c.tc : Thread Cert.KernelMemFIdeal.nD Cert.KernelMemFIdeal.τ).loc Cert.KernelMemFIdeal.main_arg1)
          ∧ r.2.mem ((c.tc : Thread Cert.KernelMemFIdeal.nD Cert.KernelMemFIdeal.τ).loc Cert.KernelMemFIdeal.main_arg2) = m ((c.tc : Thread Cert.KernelMemFIdeal.nD Cert.KernelMemFIdeal.τ).loc Cert.KernelMemFIdeal.main_arg2)
          ∧ r.2.mem ((c.tc : Thread Cert.KernelMemFIdeal.nD Cert.KernelMemFIdeal.τ).loc Cert.KernelMemFIdeal.main_arg3) = m ((c.tc : Thread Cert.KernelMemFIdeal.nD Cert.KernelMemFIdeal.τ).loc Cert.KernelMemFIdeal.main_arg3))
      ∧ θ_run (Cert.ReferenceMemFIdeal.defs (F := Ideal)) (onTc (τ := Cert.ReferenceMemFIdeal.τ) (Cert.ReferenceMemFIdeal.main (F := Ideal))) ⟨m', fun _ => 0, g'⟩ (fun r => ∀ c : Dev Cert.ReferenceMemFIdeal.nD,
          r.2.mem ((c.tc : Thread Cert.ReferenceMemFIdeal.nD Cert.ReferenceMemFIdeal.τ).loc Cert.ReferenceMemFIdeal.main_v51) = v0 c
          ∧ r.2.mem ((c.tc : Thread Cert.ReferenceMemFIdeal.nD Cert.ReferenceMemFIdeal.τ).loc Cert.ReferenceMemFIdeal.main_arg0) = m' ((c.tc : Thread Cert.ReferenceMemFIdeal.nD Cert.ReferenceMemFIdeal.τ).loc Cert.ReferenceMemFIdeal.main_arg0)
          ∧ r.2.mem ((c.tc : Thread Cert.ReferenceMemFIdeal.nD Cert.ReferenceMemFIdeal.τ).loc Cert.ReferenceMemFIdeal.main_arg1) = m' ((c.tc : Thread Cert.ReferenceMemFIdeal.nD Cert.ReferenceMemFIdeal.τ).loc Cert.ReferenceMemFIdeal.main_arg1)
          ∧ r.2.mem ((c.tc : Thread Cert.ReferenceMemFIdeal.nD Cert.ReferenceMemFIdeal.τ).loc Cert.ReferenceMemFIdeal.main_arg2) = m' ((c.tc : Thread Cert.ReferenceMemFIdeal.nD Cert.ReferenceMemFIdeal.τ).loc Cert.ReferenceMemFIdeal.main_arg2)
          ∧ r.2.mem ((c.tc : Thread Cert.ReferenceMemFIdeal.nD Cert.ReferenceMemFIdeal.τ).loc Cert.ReferenceMemFIdeal.main_arg3) = m' ((c.tc : Thread Cert.ReferenceMemFIdeal.nD Cert.ReferenceMemFIdeal.τ).loc Cert.ReferenceMemFIdeal.main_arg3))

def Claim : Prop :=
  ∃ (hKernel : Cert.Kernel.Facts) (hKernelIdeal : Cert.KernelIdeal.Facts) (hReferenceIdeal : Cert.ReferenceIdeal.Facts) (hKernelDh2 : Cert.KernelDh2.Facts) (hKernelDh2Ideal : Cert.KernelDh2Ideal.Facts) (hReferenceDh2Ideal : Cert.ReferenceDh2Ideal.Facts) (hKernelWUp : Cert.KernelWUp.Facts) (hKernelWUpIdeal : Cert.KernelWUpIdeal.Facts) (hReferenceWUpIdeal : Cert.ReferenceWUpIdeal.Facts) (hKernelConv : Cert.KernelConv.Facts) (hKernelConvIdeal : Cert.KernelConvIdeal.Facts) (hReferenceConvIdeal : Cert.ReferenceConvIdeal.Facts) (hKernelWDown : Cert.KernelWDown.Facts) (hKernelWDownIdeal : Cert.KernelWDownIdeal.Facts) (hReferenceWDownIdeal : Cert.ReferenceWDownIdeal.Facts) (hKernelWOut : Cert.KernelWOut.Facts) (hKernelWOutIdeal : Cert.KernelWOutIdeal.Facts) (hReferenceWOutIdeal : Cert.ReferenceWOutIdeal.Facts) (hKernelWBr : Cert.KernelWBr.Facts) (hKernelWBrIdeal : Cert.KernelWBrIdeal.Facts) (hReferenceWBrIdeal : Cert.ReferenceWBrIdeal.Facts) (hKernelWInFox : Cert.KernelWInFox.Facts) (hKernelWInFoxIdeal : Cert.KernelWInFoxIdeal.Facts) (hReferenceWInFoxIdeal : Cert.ReferenceWInFoxIdeal.Facts) (hKernelWInMq : Cert.KernelWInMq.Facts) (hKernelWInMqIdeal : Cert.KernelWInMqIdeal.Facts) (hReferenceWInMqIdeal : Cert.ReferenceWInMqIdeal.Facts) (hKernelWInHg : Cert.KernelWInHg.Facts) (hKernelWInHgIdeal : Cert.KernelWInHgIdeal.Facts) (hReferenceWInHgIdeal : Cert.ReferenceWInHgIdeal.Facts) (hKernelWInGate : Cert.KernelWInGate.Facts) (hKernelWInGateIdeal : Cert.KernelWInGateIdeal.Facts) (hReferenceWInGateIdeal : Cert.ReferenceWInGateIdeal.Facts) (hKernelWInFf : Cert.KernelWInFf.Facts) (hKernelWInFfIdeal : Cert.KernelWInFfIdeal.Facts) (hReferenceWInFfIdeal : Cert.ReferenceWInFfIdeal.Facts) (hKernelProjIn : Cert.KernelProjIn.Facts) (hKernelProjInIdeal : Cert.KernelProjInIdeal.Facts) (hReferenceProjInIdeal : Cert.ReferenceProjInIdeal.Facts) (hKernelFfnUp : Cert.KernelFfnUp.Facts) (hKernelFfnUpIdeal : Cert.KernelFfnUpIdeal.Facts) (hReferenceFfnUpIdeal : Cert.ReferenceFfnUpIdeal.Facts) (hKernelDh : Cert.KernelDh.Facts) (hKernelDhIdeal : Cert.KernelDhIdeal.Facts) (hReferenceDhIdeal : Cert.ReferenceDhIdeal.Facts) (hKernelMergeB : Cert.KernelMergeB.Facts) (hKernelMergeBIdeal : Cert.KernelMergeBIdeal.Facts) (hReferenceMergeBIdeal : Cert.ReferenceMergeBIdeal.Facts) (hKernelMergeF : Cert.KernelMergeF.Facts) (hKernelMergeFIdeal : Cert.KernelMergeFIdeal.Facts) (hReferenceMergeFIdeal : Cert.ReferenceMergeFIdeal.Facts) (hKernelLoss : Cert.KernelLoss.Facts) (hKernelLossIdeal : Cert.KernelLossIdeal.Facts) (hReferenceLossIdeal : Cert.ReferenceLossIdeal.Facts) (hKernelNormB : Cert.KernelNormB.Facts) (hKernelNormBIdeal : Cert.KernelNormBIdeal.Facts) (hReferenceNormBIdeal : Cert.ReferenceNormBIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamBr : Cert.KernelAdamBr.Facts) (hKernelAdamBrIdeal : Cert.KernelAdamBrIdeal.Facts) (hReferenceAdamBrIdeal : Cert.ReferenceAdamBrIdeal.Facts) (hKernelAdamUp : Cert.KernelAdamUp.Facts) (hKernelAdamUpIdeal : Cert.KernelAdamUpIdeal.Facts) (hReferenceAdamUpIdeal : Cert.ReferenceAdamUpIdeal.Facts) (hKernelAdamConv : Cert.KernelAdamConv.Facts) (hKernelAdamConvIdeal : Cert.KernelAdamConvIdeal.Facts) (hReferenceAdamConvIdeal : Cert.ReferenceAdamConvIdeal.Facts) (hKernelAdamDown : Cert.KernelAdamDown.Facts) (hKernelAdamDownIdeal : Cert.KernelAdamDownIdeal.Facts) (hReferenceAdamDownIdeal : Cert.ReferenceAdamDownIdeal.Facts) (hKernelAdamSmall : Cert.KernelAdamSmall.Facts) (hKernelAdamSmallIdeal : Cert.KernelAdamSmallIdeal.Facts) (hReferenceAdamSmallIdeal : Cert.ReferenceAdamSmallIdeal.Facts) (hKernelWMem : Cert.KernelWMem.Facts) (hKernelWMemIdeal : Cert.KernelWMemIdeal.Facts) (hReferenceWMemIdeal : Cert.ReferenceWMemIdeal.Facts) (hKernelNormM : Cert.KernelNormM.Facts) (hKernelNormMIdeal : Cert.KernelNormMIdeal.Facts) (hReferenceNormMIdeal : Cert.ReferenceNormMIdeal.Facts) (hKernelProjMem : Cert.KernelProjMem.Facts) (hKernelProjMemIdeal : Cert.KernelProjMemIdeal.Facts) (hReferenceProjMemIdeal : Cert.ReferenceProjMemIdeal.Facts) (hKernelDMemn : Cert.KernelDMemn.Facts) (hKernelDMemnIdeal : Cert.KernelDMemnIdeal.Facts) (hReferenceDMemnIdeal : Cert.ReferenceDMemnIdeal.Facts) (hKernelNormF : Cert.KernelNormF.Facts) (hKernelNormFIdeal : Cert.KernelNormFIdeal.Facts) (hReferenceNormFIdeal : Cert.ReferenceNormFIdeal.Facts) (hKernelNormMF : Cert.KernelNormMF.Facts) (hKernelNormMFIdeal : Cert.KernelNormMFIdeal.Facts) (hReferenceNormMFIdeal : Cert.ReferenceNormMFIdeal.Facts) (hKernelMemF : Cert.KernelMemF.Facts) (hKernelMemFIdeal : Cert.KernelMemFIdeal.Facts) (hReferenceMemFIdeal : Cert.ReferenceMemFIdeal.Facts) (hPre_gains_finite : Cert.Pre_gains_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_KernelDh2 (hKernelDh2 := hKernelDh2)
    ∧ quiescent_KernelDh2Ideal (hKernelDh2Ideal := hKernelDh2Ideal)
    ∧ quiescent_ReferenceDh2Ideal (hReferenceDh2Ideal := hReferenceDh2Ideal)
    ∧ quiescent_KernelWUp (hKernelWUp := hKernelWUp)
    ∧ quiescent_KernelWUpIdeal (hKernelWUpIdeal := hKernelWUpIdeal)
    ∧ quiescent_ReferenceWUpIdeal (hReferenceWUpIdeal := hReferenceWUpIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelWDown (hKernelWDown := hKernelWDown)
    ∧ quiescent_KernelWDownIdeal (hKernelWDownIdeal := hKernelWDownIdeal)
    ∧ quiescent_ReferenceWDownIdeal (hReferenceWDownIdeal := hReferenceWDownIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelWBr (hKernelWBr := hKernelWBr)
    ∧ quiescent_KernelWBrIdeal (hKernelWBrIdeal := hKernelWBrIdeal)
    ∧ quiescent_ReferenceWBrIdeal (hReferenceWBrIdeal := hReferenceWBrIdeal)
    ∧ quiescent_KernelWInFox (hKernelWInFox := hKernelWInFox)
    ∧ quiescent_KernelWInFoxIdeal (hKernelWInFoxIdeal := hKernelWInFoxIdeal)
    ∧ quiescent_ReferenceWInFoxIdeal (hReferenceWInFoxIdeal := hReferenceWInFoxIdeal)
    ∧ quiescent_KernelWInMq (hKernelWInMq := hKernelWInMq)
    ∧ quiescent_KernelWInMqIdeal (hKernelWInMqIdeal := hKernelWInMqIdeal)
    ∧ quiescent_ReferenceWInMqIdeal (hReferenceWInMqIdeal := hReferenceWInMqIdeal)
    ∧ quiescent_KernelWInHg (hKernelWInHg := hKernelWInHg)
    ∧ quiescent_KernelWInHgIdeal (hKernelWInHgIdeal := hKernelWInHgIdeal)
    ∧ quiescent_ReferenceWInHgIdeal (hReferenceWInHgIdeal := hReferenceWInHgIdeal)
    ∧ quiescent_KernelWInGate (hKernelWInGate := hKernelWInGate)
    ∧ quiescent_KernelWInGateIdeal (hKernelWInGateIdeal := hKernelWInGateIdeal)
    ∧ quiescent_ReferenceWInGateIdeal (hReferenceWInGateIdeal := hReferenceWInGateIdeal)
    ∧ quiescent_KernelWInFf (hKernelWInFf := hKernelWInFf)
    ∧ quiescent_KernelWInFfIdeal (hKernelWInFfIdeal := hKernelWInFfIdeal)
    ∧ quiescent_ReferenceWInFfIdeal (hReferenceWInFfIdeal := hReferenceWInFfIdeal)
    ∧ quiescent_KernelProjIn (hKernelProjIn := hKernelProjIn)
    ∧ quiescent_KernelProjInIdeal (hKernelProjInIdeal := hKernelProjInIdeal)
    ∧ quiescent_ReferenceProjInIdeal (hReferenceProjInIdeal := hReferenceProjInIdeal)
    ∧ quiescent_KernelFfnUp (hKernelFfnUp := hKernelFfnUp)
    ∧ quiescent_KernelFfnUpIdeal (hKernelFfnUpIdeal := hKernelFfnUpIdeal)
    ∧ quiescent_ReferenceFfnUpIdeal (hReferenceFfnUpIdeal := hReferenceFfnUpIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelMergeB (hKernelMergeB := hKernelMergeB)
    ∧ quiescent_KernelMergeBIdeal (hKernelMergeBIdeal := hKernelMergeBIdeal)
    ∧ quiescent_ReferenceMergeBIdeal (hReferenceMergeBIdeal := hReferenceMergeBIdeal)
    ∧ quiescent_KernelMergeF (hKernelMergeF := hKernelMergeF)
    ∧ quiescent_KernelMergeFIdeal (hKernelMergeFIdeal := hKernelMergeFIdeal)
    ∧ quiescent_ReferenceMergeFIdeal (hReferenceMergeFIdeal := hReferenceMergeFIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelNormB (hKernelNormB := hKernelNormB)
    ∧ quiescent_KernelNormBIdeal (hKernelNormBIdeal := hKernelNormBIdeal)
    ∧ quiescent_ReferenceNormBIdeal (hReferenceNormBIdeal := hReferenceNormBIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamBr (hKernelAdamBr := hKernelAdamBr)
    ∧ quiescent_KernelAdamBrIdeal (hKernelAdamBrIdeal := hKernelAdamBrIdeal)
    ∧ quiescent_ReferenceAdamBrIdeal (hReferenceAdamBrIdeal := hReferenceAdamBrIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelWMem (hKernelWMem := hKernelWMem)
    ∧ quiescent_KernelWMemIdeal (hKernelWMemIdeal := hKernelWMemIdeal)
    ∧ quiescent_ReferenceWMemIdeal (hReferenceWMemIdeal := hReferenceWMemIdeal)
    ∧ quiescent_KernelNormM (hKernelNormM := hKernelNormM)
    ∧ quiescent_KernelNormMIdeal (hKernelNormMIdeal := hKernelNormMIdeal)
    ∧ quiescent_ReferenceNormMIdeal (hReferenceNormMIdeal := hReferenceNormMIdeal)
    ∧ quiescent_KernelProjMem (hKernelProjMem := hKernelProjMem)
    ∧ quiescent_KernelProjMemIdeal (hKernelProjMemIdeal := hKernelProjMemIdeal)
    ∧ quiescent_ReferenceProjMemIdeal (hReferenceProjMemIdeal := hReferenceProjMemIdeal)
    ∧ quiescent_KernelDMemn (hKernelDMemn := hKernelDMemn)
    ∧ quiescent_KernelDMemnIdeal (hKernelDMemnIdeal := hKernelDMemnIdeal)
    ∧ quiescent_ReferenceDMemnIdeal (hReferenceDMemnIdeal := hReferenceDMemnIdeal)
    ∧ quiescent_KernelNormF (hKernelNormF := hKernelNormF)
    ∧ quiescent_KernelNormFIdeal (hKernelNormFIdeal := hKernelNormFIdeal)
    ∧ quiescent_ReferenceNormFIdeal (hReferenceNormFIdeal := hReferenceNormFIdeal)
    ∧ quiescent_KernelNormMF (hKernelNormMF := hKernelNormMF)
    ∧ quiescent_KernelNormMFIdeal (hKernelNormMFIdeal := hKernelNormMFIdeal)
    ∧ quiescent_ReferenceNormMFIdeal (hReferenceNormMFIdeal := hReferenceNormMFIdeal)
    ∧ quiescent_KernelMemF (hKernelMemF := hKernelMemF)
    ∧ quiescent_KernelMemFIdeal (hKernelMemFIdeal := hKernelMemFIdeal)
    ∧ quiescent_ReferenceMemFIdeal (hReferenceMemFIdeal := hReferenceMemFIdeal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_KernelDh2_KernelDh2Ideal
    ∧ algebraic_KernelDh2Ideal_ReferenceDh2Ideal (hKernelDh2Ideal := hKernelDh2Ideal) (hReferenceDh2Ideal := hReferenceDh2Ideal)
    ∧ preserves_KernelWUp_KernelWUpIdeal
    ∧ algebraic_KernelWUpIdeal_ReferenceWUpIdeal (hKernelWUpIdeal := hKernelWUpIdeal) (hReferenceWUpIdeal := hReferenceWUpIdeal)
    ∧ preserves_KernelConv_KernelConvIdeal
    ∧ algebraic_KernelConvIdeal_ReferenceConvIdeal (hKernelConvIdeal := hKernelConvIdeal) (hReferenceConvIdeal := hReferenceConvIdeal)
    ∧ preserves_KernelWDown_KernelWDownIdeal
    ∧ algebraic_KernelWDownIdeal_ReferenceWDownIdeal (hKernelWDownIdeal := hKernelWDownIdeal) (hReferenceWDownIdeal := hReferenceWDownIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelWBr_KernelWBrIdeal
    ∧ algebraic_KernelWBrIdeal_ReferenceWBrIdeal (hKernelWBrIdeal := hKernelWBrIdeal) (hReferenceWBrIdeal := hReferenceWBrIdeal)
    ∧ preserves_KernelWInFox_KernelWInFoxIdeal
    ∧ algebraic_KernelWInFoxIdeal_ReferenceWInFoxIdeal (hKernelWInFoxIdeal := hKernelWInFoxIdeal) (hReferenceWInFoxIdeal := hReferenceWInFoxIdeal)
    ∧ preserves_KernelWInMq_KernelWInMqIdeal
    ∧ algebraic_KernelWInMqIdeal_ReferenceWInMqIdeal (hKernelWInMqIdeal := hKernelWInMqIdeal) (hReferenceWInMqIdeal := hReferenceWInMqIdeal)
    ∧ preserves_KernelWInHg_KernelWInHgIdeal
    ∧ algebraic_KernelWInHgIdeal_ReferenceWInHgIdeal (hKernelWInHgIdeal := hKernelWInHgIdeal) (hReferenceWInHgIdeal := hReferenceWInHgIdeal)
    ∧ preserves_KernelWInGate_KernelWInGateIdeal
    ∧ algebraic_KernelWInGateIdeal_ReferenceWInGateIdeal (hKernelWInGateIdeal := hKernelWInGateIdeal) (hReferenceWInGateIdeal := hReferenceWInGateIdeal)
    ∧ preserves_KernelWInFf_KernelWInFfIdeal
    ∧ algebraic_KernelWInFfIdeal_ReferenceWInFfIdeal (hKernelWInFfIdeal := hKernelWInFfIdeal) (hReferenceWInFfIdeal := hReferenceWInFfIdeal)
    ∧ preserves_KernelProjIn_KernelProjInIdeal
    ∧ algebraic_KernelProjInIdeal_ReferenceProjInIdeal (hKernelProjInIdeal := hKernelProjInIdeal) (hReferenceProjInIdeal := hReferenceProjInIdeal)
    ∧ preserves_KernelFfnUp_KernelFfnUpIdeal
    ∧ algebraic_KernelFfnUpIdeal_ReferenceFfnUpIdeal (hKernelFfnUpIdeal := hKernelFfnUpIdeal) (hReferenceFfnUpIdeal := hReferenceFfnUpIdeal)
    ∧ preserves_KernelDh_KernelDhIdeal
    ∧ algebraic_KernelDhIdeal_ReferenceDhIdeal (hKernelDhIdeal := hKernelDhIdeal) (hReferenceDhIdeal := hReferenceDhIdeal)
    ∧ preserves_KernelMergeB_KernelMergeBIdeal
    ∧ algebraic_KernelMergeBIdeal_ReferenceMergeBIdeal (hKernelMergeBIdeal := hKernelMergeBIdeal) (hReferenceMergeBIdeal := hReferenceMergeBIdeal)
    ∧ preserves_KernelMergeF_KernelMergeFIdeal
    ∧ algebraic_KernelMergeFIdeal_ReferenceMergeFIdeal (hKernelMergeFIdeal := hKernelMergeFIdeal) (hReferenceMergeFIdeal := hReferenceMergeFIdeal)
    ∧ preserves_KernelLoss_KernelLossIdeal
    ∧ algebraic_KernelLossIdeal_ReferenceLossIdeal (hKernelLossIdeal := hKernelLossIdeal) (hReferenceLossIdeal := hReferenceLossIdeal)
    ∧ preserves_KernelNormB_KernelNormBIdeal
    ∧ algebraic_KernelNormBIdeal_ReferenceNormBIdeal (hKernelNormBIdeal := hKernelNormBIdeal) (hReferenceNormBIdeal := hReferenceNormBIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamBr_KernelAdamBrIdeal
    ∧ algebraic_KernelAdamBrIdeal_ReferenceAdamBrIdeal (hKernelAdamBrIdeal := hKernelAdamBrIdeal) (hReferenceAdamBrIdeal := hReferenceAdamBrIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelWMem_KernelWMemIdeal
    ∧ algebraic_KernelWMemIdeal_ReferenceWMemIdeal (hKernelWMemIdeal := hKernelWMemIdeal) (hReferenceWMemIdeal := hReferenceWMemIdeal)
    ∧ preserves_KernelNormM_KernelNormMIdeal
    ∧ algebraic_KernelNormMIdeal_ReferenceNormMIdeal (hKernelNormMIdeal := hKernelNormMIdeal) (hReferenceNormMIdeal := hReferenceNormMIdeal)
    ∧ preserves_KernelProjMem_KernelProjMemIdeal
    ∧ algebraic_KernelProjMemIdeal_ReferenceProjMemIdeal (hKernelProjMemIdeal := hKernelProjMemIdeal) (hReferenceProjMemIdeal := hReferenceProjMemIdeal)
    ∧ preserves_KernelDMemn_KernelDMemnIdeal
    ∧ algebraic_KernelDMemnIdeal_ReferenceDMemnIdeal (hKernelDMemnIdeal := hKernelDMemnIdeal) (hReferenceDMemnIdeal := hReferenceDMemnIdeal)
    ∧ preserves_KernelNormF_KernelNormFIdeal
    ∧ algebraic_KernelNormFIdeal_ReferenceNormFIdeal (hKernelNormFIdeal := hKernelNormFIdeal) (hReferenceNormFIdeal := hReferenceNormFIdeal)
    ∧ preserves_KernelNormMF_KernelNormMFIdeal
    ∧ algebraic_KernelNormMFIdeal_ReferenceNormMFIdeal (hKernelNormMFIdeal := hKernelNormMFIdeal) (hReferenceNormMFIdeal := hReferenceNormMFIdeal)
    ∧ preserves_KernelMemF_KernelMemFIdeal
    ∧ algebraic_KernelMemFIdeal_ReferenceMemFIdeal (hKernelMemFIdeal := hKernelMemFIdeal) (hReferenceMemFIdeal := hReferenceMemFIdeal)
-- ==== Pre_gains_finite.lean ====
abbrev S4x2048x512 : Shape := ⟨3, ![4, 2048, 512]⟩
abbrev S4x256x1024 : Shape := ⟨3, ![4, 256, 1024]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S4x2048x512 .f32) (main_arg1 : FVec F S4x256x1024 .f32) (main_arg2 : FVec F S4x2048x512 .f32) (main_arg3 : FVec F S1x128 .f32) (main_arg4 : FVec F S1x128 .f32) : IVec S1x128 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg4
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Kernel.lean ====
abbrev S4x2048x512 : Shape := ⟨3, ![4, 2048, 512]⟩
abbrev S4x256x1024 : Shape := ⟨3, ![4, 256, 1024]⟩
abbrev S1x128 : Shape := ⟨2, ![1, 128]⟩
abbrev S_ : Shape := ⟨0, ![]⟩
abbrev S8192x1536 : Shape := ⟨2, ![8192, 1536]⟩
abbrev S8192x512 : Shape := ⟨2, ![8192, 512]⟩
abbrev S8192x5248 : Shape := ⟨2, ![8192, 5248]⟩
abbrev S8192x7296 : Shape := ⟨2, ![8192, 7296]⟩
abbrev S1024x1024 : Shape := ⟨2, ![1024, 1024]⟩
abbrev S32x128 : Shape := ⟨2, ![32, 128]⟩
abbrev S1024x512 : Shape := ⟨2, ![1024, 512]⟩
abbrev S256x1024 : Shape := ⟨2, ![256, 1024]⟩
abbrev S8x128 : Shape := ⟨2, ![8, 128]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1024x256 : Shape := ⟨2, ![1024, 256]⟩
abbrev S128x8x128 : Shape := ⟨3, ![128, 8, 128]⟩
abbrev S32x8x128 : Shape := ⟨3, ![32, 8, 128]⟩

abbrev nBuf : Space → Nat
  | .hbm => 18
  | .vmem => 17
  | .smem => 0
  | _ => 0

abbrev bufTy : (tb : Table) → Fin (tcTables nBuf tb) → BufTy
  | .hbm, ⟨0, _⟩ => ⟨S4x2048x512, .f32⟩
  | .hbm, ⟨1, _⟩ => ⟨S4x256x1024, .f32⟩
  | .hbm, ⟨2, _⟩ => ⟨S4x2048x512, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S8192x1536, .f32⟩
  | .hbm, ⟨7, _⟩ => ⟨S8192x512, .f32⟩
  | .hbm, ⟨8, _⟩ => ⟨S_, .f32⟩
  | .hbm, ⟨9, _⟩ => ⟨S8192x5248, .f32⟩
  | .hbm, ⟨10, _⟩ => ⟨S8192x7296, .f32⟩
  | .hbm, ⟨11, _⟩ => ⟨S8192x7296, .bf16⟩
  | .hbm, ⟨12, _⟩ => ⟨S1024x1024, .f32⟩
  | .hbm, ⟨13, _⟩ => ⟨S8192x512, .f32⟩
  | .hbm, ⟨14, _⟩ => ⟨S8192x512, .bf16⟩
  | .hbm, ⟨15, _⟩ => ⟨S1024x1024, .bf16⟩
  | .hbm, ⟨16, _⟩ => ⟨S32x128, .f32⟩
  | .hbm, ⟨17, _⟩ => ⟨S32x128, .f32⟩
  | .local _ .vmem, ⟨0, _⟩ => ⟨S1024x512, .bf16⟩
  | .local _ .vmem, ⟨1, _⟩ => ⟨S1024x512, .bf16⟩
  | .local _ .vmem, ⟨2, _⟩ => ⟨S256x1024, .f32⟩
  | .local _ .vmem, ⟨3, _⟩ => ⟨S256x1024, .f32⟩
  | .local _ .vmem, ⟨4, _⟩ => ⟨S1024x512, .f32⟩
  | .local _ .vmem, ⟨5, _⟩ => ⟨S1024x512, .f32⟩
  | .local _ .vmem, ⟨6, _⟩ => ⟨S1x128, .f32⟩
  | .local _ .vmem, ⟨7, _⟩ => ⟨S1x128, .f32⟩
  | .local _ .vmem, ⟨8, _⟩ => ⟨S1024x512, .bf16⟩
  | .local _ .vmem, ⟨9, _⟩ => ⟨S1024x512, .bf16⟩
  | .local _ .vmem, ⟨10, _⟩ => ⟨S256x1024, .bf16⟩
  | .local _ .vmem, ⟨11, _⟩ => ⟨S256x1024, .bf16⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S256x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v389 : BitVec 1 := Scalar.cmpi .eq arg1 c1_i32
  let v390 : BitVec 32 := Scalar.extui v389
  let c0_i32_164 : BitVec 32 := 0#32
  let v391 : BitVec 1 := Scalar.cmpi .ne v390 c0_i32_164
  v391

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_3 : BitVec 32 := 0#32
  let v4 : BitVec 1 := Scalar.cmpi .ne v3 c0_i32_3
  v4

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x2048x512 : Shape := ⟨3, ![4, 2048, 512]⟩
abbrev S4x256x1024 : Shape := ⟨3, ![4, 256, 1024]⟩
abbrev S1x128 : Shape := ⟨2, ![1, 128]⟩
abbrev S128 : Shape := ⟨1, ![128]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩
abbrev S8192x512 : Shape := ⟨2, ![8192, 512]⟩
abbrev S1024x1024 : Shape := ⟨2, ![1024, 1024]⟩

abbrev nBuf : Space → Nat
  | .hbm => 181
  | .vmem => 0
  | .smem => 0
  | _ => 0

abbrev hbmTy0_0 (i : Nat) : BufTy := match i % 128 with
  | 0 => ⟨S4x2048x512, .f32⟩
  | 1 => ⟨S4x256x1024, .f32⟩
  | 2 => ⟨S4x2048x512, .f32⟩
  | 3 => ⟨S1x128, .f32⟩
  | 4 => ⟨S1x128, .f32⟩
  | 5 => ⟨S128, .f32⟩
  | 6 => ⟨S128, .f32⟩
  | 7 => ⟨S4x2048x4x128, .f32⟩
  | 8 => ⟨S4x2048x4x128, .f32⟩
  | 9 => ⟨S_, .f32⟩
  | 10 => ⟨S4x2048x4, .f32⟩
  | 11 => ⟨S4x2048x4x1, .f32⟩
  | 12 => ⟨S_, .f32⟩
  | 13 => ⟨S4x2048x4x1, .f32⟩
  | 14 => ⟨S4x2048x4x1, .f32⟩
  | 15 => ⟨S_, .f32⟩
  | 16 => ⟨S4x2048x4x1, .f32⟩
  | 17 => ⟨S4x2048x4x1, .f32⟩
  | 18 => ⟨S4x2048x4x1, .f32⟩
  | 19 => ⟨S4x2048x4x1, .f32⟩
  | 20 => ⟨S_, .f32⟩
  | 21 => ⟨S4x2048x4x1, .f32⟩
  | 22 => ⟨S4x2048x4x1, .f32⟩
  | 23 => ⟨S4x2048x4x128, .f32⟩
  | 24 => ⟨S4x2048x4x128, .f32⟩
  | 25 => ⟨S1x1x1x128, .f32⟩
  | 26 => ⟨S4x2048x4x128, .f32⟩
  | 27 => ⟨S4x2048x4x128, .f32⟩
  | 28 => ⟨S4x256x512, .f32⟩
  | 29 => ⟨S4x256x512, .f32⟩
  | 30 => ⟨S4x256x4x128, .f32⟩
  | 31 => ⟨S4x256x4x128, .f32⟩
  | 32 => ⟨S_, .f32⟩
  | 33 => ⟨S4x256x4, .f32⟩
  | 34 => ⟨S4x256x4x1, .f32⟩
  | 35 => ⟨S_, .f32⟩
  | 36 => ⟨S4x256x4x1, .f32⟩
  | 37 => ⟨S4x256x4x1, .f32⟩
  | 38 => ⟨S_, .f32⟩
  | 39 => ⟨S4x256x4x1, .f32⟩
  | 40 => ⟨S4x256x4x1, .f32⟩
  | 41 => ⟨S4x256x4x1, .f32⟩
  | 42 => ⟨S4x256x4x1, .f32⟩
  | 43 => ⟨S_, .f32⟩
  | 44 => ⟨S4x256x4x1, .f32⟩
  | 45 => ⟨S4x256x4x1, .f32⟩
  | 46 => ⟨S4x256x4x128, .f32⟩
  | 47 => ⟨S4x256x4x128, .f32⟩
  | 48 => ⟨S1x1x1x128, .f32⟩
  | 49 => ⟨S4x256x4x128, .f32⟩
  | 50 => ⟨S4x256x4x128, .f32⟩
  | 51 => ⟨S4x256x4x128, .f32⟩
  | 52 => ⟨S4x4x2048x256, .f32⟩
  | 53 => ⟨S_, .f32⟩
  | 54 => ⟨S4x4x2048x256, .f32⟩
  | 55 => ⟨S4x4x2048x256, .f32⟩
  | 56 => ⟨S_, .f32⟩
  | 57 => ⟨S4x4x2048, .f32⟩
  | 58 => ⟨S4x4x2048x1, .f32⟩
  | 59 => ⟨S4x4x2048x256, .f32⟩
  | 60 => ⟨S4x4x2048x256, .i1⟩
  | 61 => ⟨S4x4x2048x256, .f32⟩
  | 62 => ⟨S_, .f32⟩
  | 63 => ⟨S4x4x2048, .f32⟩
  | 64 => ⟨S_, .f32⟩
  | 65 => ⟨S4x4x2048, .f32⟩
  | 66 => ⟨S4x4x2048, .f32⟩
  | 67 => ⟨S_, .f32⟩
  | 68 => ⟨S4x4x2048, .f32⟩
  | 69 => ⟨S4x4x2048, .i1⟩
  | 70 => ⟨S_, .f32⟩
  | 71 => ⟨S4x4x2048, .f32⟩
  | 72 => ⟨S4x4x2048, .i1⟩
  | 73 => ⟨S_, .f32⟩
  | 74 => ⟨S4x4x2048, .f32⟩
  | 75 => ⟨S_, .f32⟩
  | 76 => ⟨S4x4x2048, .f32⟩
  | 77 => ⟨S_, .f32⟩
  | 78 => ⟨S4x4x2048, .f32⟩
  | 79 => ⟨S4x4x2048, .f32⟩
  | 80 => ⟨S4x4x2048, .f32⟩
  | 81 => ⟨S4x4x2048x1, .f32⟩
  | 82 => ⟨S4x4x2048x256, .f32⟩
  | 83 => ⟨S4x4x2048x256, .f32⟩
  | 84 => ⟨S4x4x2048x256, .f32⟩
  | 85 => ⟨S_, .f32⟩
  | 86 => ⟨S4x4x2048, .f32⟩
  | 87 => ⟨S4x4x2048x1, .f32⟩
  | 88 => ⟨S4x4x2048x256, .f32⟩
  | 89 => ⟨S4x4x2048x256, .f32⟩
  | 90 => ⟨S4x4x2048x1, .f32⟩
  | 91 => ⟨S_, .f32⟩
  | 92 => ⟨S4x4x2048x1, .f32⟩
  | 93 => ⟨S4x4x2048x1, .f32⟩
  | 94 => ⟨S4x4x128x2048, .f32⟩
  | 95 => ⟨S4x2048x4x128, .f32⟩
  | 96 => ⟨S4x2048x512, .f32⟩
  | 97 => ⟨S4x2048x4x128, .f32⟩
  | 98 => ⟨S4x4x128x2048, .f32⟩
  | 99 => ⟨S4x4x2048x256, .f32⟩
  | 100 => ⟨S4x4x128x256, .f32⟩
  | 101 => ⟨S4x256x4x128, .f32⟩
  | 102 => ⟨S4x4x2048x256, .f32⟩
  | 103 => ⟨S4x4x2048x256, .f32⟩
  | 104 => ⟨S4x4x2048x256, .f32⟩
  | 105 => ⟨S_, .f32⟩
  | 106 => ⟨S4x4x2048, .f32⟩
  | 107 => ⟨S4x4x2048x1, .f32⟩
  | 108 => ⟨S4x4x2048x1, .f32⟩
  | 109 => ⟨S4x4x2048x256, .f32⟩
  | 110 => ⟨S4x4x2048x256, .f32⟩
  | 111 => ⟨S_, .f32⟩
  | 112 => ⟨S4x4x2048, .f32⟩
  | 113 => ⟨S4x4x2048x256, .f32⟩
  | 114 => ⟨S4x4x2048x256, .f32⟩
  | 115 => ⟨S4x4x2048x256, .f32⟩
  | 116 => ⟨S_, .f32⟩
  | 117 => ⟨S4x4x2048x256, .f32⟩
  | 118 => ⟨S4x4x2048x256, .f32⟩
  | 119 => ⟨S4x4x256x128, .f32⟩
  | 120 => ⟨S4x256x4x128, .f32⟩
  | 121 => ⟨S4x4x2048x128, .f32⟩
  | 122 => ⟨S4x2048x4x128, .f32⟩
  | 123 => ⟨S4x256x512, .f32⟩
  | 124 => ⟨S4x256x4x128, .f32⟩
  | 125 => ⟨S_, .f32⟩
  | 126 => ⟨S128, .f32⟩
  | 127 => ⟨S1x1x1x128, .f32⟩
  | _ => ⟨S4x2048x512, .f32⟩

abbrev hbmTy0_1 (i : Nat) : BufTy := match i % 128 with
  | 0 => ⟨S4x256x4x128, .f32⟩
  | 1 => ⟨S4x256x4x128, .f32⟩
  | 2 => ⟨S_, .f32⟩
  | 3 => ⟨S128, .f32⟩
  | 4 => ⟨S4x256x4x128, .f32⟩
  | 5 => ⟨S_, .f32⟩
  | 6 => ⟨S4x256x4, .f32⟩
  | 7 => ⟨S4x256x4x1, .f32⟩
  | 8 => ⟨S4x256x4x128, .f32⟩
  | 9 => ⟨S4x256x4x128, .f32⟩
  | 10 => ⟨S4x256x4x1, .f32⟩
  | 11 => ⟨S_, .f32⟩
  | 12 => ⟨S4x256x4x1, .f32⟩
  | 13 => ⟨S4x256x4x1, .f32⟩
  | 14 => ⟨S_, .f32⟩
  | 15 => ⟨S4x256x4, .f32⟩
  | 16 => ⟨S4x256x4x128, .f32⟩
  | 17 => ⟨S4x256x4x128, .f32⟩
  | 18 => ⟨S4x256x4x128, .f32⟩
  | 19 => ⟨S4x256x4x128, .f32⟩
  | 20 => ⟨S4x256x4x128, .f32⟩
  | 21 => ⟨S4x256x512, .f32⟩
  | 22 => ⟨S4x256x1024, .f32⟩
  | 23 => ⟨S4x2048x4x128, .f32⟩
  | 24 => ⟨S_, .f32⟩
  | 25 => ⟨S128, .f32⟩
  | 26 => ⟨S1x1x1x128, .f32⟩
  | 27 => ⟨S4x2048x4x128, .f32⟩
  | 28 => ⟨S4x2048x4x128, .f32⟩
  | 29 => ⟨S_, .f32⟩
  | 30 => ⟨S128, .f32⟩
  | 31 => ⟨S4x2048x4x128, .f32⟩
  | 32 => ⟨S_, .f32⟩
  | 33 => ⟨S4x2048x4, .f32⟩
  | 34 => ⟨S4x2048x4x1, .f32⟩
  | 35 => ⟨S4x2048x4x128, .f32⟩
  | 36 => ⟨S4x2048x4x128, .f32⟩
  | 37 => ⟨S4x2048x4x1, .f32⟩
  | 38 => ⟨S_, .f32⟩
  | 39 => ⟨S4x2048x4x1, .f32⟩
  | 40 => ⟨S4x2048x4x1, .f32⟩
  | 41 => ⟨S_, .f32⟩
  | 42 => ⟨S4x2048x4, .f32⟩
  | 43 => ⟨S4x2048x4x128, .f32⟩
  | 44 => ⟨S4x2048x4x128, .f32⟩
  | 45 => ⟨S4x2048x4x128, .f32⟩
  | 46 => ⟨S4x2048x4x128, .f32⟩
  | 47 => ⟨S4x2048x4x128, .f32⟩
  | 48 => ⟨S4x2048x512, .f32⟩
  | 49 => ⟨S8192x512, .f32⟩
  | 50 => ⟨S8192x512, .bf16⟩
  | 51 => ⟨S1024x1024, .f32⟩
  | 52 => ⟨S1024x1024, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_20 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_22 : Ref sig .tc := ⟨.hbm, 130, rfl⟩
abbrev main_v102 : Ref sig .tc := ⟨.hbm, 131, rfl⟩
abbrev main_v103 : Ref sig .tc := ⟨.hbm, 132, rfl⟩
abbrev main_cst_23 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_24 : Ref sig .tc := ⟨.hbm, 139, rfl⟩
abbrev main_v109 : Ref sig .tc := ⟨.hbm, 140, rfl⟩
abbrev main_v110 : Ref sig .tc := ⟨.hbm, 141, rfl⟩
abbrev main_cst_25 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_26 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_27 : Ref sig .tc := ⟨.hbm, 157, rfl⟩
abbrev main_v124 : Ref sig .tc := ⟨.hbm, 158, rfl⟩
abbrev main_v125 : Ref sig .tc := ⟨.hbm, 159, rfl⟩
abbrev main_cst_28 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_29 : Ref sig .tc := ⟨.hbm, 166, rfl⟩
abbrev main_v131 : Ref sig .tc := ⟨.hbm, 167, rfl⟩
abbrev main_v132 : Ref sig .tc := ⟨.hbm, 168, rfl⟩
abbrev main_cst_30 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩

abbrev nD : Nat := 1
abbrev τ : Topo := Topo.v7x

variable {F : FTy → Type} [FloatOps F]
-- ==== KernelDh2.lean ====
abbrev S4x2048x2816 : Shape := ⟨3, ![4, 2048, 2816]⟩
abbrev S1024x5632 : Shape := ⟨2, ![1024, 5632]⟩
abbrev S8192x2816 : Shape := ⟨2, ![8192, 2816]⟩
abbrev S8192x1024 : Shape := ⟨2, ![8192, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S1024x5632, .f32⟩
  | .hbm, ⟨3, _⟩ => ⟨S8192x2816, .f32⟩
  | .hbm, ⟨4, _⟩ => ⟨S8192x2816, .bf16⟩
  | .hbm, ⟨5, _⟩ => ⟨S8192x2816, .f32⟩
  | .hbm, ⟨6, _⟩ => ⟨S8192x2816, .bf16⟩
  | .hbm, ⟨7, _⟩ => ⟨S1024x5632, .bf16⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDh2Ideal.lean ====
abbrev S4x2048x2816 : Shape := ⟨3, ![4, 2048, 2816]⟩
abbrev S1024x5632 : Shape := ⟨2, ![1024, 5632]⟩
abbrev S4x2048x5632 : Shape := ⟨3, ![4, 2048, 5632]⟩
abbrev S_ : Shape := ⟨0, ![]⟩
abbrev S4x2048x1024 : Shape := ⟨3, ![4, 2048, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S1024x5632, .f32⟩
  | .hbm, ⟨3, _⟩ => ⟨S4x2048x5632, .f32⟩
  | .hbm, ⟨4, _⟩ => ⟨S_, .f32⟩
  | .hbm, ⟨5, _⟩ => ⟨S4x2048x1024, .f32⟩
  | .hbm, ⟨6, _⟩ => ⟨S4x2048x5632, .f32⟩
  | .hbm, ⟨7, _⟩ => ⟨S4x2048x1024, .f32⟩
  | .hbm, ⟨8, _⟩ => ⟨S8192x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelWUp.lean ====
abbrev S4x2048x1024 : Shape := ⟨3, ![4, 2048, 1024]⟩
abbrev S4x2048x2816 : Shape := ⟨3, ![4, 2048, 2816]⟩
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x2816 : Shape := ⟨2, ![2048, 2816]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2816, .f32⟩
  | .hbm, ⟨2, _⟩ => ⟨S8192x1024, .f32⟩
  | .hbm, ⟨3, _⟩ => ⟨S8192x1024, .bf16⟩
  | .hbm, ⟨4, _⟩ => ⟨S8192x2816, .f32⟩
  | .hbm, ⟨5, _⟩ => ⟨S8192x2816, .bf16⟩
  | .hbm, ⟨6, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x2816, .bf16⟩
  | .local _ .vmem, ⟨3, _⟩ => ⟨S2048x2816, .bf16⟩
  | .local _ .vmem, ⟨4, _⟩ => ⟨S1024x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWUpIdeal.lean ====
abbrev S4x2048x1024 : Shape := ⟨3, ![4, 2048, 1024]⟩
abbrev S4x2048x2816 : Shape := ⟨3, ![4, 2048, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2816, .f32⟩
  | .hbm, ⟨2, _⟩ => ⟨S_, .f32⟩
  | .hbm, ⟨3, _⟩ => ⟨S1024x2816, .f32⟩
  | .hbm, ⟨4, _⟩ => ⟨S4x2048x2816, .f32⟩
  | .hbm, ⟨5, _⟩ => ⟨S2816x1024, .f32⟩
  | .hbm, ⟨6, _⟩ => ⟨S1024x2816, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelConv.lean ====
abbrev S4x2048x2816 : Shape := ⟨3, ![4, 2048, 2816]⟩
abbrev S3x2816 : Shape := ⟨2, ![3, 2816]⟩
abbrev S8192x2816 : Shape := ⟨2, ![8192, 2816]⟩
abbrev S1024x1408 : Shape := ⟨2, ![1024, 1408]⟩
abbrev S8x1408 : Shape := ⟨2, ![8, 1408]⟩
abbrev S3x1408 : Shape := ⟨2, ![3, 1408]⟩
abbrev S1x1408 : Shape := ⟨2, ![1, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x2816, .f32⟩
  | .hbm, ⟨1, _⟩ => ⟨S3x2816, .f32⟩
  | .hbm, ⟨2, _⟩ => ⟨S8192x2816, .f32⟩
  | .hbm, ⟨3, _⟩ => ⟨S8192x2816, .bf16⟩
  | .local _ .vmem, ⟨0, _⟩ => ⟨S1024x1408, .f32⟩
  | .local _ .vmem, ⟨1, _⟩ => ⟨S1024x1408, .f32⟩
  | .local _ .vmem, ⟨2, _⟩ => ⟨S8x1408, .f32⟩
  | .local _ .vmem, ⟨3, _⟩ => ⟨S8x1408, .f32⟩
  | .local _ .vmem, ⟨4, _⟩ => ⟨S3x1408, .f32⟩
  | .local _ .vmem, ⟨5, _⟩ => ⟨S3x1408, .f32⟩
  | .local _ .vmem, ⟨6, _⟩ => ⟨S1024x1408, .bf16⟩
  | .local _ .vmem, ⟨7, _⟩ => ⟨S1024x1408, .bf16⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c1_i32 : BitVec 32 := 1#32
  let v2 : BitVec 32 := Scalar.addi v1 c1_i32
  let c128_i32 : BitVec 32 := 128#32
  let v3 : BitVec 32 := Scalar.muli v2 c128_i32
  let c1023_i32 : BitVec 32 := 1023#32
  let v4 : BitVec 32 := Scalar.minsi v3 c1023_i32
  let c0_i32 : BitVec 32 := 0#32
  ![v4.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceConvIdeal.lean ====
abbrev S4x2048x2816 : Shape := ⟨3, ![4, 2048, 2816]⟩
abbrev S3x2816 : Shape := ⟨2, ![3, 2816]⟩
abbrev S_ : Shape := ⟨0, ![]⟩
abbrev S4x2x2816 : Shape := ⟨3, ![4, 2, 2816]⟩
abbrev S4x2050x2816 : Shape := ⟨3, ![4, 2050, 2816]⟩
abbrev S1x2816 : Shape := ⟨2, ![1, 2816]⟩
abbrev S2816 : Shape := ⟨1, ![2816]⟩
abbrev S1x1x2816 : Shape := ⟨3, ![1, 1, 2816]⟩
abbrev S8192x2816 : Shape := ⟨2, ![8192, 2816]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S3x2816, .f32⟩
  | .hbm, ⟨2, _⟩ => ⟨S_, .f32⟩
  | .hbm, ⟨3, _⟩ => ⟨S4x2048x2816, .f32⟩
  | .hbm, ⟨4, _⟩ => ⟨S_, .f32⟩
  | .hbm, ⟨5, _⟩ => ⟨S4x2x2816, .f32⟩
  | .hbm, ⟨6, _⟩ => ⟨S4x2050x2816, .f32⟩
  | .hbm, ⟨7, _⟩ => ⟨S_, .f32⟩
  | .hbm, ⟨8, _⟩ => ⟨S4x2x2816, .f32⟩
  | .hbm, ⟨9, _⟩ => ⟨S4x2048x2816, .f32⟩
  | .hbm, ⟨10, _⟩ => ⟨S1x2816, .f32⟩
  | .hbm, ⟨11, _⟩ => ⟨S2816, .f32⟩
  | .hbm, ⟨12, _⟩ => ⟨S1x1x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S1x2816, .f32⟩
  | .hbm, ⟨20, _⟩ => ⟨S2816, .f32⟩
  | .hbm, ⟨21, _⟩ => ⟨S1x1x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S1x2816, .f32⟩
  | .hbm, ⟨27, _⟩ => ⟨S2816, .f32⟩
  | .hbm, ⟨28, _⟩ => ⟨S1x1x2816, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S_, .f32⟩
  | .hbm, ⟨37, _⟩ => ⟨S4x2050x2816, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2050x2816, .f32⟩
  | .hbm, ⟨42, _⟩ => ⟨S4x2050x2816, .f32⟩
  | .hbm, ⟨43, _⟩ => ⟨S4x2048x2816, .f32⟩
  | .hbm, ⟨44, _⟩ => ⟨S4x2048x2816, .f32⟩
  | .hbm, ⟨45, _⟩ => ⟨S_, .f32⟩
  | .hbm, ⟨46, _⟩ => ⟨S4x2050x2816, .f32⟩
  | .hbm, ⟨47, _⟩ => ⟨S4x2050x2816, .f32⟩
  | .hbm, ⟨48, _⟩ => ⟨S4x2x2816, .f32⟩
  | .hbm, ⟨49, _⟩ => ⟨S4x2048x2816, .f32⟩
  | .hbm, ⟨50, _⟩ => ⟨S8192x2816, .f32⟩
  | .hbm, ⟨51, _⟩ => ⟨S8192x2816, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== KernelWDown.lean ====
abbrev S4x2048x2816 : Shape := ⟨3, ![4, 2048, 2816]⟩
abbrev S4x2048x1024 : Shape := ⟨3, ![4, 2048, 1024]⟩
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S2816x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2816x512, .f32⟩
  | .local _ .vmem, ⟨5, _⟩ => ⟨S2816x512, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWDownIdeal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S_, .f32⟩
  | .hbm, ⟨3, _⟩ => ⟨S2816x1024, .f32⟩
  | .hbm, ⟨4, _⟩ => ⟨S4x2048x1024, .f32⟩
  | .hbm, ⟨5, _⟩ => ⟨S1024x2816, .f32⟩
  | .hbm, ⟨6, _⟩ => ⟨S2816x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWOut.lean ====
abbrev S4x2048x1024 : Shape := ⟨3, ![4, 2048, 1024]⟩
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWOutIdeal.lean ====
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWBr.lean ====
abbrev S4x2048x512 : Shape := ⟨3, ![4, 2048, 512]⟩
abbrev S4x2048x1024 : Shape := ⟨3, ![4, 2048, 1024]⟩
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x512, .f32⟩
  | .hbm, ⟨1, _⟩ => ⟨S4x2048x1024, .f32⟩
  | .hbm, ⟨2, _⟩ => ⟨S8192x512, .f32⟩
  | .hbm, ⟨3, _⟩ => ⟨S8192x512, .bf16⟩
  | .hbm, ⟨4, _⟩ => ⟨S8192x1024, .f32⟩
  | .hbm, ⟨5, _⟩ => ⟨S8192x1024, .bf16⟩
  | .hbm, ⟨6, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWBrIdeal.lean ====
abbrev S4x2048x512 : Shape := ⟨3, ![4, 2048, 512]⟩
abbrev S4x2048x1024 : Shape := ⟨3, ![4, 2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x1024, .f32⟩
  | .hbm, ⟨2, _⟩ => ⟨S_, .f32⟩
  | .hbm, ⟨3, _⟩ => ⟨S512x1024, .f32⟩
  | .hbm, ⟨4, _⟩ => ⟨S4x2048x1024, .f32⟩
  | .hbm, ⟨5, _⟩ => ⟨S1024x512, .f32⟩
  | .hbm, ⟨6, _⟩ => ⟨S512x1024, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWInFox.lean ====
abbrev S4x2048x1024 : Shape := ⟨3, ![4, 2048, 1024]⟩
abbrev S4x2048x1536 : Shape := ⟨3, ![4, 2048, 1536]⟩
abbrev S8192x1024 : Shape := ⟨2, ![8192, 1024]⟩
abbrev S8192x1536 : Shape := ⟨2, ![8192, 1536]⟩
abbrev S1024x1536 : Shape := ⟨2, ![1024, 1536]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1536, .f32⟩
  | .hbm, ⟨2, _⟩ => ⟨S8192x1024, .f32⟩
  | .hbm, ⟨3, _⟩ => ⟨S8192x1024, .bf16⟩
  | .hbm, ⟨4, _⟩ => ⟨S8192x1536, .f32⟩
  | .hbm, ⟨5, _⟩ => ⟨S8192x1536, .bf16⟩
  | .hbm, ⟨6, _⟩ => ⟨S1024x1536, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .f32⟩
  | .local _ .vmem, ⟨5, _⟩ => ⟨S1024x768, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWInFoxIdeal.lean ====
abbrev S4x2048x1024 : Shape := ⟨3, ![4, 2048, 1024]⟩
abbrev S4x2048x1536 : Shape := ⟨3, ![4, 2048, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1536, .f32⟩
  | .hbm, ⟨2, _⟩ => ⟨S_, .f32⟩
  | .hbm, ⟨3, _⟩ => ⟨S1024x1536, .f32⟩
  | .hbm, ⟨4, _⟩ => ⟨S4x2048x1536, .f32⟩
  | .hbm, ⟨5, _⟩ => ⟨S1536x1024, .f32⟩
  | .hbm, ⟨6, _⟩ => ⟨S1024x1536, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWInMq.lean ====
abbrev S4x2048x1024 : Shape := ⟨3, ![4, 2048, 1024]⟩
abbrev S4x2048x512 : Shape := ⟨3, ![4, 2048, 512]⟩
abbrev S8192x1024 : Shape := ⟨2, ![8192, 1024]⟩
abbrev S8192x512 : Shape := ⟨2, ![8192, 512]⟩
abbrev S1024x512 : Shape := ⟨2, ![1024, 512]⟩
abbrev S4096x1024 : Shape := ⟨2, ![4096, 1024]⟩
abbrev S4096x512 : Shape := ⟨2, ![4096, 512]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S8192x1024, .f32⟩
  | .hbm, ⟨3, _⟩ => ⟨S8192x1024, .bf16⟩
  | .hbm, ⟨4, _⟩ => ⟨S8192x512, .f32⟩
  | .hbm, ⟨5, _⟩ => ⟨S8192x512, .bf16⟩
  | .hbm, ⟨6, _⟩ => ⟨S1024x512, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWInMqIdeal.lean ====
abbrev S4x2048x1024 : Shape := ⟨3, ![4, 2048, 1024]⟩
abbrev S4x2048x512 : Shape := ⟨3, ![4, 2048, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S_, .f32⟩
  | .hbm, ⟨3, _⟩ => ⟨S1024x512, .f32⟩
  | .hbm, ⟨4, _⟩ => ⟨S4x2048x512, .f32⟩
  | .hbm, ⟨5, _⟩ => ⟨S512x1024, .f32⟩
  | .hbm, ⟨6, _⟩ => ⟨S1024x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWInHg.lean ====
abbrev S4x2048x1024 : Shape := ⟨3, ![4, 2048, 1024]⟩
abbrev S4x2048x2048 : Shape := ⟨3, ![4, 2048, 2048]⟩
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S8192x1024, .f32⟩
  | .hbm, ⟨3, _⟩ => ⟨S8192x1024, .bf16⟩
  | .hbm, ⟨4, _⟩ => ⟨S8192x2048, .f32⟩
  | .hbm, ⟨5, _⟩ => ⟨S8192x2048, .bf16⟩
  | .hbm, ⟨6, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWInHgIdeal.lean ====
abbrev S4x2048x1024 : Shape := ⟨3, ![4, 2048, 1024]⟩
abbrev S4x2048x2048 : Shape := ⟨3, ![4, 2048, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S_, .f32⟩
  | .hbm, ⟨3, _⟩ => ⟨S1024x2048, .f32⟩
  | .hbm, ⟨4, _⟩ => ⟨S4x2048x2048, .f32⟩
  | .hbm, ⟨5, _⟩ => ⟨S2048x1024, .f32⟩
  | .hbm, ⟨6, _⟩ => ⟨S1024x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWInGate.lean ====
abbrev S4x2048x1024 : Shape := ⟨3, ![4, 2048, 1024]⟩
abbrev S4x2048x3072 : Shape := ⟨3, ![4, 2048, 3072]⟩
abbrev S8192x1024 : Shape := ⟨2, ![8192, 1024]⟩
abbrev S8192x3072 : Shape := ⟨2, ![8192, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S8192x1024, .f32⟩
  | .hbm, ⟨3, _⟩ => ⟨S8192x1024, .bf16⟩
  | .hbm, ⟨4, _⟩ => ⟨S8192x3072, .f32⟩
  | .hbm, ⟨5, _⟩ => ⟨S8192x3072, .bf16⟩
  | .hbm, ⟨6, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWInGateIdeal.lean ====
abbrev S4x2048x1024 : Shape := ⟨3, ![4, 2048, 1024]⟩
abbrev S4x2048x3072 : Shape := ⟨3, ![4, 2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S_, .f32⟩
  | .hbm, ⟨3, _⟩ => ⟨S1024x3072, .f32⟩
  | .hbm, ⟨4, _⟩ => ⟨S4x2048x3072, .f32⟩
  | .hbm, ⟨5, _⟩ => ⟨S3072x1024, .f32⟩
  | .hbm, ⟨6, _⟩ => ⟨S1024x3072, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelWInFf.lean ====
abbrev S4x2048x1024 : Shape := ⟨3, ![4, 2048, 1024]⟩
abbrev S4x2048x128 : Shape := ⟨3, ![4, 2048, 128]⟩
abbrev S8192x1024 : Shape := ⟨2, ![8192, 1024]⟩
abbrev S8192x128 : Shape := ⟨2, ![8192, 128]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x128, .f32⟩
  | .hbm, ⟨2, _⟩ => ⟨S8192x1024, .f32⟩
  | .hbm, ⟨3, _⟩ => ⟨S8192x1024, .bf16⟩
  | .hbm, ⟨4, _⟩ => ⟨S8192x128, .f32⟩
  | .hbm, ⟨5, _⟩ => ⟨S8192x128, .bf16⟩
  | .hbm, ⟨6, _⟩ => ⟨S1024x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x128, .bf16⟩
  | .local _ .vmem, ⟨3, _⟩ => ⟨S4096x128, .bf16⟩
  | .local _ .vmem, ⟨4, _⟩ => ⟨S1024x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWInFfIdeal.lean ====
abbrev S4x2048x1024 : Shape := ⟨3, ![4, 2048, 1024]⟩
abbrev S4x2048x128 : Shape := ⟨3, ![4, 2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x128, .f32⟩
  | .hbm, ⟨2, _⟩ => ⟨S_, .f32⟩
  | .hbm, ⟨3, _⟩ => ⟨S1024x128, .f32⟩
  | .hbm, ⟨4, _⟩ => ⟨S4x2048x128, .f32⟩
  | .hbm, ⟨5, _⟩ => ⟨S128x1024, .f32⟩
  | .hbm, ⟨6, _⟩ => ⟨S1024x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelProjIn.lean ====
abbrev S4x2048x1024 : Shape := ⟨3, ![4, 2048, 1024]⟩
abbrev S1024x7296 : Shape := ⟨2, ![1024, 7296]⟩
abbrev S8192x1024 : Shape := ⟨2, ![8192, 1024]⟩
abbrev S8192x7296 : Shape := ⟨2, ![8192, 7296]⟩
abbrev S512x1024 : Shape := ⟨2, ![512, 1024]⟩
abbrev S512x7296 : Shape := ⟨2, ![512, 7296]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024x7296, .f32⟩
  | .hbm, ⟨2, _⟩ => ⟨S8192x1024, .f32⟩
  | .hbm, ⟨3, _⟩ => ⟨S8192x1024, .bf16⟩
  | .hbm, ⟨4, _⟩ => ⟨S1024x7296, .bf16⟩
  | .hbm, ⟨5, _⟩ => ⟨S8192x7296, .bf16⟩
  | .local _ .vmem, ⟨0, _⟩ => ⟨S512x1024, .bf16⟩
  | .local _ .vmem, ⟨1, _⟩ => ⟨S512x1024, .bf16⟩
  | .local _ .vmem, ⟨2, _⟩ => ⟨S1024x7296, .bf16⟩
  | .local _ .vmem, ⟨3, _⟩ => ⟨S512x7296, .bf16⟩
  | .local _ .vmem, ⟨4, _⟩ => ⟨S512x7296, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x7296 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x7296 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjInIdeal.lean ====
abbrev S4x2048x1024 : Shape := ⟨3, ![4, 2048, 1024]⟩
abbrev S1024x7296 : Shape := ⟨2, ![1024, 7296]⟩
abbrev S4x2048x7296 : Shape := ⟨3, ![4, 2048, 7296]⟩
abbrev S8192x7296 : Shape := ⟨2, ![8192, 7296]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x7296, .f32⟩
  | .hbm, ⟨2, _⟩ => ⟨S4x2048x7296, .f32⟩
  | .hbm, ⟨3, _⟩ => ⟨S8192x7296, .f32⟩
  | .hbm, ⟨4, _⟩ => ⟨S8192x7296, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelFfnUp.lean ====
abbrev S4x2048x1024 : Shape := ⟨3, ![4, 2048, 1024]⟩
abbrev S1024x5632 : Shape := ⟨2, ![1024, 5632]⟩
abbrev S8192x1024 : Shape := ⟨2, ![8192, 1024]⟩
abbrev S8192x5632 : Shape := ⟨2, ![8192, 5632]⟩
abbrev S512x1024 : Shape := ⟨2, ![512, 1024]⟩
abbrev S1024x2816 : Shape := ⟨2, ![1024, 2816]⟩
abbrev S512x2816 : Shape := ⟨2, ![512, 2816]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S8192x1024, .f32⟩
  | .hbm, ⟨3, _⟩ => ⟨S8192x1024, .bf16⟩
  | .hbm, ⟨4, _⟩ => ⟨S1024x5632, .bf16⟩
  | .hbm, ⟨5, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFfnUpIdeal.lean ====
abbrev S4x2048x1024 : Shape := ⟨3, ![4, 2048, 1024]⟩
abbrev S1024x5632 : Shape := ⟨2, ![1024, 5632]⟩
abbrev S4x2048x5632 : Shape := ⟨3, ![4, 2048, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S4x2048x5632, .f32⟩
  | .hbm, ⟨3, _⟩ => ⟨S8192x5632, .f32⟩
  | .hbm, ⟨4, _⟩ => ⟨S8192x5632, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDh.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S4x2048x3072 : Shape := ⟨3, ![4, 2048, 3072]⟩
abbrev S4x2048x128 : Shape := ⟨3, ![4, 2048, 128]⟩
abbrev S1024x7296 : Shape := ⟨2, ![1024, 7296]⟩
abbrev S8192x1536 : Shape := ⟨2, ![8192, 1536]⟩
abbrev S8192x512 : Shape := ⟨2, ![8192, 512]⟩
abbrev S8192x2048 : Shape := ⟨2, ![8192, 2048]⟩
abbrev S8192x3072 : Shape := ⟨2, ![8192, 3072]⟩
abbrev S8192x128 : Shape := ⟨2, ![8192, 128]⟩
abbrev S8192x1024 : Shape := ⟨2, ![8192, 1024]⟩
abbrev S512x1536 : Shape := ⟨2, ![512, 1536]⟩
abbrev S512x512 : Shape := ⟨2, ![512, 512]⟩
abbrev S512x2048 : Shape := ⟨2, ![512, 2048]⟩
abbrev S512x1024 : Shape := ⟨2, ![512, 1024]⟩
abbrev S512x128 : Shape := ⟨2, ![512, 128]⟩
abbrev S1024x1536 : Shape := ⟨2, ![1024, 1536]⟩
abbrev S1024x512 : Shape := ⟨2, ![1024, 512]⟩
abbrev S1024x2048 : Shape := ⟨2, ![1024, 2048]⟩
abbrev S1024x1024 : Shape := ⟨2, ![1024, 1024]⟩
abbrev S1024x128 : Shape := ⟨2, ![1024, 128]⟩

abbrev nBuf : Space → Nat
  | .hbm => 18
  | .vmem => 23
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x3072, .f32⟩
  | .hbm, ⟨4, _⟩ => ⟨S4x2048x128, .f32⟩
  | .hbm, ⟨5, _⟩ => ⟨S1024x7296, .f32⟩
  | .hbm, ⟨6, _⟩ => ⟨S8192x1536, .f32⟩
  | .hbm, ⟨7, _⟩ => ⟨S8192x1536, .bf16⟩
  | .hbm, ⟨8, _⟩ => ⟨S8192x512, .f32⟩
  | .hbm, ⟨9, _⟩ => ⟨S8192x512, .bf16⟩
  | .hbm, ⟨10, _⟩ => ⟨S8192x2048, .f32⟩
  | .hbm, ⟨11, _⟩ => ⟨S8192x2048, .bf16⟩
  | .hbm, ⟨12, _⟩ => ⟨S8192x3072, .f32⟩
  | .hbm, ⟨13, _⟩ => ⟨S8192x3072, .bf16⟩
  | .hbm, ⟨14, _⟩ => ⟨S8192x128, .f32⟩
  | .hbm, ⟨15, _⟩ => ⟨S8192x128, .bf16⟩
  | .hbm, ⟨16, _⟩ => ⟨S1024x7296, .bf16⟩
  | .hbm, ⟨17, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S1024x1536, .bf16⟩
  | .local _ .vmem, ⟨15, _⟩ => ⟨S1024x512, .bf16⟩
  | .local _ .vmem, ⟨16, _⟩ => ⟨S1024x2048, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x128, .bf16⟩
  | .local _ .vmem, ⟨21, _⟩ => ⟨S512x1024, .f32⟩
  | .local _ .vmem, ⟨22, _⟩ => ⟨S512x1024, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_12 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_13 (i : grid0.Coords) : Fin 2 → Nat :=
  let arg0 : BitVec 32 := BitVec.ofNat 32 (i 0).val
  let c0_i32 : BitVec 32 := 0#32
  let c56_i32 : BitVec 32 := 56#32
  let c0_i32_0 : BitVec 32 := 0#32
  ![c0_i32.toNat, c56_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceDhIdeal.lean ====
abbrev S4x2048x1536 : Shape := ⟨3, ![4, 2048, 1536]⟩
abbrev S4x2048x512 : Shape := ⟨3, ![4, 2048, 512]⟩
abbrev S4x2048x2048 : Shape := ⟨3, ![4, 2048, 2048]⟩
abbrev S4x2048x3072 : Shape := ⟨3, ![4, 2048, 3072]⟩
abbrev S4x2048x128 : Shape := ⟨3, ![4, 2048, 128]⟩
abbrev S1024x7296 : Shape := ⟨2, ![1024, 7296]⟩
abbrev S4x2048x7296 : Shape := ⟨3, ![4, 2048, 7296]⟩
abbrev S_ : Shape := ⟨0, ![]⟩
abbrev S4x2048x1024 : Shape := ⟨3, ![4, 2048, 1024]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x512, .f32⟩
  | .hbm, ⟨2, _⟩ => ⟨S4x2048x2048, .f32⟩
  | .hbm, ⟨3, _⟩ => ⟨S4x2048x3072, .f32⟩
  | .hbm, ⟨4, _⟩ => ⟨S4x2048x128, .f32⟩
  | .hbm, ⟨5, _⟩ => ⟨S1024x7296, .f32⟩
  | .hbm, ⟨6, _⟩ => ⟨S4x2048x7296, .f32⟩
  | .hbm, ⟨7, _⟩ => ⟨S_, .f32⟩
  | .hbm, ⟨8, _⟩ => ⟨S4x2048x1024, .f32⟩
  | .hbm, ⟨9, _⟩ => ⟨S4x2048x7296, .f32⟩
  | .hbm, ⟨10, _⟩ => ⟨S4x2048x1024, .f32⟩
  | .hbm, ⟨11, _⟩ => ⟨S8192x1024, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== KernelMergeB.lean ====
abbrev S4x2048x1024 : Shape := ⟨3, ![4, 2048, 1024]⟩
abbrev S4x2048x3072 : Shape := ⟨3, ![4, 2048, 3072]⟩
abbrev S4x2048x512 : Shape := ⟨3, ![4, 2048, 512]⟩
abbrev S512x1024 : Shape := ⟨2, ![512, 1024]⟩
abbrev S1024x1024 : Shape := ⟨2, ![1024, 1024]⟩
abbrev S8192x1024 : Shape := ⟨2, ![8192, 1024]⟩
abbrev S_ : Shape := ⟨0, ![]⟩
abbrev S8192x4096 : Shape := ⟨2, ![8192, 4096]⟩
abbrev S8192x3072 : Shape := ⟨2, ![8192, 3072]⟩
abbrev S8192x128 : Shape := ⟨2, ![8192, 128]⟩
abbrev S8192x7296 : Shape := ⟨2, ![8192, 7296]⟩
abbrev S8192x512 : Shape := ⟨2, ![8192, 512]⟩
abbrev S512x3072 : Shape := ⟨2, ![512, 3072]⟩
abbrev S512x512 : Shape := ⟨2, ![512, 512]⟩

abbrev nBuf : Space → Nat
  | .hbm => 37
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4x2048x1024, .f32⟩
  | .hbm, ⟨10, _⟩ => ⟨S8192x1024, .f32⟩
  | .hbm, ⟨11, _⟩ => ⟨S8192x1024, .bf16⟩
  | .hbm, ⟨12, _⟩ => ⟨S4x2048x1024, .f32⟩
  | .hbm, ⟨13, _⟩ => ⟨S8192x1024, .f32⟩
  | .hbm, ⟨14, _⟩ => ⟨S8192x1024, .bf16⟩
  | .hbm, ⟨15, _⟩ => ⟨S4x2048x1024, .f32⟩
  | .hbm, ⟨16, _⟩ => ⟨S8192x1024, .f32⟩
  | .hbm, ⟨17, _⟩ => ⟨S8192x1024, .bf16⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S8192x1024, .f32⟩
  | .hbm, ⟨23, _⟩ => ⟨S_, .f32⟩
  | .hbm, ⟨24, _⟩ => ⟨S8192x4096, .f32⟩
  | .hbm, ⟨25, _⟩ => ⟨S8192x3072, .f32⟩
  | .hbm, ⟨26, _⟩ => ⟨S_, .f32⟩
  | .hbm, ⟨27, _⟩ => ⟨S8192x128, .f32⟩
  | .hbm, ⟨28, _⟩ => ⟨S8192x7296, .f32⟩
  | .hbm, ⟨29, _⟩ => ⟨S8192x7296, .bf16⟩
  | .hbm, ⟨30, _⟩ => ⟨S8192x3072, .bf16⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x1024, .bf16⟩
  | .hbm, ⟨35, _⟩ => ⟨S8192x1024, .bf16⟩
  | .hbm, ⟨36, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x3072, .bf16⟩
  | .local _ .vmem, ⟨19, _⟩ => ⟨S512x3072, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMergeBIdeal.lean ====
abbrev S4x2048x1024 : Shape := ⟨3, ![4, 2048, 1024]⟩
abbrev S4x2048x3072 : Shape := ⟨3, ![4, 2048, 3072]⟩
abbrev S4x2048x512 : Shape := ⟨3, ![4, 2048, 512]⟩
abbrev S512x1024 : Shape := ⟨2, ![512, 1024]⟩
abbrev S1024x1024 : Shape := ⟨2, ![1024, 1024]⟩
abbrev S_ : Shape := ⟨0, ![]⟩
abbrev S4x2048x3x1024 : Shape := ⟨4, ![4, 2048, 3, 1024]⟩
abbrev S4x2048x1x1024 : Shape := ⟨4, ![4, 2048, 1, 1024]⟩
abbrev S8192x3072 : Shape := ⟨2, ![8192, 3072]⟩
abbrev S8192x512 : Shape := ⟨2, ![8192, 512]⟩
abbrev S8192x1024 : Shape := ⟨2, ![8192, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x3072, .f32⟩
  | .hbm, ⟨13, _⟩ => ⟨S4x2048x3072, .f32⟩
  | .hbm, ⟨14, _⟩ => ⟨S_, .f32⟩
  | .hbm, ⟨15, _⟩ => ⟨S4x2048x3072, .f32⟩
  | .hbm, ⟨16, _⟩ => ⟨S4x2048x3072, .f32⟩
  | .hbm, ⟨17, _⟩ => ⟨S_, .f32⟩
  | .hbm, ⟨18, _⟩ => ⟨S4x2048x3072, .f32⟩
  | .hbm, ⟨19, _⟩ => ⟨S4x2048x3072, .f32⟩
  | .hbm, ⟨20, _⟩ => ⟨S_, .f32⟩
  | .hbm, ⟨21, _⟩ => ⟨S4x2048x3072, .f32⟩
  | .hbm, ⟨22, _⟩ => ⟨S4x2048x3072, .f32⟩
  | .hbm, ⟨23, _⟩ => ⟨S4x2048x3072, .f32⟩
  | .hbm, ⟨24, _⟩ => ⟨S4x2048x3x1024, .f32⟩
  | .hbm, ⟨25, _⟩ => ⟨S4x2048x1x1024, .f32⟩
  | .hbm, ⟨26, _⟩ => ⟨S4x2048x1024, .f32⟩
  | .hbm, ⟨27, _⟩ => ⟨S4x2048x1024, .f32⟩
  | .hbm, ⟨28, _⟩ => ⟨S4x2048x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1x1024, .f32⟩
  | .hbm, ⟨41, _⟩ => ⟨S_, .f32⟩
  | .hbm, ⟨42, _⟩ => ⟨S4x2048x3x1024, .f32⟩
  | .hbm, ⟨43, _⟩ => ⟨S4x2048x1024, .f32⟩
  | .hbm, ⟨44, _⟩ => ⟨S4x2048x1024, .f32⟩
  | .hbm, ⟨45, _⟩ => ⟨S4x2048x1x1024, .f32⟩
  | .hbm, ⟨46, _⟩ => ⟨S_, .f32⟩
  | .hbm, ⟨47, _⟩ => ⟨S4x2048x3x1024, .f32⟩
  | .hbm, ⟨48, _⟩ => ⟨S4x2048x3x1024, .f32⟩
  | .hbm, ⟨49, _⟩ => ⟨S4x2048x1024, .f32⟩
  | .hbm, ⟨50, _⟩ => ⟨S4x2048x1024, .f32⟩
  | .hbm, ⟨51, _⟩ => ⟨S4x2048x1x1024, .f32⟩
  | .hbm, ⟨52, _⟩ => ⟨S_, .f32⟩
  | .hbm, ⟨53, _⟩ => ⟨S4x2048x3x1024, .f32⟩
  | .hbm, ⟨54, _⟩ => ⟨S4x2048x3x1024, .f32⟩
  | .hbm, ⟨55, _⟩ => ⟨S4x2048x3072, .f32⟩
  | .hbm, ⟨56, _⟩ => ⟨S4x2048x3072, .f32⟩
  | .hbm, ⟨57, _⟩ => ⟨S4x2048x1024, .f32⟩
  | .hbm, ⟨58, _⟩ => ⟨S4x2048x512, .f32⟩
  | .hbm, ⟨59, _⟩ => ⟨S4x2048x1024, .f32⟩
  | .hbm, ⟨60, _⟩ => ⟨S4x2048x512, .f32⟩
  | .hbm, ⟨61, _⟩ => ⟨S4x2048x1024, .f32⟩
  | .hbm, ⟨62, _⟩ => ⟨S4x2048x512, .f32⟩
  | .hbm, ⟨63, _⟩ => ⟨S8192x3072, .f32⟩
  | .hbm, ⟨64, _⟩ => ⟨S8192x3072, .bf16⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x1024, .f32⟩
  | .hbm, ⟨69, _⟩ => ⟨S8192x1024, .bf16⟩
  | .hbm, ⟨70, _⟩ => ⟨S8192x1024, .f32⟩
  | .hbm, ⟨71, _⟩ => ⟨S8192x1024, .bf16⟩
  | .hbm, ⟨72, _⟩ => ⟨S8192x1024, .f32⟩
  | .hbm, ⟨73, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== KernelMergeF.lean ====
abbrev S4x2048x512 : Shape := ⟨3, ![4, 2048, 512]⟩
abbrev S4x2048x3072 : Shape := ⟨3, ![4, 2048, 3072]⟩
abbrev S4x2048x1024 : Shape := ⟨3, ![4, 2048, 1024]⟩
abbrev S512x1024 : Shape := ⟨2, ![512, 1024]⟩
abbrev S1024x1024 : Shape := ⟨2, ![1024, 1024]⟩
abbrev S1x1024 : Shape := ⟨2, ![1, 1024]⟩
abbrev S8192x512 : Shape := ⟨2, ![8192, 512]⟩
abbrev S_ : Shape := ⟨0, ![]⟩
abbrev S8192x4096 : Shape := ⟨2, ![8192, 4096]⟩
abbrev S8192x3072 : Shape := ⟨2, ![8192, 3072]⟩
abbrev S8192x128 : Shape := ⟨2, ![8192, 128]⟩
abbrev S8192x7296 : Shape := ⟨2, ![8192, 7296]⟩
abbrev S8192x1024 : Shape := ⟨2, ![8192, 1024]⟩
abbrev S512x512 : Shape := ⟨2, ![512, 512]⟩
abbrev S512 : Shape := ⟨1, ![512]⟩
abbrev S512x1 : Shape := ⟨2, ![512, 1]⟩

abbrev nBuf : Space → Nat
  | .hbm => 34
  | .vmem => 31
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x3072, .f32⟩
  | .hbm, ⟨4, _⟩ => ⟨S4x2048x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S8192x512, .f32⟩
  | .hbm, ⟨11, _⟩ => ⟨S8192x512, .bf16⟩
  | .hbm, ⟨12, _⟩ => ⟨S8192x512, .f32⟩
  | .hbm, ⟨13, _⟩ => ⟨S8192x512, .bf16⟩
  | .hbm, ⟨14, _⟩ => ⟨S8192x512, .f32⟩
  | .hbm, ⟨15, _⟩ => ⟨S8192x512, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S_, .f32⟩
  | .hbm, ⟨21, _⟩ => ⟨S8192x4096, .f32⟩
  | .hbm, ⟨22, _⟩ => ⟨S8192x3072, .f32⟩
  | .hbm, ⟨23, _⟩ => ⟨S_, .f32⟩
  | .hbm, ⟨24, _⟩ => ⟨S8192x128, .f32⟩
  | .hbm, ⟨25, _⟩ => ⟨S8192x7296, .f32⟩
  | .hbm, ⟨26, _⟩ => ⟨S8192x7296, .bf16⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMergeFIdeal.lean ====
abbrev S4x2048x512 : Shape := ⟨3, ![4, 2048, 512]⟩
abbrev S4x2048x3072 : Shape := ⟨3, ![4, 2048, 3072]⟩
abbrev S4x2048x1024 : Shape := ⟨3, ![4, 2048, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4x2048x3x1024 : Shape := ⟨4, ![4, 2048, 3, 1024]⟩
abbrev S4x2048x1x1024 : Shape := ⟨4, ![4, 2048, 1, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x3072, .f32⟩
  | .hbm, ⟨4, _⟩ => ⟨S4x2048x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S_, .f32⟩
  | .hbm, ⟨19, _⟩ => ⟨S4x2048x3072, .f32⟩
  | .hbm, ⟨20, _⟩ => ⟨S4x2048x3072, .f32⟩
  | .hbm, ⟨21, _⟩ => ⟨S4x2048x3x1024, .f32⟩
  | .hbm, ⟨22, _⟩ => ⟨S4x2048x1x1024, .f32⟩
  | .hbm, ⟨23, _⟩ => ⟨S4x2048x1024, .f32⟩
  | .hbm, ⟨24, _⟩ => ⟨S4x2048x1024, .f32⟩
  | .hbm, ⟨25, _⟩ => ⟨S4x2048x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1024, .f32⟩
  | .hbm, ⟨36, _⟩ => ⟨S4x2048x1024, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x1024, .f32⟩
  | .hbm, ⟨56, _⟩ => ⟨S8192x1024, .bf16⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .bf16⟩
  | .hbm, ⟨61, _⟩ => ⟨S8192x1024, .f32⟩
  | .hbm, ⟨62, _⟩ => ⟨S8192x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== KernelLoss.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S8192x2816 : Shape := ⟨2, ![8192, 2816]⟩
abbrev S8192x1024 : Shape := ⟨2, ![8192, 1024]⟩
abbrev S8x1024 : Shape := ⟨2, ![8, 1024]⟩
abbrev S512x2816 : Shape := ⟨2, ![512, 2816]⟩
abbrev S512x1024 : Shape := ⟨2, ![512, 1024]⟩
abbrev S64x8x1024 : Shape := ⟨3, ![64, 8, 1024]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S4x2048x1024, .f32⟩
  | .hbm, ⟨4, _⟩ => ⟨S8192x2816, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8x1024, .f32⟩
  | .hbm, ⟨11, _⟩ => ⟨S_, .f32⟩
  | .hbm, ⟨12, _⟩ => ⟨S_, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S_ : Shape := ⟨0, ![]⟩
abbrev S4x2048 : Shape := ⟨2, ![4, 2048]⟩
abbrev S8192x1024 : Shape := ⟨2, ![8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048x1024, .f32⟩
  | .hbm, ⟨28, _⟩ => ⟨S4x2048x1024, .f32⟩
  | .hbm, ⟨29, _⟩ => ⟨S8192x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== KernelNormB.lean ====
abbrev S4x2048x1024 : Shape := ⟨3, ![4, 2048, 1024]⟩
abbrev S1x1024 : Shape := ⟨2, ![1, 1024]⟩
abbrev S8192x1024 : Shape := ⟨2, ![8192, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S128x8x1024 : Shape := ⟨3, ![128, 8, 1024]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S4x2048x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8x1024, .f32⟩
  | .hbm, ⟨9, _⟩ => ⟨S_, .f32⟩
  | .hbm, ⟨10, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_cst : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormBIdeal.lean ====
abbrev S4x2048x1024 : Shape := ⟨3, ![4, 2048, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S4x2048x1024, .f32⟩
  | .hbm, ⟨4, _⟩ => ⟨S1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S1024, .f32⟩
  | .hbm, ⟨33, _⟩ => ⟨S4x2048x1024, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelAdamIn.lean ====
abbrev S1024x897 : Shape := ⟨2, ![1024, 897]⟩
abbrev S512x897 : Shape := ⟨2, ![512, 897]⟩

abbrev nBuf : Space → Nat
  | .hbm => 7
  | .vmem => 14
  | .smem => 0
  | _ => 0

abbrev bufTy : (tb : Table) → Fin (tcTables nBuf tb) → BufTy
  | .hbm, ⟨0, _⟩ => ⟨S1024x897, .f32⟩
  | .hbm, ⟨1, _⟩ => ⟨S1024x897, .f32⟩
  | .hbm, ⟨2, _⟩ => ⟨S1024x897, .f32⟩
  | .hbm, ⟨3, _⟩ => ⟨S1024x897, .f32⟩
  | .hbm, ⟨4, _⟩ => ⟨S1024x897, .f32⟩
  | .hbm, ⟨5, _⟩ => ⟨S1024x897, .f32⟩
  | .hbm, ⟨6, _⟩ => ⟨S1024x897, .f32⟩
  | .local _ .vmem, ⟨0, _⟩ => ⟨S512x897, .f32⟩
  | .local _ .vmem, ⟨1, _⟩ => ⟨S512x897, .f32⟩
  | .local _ .vmem, ⟨2, _⟩ => ⟨S512x897, .f32⟩
  | .local _ .vmem, ⟨3, _⟩ => ⟨S512x897, .f32⟩
  | .local _ .vmem, ⟨4, _⟩ => ⟨S512x897, .f32⟩
  | .local _ .vmem, ⟨5, _⟩ => ⟨S512x897, .f32⟩
  | .local _ .vmem, ⟨6, _⟩ => ⟨S512x897, .f32⟩
  | .local _ .vmem, ⟨7, _⟩ => ⟨S512x897, .f32⟩
  | .local _ .vmem, ⟨8, _⟩ => ⟨S512x897, .f32⟩
  | .local _ .vmem, ⟨9, _⟩ => ⟨S512x897, .f32⟩
  | .local _ .vmem, ⟨10, _⟩ => ⟨S512x897, .f32⟩
  | .local _ .vmem, ⟨11, _⟩ => ⟨S512x897, .f32⟩
  | .local _ .vmem, ⟨12, _⟩ => ⟨S512x897, .f32⟩
  | .local _ .vmem, ⟨13, _⟩ => ⟨S512x897, .f32⟩
  | _, _ => ⟨S1024x897, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x897 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x897 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x897 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x897 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x897 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x897 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x897 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S1024x897 : Shape := ⟨2, ![1024, 897]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x897, .f32⟩
  | .hbm, ⟨1, _⟩ => ⟨S1024x897, .f32⟩
  | .hbm, ⟨2, _⟩ => ⟨S1024x897, .f32⟩
  | .hbm, ⟨3, _⟩ => ⟨S1024x897, .f32⟩
  | .hbm, ⟨4, _⟩ => ⟨S_, .f32⟩
  | .hbm, ⟨5, _⟩ => ⟨S1024x897, .f32⟩
  | .hbm, ⟨6, _⟩ => ⟨S1024x897, .f32⟩
  | .hbm, ⟨7, _⟩ => ⟨S_, .f32⟩
  | .hbm, ⟨8, _⟩ => ⟨S1024x897, .f32⟩
  | .hbm, ⟨9, _⟩ => ⟨S1024x897, .f32⟩
  | .hbm, ⟨10, _⟩ => ⟨S1024x897, .f32⟩
  | .hbm, ⟨11, _⟩ => ⟨S_, .f32⟩
  | .hbm, ⟨12, _⟩ => ⟨S1024x897, .f32⟩
  | .hbm, ⟨13, _⟩ => ⟨S1024x897, .f32⟩
  | .hbm, ⟨14, _⟩ => ⟨S1024x897, .f32⟩
  | .hbm, ⟨15, _⟩ => ⟨S_, .f32⟩
  | .hbm, ⟨16, _⟩ => ⟨S1024x897, .f32⟩
  | .hbm, ⟨17, _⟩ => ⟨S1024x897, .f32⟩
  | .hbm, ⟨18, _⟩ => ⟨S1024x897, .f32⟩
  | .hbm, ⟨19, _⟩ => ⟨S_, .f32⟩
  | .hbm, ⟨20, _⟩ => ⟨S1024x897, .f32⟩
  | .hbm, ⟨21, _⟩ => ⟨S1024x897, .f32⟩
  | .hbm, ⟨22, _⟩ => ⟨S_, .f32⟩
  | .hbm, ⟨23, _⟩ => ⟨S1024x897, .f32⟩
  | .hbm, ⟨24, _⟩ => ⟨S1024x897, .f32⟩
  | .hbm, ⟨25, _⟩ => ⟨S1024x897, .f32⟩
  | .hbm, ⟨26, _⟩ => ⟨S_, .f32⟩
  | .hbm, ⟨27, _⟩ => ⟨S1024x897, .f32⟩
  | .hbm, ⟨28, _⟩ => ⟨S1024x897, .f32⟩
  | .hbm, ⟨29, _⟩ => ⟨S1024x897, .f32⟩
  | .hbm, ⟨30, _⟩ => ⟨S_, .f32⟩
  | .hbm, ⟨31, _⟩ => ⟨S1024x897, .f32⟩
  | .hbm, ⟨32, _⟩ => ⟨S1024x897, .f32⟩
  | .hbm, ⟨33, _⟩ => ⟨S1024x897, .f32⟩
  | .hbm, ⟨34, _⟩ => ⟨S_, .f32⟩
  | .hbm, ⟨35, _⟩ => ⟨S1024x897, .f32⟩
  | .hbm, ⟨36, _⟩ => ⟨S1024x897, .f32⟩
  | _, _ => ⟨S1024x897, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamOutIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamBr.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamBrIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamUp.lean ====
abbrev S1024x704 : Shape := ⟨2, ![1024, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUpIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamConv.lean ====
abbrev S3x352 : Shape := ⟨2, ![3, 352]⟩

abbrev nBuf : Space → Nat
  | .hbm => 7
  | .vmem => 7
  | .smem => 0
  | _ => 0

abbrev bufTy : (tb : Table) → Fin (tcTables nBuf tb) → BufTy
  | .hbm, ⟨0, _⟩ => ⟨S3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .local _ .vmem, ⟨0, _⟩ => ⟨S3x352, .f32⟩
  | .local _ .vmem, ⟨1, _⟩ => ⟨S3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | _, _ => ⟨S3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamConvIdeal.lean ====
abbrev S3x352 : Shape := ⟨2, ![3, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S_, .f32⟩
  | .hbm, ⟨5, _⟩ => ⟨S3x352, .f32⟩
  | .hbm, ⟨6, _⟩ => ⟨S3x352, .f32⟩
  | .hbm, ⟨7, _⟩ => ⟨S_, .f32⟩
  | .hbm, ⟨8, _⟩ => ⟨S3x352, .f32⟩
  | .hbm, ⟨9, _⟩ => ⟨S3x352, .f32⟩
  | .hbm, ⟨10, _⟩ => ⟨S3x352, .f32⟩
  | .hbm, ⟨11, _⟩ => ⟨S_, .f32⟩
  | .hbm, ⟨12, _⟩ => ⟨S3x352, .f32⟩
  | .hbm, ⟨13, _⟩ => ⟨S3x352, .f32⟩
  | .hbm, ⟨14, _⟩ => ⟨S3x352, .f32⟩
  | .hbm, ⟨15, _⟩ => ⟨S_, .f32⟩
  | .hbm, ⟨16, _⟩ => ⟨S3x352, .f32⟩
  | .hbm, ⟨17, _⟩ => ⟨S3x352, .f32⟩
  | .hbm, ⟨18, _⟩ => ⟨S3x352, .f32⟩
  | .hbm, ⟨19, _⟩ => ⟨S_, .f32⟩
  | .hbm, ⟨20, _⟩ => ⟨S3x352, .f32⟩
  | .hbm, ⟨21, _⟩ => ⟨S3x352, .f32⟩
  | .hbm, ⟨22, _⟩ => ⟨S_, .f32⟩
  | .hbm, ⟨23, _⟩ => ⟨S3x352, .f32⟩
  | .hbm, ⟨24, _⟩ => ⟨S3x352, .f32⟩
  | .hbm, ⟨25, _⟩ => ⟨S3x352, .f32⟩
  | .hbm, ⟨26, _⟩ => ⟨S_, .f32⟩
  | .hbm, ⟨27, _⟩ => ⟨S3x352, .f32⟩
  | .hbm, ⟨28, _⟩ => ⟨S3x352, .f32⟩
  | .hbm, ⟨29, _⟩ => ⟨S3x352, .f32⟩
  | .hbm, ⟨30, _⟩ => ⟨S_, .f32⟩
  | .hbm, ⟨31, _⟩ => ⟨S3x352, .f32⟩
  | .hbm, ⟨32, _⟩ => ⟨S3x352, .f32⟩
  | .hbm, ⟨33, _⟩ => ⟨S3x352, .f32⟩
  | .hbm, ⟨34, _⟩ => ⟨S_, .f32⟩
  | .hbm, ⟨35, _⟩ => ⟨S3x352, .f32⟩
  | .hbm, ⟨36, _⟩ => ⟨S3x352, .f32⟩
  | _, _ => ⟨S3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamDown.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamDownIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .local _ .vmem, ⟨0, _⟩ => ⟨S8x64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceAdamSmallIdeal.lean ====
abbrev S8x64x128 : Shape := ⟨3, ![8, 64, 128]⟩
abbrev S64x128 : Shape := ⟨2, ![64, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelWMem.lean ====
abbrev S4x256x1024 : Shape := ⟨3, ![4, 256, 1024]⟩
abbrev S1024x1024 : Shape := ⟨2, ![1024, 1024]⟩
abbrev S256x1024 : Shape := ⟨2, ![256, 1024]⟩
abbrev S256x512 : Shape := ⟨2, ![256, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S256x512, .f32⟩
  | .local _ .vmem, ⟨4, _⟩ => ⟨S1024x512, .f32⟩
  | .local _ .vmem, ⟨5, _⟩ => ⟨S1024x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWMemIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S_, .f32⟩
  | .hbm, ⟨3, _⟩ => ⟨S1024x1024, .f32⟩
  | .hbm, ⟨4, _⟩ => ⟨S4x256x1024, .f32⟩
  | .hbm, ⟨5, _⟩ => ⟨S1024x1024, .f32⟩
  | .hbm, ⟨6, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNormM.lean ====
abbrev S4x256x1024 : Shape := ⟨3, ![4, 256, 1024]⟩
abbrev S1x1024 : Shape := ⟨2, ![1, 1024]⟩
abbrev S1024x1024 : Shape := ⟨2, ![1024, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S_ : Shape := ⟨0, ![]⟩
abbrev S1024 : Shape := ⟨1, ![1024]⟩

abbrev nBuf : Space → Nat
  | .hbm => 9
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S1x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x1024, .f32⟩
  | .hbm, ⟨7, _⟩ => ⟨S_, .f32⟩
  | .hbm, ⟨8, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceNormMIdeal.lean ====
abbrev S4x256x1024 : Shape := ⟨3, ![4, 256, 1024]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S1x1024, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S1024, .f32⟩
  | .hbm, ⟨23, _⟩ => ⟨S1x1x1024, .f32⟩
  | .hbm, ⟨24, _⟩ => ⟨S_, .f32⟩
  | .hbm, ⟨25, _⟩ => ⟨S1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelProjMem.lean ====
abbrev S4x256x1024 : Shape := ⟨3, ![4, 256, 1024]⟩
abbrev S1024x1024 : Shape := ⟨2, ![1024, 1024]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S1024x512, .bf16⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjMemIdeal.lean ====
abbrev S4x256x1024 : Shape := ⟨3, ![4, 256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x256x1024, .f32⟩
  | .hbm, ⟨3, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDMemn.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDMemnIdeal.lean ====
abbrev S4x256x1024 : Shape := ⟨3, ![4, 256, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S_, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNormF.lean ====
abbrev S4x2048x1024 : Shape := ⟨3, ![4, 2048, 1024]⟩
abbrev S1x1024 : Shape := ⟨2, ![1, 1024]⟩
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormFIdeal.lean ====
abbrev S4x2048x1024 : Shape := ⟨3, ![4, 2048, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelNormMF.lean ====
abbrev S4x256x1024 : Shape := ⟨3, ![4, 256, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormMFIdeal.lean ====
abbrev S4x256x1024 : Shape := ⟨3, ![4, 256, 1024]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1024 : Shape := ⟨2, ![1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1024, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S1024x1024, .f32⟩
  | .hbm, ⟨20, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelMemF.lean ====
abbrev S4x2048x512 : Shape := ⟨3, ![4, 2048, 512]⟩
abbrev S4x256x1024 : Shape := ⟨3, ![4, 256, 1024]⟩
abbrev S1x128 : Shape := ⟨2, ![1, 128]⟩
abbrev S_ : Shape := ⟨0, ![]⟩
abbrev S8192x1536 : Shape := ⟨2, ![8192, 1536]⟩
abbrev S8192x512 : Shape := ⟨2, ![8192, 512]⟩
abbrev S8192x5248 : Shape := ⟨2, ![8192, 5248]⟩
abbrev S8192x7296 : Shape := ⟨2, ![8192, 7296]⟩
abbrev S1024x1024 : Shape := ⟨2, ![1024, 1024]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1024x256 : Shape := ⟨2, ![1024, 256]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x512, .f32⟩
  | .hbm, ⟨1, _⟩ => ⟨S4x256x1024, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S8192x1536, .f32⟩
  | .hbm, ⟨6, _⟩ => ⟨S8192x512, .f32⟩
  | .hbm, ⟨7, _⟩ => ⟨S_, .f32⟩
  | .hbm, ⟨8, _⟩ => ⟨S8192x5248, .f32⟩
  | .hbm, ⟨9, _⟩ => ⟨S8192x7296, .f32⟩
  | .hbm, ⟨10, _⟩ => ⟨S8192x7296, .bf16⟩
  | .hbm, ⟨11, _⟩ => ⟨S1024x1024, .f32⟩
  | .hbm, ⟨12, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1x128, .f32⟩
  | .local _ .vmem, ⟨6, _⟩ => ⟨S1024x512, .bf16⟩
  | .local _ .vmem, ⟨7, _⟩ => ⟨S1024x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMemFIdeal.lean ====
abbrev S4x2048x512 : Shape := ⟨3, ![4, 2048, 512]⟩
abbrev S4x256x1024 : Shape := ⟨3, ![4, 256, 1024]⟩
abbrev S1x128 : Shape := ⟨2, ![1, 128]⟩
abbrev S128 : Shape := ⟨1, ![128]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x512 : Shape := ⟨2, ![8192, 512]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x256x1024, .f32⟩
  | .hbm, ⟨2, _⟩ => ⟨S1x128, .f32⟩
  | .hbm, ⟨3, _⟩ => ⟨S1x128, .f32⟩
  | .hbm, ⟨4, _⟩ => ⟨S128, .f32⟩
  | .hbm, ⟨5, _⟩ => ⟨S128, .f32⟩
  | .hbm, ⟨6, _⟩ => ⟨S4x2048x4x128, .f32⟩
  | .hbm, ⟨7, _⟩ => ⟨S4x2048x4x128, .f32⟩
  | .hbm, ⟨8, _⟩ => ⟨S_, .f32⟩
  | .hbm, ⟨9, _⟩ => ⟨S4x2048x4, .f32⟩
  | .hbm, ⟨10, _⟩ => ⟨S4x2048x4x1, .f32⟩
  | .hbm, ⟨11, _⟩ => ⟨S_, .f32⟩
  | .hbm, ⟨12, _⟩ => ⟨S4x2048x4x1, .f32⟩
  | .hbm, ⟨13, _⟩ => ⟨S4x2048x4x1, .f32⟩
  | .hbm, ⟨14, _⟩ => ⟨S_, .f32⟩
  | .hbm, ⟨15, _⟩ => ⟨S4x2048x4x1, .f32⟩
  | .hbm, ⟨16, _⟩ => ⟨S4x2048x4x1, .f32⟩
  | .hbm, ⟨17, _⟩ => ⟨S4x2048x4x1, .f32⟩
  | .hbm, ⟨18, _⟩ => ⟨S4x2048x4x128, .f32⟩
  | .hbm, ⟨19, _⟩ => ⟨S4x2048x4x128, .f32⟩
  | .hbm, ⟨20, _⟩ => ⟨S1x1x1x128, .f32⟩
  | .hbm, ⟨21, _⟩ => ⟨S4x2048x4x128, .f32⟩
  | .hbm, ⟨22, _⟩ => ⟨S4x2048x4x128, .f32⟩
  | .hbm, ⟨23, _⟩ => ⟨S4x256x512, .f32⟩
  | .hbm, ⟨24, _⟩ => ⟨S4x256x512, .f32⟩
  | .hbm, ⟨25, _⟩ => ⟨S4x256x4x128, .f32⟩
  | .hbm, ⟨26, _⟩ => ⟨S4x256x4x128, .f32⟩
  | .hbm, ⟨27, _⟩ => ⟨S_, .f32⟩
  | .hbm, ⟨28, _⟩ => ⟨S4x256x4, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S_, .f32⟩
  | .hbm, ⟨34, _⟩ => ⟨S4x256x4x1, .f32⟩
  | .hbm, ⟨35, _⟩ => ⟨S4x256x4x1, .f32⟩
  | .hbm, ⟨36, _⟩ => ⟨S4x256x4x1, .f32⟩
  | .hbm, ⟨37, _⟩ => ⟨S4x256x4x128, .f32⟩
  | .hbm, ⟨38, _⟩ => ⟨S4x256x4x128, .f32⟩
  | .hbm, ⟨39, _⟩ => ⟨S1x1x1x128, .f32⟩
  | .hbm, ⟨40, _⟩ => ⟨S4x256x4x128, .f32⟩
  | .hbm, ⟨41, _⟩ => ⟨S4x256x4x128, .f32⟩
  | .hbm, ⟨42, _⟩ => ⟨S4x256x4x128, .f32⟩
  | .hbm, ⟨43, _⟩ => ⟨S4x4x2048x256, .f32⟩
  | .hbm, ⟨44, _⟩ => ⟨S_, .f32⟩
  | .hbm, ⟨45, _⟩ => ⟨S4x4x2048x256, .f32⟩
  | .hbm, ⟨46, _⟩ => ⟨S4x4x2048x256, .f32⟩
  | .hbm, ⟨47, _⟩ => ⟨S_, .f32⟩
  | .hbm, ⟨48, _⟩ => ⟨S4x4x2048, .f32⟩
  | .hbm, ⟨49, _⟩ => ⟨S_, .f32⟩
  | .hbm, ⟨50, _⟩ => ⟨S4x4x2048, .f32⟩
  | .hbm, ⟨51, _⟩ => ⟨S4x4x2048, .f32⟩
  | .hbm, ⟨52, _⟩ => ⟨S4x4x2048x1, .f32⟩
  | .hbm, ⟨53, _⟩ => ⟨S4x4x2048x256, .f32⟩
  | .hbm, ⟨54, _⟩ => ⟨S4x4x2048x256, .f32⟩
  | .hbm, ⟨55, _⟩ => ⟨S4x4x2048x256, .f32⟩
  | .hbm, ⟨56, _⟩ => ⟨S_, .f32⟩
  | .hbm, ⟨57, _⟩ => ⟨S4x4x2048, .f32⟩
  | .hbm, ⟨58, _⟩ => ⟨S4x4x2048x1, .f32⟩
  | .hbm, ⟨59, _⟩ => ⟨S4x4x2048x256, .f32⟩
  | .hbm, ⟨60, _⟩ => ⟨S4x4x2048x256, .f32⟩
  | .hbm, ⟨61, _⟩ => ⟨S4x4x128x2048, .f32⟩
  | .hbm, ⟨62, _⟩ => ⟨S4x2048x4x128, .f32⟩
  | .hbm, ⟨63, _⟩ => ⟨S4x2048x512, .f32⟩
  | .hbm, ⟨64, _⟩ => ⟨S8192x512, .f32⟩
  | .hbm, ⟨65, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.Rows.lean ====
/- The mathematics of the memory attention's backward pass, one row at a time, over the extended reals: the words in which both the kernel's blocks and the reference are read. -/
module

public import Idealize.ShloMosaic.PureOps.Ideal

@[expose] public section

noncomputable section

namespace Cert.Rows

open Idealize.ShloMosaic

/-- One row of a head: 128 numbers. -/
abbrev Row := Fin 128 → EReal
/-- One value for each of the 256 memory slots. -/
abbrev Slots := Fin 256 → EReal

/-- The head's width, the norm's epsilon and the attention's scale 1/√128, as the programs write them. -/
def width : EReal := Ideal.ofBits .f32 0x43000000#32
def eps : EReal := Ideal.ofBits .f32 0x358637BD#32
def scale : EReal := Ideal.ofBits .f32 0x3DB504F3#32

/-- The row's mean square plus epsilon, its inverse root, and the row without its length. -/
def msq (x : Row) : EReal := Ideal.div (∑ j, x j * x j) width + eps
def inv (x : Row) : EReal := Ideal.rsqrt (msq x)
def hat (x : Row) : Row := fun j => x j * inv x

/-- The normalised query with its gain and the attention's scale, and the normalised key with its gain. -/
def qn (g q : Row) : Row := fun j => hat q j * g j * scale
def kn (g k : Row) : Row := fun j => hat k j * g j

/-- The scores of one query against the memory. -/
def score (gq gk q : Row) (k : Fin 256 → Row) : Slots := fun m => ∑ j, qn gq q j * kn gk (k m) j

/-- The largest score, the exponentials below it, and the softmax. -/
def top (s : Slots) : EReal := Finset.univ.fold max (Ideal.ofBits .f32 0xFF800000#32) s
def ex (s : Slots) : Slots := fun m => Ideal.exp (s m - top s)
def prob (s : Slots) : Slots := fun m => Ideal.div (ex s m) (∑ n, ex s n)

/-- The gradient of the probabilities from the output's gradient, and the gradient of the scores. -/
def dprob (d : Row) (v : Fin 256 → Row) : Slots := fun m => ∑ j, d j * v m j
def dscore (p dp : Slots) : Slots := fun m => p m * (dp m - ∑ n, dp n * p n)

/-- The norm's backward pass: the gradient of `x` from the gradient `u` of `hat x`. -/
def normBack (x u : Row) : Row := fun j => inv x * (u j - hat x j * Ideal.div (∑ i, u i * hat x i) width)

end Cert.Rows
-- ==== Proof.Arrays.lean ====
/- What the two results hold, as functions of the five arguments: the row mathematics at each batch, token, memory slot and head. -/
module

public import proofs.«01_k».proof.Proof.Rows
public import Idealize.ShloMosaic.Lib.Pointwise.Index

@[expose] public section

noncomputable section

namespace Cert.Arrays

open Idealize.ShloMosaic Cert.Rows

abbrev Tok : Shape := ⟨3, ![4, 2048, 512]⟩
abbrev Mem : Shape := ⟨3, ![4, 256, 1024]⟩
abbrev Gain : Shape := ⟨2, ![1, 128]⟩

/-- Head `h`'s row of a token array, and of the memory's array (whose eight column blocks are the four keys and the four values). -/
def tokRow (x : Tok.Idx → EReal) (b : Fin 4) (t : Fin 2048) (h : Fin 4) : Row := fun j => x (ix3 b t (⟨128 * h + j, by omega⟩ : Fin 512))
def memRow (x : Mem.Idx → EReal) (b : Fin 4) (m : Fin 256) (h : Fin 8) : Row := fun j => x (ix3 b m (⟨128 * h + j, by omega⟩ : Fin 1024))
def gainRow (g : Gain.Idx → EReal) : Row := fun j => g (ix2 (0 : Fin 1) j)

/-- The column block of head `h`'s key and of its value. -/
def keyOf (h : Fin 4) : Fin 8 := ⟨h, by omega⟩
def valOf (h : Fin 4) : Fin 8 := ⟨4 + h, by omega⟩

variable (x0 : Tok.Idx → EReal) (x1 : Mem.Idx → EReal) (x2 : Tok.Idx → EReal) (x3 x4 : Gain.Idx → EReal)

/-- The scores, the output gradient against the values, and the scores' gradient, of one query. -/
def scoreAt (b : Fin 4) (t : Fin 2048) (h : Fin 4) : Slots :=
  score (gainRow x3) (gainRow x4) (tokRow x0 b t h) fun m => memRow x1 b m (keyOf h)
def dprobAt (b : Fin 4) (t : Fin 2048) (h : Fin 4) : Slots :=
  dprob (tokRow x2 b t h) fun m => memRow x1 b m (valOf h)
def dscoreAt (b : Fin 4) (t : Fin 2048) (h : Fin 4) : Slots :=
  dscore (prob (scoreAt x0 x1 x3 x4 b t h)) (dprobAt x1 x2 b t h)

/-- The query's gradient. -/
def dqAt (b : Fin 4) (t : Fin 2048) (h : Fin 4) : Row :=
  normBack (tokRow x0 b t h) fun i =>
    (∑ m, dscoreAt x0 x1 x2 x3 x4 b t h m * kn (gainRow x4) (memRow x1 b m (keyOf h)) i) * gainRow x3 i * scale

/-- The key's and the value's gradients: sums over all of the batch's queries. -/
def dkAt (b : Fin 4) (m : Fin 256) (h : Fin 4) : Row :=
  normBack (memRow x1 b m (keyOf h)) fun i =>
    (∑ t, dscoreAt x0 x1 x2 x3 x4 b t h m * qn (gainRow x3) (tokRow x0 b t h) i) * gainRow x4 i
def dvAt (b : Fin 4) (m : Fin 256) (h : Fin 4) : Row := fun j =>
  ∑ t, prob (scoreAt x0 x1 x3 x4 b t h) m * tokRow x2 b t h j

/-- The first result: the tokens of all batches below one another, the heads beside one another. -/
def dqArr (i : (⟨2, ![8192, 512]⟩ : Shape).Idx) : EReal :=
  dqAt x0 x1 x2 x3 x4 (⟨(i 0).val / 2048, by have : (i 0).val < 8192 := (i 0).isLt; omega⟩ : Fin 4)
    (⟨(i 0).val % 2048, Nat.mod_lt _ (by norm_num)⟩ : Fin 2048) (⟨(i 1).val / 128, by have : (i 1).val < 512 := (i 1).isLt; omega⟩ : Fin 4)
    (⟨(i 1).val % 128, Nat.mod_lt _ (by norm_num)⟩ : Fin 128)

/-- The second result: the keys' gradients in the left half, the values' in the right one. -/
def dkvArr (i : (⟨2, ![1024, 1024]⟩ : Shape).Idx) : EReal :=
  if h : (i 1).val < 512 then
    dkAt x0 x1 x2 x3 x4 (⟨(i 0).val / 256, by have : (i 0).val < 1024 := (i 0).isLt; omega⟩ : Fin 4)
      (⟨(i 0).val % 256, Nat.mod_lt _ (by norm_num)⟩ : Fin 256) (⟨(i 1).val / 128, by omega⟩ : Fin 4)
      (⟨(i 1).val % 128, Nat.mod_lt _ (by norm_num)⟩ : Fin 128)
  else
    dvAt x0 x1 x2 x3 x4 (⟨(i 0).val / 256, by have : (i 0).val < 1024 := (i 0).isLt; omega⟩ : Fin 4)
      (⟨(i 0).val % 256, Nat.mod_lt _ (by norm_num)⟩ : Fin 256)
      (⟨((i 1).val - 512) / 128, by have : (i 1).val < 1024 := (i 1).isLt; omega⟩ : Fin 4)
      (⟨(i 1).val % 128, Nat.mod_lt _ (by norm_num)⟩ : Fin 128)

end Cert.Arrays
-- ==== Proof.BlocksIn.lean ====
/- What the body finds in its input blocks at each grid point, as entries of the five arguments. -/
module

public import proofs.«01_k».proof.Proof.Gen.KernelIdeal.Value
public import proofs.«01_k».proof.Proof.Arrays
public import Idealize.ShloMosaic.Lib.Pointwise
public import Idealize.ShloMosaic.Lib.Claim

@[expose] public section

noncomputable section

namespace Cert.KernelIdeal.BlocksIn

open Idealize.ShloMosaic Idealize.ShloMosaic.TcCoe Idealize.SL.Sem Cert.KernelIdeal Cert.KernelIdeal.Gen Cert.Arrays

variable (m : (ℓ : Loc nD τ sig) → Buf (Elt Ideal) ℓ) (c : Dev nD)

/-- The five arguments on a device. -/
abbrev A0 : Tok.Idx → EReal := m ((c : Thread nD τ).loc main_arg0)
abbrev A1 : Mem.Idx → EReal := m ((c : Thread nD τ).loc main_arg1)
abbrev A2 : Tok.Idx → EReal := m ((c : Thread nD τ).loc main_arg2)
abbrev A3 : Gain.Idx → EReal := m ((c : Thread nD τ).loc main_arg3)
abbrev A4 : Gain.Idx → EReal := m ((c : Thread nD τ).loc main_arg4)

/-! ### The arrays that the host prepares -/

/-- The memory's array with its batches below one another. -/
theorem V_mem (i : S1024x1024.Idx) : (V m c main_v5 : S1024x1024.Idx → EReal) i
    = A1 m c (ix3 (⟨(i 0).val / 256, by have : (i 0).val < 1024 := (i 0).isLt; omega⟩ : Fin 4) (⟨(i 0).val % 256, by omega⟩ : Fin 256) (i 1)) := by
  have e : (V m c main_v5 : S1024x1024.Idx → EReal) = shapeCast S1024x1024 (A1 m c) shapeCasts_S4x256x1024_S1024x1024 := by
    unfold_abbrev_sides
    after_results
    rfl
  rw [e]
  refine shapeCast_apply _ _ i _ ?_
  rw [Shape.rowMajor_val_three, Shape.rowMajor_val_two]
  have h0 : (i 0).val < 1024 := (i 0).isLt
  have h1 : (i 1).val < 1024 := (i 1).isLt
  show ((i 0).val / 256 * 256 + (i 0).val % 256) * 1024 + (i 1).val = (i 0).val * 1024 + (i 1).val
  omega

/-- The output gradient with its batches below one another. -/
theorem V_dy (i : S8192x512.Idx) : (V m c main_v6 : S8192x512.Idx → EReal) i
    = A2 m c (ix3 (⟨(i 0).val / 2048, by have : (i 0).val < 8192 := (i 0).isLt; omega⟩ : Fin 4) (⟨(i 0).val % 2048, by omega⟩ : Fin 2048) (i 1)) := by
  have e : (V m c main_v6 : S8192x512.Idx → EReal) = shapeCast S8192x512 (A2 m c) shapeCasts_S4x2048x512_S8192x512 := by
    unfold_abbrev_sides
    after_results
    rfl
  rw [e]
  refine shapeCast_apply _ _ i _ ?_
  rw [Shape.rowMajor_val_three, Shape.rowMajor_val_two]
  have h0 : (i 0).val < 8192 := (i 0).isLt
  have h1 : (i 1).val < 512 := (i 1).isLt
  show ((i 0).val / 2048 * 2048 + (i 0).val % 2048) * 512 + (i 1).val = (i 0).val * 512 + (i 1).val
  omega

/-- The memory query's columns of the wide array. -/
theorem V_mq (i : S8192x7296.Idx) (hlo : 1536 ≤ (i 1).val) (hhi : (i 1).val < 2048) : (V m c main_v4 : S8192x7296.Idx → EReal) i
    = A0 m c (ix3 (⟨(i 0).val / 2048, by have : (i 0).val < 8192 := (i 0).isLt; omega⟩ : Fin 4) (⟨(i 0).val % 2048, by omega⟩ : Fin 2048)
        (⟨(i 1).val - 1536, by omega⟩ : Fin 512)) := by
  have e : (V m c main_v4 : S8192x7296.Idx → EReal) = concatenate S8192x7296 1 [⟨S8192x1536, broadcastInDim S8192x1536 ![] bcast_S_S8192x1536 (constant (F := Ideal) S_ .f32 0x00000000#32)⟩,
      ⟨S8192x512, shapeCast S8192x512 (A0 m c) shapeCasts_S4x2048x512_S8192x512⟩,
      ⟨S8192x5248, broadcastInDim S8192x5248 ![] bcast_S_S8192x5248 (constant (F := Ideal) S_ .f32 0x00000000#32)⟩] concatenates_S8192x1536_S8192x512_S8192x5248_S8192x7296_d1 := by
    unfold_abbrev_sides
    after_results
    rfl
  rw [e]
  have h0 : (i 0).val < 8192 := (i 0).isLt
  have h1 : (i 1).val < 7296 := (i 1).isLt
  refine (concatenate_apply_piece (t := S8192x7296) 1 _ _ i 1 (by show 1 < 3; omega) S8192x512 _ rfl rfl 1536 rfl
    (ix2 (i 0) (⟨(i 1).val - 1536, by omega⟩ : Fin 512)) ?_ ?_).trans ?_
  · intro b hb
    match b with
    | ⟨0, _⟩ => rfl
    | ⟨1, _⟩ => exact absurd rfl hb
  · show 1536 + ((i 1).val - 1536) = (i 1).val; omega
  · refine shapeCast_apply _ _ _ _ ?_
    rw [Shape.rowMajor_val_three, Shape.rowMajor_val_two]
    show ((i 0).val / 2048 * 2048 + (i 0).val % 2048) * 512 + ((i 1).val - 1536) = (i 0).val * 512 + ((i 1).val - 1536)
    omega

/-! ### The blocks -/

theorem index0_at : ∀ t : Fin cfg0.N, win0_0.index t (0 : Fin 2) = t.val ∧ win0_0.index t (1 : Fin 2) = 3 :=
  (by decide +kernel : ∀ t : Fin grid0.N, _)
theorem index1_at : ∀ t : Fin cfg0.N, win0_1.index t (0 : Fin 2) = t.val / 2 ∧ win0_1.index t (1 : Fin 2) = 0 :=
  (by decide +kernel : ∀ t : Fin grid0.N, _)
theorem index2_at : ∀ t : Fin cfg0.N, win0_2.index t (0 : Fin 2) = t.val ∧ win0_2.index t (1 : Fin 2) = 0 :=
  (by decide +kernel : ∀ t : Fin grid0.N, _)

/-- The batch of a grid point, and the first token of its tile. -/
def bat (t : Fin cfg0.N) : Fin 4 := ⟨t.val / 2, by have := t.isLt; have : t.val < 8 := lt_of_lt_of_eq t.isLt N_0; omega⟩
def tok (t : Fin cfg0.N) (r : Fin 1024) : Fin 2048 := ⟨1024 * (t.val % 2) + r.val, by omega⟩

theorem q_in (t : Fin cfg0.N) (r : Fin 1024) (j : Fin 512) : (X0_0 m c t : S1024x512.Idx → EReal) (ix2 r j) = A0 m c (ix3 (bat t) (tok t r) j) := by
  obtain ⟨e0, e1⟩ := index0_at t
  have ht : t.val < 8 := lt_of_lt_of_eq t.isLt N_0
  have h : (X0_0 m c t : S1024x512.Idx → EReal) (ix2 r j) = (V m c main_v4 : S8192x7296.Idx → EReal)
      (ix2 (⟨1024 * t.val + r.val, by omega⟩ : Fin 8192) (⟨1536 + j.val, by omega⟩ : Fin 7296)) := by
    unfold X0_0 Pipeline.Window.fill
    rw [dif_pos (moved0_0 t _)]
    unfold iblk
    show (V m c main_v4 : S8192x7296.Idx → EReal) _ = _
    congr 1
    funext a
    apply Fin.ext
    match a with
    | ⟨0, _⟩ => show win0_0.index t (0 : Fin 2) * 1024 + 1 * r.val = 1024 * t.val + r.val; omega
    | ⟨1, _⟩ => show win0_0.index t (1 : Fin 2) * 512 + 1 * j.val = 1536 + j.val; omega
  rw [h, V_mq m c _ (by show 1536 ≤ 1536 + j.val; omega) (by show 1536 + j.val < 2048; omega)]
  congr 1
  funext a
  apply Fin.ext
  match a with
  | ⟨0, _⟩ => show (1024 * t.val + r.val) / 2048 = t.val / 2; omega
  | ⟨1, _⟩ => show (1024 * t.val + r.val) % 2048 = 1024 * (t.val % 2) + r.val; omega
  | ⟨2, _⟩ => show 1536 + j.val - 1536 = j.val; omega

theorem kv_in (t : Fin cfg0.N) (r : Fin 256) (j : Fin 1024) : (iblk m c 1 t : S256x1024.Idx → EReal) (ix2 r j) = A1 m c (ix3 (bat t) r j) := by
  obtain ⟨e0, e1⟩ := index1_at t
  have ht : t.val < 8 := lt_of_lt_of_eq t.isLt N_0
  have h : (iblk m c 1 t : S256x1024.Idx → EReal) (ix2 r j) = (V m c main_v5 : S1024x1024.Idx → EReal)
      (ix2 (⟨256 * (t.val / 2) + r.val, by omega⟩ : Fin 1024) j) := by
    unfold iblk
    show (V m c main_v5 : S1024x1024.Idx → EReal) _ = _
    congr 1
    funext a
    apply Fin.ext
    match a with
    | ⟨0, _⟩ => show win0_1.index t (0 : Fin 2) * 256 + 1 * r.val = 256 * (t.val / 2) + r.val; omega
    | ⟨1, _⟩ => show win0_1.index t (1 : Fin 2) * 1024 + 1 * j.val = j.val; omega
  rw [h, V_mem]
  congr 1
  funext a
  apply Fin.ext
  match a with
  | ⟨0, _⟩ => show (256 * (t.val / 2) + r.val) / 256 = t.val / 2; omega
  | ⟨1, _⟩ => show (256 * (t.val / 2) + r.val) % 256 = r.val; omega
  | ⟨2, _⟩ => rfl

theorem dy_in (t : Fin cfg0.N) (r : Fin 1024) (j : Fin 512) : (iblk m c 2 t : S1024x512.Idx → EReal) (ix2 r j) = A2 m c (ix3 (bat t) (tok t r) j) := by
  obtain ⟨e0, e1⟩ := index2_at t
  have ht : t.val < 8 := lt_of_lt_of_eq t.isLt N_0
  have h : (iblk m c 2 t : S1024x512.Idx → EReal) (ix2 r j) = (V m c main_v6 : S8192x512.Idx → EReal)
      (ix2 (⟨1024 * t.val + r.val, by omega⟩ : Fin 8192) j) := by
    unfold iblk
    show (V m c main_v6 : S8192x512.Idx → EReal) _ = _
    congr 1
    funext a
    apply Fin.ext
    match a with
    | ⟨0, _⟩ => show win0_2.index t (0 : Fin 2) * 1024 + 1 * r.val = 1024 * t.val + r.val; omega
    | ⟨1, _⟩ => show win0_2.index t (1 : Fin 2) * 512 + 1 * j.val = j.val; omega
  rw [h, V_dy]
  congr 1
  funext a
  apply Fin.ext
  match a with
  | ⟨0, _⟩ => show (1024 * t.val + r.val) / 2048 = t.val / 2; omega
  | ⟨1, _⟩ => show (1024 * t.val + r.val) % 2048 = 1024 * (t.val % 2) + r.val; omega
  | ⟨2, _⟩ => rfl

theorem gq_in (t : Fin cfg0.N) (j : Fin 128) : (iblk m c 3 t : S1x128.Idx → EReal) (ix2 (0 : Fin 1) j) = A3 m c (ix2 (0 : Fin 1) j) := by
  rw [A3, ← V_main_arg3 m c]
  unfold iblk
  show (V m c main_arg3 : S1x128.Idx → EReal) _ = _
  congr 1
  funext a
  apply Fin.ext
  match a with
  | ⟨0, _⟩ => rfl
  | ⟨1, _⟩ => show 0 * 128 + 1 * j.val = j.val; omega

theorem gk_in (t : Fin cfg0.N) (j : Fin 128) : (iblk m c 4 t : S1x128.Idx → EReal) (ix2 (0 : Fin 1) j) = A4 m c (ix2 (0 : Fin 1) j) := by
  rw [A4, ← V_main_arg4 m c]
  unfold iblk
  show (V m c main_arg4 : S1x128.Idx → EReal) _ = _
  congr 1
  funext a
  apply Fin.ext
  match a with
  | ⟨0, _⟩ => rfl
  | ⟨1, _⟩ => show 0 * 128 + 1 * j.val = j.val; omega

end Cert.KernelIdeal.BlocksIn
-- ==== Proof.Head.lean ====
/- One head of the memory attention's backward body: the values that head 0's text computes, and that the texts of heads 1, 2 and 3 compute the same. -/
module

public import proofs.«01_k».proof.Proof.Gen.KernelIdeal.Skeleton

@[expose] public section

noncomputable section

namespace Cert.KernelIdeal.Head

open Idealize.ShloMosaic Idealize.SL.Sem Cert.KernelIdeal Cert.KernelIdeal.Gen

variable {F : FTy → Type} [FloatOps F]

/-- The block of the query's gradient that one head computes, from the two gains and the head's columns of the query, the key, the value and the output's gradient. -/
def dq (gq gk : Vec F S1x128 .f32) (q : Vec F S1024x128 .bf16) (k v : Vec F S256x128 .f32) (d : Vec F S1024x128 .f32) : FVec F S1024x128 .bf16 :=
  k0_pay44 (k0_pay32 q) (k0_pay33 q) (k0_pay43 gq (k0_pay35 gk k) (k0_pay36 gq gk q k) d v)

/-- One query tile's step of the normalised key's gradient: what stood there plus the tile's sum. -/
def dkStep (gq gk : Vec F S1x128 .f32) (q : Vec F S1024x128 .bf16) (k v : Vec F S256x128 .f32) (d : Vec F S1024x128 .f32) (a : Vec F S256x128 .f32) : FVec F S256x128 .f32 :=
  k0_pay41 (k0_pay34 gq q) (k0_pay36 gq gk q k) d v a

/-- One query tile's step of the value's gradient. -/
def dvStep (gq gk : Vec F S1x128 .f32) (q : Vec F S1024x128 .bf16) (k : Vec F S256x128 .f32) (d : Vec F S1024x128 .f32) (a : Vec F S256x128 .f32) : FVec F S256x128 .f32 :=
  k0_pay42 (k0_pay36 gq gk q k) d a

/-- The key's gradient from the normalised key's finished sum. -/
def dkOut (gk : Vec F S1x128 .f32) (k a : Vec F S256x128 .f32) : FVec F S256x128 .bf16 := k0_pay7 gk k a

section
variable (gq gk : Vec F S1x128 .f32) (q : Vec F S1024x128 .bf16) (k v : Vec F S256x128 .f32) (d : Vec F S1024x128 .f32) (a : Vec F S256x128 .f32)

theorem dq_1 : k0_pay60 gq (k0_pay48 q) (k0_pay50 (k0_pay46 q) (k0_pay48 q)) (k0_pay56 gq gk (k0_pay46 q) (k0_pay47 k) (k0_pay48 q) (k0_pay49 k) d v) = dq gq gk q k v d := rfl
theorem dq_2 : k0_pay73 gq (k0_pay63 q) (k0_pay64 q) (k0_pay66 gk k) (k0_pay67 gq gk q k) (k0_pay68 d) v = dq gq gk q k v d := rfl
theorem dq_3 : k0_pay2 gq (k0_pay76 q) (k0_pay77 q) (k0_pay85 gk (k0_pay78 k) (k0_pay79 gq q) d v) = dq gq gk q k v d := rfl

theorem dk_1 : k0_pay58 a (k0_pay57 gq gk (k0_pay46 q) (k0_pay47 k) (k0_pay48 q) (k0_pay49 k) d v) = dkStep gq gk q k v d a := rfl
theorem dk_2 : k0_pay71 (k0_pay65 gq q) (k0_pay67 gq gk q k) (k0_pay68 d) v a = dkStep gq gk q k v d a := rfl
theorem dk_3 : k0_pay86 gk (k0_pay78 k) (k0_pay79 gq q) d v a = dkStep gq gk q k v d a := rfl

theorem dv_1 : k0_pay59 (k0_pay53 gq gk (k0_pay46 q) (k0_pay47 k) (k0_pay48 q) (k0_pay49 k)) (k0_pay54 d) a = dvStep gq gk q k d a := rfl
theorem dv_2 : k0_pay72 (k0_pay67 gq gk q k) (k0_pay68 d) a = dvStep gq gk q k d a := rfl
theorem dv_3 : k0_pay1 (k0_pay87 gk (k0_pay78 k) (k0_pay79 gq q) d a) = dvStep gq gk q k d a := rfl

theorem out_1 : k0_pay13 gk k a = dkOut gk k a := rfl
theorem out_2 : k0_pay19 gk k a = dkOut gk k a := rfl
theorem out_3 : k0_pay25 gk k a = dkOut gk k a := rfl
end

end Cert.KernelIdeal.Head
end
-- ==== Proof.Blocks.lean ====
/- What one grid point leaves: the blocks of the three outputs' buffers and of the accumulator, head by head, as functions of the point's inputs. -/
module

public import proofs.«01_k».proof.Proof.Gen.KernelIdeal.Frame
public import proofs.«01_k».proof.Proof.Head
public import Idealize.ShloMosaic.Lib.Pipeline.Value
public import Idealize.ShloMosaic.Lib.Pipeline.ReadBack
public import Idealize.ShloMosaic.Lib.Tactic
public import Idealize.ShloMosaic.Lib.ValueIdxCore

@[expose] public section

noncomputable section

namespace Cert.KernelIdeal.Blocks

open Idealize.ShloMosaic Idealize.ShloMosaic.TcCoe Idealize.SL.Sem Cert.KernelIdeal Cert.KernelIdeal.Gen

variable {F : FTy → Type} [FloatOps F]

theorem inbQ (h : Fin 4) : ∀ a, (![0, 128 * h.val] : Fin 2 → ℕ) a + S1024x128.size a ≤ S1024x512.size a := by
  intro a; have := h.isLt; fin_cases a
  · show 0 + 1024 ≤ 1024; omega
  · show 128 * h.val + 128 ≤ 512; omega

theorem inbK (h : Fin 8) : ∀ a, (![0, 128 * h.val] : Fin 2 → ℕ) a + S256x128.size a ≤ S256x1024.size a := by
  intro a; have := h.isLt; fin_cases a
  · show 0 + 256 ≤ 256; omega
  · show 128 * h.val + 128 ≤ 1024; omega

/-- The 128 columns of head `h` of a block of 1024 rows. -/
def colsQ {e : EltTy} (h : Fin 4) (x : Vec F S1024x512 e) : Vec F S1024x128 e := View.ld x (Rect.unit ![0, 128 * h.val] S1024x128.size (inbQ h))

/-- The `h`-th run of 128 columns of a block of the memory's keys (runs 0 to 3) and values (runs 4 to 7). -/
def colsK {e : EltTy} (h : Fin 8) (x : Vec F S256x1024 e) : Vec F S256x128 e := View.ld x (Rect.unit ![0, 128 * h.val] S256x128.size (inbK h))

/-- The head a column belongs to, and the place within the head. -/
def hdQ (y : S1024x512.Idx) : Fin 4 := ⟨(y 1).val / 128, by have : (y 1).val < 512 := (y 1).isLt; omega⟩
def inQ (y : S1024x512.Idx) : S1024x128.Idx := ValueIdx.ix2 (y 0) ⟨(y 1).val % 128, Nat.mod_lt _ (by decide)⟩
def hdK (y : S256x1024.Idx) : Fin 8 := ⟨(y 1).val / 128, by have : (y 1).val < 1024 := (y 1).isLt; omega⟩
def inK (y : S256x1024.Idx) : S256x128.Idx := ValueIdx.ix2 (y 0) ⟨(y 1).val % 128, Nat.mod_lt _ (by decide)⟩

theorem hdQ_emb (h : Fin 4) (o : ℕ) (ho : o = 128 * h.val) (inb) (x : S1024x128.Idx) : hdQ ((Rect.unit (s := S1024x512) ![0, o] S1024x128.size inb).emb x) = h := by
  subst ho; apply Fin.ext
  show (128 * h.val + 1 * (x 1).val) / 128 = h.val
  have : (x 1).val < 128 := (x 1).isLt
  omega

theorem inQ_emb (h : Fin 4) (o : ℕ) (ho : o = 128 * h.val) (inb) (x : S1024x128.Idx) : inQ ((Rect.unit (s := S1024x512) ![0, o] S1024x128.size inb).emb x) = x := by
  subst ho; funext a; apply Fin.ext
  have : (x 1).val < 128 := (x 1).isLt
  fin_cases a
  · show 0 + 1 * (x 0).val = (x 0).val; omega
  · show (128 * h.val + 1 * (x 1).val) % 128 = (x 1).val; omega

theorem hdK_emb (h : Fin 8) (o : ℕ) (ho : o = 128 * h.val) (inb) (x : S256x128.Idx) : hdK ((Rect.unit (s := S256x1024) ![0, o] S256x128.size inb).emb x) = h := by
  subst ho; apply Fin.ext
  show (128 * h.val + 1 * (x 1).val) / 128 = h.val
  have : (x 1).val < 128 := (x 1).isLt
  omega

theorem inK_emb (h : Fin 8) (o : ℕ) (ho : o = 128 * h.val) (inb) (x : S256x128.Idx) : inK ((Rect.unit (s := S256x1024) ![0, o] S256x128.size inb).emb x) = x := by
  subst ho; funext a; apply Fin.ext
  have : (x 1).val < 128 := (x 1).isLt
  fin_cases a
  · show 0 + 1 * (x 0).val = (x 0).val; omega
  · show (128 * h.val + 1 * (x 1).val) % 128 = (x 1).val; omega

/-- The head of a run of columns: keys and values alternate between the two halves. -/
def hd4 (h : Fin 8) : Fin 4 := ⟨h.val % 4, Nat.mod_lt _ (by decide)⟩
/-- The run of the head's values. -/
def vOf (h : Fin 4) : Fin 8 := ⟨4 + h.val, by omega⟩
/-- The run of the head's keys. -/
def kOf (h : Fin 4) : Fin 8 := ⟨h.val, by omega⟩

section
variable (x0 : Vec F S1024x512 .bf16) (x1 : Vec F S256x1024 .f32) (x2 : Vec F S1024x512 .f32) (x3 x4 : Vec F S1x128 .f32)

/-- The query's gradient of one tile, all four heads. -/
def dqBlk : Vec F S1024x512 .bf16 := fun y =>
  Head.dq x3 x4 (colsQ (hdQ y) x0) (colsK (kOf (hdQ y)) x1) (colsK (vOf (hdQ y)) x1) (colsQ (hdQ y) x2) (inQ y)

/-- The accumulator's run `h` after a tile: the keys' runs and the values' runs. -/
def accRun (h : Fin 8) (a : Vec F S256x128 .f32) : Vec F S256x128 .f32 :=
  if h.val < 4 then Head.dkStep x3 x4 (colsQ (hd4 h) x0) (colsK (kOf (hd4 h)) x1) (colsK (vOf (hd4 h)) x1) (colsQ (hd4 h) x2) a
  else Head.dvStep x3 x4 (colsQ (hd4 h) x0) (colsK (kOf (hd4 h)) x1) (colsQ (hd4 h) x2) a

/-- The accumulator after a tile, from what it held before it. -/
def accBlk (a : Vec F S256x1024 .f32) : Vec F S256x1024 .f32 := fun y => accRun x0 x1 x2 x3 x4 (hdK y) (colsK (hdK y) a) (inK y)

/-- The gradient of the memory from the finished accumulator. -/
def dkvBlk (a : Vec F S256x1024 .f32) : Vec F S256x1024 .bf16 := fun y =>
  if (hdK y).val < 4 then Head.dkOut x4 (colsK (hdK y) x1) (colsK (hdK y) a) (inK y) else k0_pay8 (colsK (hdK y) a) (inK y)
end

section
variable (x0 : Vec F S1024x512 .bf16) (x1 : Vec F S256x1024 .f32) (x2 : Vec F S1024x512 .f32) (x3 x4 : Vec F S1x128 .f32)

/-- The query's gradient of one tile, read inside head `h`. -/
theorem dqBlk_emb (h : Fin 4) (o : ℕ) (ho : o = 128 * h.val) (inb) (x : S1024x128.Idx) :
    dqBlk x0 x1 x2 x3 x4 ((Rect.unit (s := S1024x512) ![0, o] S1024x128.size inb).emb x)
      = Head.dq x3 x4 (colsQ h x0) (colsK (kOf h) x1) (colsK (vOf h) x1) (colsQ h x2) x := by
  unfold dqBlk; rw [hdQ_emb h o ho, inQ_emb h o ho]

/-- The accumulator after a tile, read inside run `h`. -/
theorem accBlk_emb (a : Vec F S256x1024 .f32) (h : Fin 8) (o : ℕ) (ho : o = 128 * h.val) (inb) (x : S256x128.Idx) :
    accBlk x0 x1 x2 x3 x4 a ((Rect.unit (s := S256x1024) ![0, o] S256x128.size inb).emb x) = accRun x0 x1 x2 x3 x4 h (colsK h a) x := by
  unfold accBlk; rw [hdK_emb h o ho, inK_emb h o ho]

/-- So a run of the accumulator is that run's step. -/
theorem colsK_accBlk (a : Vec F S256x1024 .f32) (h : Fin 8) : colsK h (accBlk x0 x1 x2 x3 x4 a) = accRun x0 x1 x2 x3 x4 h (colsK h a) :=
  funext fun x => accBlk_emb x0 x1 x2 x3 x4 a h _ rfl (inbK h) x

/-- The memory's gradient, read inside a run of the keys. -/
theorem dkvBlk_emb_k (a : Vec F S256x1024 .f32) (h : Fin 8) (hh : h.val < 4) (o : ℕ) (ho : o = 128 * h.val) (inb) (x : S256x128.Idx) :
    dkvBlk x1 x4 (accBlk x0 x1 x2 x3 x4 a) ((Rect.unit (s := S256x1024) ![0, o] S256x128.size inb).emb x)
      = Head.dkOut x4 (colsK h x1) (accRun x0 x1 x2 x3 x4 h (colsK h a)) x := by
  unfold dkvBlk; rw [hdK_emb h o ho, inK_emb h o ho, if_pos hh, colsK_accBlk]

/-- The memory's gradient, read inside a run of the values. -/
theorem dkvBlk_emb_v (a : Vec F S256x1024 .f32) (h : Fin 8) (hh : ¬h.val < 4) (o : ℕ) (ho : o = 128 * h.val) (inb) (x : S256x128.Idx) :
    dkvBlk x1 x4 (accBlk x0 x1 x2 x3 x4 a) ((Rect.unit (s := S256x1024) ![0, o] S256x128.size inb).emb x)
      = k0_pay8 (accRun x0 x1 x2 x3 x4 h (colsK h a)) x := by
  unfold dkvBlk; rw [hdK_emb h o ho, inK_emb h o ho, if_neg hh, colsK_accBlk]

/-- A gain's load is the whole gain. -/
theorem ld_gain (x : Vec F S1x128 .f32) : View.ld x (Rect.unit ![0, 0] ![1, 128] inb_S1x128_S1x128_0_0) = x :=
  View.ld_unit_zero (by funext a; fin_cases a <;> rfl) inb_S1x128_S1x128_0_0 x
end

/-- A first tile leaves the query's gradient of its rows. -/
theorem out_A5 (c : Dev nD) (i : grid0.Coords) (arg2 : Memref sig .tc .vmem S1024x512 .bf16) (harg2 : arg2.IsWhole) (arg3 : Memref sig .tc .vmem S256x1024 .f32) (harg3 : arg3.IsWhole) (arg4 : Memref sig .tc .vmem S1024x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x512 .bf16) (harg7 : arg7.IsWhole) (arg8 : Memref sig .tc .vmem S256x1024 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S256x1024 .f32) (harg11 : arg11.IsWhole) (hc0 : cond0_0 i) (hc1 : ¬cond0_1 i)
    (x0 : Vec F S1024x512 .bf16) (x1 : Vec F S256x1024 .f32) (x2 : Vec F S1024x512 .f32) (x3 x4 : Vec F S1x128 .f32) :
    out0_A_5 c i arg2 harg2 arg3 harg3 arg4 harg4 arg5 harg5 arg6 harg6 arg7 harg7 arg8 harg8 arg9 harg9 arg10 harg10 arg11 harg11 hc0 hc1 x0 x1 x2 x3 x4 = dqBlk x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp (disch := first | decide | (intro a; fin_cases a <;> rfl)) only [View.readAt_eq_ld, harg2.read_unread, harg3.read_unread, harg4.read_unread, harg5.read_unread, harg6.read_unread, harg11.read_unread, ↓View.readCov_skip, ↓View.readCov_fill, View.readCov_cons_toLoadRect, ld_gain]
  funext y
  refine View.canon_append_of_piecesOf _ [] [_, _, _, _] ⟨fun x => (dqBlk_emb x0 x1 x2 x3 x4 3 384 rfl inb_S1024x512_S1024x128_0_384 x).symm, fun x => (dqBlk_emb x0 x1 x2 x3 x4 2 256 rfl inb_S1024x512_S1024x128_0_256 x).symm, fun x => (dqBlk_emb x0 x1 x2 x3 x4 1 128 rfl inb_S1024x512_S1024x128_0_128 x).symm, fun x => (dqBlk_emb x0 x1 x2 x3 x4 0 0 rfl inb_S1024x512_S1024x128_0_0 x).symm, trivial⟩ y ?_
  exact View.cover_of_tiledL (s := S1024x512) _ S1024x128.size (by sl_kernel_rfl) y

/-- So does a last tile. -/
theorem out_B5 (c : Dev nD) (i : grid0.Coords) (arg2 : Memref sig .tc .vmem S1024x512 .bf16) (harg2 : arg2.IsWhole) (arg3 : Memref sig .tc .vmem S256x1024 .f32) (harg3 : arg3.IsWhole) (arg4 : Memref sig .tc .vmem S1024x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x512 .bf16) (harg7 : arg7.IsWhole) (arg8 : Memref sig .tc .vmem S256x1024 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S256x1024 .f32) (harg11 : arg11.IsWhole) (hc0 : ¬cond0_0 i) (hc1 : cond0_1 i)
    (x0 : Vec F S1024x512 .bf16) (x1 : Vec F S256x1024 .f32) (x2 : Vec F S1024x512 .f32) (x3 x4 : Vec F S1x128 .f32) (xo7 xo8 : Vec F S8x128 .f32) (xs0 : Vec F S256x1024 .f32) :
    out0_B_5 c i arg2 harg2 arg3 harg3 arg4 harg4 arg5 harg5 arg6 harg6 arg7 harg7 arg8 harg8 arg9 harg9 arg10 harg10 arg11 harg11 hc0 hc1 x0 x1 x2 x3 x4 xo7 xo8 xs0 = dqBlk x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 hc1 x0 x1 x2 x3 x4 xo7 xo8 xs0)]
  unfold kernelRun0_B
  dsimp only
  sl_unfold_words
  simp (disch := first | decide | (intro a; fin_cases a <;> rfl)) only [View.readAt_eq_ld, harg2.read_unread, harg3.read_unread, harg4.read_unread, harg5.read_unread, harg6.read_unread, harg11.read_unread, ↓View.readCov_skip, ↓View.readCov_fill, View.readCov_cons_toLoadRect, ld_gain]
  funext y
  refine View.canon_append_of_piecesOf _ [] [_, _, _, _] ⟨fun x => (dqBlk_emb x0 x1 x2 x3 x4 3 384 rfl inb_S1024x512_S1024x128_0_384 x).symm, fun x => (dqBlk_emb x0 x1 x2 x3 x4 2 256 rfl inb_S1024x512_S1024x128_0_256 x).symm, fun x => (dqBlk_emb x0 x1 x2 x3 x4 1 128 rfl inb_S1024x512_S1024x128_0_128 x).symm, fun x => (dqBlk_emb x0 x1 x2 x3 x4 0 0 rfl inb_S1024x512_S1024x128_0_0 x).symm, trivial⟩ y ?_
  exact View.cover_of_tiledL (s := S1024x512) _ S1024x128.size (by sl_kernel_rfl) y

/-- A first tile leaves its step from zero in the accumulator. -/
theorem sout_A (c : Dev nD) (i : grid0.Coords) (arg2 : Memref sig .tc .vmem S1024x512 .bf16) (harg2 : arg2.IsWhole) (arg3 : Memref sig .tc .vmem S256x1024 .f32) (harg3 : arg3.IsWhole) (arg4 : Memref sig .tc .vmem S1024x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x512 .bf16) (harg7 : arg7.IsWhole) (arg8 : Memref sig .tc .vmem S256x1024 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S256x1024 .f32) (harg11 : arg11.IsWhole) (hc0 : cond0_0 i) (hc1 : ¬cond0_1 i)
    (x0 : Vec F S1024x512 .bf16) (x1 : Vec F S256x1024 .f32) (x2 : Vec F S1024x512 .f32) (x3 x4 : Vec F S1x128 .f32) :
    sout0_A_0 c i arg2 harg2 arg3 harg3 arg4 harg4 arg5 harg5 arg6 harg6 arg7 harg7 arg8 harg8 arg9 harg9 arg10 harg10 arg11 harg11 hc0 hc1 x0 x1 x2 x3 x4 = accBlk x0 x1 x2 x3 x4 k0_pay28 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp (disch := first | decide | (intro a; fin_cases a <;> rfl)) only [View.readAt_eq_ld, harg2.read_unread, harg3.read_unread, harg4.read_unread, harg5.read_unread, harg6.read_unread, harg11.read_unread, ↓View.readCov_skip, ↓View.readCov_fill, View.readCov_cons_toLoadRect, ld_gain]
  funext y
  refine View.canon_append_of_piecesOf _ [_] [_, _, _, _, _, _, _, _] ⟨fun x => (accBlk_emb x0 x1 x2 x3 x4 k0_pay28 7 896 rfl inb_S256x1024_S256x128_0_896 x).symm, fun x => (accBlk_emb x0 x1 x2 x3 x4 k0_pay28 3 384 rfl inb_S256x1024_S256x128_0_384 x).symm, fun x => (accBlk_emb x0 x1 x2 x3 x4 k0_pay28 6 768 rfl inb_S256x1024_S256x128_0_768 x).symm, fun x => (accBlk_emb x0 x1 x2 x3 x4 k0_pay28 2 256 rfl inb_S256x1024_S256x128_0_256 x).symm, fun x => (accBlk_emb x0 x1 x2 x3 x4 k0_pay28 5 640 rfl inb_S256x1024_S256x128_0_640 x).symm, fun x => (accBlk_emb x0 x1 x2 x3 x4 k0_pay28 1 128 rfl inb_S256x1024_S256x128_0_128 x).symm, fun x => (accBlk_emb x0 x1 x2 x3 x4 k0_pay28 4 512 rfl inb_S256x1024_S256x128_0_512 x).symm, fun x => (accBlk_emb x0 x1 x2 x3 x4 k0_pay28 0 0 rfl inb_S256x1024_S256x128_0_0 x).symm, trivial⟩ y ?_
  exact View.cover_of_tiledL (s := S256x1024) _ S256x128.size (by sl_kernel_rfl) y

/-- A last tile leaves the memory's gradient from the accumulator it finishes. -/
theorem out_B6 (c : Dev nD) (i : grid0.Coords) (arg2 : Memref sig .tc .vmem S1024x512 .bf16) (harg2 : arg2.IsWhole) (arg3 : Memref sig .tc .vmem S256x1024 .f32) (harg3 : arg3.IsWhole) (arg4 : Memref sig .tc .vmem S1024x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x512 .bf16) (harg7 : arg7.IsWhole) (arg8 : Memref sig .tc .vmem S256x1024 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S256x1024 .f32) (harg11 : arg11.IsWhole) (hc0 : ¬cond0_0 i) (hc1 : cond0_1 i)
    (x0 : Vec F S1024x512 .bf16) (x1 : Vec F S256x1024 .f32) (x2 : Vec F S1024x512 .f32) (x3 x4 : Vec F S1x128 .f32) (xo7 xo8 : Vec F S8x128 .f32) (xs0 : Vec F S256x1024 .f32) :
    out0_B_6 c i arg2 harg2 arg3 harg3 arg4 harg4 arg5 harg5 arg6 harg6 arg7 harg7 arg8 harg8 arg9 harg9 arg10 harg10 arg11 harg11 hc0 hc1 x0 x1 x2 x3 x4 xo7 xo8 xs0 = dkvBlk x1 x4 (accBlk x0 x1 x2 x3 x4 xs0) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 x0 x1 x2 x3 x4 xo7 xo8 xs0)]
  unfold kernelRun0_B
  dsimp only
  sl_unfold_words
  simp (disch := first | decide | (intro a; fin_cases a <;> rfl)) only [View.readAt_eq_ld, harg2.read_unread, harg3.read_unread, harg4.read_unread, harg5.read_unread, harg6.read_unread, harg11.read_unread, ↓View.readCov_skip, ↓View.readCov_fill, View.readCov_cons_toLoadRect, ld_gain]
  funext y
  refine View.canon_append_of_piecesOf _ [] [_, _, _, _, _, _, _, _] ⟨fun x => (dkvBlk_emb_v x0 x1 x2 x3 x4 xs0 7 (by decide) 896 rfl inb_S256x1024_S256x128_0_896 x).symm, fun x => (dkvBlk_emb_k x0 x1 x2 x3 x4 xs0 3 (by decide) 384 rfl inb_S256x1024_S256x128_0_384 x).symm, fun x => (dkvBlk_emb_v x0 x1 x2 x3 x4 xs0 6 (by decide) 768 rfl inb_S256x1024_S256x128_0_768 x).symm, fun x => (dkvBlk_emb_k x0 x1 x2 x3 x4 xs0 2 (by decide) 256 rfl inb_S256x1024_S256x128_0_256 x).symm, fun x => (dkvBlk_emb_v x0 x1 x2 x3 x4 xs0 5 (by decide) 640 rfl inb_S256x1024_S256x128_0_640 x).symm, fun x => (dkvBlk_emb_k x0 x1 x2 x3 x4 xs0 1 (by decide) 128 rfl inb_S256x1024_S256x128_0_128 x).symm, fun x => (dkvBlk_emb_v x0 x1 x2 x3 x4 xs0 4 (by decide) 512 rfl inb_S256x1024_S256x128_0_512 x).symm, fun x => (dkvBlk_emb_k x0 x1 x2 x3 x4 xs0 0 (by decide) 0 rfl inb_S256x1024_S256x128_0_0 x).symm, trivial⟩ y ?_
  exact View.cover_of_tiledL (s := S256x1024) _ S256x128.size (by sl_kernel_rfl) y

end Cert.KernelIdeal.Blocks
end
-- ==== Proof.HeadAt.lean ====
/- One head's values at an index: each of the head's arrays as the row mathematics of `Rows`. -/
module

public import proofs.«01_k».proof.Proof.Head
public import proofs.«01_k».proof.Proof.Rows
public import Idealize.ShloMosaic.Lib.Pointwise

@[expose] public section

noncomputable section

namespace Cert.KernelIdeal.HeadAt

open Idealize.ShloMosaic Idealize.SL.Sem Cert.KernelIdeal Cert.KernelIdeal.Gen Cert.Rows

/-- A row of a two-dimensional array. -/
def row {n m : ℕ} (x : (⟨2, ![n, m]⟩ : Shape).Idx → EReal) (t : Fin n) : Fin m → EReal := fun j => x (ix2 t j)

variable (gq gk : Vec Ideal S1x128 .f32) (q : Vec Ideal S1024x128 .bf16) (k v : Vec Ideal S256x128 .f32) (d : Vec Ideal S1024x128 .f32) (a : Vec Ideal S256x128 .f32)

theorem inv_at (t : Fin 1024) : k0_pay32 (F := Ideal) q (ix2 t (0 : Fin 1)) = inv (row q t) := by
  unfold_payloads
  pointwise
  rfl

theorem hat_at (t : Fin 1024) (j : Fin 128) : k0_pay33 (F := Ideal) q (ix2 t j) = hat (row q t) j := by
  unfold_payloads
  pointwise
  rfl

/-- The normalised query. -/
theorem qn_at (t : Fin 1024) (j : Fin 128) : k0_pay34 (F := Ideal) gq q (ix2 t j) = qn (row gq 0) (row q t) j := by
  unfold_payloads
  pointwise
  rfl

/-- The normalised key. -/
theorem kn_at (m : Fin 256) (j : Fin 128) : k0_pay35 (F := Ideal) gk k (ix2 m j) = kn (row gk 0) (row k m) j := by
  unfold_payloads
  pointwise
  rfl

/-- The scores. -/
theorem score_at (t : Fin 1024) (m : Fin 256) : k0_pay36 (F := Ideal) gq gk q k (ix2 t m) = score (row gq 0) (row gk 0) (row q t) (row k) m := by
  unfold k0_pay36
  pointwise [qn_at, kn_at]
  rfl

/-- The softmax. -/
theorem prob_at (s : FVec Ideal S1024x256 .f32) (t : Fin 1024) (m : Fin 256) : k0_pay37 (F := Ideal) s (ix2 t m) = prob (row s t) m := by
  unfold_payloads
  pointwise
  rfl

/-- The gradient of the scores. -/
theorem dscore_at (s : FVec Ideal S1024x256 .f32) (t : Fin 1024) (m : Fin 256) :
    k0_pay39 (F := Ideal) s d v (ix2 t m) = dscore (prob (row s t)) (dprob (row d t) (row v)) m := by
  unfold k0_pay39 k0_pay38
  pointwise [prob_at]
  rfl

theorem row_score (t : Fin 1024) : row (k0_pay36 (F := Ideal) gq gk q k) t = score (row gq 0) (row gk 0) (row q t) (row k) :=
  funext fun m => score_at gq gk q k t m

/-- The gradient of the scores of query `t`, from the head's arrays. -/
def dsOf (t : Fin 1024) : Slots :=
  dscore (prob (score (row gq 0) (row gk 0) (row q t) (row k))) (dprob (row d t) (row v))

/-- The query's gradient. -/
theorem dq_at (t : Fin 1024) (j : Fin 128) : Head.dq (F := Ideal) gq gk q k v d (ix2 t j)
    = normBack (row q t) (fun i => (∑ m, dsOf gq gk q k v d t m * kn (row gk 0) (row k m) i) * row gq 0 i * scale) j := by
  unfold Head.dq k0_pay44 k0_pay43 k0_pay40
  pointwise [hat_at, inv_at, kn_at, dscore_at, row_score]
  rfl

/-- One tile's step of the normalised key's gradient. -/
theorem dkStep_at (m : Fin 256) (j : Fin 128) : Head.dkStep (F := Ideal) gq gk q k v d a (ix2 m j)
    = row a m j + ∑ t, dsOf gq gk q k v d t m * qn (row gq 0) (row q t) j := by
  unfold Head.dkStep k0_pay41
  pointwise [qn_at, dscore_at, row_score]
  rfl

/-- One tile's step of the value's gradient. -/
theorem dvStep_at (m : Fin 256) (j : Fin 128) : Head.dvStep (F := Ideal) gq gk q k d a (ix2 m j)
    = row a m j + ∑ t, prob (score (row gq 0) (row gk 0) (row q t) (row k)) m * row d t j := by
  unfold Head.dvStep k0_pay42 k0_pay38
  pointwise [prob_at, row_score]
  rfl

/-- The key's gradient from the normalised key's finished sum. -/
theorem dkOut_at (m : Fin 256) (j : Fin 128) : Head.dkOut (F := Ideal) gk k a (ix2 m j)
    = normBack (row k m) (fun i => row a m i * row gk 0 i) j := by
  unfold Head.dkOut
  unfold_payloads
  pointwise
  rfl

end Cert.KernelIdeal.HeadAt
-- ==== Proof.KernelOut.lean ====
/- What the kernel's two output arrays hold, as functions of its five arguments: the tiles' query gradients, and the memory's gradient from the sum over a batch's two tiles. -/
module

public import proofs.«01_k».proof.Proof.BlocksIn
public import proofs.«01_k».proof.Proof.Blocks
public import proofs.«01_k».proof.Proof.HeadAt

@[expose] public section

noncomputable section

namespace Cert.KernelIdeal.KernelOut

open Idealize.ShloMosaic Idealize.ShloMosaic.TcCoe Idealize.SL.Sem Cert.KernelIdeal Cert.KernelIdeal.Gen Cert.KernelIdeal.Value
open Cert.Arrays Cert.Rows Cert.KernelIdeal.Blocks Cert.KernelIdeal.HeadAt Cert.KernelIdeal.BlocksIn

variable (m : (ℓ : Loc nD τ sig) → Buf (Elt Ideal) ℓ) (c : Dev nD)

/-! ### The rows of the input blocks -/

theorem row_q (t : Fin cfg0.N) (h : Fin 4) (r : Fin 1024) : row (colsQ h (X0_0 m c t)) r = tokRow (A0 m c) (bat t) (tok t r) h := by
  funext j
  refine Eq.trans ?_ (q_in m c t r (⟨128 * h + j, by omega⟩ : Fin 512))
  refine congrArg (X0_0 m c t) (funext fun a => ?_)
  apply Fin.ext
  match a with
  | ⟨0, _⟩ => show 0 + 1 * r.val = r.val; omega
  | ⟨1, _⟩ => show 128 * h.val + 1 * j.val = 128 * h.val + j.val; omega

theorem row_d (t : Fin cfg0.N) (h : Fin 4) (r : Fin 1024) : row (colsQ h (iblk m c 2 t)) r = tokRow (A2 m c) (bat t) (tok t r) h := by
  funext j
  refine Eq.trans ?_ (dy_in m c t r (⟨128 * h + j, by omega⟩ : Fin 512))
  refine congrArg (iblk m c 2 t) (funext fun a => ?_)
  apply Fin.ext
  match a with
  | ⟨0, _⟩ => show 0 + 1 * r.val = r.val; omega
  | ⟨1, _⟩ => show 128 * h.val + 1 * j.val = 128 * h.val + j.val; omega

theorem row_kv (t : Fin cfg0.N) (h : Fin 8) : row (colsK h (iblk m c 1 t)) = fun s => memRow (A1 m c) (bat t) s h := by
  funext r j
  refine Eq.trans ?_ (kv_in m c t r (⟨128 * h + j, by omega⟩ : Fin 1024))
  refine congrArg (iblk m c 1 t) (funext fun a => ?_)
  apply Fin.ext
  match a with
  | ⟨0, _⟩ => show 0 + 1 * r.val = r.val; omega
  | ⟨1, _⟩ => show 128 * h.val + 1 * j.val = 128 * h.val + j.val; omega

theorem row_gq (t : Fin cfg0.N) : row (iblk m c 3 t) (0 : Fin 1) = gainRow (A3 m c) := funext fun j => gq_in m c t j
theorem row_gk (t : Fin cfg0.N) : row (iblk m c 4 t) (0 : Fin 1) = gainRow (A4 m c) := funext fun j => gk_in m c t j

/-- The scores' gradient inside a tile is the array's. -/
theorem ds_in (t : Fin cfg0.N) (h : Fin 4) (r : Fin 1024) :
    dsOf (iblk m c 3 t) (iblk m c 4 t) (colsQ h (X0_0 m c t)) (colsK (kOf h) (iblk m c 1 t)) (colsK (vOf h) (iblk m c 1 t)) (colsQ h (iblk m c 2 t)) r
      = dscoreAt (A0 m c) (A1 m c) (A2 m c) (A3 m c) (A4 m c) (bat t) (tok t r) h := by
  unfold dsOf
  rw [row_q, row_d, row_kv, row_kv, row_gq, row_gk]
  rfl

/-! ### One grid point -/

/-- The query's gradient of a tile. -/
theorem dq_in (t : Fin cfg0.N) (h : Fin 4) (r : Fin 1024) (j : Fin 128) :
    Head.dq (F := Ideal) (iblk m c 3 t) (iblk m c 4 t) (colsQ h (X0_0 m c t)) (colsK (kOf h) (iblk m c 1 t)) (colsK (vOf h) (iblk m c 1 t)) (colsQ h (iblk m c 2 t)) (ix2 r j)
      = dqAt (A0 m c) (A1 m c) (A2 m c) (A3 m c) (A4 m c) (bat t) (tok t r) h j := by
  rw [dq_at, ds_in, row_q, row_kv, row_gq, row_gk]
  rfl

/-- A tile's share of the key's sum. -/
def dkSum (b : Fin 4) (s : Fin 256) (h : Fin 4) (i : Fin 128) (t : Fin 2048) : EReal :=
  dscoreAt (A0 m c) (A1 m c) (A2 m c) (A3 m c) (A4 m c) b t h s * qn (gainRow (A3 m c)) (tokRow (A0 m c) b t h) i
/-- A tile's share of the value's sum. -/
def dvSum (b : Fin 4) (s : Fin 256) (h : Fin 4) (i : Fin 128) (t : Fin 2048) : EReal :=
  prob (scoreAt (A0 m c) (A1 m c) (A3 m c) (A4 m c) b t h) s * tokRow (A2 m c) b t h i

theorem dk_in (t : Fin cfg0.N) (h : Fin 4) (a : Vec Ideal S256x128 .f32) (s : Fin 256) (j : Fin 128) :
    Head.dkStep (F := Ideal) (iblk m c 3 t) (iblk m c 4 t) (colsQ h (X0_0 m c t)) (colsK (kOf h) (iblk m c 1 t)) (colsK (vOf h) (iblk m c 1 t)) (colsQ h (iblk m c 2 t)) a (ix2 s j)
      = row a s j + ∑ r : Fin 1024, dkSum m c (bat t) s h j (tok t r) := by
  rw [dkStep_at]
  refine congrArg (row a s j + ·) (Finset.sum_congr rfl fun r _ => ?_)
  rw [ds_in, row_q, row_gq]
  rfl

theorem dv_in (t : Fin cfg0.N) (h : Fin 4) (a : Vec Ideal S256x128 .f32) (s : Fin 256) (j : Fin 128) :
    Head.dvStep (F := Ideal) (iblk m c 3 t) (iblk m c 4 t) (colsQ h (X0_0 m c t)) (colsK (kOf h) (iblk m c 1 t)) (colsQ h (iblk m c 2 t)) a (ix2 s j)
      = row a s j + ∑ r : Fin 1024, dvSum m c (bat t) s h j (tok t r) := by
  rw [dvStep_at]
  refine congrArg (row a s j + ·) (Finset.sum_congr rfl fun r _ => ?_)
  rw [row_q, row_d, row_kv, row_gq, row_gk]
  rfl

/-! ### A batch's two tiles -/

/-- The grid point of a batch's tile. -/
def pt (b : Fin 4) (k : Fin 2) : Fin cfg0.N := ⟨2 * b.val + k.val, lt_of_lt_of_eq (by omega : 2 * b.val + k.val < 8) N_0.symm⟩
theorem bat_pt (b : Fin 4) (k : Fin 2) : bat (pt b k) = b := Fin.ext (by show (2 * b.val + k.val) / 2 = b.val; omega)
theorem tok_pt (b : Fin 4) (k : Fin 2) (r : Fin 1024) : tok (pt b k) r = (⟨1024 * k.val + r.val, by omega⟩ : Fin 2048) :=
  Fin.ext (by show 1024 * ((2 * b.val + k.val) % 2) + r.val = 1024 * k.val + r.val; omega)

/-- A sum over a batch's tokens is the two tiles' sums. -/
theorem sum_tiles (b : Fin 4) (f : Fin 2048 → EReal) :
    (∑ r : Fin 1024, f (tok (pt b 0) r)) + ∑ r : Fin 1024, f (tok (pt b 1) r) = ∑ t, f t := by
  refine Eq.trans ?_ (Fin.sum_univ_add (a := 1024) (b := 1024) f).symm
  congr 1
  · refine Finset.sum_congr rfl fun r _ => congrArg f ?_
    rw [tok_pt]; exact Fin.ext (by show 1024 * 0 + r.val = r.val; omega)
  · refine Finset.sum_congr rfl fun r _ => congrArg f ?_
    rw [tok_pt]; exact Fin.ext (by show 1024 * 1 + r.val = 1024 + r.val; omega)

/-- The zeros that the accumulator starts from. -/
abbrev zeros : Vec Ideal S256x1024 .f32 := k0_pay28 (F := Ideal)

/-- Each of their rows is zero. -/
theorem zeros_row (h : Fin 8) (s : Fin 256) (j : Fin 128) : row (colsK h zeros) s j = 0 := by
  have e : ∀ y, k0_pay28 (F := Ideal) y = 0 := by
    intro y
    unfold k0_pay28
    pointwise
  rw [show zeros = fun _ => 0 from funext e]
  rfl

/-- The accumulator after a point. -/
def acc (t : Fin cfg0.N) (a : Vec Ideal S256x1024 .f32) : Vec Ideal S256x1024 .f32 :=
  accBlk (F := Ideal) (X0_0 m c t) (iblk m c 1 t) (iblk m c 2 t) (iblk m c 3 t) (iblk m c 4 t) a

/-- The keys' runs of the accumulator after both tiles. -/
theorem acc_k (b : Fin 4) (h : Fin 4) (s : Fin 256) (j : Fin 128) :
    row (colsK (kOf h) (acc m c (pt b 1) (acc m c (pt b 0) zeros))) s j = ∑ t, dkSum m c b s h j t := by
  have hk : (kOf h).val < 4 := h.isLt
  have h4 : hd4 (kOf h) = h := Fin.ext (by show h.val % 4 = h.val; omega)
  have step : ∀ (t : Fin cfg0.N) (a : Vec Ideal S256x1024 .f32),
      row (colsK (kOf h) (acc m c t a)) s j = row (colsK (kOf h) a) s j + ∑ r : Fin 1024, dkSum m c (bat t) s h j (tok t r) := by
    intro t a
    unfold acc
    rw [colsK_accBlk]
    unfold accRun
    rw [if_pos hk, h4]
    exact dk_in m c t h _ s j
  rw [step, step, zeros_row, zero_add, bat_pt, bat_pt]
  exact sum_tiles b fun t => dkSum m c b s h j t

/-- The values' runs of the accumulator after both tiles. -/
theorem acc_v (b : Fin 4) (h : Fin 4) (s : Fin 256) (j : Fin 128) :
    row (colsK (vOf h) (acc m c (pt b 1) (acc m c (pt b 0) zeros))) s j = ∑ t, dvSum m c b s h j t := by
  have hk : ¬(vOf h).val < 4 := by show ¬(4 + h.val < 4); omega
  have h4 : hd4 (vOf h) = h := Fin.ext (by show (4 + h.val) % 4 = h.val; omega)
  have step : ∀ (t : Fin cfg0.N) (a : Vec Ideal S256x1024 .f32),
      row (colsK (vOf h) (acc m c t a)) s j = row (colsK (vOf h) a) s j + ∑ r : Fin 1024, dvSum m c (bat t) s h j (tok t r) := by
    intro t a
    unfold acc
    rw [colsK_accBlk]
    unfold accRun
    rw [if_neg hk, h4]
    exact dv_in m c t h _ s j
  rw [step, step, zeros_row, zero_add, bat_pt, bat_pt]
  exact sum_tiles b fun t => dvSum m c b s h j t

/-! ### The carried state -/

/-- What the outputs' buffers and the accumulator hold after point `n`. -/
abbrev state (n : ℕ) (h : 0 + n < cfg0.N) := Pipeline.accAt (fun n h => stAt0 m c n h junk0) (stAt0 m c) 0 n h

/-- Every point is a step from some state. -/
theorem state_step (t : Fin cfg0.N) (h : 0 + t.val < cfg0.N) : ∃ a, state m c t.val h = stAt0 m c t.val t.isLt a := by
  obtain ⟨n, hn⟩ := t
  cases n with
  | zero => exact ⟨junk0, rfl⟩
  | succ n =>
    refine ⟨state m c n (by omega), ?_⟩
    show stAt0 m c (0 + (n + 1)) _ _ = stAt0 m c (n + 1) _ _
    congr 1
    omega

/-- The query's gradient that a point leaves. -/
theorem state_dq (t : Fin cfg0.N) (h : 0 + t.val < cfg0.N) :
    (state m c t.val h).1 = dqBlk (F := Ideal) (X0_0 m c t) (iblk m c 1 t) (iblk m c 2 t) (iblk m c 3 t) (iblk m c 4 t) := by
  obtain ⟨a, e⟩ := state_step m c t h
  rw [e]
  by_cases h0 : t.val % 2 = 0
  · refine (congrArg (fun x => x.1) (stAt0_A m c t a h0 (by omega))).trans ?_
    dsimp only
    apply out_A5
  · refine (congrArg (fun x => x.1) (stAt0_B m c t a h0 (by omega))).trans ?_
    dsimp only
    apply out_B5

/-- The accumulator after a first tile. -/
theorem state_acc (t : Fin cfg0.N) (h0 : t.val % 2 = 0) (h : 0 + t.val < cfg0.N) :
    (state m c t.val h).2.2.2.2 = acc m c t zeros := by
  obtain ⟨a, e⟩ := state_step m c t h
  rw [e]
  refine (congrArg (fun x => x.2.2.2.2) (stAt0_A m c t a h0 (by omega))).trans ?_
  dsimp only
  apply sout_A

/-- The memory's gradient after a second tile. -/
theorem state_dkv (b : Fin 4) (h : 0 + (2 * b.val + 1) < cfg0.N) :
    (state m c (2 * b.val + 1) h).2.1
      = dkvBlk (F := Ideal) (iblk m c 1 (pt b 1)) (iblk m c 4 (pt b 1)) (acc m c (pt b 1) (acc m c (pt b 0) zeros)) := by
  have e : state m c (2 * b.val + 1) h = stAt0 m c (pt b 1).val (pt b 1).isLt (state m c (pt b 0).val (by omega)) := by
    show stAt0 m c (0 + (2 * b.val + 1)) _ _ = stAt0 m c (2 * b.val + 1) _ _
    congr 1
    omega
  rw [e]
  have h1 : (pt b 1).val % 2 = 1 := by show (2 * b.val + 1) % 2 = 1; omega
  refine (congrArg (fun x => x.2.1) (stAt0_B m c (pt b 1) _ (by omega) h1)).trans ?_
  dsimp only
  rw [state_acc m c (pt b 0) (by show (2 * b.val + 0) % 2 = 0; omega)]
  apply out_B6

/-! ### The two arrays -/

/-- The query's gradient at every entry. -/
theorem dq_eq : (G5 m c : S8192x512.Idx → EReal) = dqArr (A0 m c) (A1 m c) (A2 m c) (A3 m c) (A4 m c) := by
  funext i
  have h0 : (i 0).val < 8192 := (i 0).isLt
  have h1 : (i 1).val < 512 := (i 1).isLt
  have hp : pt5Of i = (i 0).val / 1024 := by show 1 * ((i 0).val / 1024 - 0) + 1 * ((i 1).val / 512 - 0) = _; omega
  have hN : (i 0).val / 1024 < cfg0.N := lt_of_lt_of_eq (by omega : (i 0).val / 1024 < 8) N_0.symm
  unfold G5
  rw [dif_pos (by rw [hp]; exact hN)]
  rw [fold0_congr m c _ _ _ (by omega) hp]
  refine (congrFun (state_dq m c ⟨(i 0).val / 1024, hN⟩ _) (loc5Of i)).trans ?_
  refine (dq_in m c ⟨(i 0).val / 1024, hN⟩ (hdQ (loc5Of i)) ((loc5Of i) 0) ⟨((loc5Of i) 1).val % 128, Nat.mod_lt _ (by decide)⟩).trans ?_
  unfold dqArr
  congr 1
  · apply Fin.ext; show (i 0).val / 1024 / 2 = (i 0).val / 2048; omega
  · apply Fin.ext; show 1024 * ((i 0).val / 1024 % 2) + (i 0).val % 1024 = (i 0).val % 2048; omega
  · apply Fin.ext; show (i 1).val % 512 / 128 = (i 1).val / 128; omega
  · apply Fin.ext; show (i 1).val % 512 % 128 = (i 1).val % 128; omega

/-- The memory's gradient at every entry. -/
theorem dkv_eq : (G6 m c : S1024x1024.Idx → EReal) = dkvArr (A0 m c) (A1 m c) (A2 m c) (A3 m c) (A4 m c) := by
  funext i
  have h0 : (i 0).val < 1024 := (i 0).isLt
  have h1 : (i 1).val < 1024 := (i 1).isLt
  have hp : pt6Of i = 2 * ((i 0).val / 256) + 1 := by show 2 * (1 * ((i 0).val / 256 - 0) + 1 * ((i 1).val / 1024 - 0)) + 1 = _; omega
  have hN : 2 * ((i 0).val / 256) + 1 < cfg0.N := lt_of_lt_of_eq (by omega : 2 * ((i 0).val / 256) + 1 < 8) N_0.symm
  unfold G6
  rw [dif_pos (by rw [hp]; exact hN)]
  rw [fold0_congr m c _ _ _ (by omega) hp]
  refine (congrFun (state_dkv m c ⟨(i 0).val / 256, by omega⟩ _) (loc6Of i)).trans ?_
  unfold dkvArr dkvBlk
  have hcol : (hdK (loc6Of i)).val = (i 1).val / 128 := by show (i 1).val % 1024 / 128 = (i 1).val / 128; omega
  by_cases h : (i 1).val < 512
  · rw [dif_pos h, if_pos (by omega)]
    have hk : hdK (loc6Of i) = kOf ⟨(i 1).val / 128, by omega⟩ := Fin.ext hcol
    rw [hk]
    refine (dkOut_at _ _ _ ((loc6Of i) 0) ⟨((loc6Of i) 1).val % 128, Nat.mod_lt _ (by decide)⟩).trans ?_
    rw [row_kv, row_gk, bat_pt]
    unfold dkAt
    have es : ((loc6Of i) 0) = (⟨(i 0).val % 256, Nat.mod_lt _ (by norm_num)⟩ : Fin 256) := rfl
    have ej : (⟨((loc6Of i) 1).val % 128, Nat.mod_lt _ (by decide)⟩ : Fin 128) = ⟨(i 1).val % 128, Nat.mod_lt _ (by norm_num)⟩ :=
      Fin.ext (by show (i 1).val % 1024 % 128 = (i 1).val % 128; omega)
    rw [ej]
    exact congrFun (congrArg (normBack _) (funext fun i1 => congrArg (· * gainRow (A4 m c) i1) (acc_k m c _ _ ((loc6Of i) 0) i1))) _
  · rw [dif_neg h, if_neg (by omega)]
    have hk : hdK (loc6Of i) = vOf ⟨((i 1).val - 512) / 128, by omega⟩ := Fin.ext (by rw [hcol]; show _ = 4 + ((i 1).val - 512) / 128; omega)
    rw [hk]
    refine (acc_v m c _ _ ((loc6Of i) 0) ⟨((loc6Of i) 1).val % 128, Nat.mod_lt _ (by decide)⟩).trans ?_
    have ej : (⟨((loc6Of i) 1).val % 128, Nat.mod_lt _ (by decide)⟩ : Fin 128) = ⟨(i 1).val % 128, Nat.mod_lt _ (by norm_num)⟩ :=
      Fin.ext (by show (i 1).val % 1024 % 128 = (i 1).val % 128; omega)
    rw [ej]
    rfl

end Cert.KernelIdeal.KernelOut
-- ==== Proof.RowsEq.lean ====
/- The row mathematics in the reference's order of operations, and that it is the same mathematics. -/
module

public import proofs.«01_k».proof.Proof.Rows
public import Idealize.ShloMosaic.PureOps.Ideal.Laws

@[expose] public section

noncomputable section

namespace Cert.Rows

open Idealize.ShloMosaic

/-! ### The reference's forms -/

def half : EReal := Ideal.ofBits .f32 0xBF000000#32

/-- The scores: the scale after the product. -/
def scoreR (gq gk q : Row) (k : Fin 256 → Row) : Slots := fun m => (∑ j, hat q j * gq j * (hat (k m) j * gk j)) * scale

/-- The gradient of the unscaled scores, as the division's two derivatives. -/
def dscoreR (s dp : Slots) : Slots := fun m =>
  ((Ideal.div (dp m) (∑ n, ex s n) + -(∑ n, dp n * Ideal.div 1 ((∑ n, ex s n) * ∑ n, ex s n) * ex s n)) * ex s m) * scale

/-- The norm's backward pass as the derivatives of the inverse root and of the square. -/
def normBackR (x u : Row) : Row := fun j =>
  (u j * inv x + x j * Ideal.div ((∑ i, x i * u i) * (half * Ideal.div (inv x) (msq x))) width)
    + Ideal.div ((∑ i, x i * u i) * (half * Ideal.div (inv x) (msq x))) width * x j

/-! ### The literals -/

theorem width_eq : width = ((128 : ℝ) : EReal) := by
  unfold width; simp [Ideal.ofBits, Ideal.ieee, -EReal.coe_mul]; norm_num

theorem half_eq : half = ((-(1/2) : ℝ) : EReal) := by
  unfold half; simp [Ideal.ofBits, Ideal.ieee, -EReal.coe_mul]; norm_num

theorem scale_real : ∃ c : ℝ, 0 < c ∧ scale = (c : EReal) := by
  refine ⟨_, ?_, by unfold scale; simp [Ideal.ofBits, Ideal.ieee, -EReal.coe_mul]; rfl⟩
  positivity

theorem eps_real : ∃ c : ℝ, 0 < c ∧ eps = (c : EReal) := by
  refine ⟨_, ?_, by unfold eps; simp [Ideal.ofBits, Ideal.ieee, -EReal.coe_mul]; rfl⟩
  positivity

theorem bot_eq : Ideal.ofBits .f32 0xFF800000#32 = ⊥ := by simp [Ideal.ofBits, Ideal.ieee]

/-! ### Extended reals: a real factor -/

theorem div_real (x : EReal) {b : ℝ} (hb : b ≠ 0) : Ideal.div x (b : EReal) = x * ((b⁻¹ : ℝ) : EReal) := by
  unfold Ideal.div
  rw [if_neg (by exact_mod_cast hb), EReal.coe_inv]

theorem add_mul_real (x y : EReal) {c : ℝ} (hc : 0 ≤ c) : (x + y) * (c : EReal) = x * c + y * c :=
  EReal.right_distrib_of_nonneg_of_ne_top (by exact_mod_cast hc) (EReal.coe_ne_top c) x y

theorem sum_mul_real {ι : Type} [Fintype ι] (f : ι → EReal) {c : ℝ} (hc : 0 ≤ c) : (∑ i, f i) * (c : EReal) = ∑ i, f i * c := by
  classical
  induction (Finset.univ : Finset ι) using Finset.induction_on with
  | empty => simp
  | insert a s ha ih => rw [Finset.sum_insert ha, Finset.sum_insert ha, add_mul_real _ _ hc, ih]

theorem sum_real {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem twice (S : EReal) (c : ℝ) : S * (c : EReal) + S * c = S * ((2 * c : ℝ) : EReal) := by
  induction S with
  | coe s => norm_cast; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem exists_real {x : EReal} (h : x ≠ ⊥) (h' : x ≠ ⊤) : ∃ r : ℝ, x = (r : EReal) := ⟨x.toReal, (EReal.coe_toReal h' h).symm⟩

/-! ### The norm -/

/-- Either the row has an infinite mean square and the inverse root is 0, or the row is real and so is all of its norm. -/
theorem norm_cases (x : Row) : (inv x = 0 ∧ msq x = ⊤) ∨
    ∃ (f : Fin 128 → ℝ) (v : ℝ), 0 < v ∧ (∀ j, x j = (f j : EReal)) ∧ msq x = (v : EReal) ∧ inv x = (((Real.sqrt v)⁻¹ : ℝ) : EReal) := by
  obtain ⟨e, he, hE⟩ := eps_real
  have hterm : ∀ j, 0 ≤ x j * x j := by
    intro j
    induction x j with
    | coe r => exact_mod_cast mul_self_nonneg r
    | top => simp
    | bot => simp
  by_cases hS : (∑ j, x j * x j) = ⊤
  · left
    have hm : msq x = ⊤ := by
      unfold msq
      rw [hS, width_eq, div_real _ (by norm_num), EReal.top_mul_coe_of_pos (by norm_num), hE]; rfl
    refine ⟨?_, hm⟩
    unfold inv; rw [hm]; rfl
  · right
    have hx : ∀ j, ∃ r : ℝ, x j = (r : EReal) := by
      intro j
      have hle : x j * x j ≤ ∑ i, x i * x i := Finset.single_le_sum (f := fun i => x i * x i) (fun i _ => hterm i) (Finset.mem_univ j)
      refine exists_real (fun h => hS (top_le_iff.mp ?_)) (fun h => hS (top_le_iff.mp ?_))
      · rw [h] at hle; simpa using hle
      · rw [h] at hle; simpa using hle
    choose f hf using hx
    have hs : (0 : ℝ) ≤ ∑ j, f j * f j := Finset.sum_nonneg fun j _ => mul_self_nonneg _
    have hv : 0 < (∑ j, f j * f j) * (128 : ℝ)⁻¹ + e := by positivity
    have hm : msq x = (((∑ j, f j * f j) * (128 : ℝ)⁻¹ + e : ℝ) : EReal) := by
      unfold msq
      rw [width_eq, div_real _ (by norm_num), hE]
      simp only [hf, ← EReal.coe_mul, sum_real, ← EReal.coe_add]
    refine ⟨f, _, hv, hf, hm, ?_⟩
    unfold inv
    rw [hm]
    show (if _ then _ else _) = _
    rw [if_neg (not_lt.mpr hv.le), if_neg hv.ne']

theorem hat_real (x : Row) : ∃ f : Fin 128 → ℝ, ∀ j, hat x j = (f j : EReal) := by
  rcases norm_cases x with ⟨h, -⟩ | ⟨f, v, -, hf, -, h⟩
  · exact ⟨fun _ => 0, fun j => by unfold hat; rw [h, mul_zero]; rfl⟩
  · exact ⟨fun j => f j * (Real.sqrt v)⁻¹, fun j => by unfold hat; rw [h, hf, EReal.coe_mul]⟩

/-- The two forms of the norm's backward pass agree, whatever the row and the gradient are. -/
theorem normBack_eq (x u : Row) : normBackR x u = normBack x u := by
  funext j
  rcases norm_cases x with ⟨h, hm⟩ | ⟨f, v, hv, hf, hm, h⟩
  · have h0 : Ideal.div 0 ⊤ = 0 := by unfold Ideal.div; simp
    have h1 : Ideal.div 0 width = 0 := by rw [width_eq, div_real _ (by norm_num), zero_mul]
    unfold normBackR normBack
    rw [h, hm, h0]
    simp only [mul_zero, h1, zero_mul, add_zero]
  · obtain ⟨r, hr⟩ : ∃ r : ℝ, r = (Real.sqrt v)⁻¹ := ⟨_, rfl⟩
    have hrpos : 0 < r := by rw [hr]; positivity
    have hrr : r * r * v = 1 := by
      rw [hr]
      have := Real.mul_self_sqrt hv.le
      have hs : Real.sqrt v ≠ 0 := (Real.sqrt_pos.mpr hv).ne'
      field_simp
      linarith [this]
    have hv' : v⁻¹ = r * r := by field_simp; linarith
    rw [← hr] at h
    have hsum : (∑ i, u i * hat x i) = (∑ i, x i * u i) * (r : EReal) := by
      rw [sum_mul_real _ hrpos.le]
      refine Finset.sum_congr rfl fun i _ => ?_
      unfold hat
      rw [h, mul_left_comm, mul_assoc]
    unfold normBackR normBack
    rw [hsum]
    unfold hat
    generalize (∑ i, x i * u i) = S
    rw [h, hm, hf, half_eq, width_eq, div_real _ hv.ne', div_real _ (by norm_num), div_real _ (by norm_num), hv']
    have e1 : (r : EReal) * (u j - (f j : EReal) * r * (S * (r : EReal) * ((128⁻¹ : ℝ) : EReal)))
        = u j * r + S * ((2 * (-(1/2) * (r * (r * r)) * 128⁻¹ * f j) : ℝ) : EReal) := by
      rw [mul_comm, sub_eq_add_neg, add_mul_real _ _ hrpos.le]
      congr 1
      rw [show ((f j : EReal) * r * (S * (r : EReal) * ((128⁻¹ : ℝ) : EReal))) = S * ((f j * r * r * 128⁻¹ : ℝ) : EReal) by
        push_cast; ac_rfl]
      rw [← mul_neg, mul_assoc, ← EReal.coe_neg, ← EReal.coe_mul]
      congr 2; ring
    have e2 : (f j : EReal) * (S * (((-(1/2) : ℝ) : EReal) * ((r : EReal) * ((r * r : ℝ) : EReal))) * ((128⁻¹ : ℝ) : EReal))
        = S * ((-(1/2) * (r * (r * r)) * 128⁻¹ * f j : ℝ) : EReal) := by
      push_cast; ac_rfl
    rw [e1, ← twice, mul_comm _ (f j : EReal), e2, add_assoc]

/-! ### The scores -/

/-- A row of real numbers. -/
def IsReal (g : Row) : Prop := ∀ j, ∃ r : ℝ, g j = (r : EReal)

/-- The scale, a positive number, moves into the sum whatever the rows hold. -/
theorem score_eq (gq gk q : Row) (k : Fin 256 → Row) : scoreR gq gk q k = score gq gk q k := by
  obtain ⟨c, hc, hC⟩ := scale_real
  funext m
  unfold scoreR score
  rw [hC, sum_mul_real _ hc.le]
  refine Finset.sum_congr rfl fun j _ => ?_
  unfold qn kn
  rw [hC]; ac_rfl

theorem score_real (gq gk q : Row) (k : Fin 256 → Row) (hq : IsReal gq) (hk : IsReal gk) (m : Fin 256) :
    ∃ r : ℝ, score gq gk q k m = (r : EReal) := by
  obtain ⟨c, hc, hC⟩ := scale_real
  obtain ⟨f, hf⟩ := hat_real q
  obtain ⟨f', hf'⟩ := hat_real (k m)
  choose a ha using hq
  choose b hb using hk
  refine ⟨∑ j, f j * a j * c * (f' j * b j), ?_⟩
  unfold score qn kn
  simp only [hf, hf', ha, hb, hC, ← EReal.coe_mul, sum_real]

theorem top_real (s : Slots) (hs : ∀ m, ∃ r : ℝ, s m = (r : EReal)) : ∃ r : ℝ, top s = (r : EReal) := by
  unfold top
  rw [bot_eq]
  have hsup : ∀ S : Finset (Fin 256), S.fold max ⊥ s = S.sup s := fun S => rfl
  rw [hsup]
  obtain ⟨m, -, hm⟩ := Finset.exists_mem_eq_sup (Finset.univ : Finset (Fin 256)) ⟨0, Finset.mem_univ _⟩ s
  rw [hm]; exact hs m

theorem ex_real (s : Slots) (hs : ∀ m, ∃ r : ℝ, s m = (r : EReal)) : ∃ e : Fin 256 → ℝ, ∀ m, 0 < e m ∧ ex s m = (e m : EReal) := by
  obtain ⟨t, ht⟩ := top_real s hs
  choose f hf using hs
  refine ⟨fun m => Real.exp (f m - t), fun m => ⟨Real.exp_pos _, ?_⟩⟩
  unfold ex
  rw [ht, hf, ← EReal.coe_sub]; rfl

/-- The two forms of the scores' gradient agree for real scores; the reference's is the one of the unscaled scores. -/
theorem dscore_eq (s dp : Slots) (hs : ∀ m, ∃ r : ℝ, s m = (r : EReal)) (m : Fin 256) :
    dscoreR s dp m = dscore (prob s) dp m * scale := by
  obtain ⟨e, he⟩ := ex_real s hs
  have hL : (∑ n, ex s n) = ((∑ n, e n : ℝ) : EReal) := by
    rw [← sum_real]; exact Finset.sum_congr rfl fun n _ => (he n).2
  have hpos : 0 < ∑ n, e n := Finset.sum_pos (fun n _ => (he n).1) ⟨0, Finset.mem_univ _⟩
  unfold dscoreR dscore prob
  rw [hL]
  generalize (∑ n, e n) = L at hpos
  have hne : L ≠ 0 := hpos.ne'
  have ha : 0 ≤ L⁻¹ := by positivity
  congr 1
  rw [div_real _ hne, div_real _ hne, ← EReal.coe_mul, div_real _ (mul_ne_zero hne hne)]
  have hsum : (∑ n, dp n * ((1 : EReal) * (((L * L)⁻¹ : ℝ) : EReal)) * ex s n) = (∑ n, dp n * Ideal.div (ex s n) (L : EReal)) * ((L⁻¹ : ℝ) : EReal) := by
    rw [sum_mul_real _ ha]
    refine Finset.sum_congr rfl fun n _ => ?_
    rw [div_real _ hne, mul_inv, one_mul, EReal.coe_mul]; ac_rfl
  rw [hsum, ← EReal.neg_mul, ← add_mul_real _ _ ha, sub_eq_add_neg]
  ac_rfl

/-! ### The gradients at the normalised rows -/

/-- The query's gradient: the scale may stand inside the sum or after the gain. -/
theorem dqn_eq (ds : Slots) (k : Fin 256 → EReal) (g : EReal) :
    (∑ m, (ds m * scale) * k m) * g = (∑ m, ds m * k m) * g * scale := by
  obtain ⟨c, hc, hC⟩ := scale_real
  rw [hC, mul_right_comm _ g, sum_mul_real _ hc.le]
  congr 1
  exact Finset.sum_congr rfl fun m _ => mul_right_comm _ _ _

end Cert.Rows
-- ==== Proof.RefAt.lean ====
/- The reference, value by value, as the row mathematics: from the normalised rows to its two results. -/
module

public import proofs.«01_k».proof.Proof.Gen.ReferenceIdeal.Read
public import proofs.«01_k».proof.Proof.Arrays
public import proofs.«01_k».proof.Proof.RowsEq
public import Idealize.ShloMosaic.Lib.Pointwise

@[expose] public section

noncomputable section

namespace Cert.ReferenceIdeal.RefAt

open Idealize.ShloMosaic Cert.ReferenceIdeal Cert.ReferenceIdeal.Read Cert.Rows Cert.Arrays

variable (x0 : Tok.Idx → EReal) (x1 : Mem.Idx → EReal) (x2 : Tok.Idx → EReal) (x3 x4 : Gain.Idx → EReal)

/-! ### The normalised query and key -/

theorem q_at (i : S4x2048x4x128.Idx) : val_main_v2 (F := Ideal) x0 i = tokRow x0 (i 0) (i 1) (i 2) (i 3) := by
  rw [val_main_v2_apply]
  refine congrArg x0 (funext fun a => ?_)
  have h0 : (i 0).val < 4 := (i 0).isLt
  have h1 : (i 1).val < 2048 := (i 1).isLt
  have h2 : (i 2).val < 4 := (i 2).isLt
  have h3 : (i 3).val < 128 := (i 3).isLt
  fin_cases a <;> apply Fin.ext
  · show ((((i 0).val * 2048 + (i 1).val) * 4 + (i 2).val) * 128 + (i 3).val) / 1048576 = (i 0).val; omega
  · show ((((i 0).val * 2048 + (i 1).val) * 4 + (i 2).val) * 128 + (i 3).val) / 512 % 2048 = (i 1).val; omega
  · show ((((i 0).val * 2048 + (i 1).val) * 4 + (i 2).val) * 128 + (i 3).val) % 512 = 128 * (i 2).val + (i 3).val; omega

theorem qmsq_at (i : S4x2048x4x1.Idx) : val_main_v9 (F := Ideal) x0 i = msq (tokRow x0 (i 0) (i 1) (i 2)) := by
  pointwise [val_main_v9_apply, val_main_v8_apply, val_main_v7_apply, val_main_v6_apply, val_main_v5_apply, val_main_v4_apply, val_main_v3_apply, val_main_cst_apply, val_main_cst_0_apply, val_main_cst_1_apply, q_at]
  rfl

theorem qinv_at (i : S4x2048x4x1.Idx) : val_main_v10 (F := Ideal) x0 i = inv (tokRow x0 (i 0) (i 1) (i 2)) := by
  pointwise [val_main_v10_apply, qmsq_at]
  rfl

theorem qslope_at (i : S4x2048x4x1.Idx) : val_main_v13 (F := Ideal) x0 i
    = half * Ideal.div (inv (tokRow x0 (i 0) (i 1) (i 2))) (msq (tokRow x0 (i 0) (i 1) (i 2))) := by
  pointwise [val_main_v13_apply, val_main_v12_apply, val_main_cst_2_apply, val_main_v11_apply, qinv_at, qmsq_at]
  rfl

theorem qhat_at (i : S4x2048x4x128.Idx) : val_main_v15 (F := Ideal) x0 i = hat (tokRow x0 (i 0) (i 1) (i 2)) (i 3) := by
  pointwise [val_main_v15_apply, val_main_v14_apply, q_at, qinv_at]
  rfl

theorem gq_at (i : S128.Idx) : val_main_v0 (F := Ideal) x3 i = gainRow x3 (i 0) := by
  rw [val_main_v0_apply]
  refine congrArg x3 (funext fun a => ?_)
  have h0 : (i 0).val < 128 := (i 0).isLt
  fin_cases a <;> apply Fin.ext
  · rfl
  · exact Nat.mod_eq_of_lt h0

theorem gk_at (i : S128.Idx) : val_main_v1 (F := Ideal) x4 i = gainRow x4 (i 0) := by
  rw [val_main_v1_apply]
  refine congrArg x4 (funext fun a => ?_)
  have h0 : (i 0).val < 128 := (i 0).isLt
  fin_cases a <;> apply Fin.ext
  · rfl
  · exact Nat.mod_eq_of_lt h0

theorem qn_at (i : S4x2048x4x128.Idx) : val_main_v18 (F := Ideal) x0 x3 i = hat (tokRow x0 (i 0) (i 1) (i 2)) (i 3) * gainRow x3 (i 3) := by
  pointwise [val_main_v18_apply, val_main_v17_apply, val_main_v16_apply, qhat_at, gq_at]
  rfl

theorem k_at (i : S4x256x4x128.Idx) : val_main_v21 (F := Ideal) x1 i = memRow x1 (i 0) (i 1) (keyOf (i 2)) (i 3) := by
  rw [val_main_v21_apply, val_main_v19_apply]
  refine congrArg x1 (funext fun a => ?_)
  have h0 : (i 0).val < 4 := (i 0).isLt
  have h1 : (i 1).val < 256 := (i 1).isLt
  have h2 : (i 2).val < 4 := (i 2).isLt
  have h3 : (i 3).val < 128 := (i 3).isLt
  fin_cases a <;> apply Fin.ext
  · show ((((i 0).val * 256 + (i 1).val) * 4 + (i 2).val) * 128 + (i 3).val) / 131072 = (i 0).val; omega
  · show ((((i 0).val * 256 + (i 1).val) * 4 + (i 2).val) * 128 + (i 3).val) / 512 % 256 = (i 1).val; omega
  · show ((((i 0).val * 256 + (i 1).val) * 4 + (i 2).val) * 128 + (i 3).val) % 512 = 128 * (i 2).val + (i 3).val; omega

theorem v_at (i : S4x256x4x128.Idx) : val_main_v38 (F := Ideal) x1 i = memRow x1 (i 0) (i 1) (valOf (i 2)) (i 3) := by
  rw [val_main_v38_apply, val_main_v20_apply]
  refine congrArg x1 (funext fun a => ?_)
  have h0 : (i 0).val < 4 := (i 0).isLt
  have h1 : (i 1).val < 256 := (i 1).isLt
  have h2 : (i 2).val < 4 := (i 2).isLt
  have h3 : (i 3).val < 128 := (i 3).isLt
  fin_cases a <;> apply Fin.ext
  · show ((((i 0).val * 256 + (i 1).val) * 4 + (i 2).val) * 128 + (i 3).val) / 131072 = (i 0).val; omega
  · show ((((i 0).val * 256 + (i 1).val) * 4 + (i 2).val) * 128 + (i 3).val) / 512 % 256 = (i 1).val; omega
  · show 512 + ((((i 0).val * 256 + (i 1).val) * 4 + (i 2).val) * 128 + (i 3).val) % 512 = 128 * (4 + (i 2).val) + (i 3).val; omega

theorem kmsq_at (i : S4x256x4x1.Idx) : val_main_v28 (F := Ideal) x1 i = msq (memRow x1 (i 0) (i 1) (keyOf (i 2))) := by
  pointwise [val_main_v28_apply, val_main_v27_apply, val_main_v26_apply, val_main_v25_apply, val_main_v24_apply, val_main_v23_apply, val_main_v22_apply, val_main_cst_3_apply, val_main_cst_4_apply, val_main_cst_5_apply, k_at]
  rfl

theorem kinv_at (i : S4x256x4x1.Idx) : val_main_v29 (F := Ideal) x1 i = inv (memRow x1 (i 0) (i 1) (keyOf (i 2))) := by
  pointwise [val_main_v29_apply, kmsq_at]
  rfl

theorem kslope_at (i : S4x256x4x1.Idx) : val_main_v32 (F := Ideal) x1 i
    = half * Ideal.div (inv (memRow x1 (i 0) (i 1) (keyOf (i 2)))) (msq (memRow x1 (i 0) (i 1) (keyOf (i 2)))) := by
  pointwise [val_main_v32_apply, val_main_v31_apply, val_main_cst_6_apply, val_main_v30_apply, kinv_at, kmsq_at]
  rfl

theorem kn_at (i : S4x256x4x128.Idx) : val_main_v37 (F := Ideal) x1 x4 i = kn (gainRow x4) (memRow x1 (i 0) (i 1) (keyOf (i 2))) (i 3) := by
  pointwise [val_main_v37_apply, val_main_v36_apply, val_main_v35_apply, val_main_v34_apply, val_main_v33_apply, k_at, kinv_at, gk_at]
  rfl

/-! ### The scores and the softmax -/

/-- The reference's scores of one query. -/
def sAt (b : Fin 4) (t : Fin 2048) (h : Fin 4) : Slots :=
  scoreR (gainRow x3) (gainRow x4) (tokRow x0 b t h) fun m => memRow x1 b m (keyOf h)

theorem score_at (i : S4x4x2048x256.Idx) : val_main_v41 (F := Ideal) x0 x1 x3 x4 i = sAt x0 x1 x3 x4 (i 0) (i 2) (i 1) (i 3) := by
  pointwise [val_main_v41_apply, val_main_v40_apply, val_main_cst_7_apply, val_main_v39_apply, qn_at, kn_at]
  rfl

theorem top_at (i : S4x4x2048.Idx) : val_main_v42 (F := Ideal) x0 x1 x3 x4 i = top (sAt x0 x1 x3 x4 (i 0) (i 2) (i 1)) := by
  unfold val_main_v42
  pointwise [score_at, val_main_cst_8_apply]
  rfl

theorem topm_at (i : S4x4x2048.Idx) : val_main_v49 (F := Ideal) x0 x1 x3 x4 i = top (sAt x0 x1 x3 x4 (i 0) (i 2) (i 1)) := by
  rw [val_main_v49_apply, val_main_v48_apply, val_main_cst_10_apply, top_at]
  exact (congrArg (max · _) bot_eq).trans (bot_sup_eq _)

theorem ex_at (i : S4x4x2048x256.Idx) : val_main_v62 (F := Ideal) x0 x1 x3 x4 i = ex (sAt x0 x1 x3 x4 (i 0) (i 2) (i 1)) (i 3) := by
  pointwise [val_main_v62_apply, val_main_v61_apply, val_main_v60_apply, val_main_v59_apply, topm_at, score_at]
  rfl

theorem sum_at (i : S4x4x2048x1.Idx) : val_main_v64 (F := Ideal) x0 x1 x3 x4 i = ∑ m, ex (sAt x0 x1 x3 x4 (i 0) (i 2) (i 1)) m := by
  pointwise [val_main_v64_apply, val_main_v63_apply, val_main_cst_16_apply, ex_at]
  rfl

theorem prob_at (i : S4x4x2048x256.Idx) : val_main_v66 (F := Ideal) x0 x1 x3 x4 i = prob (sAt x0 x1 x3 x4 (i 0) (i 2) (i 1)) (i 3) := by
  pointwise [val_main_v66_apply, val_main_v65_apply, sum_at, ex_at]
  rfl

/-! ### The scores' gradient -/

theorem d_at (i : S4x4x128x2048.Idx) : val_main_v74 (F := Ideal) x2 i = tokRow x2 (i 0) (i 3) (i 1) (i 2) := by
  rw [val_main_v74_apply, val_main_v73_apply]
  refine congrArg x2 (funext fun a => ?_)
  have h0 : (i 0).val < 4 := (i 0).isLt
  have h1 : (i 1).val < 4 := (i 1).isLt
  have h2 : (i 2).val < 128 := (i 2).isLt
  have h3 : (i 3).val < 2048 := (i 3).isLt
  fin_cases a <;> apply Fin.ext
  · show ((((i 0).val * 2048 + (i 3).val) * 4 + (i 1).val) * 128 + (i 2).val) / 1048576 = (i 0).val; omega
  · show ((((i 0).val * 2048 + (i 3).val) * 4 + (i 1).val) * 128 + (i 2).val) / 512 % 2048 = (i 3).val; omega
  · show ((((i 0).val * 2048 + (i 3).val) * 4 + (i 1).val) * 128 + (i 2).val) % 512 = 128 * (i 1).val + (i 2).val; omega

theorem dprob_at (i : S4x4x2048x256.Idx) : val_main_v75 (F := Ideal) x1 x2 i = dprobAt x1 x2 (i 0) (i 2) (i 1) (i 3) := by
  pointwise [val_main_v75_apply, d_at, v_at]
  rfl

/-- A row's value kept as a column is the row's value. -/
theorem col82_at (i : S4x4x2048x1.Idx) : val_main_v82 (F := Ideal) x0 x1 x2 x3 x4 i = val_main_v81 (F := Ideal) x0 x1 x2 x3 x4 (ix3 (i 0) (i 1) (i 2)) := by
  rw [val_main_v82_apply]
  refine congrArg (val_main_v81 (F := Ideal) x0 x1 x2 x3 x4) (funext fun a => ?_)
  have h0 : (i 0).val < 4 := (i 0).isLt
  have h1 : (i 1).val < 4 := (i 1).isLt
  have h2 : (i 2).val < 2048 := (i 2).isLt
  have h3 : (i 3).val < 1 := (i 3).isLt
  fin_cases a <;> apply Fin.ext
  · show ((((i 0).val * 4 + (i 1).val) * 2048 + (i 2).val) * 1 + (i 3).val) / 8192 = (i 0).val; omega
  · show ((((i 0).val * 4 + (i 1).val) * 2048 + (i 2).val) * 1 + (i 3).val) / 2048 % 4 = (i 1).val; omega
  · show ((((i 0).val * 4 + (i 1).val) * 2048 + (i 2).val) * 1 + (i 3).val) % 2048 = (i 2).val; omega

theorem inner_at (i : S4x4x2048x1.Idx) : val_main_v83 (F := Ideal) x0 x1 x2 x3 x4 i
    = -(∑ n, dprobAt x1 x2 (i 0) (i 2) (i 1) n
        * Ideal.div 1 ((∑ n, ex (sAt x0 x1 x3 x4 (i 0) (i 2) (i 1)) n) * ∑ n, ex (sAt x0 x1 x3 x4 (i 0) (i 2) (i 1)) n)
        * ex (sAt x0 x1 x3 x4 (i 0) (i 2) (i 1)) n) := by
  pointwise [val_main_v83_apply, col82_at, val_main_v81_apply, val_main_cst_18_apply, val_main_v80_apply, val_main_v79_apply, val_main_v78_apply, val_main_v69_apply, val_main_v68_apply, val_main_cst_17_apply, val_main_v67_apply, dprob_at, ex_at, sum_at]
  rfl

theorem dscore_at (i : S4x4x2048x256.Idx) : val_main_v91 (F := Ideal) x0 x1 x2 x3 x4 i
    = dscoreR (sAt x0 x1 x3 x4 (i 0) (i 2) (i 1)) (dprobAt x1 x2 (i 0) (i 2) (i 1)) (i 3) := by
  pointwise [val_main_v91_apply, val_main_v90_apply, val_main_cst_20_apply, val_main_v89_apply, val_main_v88_apply, val_main_v87_apply, val_main_v86_apply, val_main_cst_19_apply, val_main_v85_apply, val_main_v84_apply, inner_at, dprob_at, ex_at, sum_at, Fin.sum_univ_one]
  rfl

/-! ### The three gradients -/

/-- The reference's gradient of one query's scores. -/
def dsAt (b : Fin 4) (t : Fin 2048) (h : Fin 4) : Slots := dscoreR (sAt x0 x1 x3 x4 b t h) (dprobAt x1 x2 b t h)

theorem dv_at (i : S4x256x4x128.Idx) : val_main_v77 (F := Ideal) x0 x1 x2 x3 x4 i
    = ∑ t : Fin 2048, tokRow x2 (i 0) t (i 2) (i 3) * prob (sAt x0 x1 x3 x4 (i 0) t (i 2)) (i 1) := by
  pointwise [val_main_v77_apply, val_main_v76_apply, d_at, prob_at]
  rfl

theorem dkn_at (i : S4x256x4x128.Idx) : val_main_v101 (F := Ideal) x0 x1 x2 x3 x4 i
    = (∑ t : Fin 2048, dsAt x0 x1 x2 x3 x4 (i 0) t (i 2) (i 1) * (hat (tokRow x0 (i 0) t (i 2)) (i 3) * gainRow x3 (i 3))) * gainRow x4 (i 3) := by
  pointwise [val_main_v101_apply, val_main_v100_apply, val_main_v35_apply, val_main_v93_apply, val_main_v92_apply, dscore_at, qn_at, gk_at]
  rfl

theorem dqn_at (i : S4x2048x4x128.Idx) : val_main_v123 (F := Ideal) x0 x1 x2 x3 x4 i
    = (∑ m : Fin 256, dsAt x0 x1 x2 x3 x4 (i 0) (i 1) (i 2) m * kn (gainRow x4) (memRow x1 (i 0) m (keyOf (i 2))) (i 3)) * gainRow x3 (i 3) := by
  pointwise [val_main_v123_apply, val_main_v122_apply, val_main_v16_apply, val_main_v95_apply, val_main_v94_apply, dscore_at, kn_at, gq_at]
  rfl

/-- The gradients of the rows without their lengths. -/
def uk (b : Fin 4) (m : Fin 256) (h : Fin 4) : Row := fun j =>
  (∑ t : Fin 2048, dsAt x0 x1 x2 x3 x4 b t h m * (hat (tokRow x0 b t h) j * gainRow x3 j)) * gainRow x4 j
def uq (b : Fin 4) (t : Fin 2048) (h : Fin 4) : Row := fun j =>
  (∑ m : Fin 256, dsAt x0 x1 x2 x3 x4 b t h m * kn (gainRow x4) (memRow x1 b m (keyOf h)) j) * gainRow x3 j

/-- A row's value kept as a column is the row's value. -/
theorem col105_at (i : S4x256x4x1.Idx) : val_main_v105 (F := Ideal) x0 x1 x2 x3 x4 i = val_main_v104 (F := Ideal) x0 x1 x2 x3 x4 (ix3 (i 0) (i 1) (i 2)) := by
  rw [val_main_v105_apply]
  refine congrArg (val_main_v104 (F := Ideal) x0 x1 x2 x3 x4) (funext fun a => ?_)
  have h0 : (i 0).val < 4 := (i 0).isLt
  have h1 : (i 1).val < 256 := (i 1).isLt
  have h2 : (i 2).val < 4 := (i 2).isLt
  have h3 : (i 3).val < 1 := (i 3).isLt
  fin_cases a <;> apply Fin.ext
  · show ((((i 0).val * 256 + (i 1).val) * 4 + (i 2).val) * 1 + (i 3).val) / 1024 = (i 0).val; omega
  · show ((((i 0).val * 256 + (i 1).val) * 4 + (i 2).val) * 1 + (i 3).val) / 4 % 256 = (i 1).val; omega
  · show ((((i 0).val * 256 + (i 1).val) * 4 + (i 2).val) * 1 + (i 3).val) % 4 = (i 2).val; omega

theorem dk_at (i : S4x256x4x128.Idx) : val_main_v116 (F := Ideal) x0 x1 x2 x3 x4 i
    = normBackR (memRow x1 (i 0) (i 1) (keyOf (i 2))) (uk x0 x1 x2 x3 x4 (i 0) (i 1) (i 2)) (i 3) := by
  pointwise [val_main_v116_apply, val_main_v115_apply, val_main_v114_apply, val_main_v113_apply, val_main_v107_apply, val_main_v106_apply, val_main_v112_apply, val_main_v111_apply, val_main_v110_apply, val_main_v109_apply, val_main_v108_apply, col105_at, val_main_v104_apply, val_main_v103_apply, val_main_cst_23_apply, val_main_cst_24_apply, val_main_cst_25_apply, Fin.sum_univ_one, k_at, dkn_at, kslope_at, kinv_at]
  rfl

/-- A row's value kept as a column is the row's value. -/
theorem col127_at (i : S4x2048x4x1.Idx) : val_main_v127 (F := Ideal) x0 x1 x2 x3 x4 i = val_main_v126 (F := Ideal) x0 x1 x2 x3 x4 (ix3 (i 0) (i 1) (i 2)) := by
  rw [val_main_v127_apply]
  refine congrArg (val_main_v126 (F := Ideal) x0 x1 x2 x3 x4) (funext fun a => ?_)
  have h0 : (i 0).val < 4 := (i 0).isLt
  have h1 : (i 1).val < 2048 := (i 1).isLt
  have h2 : (i 2).val < 4 := (i 2).isLt
  have h3 : (i 3).val < 1 := (i 3).isLt
  fin_cases a <;> apply Fin.ext
  · show ((((i 0).val * 2048 + (i 1).val) * 4 + (i 2).val) * 1 + (i 3).val) / 8192 = (i 0).val; omega
  · show ((((i 0).val * 2048 + (i 1).val) * 4 + (i 2).val) * 1 + (i 3).val) / 4 % 2048 = (i 1).val; omega
  · show ((((i 0).val * 2048 + (i 1).val) * 4 + (i 2).val) * 1 + (i 3).val) % 4 = (i 2).val; omega

theorem dq_at (i : S4x2048x4x128.Idx) : val_main_v138 (F := Ideal) x0 x1 x2 x3 x4 i
    = normBackR (tokRow x0 (i 0) (i 1) (i 2)) (uq x0 x1 x2 x3 x4 (i 0) (i 1) (i 2)) (i 3) := by
  pointwise [val_main_v138_apply, val_main_v137_apply, val_main_v136_apply, val_main_v135_apply, val_main_v134_apply, val_main_v133_apply, val_main_v132_apply, val_main_v131_apply, val_main_v130_apply, val_main_v129_apply, val_main_v128_apply, col127_at, val_main_v126_apply, val_main_v125_apply, val_main_cst_28_apply, val_main_cst_29_apply, val_main_cst_30_apply, Fin.sum_univ_one, q_at, dqn_at, qslope_at, qinv_at]
  rfl

end Cert.ReferenceIdeal.RefAt
-- ==== Proof.RefOut.lean ====
/- The reference's two results, at gains that are real numbers, are the arrays of `Arrays`. -/
module

public import proofs.«01_k».proof.Proof.RefAt

@[expose] public section

noncomputable section

namespace Cert.ReferenceIdeal.RefOut

open Idealize.ShloMosaic Cert.ReferenceIdeal Cert.ReferenceIdeal.Read Cert.ReferenceIdeal.RefAt Cert.Rows Cert.Arrays

variable (x0 : Tok.Idx → EReal) (x1 : Mem.Idx → EReal) (x2 : Tok.Idx → EReal) (x3 x4 : Gain.Idx → EReal)
variable (hq : IsReal (gainRow x3)) (hk : IsReal (gainRow x4))

include hq hk

theorem sAt_eq (b : Fin 4) (t : Fin 2048) (h : Fin 4) : sAt x0 x1 x3 x4 b t h = scoreAt x0 x1 x3 x4 b t h :=
  score_eq _ _ _ _

/-- The reference's gradient of the scores carries the scale. -/
theorem dsAt_eq (b : Fin 4) (t : Fin 2048) (h : Fin 4) (m : Fin 256) :
    dsAt x0 x1 x2 x3 x4 b t h m = dscoreAt x0 x1 x2 x3 x4 b t h m * scale := by
  unfold dsAt dscoreAt
  rw [sAt_eq x0 x1 x3 x4 hq hk]
  exact dscore_eq _ _ (fun n => score_real _ _ _ _ hq hk n) m

theorem uq_eq (b : Fin 4) (t : Fin 2048) (h : Fin 4) : normBackR (tokRow x0 b t h) (uq x0 x1 x2 x3 x4 b t h) = dqAt x0 x1 x2 x3 x4 b t h := by
  rw [normBack_eq]
  unfold dqAt
  congr 1
  funext j
  unfold uq
  simp only [dsAt_eq x0 x1 x2 x3 x4 hq hk]
  exact dqn_eq _ _ _

theorem uk_eq (b : Fin 4) (m : Fin 256) (h : Fin 4) : normBackR (memRow x1 b m (keyOf h)) (uk x0 x1 x2 x3 x4 b m h) = dkAt x0 x1 x2 x3 x4 b m h := by
  rw [normBack_eq]
  unfold dkAt
  congr 1
  funext j
  unfold uk
  congr 1
  refine Finset.sum_congr rfl fun t _ => ?_
  rw [dsAt_eq x0 x1 x2 x3 x4 hq hk]
  unfold qn
  ac_rfl

omit hq hk in
theorem at_congr {n l : ℕ} (f : Fin 4 → Fin n → Fin 4 → Fin l → EReal) {b b' : Fin 4} {t t' : Fin n} {h h' : Fin 4} {j j' : Fin l}
    (hb : b.val = b'.val) (ht : t.val = t'.val) (hh : h.val = h'.val) (hj : j.val = j'.val) : f b t h j = f b' t' h' j' := by
  rw [Fin.ext hb, Fin.ext ht, Fin.ext hh, Fin.ext hj]

/-- The first result. -/
theorem dq_eq : val_main_v141 (F := Ideal) x0 x1 x2 x3 x4 = dqArr x0 x1 x2 x3 x4 := by
  funext i
  have e : val_main_v141 (F := Ideal) x0 x1 x2 x3 x4 i = val_main_v140 (F := Ideal) x0 x1 x2 x3 x4 i := by
    rw [val_main_v141_apply]; rfl
  rw [e, val_main_v140_apply, val_main_v139_apply]
  refine (dq_at x0 x1 x2 x3 x4 _).trans ((congrFun (uq_eq x0 x1 x2 x3 x4 hq hk _ _ _) _).trans ?_)
  have h0 : (i 0).val < 8192 := (i 0).isLt
  have h1 : (i 1).val < 512 := (i 1).isLt
  refine at_congr (dqAt x0 x1 x2 x3 x4) ?_ ?_ ?_ ?_
  · show ((((i 0).val * 512 + (i 1).val) / 1048576 * 2048 + ((i 0).val * 512 + (i 1).val) / 512 % 2048) * 512 + ((i 0).val * 512 + (i 1).val) % 512) / 1048576 = (i 0).val / 2048; omega
  · show ((((i 0).val * 512 + (i 1).val) / 1048576 * 2048 + ((i 0).val * 512 + (i 1).val) / 512 % 2048) * 512 + ((i 0).val * 512 + (i 1).val) % 512) / 512 % 2048 = (i 0).val % 2048; omega
  · show ((((i 0).val * 512 + (i 1).val) / 1048576 * 2048 + ((i 0).val * 512 + (i 1).val) / 512 % 2048) * 512 + ((i 0).val * 512 + (i 1).val) % 512) / 128 % 4 = (i 1).val / 128; omega
  · show ((((i 0).val * 512 + (i 1).val) / 1048576 * 2048 + ((i 0).val * 512 + (i 1).val) / 512 % 2048) * 512 + ((i 0).val * 512 + (i 1).val) % 512) % 128 = (i 1).val % 128; omega

/-- The keys' gradients, the heads beside one another. -/
theorem dk_eq (i : S4x256x512.Idx) : val_main_v117 (F := Ideal) x0 x1 x2 x3 x4 i
    = dkAt x0 x1 x2 x3 x4 (i 0) (i 1) (⟨(i 2).val / 128, by have : (i 2).val < 512 := (i 2).isLt; omega⟩ : Fin 4) (⟨(i 2).val % 128, Nat.mod_lt _ (by norm_num)⟩ : Fin 128) := by
  rw [val_main_v117_apply]
  refine (dk_at x0 x1 x2 x3 x4 _).trans ((congrFun (uk_eq x0 x1 x2 x3 x4 hq hk _ _ _) _).trans ?_)
  have h0 : (i 0).val < 4 := (i 0).isLt
  have h1 : (i 1).val < 256 := (i 1).isLt
  have h2 : (i 2).val < 512 := (i 2).isLt
  refine at_congr (dkAt x0 x1 x2 x3 x4) ?_ ?_ ?_ ?_
  · show (((i 0).val * 256 + (i 1).val) * 512 + (i 2).val) / 131072 = (i 0).val; omega
  · show (((i 0).val * 256 + (i 1).val) * 512 + (i 2).val) / 512 % 256 = (i 1).val; omega
  · show (((i 0).val * 256 + (i 1).val) * 512 + (i 2).val) / 128 % 4 = (i 2).val / 128; omega
  · show (((i 0).val * 256 + (i 1).val) * 512 + (i 2).val) % 128 = (i 2).val % 128; omega

/-- The values' gradients, the heads beside one another. -/
theorem dv_eq (i : S4x256x512.Idx) : val_main_v96 (F := Ideal) x0 x1 x2 x3 x4 i
    = dvAt x0 x1 x2 x3 x4 (i 0) (i 1) (⟨(i 2).val / 128, by have : (i 2).val < 512 := (i 2).isLt; omega⟩ : Fin 4) (⟨(i 2).val % 128, Nat.mod_lt _ (by norm_num)⟩ : Fin 128) := by
  have e : ∀ k : S4x256x4x128.Idx, val_main_v77 (F := Ideal) x0 x1 x2 x3 x4 k = dvAt x0 x1 x2 x3 x4 (k 0) (k 1) (k 2) (k 3) := by
    intro k
    refine (dv_at x0 x1 x2 x3 x4 k).trans (Finset.sum_congr rfl fun t _ => ?_)
    exact (mul_comm _ _).trans (congrArg (· * _) (congrArg (fun s => prob s (k 1)) (sAt_eq x0 x1 x3 x4 hq hk _ _ _)))
  rw [val_main_v96_apply]
  refine (e _).trans ?_
  have h0 : (i 0).val < 4 := (i 0).isLt
  have h1 : (i 1).val < 256 := (i 1).isLt
  have h2 : (i 2).val < 512 := (i 2).isLt
  refine at_congr (dvAt x0 x1 x2 x3 x4) ?_ ?_ ?_ ?_
  · show (((i 0).val * 256 + (i 1).val) * 512 + (i 2).val) / 131072 = (i 0).val; omega
  · show (((i 0).val * 256 + (i 1).val) * 512 + (i 2).val) / 512 % 256 = (i 1).val; omega
  · show (((i 0).val * 256 + (i 1).val) * 512 + (i 2).val) / 128 % 4 = (i 2).val / 128; omega
  · show (((i 0).val * 256 + (i 1).val) * 512 + (i 2).val) % 128 = (i 2).val % 128; omega

/-- The second result. -/
theorem dkv_eq : val_main_v143 (F := Ideal) x0 x1 x2 x3 x4 = dkvArr x0 x1 x2 x3 x4 := by
  funext i
  have h0 : (i 0).val < 1024 := (i 0).isLt
  have h1 : (i 1).val < 1024 := (i 1).isLt
  have e : val_main_v143 (F := Ideal) x0 x1 x2 x3 x4 i = val_main_v118 (F := Ideal) x0 x1 x2 x3 x4 (idx_main_v142 i) := by
    rw [val_main_v143_apply, val_main_v142_apply]; rfl
  rw [e]
  unfold val_main_v118 dkvArr
  split
  · rename_i h
    refine (concatenate_pair_apply_left (t := S4x256x1024) (s₁ := S4x256x512) (s₂ := S4x256x512) 2 _ _ _ (idx_main_v142 i) rfl
      (ix3 (⟨(i 0).val / 256, by omega⟩ : Fin 4) (⟨(i 0).val % 256, by omega⟩ : Fin 256) (⟨(i 1).val, by omega⟩ : Fin 512)) ?_).trans
      ((dk_eq x0 x1 x2 x3 x4 hq hk _).trans ?_)
    · intro b
      fin_cases b
      · show (i 0).val / 256 = ((i 0).val * 1024 + (i 1).val) / 262144; omega
      · show (i 0).val % 256 = ((i 0).val * 1024 + (i 1).val) / 1024 % 256; omega
      · show (i 1).val = ((i 0).val * 1024 + (i 1).val) % 1024; omega
    · exact at_congr (dkAt x0 x1 x2 x3 x4) rfl rfl rfl rfl
  · rename_i h
    refine (concatenate_pair_apply_right (t := S4x256x1024) (s₁ := S4x256x512) (s₂ := S4x256x512) 2 _ _ _ (idx_main_v142 i) rfl rfl
      (ix3 (⟨(i 0).val / 256, by omega⟩ : Fin 4) (⟨(i 0).val % 256, by omega⟩ : Fin 256) (⟨(i 1).val - 512, by omega⟩ : Fin 512)) ?_ ?_).trans
      ((dv_eq x0 x1 x2 x3 x4 hq hk _).trans ?_)
    · intro b hb
      fin_cases b
      · show (i 0).val / 256 = ((i 0).val * 1024 + (i 1).val) / 262144; omega
      · show (i 0).val % 256 = ((i 0).val * 1024 + (i 1).val) / 1024 % 256; omega
      · exact absurd rfl hb
    · show (i 1).val - 512 + 512 = ((i 0).val * 1024 + (i 1).val) % 1024; omega
    · refine at_congr (dvAt x0 x1 x2 x3 x4) rfl rfl rfl ?_
      show ((i 1).val - 512) % 128 = (i 1).val % 128; omega

end Cert.ReferenceIdeal.RefOut
-- ==== Proof.Finite.lean ====
/- The precondition read: where the two gains' magnitudes stay below infinity, every entry of both gains is a real number. -/
module

public import proofs.«01_k».proof.Pre_gains_finite
public import proofs.«01_k».proof.Proof.RowsEq
public import proofs.«01_k».proof.Proof.Arrays
public import Idealize.ShloMosaic.Lib.Pointwise
public import Idealize.ShloMosaic.Lib.Affine

@[expose] public section

noncomputable section

namespace Cert.Finite

open Idealize.ShloMosaic Cert.Rows Cert.Arrays

/-- The one shape fact that the precondition states. -/
theorem facts : Cert.Pre_gains_finite.Facts := ⟨by decide⟩

/-- A magnitude below infinity is a real number's. -/
theorem real_of_lt (x : EReal) (h : max x (-x) < ⊤) : ∃ r : ℝ, x = r := by
  induction x with
  | bot => exact absurd h (by simp)
  | top => exact absurd h (by simp)
  | coe r => exact ⟨r, rfl⟩

/-- The word of infinity. -/
theorem inf_eq : Ideal.ofBits .f32 0x7F800000#32 = ⊤ := by simp [Ideal.ofBits, Ideal.ieee]

/-- A bit that a comparison with infinity set. -/
theorem lt_of_bit (x y : EReal) (h : Ideal.cmp .olt x y = 1#1) : x < y := by
  by_contra hn
  simp [Ideal.cmp, hn] at h

/-- What the precondition says of the gains. -/
theorem real_of_pre (x0 : Tok.Idx → EReal) (x1 : Mem.Idx → EReal) (x2 : Tok.Idx → EReal) (x3 x4 : Gain.Idx → EReal)
    (h : @Cert.Pre_gains_finite.fn facts Ideal _ x0 x1 x2 x3 x4 = fun _ => 1#1) : IsReal (gainRow x3) ∧ IsReal (gainRow x4) := by
  have key : ∀ i, max (x3 i) (-(x3 i)) < ⊤ ∧ max (x4 i) (-(x4 i)) < ⊤ := by
    intro i
    have hi := congrFun h i
    simp only [Cert.Pre_gains_finite.fn, andi, cmpf, broadcastInDim, constant, Host.absf] at hi
    obtain ⟨h3, h4⟩ := IntOp.andi_eq_one.mp hi
    rw [← inf_eq]
    exact ⟨lt_of_bit _ _ h3, lt_of_bit _ _ h4⟩
  exact ⟨fun j => real_of_lt _ (key _).1, fun j => real_of_lt _ (key _).2⟩

end Cert.Finite
-- ==== Proof.Sums.lean ====
/- Shared by the products' proofs: sums over a range split into runs of equal length, and the rows of an array whose batches lie below one another. -/
module

public import Idealize.ShloMosaic.Lib.Pointwise

@[expose] public section

namespace Cert.Sums

open Idealize.ShloMosaic

/-- A sum over `R` runs of length `T` is the sum over all `R * T` places. -/
theorem sum_runs (T : ℕ) (f : ℕ → EReal) (R : ℕ) :
    ∑ s ∈ Finset.range R, ∑ r : Fin T, f (T * s + r.val) = ∑ n ∈ Finset.range (R * T), f n := by
  induction R with
  | zero => simp
  | succ R ih =>
    rw [Finset.sum_range_succ, ih, Nat.succ_mul, Finset.sum_range_add, Fin.sum_univ_eq_sum_range (fun r => f (T * R + r)), Nat.mul_comm T R]

/-- A double sum over the places of `R` runs of length `T`. -/
theorem sum_pairs (R T : ℕ) (f : ℕ → EReal) :
    ∑ b : Fin R, ∑ t : Fin T, f (T * b.val + t.val) = ∑ n ∈ Finset.range (R * T), f n := by
  rw [← sum_runs T f R]
  exact Fin.sum_univ_eq_sum_range (fun b => ∑ t : Fin T, f (T * b + t.val)) R

/-- Row `n` of a `4 × T × w` array with its batches below one another. -/
def flat {T w : ℕ} [NeZero T] (x : (⟨3, ![4, T, w]⟩ : Shape).Idx → EReal) (n : ℕ) (j : Fin w) : EReal :=
  x (ix3 (⟨n / T % 4, Nat.mod_lt _ (by norm_num)⟩ : Fin 4) (⟨n % T, Nat.mod_lt _ (NeZero.pos T)⟩ : Fin T) j)

/-- The reshape to two axes lays those rows out. -/
theorem flat_shapeCast {R T w : ℕ} [NeZero T] (x : (⟨3, ![4, T, w]⟩ : Shape).Idx → EReal) (h : (⟨3, ![4, T, w]⟩ : Shape).ShapeCasts (⟨2, ![R, w]⟩ : Shape))
    (i : (⟨2, ![R, w]⟩ : Shape).Idx) (hR : R = T * 4 := by rfl) : shapeCast (⟨2, ![R, w]⟩ : Shape) x h i = flat x (i 0).val (i 1) := by
  refine shapeCast_apply _ _ i _ ?_
  rw [Shape.rowMajor_val_three, Shape.rowMajor_val_two]
  have h0 : (i 0).val < T * 4 := lt_of_lt_of_eq (i 0).isLt hR
  show ((i 0).val / T % 4 * T + (i 0).val % T) * w + (i 1).val = (i 0).val * w + (i 1).val
  rw [Nat.mod_eq_of_lt (Nat.div_lt_of_lt_mul h0), Nat.div_add_mod']

/-- An entry of such an array is the entry of its row. -/
theorem flat_ix3 {T w : ℕ} [NeZero T] (x : (⟨3, ![4, T, w]⟩ : Shape).Idx → EReal) (b : Fin 4) (t : Fin T) (j : Fin w) : x (ix3 b t j) = flat x (T * b.val + t.val) j := by
  have hb : (⟨(T * b.val + t.val) / T % 4, Nat.mod_lt _ (by norm_num)⟩ : Fin 4) = b := Fin.ext (by
    show (T * b.val + t.val) / T % 4 = b.val
    rw [Nat.mul_add_div (NeZero.pos T), Nat.div_eq_of_lt t.isLt, Nat.add_zero, Nat.mod_eq_of_lt b.isLt])
  have ht : (⟨(T * b.val + t.val) % T, Nat.mod_lt _ (NeZero.pos T)⟩ : Fin T) = t := Fin.ext (by
    show (T * b.val + t.val) % T = t.val
    rw [Nat.mul_add_mod, Nat.mod_eq_of_lt t.isLt])
  unfold flat
  rw [hb, ht]

/-- A sum over batches and tokens is the sum over the rows. -/
theorem sum_flat {T w v : ℕ} [NeZero T] (x : (⟨3, ![4, T, w]⟩ : Shape).Idx → EReal) (y : (⟨3, ![4, T, v]⟩ : Shape).Idx → EReal) (k : Fin w) (n : Fin v) :
    ∑ b : Fin 4, ∑ t : Fin T, x (ix3 b t k) * y (ix3 b t n) = ∑ r ∈ Finset.range (4 * T), flat x r k * flat y r n := by
  rw [← sum_pairs 4 T fun r => flat x r k * flat y r n]
  simp only [flat_ix3]

/-- A tile's rows in groups of eight. -/
theorem groups {Q R w : ℕ} (x : (⟨2, ![R, w]⟩ : Shape).Idx → EReal) (h : (⟨2, ![R, w]⟩ : Shape).ShapeCasts (⟨3, ![Q, 8, w]⟩ : Shape)) (q : Fin Q) (s : Fin 8) (j : Fin w)
    (hr : 8 * q.val + s.val < R) : shapeCast (⟨3, ![Q, 8, w]⟩ : Shape) x h (ix3 q s j) = x (ix2 ⟨8 * q.val + s.val, hr⟩ j) := by
  refine shapeCast_apply _ _ _ _ ?_
  rw [Shape.rowMajor_val_three, Shape.rowMajor_val_two]
  show (8 * q.val + s.val) * w + j.val = (q.val * 8 + s.val) * w + j.val
  rw [Nat.mul_comm 8]

/-- The eight partial sums together are the whole sum. -/
theorem fold8 (f : ℕ → EReal) (N : ℕ) : ∑ s : Fin 8, ∑ u ∈ Finset.range N, f (8 * u + s.val) = ∑ n ∈ Finset.range (N * 8), f n := by
  rw [Finset.sum_comm]
  exact sum_runs 8 f N

/-- The host's sum over the first two axes of three. -/
theorem sum_first_two {a b w : ℕ} (h : (⟨3, ![a, b, w]⟩ : Shape).ReducesTo [0, 1] (⟨1, ![w]⟩ : Shape)) (v : (⟨3, ![a, b, w]⟩ : Shape).Idx → EReal) (init : EReal) (j : Fin w) :
    Ideal.hostReduceAdd h v init (ix1 j) = init + ∑ k : Fin a, ∑ l : Fin b, v (ix3 k l j) := by
  have hf : ∀ i : (⟨3, ![a, b, w]⟩ : Shape).Idx, h.drop i = ix1 j ↔ ∃ k : Fin a × Fin b, ix3 k.1 k.2 j = i := by
    intro i
    constructor
    · intro e
      refine ⟨(i 0, i 1), ?_⟩
      funext x
      apply Fin.ext
      match x with
      | ⟨0, _⟩ => rfl
      | ⟨1, _⟩ => rfl
      | ⟨2, _⟩ => exact (congrArg Fin.val (congrFun e 0)).symm
    · rintro ⟨k, rfl⟩
      funext x
      apply Fin.ext
      match x with
      | ⟨0, _⟩ => rfl
  refine congrArg (init + ·) ((Finset.sum_filter_eq_sum_of_fiber _ (fun k : Fin a × Fin b => ix3 k.1 k.2 j) (fun _ _ e => Prod.ext (congrFun e 0) (congrFun e 1)) hf v).trans ?_)
  simp only [Fintype.sum_prod_type]

end Cert.Sums
-- ==== Proof.Dh2.lean ====
/- The gradient of the up projection's input: what the kernel leaves from its two products, and that the reference's one product over the
   concatenated output gradients is the same array. -/
module

public import proofs.«01_k».proof.Proof.Gen.KernelDh2Ideal.Value
public import proofs.«01_k».proof.Proof.Gen.ReferenceDh2Ideal.Run
public import proofs.«01_k».proof.Proof.Gen.ReferenceDh2Ideal.Read
public import proofs.«01_k».proof.Proof.Sums
public import Idealize.ShloMosaic.Lib.Pointwise
public import Idealize.ShloMosaic.Lib.Claim

@[expose] public section

noncomputable section

namespace Cert.KernelDh2Ideal.Dh2

open Idealize.ShloMosaic Idealize.ShloMosaic.TcCoe Idealize.SL.Sem Cert.KernelDh2Ideal Cert.KernelDh2Ideal.Gen Cert.Sums

abbrev Ct : Shape := ⟨3, ![4, 2048, 2816]⟩

/-- The input's gradient: the first half's output gradient against the weights' left columns, the second's against the right ones. -/
def grad (x0 x1 : Ct.Idx → EReal) (w : S1024x5632.Idx → EReal) (i : S8192x1024.Idx) : EReal :=
  (∑ k : Fin 2816, flat x0 (i 0).val k * w (ix2 (i 1) (⟨k.val, by omega⟩ : Fin 5632)))
    + ∑ k : Fin 2816, flat x1 (i 0).val k * w (ix2 (i 1) (⟨2816 + k.val, by omega⟩ : Fin 5632))

/-! ### The kernel -/

section
variable (m : (ℓ : Loc nD τ sig) → Buf (Elt Ideal) ℓ) (c : Dev nD)

/-- The three arguments on a device. -/
abbrev A0 : Ct.Idx → EReal := m ((c : Thread nD τ).loc main_arg0)
abbrev A1 : Ct.Idx → EReal := m ((c : Thread nD τ).loc main_arg1)
abbrev A2 : S1024x5632.Idx → EReal := m ((c : Thread nD τ).loc main_arg2)

/-- The two output gradients with their batches below one another. -/
theorem V_a (i : S8192x2816.Idx) : (V m c main_v1 : S8192x2816.Idx → EReal) i = flat (A0 m c) (i 0).val (i 1) := by
  have e : (V m c main_v1 : S8192x2816.Idx → EReal) = shapeCast S8192x2816 (A0 m c) shapeCasts_S4x2048x2816_S8192x2816 := by
    unfold_abbrev_sides
    after_results
    rfl
  rw [e]
  exact flat_shapeCast _ _ i
theorem V_b (i : S8192x2816.Idx) : (V m c main_v3 : S8192x2816.Idx → EReal) i = flat (A1 m c) (i 0).val (i 1) := by
  have e : (V m c main_v3 : S8192x2816.Idx → EReal) = shapeCast S8192x2816 (A1 m c) shapeCasts_S4x2048x2816_S8192x2816 := by
    unfold_abbrev_sides
    after_results
    rfl
  rw [e]
  exact flat_shapeCast _ _ i

/-- The weights. -/
theorem V_w : (V m c main_v4 : S1024x5632.Idx → EReal) = A2 m c := by
  unfold_abbrev_sides
  after_results
  rfl

theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = t.val ∧ win0_1.index t (1 : Fin 2) = 0 :=
  (by decide +kernel : ∀ t : Fin grid0.N, _)
theorem index2_at : ∀ t : Fin cfg0.N, win0_2.index t (0 : Fin 2) = 0 ∧ win0_2.index t (1 : Fin 2) = 0 :=
  (by decide +kernel : ∀ t : Fin grid0.N, _)
theorem index3_at : ∀ t : Fin cfg0.N, win0_3.index t (0 : Fin 2) = 0 ∧ win0_3.index t (1 : Fin 2) = 1 :=
  (by decide +kernel : ∀ t : Fin grid0.N, _)
theorem index4_at : ∀ t : Fin cfg0.N, win0_4.index t (0 : Fin 2) = t.val ∧ win0_4.index t (1 : Fin 2) = 0 :=
  (by decide +kernel : ∀ t : Fin grid0.N, _)

/-- A point's tiles of the two output gradients, and the two halves of the weights. -/
theorem a_in (t : Fin cfg0.N) (r : Fin 512) (j : Fin 2816) : (iblk m c 0 t : S512x2816.Idx → EReal) (ix2 r j) = flat (A0 m c) (512 * t.val + r.val) j := by
  obtain ⟨e0, e1⟩ := index0_at t
  have ht : t.val < 16 := lt_of_lt_of_eq t.isLt N_0
  refine Eq.trans ?_ (V_a m c (ix2 (⟨512 * t.val + r.val, by omega⟩ : Fin 8192) j))
  unfold iblk
  show (V m c main_v1 : S8192x2816.Idx → EReal) _ = _
  congr 1
  funext a
  apply Fin.ext
  match a with
  | ⟨0, _⟩ => show win0_0.index t (0 : Fin 2) * 512 + 1 * r.val = 512 * t.val + r.val; omega
  | ⟨1, _⟩ => show win0_0.index t (1 : Fin 2) * 2816 + 1 * j.val = j.val; omega
theorem b_in (t : Fin cfg0.N) (r : Fin 512) (j : Fin 2816) : (iblk m c 1 t : S512x2816.Idx → EReal) (ix2 r j) = flat (A1 m c) (512 * t.val + r.val) j := by
  obtain ⟨e0, e1⟩ := index1_at t
  have ht : t.val < 16 := lt_of_lt_of_eq t.isLt N_0
  refine Eq.trans ?_ (V_b m c (ix2 (⟨512 * t.val + r.val, by omega⟩ : Fin 8192) j))
  unfold iblk
  show (V m c main_v3 : S8192x2816.Idx → EReal) _ = _
  congr 1
  funext a
  apply Fin.ext
  match a with
  | ⟨0, _⟩ => show win0_1.index t (0 : Fin 2) * 512 + 1 * r.val = 512 * t.val + r.val; omega
  | ⟨1, _⟩ => show win0_1.index t (1 : Fin 2) * 2816 + 1 * j.val = j.val; omega
theorem wl_in (t : Fin cfg0.N) (n : Fin 1024) (j : Fin 2816) : (iblk m c 2 t : S1024x2816.Idx → EReal) (ix2 n j) = A2 m c (ix2 n (⟨j.val, by omega⟩ : Fin 5632)) := by
  obtain ⟨e0, e1⟩ := index2_at t
  refine Eq.trans ?_ (congrFun (V_w m c) (ix2 n (⟨j.val, by omega⟩ : Fin 5632)))
  unfold iblk
  show (V m c main_v4 : S1024x5632.Idx → EReal) _ = _
  congr 1
  funext a
  apply Fin.ext
  match a with
  | ⟨0, _⟩ => show win0_2.index t (0 : Fin 2) * 1024 + 1 * n.val = n.val; omega
  | ⟨1, _⟩ => show win0_2.index t (1 : Fin 2) * 2816 + 1 * j.val = j.val; omega
theorem wr_in (t : Fin cfg0.N) (n : Fin 1024) (j : Fin 2816) : (iblk m c 3 t : S1024x2816.Idx → EReal) (ix2 n j) = A2 m c (ix2 n (⟨2816 + j.val, by omega⟩ : Fin 5632)) := by
  obtain ⟨e0, e1⟩ := index3_at t
  refine Eq.trans ?_ (congrFun (V_w m c) (ix2 n (⟨2816 + j.val, by omega⟩ : Fin 5632)))
  unfold iblk
  show (V m c main_v4 : S1024x5632.Idx → EReal) _ = _
  congr 1
  funext a
  apply Fin.ext
  match a with
  | ⟨0, _⟩ => show win0_3.index t (0 : Fin 2) * 1024 + 1 * n.val = n.val; omega
  | ⟨1, _⟩ => show win0_3.index t (1 : Fin 2) * 2816 + 1 * j.val = 2816 + j.val; omega

/-- A tile's two products, each against a half of the weights transposed. -/
theorem pay1_at (x : Vec Ideal S512x2816 .bf16) (u : Vec Ideal S1024x2816 .bf16) (y : Vec Ideal S512x2816 .bf16) (v : Vec Ideal S1024x2816 .bf16) (r : Fin 512) (n : Fin 1024) :
    k0_pay1 (F := Ideal) x u y v (ix2 r n) = (∑ k : Fin 2816, x (ix2 r k) * u (ix2 n k)) + ∑ k : Fin 2816, y (ix2 r k) * v (ix2 n k) := by
  unfold k0_pay1
  pointwise

theorem ld_t (x : Vec Ideal S512x2816 .bf16) : View.ld x r0_0 = x := View.ld_unit_zero (by funext a; fin_cases a <;> rfl) inb_S512x2816_S512x2816_0_0 x
theorem ld_w (x : Vec Ideal S1024x2816 .bf16) : View.ld x r0_1 = x := View.ld_unit_zero (by funext a; fin_cases a <;> rfl) inb_S1024x2816_S1024x2816_0_0 x

/-- What a point leaves in the output's block. -/
theorem out_eq (x y : Vec Ideal S512x2816 .bf16) (u v : Vec Ideal S1024x2816 .bf16) : out0_4 x y u v = k0_pay1 x u y v := by
  unfold out0_4
  rw [ld_t, ld_t, ld_w, ld_w]
  exact View.canon_unit_zero (by funext a; fin_cases a <;> rfl) inb_S512x1024_S512x1024_0_0 _

/-- The array that the kernel returns is the gradient. -/
theorem arr_eq : (Gen.dats m 0 c).arrAt 4 cfg0.N = (grad (A0 m c) (A1 m c) (A2 m c) : S8192x1024.Idx → EReal) := by
  refine (Gen.dats m 0 c).arrAt_eq_of_cover 4 (grad (A0 m c) (A1 m c) (A2 m c) : S8192x1024.Idx → EReal) (fun t _ => ?_) (fun i => ?_)
  · obtain ⟨e0, e1⟩ := index4_at t
    rw [Value.flushed4, out_eq]
    funext y
    have h0 : (y 0).val < 512 := (y 0).isLt
    have h1 : (y 1).val < 1024 := (y 1).isLt
    show k0_pay1 (F := Ideal) (iblk m c 0 t) (iblk m c 2 t) (iblk m c 1 t) (iblk m c 3 t) y = grad (A0 m c) (A1 m c) (A2 m c) (((cfg0.win 4).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay1 (F := Ideal) (iblk m c 0 t) (iblk m c 2 t) (iblk m c 1 t) (iblk m c 3 t)) ey).trans ?_
    refine (pay1_at _ _ _ _ _ _).trans ?_
    have er : (((cfg0.win 4).blk t).view.emb y 0 : Fin 8192).val = 512 * t.val + (y 0).val := by show win0_4.index t (0 : Fin 2) * 512 + 1 * (y 0).val = _; omega
    have en : (((cfg0.win 4).blk t).view.emb y 1 : Fin 1024) = ⟨(y 1).val, h1⟩ := Fin.ext (by show win0_4.index t (1 : Fin 2) * 1024 + 1 * (y 1).val = (y 1).val; omega)
    unfold grad
    refine congrArg₂ (· + ·) (Finset.sum_congr rfl fun k _ => ?_) (Finset.sum_congr rfl fun k _ => ?_)
    · exact congrArg₂ (· * ·) ((a_in m c t _ k).trans (congrArg (flat (A0 m c) · k) er.symm)) ((wl_in m c t _ k).trans (congrArg (fun n => A2 m c (ix2 n _)) en.symm))
    · exact congrArg₂ (· * ·) ((b_in m c t _ k).trans (congrArg (flat (A1 m c) · k) er.symm)) ((wr_in m c t _ k).trans (congrArg (fun n => A2 m c (ix2 n _)) en.symm))
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index4_at t
    refine ⟨t, flush0_4 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_4.index t (0 : Fin 2) * 512 + 1 * ((i 0).val % 512) = (i 0).val; omega
    | ⟨1, _⟩ => show win0_4.index t (1 : Fin 2) * 1024 + 1 * (i 1).val = (i 1).val; omega

end

/-! ### The reference -/

open Cert.ReferenceDh2Ideal Cert.ReferenceDh2Ideal.Read

/-- The two output gradients beside one another. -/
theorem cat_l (x0 x1 : Ct.Idx → EReal) (b : Fin 4) (t : Fin 2048) (k : Fin 2816) :
    val_main_v0 (F := Ideal) x0 x1 (ix3 b t (⟨k.val, by omega⟩ : Fin 5632)) = x0 (ix3 b t k) := by
  unfold val_main_v0
  refine concatenate_apply_piece (t := Cert.ReferenceDh2Ideal.S4x2048x5632) 2 _ _ _ 0 (by show 0 < 2; omega) Cert.ReferenceDh2Ideal.S4x2048x2816 _ rfl rfl 0 rfl (ix3 b t k) ?_ ?_
  · intro a ha
    match a with
    | ⟨0, _⟩ => rfl
    | ⟨1, _⟩ => rfl
    | ⟨2, _⟩ => exact absurd rfl ha
  · show 0 + k.val = k.val; omega
theorem cat_r (x0 x1 : Ct.Idx → EReal) (b : Fin 4) (t : Fin 2048) (k : Fin 2816) :
    val_main_v0 (F := Ideal) x0 x1 (ix3 b t (⟨2816 + k.val, by omega⟩ : Fin 5632)) = x1 (ix3 b t k) := by
  unfold val_main_v0
  refine concatenate_apply_piece (t := Cert.ReferenceDh2Ideal.S4x2048x5632) 2 _ _ _ 1 (by show 1 < 2; omega) Cert.ReferenceDh2Ideal.S4x2048x2816 _ rfl rfl 2816 rfl (ix3 b t k) ?_ ?_
  · intro a ha
    match a with
    | ⟨0, _⟩ => rfl
    | ⟨1, _⟩ => rfl
    | ⟨2, _⟩ => exact absurd rfl ha
  · rfl

/-- The reference's product over all the columns is the sum of the two halves. -/
theorem ref_eq (x0 x1 : Ct.Idx → EReal) (w : S1024x5632.Idx → EReal) : val_main_v4 (F := Ideal) x0 x1 w = grad x0 x1 w := by
  funext i
  have e : val_main_v4 (F := Ideal) x0 x1 w i = flat (val_main_v3 (F := Ideal) x0 x1 w) (i 0).val (i 1) := by
    unfold val_main_v4
    exact flat_shapeCast _ _ i
  rw [e]
  unfold flat
  refine (val_main_v3_apply x0 x1 w _).trans ?_
  refine (Fin.sum_univ_add (a := 2816) (b := 2816) _).trans ?_
  unfold grad
  refine congrArg₂ (· + ·) (Finset.sum_congr rfl fun k _ => ?_) (Finset.sum_congr rfl fun k _ => ?_)
  · refine congrArg₂ (· * ·) (Eq.trans (congrArg (val_main_v0 (F := Ideal) x0 x1) ?_) (cat_l x0 x1 _ _ k)) (congrArg w ?_)
    · funext a
      match a with
      | ⟨0, _⟩ => rfl
      | ⟨1, _⟩ => rfl
      | ⟨2, _⟩ => rfl
    · funext a
      match a with
      | ⟨0, _⟩ => rfl
      | ⟨1, _⟩ => rfl
  · refine congrArg₂ (· * ·) (Eq.trans (congrArg (val_main_v0 (F := Ideal) x0 x1) ?_) (cat_r x0 x1 _ _ k)) (congrArg w ?_)
    · funext a
      match a with
      | ⟨0, _⟩ => rfl
      | ⟨1, _⟩ => rfl
      | ⟨2, _⟩ => rfl
    · funext a
      match a with
      | ⟨0, _⟩ => rfl
      | ⟨1, _⟩ => rfl

end Cert.KernelDh2Ideal.Dh2
-- ==== Proof.WUp.lean ====
/- The gradient of one half of the up projection's weights: what the pipelined kernel leaves after its 4 row tiles of 2048 tokens, and that the reference's product is the
   same array. -/
module

public import proofs.«01_k».proof.Proof.Gen.KernelWUpIdeal.Value
public import proofs.«01_k».proof.Proof.Gen.ReferenceWUpIdeal.Run
public import proofs.«01_k».proof.Proof.Gen.ReferenceWUpIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWUpIdeal.WUp

open Idealize.ShloMosaic Idealize.ShloMosaic.TcCoe Idealize.SL.Sem Cert.KernelWUpIdeal Cert.KernelWUpIdeal.Gen Cert.Sums

abbrev In : Shape := ⟨3, ![4, 2048, 1024]⟩
abbrev Ct : Shape := ⟨3, ![4, 2048, 2816]⟩

/-- The weights' gradient: the sum over every token of the input's feature times the output gradient's. -/
def grad (x0 : In.Idx → EReal) (x1 : Ct.Idx → EReal) (i : S1024x2816.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x2816.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x2816.Idx) : (V m c main_v3 : S8192x2816.Idx → EReal) i = flat (A1 m c) (i 0).val (i 1) := by
  have e : (V m c main_v3 : S8192x2816.Idx → EReal) = shapeCast S8192x2816 (A1 m c) shapeCasts_S4x2048x2816_S8192x2816 := by
    unfold_abbrev_sides
    after_results
    rfl
  rw [e]
  exact flat_shapeCast _ _ i

/-- The blocks of a grid point: the row tiles run fastest. -/
theorem index0_at : ∀ t : Fin cfg0.N, win0_0.index t (0 : Fin 2) = t.val % 4 ∧ win0_0.index t (1 : Fin 2) = 0 :=
  (by decide +kernel : ∀ t : Fin grid0.N, _)
theorem index1_at : ∀ t : Fin cfg0.N, win0_1.index t (0 : Fin 2) = t.val % 4 ∧ win0_1.index t (1 : Fin 2) = t.val / 4 :=
  (by decide +kernel : ∀ t : Fin grid0.N, _)
theorem index2_at : ∀ t : Fin cfg0.N, win0_2.index t (0 : Fin 2) = 0 ∧ win0_2.index t (1 : Fin 2) = t.val / 4 :=
  (by decide +kernel : ∀ t : Fin grid0.N, _)

/-- The column of the whole array that column `j` of a point's tile is. -/
def col (t : Fin cfg0.N) (j : Fin 2816) : Fin 2816 := ⟨2816 * (t.val / 4) + j.val, by have : t.val < 4 := lt_of_lt_of_eq t.isLt N_0; omega⟩

/-- A point's input block: the rows of its tile. -/
theorem x_in (t : Fin cfg0.N) (r : Fin 2048) (j : Fin 1024) : (iblk m c 0 t : S2048x1024.Idx → EReal) (ix2 r j) = flat (A0 m c) (2048 * (t.val % 4) + r.val) j := by
  obtain ⟨e0, e1⟩ := index0_at t
  refine Eq.trans ?_ (V_x m c (ix2 (⟨2048 * (t.val % 4) + r.val, by omega⟩ : Fin 8192) j))
  unfold iblk
  show (V m c main_v1 : S8192x1024.Idx → EReal) _ = _
  congr 1
  funext a
  apply Fin.ext
  match a with
  | ⟨0, _⟩ => show win0_0.index t (0 : Fin 2) * 2048 + 1 * r.val = 2048 * (t.val % 4) + r.val; omega
  | ⟨1, _⟩ => show win0_0.index t (1 : Fin 2) * 1024 + 1 * j.val = j.val; omega

/-- A point's block of the output gradient. -/
theorem y_in (t : Fin cfg0.N) (r : Fin 2048) (j : Fin 2816) : (iblk m c 1 t : S2048x2816.Idx → EReal) (ix2 r j) = flat (A1 m c) (2048 * (t.val % 4) + r.val) (col t j) := by
  obtain ⟨e0, e1⟩ := index1_at t
  refine Eq.trans ?_ (V_y m c (ix2 (⟨2048 * (t.val % 4) + r.val, by omega⟩ : Fin 8192) (col t j)))
  unfold iblk
  show (V m c main_v3 : S8192x2816.Idx → EReal) _ = _
  congr 1
  funext a
  apply Fin.ext
  match a with
  | ⟨0, _⟩ => show win0_1.index t (0 : Fin 2) * 2048 + 1 * r.val = 2048 * (t.val % 4) + r.val; omega
  | ⟨1, _⟩ => show win0_1.index t (1 : Fin 2) * 2816 + 1 * j.val = 2816 * (t.val / 4) + j.val; omega

/-- One tile's product. -/
theorem pay1_at (x : Vec Ideal S2048x1024 .bf16) (y : Vec Ideal S2048x2816 .bf16) (k : Fin 1024) (n : Fin 2816) :
    k0_pay1 (F := Ideal) x y (ix2 k n) = ∑ r : Fin 2048, x (ix2 r k) * y (ix2 r n) := by
  unfold k0_pay1
  pointwise

/-- A later tile's product is added to what the block holds. -/
theorem pay2_at (x : Vec Ideal S2048x1024 .bf16) (y : Vec Ideal S2048x2816 .bf16) (o : Vec Ideal S1024x2816 .f32) (i : S1024x2816.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S2048x1024 .bf16) : View.ld x (Rect.unit ![0, 0] ![2048, 1024] inb_S2048x1024_S2048x1024_0_0) = x :=
  View.ld_unit_zero (by funext a; fin_cases a <;> rfl) inb_S2048x1024_S2048x1024_0_0 x
theorem ld_y (x : Vec Ideal S2048x2816 .bf16) : View.ld x (Rect.unit ![0, 0] ![2048, 2816] inb_S2048x2816_S2048x2816_0_0) = x :=
  View.ld_unit_zero (by funext a; fin_cases a <;> rfl) inb_S2048x2816_S2048x2816_0_0 x
theorem ld_o (x : Vec Ideal S1024x2816 .f32) : View.ld x (Rect.unit ![0, 0] ![1024, 2816] inb_S1024x2816_S1024x2816_0_0) = x :=
  View.ld_unit_zero (by funext a; fin_cases a <;> rfl) inb_S1024x2816_S1024x2816_0_0 x

/-- The first tile of a column block leaves its product. -/
theorem out_A (i : grid0.Coords) (arg2 : Memref sig .tc .vmem S2048x1024 .bf16) (harg2 : arg2.IsWhole) (arg3 : Memref sig .tc .vmem S2048x2816 .bf16) (harg3 : arg3.IsWhole)
    (arg4 : Memref sig .tc .vmem S1024x2816 .f32) (harg4 : arg4.IsWhole) (hc0 : cond0_0 i) (hc1 : ¬cond0_1 i) (x0 : Vec Ideal S2048x1024 .bf16) (x1 : Vec Ideal S2048x2816 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x2816_S1024x2816_0_0 _

/-- Every later tile adds its product. -/
theorem out_B (i : grid0.Coords) (arg2 : Memref sig .tc .vmem S2048x1024 .bf16) (harg2 : arg2.IsWhole) (arg3 : Memref sig .tc .vmem S2048x2816 .bf16) (harg3 : arg3.IsWhole)
    (arg4 : Memref sig .tc .vmem S1024x2816 .f32) (harg4 : arg4.IsWhole) (hc0 : ¬cond0_0 i) (hc1 : cond0_1 i) (x0 : Vec Ideal S2048x1024 .bf16) (x1 : Vec Ideal S2048x2816 .bf16)
    (xo : Vec Ideal S1024x2816 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x2816_S1024x2816_0_0 _

/-- One token's share of an entry. -/
def term (k : Fin 1024) (n : Fin 2816) (r : ℕ) : EReal := flat (A0 m c) r k * flat (A1 m c) r n

/-- A tile's product at a grid point. -/
theorem tile_at (t : Fin cfg0.N) (k : Fin 1024) (n : Fin 2816) :
    k0_pay1 (F := Ideal) (iblk m c 0 t) (iblk m c 1 t) (ix2 k n) = ∑ r : Fin 2048, term m c k (col t n) (2048 * (t.val % 4) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 2816) : ∀ (t : ℕ) (h : t < cfg0.N), outsAt0 m c t h (ix2 k n)
    = ∑ s ∈ Finset.range (t % 4 + 1), ∑ r : Fin 2048, term m c k (col ⟨t, h⟩ n) (2048 * s + r.val) := by
  intro t
  induction t with
  | zero =>
    intro h
    refine (congrFun ((outsAt0_A m c ⟨0, h⟩ rfl (by show ¬1 ≤ 0; omega)).trans (out_A c _ _ _ _ _ _ _ _ _ _ _)) (ix2 k n)).trans ?_
    rw [tile_at]
    simp
  | succ t ih =>
    intro h
    by_cases h0 : (t + 1) % 4 = 0
    · exact absurd (lt_of_lt_of_eq h N_0) (by omega)
    · refine (congrFun ((outsAt0_B m c ⟨t + 1, h⟩ h0 (by show 1 ≤ (t + 1); omega)).trans (out_B c _ _ _ _ _ _ _ _ _ _ _ _)) (ix2 k n)).trans ?_
      rw [pay2_at, tile_at]
      have e : (t + 1) % 4 = t % 4 + 1 := by omega
      have ec : col ⟨t, by omega⟩ n = col ⟨t + 1, h⟩ n := Fin.ext (by show 2816 * (t / 4) + n.val = 2816 * ((t + 1) / 4) + n.val; omega)
      show outsAt0 m c t _ (ix2 k n) + _ = _
      rw [ih (by omega), ec]
      show _ + ∑ r : Fin 2048, term m c k (col ⟨t + 1, h⟩ n) (2048 * ((t + 1) % 4) + r.val) = _
      rw [e, Finset.sum_range_succ _ (t % 4 + 1)]

/-- The array that the kernel returns is the gradient. -/
theorem arr_eq : (Gen.dats m 0 c).arrAt 2 cfg0.N = (grad (A0 m c) (A1 m c) : S1024x2816.Idx → EReal) := by
  refine (Gen.dats m 0 c).arrAt_eq_of_cover 2 (grad (A0 m c) (A1 m c) : S1024x2816.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 2816 := (y 1).isLt
    show outsAt0 m c t.val t.isLt y = grad (A0 m c) (A1 m c) (((cfg0.win 2).blk t).view.emb y)
    have ey : (y : S1024x2816.Idx) = ix2 (⟨(y 0).val, h0⟩ : Fin 1024) (⟨(y 1).val, h1⟩ : Fin 2816) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 2816) = col t ⟨(y 1).val, h1⟩ := Fin.ext (by show win0_2.index t (1 : Fin 2) * 2816 + 1 * (y 1).val = 2816 * (t.val / 4) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 2816 := (i 1).isLt
    obtain ⟨t, ht⟩ : ∃ t : Fin cfg0.N, t.val = 4 * ((i 1).val / 2816) + 3 := ⟨⟨4 * ((i 1).val / 2816) + 3, lt_of_lt_of_eq (by omega : _ < 4) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 2816, Nat.mod_lt _ (by norm_num)⟩ : Fin 2816), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 2816 + 1 * ((i 1).val % 2816) = (i 1).val; omega

end

/-! ### The reference -/

/-- The reference's contraction over batch and token is the gradient. -/
theorem ref_eq (x0 : In.Idx → EReal) (x1 : Ct.Idx → EReal) : Cert.ReferenceWUpIdeal.Read.val_main_v3 (F := Ideal) x0 x1 = grad x0 x1 := by
  funext i
  refine (Cert.ReferenceWUpIdeal.Read.val_main_v3_apply (F := Ideal) x0 x1 i).trans ?_
  unfold Cert.ReferenceWUpIdeal.Read.val_main_v2 grad
  pointwise
  refine Finset.sum_congr rfl fun b _ => Finset.sum_congr rfl fun t _ => ?_
  exact mul_comm _ _

end Cert.KernelWUpIdeal.WUp
-- ==== Proof.Conv.lean ====
/- The gradient of the causal three-tap convolution's input: what the kernel leaves from its row tiles and their successors' first rows, and that
   the reference's gradient is the same array. -/
module

public import proofs.«01_k».proof.Proof.Gen.KernelConvIdeal.Value
public import proofs.«01_k».proof.Proof.Gen.ReferenceConvIdeal.Run
public import proofs.«01_k».proof.Proof.Gen.ReferenceConvIdeal.Read
public import proofs.«01_k».proof.Proof.Sums
public import Idealize.ShloMosaic.Lib.Pointwise
public import Idealize.ShloMosaic.Lib.Claim

@[expose] public section

noncomputable section

namespace Cert.KernelConvIdeal.Conv

open Idealize.ShloMosaic Idealize.ShloMosaic.TcCoe Idealize.SL.Sem Cert.KernelConvIdeal Cert.KernelConvIdeal.Gen Cert.Sums

abbrev Ct : Shape := ⟨3, ![4, 2048, 2816]⟩

/-- The entry `s` tokens later in the same batch, zero past the batch's end. -/
def later (x : Ct.Idx → EReal) (n s : ℕ) (j : Fin 2816) : EReal := if n % 2048 + s < 2048 then flat x (n + s) j else 0

/-- The input's gradient: tap `j` of the convolution reads the token `2 - j` before. -/
def grad (x : Ct.Idx → EReal) (w : S3x2816.Idx → EReal) (i : S8192x2816.Idx) : EReal :=
  w (ix2 (2 : Fin 3) (i 1)) * flat x (i 0).val (i 1) + w (ix2 (1 : Fin 3) (i 1)) * later x (i 0).val 1 (i 1)
    + w (ix2 (0 : Fin 3) (i 1)) * later x (i 0).val 2 (i 1)

/-! ### The kernel -/

/-- A select on the equality of two small words. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_eq_toNat, BitVec.toNat_ofNat, BitVec.toNat_ofNat, Nat.mod_eq_of_lt ha, Nat.mod_eq_of_lt hb]
  by_cases h : a = b
  · rw [if_pos h, decide_eq_true h]; rfl
  · rw [if_neg h, decide_eq_false h]; rfl

/-- The body's result at a row: the two following rows come from the rotated tile, or at the tile's end from the next tile's first rows. -/
theorem pay_at (i : grid0.Coords) (d : Vec Ideal S1024x1408 .f32) (n0 n1 : Vec Ideal S1x1408 .f32) (w : Vec Ideal S3x1408 .f32) (r : Fin 1024) (n : Fin 1408) :
    k0_pay1 (F := Ideal) (k0_pay2 (F := Ideal) i d n0 n1 w) (ix2 r n)
      = w (ix2 (2 : Fin 3) n) * d (ix2 r n)
        + w (ix2 (1 : Fin 3) n) * (if r.val = 1023 then (if (i 2).val = 1 then 0 else n0 (ix2 (0 : Fin 1) n)) else d (ix2 (⟨(r.val + 1024 - 1023) % 1024, Nat.mod_lt _ (by norm_num)⟩ : Fin 1024) n))
        + w (ix2 (0 : Fin 3) n) * (if r.val = 1023 then (if (i 2).val = 1 then 0 else n1 (ix2 (0 : Fin 1) n))
            else if r.val = 1022 then (if (i 2).val = 1 then 0 else n0 (ix2 (0 : Fin 1) n)) else d (ix2 (⟨(r.val + 1024 - 1022) % 1024, Nat.mod_lt _ (by norm_num)⟩ : Fin 1024) n)) := by
  have hr : r.val < 2 ^ 32 := lt_trans r.isLt (by norm_num)
  have hi : (i 2).val < 2 ^ 32 := lt_of_lt_of_le (i 2).isLt (by decide)
  have s0 : ∀ {α : Type} (x y : α), Scalar.select (Scalar.cmpi .eq (BitVec.ofNat 32 (i 2).val) 1#32) x y = if (i 2).val = 1 then x else y :=
    fun x y => sel_eq _ 1 hi (by norm_num) x y
  have s1 : ∀ {α : Type} (x y : α), Scalar.select (IntOp.cmpi .eq (BitVec.ofNat 32 r.val) 1023#32) x y = if r.val = 1023 then x else y :=
    fun x y => sel_eq _ 1023 hr (by norm_num) x y
  have s2 : ∀ {α : Type} (x y : α), Scalar.select (IntOp.cmpi .eq (BitVec.ofNat 32 r.val) 1022#32) x y = if r.val = 1022 then x else y :=
    fun x y => sel_eq _ 1022 hr (by norm_num) x y
  unfold k0_pay1 k0_pay2
  pointwise
  rw [s0, s0, s1, s1, s2]

section
variable (m : (ℓ : Loc nD τ sig) → Buf (Elt Ideal) ℓ) (c : Dev nD)

/-- The two arguments on a device. -/
abbrev A0 : Ct.Idx → EReal := m ((c : Thread nD τ).loc main_arg0)
abbrev A1 : S3x2816.Idx → EReal := m ((c : Thread nD τ).loc main_arg1)

/-- The output gradient with its batches below one another. -/
theorem V_d (i : S8192x2816.Idx) : (V m c main_v0 : S8192x2816.Idx → EReal) i = flat (A0 m c) (i 0).val (i 1) := by
  have e : (V m c main_v0 : S8192x2816.Idx → EReal) = shapeCast S8192x2816 (A0 m c) shapeCasts_S4x2048x2816_S8192x2816 := by
    unfold_abbrev_sides
    after_results
    rfl
  rw [e]
  exact flat_shapeCast _ _ i

theorem index0_at : ∀ t : Fin cfg0.N, win0_0.index t (0 : Fin 2) = t.val / 4 * 2 + t.val % 2 ∧ win0_0.index t (1 : Fin 2) = t.val / 2 % 2 :=
  (by decide +kernel : ∀ t : Fin grid0.N, _)
theorem index1_at : ∀ t : Fin cfg0.N, win0_1.index t (0 : Fin 2) = min ((t.val / 4 * 2 + t.val % 2 + 1) * 128) 1023 ∧ win0_1.index t (1 : Fin 2) = t.val / 2 % 2 :=
  (by decide +kernel : ∀ t : Fin grid0.N, _)
theorem index2_at : ∀ t : Fin cfg0.N, win0_2.index t (0 : Fin 2) = 0 ∧ win0_2.index t (1 : Fin 2) = t.val / 2 % 2 :=
  (by decide +kernel : ∀ t : Fin grid0.N, _)
theorem index3_at : ∀ t : Fin cfg0.N, win0_3.index t (0 : Fin 2) = t.val / 4 * 2 + t.val % 2 ∧ win0_3.index t (1 : Fin 2) = t.val / 2 % 2 :=
  (by decide +kernel : ∀ t : Fin grid0.N, _)
theorem coord2_at : ∀ t : Fin cfg0.N, (grid0.coords t 2).val = t.val % 2 :=
  (by decide +kernel : ∀ t : Fin grid0.N, _)

/-- The first row of a point's tile, and a column of it, in the whole array. -/
def row (t : Fin cfg0.N) : ℕ := 1024 * (t.val / 4 * 2 + t.val % 2)
def col (t : Fin cfg0.N) (j : Fin 1408) : Fin 2816 := ⟨1408 * (t.val / 2 % 2) + j.val, by omega⟩

/-- The three input blocks: a tile, the rows after it, and the taps. -/
theorem d_in (t : Fin cfg0.N) (r : Fin 1024) (j : Fin 1408) : (iblk m c 0 t : S1024x1408.Idx → EReal) (ix2 r j) = flat (A0 m c) (row t + r.val) (col t j) := by
  obtain ⟨e0, e1⟩ := index0_at t
  have ht : t.val < 16 := lt_of_lt_of_eq t.isLt N_0
  refine Eq.trans ?_ (V_d m c (ix2 (⟨row t + r.val, by unfold row; omega⟩ : Fin 8192) (col t j)))
  unfold iblk
  show (V m c main_v0 : S8192x2816.Idx → EReal) _ = _
  congr 1
  funext a
  apply Fin.ext
  match a with
  | ⟨0, _⟩ => show win0_0.index t (0 : Fin 2) * 1024 + 1 * r.val = 1024 * (t.val / 4 * 2 + t.val % 2) + r.val; omega
  | ⟨1, _⟩ => show win0_0.index t (1 : Fin 2) * 1408 + 1 * j.val = 1408 * (t.val / 2 % 2) + j.val; omega
theorem n_in (t : Fin cfg0.N) (ht2 : t.val % 2 = 0) (r : Fin 8) (j : Fin 1408) :
    (iblk m c 1 t : S8x1408.Idx → EReal) (ix2 r j) = flat (A0 m c) (row t + 1024 + r.val) (col t j) := by
  obtain ⟨e0, e1⟩ := index1_at t
  have ht : t.val < 16 := lt_of_lt_of_eq t.isLt N_0
  refine Eq.trans ?_ (V_d m c (ix2 (⟨row t + 1024 + r.val, by unfold row; omega⟩ : Fin 8192) (col t j)))
  unfold iblk
  show (V m c main_v0 : S8192x2816.Idx → EReal) _ = _
  congr 1
  funext a
  apply Fin.ext
  match a with
  | ⟨0, _⟩ => show win0_1.index t (0 : Fin 2) * 8 + 1 * r.val = 1024 * (t.val / 4 * 2 + t.val % 2) + 1024 + r.val; omega
  | ⟨1, _⟩ => show win0_1.index t (1 : Fin 2) * 1408 + 1 * j.val = 1408 * (t.val / 2 % 2) + j.val; omega
theorem w_in (t : Fin cfg0.N) (r : Fin 3) (j : Fin 1408) : (iblk m c 2 t : S3x1408.Idx → EReal) (ix2 r j) = A1 m c (ix2 r (col t j)) := by
  obtain ⟨e0, e1⟩ := index2_at t
  rw [A1, ← V_main_arg1 m c]
  unfold iblk
  show (V m c main_arg1 : S3x2816.Idx → EReal) _ = _
  congr 1
  funext a
  apply Fin.ext
  match a with
  | ⟨0, _⟩ => show win0_2.index t (0 : Fin 2) * 3 + 1 * r.val = r.val; omega
  | ⟨1, _⟩ => show win0_2.index t (1 : Fin 2) * 1408 + 1 * j.val = 1408 * (t.val / 2 % 2) + j.val; omega

theorem ld_d (x : Vec Ideal S1024x1408 .f32) : View.ld x r0_0 = x := View.ld_unit_zero (by funext a; fin_cases a <;> rfl) inb_S1024x1408_S1024x1408_0_0 x
theorem ld_w (x : Vec Ideal S3x1408 .f32) : View.ld x r0_3 = x := View.ld_unit_zero (by funext a; fin_cases a <;> rfl) inb_S3x1408_S3x1408_0_0 x

/-- The two rows read of the following tile. -/
theorem ld_n0 (x : Vec Ideal S8x1408 .f32) (n : Fin 1408) : View.ld x r0_1 (ix2 (0 : Fin 1) n) = x (ix2 (0 : Fin 8) n) := by
  refine congrArg x (funext fun a => Fin.ext ?_)
  match a with
  | ⟨0, _⟩ => rfl
  | ⟨1, _⟩ => show 0 + 1 * n.val = n.val; omega
theorem ld_n1 (x : Vec Ideal S8x1408 .f32) (n : Fin 1408) : View.ld x r0_2 (ix2 (0 : Fin 1) n) = x (ix2 (1 : Fin 8) n) := by
  refine congrArg x (funext fun a => Fin.ext ?_)
  match a with
  | ⟨0, _⟩ => rfl
  | ⟨1, _⟩ => show 0 + 1 * n.val = n.val; omega

/-- What a point leaves in the output's block. -/
theorem out_eq (i : grid0.Coords) (x0 : Vec Ideal S1024x1408 .f32) (x1 : Vec Ideal S8x1408 .f32) (x2 : Vec Ideal S3x1408 .f32) :
    out0_3 i x0 x1 x2 = k0_pay1 (k0_pay2 i x0 (View.ld x1 r0_1) (View.ld x1 r0_2) x2) := by
  unfold out0_3
  rw [ld_d, ld_w]
  exact View.canon_unit_zero (by funext a; fin_cases a <;> rfl) inb_S1024x1408_S1024x1408_0_0 _

/-- A point's result, in the whole array's terms. -/
theorem block_at (t : Fin cfg0.N) (r : Fin 1024) (n : Fin 1408) :
    out0_3 (F := Ideal) (grid0.coords t) (iblk m c 0 t) (iblk m c 1 t) (iblk m c 2 t) (ix2 r n)
      = A1 m c (ix2 (2 : Fin 3) (col t n)) * flat (A0 m c) (row t + r.val) (col t n)
        + A1 m c (ix2 (1 : Fin 3) (col t n)) * later (A0 m c) (row t + r.val) 1 (col t n)
        + A1 m c (ix2 (0 : Fin 3) (col t n)) * later (A0 m c) (row t + r.val) 2 (col t n) := by
  have hr := r.isLt
  have hc := coord2_at t
  have hm : row t % 2048 = 1024 * (t.val % 2) := by unfold row; omega
  have h1 : (if r.val = 1023 then (if (grid0.coords t 2).val = 1 then (0 : EReal) else View.ld (iblk m c 1 t) r0_1 (ix2 (0 : Fin 1) n))
      else (iblk m c 0 t : S1024x1408.Idx → EReal) (ix2 (⟨(r.val + 1024 - 1023) % 1024, Nat.mod_lt _ (by norm_num)⟩ : Fin 1024) n)) = later (A0 m c) (row t + r.val) 1 (col t n) := by
    unfold later
    by_cases hr3 : r.val = 1023
    · rw [if_pos hr3]
      by_cases ht : t.val % 2 = 1
      · rw [if_pos (hc.trans ht), if_neg (by omega)]
      · rw [if_neg (by omega), if_pos (by omega)]
        refine (ld_n0 _ n).trans ((n_in m c t (by omega) 0 n).trans (congrArg (flat (A0 m c) · _) ?_))
        show row t + 1024 + 0 = row t + r.val + 1; omega
    · rw [if_neg hr3, if_pos (by omega)]
      refine (d_in m c t _ n).trans (congrArg (flat (A0 m c) · _) ?_)
      show row t + (r.val + 1024 - 1023) % 1024 = row t + r.val + 1; omega
  have h2 : (if r.val = 1023 then (if (grid0.coords t 2).val = 1 then (0 : EReal) else View.ld (iblk m c 1 t) r0_2 (ix2 (0 : Fin 1) n))
      else if r.val = 1022 then (if (grid0.coords t 2).val = 1 then (0 : EReal) else View.ld (iblk m c 1 t) r0_1 (ix2 (0 : Fin 1) n))
      else (iblk m c 0 t : S1024x1408.Idx → EReal) (ix2 (⟨(r.val + 1024 - 1022) % 1024, Nat.mod_lt _ (by norm_num)⟩ : Fin 1024) n)) = later (A0 m c) (row t + r.val) 2 (col t n) := by
    unfold later
    by_cases hr3 : r.val = 1023
    · rw [if_pos hr3]
      by_cases ht : t.val % 2 = 1
      · rw [if_pos (hc.trans ht), if_neg (by omega)]
      · rw [if_neg (by omega), if_pos (by omega)]
        refine (ld_n1 _ n).trans ((n_in m c t (by omega) 1 n).trans (congrArg (flat (A0 m c) · _) ?_))
        show row t + 1024 + 1 = row t + r.val + 2; omega
    · rw [if_neg hr3]
      by_cases hr2 : r.val = 1022
      · rw [if_pos hr2]
        by_cases ht : t.val % 2 = 1
        · rw [if_pos (hc.trans ht), if_neg (by omega)]
        · rw [if_neg (by omega), if_pos (by omega)]
          refine (ld_n0 _ n).trans ((n_in m c t (by omega) 0 n).trans (congrArg (flat (A0 m c) · _) ?_))
          show row t + 1024 + 0 = row t + r.val + 2; omega
      · rw [if_neg hr2, if_pos (by omega)]
        refine (d_in m c t _ n).trans (congrArg (flat (A0 m c) · _) ?_)
        show row t + (r.val + 1024 - 1022) % 1024 = row t + r.val + 2; omega
  rw [out_eq]
  refine (pay_at _ _ _ _ _ r n).trans ?_
  refine congrArg₂ (· + ·) (congrArg₂ (· + ·) ?_ ?_) ?_
  · exact congrArg₂ (· * ·) (w_in m c t 2 n) (d_in m c t r n)
  · exact congrArg₂ (· * ·) (w_in m c t 1 n) h1
  · exact congrArg₂ (· * ·) (w_in m c t 0 n) h2

/-- The array that the kernel returns is the gradient. -/
theorem arr_eq : (Gen.dats m 0 c).arrAt 3 cfg0.N = (grad (A0 m c) (A1 m c) : S8192x2816.Idx → EReal) := by
  refine (Gen.dats m 0 c).arrAt_eq_of_cover 3 (grad (A0 m c) (A1 m c) : S8192x2816.Idx → EReal) (fun t _ => ?_) (fun i => ?_)
  · obtain ⟨e0, e1⟩ := index3_at t
    rw [Value.flushed3]
    funext y
    have h0 : (y 0).val < 1024 := (y 0).isLt
    have h1 : (y 1).val < 1408 := (y 1).isLt
    show out0_3 (F := Ideal) (grid0.coords t) (iblk m c 0 t) (iblk m c 1 t) (iblk m c 2 t) y = grad (A0 m c) (A1 m c) (((cfg0.win 3).blk t).view.emb y)
    have ey : (y : S1024x1408.Idx) = ix2 (⟨(y 0).val, h0⟩ : Fin 1024) (⟨(y 1).val, h1⟩ : Fin 1408) := funext fun a => match a with
      | ⟨0, _⟩ => rfl
      | ⟨1, _⟩ => rfl
    refine (congrArg (out0_3 (F := Ideal) (grid0.coords t) (iblk m c 0 t) (iblk m c 1 t) (iblk m c 2 t)) ey).trans ?_
    refine (block_at m c t _ _).trans ?_
    have er : (((cfg0.win 3).blk t).view.emb y 0 : Fin 8192).val = row t + (y 0).val := by
      show win0_3.index t (0 : Fin 2) * 1024 + 1 * (y 0).val = 1024 * (t.val / 4 * 2 + t.val % 2) + (y 0).val; omega
    have en : (((cfg0.win 3).blk t).view.emb y 1 : Fin 2816) = col t ⟨(y 1).val, h1⟩ := Fin.ext (by
      show win0_3.index t (1 : Fin 2) * 1408 + 1 * (y 1).val = 1408 * (t.val / 2 % 2) + (y 1).val; omega)
    unfold grad
    rw [er, en]
  · have h0 : (i 0).val < 8192 := (i 0).isLt
    have h1 : (i 1).val < 2816 := (i 1).isLt
    obtain ⟨t, ht⟩ : ∃ t : Fin cfg0.N, t.val = 4 * ((i 0).val / 2048) + 2 * ((i 1).val / 1408) + (i 0).val / 1024 % 2 :=
      ⟨⟨4 * ((i 0).val / 2048) + 2 * ((i 1).val / 1408) + (i 0).val / 1024 % 2, lt_of_lt_of_eq (by omega : _ < 16) N_0.symm⟩, rfl⟩
    obtain ⟨e0, e1⟩ := index3_at t
    refine ⟨t, flush0_3 t, Finset.mem_map.mpr ⟨ix2 (⟨(i 0).val % 1024, Nat.mod_lt _ (by norm_num)⟩ : Fin 1024) (⟨(i 1).val % 1408, Nat.mod_lt _ (by norm_num)⟩ : Fin 1408), Finset.mem_univ _, ?_⟩⟩
    funext a
    apply Fin.ext
    match a with
    | ⟨0, _⟩ => show win0_3.index t (0 : Fin 2) * 1024 + 1 * ((i 0).val % 1024) = (i 0).val; omega
    | ⟨1, _⟩ => show win0_3.index t (1 : Fin 2) * 1408 + 1 * ((i 1).val % 1408) = (i 1).val; omega

end

/-! ### The reference -/

open Cert.ReferenceConvIdeal.Read

/-- The gradient of the padded input, whose first two rows a batch's padding is. -/
theorem ref_at (x0 : Ct.Idx → EReal) (x1 : S3x2816.Idx → EReal) (b : Fin 4) (t : Fin 2050) (j : Fin 2816) :
    val_main_v38 (F := Ideal) x0 x1 (ix3 b t j)
      = ((if h : 2 ≤ t.val ∧ t.val - 2 < 2048 then x0 (ix3 b (⟨t.val - 2, h.2⟩ : Fin 2048) j) * x1 (ix2 (2 : Fin 3) j) else 0)
          + (if h : 1 ≤ t.val ∧ t.val - 1 < 2048 then x0 (ix3 b (⟨t.val - 1, h.2⟩ : Fin 2048) j) * x1 (ix2 (1 : Fin 3) j) else 0))
        + (if h : t.val < 2048 then x0 (ix3 b (⟨t.val, h⟩ : Fin 2048) j) * x1 (ix2 (0 : Fin 3) j) else 0) := by
  unfold val_main_v38 val_main_v37 val_main_v34 val_main_v30 val_main_v33 val_main_v29 val_main_v32 val_main_v36 val_main_v26 val_main_v27 val_main_v28 val_main_v31 val_main_v35 val_main_v22 val_main_v15 val_main_v7 val_main_v21 val_main_v20 val_main_v14 val_main_v13 val_main_v6 val_main_v5 val_main_cst_3 val_main_cst_4 val_main_cst_5
  pointwise

/-- The reference's array is the gradient. -/
theorem ref_eq (x0 : Ct.Idx → EReal) (x1 : S3x2816.Idx → EReal) : val_main_v42 (F := Ideal) x0 x1 = grad x0 x1 := by
  funext i
  have h0 : (i 0).val < 8192 := (i 0).isLt
  have e : val_main_v42 (F := Ideal) x0 x1 i = flat (val_main_v40 (F := Ideal) x0 x1) (i 0).val (i 1) := by
    refine (val_main_v42_apply (F := Ideal) x0 x1 i).trans ?_
    unfold val_main_v41
    exact flat_shapeCast _ _ i
  rw [e]
  unfold flat
  have hk : (i 0).val % 2048 < 2048 := Nat.mod_lt _ (by norm_num)
  refine (val_main_v40_apply (F := Ideal) x0 x1 _).trans ((congrArg (val_main_v38 (F := Ideal) x0 x1) ?_).trans
    ((ref_at x0 x1 (⟨(i 0).val / 2048 % 4, Nat.mod_lt _ (by norm_num)⟩ : Fin 4) (⟨2 + (i 0).val % 2048, by omega⟩ : Fin 2050) (i 1)).trans ?_))
  · funext a
    match a with
    | ⟨0, _⟩ => rfl
    | ⟨1, _⟩ => exact Fin.ext (by first | rfl | (show _ = 2 + (i 0).val % 2048; simp; try omega))
    | ⟨2, _⟩ => rfl
  · unfold grad
    refine congrArg₂ (· + ·) (congrArg₂ (· + ·) ?_ ?_) ?_
    · rw [dif_pos ⟨by show 2 ≤ 2 + (i 0).val % 2048; omega, by show 2 + (i 0).val % 2048 - 2 < 2048; omega⟩, mul_comm]
      refine congrArg (x1 (ix2 (2 : Fin 3) (i 1)) * ·) (congrArg (fun k => x0 (ix3 _ k (i 1))) (Fin.ext ?_))
      show 2 + (i 0).val % 2048 - 2 = (i 0).val % 2048; omega
    · unfold later
      by_cases h : (i 0).val % 2048 + 1 < 2048
      · rw [dif_pos ⟨by show 1 ≤ 2 + (i 0).val % 2048; omega, by show 2 + (i 0).val % 2048 - 1 < 2048; omega⟩, if_pos h, mul_comm]
        refine congrArg (x1 (ix2 (1 : Fin 3) (i 1)) * ·) (congrArg₂ (fun b k => x0 (ix3 b k (i 1))) (Fin.ext ?_) (Fin.ext ?_))
        · show (i 0).val / 2048 % 4 = ((i 0).val + 1) / 2048 % 4; omega
        · show 2 + (i 0).val % 2048 - 1 = ((i 0).val + 1) % 2048; omega
      · rw [dif_neg (by show ¬(1 ≤ 2 + (i 0).val % 2048 ∧ 2 + (i 0).val % 2048 - 1 < 2048); omega), if_neg h, mul_zero]
    · unfold later
      by_cases h : (i 0).val % 2048 + 2 < 2048
      · rw [dif_pos (by show 2 + (i 0).val % 2048 < 2048; omega), if_pos h, mul_comm]
        refine congrArg (x1 (ix2 (0 : Fin 3) (i 1)) * ·) (congrArg₂ (fun b k => x0 (ix3 b k (i 1))) (Fin.ext ?_) (Fin.ext ?_))
        · show (i 0).val / 2048 % 4 = ((i 0).val + 2) / 2048 % 4; omega
        · show 2 + (i 0).val % 2048 = ((i 0).val + 2) % 2048; omega
      · rw [dif_neg (by show ¬(2 + (i 0).val % 2048 < 2048); omega), if_neg h, mul_zero]

end Cert.KernelConvIdeal.Conv
-- ==== Proof.WDown.lean ====
/- The gradient of the down projection's weights: what the pipelined kernel leaves after its 4 row tiles of 2048 tokens, and that the reference's product is the
   same array. -/
module

public import proofs.«01_k».proof.Proof.Gen.KernelWDownIdeal.Value
public import proofs.«01_k».proof.Proof.Gen.ReferenceWDownIdeal.Run
public import proofs.«01_k».proof.Proof.Gen.ReferenceWDownIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWDownIdeal.WDown

open Idealize.ShloMosaic Idealize.ShloMosaic.TcCoe Idealize.SL.Sem Cert.KernelWDownIdeal Cert.KernelWDownIdeal.Gen Cert.Sums

abbrev In : Shape := ⟨3, ![4, 2048, 2816]⟩
abbrev Ct : Shape := ⟨3, ![4, 2048, 1024]⟩

/-- The weights' gradient: the sum over every token of the input's feature times the output gradient's. -/
def grad (x0 : In.Idx → EReal) (x1 : Ct.Idx → EReal) (i : S2816x1024.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S2816x1024.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x2816.Idx) : (V m c main_v1 : S8192x2816.Idx → EReal) i = flat (A0 m c) (i 0).val (i 1) := by
  have e : (V m c main_v1 : S8192x2816.Idx → EReal) = shapeCast S8192x2816 (A0 m c) shapeCasts_S4x2048x2816_S8192x2816 := by
    unfold_abbrev_sides
    after_results
    rfl
  rw [e]
  exact flat_shapeCast _ _ i

/-- The output gradient likewise. -/
theorem V_y (i : S8192x1024.Idx) : (V m c main_v2 : S8192x1024.Idx → EReal) i = flat (A1 m c) (i 0).val (i 1) := by
  have e : (V m c main_v2 : S8192x1024.Idx → EReal) = shapeCast S8192x1024 (A1 m c) shapeCasts_S4x2048x1024_S8192x1024 := by
    unfold_abbrev_sides
    after_results
    rfl
  rw [e]
  exact flat_shapeCast _ _ i

/-- The blocks of a grid point: the row tiles run fastest. -/
theorem index0_at : ∀ t : Fin cfg0.N, win0_0.index t (0 : Fin 2) = t.val % 4 ∧ win0_0.index t (1 : Fin 2) = 0 :=
  (by decide +kernel : ∀ t : Fin grid0.N, _)
theorem index1_at : ∀ t : Fin cfg0.N, win0_1.index t (0 : Fin 2) = t.val % 4 ∧ win0_1.index t (1 : Fin 2) = t.val / 4 :=
  (by decide +kernel : ∀ t : Fin grid0.N, _)
theorem index2_at : ∀ t : Fin cfg0.N, win0_2.index t (0 : Fin 2) = 0 ∧ win0_2.index t (1 : Fin 2) = t.val / 4 :=
  (by decide +kernel : ∀ t : Fin grid0.N, _)

/-- The column of the whole array that column `j` of a point's tile is. -/
def col (t : Fin cfg0.N) (j : Fin 512) : Fin 1024 := ⟨512 * (t.val / 4) + j.val, by have : t.val < 8 := lt_of_lt_of_eq t.isLt N_0; omega⟩

/-- A point's input block: the rows of its tile. -/
theorem x_in (t : Fin cfg0.N) (r : Fin 2048) (j : Fin 2816) : (iblk m c 0 t : S2048x2816.Idx → EReal) (ix2 r j) = flat (A0 m c) (2048 * (t.val % 4) + r.val) j := by
  obtain ⟨e0, e1⟩ := index0_at t
  refine Eq.trans ?_ (V_x m c (ix2 (⟨2048 * (t.val % 4) + r.val, by omega⟩ : Fin 8192) j))
  unfold iblk
  show (V m c main_v1 : S8192x2816.Idx → EReal) _ = _
  congr 1
  funext a
  apply Fin.ext
  match a with
  | ⟨0, _⟩ => show win0_0.index t (0 : Fin 2) * 2048 + 1 * r.val = 2048 * (t.val % 4) + r.val; omega
  | ⟨1, _⟩ => show win0_0.index t (1 : Fin 2) * 2816 + 1 * j.val = j.val; omega

/-- A point's block of the output gradient. -/
theorem y_in (t : Fin cfg0.N) (r : Fin 2048) (j : Fin 512) : (iblk m c 1 t : S2048x512.Idx → EReal) (ix2 r j) = flat (A1 m c) (2048 * (t.val % 4) + r.val) (col t j) := by
  obtain ⟨e0, e1⟩ := index1_at t
  refine Eq.trans ?_ (V_y m c (ix2 (⟨2048 * (t.val % 4) + r.val, by omega⟩ : Fin 8192) (col t j)))
  unfold iblk
  show (V m c main_v2 : S8192x1024.Idx → EReal) _ = _
  congr 1
  funext a
  apply Fin.ext
  match a with
  | ⟨0, _⟩ => show win0_1.index t (0 : Fin 2) * 2048 + 1 * r.val = 2048 * (t.val % 4) + r.val; omega
  | ⟨1, _⟩ => show win0_1.index t (1 : Fin 2) * 512 + 1 * j.val = 512 * (t.val / 4) + j.val; omega

/-- One tile's product. -/
theorem pay1_at (x : Vec Ideal S2048x2816 .bf16) (y : Vec Ideal S2048x512 .f32) (k : Fin 2816) (n : Fin 512) :
    k0_pay1 (F := Ideal) x y (ix2 k n) = ∑ r : Fin 2048, x (ix2 r k) * y (ix2 r n) := by
  unfold k0_pay1
  pointwise

/-- A later tile's product is added to what the block holds. -/
theorem pay2_at (x : Vec Ideal S2048x2816 .bf16) (y : Vec Ideal S2048x512 .f32) (o : Vec Ideal S2816x512 .f32) (i : S2816x512.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S2048x2816 .bf16) : View.ld x (Rect.unit ![0, 0] ![2048, 2816] inb_S2048x2816_S2048x2816_0_0) = x :=
  View.ld_unit_zero (by funext a; fin_cases a <;> rfl) inb_S2048x2816_S2048x2816_0_0 x
theorem ld_y (x : Vec Ideal S2048x512 .f32) : View.ld x (Rect.unit ![0, 0] ![2048, 512] inb_S2048x512_S2048x512_0_0) = x :=
  View.ld_unit_zero (by funext a; fin_cases a <;> rfl) inb_S2048x512_S2048x512_0_0 x
theorem ld_o (x : Vec Ideal S2816x512 .f32) : View.ld x (Rect.unit ![0, 0] ![2816, 512] inb_S2816x512_S2816x512_0_0) = x :=
  View.ld_unit_zero (by funext a; fin_cases a <;> rfl) inb_S2816x512_S2816x512_0_0 x

/-- The first tile of a column block leaves its product. -/
theorem out_A (i : grid0.Coords) (arg2 : Memref sig .tc .vmem S2048x2816 .bf16) (harg2 : arg2.IsWhole) (arg3 : Memref sig .tc .vmem S2048x512 .f32) (harg3 : arg3.IsWhole)
    (arg4 : Memref sig .tc .vmem S2816x512 .f32) (harg4 : arg4.IsWhole) (hc0 : cond0_0 i) (hc1 : ¬cond0_1 i) (x0 : Vec Ideal S2048x2816 .bf16) (x1 : Vec Ideal S2048x512 .f32) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S2816x512_S2816x512_0_0 _

/-- Every later tile adds its product. -/
theorem out_B (i : grid0.Coords) (arg2 : Memref sig .tc .vmem S2048x2816 .bf16) (harg2 : arg2.IsWhole) (arg3 : Memref sig .tc .vmem S2048x512 .f32) (harg3 : arg3.IsWhole)
    (arg4 : Memref sig .tc .vmem S2816x512 .f32) (harg4 : arg4.IsWhole) (hc0 : ¬cond0_0 i) (hc1 : cond0_1 i) (x0 : Vec Ideal S2048x2816 .bf16) (x1 : Vec Ideal S2048x512 .f32)
    (xo : Vec Ideal S2816x512 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S2816x512_S2816x512_0_0 _

/-- One token's share of an entry. -/
def term (k : Fin 2816) (n : Fin 1024) (r : ℕ) : EReal := flat (A0 m c) r k * flat (A1 m c) r n

/-- A tile's product at a grid point. -/
theorem tile_at (t : Fin cfg0.N) (k : Fin 2816) (n : Fin 512) :
    k0_pay1 (F := Ideal) (iblk m c 0 t) (iblk m c 1 t) (ix2 k n) = ∑ r : Fin 2048, term m c k (col t n) (2048 * (t.val % 4) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 2816) (n : Fin 512) : ∀ (t : ℕ) (h : t < cfg0.N), outsAt0 m c t h (ix2 k n)
    = ∑ s ∈ Finset.range (t % 4 + 1), ∑ r : Fin 2048, term m c k (col ⟨t, h⟩ n) (2048 * s + r.val) := by
  intro t
  induction t with
  | zero =>
    intro h
    refine (congrFun ((outsAt0_A m c ⟨0, h⟩ rfl (by show ¬1 ≤ 0 % 4; omega)).trans (out_A c _ _ _ _ _ _ _ _ _ _ _)) (ix2 k n)).trans ?_
    rw [tile_at]
    simp
  | succ t ih =>
    intro h
    by_cases h0 : (t + 1) % 4 = 0
    · refine (congrFun ((outsAt0_A m c ⟨t + 1, h⟩ h0 (by show ¬1 ≤ (t + 1) % 4; omega)).trans (out_A c _ _ _ _ _ _ _ _ _ _ _)) (ix2 k n)).trans ?_
      rw [tile_at]
      show ∑ r : Fin 2048, term m c k (col ⟨t + 1, h⟩ n) (2048 * ((t + 1) % 4) + r.val) = _
      rw [h0]
      simp
    · refine (congrFun ((outsAt0_B m c ⟨t + 1, h⟩ h0 (by show 1 ≤ (t + 1) % 4; omega)).trans (out_B c _ _ _ _ _ _ _ _ _ _ _ _)) (ix2 k n)).trans ?_
      rw [pay2_at, tile_at]
      have e : (t + 1) % 4 = t % 4 + 1 := by omega
      have ec : col ⟨t, by omega⟩ n = col ⟨t + 1, h⟩ n := Fin.ext (by show 512 * (t / 4) + n.val = 512 * ((t + 1) / 4) + n.val; omega)
      show outsAt0 m c t _ (ix2 k n) + _ = _
      rw [ih (by omega), ec]
      show _ + ∑ r : Fin 2048, term m c k (col ⟨t + 1, h⟩ n) (2048 * ((t + 1) % 4) + r.val) = _
      rw [e, Finset.sum_range_succ _ (t % 4 + 1)]

/-- The array that the kernel returns is the gradient. -/
theorem arr_eq : (Gen.dats m 0 c).arrAt 2 cfg0.N = (grad (A0 m c) (A1 m c) : S2816x1024.Idx → EReal) := by
  refine (Gen.dats m 0 c).arrAt_eq_of_cover 2 (grad (A0 m c) (A1 m c) : S2816x1024.Idx → EReal) (fun t hf => ?_) (fun i => ?_)
  · have h3 := (flush0_2 t).mp hf
    obtain ⟨e0, e1⟩ := index2_at t
    rw [Value.flushed2]
    funext y
    have h0 : (y 0).val < 2816 := (y 0).isLt
    have h1 : (y 1).val < 512 := (y 1).isLt
    show outsAt0 m c t.val t.isLt y = grad (A0 m c) (A1 m c) (((cfg0.win 2).blk t).view.emb y)
    have ey : (y : S2816x512.Idx) = ix2 (⟨(y 0).val, h0⟩ : Fin 2816) (⟨(y 1).val, h1⟩ : Fin 512) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 2816) = ⟨(y 0).val, h0⟩ := Fin.ext (by show win0_2.index t (0 : Fin 2) * 2816 + 1 * (y 0).val = (y 0).val; omega)
    have en : (((cfg0.win 2).blk t).view.emb y 1 : Fin 1024) = col t ⟨(y 1).val, h1⟩ := Fin.ext (by show win0_2.index t (1 : Fin 2) * 512 + 1 * (y 1).val = 512 * (t.val / 4) + (y 1).val; omega)
    refine Finset.sum_congr rfl fun r _ => ?_
    exact congrArg₂ (· * ·) (congrArg (flat (A0 m c) r) ek.symm) (congrArg (flat (A1 m c) r) en.symm)
  · have h0 : (i 0).val < 2816 := (i 0).isLt
    have h1 : (i 1).val < 1024 := (i 1).isLt
    obtain ⟨t, ht⟩ : ∃ t : Fin cfg0.N, t.val = 4 * ((i 1).val / 512) + 3 := ⟨⟨4 * ((i 1).val / 512) + 3, lt_of_lt_of_eq (by omega : _ < 8) N_0.symm⟩, rfl⟩
    obtain ⟨e0, e1⟩ := index2_at t
    refine ⟨t, (flush0_2 t).mpr (by omega), Finset.mem_map.mpr ⟨ix2 (⟨(i 0).val, h0⟩ : Fin 2816) (⟨(i 1).val % 512, Nat.mod_lt _ (by norm_num)⟩ : Fin 512), Finset.mem_univ _, ?_⟩⟩
    funext a
    apply Fin.ext
    match a with
    | ⟨0, _⟩ => show win0_2.index t (0 : Fin 2) * 2816 + 1 * (i 0).val = (i 0).val; omega
    | ⟨1, _⟩ => show win0_2.index t (1 : Fin 2) * 512 + 1 * ((i 1).val % 512) = (i 1).val; omega

end

/-! ### The reference -/

/-- The reference's contraction over batch and token is the gradient. -/
theorem ref_eq (x0 : In.Idx → EReal) (x1 : Ct.Idx → EReal) : Cert.ReferenceWDownIdeal.Read.val_main_v3 (F := Ideal) x0 x1 = grad x0 x1 := by
  funext i
  refine (Cert.ReferenceWDownIdeal.Read.val_main_v3_apply (F := Ideal) x0 x1 i).trans ?_
  unfold Cert.ReferenceWDownIdeal.Read.val_main_v2 grad
  pointwise
  refine Finset.sum_congr rfl fun b _ => Finset.sum_congr rfl fun t _ => ?_
  exact mul_comm _ _

end Cert.KernelWDownIdeal.WDown
-- ==== Proof.WOut.lean ====
/- The gradient of the output projection's weights: what the pipelined kernel leaves after its 4 row tiles of 2048 tokens, and that the reference's product is the
   same array. -/
module

public import proofs.«01_k».proof.Proof.Gen.KernelWOutIdeal.Value
public import proofs.«01_k».proof.Proof.Gen.ReferenceWOutIdeal.Run
public import proofs.«01_k».proof.Proof.Gen.ReferenceWOutIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWOutIdeal.WOut

open Idealize.ShloMosaic Idealize.ShloMosaic.TcCoe Idealize.SL.Sem Cert.KernelWOutIdeal Cert.KernelWOutIdeal.Gen Cert.Sums

abbrev In : Shape := ⟨3, ![4, 2048, 1024]⟩
abbrev Ct : Shape := ⟨3, ![4, 2048, 1024]⟩

/-- The weights' gradient: the sum over every token of the input's feature times the output gradient's. -/
def grad (x0 : In.Idx → EReal) (x1 : Ct.Idx → EReal) (i : S1024x1024.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x1024.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x1024.Idx) : (V m c main_v2 : S8192x1024.Idx → EReal) i = flat (A1 m c) (i 0).val (i 1) := by
  have e : (V m c main_v2 : S8192x1024.Idx → EReal) = shapeCast S8192x1024 (A1 m c) shapeCasts_S4x2048x1024_S8192x1024 := by
    unfold_abbrev_sides
    after_results
    rfl
  rw [e]
  exact flat_shapeCast _ _ i

/-- The blocks of a grid point: the row tiles run fastest. -/
theorem index0_at : ∀ t : Fin cfg0.N, win0_0.index t (0 : Fin 2) = t.val % 4 ∧ win0_0.index t (1 : Fin 2) = 0 :=
  (by decide +kernel : ∀ t : Fin grid0.N, _)
theorem index1_at : ∀ t : Fin cfg0.N, win0_1.index t (0 : Fin 2) = t.val % 4 ∧ win0_1.index t (1 : Fin 2) = t.val / 4 :=
  (by decide +kernel : ∀ t : Fin grid0.N, _)
theorem index2_at : ∀ t : Fin cfg0.N, win0_2.index t (0 : Fin 2) = 0 ∧ win0_2.index t (1 : Fin 2) = t.val / 4 :=
  (by decide +kernel : ∀ t : Fin grid0.N, _)

/-- The column of the whole array that column `j` of a point's tile is. -/
def col (t : Fin cfg0.N) (j : Fin 1024) : Fin 1024 := ⟨1024 * (t.val / 4) + j.val, by have : t.val < 4 := lt_of_lt_of_eq t.isLt N_0; omega⟩

/-- A point's input block: the rows of its tile. -/
theorem x_in (t : Fin cfg0.N) (r : Fin 2048) (j : Fin 1024) : (iblk m c 0 t : S2048x1024.Idx → EReal) (ix2 r j) = flat (A0 m c) (2048 * (t.val % 4) + r.val) j := by
  obtain ⟨e0, e1⟩ := index0_at t
  refine Eq.trans ?_ (V_x m c (ix2 (⟨2048 * (t.val % 4) + r.val, by omega⟩ : Fin 8192) j))
  unfold iblk
  show (V m c main_v1 : S8192x1024.Idx → EReal) _ = _
  congr 1
  funext a
  apply Fin.ext
  match a with
  | ⟨0, _⟩ => show win0_0.index t (0 : Fin 2) * 2048 + 1 * r.val = 2048 * (t.val % 4) + r.val; omega
  | ⟨1, _⟩ => show win0_0.index t (1 : Fin 2) * 1024 + 1 * j.val = j.val; omega

/-- A point's block of the output gradient. -/
theorem y_in (t : Fin cfg0.N) (r : Fin 2048) (j : Fin 1024) : (iblk m c 1 t : S2048x1024.Idx → EReal) (ix2 r j) = flat (A1 m c) (2048 * (t.val % 4) + r.val) (col t j) := by
  obtain ⟨e0, e1⟩ := index1_at t
  refine Eq.trans ?_ (V_y m c (ix2 (⟨2048 * (t.val % 4) + r.val, by omega⟩ : Fin 8192) (col t j)))
  unfold iblk
  show (V m c main_v2 : S8192x1024.Idx → EReal) _ = _
  congr 1
  funext a
  apply Fin.ext
  match a with
  | ⟨0, _⟩ => show win0_1.index t (0 : Fin 2) * 2048 + 1 * r.val = 2048 * (t.val % 4) + r.val; omega
  | ⟨1, _⟩ => show win0_1.index t (1 : Fin 2) * 1024 + 1 * j.val = 1024 * (t.val / 4) + j.val; omega

/-- One tile's product. -/
theorem pay1_at (x : Vec Ideal S2048x1024 .bf16) (y : Vec Ideal S2048x1024 .f32) (k : Fin 1024) (n : Fin 1024) :
    k0_pay1 (F := Ideal) x y (ix2 k n) = ∑ r : Fin 2048, x (ix2 r k) * y (ix2 r n) := by
  unfold k0_pay1
  pointwise

/-- A later tile's product is added to what the block holds. -/
theorem pay2_at (x : Vec Ideal S2048x1024 .bf16) (y : Vec Ideal S2048x1024 .f32) (o : Vec Ideal S1024x1024 .f32) (i : S1024x1024.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S2048x1024 .bf16) : View.ld x (Rect.unit ![0, 0] ![2048, 1024] inb_S2048x1024_S2048x1024_0_0) = x :=
  View.ld_unit_zero (by funext a; fin_cases a <;> rfl) inb_S2048x1024_S2048x1024_0_0 x
theorem ld_y (x : Vec Ideal S2048x1024 .f32) : View.ld x (Rect.unit ![0, 0] ![2048, 1024] inb_S2048x1024_S2048x1024_0_0) = x :=
  View.ld_unit_zero (by funext a; fin_cases a <;> rfl) inb_S2048x1024_S2048x1024_0_0 x
theorem ld_o (x : Vec Ideal S1024x1024 .f32) : View.ld x (Rect.unit ![0, 0] ![1024, 1024] inb_S1024x1024_S1024x1024_0_0) = x :=
  View.ld_unit_zero (by funext a; fin_cases a <;> rfl) inb_S1024x1024_S1024x1024_0_0 x

/-- The first tile of a column block leaves its product. -/
theorem out_A (i : grid0.Coords) (arg2 : Memref sig .tc .vmem S2048x1024 .bf16) (harg2 : arg2.IsWhole) (arg3 : Memref sig .tc .vmem S2048x1024 .f32) (harg3 : arg3.IsWhole)
    (arg4 : Memref sig .tc .vmem S1024x1024 .f32) (harg4 : arg4.IsWhole) (hc0 : cond0_0 i) (hc1 : ¬cond0_1 i) (x0 : Vec Ideal S2048x1024 .bf16) (x1 : Vec Ideal S2048x1024 .f32) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x1024_S1024x1024_0_0 _

/-- Every later tile adds its product. -/
theorem out_B (i : grid0.Coords) (arg2 : Memref sig .tc .vmem S2048x1024 .bf16) (harg2 : arg2.IsWhole) (arg3 : Memref sig .tc .vmem S2048x1024 .f32) (harg3 : arg3.IsWhole)
    (arg4 : Memref sig .tc .vmem S1024x1024 .f32) (harg4 : arg4.IsWhole) (hc0 : ¬cond0_0 i) (hc1 : cond0_1 i) (x0 : Vec Ideal S2048x1024 .bf16) (x1 : Vec Ideal S2048x1024 .f32)
    (xo : Vec Ideal S1024x1024 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x1024_S1024x1024_0_0 _

/-- One token's share of an entry. -/
def term (k : Fin 1024) (n : Fin 1024) (r : ℕ) : EReal := flat (A0 m c) r k * flat (A1 m c) r n

/-- A tile's product at a grid point. -/
theorem tile_at (t : Fin cfg0.N) (k : Fin 1024) (n : Fin 1024) :
    k0_pay1 (F := Ideal) (iblk m c 0 t) (iblk m c 1 t) (ix2 k n) = ∑ r : Fin 2048, term m c k (col t n) (2048 * (t.val % 4) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 1024) : ∀ (t : ℕ) (h : t < cfg0.N), outsAt0 m c t h (ix2 k n)
    = ∑ s ∈ Finset.range (t % 4 + 1), ∑ r : Fin 2048, term m c k (col ⟨t, h⟩ n) (2048 * s + r.val) := by
  intro t
  induction t with
  | zero =>
    intro h
    refine (congrFun ((outsAt0_A m c ⟨0, h⟩ rfl (by show ¬1 ≤ 0; omega)).trans (out_A c _ _ _ _ _ _ _ _ _ _ _)) (ix2 k n)).trans ?_
    rw [tile_at]
    simp
  | succ t ih =>
    intro h
    by_cases h0 : (t + 1) % 4 = 0
    · exact absurd (lt_of_lt_of_eq h N_0) (by omega)
    · refine (congrFun ((outsAt0_B m c ⟨t + 1, h⟩ h0 (by show 1 ≤ (t + 1); omega)).trans (out_B c _ _ _ _ _ _ _ _ _ _ _ _)) (ix2 k n)).trans ?_
      rw [pay2_at, tile_at]
      have e : (t + 1) % 4 = t % 4 + 1 := by omega
      have ec : col ⟨t, by omega⟩ n = col ⟨t + 1, h⟩ n := Fin.ext (by show 1024 * (t / 4) + n.val = 1024 * ((t + 1) / 4) + n.val; omega)
      show outsAt0 m c t _ (ix2 k n) + _ = _
      rw [ih (by omega), ec]
      show _ + ∑ r : Fin 2048, term m c k (col ⟨t + 1, h⟩ n) (2048 * ((t + 1) % 4) + r.val) = _
      rw [e, Finset.sum_range_succ _ (t % 4 + 1)]

/-- The array that the kernel returns is the gradient. -/
theorem arr_eq : (Gen.dats m 0 c).arrAt 2 cfg0.N = (grad (A0 m c) (A1 m c) : S1024x1024.Idx → EReal) := by
  refine (Gen.dats m 0 c).arrAt_eq_of_cover 2 (grad (A0 m c) (A1 m c) : S1024x1024.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 1024 := (y 1).isLt
    show outsAt0 m c t.val t.isLt y = grad (A0 m c) (A1 m c) (((cfg0.win 2).blk t).view.emb y)
    have ey : (y : S1024x1024.Idx) = ix2 (⟨(y 0).val, h0⟩ : Fin 1024) (⟨(y 1).val, h1⟩ : Fin 1024) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 1024) = col t ⟨(y 1).val, h1⟩ := Fin.ext (by show win0_2.index t (1 : Fin 2) * 1024 + 1 * (y 1).val = 1024 * (t.val / 4) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 1024 := (i 1).isLt
    obtain ⟨t, ht⟩ : ∃ t : Fin cfg0.N, t.val = 4 * ((i 1).val / 1024) + 3 := ⟨⟨4 * ((i 1).val / 1024) + 3, lt_of_lt_of_eq (by omega : _ < 4) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 1024, Nat.mod_lt _ (by norm_num)⟩ : Fin 1024), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 1024 + 1 * ((i 1).val % 1024) = (i 1).val; omega

end

/-! ### The reference -/

/-- The reference's contraction over batch and token is the gradient. -/
theorem ref_eq (x0 : In.Idx → EReal) (x1 : Ct.Idx → EReal) : Cert.ReferenceWOutIdeal.Read.val_main_v3 (F := Ideal) x0 x1 = grad x0 x1 := by
  funext i
  refine (Cert.ReferenceWOutIdeal.Read.val_main_v3_apply (F := Ideal) x0 x1 i).trans ?_
  unfold Cert.ReferenceWOutIdeal.Read.val_main_v2 grad
  pointwise
  refine Finset.sum_congr rfl fun b _ => Finset.sum_congr rfl fun t _ => ?_
  exact mul_comm _ _

end Cert.KernelWOutIdeal.WOut
-- ==== Proof.WBr.lean ====
/- The gradient of one branch projection's weights: what the pipelined kernel leaves after its 4 row tiles of 2048 tokens, and that the reference's product is the
   same array. -/
module

public import proofs.«01_k».proof.Proof.Gen.KernelWBrIdeal.Value
public import proofs.«01_k».proof.Proof.Gen.ReferenceWBrIdeal.Run
public import proofs.«01_k».proof.Proof.Gen.ReferenceWBrIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWBrIdeal.WBr

open Idealize.ShloMosaic Idealize.ShloMosaic.TcCoe Idealize.SL.Sem Cert.KernelWBrIdeal Cert.KernelWBrIdeal.Gen Cert.Sums

abbrev In : Shape := ⟨3, ![4, 2048, 512]⟩
abbrev Ct : Shape := ⟨3, ![4, 2048, 1024]⟩

/-- The weights' gradient: the sum over every token of the input's feature times the output gradient's. -/
def grad (x0 : In.Idx → EReal) (x1 : Ct.Idx → EReal) (i : S512x1024.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S512x1024.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x512.Idx) : (V m c main_v1 : S8192x512.Idx → EReal) i = flat (A0 m c) (i 0).val (i 1) := by
  have e : (V m c main_v1 : S8192x512.Idx → EReal) = shapeCast S8192x512 (A0 m c) shapeCasts_S4x2048x512_S8192x512 := by
    unfold_abbrev_sides
    after_results
    rfl
  rw [e]
  exact flat_shapeCast _ _ i

/-- The output gradient likewise. -/
theorem V_y (i : S8192x1024.Idx) : (V m c main_v3 : S8192x1024.Idx → EReal) i = flat (A1 m c) (i 0).val (i 1) := by
  have e : (V m c main_v3 : S8192x1024.Idx → EReal) = shapeCast S8192x1024 (A1 m c) shapeCasts_S4x2048x1024_S8192x1024 := by
    unfold_abbrev_sides
    after_results
    rfl
  rw [e]
  exact flat_shapeCast _ _ i

/-- The blocks of a grid point: the row tiles run fastest. -/
theorem index0_at : ∀ t : Fin cfg0.N, win0_0.index t (0 : Fin 2) = t.val % 4 ∧ win0_0.index t (1 : Fin 2) = 0 :=
  (by decide +kernel : ∀ t : Fin grid0.N, _)
theorem index1_at : ∀ t : Fin cfg0.N, win0_1.index t (0 : Fin 2) = t.val % 4 ∧ win0_1.index t (1 : Fin 2) = t.val / 4 :=
  (by decide +kernel : ∀ t : Fin grid0.N, _)
theorem index2_at : ∀ t : Fin cfg0.N, win0_2.index t (0 : Fin 2) = 0 ∧ win0_2.index t (1 : Fin 2) = t.val / 4 :=
  (by decide +kernel : ∀ t : Fin grid0.N, _)

/-- The column of the whole array that column `j` of a point's tile is. -/
def col (t : Fin cfg0.N) (j : Fin 1024) : Fin 1024 := ⟨1024 * (t.val / 4) + j.val, by have : t.val < 4 := lt_of_lt_of_eq t.isLt N_0; omega⟩

/-- A point's input block: the rows of its tile. -/
theorem x_in (t : Fin cfg0.N) (r : Fin 2048) (j : Fin 512) : (iblk m c 0 t : S2048x512.Idx → EReal) (ix2 r j) = flat (A0 m c) (2048 * (t.val % 4) + r.val) j := by
  obtain ⟨e0, e1⟩ := index0_at t
  refine Eq.trans ?_ (V_x m c (ix2 (⟨2048 * (t.val % 4) + r.val, by omega⟩ : Fin 8192) j))
  unfold iblk
  show (V m c main_v1 : S8192x512.Idx → EReal) _ = _
  congr 1
  funext a
  apply Fin.ext
  match a with
  | ⟨0, _⟩ => show win0_0.index t (0 : Fin 2) * 2048 + 1 * r.val = 2048 * (t.val % 4) + r.val; omega
  | ⟨1, _⟩ => show win0_0.index t (1 : Fin 2) * 512 + 1 * j.val = j.val; omega

/-- A point's block of the output gradient. -/
theorem y_in (t : Fin cfg0.N) (r : Fin 2048) (j : Fin 1024) : (iblk m c 1 t : S2048x1024.Idx → EReal) (ix2 r j) = flat (A1 m c) (2048 * (t.val % 4) + r.val) (col t j) := by
  obtain ⟨e0, e1⟩ := index1_at t
  refine Eq.trans ?_ (V_y m c (ix2 (⟨2048 * (t.val % 4) + r.val, by omega⟩ : Fin 8192) (col t j)))
  unfold iblk
  show (V m c main_v3 : S8192x1024.Idx → EReal) _ = _
  congr 1
  funext a
  apply Fin.ext
  match a with
  | ⟨0, _⟩ => show win0_1.index t (0 : Fin 2) * 2048 + 1 * r.val = 2048 * (t.val % 4) + r.val; omega
  | ⟨1, _⟩ => show win0_1.index t (1 : Fin 2) * 1024 + 1 * j.val = 1024 * (t.val / 4) + j.val; omega

/-- One tile's product. -/
theorem pay1_at (x : Vec Ideal S2048x512 .bf16) (y : Vec Ideal S2048x1024 .bf16) (k : Fin 512) (n : Fin 1024) :
    k0_pay1 (F := Ideal) x y (ix2 k n) = ∑ r : Fin 2048, x (ix2 r k) * y (ix2 r n) := by
  unfold k0_pay1
  pointwise

/-- A later tile's product is added to what the block holds. -/
theorem pay2_at (x : Vec Ideal S2048x512 .bf16) (y : Vec Ideal S2048x1024 .bf16) (o : Vec Ideal S512x1024 .f32) (i : S512x1024.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S2048x512 .bf16) : View.ld x (Rect.unit ![0, 0] ![2048, 512] inb_S2048x512_S2048x512_0_0) = x :=
  View.ld_unit_zero (by funext a; fin_cases a <;> rfl) inb_S2048x512_S2048x512_0_0 x
theorem ld_y (x : Vec Ideal S2048x1024 .bf16) : View.ld x (Rect.unit ![0, 0] ![2048, 1024] inb_S2048x1024_S2048x1024_0_0) = x :=
  View.ld_unit_zero (by funext a; fin_cases a <;> rfl) inb_S2048x1024_S2048x1024_0_0 x
theorem ld_o (x : Vec Ideal S512x1024 .f32) : View.ld x (Rect.unit ![0, 0] ![512, 1024] inb_S512x1024_S512x1024_0_0) = x :=
  View.ld_unit_zero (by funext a; fin_cases a <;> rfl) inb_S512x1024_S512x1024_0_0 x

/-- The first tile of a column block leaves its product. -/
theorem out_A (i : grid0.Coords) (arg2 : Memref sig .tc .vmem S2048x512 .bf16) (harg2 : arg2.IsWhole) (arg3 : Memref sig .tc .vmem S2048x1024 .bf16) (harg3 : arg3.IsWhole)
    (arg4 : Memref sig .tc .vmem S512x1024 .f32) (harg4 : arg4.IsWhole) (hc0 : cond0_0 i) (hc1 : ¬cond0_1 i) (x0 : Vec Ideal S2048x512 .bf16) (x1 : Vec Ideal S2048x1024 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S512x1024_S512x1024_0_0 _

/-- Every later tile adds its product. -/
theorem out_B (i : grid0.Coords) (arg2 : Memref sig .tc .vmem S2048x512 .bf16) (harg2 : arg2.IsWhole) (arg3 : Memref sig .tc .vmem S2048x1024 .bf16) (harg3 : arg3.IsWhole)
    (arg4 : Memref sig .tc .vmem S512x1024 .f32) (harg4 : arg4.IsWhole) (hc0 : ¬cond0_0 i) (hc1 : cond0_1 i) (x0 : Vec Ideal S2048x512 .bf16) (x1 : Vec Ideal S2048x1024 .bf16)
    (xo : Vec Ideal S512x1024 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S512x1024_S512x1024_0_0 _

/-- One token's share of an entry. -/
def term (k : Fin 512) (n : Fin 1024) (r : ℕ) : EReal := flat (A0 m c) r k * flat (A1 m c) r n

/-- A tile's product at a grid point. -/
theorem tile_at (t : Fin cfg0.N) (k : Fin 512) (n : Fin 1024) :
    k0_pay1 (F := Ideal) (iblk m c 0 t) (iblk m c 1 t) (ix2 k n) = ∑ r : Fin 2048, term m c k (col t n) (2048 * (t.val % 4) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 512) (n : Fin 1024) : ∀ (t : ℕ) (h : t < cfg0.N), outsAt0 m c t h (ix2 k n)
    = ∑ s ∈ Finset.range (t % 4 + 1), ∑ r : Fin 2048, term m c k (col ⟨t, h⟩ n) (2048 * s + r.val) := by
  intro t
  induction t with
  | zero =>
    intro h
    refine (congrFun ((outsAt0_A m c ⟨0, h⟩ rfl (by show ¬1 ≤ 0; omega)).trans (out_A c _ _ _ _ _ _ _ _ _ _ _)) (ix2 k n)).trans ?_
    rw [tile_at]
    simp
  | succ t ih =>
    intro h
    by_cases h0 : (t + 1) % 4 = 0
    · exact absurd (lt_of_lt_of_eq h N_0) (by omega)
    · refine (congrFun ((outsAt0_B m c ⟨t + 1, h⟩ h0 (by show 1 ≤ (t + 1); omega)).trans (out_B c _ _ _ _ _ _ _ _ _ _ _ _)) (ix2 k n)).trans ?_
      rw [pay2_at, tile_at]
      have e : (t + 1) % 4 = t % 4 + 1 := by omega
      have ec : col ⟨t, by omega⟩ n = col ⟨t + 1, h⟩ n := Fin.ext (by show 1024 * (t / 4) + n.val = 1024 * ((t + 1) / 4) + n.val; omega)
      show outsAt0 m c t _ (ix2 k n) + _ = _
      rw [ih (by omega), ec]
      show _ + ∑ r : Fin 2048, term m c k (col ⟨t + 1, h⟩ n) (2048 * ((t + 1) % 4) + r.val) = _
      rw [e, Finset.sum_range_succ _ (t % 4 + 1)]

/-- The array that the kernel returns is the gradient. -/
theorem arr_eq : (Gen.dats m 0 c).arrAt 2 cfg0.N = (grad (A0 m c) (A1 m c) : S512x1024.Idx → EReal) := by
  refine (Gen.dats m 0 c).arrAt_eq_of_cover 2 (grad (A0 m c) (A1 m c) : S512x1024.Idx → EReal) (fun t hf => ?_) (fun i => ?_)
  · have h3 := (flush0_2 t).mp hf
    obtain ⟨e0, e1⟩ := index2_at t
    rw [Value.flushed2]
    funext y
    have h0 : (y 0).val < 512 := (y 0).isLt
    have h1 : (y 1).val < 1024 := (y 1).isLt
    show outsAt0 m c t.val t.isLt y = grad (A0 m c) (A1 m c) (((cfg0.win 2).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 512) = ⟨(y 0).val, h0⟩ := Fin.ext (by show win0_2.index t (0 : Fin 2) * 512 + 1 * (y 0).val = (y 0).val; omega)
    have en : (((cfg0.win 2).blk t).view.emb y 1 : Fin 1024) = col t ⟨(y 1).val, h1⟩ := Fin.ext (by show win0_2.index t (1 : Fin 2) * 1024 + 1 * (y 1).val = 1024 * (t.val / 4) + (y 1).val; omega)
    refine Finset.sum_congr rfl fun r _ => ?_
    exact congrArg₂ (· * ·) (congrArg (flat (A0 m c) r) ek.symm) (congrArg (flat (A1 m c) r) en.symm)
  · have h0 : (i 0).val < 512 := (i 0).isLt
    have h1 : (i 1).val < 1024 := (i 1).isLt
    obtain ⟨t, ht⟩ : ∃ t : Fin cfg0.N, t.val = 4 * ((i 1).val / 1024) + 3 := ⟨⟨4 * ((i 1).val / 1024) + 3, lt_of_lt_of_eq (by omega : _ < 4) N_0.symm⟩, rfl⟩
    obtain ⟨e0, e1⟩ := index2_at t
    refine ⟨t, (flush0_2 t).mpr (by omega), Finset.mem_map.mpr ⟨ix2 (⟨(i 0).val, h0⟩ : Fin 512) (⟨(i 1).val % 1024, Nat.mod_lt _ (by norm_num)⟩ : Fin 1024), Finset.mem_univ _, ?_⟩⟩
    funext a
    apply Fin.ext
    match a with
    | ⟨0, _⟩ => show win0_2.index t (0 : Fin 2) * 512 + 1 * (i 0).val = (i 0).val; omega
    | ⟨1, _⟩ => show win0_2.index t (1 : Fin 2) * 1024 + 1 * ((i 1).val % 1024) = (i 1).val; omega

end

/-! ### The reference -/

/-- The reference's contraction over batch and token is the gradient. -/
theorem ref_eq (x0 : In.Idx → EReal) (x1 : Ct.Idx → EReal) : Cert.ReferenceWBrIdeal.Read.val_main_v3 (F := Ideal) x0 x1 = grad x0 x1 := by
  funext i
  refine (Cert.ReferenceWBrIdeal.Read.val_main_v3_apply (F := Ideal) x0 x1 i).trans ?_
  unfold Cert.ReferenceWBrIdeal.Read.val_main_v2 grad
  pointwise
  refine Finset.sum_congr rfl fun b _ => Finset.sum_congr rfl fun t _ => ?_
  exact mul_comm _ _

end Cert.KernelWBrIdeal.WBr
-- ==== Proof.WInFox.lean ====
/- The gradient of the input projection's weights in the forgetting attention's columns: what the pipelined kernel leaves after its 2 row tiles of 4096 tokens, and that the reference's product is the
   same array. -/
module

public import proofs.«01_k».proof.Proof.Gen.KernelWInFoxIdeal.Value
public import proofs.«01_k».proof.Proof.Gen.ReferenceWInFoxIdeal.Run
public import proofs.«01_k».proof.Proof.Gen.ReferenceWInFoxIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWInFoxIdeal.WInFox

open Idealize.ShloMosaic Idealize.ShloMosaic.TcCoe Idealize.SL.Sem Cert.KernelWInFoxIdeal Cert.KernelWInFoxIdeal.Gen Cert.Sums

abbrev In : Shape := ⟨3, ![4, 2048, 1024]⟩
abbrev Ct : Shape := ⟨3, ![4, 2048, 1536]⟩

/-- The weights' gradient: the sum over every token of the input's feature times the output gradient's. -/
def grad (x0 : In.Idx → EReal) (x1 : Ct.Idx → EReal) (i : S1024x1536.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x1536.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x1536.Idx) : (V m c main_v3 : S8192x1536.Idx → EReal) i = flat (A1 m c) (i 0).val (i 1) := by
  have e : (V m c main_v3 : S8192x1536.Idx → EReal) = shapeCast S8192x1536 (A1 m c) shapeCasts_S4x2048x1536_S8192x1536 := by
    unfold_abbrev_sides
    after_results
    rfl
  rw [e]
  exact flat_shapeCast _ _ i

/-- The blocks of a grid point: the row tiles run fastest. -/
theorem index0_at : ∀ t : Fin cfg0.N, win0_0.index t (0 : Fin 2) = t.val % 2 ∧ win0_0.index t (1 : Fin 2) = 0 :=
  (by decide +kernel : ∀ t : Fin grid0.N, _)
theorem index1_at : ∀ t : Fin cfg0.N, win0_1.index t (0 : Fin 2) = t.val % 2 ∧ win0_1.index t (1 : Fin 2) = t.val / 2 :=
  (by decide +kernel : ∀ t : Fin grid0.N, _)
theorem index2_at : ∀ t : Fin cfg0.N, win0_2.index t (0 : Fin 2) = 0 ∧ win0_2.index t (1 : Fin 2) = t.val / 2 :=
  (by decide +kernel : ∀ t : Fin grid0.N, _)

/-- The column of the whole array that column `j` of a point's tile is. -/
def col (t : Fin cfg0.N) (j : Fin 768) : Fin 1536 := ⟨768 * (t.val / 2) + j.val, by have : t.val < 4 := lt_of_lt_of_eq t.isLt N_0; omega⟩

/-- A point's input block: the rows of its tile. -/
theorem x_in (t : Fin cfg0.N) (r : Fin 4096) (j : Fin 1024) : (iblk m c 0 t : S4096x1024.Idx → EReal) (ix2 r j) = flat (A0 m c) (4096 * (t.val % 2) + r.val) j := by
  obtain ⟨e0, e1⟩ := index0_at t
  refine Eq.trans ?_ (V_x m c (ix2 (⟨4096 * (t.val % 2) + r.val, by omega⟩ : Fin 8192) j))
  unfold iblk
  show (V m c main_v1 : S8192x1024.Idx → EReal) _ = _
  congr 1
  funext a
  apply Fin.ext
  match a with
  | ⟨0, _⟩ => show win0_0.index t (0 : Fin 2) * 4096 + 1 * r.val = 4096 * (t.val % 2) + r.val; omega
  | ⟨1, _⟩ => show win0_0.index t (1 : Fin 2) * 1024 + 1 * j.val = j.val; omega

/-- A point's block of the output gradient. -/
theorem y_in (t : Fin cfg0.N) (r : Fin 4096) (j : Fin 768) : (iblk m c 1 t : S4096x768.Idx → EReal) (ix2 r j) = flat (A1 m c) (4096 * (t.val % 2) + r.val) (col t j) := by
  obtain ⟨e0, e1⟩ := index1_at t
  refine Eq.trans ?_ (V_y m c (ix2 (⟨4096 * (t.val % 2) + r.val, by omega⟩ : Fin 8192) (col t j)))
  unfold iblk
  show (V m c main_v3 : S8192x1536.Idx → EReal) _ = _
  congr 1
  funext a
  apply Fin.ext
  match a with
  | ⟨0, _⟩ => show win0_1.index t (0 : Fin 2) * 4096 + 1 * r.val = 4096 * (t.val % 2) + r.val; omega
  | ⟨1, _⟩ => show win0_1.index t (1 : Fin 2) * 768 + 1 * j.val = 768 * (t.val / 2) + j.val; omega

/-- One tile's product. -/
theorem pay1_at (x : Vec Ideal S4096x1024 .bf16) (y : Vec Ideal S4096x768 .bf16) (k : Fin 1024) (n : Fin 768) :
    k0_pay1 (F := Ideal) x y (ix2 k n) = ∑ r : Fin 4096, x (ix2 r k) * y (ix2 r n) := by
  unfold k0_pay1
  pointwise

/-- A later tile's product is added to what the block holds. -/
theorem pay2_at (x : Vec Ideal S4096x1024 .bf16) (y : Vec Ideal S4096x768 .bf16) (o : Vec Ideal S1024x768 .f32) (i : S1024x768.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_y (x : Vec Ideal S4096x768 .bf16) : View.ld x (Rect.unit ![0, 0] ![4096, 768] inb_S4096x768_S4096x768_0_0) = x :=
  View.ld_unit_zero (by funext a; fin_cases a <;> rfl) inb_S4096x768_S4096x768_0_0 x
theorem ld_o (x : Vec Ideal S1024x768 .f32) : View.ld x (Rect.unit ![0, 0] ![1024, 768] inb_S1024x768_S1024x768_0_0) = x :=
  View.ld_unit_zero (by funext a; fin_cases a <;> rfl) inb_S1024x768_S1024x768_0_0 x

/-- The first tile of a column block leaves its product. -/
theorem out_A (i : grid0.Coords) (arg2 : Memref sig .tc .vmem S4096x1024 .bf16) (harg2 : arg2.IsWhole) (arg3 : Memref sig .tc .vmem S4096x768 .bf16) (harg3 : arg3.IsWhole)
    (arg4 : Memref sig .tc .vmem S1024x768 .f32) (harg4 : arg4.IsWhole) (hc0 : cond0_0 i) (hc1 : ¬cond0_1 i) (x0 : Vec Ideal S4096x1024 .bf16) (x1 : Vec Ideal S4096x768 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x768_S1024x768_0_0 _

/-- Every later tile adds its product. -/
theorem out_B (i : grid0.Coords) (arg2 : Memref sig .tc .vmem S4096x1024 .bf16) (harg2 : arg2.IsWhole) (arg3 : Memref sig .tc .vmem S4096x768 .bf16) (harg3 : arg3.IsWhole)
    (arg4 : Memref sig .tc .vmem S1024x768 .f32) (harg4 : arg4.IsWhole) (hc0 : ¬cond0_0 i) (hc1 : cond0_1 i) (x0 : Vec Ideal S4096x1024 .bf16) (x1 : Vec Ideal S4096x768 .bf16)
    (xo : Vec Ideal S1024x768 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x768_S1024x768_0_0 _

/-- One token's share of an entry. -/
def term (k : Fin 1024) (n : Fin 1536) (r : ℕ) : EReal := flat (A0 m c) r k * flat (A1 m c) r n

/-- A tile's product at a grid point. -/
theorem tile_at (t : Fin cfg0.N) (k : Fin 1024) (n : Fin 768) :
    k0_pay1 (F := Ideal) (iblk m c 0 t) (iblk m c 1 t) (ix2 k n) = ∑ r : Fin 4096, term m c k (col t n) (4096 * (t.val % 2) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 768) : ∀ (t : ℕ) (h : t < cfg0.N), outsAt0 m c t h (ix2 k n)
    = ∑ s ∈ Finset.range (t % 2 + 1), ∑ r : Fin 4096, term m c k (col ⟨t, h⟩ n) (4096 * s + r.val) := by
  intro t
  induction t with
  | zero =>
    intro h
    refine (congrFun ((outsAt0_A m c ⟨0, h⟩ rfl (by show ¬0 % 2 = 1; omega)).trans (out_A c _ _ _ _ _ _ _ _ _ _ _)) (ix2 k n)).trans ?_
    rw [tile_at]
    simp
  | succ t ih =>
    intro h
    by_cases h0 : (t + 1) % 2 = 0
    · refine (congrFun ((outsAt0_A m c ⟨t + 1, h⟩ h0 (by show ¬(t + 1) % 2 = 1; omega)).trans (out_A c _ _ _ _ _ _ _ _ _ _ _)) (ix2 k n)).trans ?_
      rw [tile_at]
      show ∑ r : Fin 4096, term m c k (col ⟨t + 1, h⟩ n) (4096 * ((t + 1) % 2) + r.val) = _
      rw [h0]
      simp
    · refine (congrFun ((outsAt0_B m c ⟨t + 1, h⟩ h0 (by show (t + 1) % 2 = 1; omega)).trans (out_B c _ _ _ _ _ _ _ _ _ _ _ _)) (ix2 k n)).trans ?_
      rw [pay2_at, tile_at]
      have e : (t + 1) % 2 = t % 2 + 1 := by omega
      have ec : col ⟨t, by omega⟩ n = col ⟨t + 1, h⟩ n := Fin.ext (by show 768 * (t / 2) + n.val = 768 * ((t + 1) / 2) + n.val; omega)
      show outsAt0 m c t _ (ix2 k n) + _ = _
      rw [ih (by omega), ec]
      show _ + ∑ r : Fin 4096, term m c k (col ⟨t + 1, h⟩ n) (4096 * ((t + 1) % 2) + r.val) = _
      rw [e, Finset.sum_range_succ _ (t % 2 + 1)]

/-- The array that the kernel returns is the gradient. -/
theorem arr_eq : (Gen.dats m 0 c).arrAt 2 cfg0.N = (grad (A0 m c) (A1 m c) : S1024x1536.Idx → EReal) := by
  refine (Gen.dats m 0 c).arrAt_eq_of_cover 2 (grad (A0 m c) (A1 m c) : S1024x1536.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 768 := (y 1).isLt
    show outsAt0 m c t.val t.isLt y = grad (A0 m c) (A1 m c) (((cfg0.win 2).blk t).view.emb y)
    have ey : (y : S1024x768.Idx) = ix2 (⟨(y 0).val, h0⟩ : Fin 1024) (⟨(y 1).val, h1⟩ : Fin 768) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 1536) = col t ⟨(y 1).val, h1⟩ := Fin.ext (by show win0_2.index t (1 : Fin 2) * 768 + 1 * (y 1).val = 768 * (t.val / 2) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 1536 := (i 1).isLt
    obtain ⟨t, ht⟩ : ∃ t : Fin cfg0.N, t.val = 2 * ((i 1).val / 768) + 1 := ⟨⟨2 * ((i 1).val / 768) + 1, lt_of_lt_of_eq (by omega : _ < 4) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 768, Nat.mod_lt _ (by norm_num)⟩ : Fin 768), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 768 + 1 * ((i 1).val % 768) = (i 1).val; omega

end

/-! ### The reference -/

/-- The reference's contraction over batch and token is the gradient. -/
theorem ref_eq (x0 : In.Idx → EReal) (x1 : Ct.Idx → EReal) : Cert.ReferenceWInFoxIdeal.Read.val_main_v3 (F := Ideal) x0 x1 = grad x0 x1 := by
  funext i
  refine (Cert.ReferenceWInFoxIdeal.Read.val_main_v3_apply (F := Ideal) x0 x1 i).trans ?_
  unfold Cert.ReferenceWInFoxIdeal.Read.val_main_v2 grad
  pointwise
  refine Finset.sum_congr rfl fun b _ => Finset.sum_congr rfl fun t _ => ?_
  exact mul_comm _ _

end Cert.KernelWInFoxIdeal.WInFox
-- ==== Proof.WInMq.lean ====
/- The gradient of the input projection's weights in the memory queries' columns: what the pipelined kernel leaves after its 2 row tiles of 4096 tokens, and that the reference's product is the
   same array. -/
module

public import proofs.«01_k».proof.Proof.Gen.KernelWInMqIdeal.Value
public import proofs.«01_k».proof.Proof.Gen.ReferenceWInMqIdeal.Run
public import proofs.«01_k».proof.Proof.Gen.ReferenceWInMqIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWInMqIdeal.WInMq

open Idealize.ShloMosaic Idealize.ShloMosaic.TcCoe Idealize.SL.Sem Cert.KernelWInMqIdeal Cert.KernelWInMqIdeal.Gen Cert.Sums

abbrev In : Shape := ⟨3, ![4, 2048, 1024]⟩
abbrev Ct : Shape := ⟨3, ![4, 2048, 512]⟩

/-- The weights' gradient: the sum over every token of the input's feature times the output gradient's. -/
def grad (x0 : In.Idx → EReal) (x1 : Ct.Idx → EReal) (i : S1024x512.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x512.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x512.Idx) : (V m c main_v3 : S8192x512.Idx → EReal) i = flat (A1 m c) (i 0).val (i 1) := by
  have e : (V m c main_v3 : S8192x512.Idx → EReal) = shapeCast S8192x512 (A1 m c) shapeCasts_S4x2048x512_S8192x512 := by
    unfold_abbrev_sides
    after_results
    rfl
  rw [e]
  exact flat_shapeCast _ _ i

/-- The blocks of a grid point: the row tiles run fastest. -/
theorem index0_at : ∀ t : Fin cfg0.N, win0_0.index t (0 : Fin 2) = t.val % 2 ∧ win0_0.index t (1 : Fin 2) = 0 :=
  (by decide +kernel : ∀ t : Fin grid0.N, _)
theorem index1_at : ∀ t : Fin cfg0.N, win0_1.index t (0 : Fin 2) = t.val % 2 ∧ win0_1.index t (1 : Fin 2) = t.val / 2 :=
  (by decide +kernel : ∀ t : Fin grid0.N, _)
theorem index2_at : ∀ t : Fin cfg0.N, win0_2.index t (0 : Fin 2) = 0 ∧ win0_2.index t (1 : Fin 2) = t.val / 2 :=
  (by decide +kernel : ∀ t : Fin grid0.N, _)

/-- The column of the whole array that column `j` of a point's tile is. -/
def col (t : Fin cfg0.N) (j : Fin 512) : Fin 512 := ⟨512 * (t.val / 2) + j.val, by have : t.val < 2 := lt_of_lt_of_eq t.isLt N_0; omega⟩

/-- A point's input block: the rows of its tile. -/
theorem x_in (t : Fin cfg0.N) (r : Fin 4096) (j : Fin 1024) : (iblk m c 0 t : S4096x1024.Idx → EReal) (ix2 r j) = flat (A0 m c) (4096 * (t.val % 2) + r.val) j := by
  obtain ⟨e0, e1⟩ := index0_at t
  refine Eq.trans ?_ (V_x m c (ix2 (⟨4096 * (t.val % 2) + r.val, by omega⟩ : Fin 8192) j))
  unfold iblk
  show (V m c main_v1 : S8192x1024.Idx → EReal) _ = _
  congr 1
  funext a
  apply Fin.ext
  match a with
  | ⟨0, _⟩ => show win0_0.index t (0 : Fin 2) * 4096 + 1 * r.val = 4096 * (t.val % 2) + r.val; omega
  | ⟨1, _⟩ => show win0_0.index t (1 : Fin 2) * 1024 + 1 * j.val = j.val; omega

/-- A point's block of the output gradient. -/
theorem y_in (t : Fin cfg0.N) (r : Fin 4096) (j : Fin 512) : (iblk m c 1 t : S4096x512.Idx → EReal) (ix2 r j) = flat (A1 m c) (4096 * (t.val % 2) + r.val) (col t j) := by
  obtain ⟨e0, e1⟩ := index1_at t
  refine Eq.trans ?_ (V_y m c (ix2 (⟨4096 * (t.val % 2) + r.val, by omega⟩ : Fin 8192) (col t j)))
  unfold iblk
  show (V m c main_v3 : S8192x512.Idx → EReal) _ = _
  congr 1
  funext a
  apply Fin.ext
  match a with
  | ⟨0, _⟩ => show win0_1.index t (0 : Fin 2) * 4096 + 1 * r.val = 4096 * (t.val % 2) + r.val; omega
  | ⟨1, _⟩ => show win0_1.index t (1 : Fin 2) * 512 + 1 * j.val = 512 * (t.val / 2) + j.val; omega

/-- One tile's product. -/
theorem pay1_at (x : Vec Ideal S4096x1024 .bf16) (y : Vec Ideal S4096x512 .bf16) (k : Fin 1024) (n : Fin 512) :
    k0_pay1 (F := Ideal) x y (ix2 k n) = ∑ r : Fin 4096, x (ix2 r k) * y (ix2 r n) := by
  unfold k0_pay1
  pointwise

/-- A later tile's product is added to what the block holds. -/
theorem pay2_at (x : Vec Ideal S4096x1024 .bf16) (y : Vec Ideal S4096x512 .bf16) (o : Vec Ideal S1024x512 .f32) (i : S1024x512.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_y (x : Vec Ideal S4096x512 .bf16) : View.ld x (Rect.unit ![0, 0] ![4096, 512] inb_S4096x512_S4096x512_0_0) = x :=
  View.ld_unit_zero (by funext a; fin_cases a <;> rfl) inb_S4096x512_S4096x512_0_0 x
theorem ld_o (x : Vec Ideal S1024x512 .f32) : View.ld x (Rect.unit ![0, 0] ![1024, 512] inb_S1024x512_S1024x512_0_0) = x :=
  View.ld_unit_zero (by funext a; fin_cases a <;> rfl) inb_S1024x512_S1024x512_0_0 x

/-- The first tile of a column block leaves its product. -/
theorem out_A (i : grid0.Coords) (arg2 : Memref sig .tc .vmem S4096x1024 .bf16) (harg2 : arg2.IsWhole) (arg3 : Memref sig .tc .vmem S4096x512 .bf16) (harg3 : arg3.IsWhole)
    (arg4 : Memref sig .tc .vmem S1024x512 .f32) (harg4 : arg4.IsWhole) (hc0 : cond0_0 i) (hc1 : ¬cond0_1 i) (x0 : Vec Ideal S4096x1024 .bf16) (x1 : Vec Ideal S4096x512 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x512_S1024x512_0_0 _

/-- Every later tile adds its product. -/
theorem out_B (i : grid0.Coords) (arg2 : Memref sig .tc .vmem S4096x1024 .bf16) (harg2 : arg2.IsWhole) (arg3 : Memref sig .tc .vmem S4096x512 .bf16) (harg3 : arg3.IsWhole)
    (arg4 : Memref sig .tc .vmem S1024x512 .f32) (harg4 : arg4.IsWhole) (hc0 : ¬cond0_0 i) (hc1 : cond0_1 i) (x0 : Vec Ideal S4096x1024 .bf16) (x1 : Vec Ideal S4096x512 .bf16)
    (xo : Vec Ideal S1024x512 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x512_S1024x512_0_0 _

/-- One token's share of an entry. -/
def term (k : Fin 1024) (n : Fin 512) (r : ℕ) : EReal := flat (A0 m c) r k * flat (A1 m c) r n

/-- A tile's product at a grid point. -/
theorem tile_at (t : Fin cfg0.N) (k : Fin 1024) (n : Fin 512) :
    k0_pay1 (F := Ideal) (iblk m c 0 t) (iblk m c 1 t) (ix2 k n) = ∑ r : Fin 4096, term m c k (col t n) (4096 * (t.val % 2) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 512) : ∀ (t : ℕ) (h : t < cfg0.N), outsAt0 m c t h (ix2 k n)
    = ∑ s ∈ Finset.range (t % 2 + 1), ∑ r : Fin 4096, term m c k (col ⟨t, h⟩ n) (4096 * s + r.val) := by
  intro t
  induction t with
  | zero =>
    intro h
    refine (congrFun ((outsAt0_A m c ⟨0, h⟩ rfl (by show ¬0 % 2 = 1; omega)).trans (out_A c _ _ _ _ _ _ _ _ _ _ _)) (ix2 k n)).trans ?_
    rw [tile_at]
    simp
  | succ t ih =>
    intro h
    by_cases h0 : (t + 1) % 2 = 0
    · exact absurd (lt_of_lt_of_eq h N_0) (by omega)
    · refine (congrFun ((outsAt0_B m c ⟨t + 1, h⟩ h0 (by show (t + 1) % 2 = 1; omega)).trans (out_B c _ _ _ _ _ _ _ _ _ _ _ _)) (ix2 k n)).trans ?_
      rw [pay2_at, tile_at]
      have e : (t + 1) % 2 = t % 2 + 1 := by omega
      have ec : col ⟨t, by omega⟩ n = col ⟨t + 1, h⟩ n := Fin.ext (by show 512 * (t / 2) + n.val = 512 * ((t + 1) / 2) + n.val; omega)
      show outsAt0 m c t _ (ix2 k n) + _ = _
      rw [ih (by omega), ec]
      show _ + ∑ r : Fin 4096, term m c k (col ⟨t + 1, h⟩ n) (4096 * ((t + 1) % 2) + r.val) = _
      rw [e, Finset.sum_range_succ _ (t % 2 + 1)]

/-- The array that the kernel returns is the gradient. -/
theorem arr_eq : (Gen.dats m 0 c).arrAt 2 cfg0.N = (grad (A0 m c) (A1 m c) : S1024x512.Idx → EReal) := by
  refine (Gen.dats m 0 c).arrAt_eq_of_cover 2 (grad (A0 m c) (A1 m c) : S1024x512.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 512 := (y 1).isLt
    show outsAt0 m c t.val t.isLt y = grad (A0 m c) (A1 m c) (((cfg0.win 2).blk t).view.emb y)
    have ey : (y : S1024x512.Idx) = ix2 (⟨(y 0).val, h0⟩ : Fin 1024) (⟨(y 1).val, h1⟩ : Fin 512) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 512) = col t ⟨(y 1).val, h1⟩ := Fin.ext (by show win0_2.index t (1 : Fin 2) * 512 + 1 * (y 1).val = 512 * (t.val / 2) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 512 := (i 1).isLt
    obtain ⟨t, ht⟩ : ∃ t : Fin cfg0.N, t.val = 2 * ((i 1).val / 512) + 1 := ⟨⟨2 * ((i 1).val / 512) + 1, lt_of_lt_of_eq (by omega : _ < 2) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 512, Nat.mod_lt _ (by norm_num)⟩ : Fin 512), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 512 + 1 * ((i 1).val % 512) = (i 1).val; omega

end

/-! ### The reference -/

/-- The reference's contraction over batch and token is the gradient. -/
theorem ref_eq (x0 : In.Idx → EReal) (x1 : Ct.Idx → EReal) : Cert.ReferenceWInMqIdeal.Read.val_main_v3 (F := Ideal) x0 x1 = grad x0 x1 := by
  funext i
  refine (Cert.ReferenceWInMqIdeal.Read.val_main_v3_apply (F := Ideal) x0 x1 i).trans ?_
  unfold Cert.ReferenceWInMqIdeal.Read.val_main_v2 grad
  pointwise
  refine Finset.sum_congr rfl fun b _ => Finset.sum_congr rfl fun t _ => ?_
  exact mul_comm _ _

end Cert.KernelWInMqIdeal.WInMq
-- ==== Proof.WInHg.lean ====
/- The gradient of the input projection's weights in the recurrence's columns: what the pipelined kernel leaves after its 2 row tiles of 4096 tokens, and that the reference's product is the
   same array. -/
module

public import proofs.«01_k».proof.Proof.Gen.KernelWInHgIdeal.Value
public import proofs.«01_k».proof.Proof.Gen.ReferenceWInHgIdeal.Run
public import proofs.«01_k».proof.Proof.Gen.ReferenceWInHgIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWInHgIdeal.WInHg

open Idealize.ShloMosaic Idealize.ShloMosaic.TcCoe Idealize.SL.Sem Cert.KernelWInHgIdeal Cert.KernelWInHgIdeal.Gen Cert.Sums

abbrev In : Shape := ⟨3, ![4, 2048, 1024]⟩
abbrev Ct : Shape := ⟨3, ![4, 2048, 2048]⟩

/-- The weights' gradient: the sum over every token of the input's feature times the output gradient's. -/
def grad (x0 : In.Idx → EReal) (x1 : Ct.Idx → EReal) (i : S1024x2048.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x2048.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x2048.Idx) : (V m c main_v3 : S8192x2048.Idx → EReal) i = flat (A1 m c) (i 0).val (i 1) := by
  have e : (V m c main_v3 : S8192x2048.Idx → EReal) = shapeCast S8192x2048 (A1 m c) shapeCasts_S4x2048x2048_S8192x2048 := by
    unfold_abbrev_sides
    after_results
    rfl
  rw [e]
  exact flat_shapeCast _ _ i

/-- The blocks of a grid point: the row tiles run fastest. -/
theorem index0_at : ∀ t : Fin cfg0.N, win0_0.index t (0 : Fin 2) = t.val % 2 ∧ win0_0.index t (1 : Fin 2) = 0 :=
  (by decide +kernel : ∀ t : Fin grid0.N, _)
theorem index1_at : ∀ t : Fin cfg0.N, win0_1.index t (0 : Fin 2) = t.val % 2 ∧ win0_1.index t (1 : Fin 2) = t.val / 2 :=
  (by decide +kernel : ∀ t : Fin grid0.N, _)
theorem index2_at : ∀ t : Fin cfg0.N, win0_2.index t (0 : Fin 2) = 0 ∧ win0_2.index t (1 : Fin 2) = t.val / 2 :=
  (by decide +kernel : ∀ t : Fin grid0.N, _)

/-- The column of the whole array that column `j` of a point's tile is. -/
def col (t : Fin cfg0.N) (j : Fin 1024) : Fin 2048 := ⟨1024 * (t.val / 2) + j.val, by have : t.val < 4 := lt_of_lt_of_eq t.isLt N_0; omega⟩

/-- A point's input block: the rows of its tile. -/
theorem x_in (t : Fin cfg0.N) (r : Fin 4096) (j : Fin 1024) : (iblk m c 0 t : S4096x1024.Idx → EReal) (ix2 r j) = flat (A0 m c) (4096 * (t.val % 2) + r.val) j := by
  obtain ⟨e0, e1⟩ := index0_at t
  refine Eq.trans ?_ (V_x m c (ix2 (⟨4096 * (t.val % 2) + r.val, by omega⟩ : Fin 8192) j))
  unfold iblk
  show (V m c main_v1 : S8192x1024.Idx → EReal) _ = _
  congr 1
  funext a
  apply Fin.ext
  match a with
  | ⟨0, _⟩ => show win0_0.index t (0 : Fin 2) * 4096 + 1 * r.val = 4096 * (t.val % 2) + r.val; omega
  | ⟨1, _⟩ => show win0_0.index t (1 : Fin 2) * 1024 + 1 * j.val = j.val; omega

/-- A point's block of the output gradient. -/
theorem y_in (t : Fin cfg0.N) (r : Fin 4096) (j : Fin 1024) : (iblk m c 1 t : S4096x1024.Idx → EReal) (ix2 r j) = flat (A1 m c) (4096 * (t.val % 2) + r.val) (col t j) := by
  obtain ⟨e0, e1⟩ := index1_at t
  refine Eq.trans ?_ (V_y m c (ix2 (⟨4096 * (t.val % 2) + r.val, by omega⟩ : Fin 8192) (col t j)))
  unfold iblk
  show (V m c main_v3 : S8192x2048.Idx → EReal) _ = _
  congr 1
  funext a
  apply Fin.ext
  match a with
  | ⟨0, _⟩ => show win0_1.index t (0 : Fin 2) * 4096 + 1 * r.val = 4096 * (t.val % 2) + r.val; omega
  | ⟨1, _⟩ => show win0_1.index t (1 : Fin 2) * 1024 + 1 * j.val = 1024 * (t.val / 2) + j.val; omega

/-- One tile's product. -/
theorem pay1_at (x : Vec Ideal S4096x1024 .bf16) (y : Vec Ideal S4096x1024 .bf16) (k : Fin 1024) (n : Fin 1024) :
    k0_pay1 (F := Ideal) x y (ix2 k n) = ∑ r : Fin 4096, x (ix2 r k) * y (ix2 r n) := by
  unfold k0_pay1
  pointwise

/-- A later tile's product is added to what the block holds. -/
theorem pay2_at (x : Vec Ideal S4096x1024 .bf16) (y : Vec Ideal S4096x1024 .bf16) (o : Vec Ideal S1024x1024 .f32) (i : S1024x1024.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_y (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_o (x : Vec Ideal S1024x1024 .f32) : View.ld x (Rect.unit ![0, 0] ![1024, 1024] inb_S1024x1024_S1024x1024_0_0) = x :=
  View.ld_unit_zero (by funext a; fin_cases a <;> rfl) inb_S1024x1024_S1024x1024_0_0 x

/-- The first tile of a column block leaves its product. -/
theorem out_A (i : grid0.Coords) (arg2 : Memref sig .tc .vmem S4096x1024 .bf16) (harg2 : arg2.IsWhole) (arg3 : Memref sig .tc .vmem S4096x1024 .bf16) (harg3 : arg3.IsWhole)
    (arg4 : Memref sig .tc .vmem S1024x1024 .f32) (harg4 : arg4.IsWhole) (hc0 : cond0_0 i) (hc1 : ¬cond0_1 i) (x0 : Vec Ideal S4096x1024 .bf16) (x1 : Vec Ideal S4096x1024 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x1024_S1024x1024_0_0 _

/-- Every later tile adds its product. -/
theorem out_B (i : grid0.Coords) (arg2 : Memref sig .tc .vmem S4096x1024 .bf16) (harg2 : arg2.IsWhole) (arg3 : Memref sig .tc .vmem S4096x1024 .bf16) (harg3 : arg3.IsWhole)
    (arg4 : Memref sig .tc .vmem S1024x1024 .f32) (harg4 : arg4.IsWhole) (hc0 : ¬cond0_0 i) (hc1 : cond0_1 i) (x0 : Vec Ideal S4096x1024 .bf16) (x1 : Vec Ideal S4096x1024 .bf16)
    (xo : Vec Ideal S1024x1024 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x1024_S1024x1024_0_0 _

/-- One token's share of an entry. -/
def term (k : Fin 1024) (n : Fin 2048) (r : ℕ) : EReal := flat (A0 m c) r k * flat (A1 m c) r n

/-- A tile's product at a grid point. -/
theorem tile_at (t : Fin cfg0.N) (k : Fin 1024) (n : Fin 1024) :
    k0_pay1 (F := Ideal) (iblk m c 0 t) (iblk m c 1 t) (ix2 k n) = ∑ r : Fin 4096, term m c k (col t n) (4096 * (t.val % 2) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 1024) : ∀ (t : ℕ) (h : t < cfg0.N), outsAt0 m c t h (ix2 k n)
    = ∑ s ∈ Finset.range (t % 2 + 1), ∑ r : Fin 4096, term m c k (col ⟨t, h⟩ n) (4096 * s + r.val) := by
  intro t
  induction t with
  | zero =>
    intro h
    refine (congrFun ((outsAt0_A m c ⟨0, h⟩ rfl (by show ¬0 % 2 = 1; omega)).trans (out_A c _ _ _ _ _ _ _ _ _ _ _)) (ix2 k n)).trans ?_
    rw [tile_at]
    simp
  | succ t ih =>
    intro h
    by_cases h0 : (t + 1) % 2 = 0
    · refine (congrFun ((outsAt0_A m c ⟨t + 1, h⟩ h0 (by show ¬(t + 1) % 2 = 1; omega)).trans (out_A c _ _ _ _ _ _ _ _ _ _ _)) (ix2 k n)).trans ?_
      rw [tile_at]
      show ∑ r : Fin 4096, term m c k (col ⟨t + 1, h⟩ n) (4096 * ((t + 1) % 2) + r.val) = _
      rw [h0]
      simp
    · refine (congrFun ((outsAt0_B m c ⟨t + 1, h⟩ h0 (by show (t + 1) % 2 = 1; omega)).trans (out_B c _ _ _ _ _ _ _ _ _ _ _ _)) (ix2 k n)).trans ?_
      rw [pay2_at, tile_at]
      have e : (t + 1) % 2 = t % 2 + 1 := by omega
      have ec : col ⟨t, by omega⟩ n = col ⟨t + 1, h⟩ n := Fin.ext (by show 1024 * (t / 2) + n.val = 1024 * ((t + 1) / 2) + n.val; omega)
      show outsAt0 m c t _ (ix2 k n) + _ = _
      rw [ih (by omega), ec]
      show _ + ∑ r : Fin 4096, term m c k (col ⟨t + 1, h⟩ n) (4096 * ((t + 1) % 2) + r.val) = _
      rw [e, Finset.sum_range_succ _ (t % 2 + 1)]

/-- The array that the kernel returns is the gradient. -/
theorem arr_eq : (Gen.dats m 0 c).arrAt 2 cfg0.N = (grad (A0 m c) (A1 m c) : S1024x2048.Idx → EReal) := by
  refine (Gen.dats m 0 c).arrAt_eq_of_cover 2 (grad (A0 m c) (A1 m c) : S1024x2048.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 1024 := (y 1).isLt
    show outsAt0 m c t.val t.isLt y = grad (A0 m c) (A1 m c) (((cfg0.win 2).blk t).view.emb y)
    have ey : (y : S1024x1024.Idx) = ix2 (⟨(y 0).val, h0⟩ : Fin 1024) (⟨(y 1).val, h1⟩ : Fin 1024) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 2048) = col t ⟨(y 1).val, h1⟩ := Fin.ext (by show win0_2.index t (1 : Fin 2) * 1024 + 1 * (y 1).val = 1024 * (t.val / 2) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 2048 := (i 1).isLt
    obtain ⟨t, ht⟩ : ∃ t : Fin cfg0.N, t.val = 2 * ((i 1).val / 1024) + 1 := ⟨⟨2 * ((i 1).val / 1024) + 1, lt_of_lt_of_eq (by omega : _ < 4) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 1024, Nat.mod_lt _ (by norm_num)⟩ : Fin 1024), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 1024 + 1 * ((i 1).val % 1024) = (i 1).val; omega

end

/-! ### The reference -/

/-- The reference's contraction over batch and token is the gradient. -/
theorem ref_eq (x0 : In.Idx → EReal) (x1 : Ct.Idx → EReal) : Cert.ReferenceWInHgIdeal.Read.val_main_v3 (F := Ideal) x0 x1 = grad x0 x1 := by
  funext i
  refine (Cert.ReferenceWInHgIdeal.Read.val_main_v3_apply (F := Ideal) x0 x1 i).trans ?_
  unfold Cert.ReferenceWInHgIdeal.Read.val_main_v2 grad
  pointwise
  refine Finset.sum_congr rfl fun b _ => Finset.sum_congr rfl fun t _ => ?_
  exact mul_comm _ _

end Cert.KernelWInHgIdeal.WInHg
-- ==== Proof.WInGate.lean ====
/- The gradient of the input projection's weights in the branch gates' columns: what the pipelined kernel leaves after its 2 row tiles of 4096 tokens, and that the reference's product is the
   same array. -/
module

public import proofs.«01_k».proof.Proof.Gen.KernelWInGateIdeal.Value
public import proofs.«01_k».proof.Proof.Gen.ReferenceWInGateIdeal.Run
public import proofs.«01_k».proof.Proof.Gen.ReferenceWInGateIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWInGateIdeal.WInGate

open Idealize.ShloMosaic Idealize.ShloMosaic.TcCoe Idealize.SL.Sem Cert.KernelWInGateIdeal Cert.KernelWInGateIdeal.Gen Cert.Sums

abbrev In : Shape := ⟨3, ![4, 2048, 1024]⟩
abbrev Ct : Shape := ⟨3, ![4, 2048, 3072]⟩

/-- The weights' gradient: the sum over every token of the input's feature times the output gradient's. -/
def grad (x0 : In.Idx → EReal) (x1 : Ct.Idx → EReal) (i : S1024x3072.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x3072.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x3072.Idx) : (V m c main_v3 : S8192x3072.Idx → EReal) i = flat (A1 m c) (i 0).val (i 1) := by
  have e : (V m c main_v3 : S8192x3072.Idx → EReal) = shapeCast S8192x3072 (A1 m c) shapeCasts_S4x2048x3072_S8192x3072 := by
    unfold_abbrev_sides
    after_results
    rfl
  rw [e]
  exact flat_shapeCast _ _ i

/-- The blocks of a grid point: the row tiles run fastest. -/
theorem index0_at : ∀ t : Fin cfg0.N, win0_0.index t (0 : Fin 2) = t.val % 2 ∧ win0_0.index t (1 : Fin 2) = 0 :=
  (by decide +kernel : ∀ t : Fin grid0.N, _)
theorem index1_at : ∀ t : Fin cfg0.N, win0_1.index t (0 : Fin 2) = t.val % 2 ∧ win0_1.index t (1 : Fin 2) = t.val / 2 :=
  (by decide +kernel : ∀ t : Fin grid0.N, _)
theorem index2_at : ∀ t : Fin cfg0.N, win0_2.index t (0 : Fin 2) = 0 ∧ win0_2.index t (1 : Fin 2) = t.val / 2 :=
  (by decide +kernel : ∀ t : Fin grid0.N, _)

/-- The column of the whole array that column `j` of a point's tile is. -/
def col (t : Fin cfg0.N) (j : Fin 1024) : Fin 3072 := ⟨1024 * (t.val / 2) + j.val, by have : t.val < 6 := lt_of_lt_of_eq t.isLt N_0; omega⟩

/-- A point's input block: the rows of its tile. -/
theorem x_in (t : Fin cfg0.N) (r : Fin 4096) (j : Fin 1024) : (iblk m c 0 t : S4096x1024.Idx → EReal) (ix2 r j) = flat (A0 m c) (4096 * (t.val % 2) + r.val) j := by
  obtain ⟨e0, e1⟩ := index0_at t
  refine Eq.trans ?_ (V_x m c (ix2 (⟨4096 * (t.val % 2) + r.val, by omega⟩ : Fin 8192) j))
  unfold iblk
  show (V m c main_v1 : S8192x1024.Idx → EReal) _ = _
  congr 1
  funext a
  apply Fin.ext
  match a with
  | ⟨0, _⟩ => show win0_0.index t (0 : Fin 2) * 4096 + 1 * r.val = 4096 * (t.val % 2) + r.val; omega
  | ⟨1, _⟩ => show win0_0.index t (1 : Fin 2) * 1024 + 1 * j.val = j.val; omega

/-- A point's block of the output gradient. -/
theorem y_in (t : Fin cfg0.N) (r : Fin 4096) (j : Fin 1024) : (iblk m c 1 t : S4096x1024.Idx → EReal) (ix2 r j) = flat (A1 m c) (4096 * (t.val % 2) + r.val) (col t j) := by
  obtain ⟨e0, e1⟩ := index1_at t
  refine Eq.trans ?_ (V_y m c (ix2 (⟨4096 * (t.val % 2) + r.val, by omega⟩ : Fin 8192) (col t j)))
  unfold iblk
  show (V m c main_v3 : S8192x3072.Idx → EReal) _ = _
  congr 1
  funext a
  apply Fin.ext
  match a with
  | ⟨0, _⟩ => show win0_1.index t (0 : Fin 2) * 4096 + 1 * r.val = 4096 * (t.val % 2) + r.val; omega
  | ⟨1, _⟩ => show win0_1.index t (1 : Fin 2) * 1024 + 1 * j.val = 1024 * (t.val / 2) + j.val; omega

/-- One tile's product. -/
theorem pay1_at (x : Vec Ideal S4096x1024 .bf16) (y : Vec Ideal S4096x1024 .bf16) (k : Fin 1024) (n : Fin 1024) :
    k0_pay1 (F := Ideal) x y (ix2 k n) = ∑ r : Fin 4096, x (ix2 r k) * y (ix2 r n) := by
  unfold k0_pay1
  pointwise

/-- A later tile's product is added to what the block holds. -/
theorem pay2_at (x : Vec Ideal S4096x1024 .bf16) (y : Vec Ideal S4096x1024 .bf16) (o : Vec Ideal S1024x1024 .f32) (i : S1024x1024.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_y (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_o (x : Vec Ideal S1024x1024 .f32) : View.ld x (Rect.unit ![0, 0] ![1024, 1024] inb_S1024x1024_S1024x1024_0_0) = x :=
  View.ld_unit_zero (by funext a; fin_cases a <;> rfl) inb_S1024x1024_S1024x1024_0_0 x

/-- The first tile of a column block leaves its product. -/
theorem out_A (i : grid0.Coords) (arg2 : Memref sig .tc .vmem S4096x1024 .bf16) (harg2 : arg2.IsWhole) (arg3 : Memref sig .tc .vmem S4096x1024 .bf16) (harg3 : arg3.IsWhole)
    (arg4 : Memref sig .tc .vmem S1024x1024 .f32) (harg4 : arg4.IsWhole) (hc0 : cond0_0 i) (hc1 : ¬cond0_1 i) (x0 : Vec Ideal S4096x1024 .bf16) (x1 : Vec Ideal S4096x1024 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x1024_S1024x1024_0_0 _

/-- Every later tile adds its product. -/
theorem out_B (i : grid0.Coords) (arg2 : Memref sig .tc .vmem S4096x1024 .bf16) (harg2 : arg2.IsWhole) (arg3 : Memref sig .tc .vmem S4096x1024 .bf16) (harg3 : arg3.IsWhole)
    (arg4 : Memref sig .tc .vmem S1024x1024 .f32) (harg4 : arg4.IsWhole) (hc0 : ¬cond0_0 i) (hc1 : cond0_1 i) (x0 : Vec Ideal S4096x1024 .bf16) (x1 : Vec Ideal S4096x1024 .bf16)
    (xo : Vec Ideal S1024x1024 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x1024_S1024x1024_0_0 _

/-- One token's share of an entry. -/
def term (k : Fin 1024) (n : Fin 3072) (r : ℕ) : EReal := flat (A0 m c) r k * flat (A1 m c) r n

/-- A tile's product at a grid point. -/
theorem tile_at (t : Fin cfg0.N) (k : Fin 1024) (n : Fin 1024) :
    k0_pay1 (F := Ideal) (iblk m c 0 t) (iblk m c 1 t) (ix2 k n) = ∑ r : Fin 4096, term m c k (col t n) (4096 * (t.val % 2) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 1024) : ∀ (t : ℕ) (h : t < cfg0.N), outsAt0 m c t h (ix2 k n)
    = ∑ s ∈ Finset.range (t % 2 + 1), ∑ r : Fin 4096, term m c k (col ⟨t, h⟩ n) (4096 * s + r.val) := by
  intro t
  induction t with
  | zero =>
    intro h
    refine (congrFun ((outsAt0_A m c ⟨0, h⟩ rfl (by show ¬0 % 2 = 1; omega)).trans (out_A c _ _ _ _ _ _ _ _ _ _ _)) (ix2 k n)).trans ?_
    rw [tile_at]
    simp
  | succ t ih =>
    intro h
    by_cases h0 : (t + 1) % 2 = 0
    · refine (congrFun ((outsAt0_A m c ⟨t + 1, h⟩ h0 (by show ¬(t + 1) % 2 = 1; omega)).trans (out_A c _ _ _ _ _ _ _ _ _ _ _)) (ix2 k n)).trans ?_
      rw [tile_at]
      show ∑ r : Fin 4096, term m c k (col ⟨t + 1, h⟩ n) (4096 * ((t + 1) % 2) + r.val) = _
      rw [h0]
      simp
    · refine (congrFun ((outsAt0_B m c ⟨t + 1, h⟩ h0 (by show (t + 1) % 2 = 1; omega)).trans (out_B c _ _ _ _ _ _ _ _ _ _ _ _)) (ix2 k n)).trans ?_
      rw [pay2_at, tile_at]
      have e : (t + 1) % 2 = t % 2 + 1 := by omega
      have ec : col ⟨t, by omega⟩ n = col ⟨t + 1, h⟩ n := Fin.ext (by show 1024 * (t / 2) + n.val = 1024 * ((t + 1) / 2) + n.val; omega)
      show outsAt0 m c t _ (ix2 k n) + _ = _
      rw [ih (by omega), ec]
      show _ + ∑ r : Fin 4096, term m c k (col ⟨t + 1, h⟩ n) (4096 * ((t + 1) % 2) + r.val) = _
      rw [e, Finset.sum_range_succ _ (t % 2 + 1)]

/-- The array that the kernel returns is the gradient. -/
theorem arr_eq : (Gen.dats m 0 c).arrAt 2 cfg0.N = (grad (A0 m c) (A1 m c) : S1024x3072.Idx → EReal) := by
  refine (Gen.dats m 0 c).arrAt_eq_of_cover 2 (grad (A0 m c) (A1 m c) : S1024x3072.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 1024 := (y 1).isLt
    show outsAt0 m c t.val t.isLt y = grad (A0 m c) (A1 m c) (((cfg0.win 2).blk t).view.emb y)
    have ey : (y : S1024x1024.Idx) = ix2 (⟨(y 0).val, h0⟩ : Fin 1024) (⟨(y 1).val, h1⟩ : Fin 1024) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 3072) = col t ⟨(y 1).val, h1⟩ := Fin.ext (by show win0_2.index t (1 : Fin 2) * 1024 + 1 * (y 1).val = 1024 * (t.val / 2) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 3072 := (i 1).isLt
    obtain ⟨t, ht⟩ : ∃ t : Fin cfg0.N, t.val = 2 * ((i 1).val / 1024) + 1 := ⟨⟨2 * ((i 1).val / 1024) + 1, lt_of_lt_of_eq (by omega : _ < 6) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 1024, Nat.mod_lt _ (by norm_num)⟩ : Fin 1024), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 1024 + 1 * ((i 1).val % 1024) = (i 1).val; omega

end

/-! ### The reference -/

/-- The reference's contraction over batch and token is the gradient. -/
theorem ref_eq (x0 : In.Idx → EReal) (x1 : Ct.Idx → EReal) : Cert.ReferenceWInGateIdeal.Read.val_main_v3 (F := Ideal) x0 x1 = grad x0 x1 := by
  funext i
  refine (Cert.ReferenceWInGateIdeal.Read.val_main_v3_apply (F := Ideal) x0 x1 i).trans ?_
  unfold Cert.ReferenceWInGateIdeal.Read.val_main_v2 grad
  pointwise
  refine Finset.sum_congr rfl fun b _ => Finset.sum_congr rfl fun t _ => ?_
  exact mul_comm _ _

end Cert.KernelWInGateIdeal.WInGate
-- ==== Proof.WInFf.lean ====
/- The gradient of the input projection's weights in the forget gate's columns: what the pipelined kernel leaves after its 2 row tiles of 4096 tokens, and that the reference's product is the
   same array. -/
module

public import proofs.«01_k».proof.Proof.Gen.KernelWInFfIdeal.Value
public import proofs.«01_k».proof.Proof.Gen.ReferenceWInFfIdeal.Run
public import proofs.«01_k».proof.Proof.Gen.ReferenceWInFfIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWInFfIdeal.WInFf

open Idealize.ShloMosaic Idealize.ShloMosaic.TcCoe Idealize.SL.Sem Cert.KernelWInFfIdeal Cert.KernelWInFfIdeal.Gen Cert.Sums

abbrev In : Shape := ⟨3, ![4, 2048, 1024]⟩
abbrev Ct : Shape := ⟨3, ![4, 2048, 128]⟩

/-- The weights' gradient: the sum over every token of the input's feature times the output gradient's. -/
def grad (x0 : In.Idx → EReal) (x1 : Ct.Idx → EReal) (i : S1024x128.Idx) : EReal :=
  ∑ b : Fin 4, ∑ t : Fin 2048, x0 (ix3 b t (i 0)) * x1 (ix3 b t (i 1))

/-- The same sum over the rows. -/
theorem grad_flat (x0 : In.Idx → EReal) (x1 : Ct.Idx → EReal) (i : S1024x128.Idx) :
    grad x0 x1 i = ∑ r ∈ Finset.range (4 * 2048), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The output gradient likewise. -/
theorem V_y (i : S8192x128.Idx) : (V m c main_v3 : S8192x128.Idx → EReal) i = flat (A1 m c) (i 0).val (i 1) := by
  have e : (V m c main_v3 : S8192x128.Idx → EReal) = shapeCast S8192x128 (A1 m c) shapeCasts_S4x2048x128_S8192x128 := by
    unfold_abbrev_sides
    after_results
    rfl
  rw [e]
  exact flat_shapeCast _ _ i

/-- The blocks of a grid point: the row tiles run fastest. -/
theorem index0_at : ∀ t : Fin cfg0.N, win0_0.index t (0 : Fin 2) = t.val % 2 ∧ win0_0.index t (1 : Fin 2) = 0 :=
  (by decide +kernel : ∀ t : Fin grid0.N, _)
theorem index1_at : ∀ t : Fin cfg0.N, win0_1.index t (0 : Fin 2) = t.val % 2 ∧ win0_1.index t (1 : Fin 2) = t.val / 2 :=
  (by decide +kernel : ∀ t : Fin grid0.N, _)
theorem index2_at : ∀ t : Fin cfg0.N, win0_2.index t (0 : Fin 2) = 0 ∧ win0_2.index t (1 : Fin 2) = t.val / 2 :=
  (by decide +kernel : ∀ t : Fin grid0.N, _)

/-- The column of the whole array that column `j` of a point's tile is. -/
def col (t : Fin cfg0.N) (j : Fin 128) : Fin 128 := ⟨128 * (t.val / 2) + j.val, by have : t.val < 2 := lt_of_lt_of_eq t.isLt N_0; omega⟩

/-- A point's input block: the rows of its tile. -/
theorem x_in (t : Fin cfg0.N) (r : Fin 4096) (j : Fin 1024) : (iblk m c 0 t : S4096x1024.Idx → EReal) (ix2 r j) = flat (A0 m c) (4096 * (t.val % 2) + r.val) j := by
  obtain ⟨e0, e1⟩ := index0_at t
  refine Eq.trans ?_ (V_x m c (ix2 (⟨4096 * (t.val % 2) + r.val, by omega⟩ : Fin 8192) j))
  unfold iblk
  show (V m c main_v1 : S8192x1024.Idx → EReal) _ = _
  congr 1
  funext a
  apply Fin.ext
  match a with
  | ⟨0, _⟩ => show win0_0.index t (0 : Fin 2) * 4096 + 1 * r.val = 4096 * (t.val % 2) + r.val; omega
  | ⟨1, _⟩ => show win0_0.index t (1 : Fin 2) * 1024 + 1 * j.val = j.val; omega

/-- A point's block of the output gradient. -/
theorem y_in (t : Fin cfg0.N) (r : Fin 4096) (j : Fin 128) : (iblk m c 1 t : S4096x128.Idx → EReal) (ix2 r j) = flat (A1 m c) (4096 * (t.val % 2) + r.val) (col t j) := by
  obtain ⟨e0, e1⟩ := index1_at t
  refine Eq.trans ?_ (V_y m c (ix2 (⟨4096 * (t.val % 2) + r.val, by omega⟩ : Fin 8192) (col t j)))
  unfold iblk
  show (V m c main_v3 : S8192x128.Idx → EReal) _ = _
  congr 1
  funext a
  apply Fin.ext
  match a with
  | ⟨0, _⟩ => show win0_1.index t (0 : Fin 2) * 4096 + 1 * r.val = 4096 * (t.val % 2) + r.val; omega
  | ⟨1, _⟩ => show win0_1.index t (1 : Fin 2) * 128 + 1 * j.val = 128 * (t.val / 2) + j.val; omega

/-- One tile's product. -/
theorem pay1_at (x : Vec Ideal S4096x1024 .bf16) (y : Vec Ideal S4096x128 .bf16) (k : Fin 1024) (n : Fin 128) :
    k0_pay1 (F := Ideal) x y (ix2 k n) = ∑ r : Fin 4096, x (ix2 r k) * y (ix2 r n) := by
  unfold k0_pay1
  pointwise

/-- A later tile's product is added to what the block holds. -/
theorem pay2_at (x : Vec Ideal S4096x1024 .bf16) (y : Vec Ideal S4096x128 .bf16) (o : Vec Ideal S1024x128 .f32) (i : S1024x128.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S4096x1024 .bf16) : View.ld x (Rect.unit ![0, 0] ![4096, 1024] inb_S4096x1024_S4096x1024_0_0) = x :=
  View.ld_unit_zero (by funext a; fin_cases a <;> rfl) inb_S4096x1024_S4096x1024_0_0 x
theorem ld_y (x : Vec Ideal S4096x128 .bf16) : View.ld x (Rect.unit ![0, 0] ![4096, 128] inb_S4096x128_S4096x128_0_0) = x :=
  View.ld_unit_zero (by funext a; fin_cases a <;> rfl) inb_S4096x128_S4096x128_0_0 x
theorem ld_o (x : Vec Ideal S1024x128 .f32) : View.ld x (Rect.unit ![0, 0] ![1024, 128] inb_S1024x128_S1024x128_0_0) = x :=
  View.ld_unit_zero (by funext a; fin_cases a <;> rfl) inb_S1024x128_S1024x128_0_0 x

/-- The first tile of a column block leaves its product. -/
theorem out_A (i : grid0.Coords) (arg2 : Memref sig .tc .vmem S4096x1024 .bf16) (harg2 : arg2.IsWhole) (arg3 : Memref sig .tc .vmem S4096x128 .bf16) (harg3 : arg3.IsWhole)
    (arg4 : Memref sig .tc .vmem S1024x128 .f32) (harg4 : arg4.IsWhole) (hc0 : cond0_0 i) (hc1 : ¬cond0_1 i) (x0 : Vec Ideal S4096x1024 .bf16) (x1 : Vec Ideal S4096x128 .bf16) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x128_S1024x128_0_0 _

/-- Every later tile adds its product. -/
theorem out_B (i : grid0.Coords) (arg2 : Memref sig .tc .vmem S4096x1024 .bf16) (harg2 : arg2.IsWhole) (arg3 : Memref sig .tc .vmem S4096x128 .bf16) (harg3 : arg3.IsWhole)
    (arg4 : Memref sig .tc .vmem S1024x128 .f32) (harg4 : arg4.IsWhole) (hc0 : ¬cond0_0 i) (hc1 : cond0_1 i) (x0 : Vec Ideal S4096x1024 .bf16) (x1 : Vec Ideal S4096x128 .bf16)
    (xo : Vec Ideal S1024x128 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x128_S1024x128_0_0 _

/-- One token's share of an entry. -/
def term (k : Fin 1024) (n : Fin 128) (r : ℕ) : EReal := flat (A0 m c) r k * flat (A1 m c) r n

/-- A tile's product at a grid point. -/
theorem tile_at (t : Fin cfg0.N) (k : Fin 1024) (n : Fin 128) :
    k0_pay1 (F := Ideal) (iblk m c 0 t) (iblk m c 1 t) (ix2 k n) = ∑ r : Fin 4096, term m c k (col t n) (4096 * (t.val % 2) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 128) : ∀ (t : ℕ) (h : t < cfg0.N), outsAt0 m c t h (ix2 k n)
    = ∑ s ∈ Finset.range (t % 2 + 1), ∑ r : Fin 4096, term m c k (col ⟨t, h⟩ n) (4096 * s + r.val) := by
  intro t
  induction t with
  | zero =>
    intro h
    refine (congrFun ((outsAt0_A m c ⟨0, h⟩ rfl (by show ¬0 % 2 = 1; omega)).trans (out_A c _ _ _ _ _ _ _ _ _ _ _)) (ix2 k n)).trans ?_
    rw [tile_at]
    simp
  | succ t ih =>
    intro h
    by_cases h0 : (t + 1) % 2 = 0
    · exact absurd (lt_of_lt_of_eq h N_0) (by omega)
    · refine (congrFun ((outsAt0_B m c ⟨t + 1, h⟩ h0 (by show (t + 1) % 2 = 1; omega)).trans (out_B c _ _ _ _ _ _ _ _ _ _ _ _)) (ix2 k n)).trans ?_
      rw [pay2_at, tile_at]
      have e : (t + 1) % 2 = t % 2 + 1 := by omega
      have ec : col ⟨t, by omega⟩ n = col ⟨t + 1, h⟩ n := Fin.ext (by show 128 * (t / 2) + n.val = 128 * ((t + 1) / 2) + n.val; omega)
      show outsAt0 m c t _ (ix2 k n) + _ = _
      rw [ih (by omega), ec]
      show _ + ∑ r : Fin 4096, term m c k (col ⟨t + 1, h⟩ n) (4096 * ((t + 1) % 2) + r.val) = _
      rw [e, Finset.sum_range_succ _ (t % 2 + 1)]

/-- The array that the kernel returns is the gradient. -/
theorem arr_eq : (Gen.dats m 0 c).arrAt 2 cfg0.N = (grad (A0 m c) (A1 m c) : S1024x128.Idx → EReal) := by
  refine (Gen.dats m 0 c).arrAt_eq_of_cover 2 (grad (A0 m c) (A1 m c) : S1024x128.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 128 := (y 1).isLt
    show outsAt0 m c t.val t.isLt y = grad (A0 m c) (A1 m c) (((cfg0.win 2).blk t).view.emb y)
    have ey : (y : S1024x128.Idx) = ix2 (⟨(y 0).val, h0⟩ : Fin 1024) (⟨(y 1).val, h1⟩ : Fin 128) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 128) = col t ⟨(y 1).val, h1⟩ := Fin.ext (by show win0_2.index t (1 : Fin 2) * 128 + 1 * (y 1).val = 128 * (t.val / 2) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 128 := (i 1).isLt
    obtain ⟨t, ht⟩ : ∃ t : Fin cfg0.N, t.val = 2 * ((i 1).val / 128) + 1 := ⟨⟨2 * ((i 1).val / 128) + 1, lt_of_lt_of_eq (by omega : _ < 2) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 128, Nat.mod_lt _ (by norm_num)⟩ : Fin 128), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 128 + 1 * ((i 1).val % 128) = (i 1).val; omega

end

/-! ### The reference -/

/-- The reference's contraction over batch and token is the gradient. -/
theorem ref_eq (x0 : In.Idx → EReal) (x1 : Ct.Idx → EReal) : Cert.ReferenceWInFfIdeal.Read.val_main_v3 (F := Ideal) x0 x1 = grad x0 x1 := by
  funext i
  refine (Cert.ReferenceWInFfIdeal.Read.val_main_v3_apply (F := Ideal) x0 x1 i).trans ?_
  unfold Cert.ReferenceWInFfIdeal.Read.val_main_v2 grad
  pointwise
  refine Finset.sum_congr rfl fun b _ => Finset.sum_congr rfl fun t _ => ?_
  exact mul_comm _ _

end Cert.KernelWInFfIdeal.WInFf
-- ==== Proof.ProjIn.lean ====
/- The input projection: what the kernel leaves from its tiles' products, and that the reference's product is the same array. -/
module

public import proofs.«01_k».proof.Proof.Gen.KernelProjInIdeal.Value
public import proofs.«01_k».proof.Proof.Gen.ReferenceProjInIdeal.Run
public import proofs.«01_k».proof.Proof.Gen.ReferenceProjInIdeal.Read
public import proofs.«01_k».proof.Proof.Sums
public import Idealize.ShloMosaic.Lib.Pointwise
public import Idealize.ShloMosaic.Lib.Claim

@[expose] public section

noncomputable section

namespace Cert.KernelProjInIdeal.ProjIn

open Idealize.ShloMosaic Idealize.ShloMosaic.TcCoe Idealize.SL.Sem Cert.KernelProjInIdeal Cert.KernelProjInIdeal.Gen Cert.Sums

abbrev In : Shape := ⟨3, ![4, 2048, 1024]⟩

/-- The product of the tokens' rows and the weights. -/
def grad (x : In.Idx → EReal) (w : S1024x7296.Idx → EReal) (i : S8192x7296.Idx) : EReal :=
  ∑ k : Fin 1024, flat x (i 0).val k * w (ix2 k (i 1))

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : S1024x7296.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The weights. -/
theorem V_w : (V m c main_v2 : S1024x7296.Idx → EReal) = A1 m c := by
  unfold_abbrev_sides
  after_results
  rfl

/-- The blocks of a grid point: the row tiles run fastest. -/
theorem index0_at : ∀ t : Fin cfg0.N, win0_0.index t (0 : Fin 2) = t.val % 16 ∧ win0_0.index t (1 : Fin 2) = 0 :=
  (by decide +kernel : ∀ t : Fin grid0.N, _)
theorem index1_at : ∀ t : Fin cfg0.N, win0_1.index t (0 : Fin 2) = 0 ∧ win0_1.index t (1 : Fin 2) = t.val / 16 :=
  (by decide +kernel : ∀ t : Fin grid0.N, _)
theorem index2_at : ∀ t : Fin cfg0.N, win0_2.index t (0 : Fin 2) = t.val % 16 ∧ win0_2.index t (1 : Fin 2) = t.val / 16 :=
  (by decide +kernel : ∀ t : Fin grid0.N, _)

/-- The column of the whole array that column `j` of a point's tile is. -/
def col (t : Fin cfg0.N) (j : Fin 7296) : Fin 7296 := ⟨7296 * (t.val / 16) + j.val, by have : t.val < 16 := lt_of_lt_of_eq t.isLt N_0; omega⟩

/-- A point's input block: the rows of its tile. -/
theorem x_in (t : Fin cfg0.N) (r : Fin 512) (j : Fin 1024) : (iblk m c 0 t : S512x1024.Idx → EReal) (ix2 r j) = flat (A0 m c) (512 * (t.val % 16) + r.val) j := by
  obtain ⟨e0, e1⟩ := index0_at t
  refine Eq.trans ?_ (V_x m c (ix2 (⟨512 * (t.val % 16) + r.val, by omega⟩ : Fin 8192) j))
  unfold iblk
  show (V m c main_v1 : S8192x1024.Idx → EReal) _ = _
  congr 1
  funext a
  apply Fin.ext
  match a with
  | ⟨0, _⟩ => show win0_0.index t (0 : Fin 2) * 512 + 1 * r.val = 512 * (t.val % 16) + r.val; omega
  | ⟨1, _⟩ => show win0_0.index t (1 : Fin 2) * 1024 + 1 * j.val = j.val; omega

/-- A point's block of the weights. -/
theorem w_in (t : Fin cfg0.N) (k : Fin 1024) (j : Fin 7296) : (iblk m c 1 t : S1024x7296.Idx → EReal) (ix2 k j) = A1 m c (ix2 k (col t j)) := by
  obtain ⟨e0, e1⟩ := index1_at t
  refine Eq.trans ?_ (congrFun (V_w m c) (ix2 k (col t j)))
  unfold iblk
  show (V m c main_v2 : S1024x7296.Idx → EReal) _ = _
  congr 1
  funext a
  apply Fin.ext
  match a with
  | ⟨0, _⟩ => show win0_1.index t (0 : Fin 2) * 1024 + 1 * k.val = k.val; omega
  | ⟨1, _⟩ => show win0_1.index t (1 : Fin 2) * 7296 + 1 * j.val = 7296 * (t.val / 16) + j.val; omega

/-- A tile's product. -/
theorem pay1_at (x : Vec Ideal S512x1024 .bf16) (w : Vec Ideal S1024x7296 .bf16) (r : Fin 512) (n : Fin 7296) :
    k0_pay1 (F := Ideal) x w (ix2 r n) = ∑ k : Fin 1024, x (ix2 r k) * w (ix2 k n) := by
  unfold k0_pay1
  pointwise

theorem ld_x (x : Vec Ideal S512x1024 .bf16) : View.ld x r0_0 = x := View.ld_unit_zero (by funext a; fin_cases a <;> rfl) inb_S512x1024_S512x1024_0_0 x
theorem ld_w (x : Vec Ideal S1024x7296 .bf16) : View.ld x r0_1 = x := View.ld_unit_zero (by funext a; fin_cases a <;> rfl) inb_S1024x7296_S1024x7296_0_0 x

/-- What a point leaves in the output's block. -/
theorem out_eq (x : Vec Ideal S512x1024 .bf16) (w : Vec Ideal S1024x7296 .bf16) : out0_2 x w = k0_pay1 x w := by
  unfold out0_2
  rw [ld_x, ld_w]
  exact View.canon_unit_zero (by funext a; fin_cases a <;> rfl) inb_S512x7296_S512x7296_0_0 _

/-- The array that the kernel returns is the product. -/
theorem arr_eq : (Gen.dats m 0 c).arrAt 2 cfg0.N = (grad (A0 m c) (A1 m c) : S8192x7296.Idx → EReal) := by
  refine (Gen.dats m 0 c).arrAt_eq_of_cover 2 (grad (A0 m c) (A1 m c) : S8192x7296.Idx → EReal) (fun t _ => ?_) (fun i => ?_)
  · obtain ⟨e0, e1⟩ := index2_at t
    rw [Value.flushed2, out_eq]
    funext y
    have h0 : (y 0).val < 512 := (y 0).isLt
    have h1 : (y 1).val < 7296 := (y 1).isLt
    show k0_pay1 (F := Ideal) (iblk m c 0 t) (iblk m c 1 t) y = grad (A0 m c) (A1 m c) (((cfg0.win 2).blk t).view.emb y)
    have ey : (y : S512x7296.Idx) = ix2 (⟨(y 0).val, h0⟩ : Fin 512) (⟨(y 1).val, h1⟩ : Fin 7296) := funext fun a => match a with
      | ⟨0, _⟩ => rfl
      | ⟨1, _⟩ => rfl
    refine (congrArg (k0_pay1 (F := Ideal) (iblk m c 0 t) (iblk m c 1 t)) ey).trans ?_
    refine (pay1_at _ _ _ _).trans ?_
    have er : (((cfg0.win 2).blk t).view.emb y 0 : Fin 8192).val = 512 * (t.val % 16) + (y 0).val := by show win0_2.index t (0 : Fin 2) * 512 + 1 * (y 0).val = _; omega
    have en : (((cfg0.win 2).blk t).view.emb y 1 : Fin 7296) = col t ⟨(y 1).val, h1⟩ := Fin.ext (by show win0_2.index t (1 : Fin 2) * 7296 + 1 * (y 1).val = 7296 * (t.val / 16) + (y 1).val; omega)
    unfold grad
    refine Finset.sum_congr rfl fun k _ => ?_
    exact congrArg₂ (· * ·) ((x_in m c t _ k).trans (congrArg (flat (A0 m c) · k) er.symm)) ((w_in m c t k _).trans (congrArg (fun n => A1 m c (ix2 k n)) en.symm))
  · have h0 : (i 0).val < 8192 := (i 0).isLt
    have h1 : (i 1).val < 7296 := (i 1).isLt
    obtain ⟨t, ht⟩ : ∃ t : Fin cfg0.N, t.val = 16 * ((i 1).val / 7296) + (i 0).val / 512 := ⟨⟨16 * ((i 1).val / 7296) + (i 0).val / 512, lt_of_lt_of_eq (by omega : _ < 16) N_0.symm⟩, rfl⟩
    obtain ⟨e0, e1⟩ := index2_at t
    refine ⟨t, flush0_2 t, Finset.mem_map.mpr ⟨ix2 (⟨(i 0).val % 512, Nat.mod_lt _ (by norm_num)⟩ : Fin 512) (⟨(i 1).val % 7296, Nat.mod_lt _ (by norm_num)⟩ : Fin 7296), Finset.mem_univ _, ?_⟩⟩
    funext a
    apply Fin.ext
    match a with
    | ⟨0, _⟩ => show win0_2.index t (0 : Fin 2) * 512 + 1 * ((i 0).val % 512) = (i 0).val; omega
    | ⟨1, _⟩ => show win0_2.index t (1 : Fin 2) * 7296 + 1 * ((i 1).val % 7296) = (i 1).val; omega

end

/-! ### The reference -/

open Cert.ReferenceProjInIdeal Cert.ReferenceProjInIdeal.Read

/-- The reference's product, its batches below one another. -/
theorem ref_eq (x : In.Idx → EReal) (w : S1024x7296.Idx → EReal) : val_main_v2 (F := Ideal) x w = grad x w := by
  funext i
  have e : val_main_v2 (F := Ideal) x w i = flat (val_main_v0 (F := Ideal) x w) (i 0).val (i 1) := by
    refine (val_main_v2_apply (F := Ideal) x w i).trans ?_
    show val_main_v1 (F := Ideal) x w i = _
    unfold val_main_v1
    exact flat_shapeCast _ _ i
  rw [e]
  unfold flat
  refine (val_main_v0_apply x w _).trans ?_
  unfold grad flat
  refine Finset.sum_congr rfl fun k _ => congrArg₂ (· * ·) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

end Cert.KernelProjInIdeal.ProjIn
-- ==== Proof.FfnUp.lean ====
/- The up projection: what the kernel leaves from its tiles' products, and that the reference's product is the same array. -/
module

public import proofs.«01_k».proof.Proof.Gen.KernelFfnUpIdeal.Value
public import proofs.«01_k».proof.Proof.Gen.ReferenceFfnUpIdeal.Run
public import proofs.«01_k».proof.Proof.Gen.ReferenceFfnUpIdeal.Read
public import proofs.«01_k».proof.Proof.Sums
public import Idealize.ShloMosaic.Lib.Pointwise
public import Idealize.ShloMosaic.Lib.Claim

@[expose] public section

noncomputable section

namespace Cert.KernelFfnUpIdeal.FfnUp

open Idealize.ShloMosaic Idealize.ShloMosaic.TcCoe Idealize.SL.Sem Cert.KernelFfnUpIdeal Cert.KernelFfnUpIdeal.Gen Cert.Sums

abbrev In : Shape := ⟨3, ![4, 2048, 1024]⟩

/-- The product of the tokens' rows and the weights. -/
def grad (x : In.Idx → EReal) (w : S1024x5632.Idx → EReal) (i : S8192x5632.Idx) : EReal :=
  ∑ k : Fin 1024, flat x (i 0).val k * w (ix2 k (i 1))

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : S1024x5632.Idx → EReal := m ((c : Thread nD τ).loc main_arg1)

/-- The input with its batches below one another. -/
theorem V_x (i : S8192x1024.Idx) : (V m c main_v1 : S8192x1024.Idx → EReal) i = flat (A0 m c) (i 0).val (i 1) := by
  have e : (V m c main_v1 : S8192x1024.Idx → EReal) = shapeCast S8192x1024 (A0 m c) shapeCasts_S4x2048x1024_S8192x1024 := by
    unfold_abbrev_sides
    after_results
    rfl
  rw [e]
  exact flat_shapeCast _ _ i

/-- The weights. -/
theorem V_w : (V m c main_v2 : S1024x5632.Idx → EReal) = A1 m c := by
  unfold_abbrev_sides
  after_results
  rfl

/-- The blocks of a grid point: the row tiles run fastest. -/
theorem index0_at : ∀ t : Fin cfg0.N, win0_0.index t (0 : Fin 2) = t.val % 16 ∧ win0_0.index t (1 : Fin 2) = 0 :=
  (by decide +kernel : ∀ t : Fin grid0.N, _)
theorem index1_at : ∀ t : Fin cfg0.N, win0_1.index t (0 : Fin 2) = 0 ∧ win0_1.index t (1 : Fin 2) = t.val / 16 :=
  (by decide +kernel : ∀ t : Fin grid0.N, _)
theorem index2_at : ∀ t : Fin cfg0.N, win0_2.index t (0 : Fin 2) = t.val % 16 ∧ win0_2.index t (1 : Fin 2) = t.val / 16 :=
  (by decide +kernel : ∀ t : Fin grid0.N, _)

/-- The column of the whole array that column `j` of a point's tile is. -/
def col (t : Fin cfg0.N) (j : Fin 2816) : Fin 5632 := ⟨2816 * (t.val / 16) + j.val, by have : t.val < 32 := lt_of_lt_of_eq t.isLt N_0; omega⟩

/-- A point's input block: the rows of its tile. -/
theorem x_in (t : Fin cfg0.N) (r : Fin 512) (j : Fin 1024) : (iblk m c 0 t : S512x1024.Idx → EReal) (ix2 r j) = flat (A0 m c) (512 * (t.val % 16) + r.val) j := by
  obtain ⟨e0, e1⟩ := index0_at t
  refine Eq.trans ?_ (V_x m c (ix2 (⟨512 * (t.val % 16) + r.val, by omega⟩ : Fin 8192) j))
  unfold iblk
  show (V m c main_v1 : S8192x1024.Idx → EReal) _ = _
  congr 1
  funext a
  apply Fin.ext
  match a with
  | ⟨0, _⟩ => show win0_0.index t (0 : Fin 2) * 512 + 1 * r.val = 512 * (t.val % 16) + r.val; omega
  | ⟨1, _⟩ => show win0_0.index t (1 : Fin 2) * 1024 + 1 * j.val = j.val; omega

/-- A point's block of the weights. -/
theorem w_in (t : Fin cfg0.N) (k : Fin 1024) (j : Fin 2816) : (iblk m c 1 t : S1024x2816.Idx → EReal) (ix2 k j) = A1 m c (ix2 k (col t j)) := by
  obtain ⟨e0, e1⟩ := index1_at t
  refine Eq.trans ?_ (congrFun (V_w m c) (ix2 k (col t j)))
  unfold iblk
  show (V m c main_v2 : S1024x5632.Idx → EReal) _ = _
  congr 1
  funext a
  apply Fin.ext
  match a with
  | ⟨0, _⟩ => show win0_1.index t (0 : Fin 2) * 1024 + 1 * k.val = k.val; omega
  | ⟨1, _⟩ => show win0_1.index t (1 : Fin 2) * 2816 + 1 * j.val = 2816 * (t.val / 16) + j.val; omega

/-- A tile's product. -/
theorem pay1_at (x : Vec Ideal S512x1024 .bf16) (w : Vec Ideal S1024x2816 .bf16) (r : Fin 512) (n : Fin 2816) :
    k0_pay1 (F := Ideal) x w (ix2 r n) = ∑ k : Fin 1024, x (ix2 r k) * w (ix2 k n) := by
  unfold k0_pay1
  pointwise

theorem ld_x (x : Vec Ideal S512x1024 .bf16) : View.ld x r0_0 = x := View.ld_unit_zero (by funext a; fin_cases a <;> rfl) inb_S512x1024_S512x1024_0_0 x
theorem ld_w (x : Vec Ideal S1024x2816 .bf16) : View.ld x r0_1 = x := View.ld_unit_zero (by funext a; fin_cases a <;> rfl) inb_S1024x2816_S1024x2816_0_0 x

/-- What a point leaves in the output's block. -/
theorem out_eq (x : Vec Ideal S512x1024 .bf16) (w : Vec Ideal S1024x2816 .bf16) : out0_2 x w = k0_pay1 x w := by
  unfold out0_2
  rw [ld_x, ld_w]
  exact View.canon_unit_zero (by funext a; fin_cases a <;> rfl) inb_S512x2816_S512x2816_0_0 _

/-- The array that the kernel returns is the product. -/
theorem arr_eq : (Gen.dats m 0 c).arrAt 2 cfg0.N = (grad (A0 m c) (A1 m c) : S8192x5632.Idx → EReal) := by
  refine (Gen.dats m 0 c).arrAt_eq_of_cover 2 (grad (A0 m c) (A1 m c) : S8192x5632.Idx → EReal) (fun t _ => ?_) (fun i => ?_)
  · obtain ⟨e0, e1⟩ := index2_at t
    rw [Value.flushed2, out_eq]
    funext y
    have h0 : (y 0).val < 512 := (y 0).isLt
    have h1 : (y 1).val < 2816 := (y 1).isLt
    show k0_pay1 (F := Ideal) (iblk m c 0 t) (iblk m c 1 t) y = grad (A0 m c) (A1 m c) (((cfg0.win 2).blk t).view.emb y)
    have ey : (y : S512x2816.Idx) = ix2 (⟨(y 0).val, h0⟩ : Fin 512) (⟨(y 1).val, h1⟩ : Fin 2816) := funext fun a => match a with
      | ⟨0, _⟩ => rfl
      | ⟨1, _⟩ => rfl
    refine (congrArg (k0_pay1 (F := Ideal) (iblk m c 0 t) (iblk m c 1 t)) ey).trans ?_
    refine (pay1_at _ _ _ _).trans ?_
    have er : (((cfg0.win 2).blk t).view.emb y 0 : Fin 8192).val = 512 * (t.val % 16) + (y 0).val := by show win0_2.index t (0 : Fin 2) * 512 + 1 * (y 0).val = _; omega
    have en : (((cfg0.win 2).blk t).view.emb y 1 : Fin 5632) = col t ⟨(y 1).val, h1⟩ := Fin.ext (by show win0_2.index t (1 : Fin 2) * 2816 + 1 * (y 1).val = 2816 * (t.val / 16) + (y 1).val; omega)
    unfold grad
    refine Finset.sum_congr rfl fun k _ => ?_
    exact congrArg₂ (· * ·) ((x_in m c t _ k).trans (congrArg (flat (A0 m c) · k) er.symm)) ((w_in m c t k _).trans (congrArg (fun n => A1 m c (ix2 k n)) en.symm))
  · have h0 : (i 0).val < 8192 := (i 0).isLt
    have h1 : (i 1).val < 5632 := (i 1).isLt
    obtain ⟨t, ht⟩ : ∃ t : Fin cfg0.N, t.val = 16 * ((i 1).val / 2816) + (i 0).val / 512 := ⟨⟨16 * ((i 1).val / 2816) + (i 0).val / 512, lt_of_lt_of_eq (by omega : _ < 32) N_0.symm⟩, rfl⟩
    obtain ⟨e0, e1⟩ := index2_at t
    refine ⟨t, flush0_2 t, Finset.mem_map.mpr ⟨ix2 (⟨(i 0).val % 512, Nat.mod_lt _ (by norm_num)⟩ : Fin 512) (⟨(i 1).val % 2816, Nat.mod_lt _ (by norm_num)⟩ : Fin 2816), Finset.mem_univ _, ?_⟩⟩
    funext a
    apply Fin.ext
    match a with
    | ⟨0, _⟩ => show win0_2.index t (0 : Fin 2) * 512 + 1 * ((i 0).val % 512) = (i 0).val; omega
    | ⟨1, _⟩ => show win0_2.index t (1 : Fin 2) * 2816 + 1 * ((i 1).val % 2816) = (i 1).val; omega

end

/-! ### The reference -/

open Cert.ReferenceFfnUpIdeal Cert.ReferenceFfnUpIdeal.Read

/-- The reference's product, its batches below one another. -/
theorem ref_eq (x : In.Idx → EReal) (w : S1024x5632.Idx → EReal) : val_main_v2 (F := Ideal) x w = grad x w := by
  funext i
  have e : val_main_v2 (F := Ideal) x w i = flat (val_main_v0 (F := Ideal) x w) (i 0).val (i 1) := by
    refine (val_main_v2_apply (F := Ideal) x w i).trans ?_
    show val_main_v1 (F := Ideal) x w i = _
    unfold val_main_v1
    exact flat_shapeCast _ _ i
  rw [e]
  unfold flat
  refine (val_main_v0_apply x w _).trans ?_
  unfold grad flat
  refine Finset.sum_congr rfl fun k _ => congrArg₂ (· * ·) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

end Cert.KernelFfnUpIdeal.FfnUp
-- ==== Proof.Dh.lean ====
/- The gradient of the input projection's input: what the kernel leaves from its seven products, and that the reference's one product over the
   concatenated output gradients is the same array. -/
module

public import proofs.«01_k».proof.Proof.Gen.KernelDhIdeal.Value
public import proofs.«01_k».proof.Proof.Gen.ReferenceDhIdeal.Run
public import proofs.«01_k».proof.Proof.Gen.ReferenceDhIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelDhIdeal.Dh

open Idealize.ShloMosaic Idealize.ShloMosaic.TcCoe Idealize.SL.Sem Cert.KernelDhIdeal Cert.KernelDhIdeal.Gen Cert.Sums

abbrev C0 : Shape := ⟨3, ![4, 2048, 1536]⟩
abbrev C1 : Shape := ⟨3, ![4, 2048, 512]⟩
abbrev C2 : Shape := ⟨3, ![4, 2048, 2048]⟩
abbrev C3 : Shape := ⟨3, ![4, 2048, 3072]⟩
abbrev C4 : Shape := ⟨3, ![4, 2048, 128]⟩

/-- The input's gradient: each branch's output gradient against its columns of the weights; the three gates' columns are counted one by one. -/
def grad (x0 : C0.Idx → EReal) (x1 : C1.Idx → EReal) (x2 : C2.Idx → EReal) (x3 : C3.Idx → EReal) (x4 : C4.Idx → EReal) (w : S1024x7296.Idx → EReal) (i : S8192x1024.Idx) : EReal :=
  (∑ k : Fin 1536, flat x0 (i 0).val (⟨k.val, by omega⟩ : Fin 1536) * w (ix2 (i 1) (⟨k.val, by omega⟩ : Fin 7296)))
    + (∑ k : Fin 512, flat x1 (i 0).val (⟨k.val, by omega⟩ : Fin 512) * w (ix2 (i 1) (⟨1536 + k.val, by omega⟩ : Fin 7296)))
    + (∑ k : Fin 2048, flat x2 (i 0).val (⟨k.val, by omega⟩ : Fin 2048) * w (ix2 (i 1) (⟨2048 + k.val, by omega⟩ : Fin 7296)))
    + (∑ k : Fin 1024, flat x3 (i 0).val (⟨k.val, by omega⟩ : Fin 3072) * w (ix2 (i 1) (⟨4096 + k.val, by omega⟩ : Fin 7296)))
    + (∑ k : Fin 1024, flat x3 (i 0).val (⟨1024 + k.val, by omega⟩ : Fin 3072) * w (ix2 (i 1) (⟨5120 + k.val, by omega⟩ : Fin 7296)))
    + (∑ k : Fin 1024, flat x3 (i 0).val (⟨2048 + k.val, by omega⟩ : Fin 3072) * w (ix2 (i 1) (⟨6144 + k.val, by omega⟩ : Fin 7296)))
    + (∑ k : Fin 128, flat x4 (i 0).val (⟨k.val, by omega⟩ : Fin 128) * w (ix2 (i 1) (⟨7168 + k.val, by omega⟩ : Fin 7296)))

/-- A sum over the weights' columns is the sum over the seven runs of columns. -/
theorem sum_seven (f : Fin 7296 → EReal) : ∑ k : Fin 7296, f k = (∑ k : Fin 1536, f (⟨k.val, by omega⟩ : Fin 7296)) + (∑ k : Fin 512, f (⟨1536 + k.val, by omega⟩ : Fin 7296)) + (∑ k : Fin 2048, f (⟨2048 + k.val, by omega⟩ : Fin 7296)) + (∑ k : Fin 1024, f (⟨4096 + k.val, by omega⟩ : Fin 7296)) + (∑ k : Fin 1024, f (⟨5120 + k.val, by omega⟩ : Fin 7296)) + (∑ k : Fin 1024, f (⟨6144 + k.val, by omega⟩ : Fin 7296)) + (∑ k : Fin 128, f (⟨7168 + k.val, by omega⟩ : Fin 7296)) := by
  refine (Fin.sum_univ_add (a := 7168) (b := 128) _).trans (congrArg₂ (· + ·) ?_ rfl)
  refine (Fin.sum_univ_add (a := 6144) (b := 1024) _).trans (congrArg₂ (· + ·) ?_ rfl)
  refine (Fin.sum_univ_add (a := 5120) (b := 1024) _).trans (congrArg₂ (· + ·) ?_ rfl)
  refine (Fin.sum_univ_add (a := 4096) (b := 1024) _).trans (congrArg₂ (· + ·) ?_ rfl)
  refine (Fin.sum_univ_add (a := 2048) (b := 2048) _).trans (congrArg₂ (· + ·) ?_ rfl)
  exact Fin.sum_univ_add (a := 1536) (b := 512) _

/-! ### The kernel -/

section
variable (m : (ℓ : Loc nD τ sig) → Buf (Elt Ideal) ℓ) (c : Dev nD)

/-- The six arguments on a device. -/
abbrev A0 : C0.Idx → EReal := m ((c : Thread nD τ).loc main_arg0)
abbrev A1 : C1.Idx → EReal := m ((c : Thread nD τ).loc main_arg1)
abbrev A2 : C2.Idx → EReal := m ((c : Thread nD τ).loc main_arg2)
abbrev A3 : C3.Idx → EReal := m ((c : Thread nD τ).loc main_arg3)
abbrev A4 : C4.Idx → EReal := m ((c : Thread nD τ).loc main_arg4)
abbrev A5 : S1024x7296.Idx → EReal := m ((c : Thread nD τ).loc main_arg5)

/-- The five output gradients with their batches below one another. -/
theorem V_0 (i : S8192x1536.Idx) : (V m c main_v1 : S8192x1536.Idx → EReal) i = flat (A0 m c) (i 0).val (i 1) := by
  have e : (V m c main_v1 : S8192x1536.Idx → EReal) = shapeCast S8192x1536 (A0 m c) shapeCasts_S4x2048x1536_S8192x1536 := by
    unfold_abbrev_sides
    after_results
    rfl
  rw [e]
  exact flat_shapeCast _ _ i
theorem V_1 (i : S8192x512.Idx) : (V m c main_v3 : S8192x512.Idx → EReal) i = flat (A1 m c) (i 0).val (i 1) := by
  have e : (V m c main_v3 : S8192x512.Idx → EReal) = shapeCast S8192x512 (A1 m c) shapeCasts_S4x2048x512_S8192x512 := by
    unfold_abbrev_sides
    after_results
    rfl
  rw [e]
  exact flat_shapeCast _ _ i
theorem V_2 (i : S8192x2048.Idx) : (V m c main_v5 : S8192x2048.Idx → EReal) i = flat (A2 m c) (i 0).val (i 1) := by
  have e : (V m c main_v5 : S8192x2048.Idx → EReal) = shapeCast S8192x2048 (A2 m c) shapeCasts_S4x2048x2048_S8192x2048 := by
    unfold_abbrev_sides
    after_results
    rfl
  rw [e]
  exact flat_shapeCast _ _ i
theorem V_3 (i : S8192x3072.Idx) : (V m c main_v7 : S8192x3072.Idx → EReal) i = flat (A3 m c) (i 0).val (i 1) := by
  have e : (V m c main_v7 : S8192x3072.Idx → EReal) = shapeCast S8192x3072 (A3 m c) shapeCasts_S4x2048x3072_S8192x3072 := by
    unfold_abbrev_sides
    after_results
    rfl
  rw [e]
  exact flat_shapeCast _ _ i
theorem V_4 (i : S8192x128.Idx) : (V m c main_v9 : S8192x128.Idx → EReal) i = flat (A4 m c) (i 0).val (i 1) := by
  have e : (V m c main_v9 : S8192x128.Idx → EReal) = shapeCast S8192x128 (A4 m c) shapeCasts_S4x2048x128_S8192x128 := by
    unfold_abbrev_sides
    after_results
    rfl
  rw [e]
  exact flat_shapeCast _ _ i

/-- The weights. -/
theorem V_w : (V m c main_v10 : S1024x7296.Idx → EReal) = A5 m c := by
  unfold_abbrev_sides
  after_results
  rfl

/-- The blocks of a grid point. -/
theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = t.val ∧ win0_1.index t (1 : Fin 2) = 0 :=
  (by decide +kernel : ∀ t : Fin grid0.N, _)
theorem index2_at : ∀ t : Fin cfg0.N, win0_2.index t (0 : Fin 2) = t.val ∧ win0_2.index t (1 : Fin 2) = 0 :=
  (by decide +kernel : ∀ t : Fin grid0.N, _)
theorem index3_at : ∀ t : Fin cfg0.N, win0_3.index t (0 : Fin 2) = t.val ∧ win0_3.index t (1 : Fin 2) = 0 :=
  (by decide +kernel : ∀ t : Fin grid0.N, _)
theorem index4_at : ∀ t : Fin cfg0.N, win0_4.index t (0 : Fin 2) = t.val ∧ win0_4.index t (1 : Fin 2) = 1 :=
  (by decide +kernel : ∀ t : Fin grid0.N, _)
theorem index5_at : ∀ t : Fin cfg0.N, win0_5.index t (0 : Fin 2) = t.val ∧ win0_5.index t (1 : Fin 2) = 2 :=
  (by decide +kernel : ∀ t : Fin grid0.N, _)
theorem index6_at : ∀ t : Fin cfg0.N, win0_6.index t (0 : Fin 2) = t.val ∧ win0_6.index t (1 : Fin 2) = 0 :=
  (by decide +kernel : ∀ t : Fin grid0.N, _)
theorem index7_at : ∀ t : Fin cfg0.N, win0_7.index t (0 : Fin 2) = 0 ∧ win0_7.index t (1 : Fin 2) = 0 :=
  (by decide +kernel : ∀ t : Fin grid0.N, _)
theorem index8_at : ∀ t : Fin cfg0.N, win0_8.index t (0 : Fin 2) = 0 ∧ win0_8.index t (1 : Fin 2) = 3 :=
  (by decide +kernel : ∀ t : Fin grid0.N, _)
theorem index9_at : ∀ t : Fin cfg0.N, win0_9.index t (0 : Fin 2) = 0 ∧ win0_9.index t (1 : Fin 2) = 1 :=
  (by decide +kernel : ∀ t : Fin grid0.N, _)
theorem index10_at : ∀ t : Fin cfg0.N, win0_10.index t (0 : Fin 2) = 0 ∧ win0_10.index t (1 : Fin 2) = 4 :=
  (by decide +kernel : ∀ t : Fin grid0.N, _)
theorem index11_at : ∀ t : Fin cfg0.N, win0_11.index t (0 : Fin 2) = 0 ∧ win0_11.index t (1 : Fin 2) = 5 :=
  (by decide +kernel : ∀ t : Fin grid0.N, _)
theorem index12_at : ∀ t : Fin cfg0.N, win0_12.index t (0 : Fin 2) = 0 ∧ win0_12.index t (1 : Fin 2) = 6 :=
  (by decide +kernel : ∀ t : Fin grid0.N, _)
theorem index13_at : ∀ t : Fin cfg0.N, win0_13.index t (0 : Fin 2) = 0 ∧ win0_13.index t (1 : Fin 2) = 56 :=
  (by decide +kernel : ∀ t : Fin grid0.N, _)
theorem index14_at : ∀ t : Fin cfg0.N, win0_14.index t (0 : Fin 2) = t.val ∧ win0_14.index t (1 : Fin 2) = 0 :=
  (by decide +kernel : ∀ t : Fin grid0.N, _)

/-- A point's tiles of the output gradients. -/
theorem dy0_in (t : Fin cfg0.N) (r : Fin 512) (j : Fin 1536) : (iblk m c 0 t : S512x1536.Idx → EReal) (ix2 r j) = flat (A0 m c) (512 * t.val + r.val) (⟨j.val, by omega⟩ : Fin 1536) := by
  obtain ⟨e0, e1⟩ := index0_at t
  have ht : t.val < 16 := lt_of_lt_of_eq t.isLt N_0
  refine Eq.trans ?_ (V_0 m c (ix2 (⟨512 * t.val + r.val, by omega⟩ : Fin 8192) (⟨j.val, by omega⟩ : Fin 1536)))
  unfold iblk
  show (V m c main_v1 : S8192x1536.Idx → EReal) _ = _
  congr 1
  funext a
  apply Fin.ext
  match a with
  | ⟨0, _⟩ => show win0_0.index t (0 : Fin 2) * 512 + 1 * r.val = 512 * t.val + r.val; omega
  | ⟨1, _⟩ => show win0_0.index t (1 : Fin 2) * 1536 + 1 * j.val = j.val; omega
theorem dy1_in (t : Fin cfg0.N) (r : Fin 512) (j : Fin 512) : (iblk m c 1 t : S512x512.Idx → EReal) (ix2 r j) = flat (A1 m c) (512 * t.val + r.val) (⟨j.val, by omega⟩ : Fin 512) := by
  obtain ⟨e0, e1⟩ := index1_at t
  have ht : t.val < 16 := lt_of_lt_of_eq t.isLt N_0
  refine Eq.trans ?_ (V_1 m c (ix2 (⟨512 * t.val + r.val, by omega⟩ : Fin 8192) (⟨j.val, by omega⟩ : Fin 512)))
  unfold iblk
  show (V m c main_v3 : S8192x512.Idx → EReal) _ = _
  congr 1
  funext a
  apply Fin.ext
  match a with
  | ⟨0, _⟩ => show win0_1.index t (0 : Fin 2) * 512 + 1 * r.val = 512 * t.val + r.val; omega
  | ⟨1, _⟩ => show win0_1.index t (1 : Fin 2) * 512 + 1 * j.val = j.val; omega
theorem dy2_in (t : Fin cfg0.N) (r : Fin 512) (j : Fin 2048) : (iblk m c 2 t : S512x2048.Idx → EReal) (ix2 r j) = flat (A2 m c) (512 * t.val + r.val) (⟨j.val, by omega⟩ : Fin 2048) := by
  obtain ⟨e0, e1⟩ := index2_at t
  have ht : t.val < 16 := lt_of_lt_of_eq t.isLt N_0
  refine Eq.trans ?_ (V_2 m c (ix2 (⟨512 * t.val + r.val, by omega⟩ : Fin 8192) (⟨j.val, by omega⟩ : Fin 2048)))
  unfold iblk
  show (V m c main_v5 : S8192x2048.Idx → EReal) _ = _
  congr 1
  funext a
  apply Fin.ext
  match a with
  | ⟨0, _⟩ => show win0_2.index t (0 : Fin 2) * 512 + 1 * r.val = 512 * t.val + r.val; omega
  | ⟨1, _⟩ => show win0_2.index t (1 : Fin 2) * 2048 + 1 * j.val = j.val; omega
theorem dy3_in (t : Fin cfg0.N) (r : Fin 512) (j : Fin 1024) : (iblk m c 3 t : S512x1024.Idx → EReal) (ix2 r j) = flat (A3 m c) (512 * t.val + r.val) (⟨j.val, by omega⟩ : Fin 3072) := by
  obtain ⟨e0, e1⟩ := index3_at t
  have ht : t.val < 16 := lt_of_lt_of_eq t.isLt N_0
  refine Eq.trans ?_ (V_3 m c (ix2 (⟨512 * t.val + r.val, by omega⟩ : Fin 8192) (⟨j.val, by omega⟩ : Fin 3072)))
  unfold iblk
  show (V m c main_v7 : S8192x3072.Idx → EReal) _ = _
  congr 1
  funext a
  apply Fin.ext
  match a with
  | ⟨0, _⟩ => show win0_3.index t (0 : Fin 2) * 512 + 1 * r.val = 512 * t.val + r.val; omega
  | ⟨1, _⟩ => show win0_3.index t (1 : Fin 2) * 1024 + 1 * j.val = j.val; omega
theorem dy4_in (t : Fin cfg0.N) (r : Fin 512) (j : Fin 1024) : (iblk m c 4 t : S512x1024.Idx → EReal) (ix2 r j) = flat (A3 m c) (512 * t.val + r.val) (⟨1024 + j.val, by omega⟩ : Fin 3072) := by
  obtain ⟨e0, e1⟩ := index4_at t
  have ht : t.val < 16 := lt_of_lt_of_eq t.isLt N_0
  refine Eq.trans ?_ (V_3 m c (ix2 (⟨512 * t.val + r.val, by omega⟩ : Fin 8192) (⟨1024 + j.val, by omega⟩ : Fin 3072)))
  unfold iblk
  show (V m c main_v7 : S8192x3072.Idx → EReal) _ = _
  congr 1
  funext a
  apply Fin.ext
  match a with
  | ⟨0, _⟩ => show win0_4.index t (0 : Fin 2) * 512 + 1 * r.val = 512 * t.val + r.val; omega
  | ⟨1, _⟩ => show win0_4.index t (1 : Fin 2) * 1024 + 1 * j.val = 1024 + j.val; omega
theorem dy5_in (t : Fin cfg0.N) (r : Fin 512) (j : Fin 1024) : (iblk m c 5 t : S512x1024.Idx → EReal) (ix2 r j) = flat (A3 m c) (512 * t.val + r.val) (⟨2048 + j.val, by omega⟩ : Fin 3072) := by
  obtain ⟨e0, e1⟩ := index5_at t
  have ht : t.val < 16 := lt_of_lt_of_eq t.isLt N_0
  refine Eq.trans ?_ (V_3 m c (ix2 (⟨512 * t.val + r.val, by omega⟩ : Fin 8192) (⟨2048 + j.val, by omega⟩ : Fin 3072)))
  unfold iblk
  show (V m c main_v7 : S8192x3072.Idx → EReal) _ = _
  congr 1
  funext a
  apply Fin.ext
  match a with
  | ⟨0, _⟩ => show win0_5.index t (0 : Fin 2) * 512 + 1 * r.val = 512 * t.val + r.val; omega
  | ⟨1, _⟩ => show win0_5.index t (1 : Fin 2) * 1024 + 1 * j.val = 2048 + j.val; omega
theorem dy6_in (t : Fin cfg0.N) (r : Fin 512) (j : Fin 128) : (iblk m c 6 t : S512x128.Idx → EReal) (ix2 r j) = flat (A4 m c) (512 * t.val + r.val) (⟨j.val, by omega⟩ : Fin 128) := by
  obtain ⟨e0, e1⟩ := index6_at t
  have ht : t.val < 16 := lt_of_lt_of_eq t.isLt N_0
  refine Eq.trans ?_ (V_4 m c (ix2 (⟨512 * t.val + r.val, by omega⟩ : Fin 8192) (⟨j.val, by omega⟩ : Fin 128)))
  unfold iblk
  show (V m c main_v9 : S8192x128.Idx → EReal) _ = _
  congr 1
  funext a
  apply Fin.ext
  match a with
  | ⟨0, _⟩ => show win0_6.index t (0 : Fin 2) * 512 + 1 * r.val = 512 * t.val + r.val; omega
  | ⟨1, _⟩ => show win0_6.index t (1 : Fin 2) * 128 + 1 * j.val = j.val; omega

/-- A point's columns of the weights. -/
theorem w0_in (t : Fin cfg0.N) (n : Fin 1024) (j : Fin 1536) : (X0_7 m c t : S1024x1536.Idx → EReal) (ix2 n j) = A5 m c (ix2 n (⟨j.val, by omega⟩ : Fin 7296)) := by
  obtain ⟨e0, e1⟩ := index7_at t
  refine Eq.trans ?_ (congrFun (V_w m c) (ix2 n (⟨j.val, by omega⟩ : Fin 7296)))
  unfold X0_7 Pipeline.Window.fill
  rw [dif_pos (moved0_7 t _)]
  unfold iblk
  show (V m c main_v10 : S1024x7296.Idx → EReal) _ = _
  congr 1
  funext a
  apply Fin.ext
  match a with
  | ⟨0, _⟩ => show win0_7.index t (0 : Fin 2) * 1024 + 1 * n.val = n.val; omega
  | ⟨1, _⟩ => show win0_7.index t (1 : Fin 2) * 1536 + 1 * j.val = j.val; omega
theorem w1_in (t : Fin cfg0.N) (n : Fin 1024) (j : Fin 512) : (X0_8 m c t : S1024x512.Idx → EReal) (ix2 n j) = A5 m c (ix2 n (⟨1536 + j.val, by omega⟩ : Fin 7296)) := by
  obtain ⟨e0, e1⟩ := index8_at t
  refine Eq.trans ?_ (congrFun (V_w m c) (ix2 n (⟨1536 + j.val, by omega⟩ : Fin 7296)))
  unfold X0_8 Pipeline.Window.fill
  rw [dif_pos (moved0_8 t _)]
  unfold iblk
  show (V m c main_v10 : S1024x7296.Idx → EReal) _ = _
  congr 1
  funext a
  apply Fin.ext
  match a with
  | ⟨0, _⟩ => show win0_8.index t (0 : Fin 2) * 1024 + 1 * n.val = n.val; omega
  | ⟨1, _⟩ => show win0_8.index t (1 : Fin 2) * 512 + 1 * j.val = 1536 + j.val; omega
theorem w2_in (t : Fin cfg0.N) (n : Fin 1024) (j : Fin 2048) : (X0_9 m c t : S1024x2048.Idx → EReal) (ix2 n j) = A5 m c (ix2 n (⟨2048 + j.val, by omega⟩ : Fin 7296)) := by
  obtain ⟨e0, e1⟩ := index9_at t
  refine Eq.trans ?_ (congrFun (V_w m c) (ix2 n (⟨2048 + j.val, by omega⟩ : Fin 7296)))
  unfold X0_9 Pipeline.Window.fill
  rw [dif_pos (moved0_9 t _)]
  unfold iblk
  show (V m c main_v10 : S1024x7296.Idx → EReal) _ = _
  congr 1
  funext a
  apply Fin.ext
  match a with
  | ⟨0, _⟩ => show win0_9.index t (0 : Fin 2) * 1024 + 1 * n.val = n.val; omega
  | ⟨1, _⟩ => show win0_9.index t (1 : Fin 2) * 2048 + 1 * j.val = 2048 + j.val; omega
theorem w3_in (t : Fin cfg0.N) (n : Fin 1024) (j : Fin 1024) : (X0_10 m c t : S1024x1024.Idx → EReal) (ix2 n j) = A5 m c (ix2 n (⟨4096 + j.val, by omega⟩ : Fin 7296)) := by
  obtain ⟨e0, e1⟩ := index10_at t
  refine Eq.trans ?_ (congrFun (V_w m c) (ix2 n (⟨4096 + j.val, by omega⟩ : Fin 7296)))
  unfold X0_10 Pipeline.Window.fill
  rw [dif_pos (moved0_10 t _)]
  unfold iblk
  show (V m c main_v10 : S1024x7296.Idx → EReal) _ = _
  congr 1
  funext a
  apply Fin.ext
  match a with
  | ⟨0, _⟩ => show win0_10.index t (0 : Fin 2) * 1024 + 1 * n.val = n.val; omega
  | ⟨1, _⟩ => show win0_10.index t (1 : Fin 2) * 1024 + 1 * j.val = 4096 + j.val; omega
theorem w4_in (t : Fin cfg0.N) (n : Fin 1024) (j : Fin 1024) : (X0_11 m c t : S1024x1024.Idx → EReal) (ix2 n j) = A5 m c (ix2 n (⟨5120 + j.val, by omega⟩ : Fin 7296)) := by
  obtain ⟨e0, e1⟩ := index11_at t
  refine Eq.trans ?_ (congrFun (V_w m c) (ix2 n (⟨5120 + j.val, by omega⟩ : Fin 7296)))
  unfold X0_11 Pipeline.Window.fill
  rw [dif_pos (moved0_11 t _)]
  unfold iblk
  show (V m c main_v10 : S1024x7296.Idx → EReal) _ = _
  congr 1
  funext a
  apply Fin.ext
  match a with
  | ⟨0, _⟩ => show win0_11.index t (0 : Fin 2) * 1024 + 1 * n.val = n.val; omega
  | ⟨1, _⟩ => show win0_11.index t (1 : Fin 2) * 1024 + 1 * j.val = 5120 + j.val; omega
theorem w5_in (t : Fin cfg0.N) (n : Fin 1024) (j : Fin 1024) : (X0_12 m c t : S1024x1024.Idx → EReal) (ix2 n j) = A5 m c (ix2 n (⟨6144 + j.val, by omega⟩ : Fin 7296)) := by
  obtain ⟨e0, e1⟩ := index12_at t
  refine Eq.trans ?_ (congrFun (V_w m c) (ix2 n (⟨6144 + j.val, by omega⟩ : Fin 7296)))
  unfold X0_12 Pipeline.Window.fill
  rw [dif_pos (moved0_12 t _)]
  unfold iblk
  show (V m c main_v10 : S1024x7296.Idx → EReal) _ = _
  congr 1
  funext a
  apply Fin.ext
  match a with
  | ⟨0, _⟩ => show win0_12.index t (0 : Fin 2) * 1024 + 1 * n.val = n.val; omega
  | ⟨1, _⟩ => show win0_12.index t (1 : Fin 2) * 1024 + 1 * j.val = 6144 + j.val; omega
theorem w6_in (t : Fin cfg0.N) (n : Fin 1024) (j : Fin 128) : (iblk m c 13 t : S1024x128.Idx → EReal) (ix2 n j) = A5 m c (ix2 n (⟨7168 + j.val, by omega⟩ : Fin 7296)) := by
  obtain ⟨e0, e1⟩ := index13_at t
  refine Eq.trans ?_ (congrFun (V_w m c) (ix2 n (⟨7168 + j.val, by omega⟩ : Fin 7296)))
  unfold iblk
  show (V m c main_v10 : S1024x7296.Idx → EReal) _ = _
  congr 1
  funext a
  apply Fin.ext
  match a with
  | ⟨0, _⟩ => show win0_13.index t (0 : Fin 2) * 1024 + 1 * n.val = n.val; omega
  | ⟨1, _⟩ => show win0_13.index t (1 : Fin 2) * 128 + 1 * j.val = 7168 + j.val; omega

/-- The last two products are added to what came before. -/
theorem pay1_at (z : FVec Ideal S512x1024 .f32) (d5 : FVec Ideal S512x1024 .bf16) (w5 : Vec Ideal S1024x1024 .bf16) (d6 : Vec Ideal S512x128 .bf16) (w6 : Vec Ideal S1024x128 .bf16) (r : Fin 512) (n : Fin 1024) :
    k0_pay1 (F := Ideal) z d5 w5 d6 w6 (ix2 r n) = z (ix2 r n) + (∑ k : Fin 1024, d5 (ix2 r k) * w5 (ix2 n k)) + ∑ k : Fin 128, d6 (ix2 r k) * w6 (ix2 n k) := by
  unfold k0_pay1
  pointwise

/-- The first five products. -/
theorem pay2_at (d0 : Vec Ideal S512x1536 .bf16) (w0 : Vec Ideal S1024x1536 .bf16) (d1 : Vec Ideal S512x512 .bf16) (w1 : Vec Ideal S1024x512 .bf16) (d2 : Vec Ideal S512x2048 .bf16) (w2 : Vec Ideal S1024x2048 .bf16) (d3 : Vec Ideal S512x1024 .bf16) (w3 : Vec Ideal S1024x1024 .bf16) (d4 : Vec Ideal S512x1024 .bf16) (w4 : Vec Ideal S1024x1024 .bf16) (r : Fin 512) (n : Fin 1024) :
    k0_pay2 (F := Ideal) d0 w0 d1 w1 d2 w2 d3 w3 d4 w4 (ix2 r n) = (∑ k : Fin 1536, d0 (ix2 r k) * w0 (ix2 n k)) + (∑ k : Fin 512, d1 (ix2 r k) * w1 (ix2 n k)) + (∑ k : Fin 2048, d2 (ix2 r k) * w2 (ix2 n k)) + (∑ k : Fin 1024, d3 (ix2 r k) * w3 (ix2 n k)) + (∑ k : Fin 1024, d4 (ix2 r k) * w4 (ix2 n k)) := by
  unfold k0_pay2
  pointwise

theorem pay3_eq (d : Vec Ideal S512x1024 .bf16) : k0_pay3 (F := Ideal) d = d := by
  funext i
  unfold k0_pay3
  pointwise

/-- What a tile leaves. -/
def tile (d0 : Vec Ideal S512x1536 .bf16) (d1 : Vec Ideal S512x512 .bf16) (d2 : Vec Ideal S512x2048 .bf16) (d3 : Vec Ideal S512x1024 .bf16) (d4 : Vec Ideal S512x1024 .bf16) (d5 : Vec Ideal S512x1024 .bf16) (d6 : Vec Ideal S512x128 .bf16) (w0 : Vec Ideal S1024x1536 .bf16) (w1 : Vec Ideal S1024x512 .bf16) (w2 : Vec Ideal S1024x2048 .bf16) (w3 : Vec Ideal S1024x1024 .bf16) (w4 : Vec Ideal S1024x1024 .bf16) (w5 : Vec Ideal S1024x1024 .bf16) (w6 : Vec Ideal S1024x128 .bf16) : Vec Ideal S512x1024 .f32 :=
  k0_pay1 (F := Ideal) (k0_pay2 (F := Ideal) d0 w0 d1 w1 d2 w2 d3 w3 d4 w4) (k0_pay3 d5) w5 d6 w6

/-- A tile's seven products. -/
theorem tile_at (d0 : Vec Ideal S512x1536 .bf16) (d1 : Vec Ideal S512x512 .bf16) (d2 : Vec Ideal S512x2048 .bf16) (d3 : Vec Ideal S512x1024 .bf16) (d4 : Vec Ideal S512x1024 .bf16) (d5 : Vec Ideal S512x1024 .bf16) (d6 : Vec Ideal S512x128 .bf16) (w0 : Vec Ideal S1024x1536 .bf16) (w1 : Vec Ideal S1024x512 .bf16) (w2 : Vec Ideal S1024x2048 .bf16) (w3 : Vec Ideal S1024x1024 .bf16) (w4 : Vec Ideal S1024x1024 .bf16) (w5 : Vec Ideal S1024x1024 .bf16) (w6 : Vec Ideal S1024x128 .bf16) (r : Fin 512) (n : Fin 1024) :
    tile d0 d1 d2 d3 d4 d5 d6 w0 w1 w2 w3 w4 w5 w6 (ix2 r n) = (∑ k : Fin 1536, d0 (ix2 r k) * w0 (ix2 n k)) + (∑ k : Fin 512, d1 (ix2 r k) * w1 (ix2 n k)) + (∑ k : Fin 2048, d2 (ix2 r k) * w2 (ix2 n k)) + (∑ k : Fin 1024, d3 (ix2 r k) * w3 (ix2 n k)) + (∑ k : Fin 1024, d4 (ix2 r k) * w4 (ix2 n k)) + (∑ k : Fin 1024, d5 (ix2 r k) * w5 (ix2 n k)) + (∑ k : Fin 128, d6 (ix2 r k) * w6 (ix2 n k)) := by
  unfold tile
  rw [pay1_at, pay2_at, pay3_eq]

/-- The body reads whole blocks. -/
theorem ld_d1536 (x : Vec Ideal S512x1536 .bf16) : View.ld x (Rect.unit ![0, 0] ![512, 1536] inb_S512x1536_S512x1536_0_0) = x :=
  View.ld_unit_zero (by funext a; fin_cases a <;> rfl) inb_S512x1536_S512x1536_0_0 x
theorem ld_w1536 (x : Vec Ideal S1024x1536 .bf16) : View.ld x (Rect.unit ![0, 0] ![1024, 1536] inb_S1024x1536_S1024x1536_0_0) = x :=
  View.ld_unit_zero (by funext a; fin_cases a <;> rfl) inb_S1024x1536_S1024x1536_0_0 x
theorem ld_d512 (x : Vec Ideal S512x512 .bf16) : View.ld x (Rect.unit ![0, 0] ![512, 512] inb_S512x512_S512x512_0_0) = x :=
  View.ld_unit_zero (by funext a; fin_cases a <;> rfl) inb_S512x512_S512x512_0_0 x
theorem ld_w512 (x : Vec Ideal S1024x512 .bf16) : View.ld x (Rect.unit ![0, 0] ![1024, 512] inb_S1024x512_S1024x512_0_0) = x :=
  View.ld_unit_zero (by funext a; fin_cases a <;> rfl) inb_S1024x512_S1024x512_0_0 x
theorem ld_d2048 (x : Vec Ideal S512x2048 .bf16) : View.ld x (Rect.unit ![0, 0] ![512, 2048] inb_S512x2048_S512x2048_0_0) = x :=
  View.ld_unit_zero (by funext a; fin_cases a <;> rfl) inb_S512x2048_S512x2048_0_0 x
theorem ld_w2048 (x : Vec Ideal S1024x2048 .bf16) : View.ld x (Rect.unit ![0, 0] ![1024, 2048] inb_S1024x2048_S1024x2048_0_0) = x :=
  View.ld_unit_zero (by funext a; fin_cases a <;> rfl) inb_S1024x2048_S1024x2048_0_0 x
theorem ld_d1024 (x : Vec Ideal S512x1024 .bf16) : View.ld x (Rect.unit ![0, 0] ![512, 1024] inb_S512x1024_S512x1024_0_0) = x :=
  View.ld_unit_zero (by funext a; fin_cases a <;> rfl) inb_S512x1024_S512x1024_0_0 x
theorem ld_w1024 (x : Vec Ideal S1024x1024 .bf16) : View.ld x (Rect.unit ![0, 0] ![1024, 1024] inb_S1024x1024_S1024x1024_0_0) = x :=
  View.ld_unit_zero (by funext a; fin_cases a <;> rfl) inb_S1024x1024_S1024x1024_0_0 x
theorem ld_d128 (x : Vec Ideal S512x128 .bf16) : View.ld x (Rect.unit ![0, 0] ![512, 128] inb_S512x128_S512x128_0_0) = x :=
  View.ld_unit_zero (by funext a; fin_cases a <;> rfl) inb_S512x128_S512x128_0_0 x
theorem ld_w128 (x : Vec Ideal S1024x128 .bf16) : View.ld x (Rect.unit ![0, 0] ![1024, 128] inb_S1024x128_S1024x128_0_0) = x :=
  View.ld_unit_zero (by funext a; fin_cases a <;> rfl) inb_S1024x128_S1024x128_0_0 x

/-- What a point leaves in the output's block. -/
theorem out_eq (i : grid0.Coords) (arg1 : Memref sig .tc .vmem S512x1536 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x128 .bf16) (harg14 : arg14.IsWhole) (arg15 : Memref sig .tc .vmem S512x1024 .f32) (harg15 : arg15.IsWhole)
    (d0 : Vec Ideal S512x1536 .bf16) (d1 : Vec Ideal S512x512 .bf16) (d2 : Vec Ideal S512x2048 .bf16) (d3 : Vec Ideal S512x1024 .bf16) (d4 : Vec Ideal S512x1024 .bf16) (d5 : Vec Ideal S512x1024 .bf16) (d6 : Vec Ideal S512x128 .bf16) (w0 : Vec Ideal S1024x1536 .bf16) (w1 : Vec Ideal S1024x512 .bf16) (w2 : Vec Ideal S1024x2048 .bf16) (w3 : Vec Ideal S1024x1024 .bf16) (w4 : Vec Ideal S1024x1024 .bf16) (w5 : Vec Ideal S1024x1024 .bf16) (w6 : Vec Ideal S1024x128 .bf16) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 d0 d1 d2 d3 d4 d5 d6 w0 w1 w2 w3 w4 w5 w6 = tile d0 d1 d2 d3 d4 d5 d6 w0 w1 w2 w3 w4 w5 w6 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 d0 d1 d2 d3 d4 d5 d6 w0 w1 w2 w3 w4 w5 w6)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, ld_d1536, ld_w1536, ld_d512, ld_w512, ld_d2048, ld_w2048, ld_d1024, ld_w1024, ld_d128, ld_w128]
  exact View.canon_unit_zero (by funext a; fin_cases a <;> rfl) inb_S512x1024_S512x1024_0_0 _

/-- The array that the kernel returns is the gradient. -/
theorem arr_eq : (Gen.dats m 0 c).arrAt 14 cfg0.N = (grad (A0 m c) (A1 m c) (A2 m c) (A3 m c) (A4 m c) (A5 m c) : S8192x1024.Idx → EReal) := by
  refine (Gen.dats m 0 c).arrAt_eq_of_cover 14 (grad (A0 m c) (A1 m c) (A2 m c) (A3 m c) (A4 m c) (A5 m c) : S8192x1024.Idx → EReal) (fun t _ => ?_) (fun i => ?_)
  · obtain ⟨e0, e1⟩ := index14_at t
    rw [Value.flushed14_A, out_eq]
    funext y
    have h0 : (y 0).val < 512 := (y 0).isLt
    have h1 : (y 1).val < 1024 := (y 1).isLt
    show tile (iblk m c 0 t) (iblk m c 1 t) (iblk m c 2 t) (iblk m c 3 t) (iblk m c 4 t) (iblk m c 5 t) (iblk m c 6 t) (X0_7 m c t) (X0_8 m c t) (X0_9 m c t) (X0_10 m c t) (X0_11 m c t) (X0_12 m c t) (iblk m c 13 t) y = grad (A0 m c) (A1 m c) (A2 m c) (A3 m c) (A4 m c) (A5 m c) (((cfg0.win 14).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (tile (iblk m c 0 t) (iblk m c 1 t) (iblk m c 2 t) (iblk m c 3 t) (iblk m c 4 t) (iblk m c 5 t) (iblk m c 6 t) (X0_7 m c t) (X0_8 m c t) (X0_9 m c t) (X0_10 m c t) (X0_11 m c t) (X0_12 m c t) (iblk m c 13 t)) ey).trans ?_
    refine (tile_at _ _ _ _ _ _ _ _ _ _ _ _ _ _ _ _).trans ?_
    have er : (((cfg0.win 14).blk t).view.emb y 0 : Fin 8192).val = 512 * t.val + (y 0).val := by show win0_14.index t (0 : Fin 2) * 512 + 1 * (y 0).val = _; omega
    have en : (((cfg0.win 14).blk t).view.emb y 1 : Fin 1024) = ⟨(y 1).val, h1⟩ := Fin.ext (by show win0_14.index t (1 : Fin 2) * 1024 + 1 * (y 1).val = (y 1).val; omega)
    unfold grad
    refine congrArg₂ (· + ·) (congrArg₂ (· + ·) (congrArg₂ (· + ·) (congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)) (Finset.sum_congr rfl fun k _ => ?_)) (Finset.sum_congr rfl fun k _ => ?_)) (Finset.sum_congr rfl fun k _ => ?_)
    · exact congrArg₂ (· * ·) ((dy0_in m c t _ k).trans (congrArg (flat (A0 m c) · _) er.symm)) ((w0_in m c t _ k).trans (congrArg (fun n => A5 m c (ix2 n _)) en.symm))
    · exact congrArg₂ (· * ·) ((dy1_in m c t _ k).trans (congrArg (flat (A1 m c) · _) er.symm)) ((w1_in m c t _ k).trans (congrArg (fun n => A5 m c (ix2 n _)) en.symm))
    · exact congrArg₂ (· * ·) ((dy2_in m c t _ k).trans (congrArg (flat (A2 m c) · _) er.symm)) ((w2_in m c t _ k).trans (congrArg (fun n => A5 m c (ix2 n _)) en.symm))
    · exact congrArg₂ (· * ·) ((dy3_in m c t _ k).trans (congrArg (flat (A3 m c) · _) er.symm)) ((w3_in m c t _ k).trans (congrArg (fun n => A5 m c (ix2 n _)) en.symm))
    · exact congrArg₂ (· * ·) ((dy4_in m c t _ k).trans (congrArg (flat (A3 m c) · _) er.symm)) ((w4_in m c t _ k).trans (congrArg (fun n => A5 m c (ix2 n _)) en.symm))
    · exact congrArg₂ (· * ·) ((dy5_in m c t _ k).trans (congrArg (flat (A3 m c) · _) er.symm)) ((w5_in m c t _ k).trans (congrArg (fun n => A5 m c (ix2 n _)) en.symm))
    · exact congrArg₂ (· * ·) ((dy6_in m c t _ k).trans (congrArg (flat (A4 m c) · _) er.symm)) ((w6_in m c t _ k).trans (congrArg (fun n => A5 m c (ix2 n _)) en.symm))
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index14_at t
    refine ⟨t, flush0_14 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_14.index t (0 : Fin 2) * 512 + 1 * ((i 0).val % 512) = (i 0).val; omega
    | ⟨1, _⟩ => show win0_14.index t (1 : Fin 2) * 1024 + 1 * (i 1).val = (i 1).val; omega

end

/-! ### The reference -/

open Cert.ReferenceDhIdeal Cert.ReferenceDhIdeal.Read

/-- The five output gradients beside one another. -/
theorem cat_0 (x0 : C0.Idx → EReal) (x1 : C1.Idx → EReal) (x2 : C2.Idx → EReal) (x3 : C3.Idx → EReal) (x4 : C4.Idx → EReal) (b : Fin 4) (t : Fin 2048) (k : Fin 1536) :
    val_main_v0 (F := Ideal) x0 x1 x2 x3 x4 (ix3 b t (⟨k.val, by omega⟩ : Fin 7296)) = x0 (ix3 b t k) := by
  unfold val_main_v0
  refine concatenate_apply_piece (t := Cert.ReferenceDhIdeal.S4x2048x7296) 2 _ _ _ 0 (by show 0 < 5; omega) Cert.ReferenceDhIdeal.S4x2048x1536 _ rfl rfl 0 rfl (ix3 b t k) ?_ ?_
  · intro a ha
    match a with
    | ⟨0, _⟩ => rfl
    | ⟨1, _⟩ => rfl
    | ⟨2, _⟩ => exact absurd rfl ha
  · show 0 + k.val = k.val; omega
theorem cat_1 (x0 : C0.Idx → EReal) (x1 : C1.Idx → EReal) (x2 : C2.Idx → EReal) (x3 : C3.Idx → EReal) (x4 : C4.Idx → EReal) (b : Fin 4) (t : Fin 2048) (k : Fin 512) :
    val_main_v0 (F := Ideal) x0 x1 x2 x3 x4 (ix3 b t (⟨1536 + k.val, by omega⟩ : Fin 7296)) = x1 (ix3 b t k) := by
  unfold val_main_v0
  refine concatenate_apply_piece (t := Cert.ReferenceDhIdeal.S4x2048x7296) 2 _ _ _ 1 (by show 1 < 5; omega) Cert.ReferenceDhIdeal.S4x2048x512 _ rfl rfl 1536 rfl (ix3 b t k) ?_ ?_
  · intro a ha
    match a with
    | ⟨0, _⟩ => rfl
    | ⟨1, _⟩ => rfl
    | ⟨2, _⟩ => exact absurd rfl ha
  · show 1536 + k.val = 1536 + k.val; omega
theorem cat_2 (x0 : C0.Idx → EReal) (x1 : C1.Idx → EReal) (x2 : C2.Idx → EReal) (x3 : C3.Idx → EReal) (x4 : C4.Idx → EReal) (b : Fin 4) (t : Fin 2048) (k : Fin 2048) :
    val_main_v0 (F := Ideal) x0 x1 x2 x3 x4 (ix3 b t (⟨2048 + k.val, by omega⟩ : Fin 7296)) = x2 (ix3 b t k) := by
  unfold val_main_v0
  refine concatenate_apply_piece (t := Cert.ReferenceDhIdeal.S4x2048x7296) 2 _ _ _ 2 (by show 2 < 5; omega) Cert.ReferenceDhIdeal.S4x2048x2048 _ rfl rfl 2048 rfl (ix3 b t k) ?_ ?_
  · intro a ha
    match a with
    | ⟨0, _⟩ => rfl
    | ⟨1, _⟩ => rfl
    | ⟨2, _⟩ => exact absurd rfl ha
  · show 2048 + k.val = 2048 + k.val; omega
theorem cat_3 (x0 : C0.Idx → EReal) (x1 : C1.Idx → EReal) (x2 : C2.Idx → EReal) (x3 : C3.Idx → EReal) (x4 : C4.Idx → EReal) (b : Fin 4) (t : Fin 2048) (k : Fin 3072) :
    val_main_v0 (F := Ideal) x0 x1 x2 x3 x4 (ix3 b t (⟨4096 + k.val, by omega⟩ : Fin 7296)) = x3 (ix3 b t k) := by
  unfold val_main_v0
  refine concatenate_apply_piece (t := Cert.ReferenceDhIdeal.S4x2048x7296) 2 _ _ _ 3 (by show 3 < 5; omega) Cert.ReferenceDhIdeal.S4x2048x3072 _ rfl rfl 4096 rfl (ix3 b t k) ?_ ?_
  · intro a ha
    match a with
    | ⟨0, _⟩ => rfl
    | ⟨1, _⟩ => rfl
    | ⟨2, _⟩ => exact absurd rfl ha
  · show 4096 + k.val = 4096 + k.val; omega
set_option maxRecDepth 65536 in
theorem cat_4 (x0 : C0.Idx → EReal) (x1 : C1.Idx → EReal) (x2 : C2.Idx → EReal) (x3 : C3.Idx → EReal) (x4 : C4.Idx → EReal) (b : Fin 4) (t : Fin 2048) (k : Fin 128) :
    val_main_v0 (F := Ideal) x0 x1 x2 x3 x4 (ix3 b t (⟨7168 + k.val, by omega⟩ : Fin 7296)) = x4 (ix3 b t k) := by
  unfold val_main_v0
  refine concatenate_apply_piece (t := Cert.ReferenceDhIdeal.S4x2048x7296) 2 _ _ _ 4 (by show 4 < 5; omega) Cert.ReferenceDhIdeal.S4x2048x128 _ rfl rfl 7168 rfl (ix3 b t k) ?_ ?_
  · intro a ha
    match a with
    | ⟨0, _⟩ => rfl
    | ⟨1, _⟩ => rfl
    | ⟨2, _⟩ => exact absurd rfl ha
  · show 7168 + k.val = 7168 + k.val; omega

/-- The reference's product over all the columns is the sum of the seven. -/
theorem ref_eq (x0 : C0.Idx → EReal) (x1 : C1.Idx → EReal) (x2 : C2.Idx → EReal) (x3 : C3.Idx → EReal) (x4 : C4.Idx → EReal) (w : S1024x7296.Idx → EReal) : val_main_v4 (F := Ideal) x0 x1 x2 x3 x4 w = grad x0 x1 x2 x3 x4 w := by
  funext i
  have e : val_main_v4 (F := Ideal) x0 x1 x2 x3 x4 w i = flat (val_main_v3 (F := Ideal) x0 x1 x2 x3 x4 w) (i 0).val (i 1) := by
    unfold val_main_v4
    exact flat_shapeCast _ _ i
  rw [e]
  unfold flat
  refine (val_main_v3_apply x0 x1 x2 x3 x4 w _).trans ?_
  refine (sum_seven _).trans ?_
  unfold grad
  refine congrArg₂ (· + ·) (congrArg₂ (· + ·) (congrArg₂ (· + ·) (congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)) (Finset.sum_congr rfl fun k _ => ?_)) (Finset.sum_congr rfl fun k _ => ?_)) (Finset.sum_congr rfl fun k _ => ?_)
  · refine congrArg₂ (· * ·) (Eq.trans (congrArg (val_main_v0 (F := Ideal) x0 x1 x2 x3 x4) ?_) (cat_0 x0 x1 x2 x3 x4 _ _ (⟨k.val, by omega⟩ : Fin 1536))) (congrArg w ?_)
    · funext a
      match a with
      | ⟨0, _⟩ => rfl
      | ⟨1, _⟩ => rfl
      | ⟨2, _⟩ => exact Fin.ext (by show k.val = k.val; omega)
    · funext a
      match a with
      | ⟨0, _⟩ => rfl
      | ⟨1, _⟩ => rfl
  · refine congrArg₂ (· * ·) (Eq.trans (congrArg (val_main_v0 (F := Ideal) x0 x1 x2 x3 x4) ?_) (cat_1 x0 x1 x2 x3 x4 _ _ (⟨k.val, by omega⟩ : Fin 512))) (congrArg w ?_)
    · funext a
      match a with
      | ⟨0, _⟩ => rfl
      | ⟨1, _⟩ => rfl
      | ⟨2, _⟩ => exact Fin.ext (by show 1536 + k.val = 1536 + (k.val); omega)
    · funext a
      match a with
      | ⟨0, _⟩ => rfl
      | ⟨1, _⟩ => rfl
  · refine congrArg₂ (· * ·) (Eq.trans (congrArg (val_main_v0 (F := Ideal) x0 x1 x2 x3 x4) ?_) (cat_2 x0 x1 x2 x3 x4 _ _ (⟨k.val, by omega⟩ : Fin 2048))) (congrArg w ?_)
    · funext a
      match a with
      | ⟨0, _⟩ => rfl
      | ⟨1, _⟩ => rfl
      | ⟨2, _⟩ => exact Fin.ext (by show 2048 + k.val = 2048 + (k.val); omega)
    · funext a
      match a with
      | ⟨0, _⟩ => rfl
      | ⟨1, _⟩ => rfl
  · refine congrArg₂ (· * ·) (Eq.trans (congrArg (val_main_v0 (F := Ideal) x0 x1 x2 x3 x4) ?_) (cat_3 x0 x1 x2 x3 x4 _ _ (⟨k.val, by omega⟩ : Fin 3072))) (congrArg w ?_)
    · funext a
      match a with
      | ⟨0, _⟩ => rfl
      | ⟨1, _⟩ => rfl
      | ⟨2, _⟩ => exact Fin.ext (by show 4096 + k.val = 4096 + (k.val); omega)
    · funext a
      match a with
      | ⟨0, _⟩ => rfl
      | ⟨1, _⟩ => rfl
  · refine congrArg₂ (· * ·) (Eq.trans (congrArg (val_main_v0 (F := Ideal) x0 x1 x2 x3 x4) ?_) (cat_3 x0 x1 x2 x3 x4 _ _ (⟨1024 + k.val, by omega⟩ : Fin 3072))) (congrArg w ?_)
    · funext a
      match a with
      | ⟨0, _⟩ => rfl
      | ⟨1, _⟩ => rfl
      | ⟨2, _⟩ => exact Fin.ext (by show 5120 + k.val = 4096 + (1024 + k.val); omega)
    · funext a
      match a with
      | ⟨0, _⟩ => rfl
      | ⟨1, _⟩ => rfl
  · refine congrArg₂ (· * ·) (Eq.trans (congrArg (val_main_v0 (F := Ideal) x0 x1 x2 x3 x4) ?_) (cat_3 x0 x1 x2 x3 x4 _ _ (⟨2048 + k.val, by omega⟩ : Fin 3072))) (congrArg w ?_)
    · funext a
      match a with
      | ⟨0, _⟩ => rfl
      | ⟨1, _⟩ => rfl
      | ⟨2, _⟩ => exact Fin.ext (by show 6144 + k.val = 4096 + (2048 + k.val); omega)
    · funext a
      match a with
      | ⟨0, _⟩ => rfl
      | ⟨1, _⟩ => rfl
  · refine congrArg₂ (· * ·) (Eq.trans (congrArg (val_main_v0 (F := Ideal) x0 x1 x2 x3 x4) ?_) (cat_4 x0 x1 x2 x3 x4 _ _ (⟨k.val, by omega⟩ : Fin 128))) (congrArg w ?_)
    · funext a
      match a with
      | ⟨0, _⟩ => rfl
      | ⟨1, _⟩ => rfl
      | ⟨2, _⟩ => exact Fin.ext (by show 7168 + k.val = 7168 + (k.val); omega)
    · funext a
      match a with
      | ⟨0, _⟩ => rfl
      | ⟨1, _⟩ => rfl

end Cert.KernelDhIdeal.Dh
-- ==== Proof.MergeB.lean ====
/- The backward pass of the branches' merge: what the kernel leaves in its seven arrays, and that the reference's derivatives are the same. -/
module

public import proofs.«01_k».proof.Proof.Gen.KernelMergeBIdeal.Value
public import proofs.«01_k».proof.Proof.Gen.ReferenceMergeBIdeal.Run
public import proofs.«01_k».proof.Proof.Gen.ReferenceMergeBIdeal.Read
public import proofs.«01_k».proof.Proof.Sums
public import Idealize.ShloMosaic.Lib.Tactic
public import Idealize.ShloMosaic.Lib.Pointwise
public import Idealize.ShloMosaic.Lib.Claim
public import Idealize.ShloMosaic.Lib.Pipeline.ReadBack

@[expose] public section

noncomputable section

namespace Cert.KernelMergeBIdeal.MergeB

open Idealize.ShloMosaic Idealize.ShloMosaic.TcCoe Idealize.SL.Sem Cert.KernelMergeBIdeal Cert.KernelMergeBIdeal.Gen Cert.Sums

abbrev Md : Shape := ⟨3, ![4, 2048, 1024]⟩
abbrev Gt : Shape := ⟨3, ![4, 2048, 3072]⟩
abbrev Br : Shape := ⟨3, ![4, 2048, 512]⟩

/-- The gradient of the merged branches: the output's gradient against the output weights. -/
def dm (dx : Md.Idx → EReal) (wo : S1024x1024.Idx → EReal) (n : ℕ) (j : Fin 1024) : EReal :=
  ∑ k : Fin 1024, flat dx n k * wo (ix2 j k)

/-- The three gates. -/
def gate0 (g : Gt.Idx → EReal) (n : ℕ) (j : Fin 1024) : EReal := Ideal.logistic (flat g n (⟨j.val, by omega⟩ : Fin 3072))
def gate1 (g : Gt.Idx → EReal) (n : ℕ) (j : Fin 1024) : EReal := Ideal.logistic (flat g n (⟨1024 + j.val, by omega⟩ : Fin 3072))
def gate2 (g : Gt.Idx → EReal) (n : ℕ) (j : Fin 1024) : EReal := Ideal.logistic (flat g n (⟨2048 + j.val, by omega⟩ : Fin 3072))

/-- A branch's projection. -/
def up (y : Br.Idx → EReal) (w : S512x1024.Idx → EReal) (n : ℕ) (j : Fin 1024) : EReal :=
  ∑ k : Fin 512, flat y n k * w (ix2 k j)

/-- The gradient of a projection: the merged gradient under the branch's gate. -/
def du (gt : (Gt.Idx → EReal) → ℕ → Fin 1024 → EReal) (dx : Md.Idx → EReal) (g : Gt.Idx → EReal) (wo : S1024x1024.Idx → EReal) (n : ℕ) (j : Fin 1024) : EReal :=
  dm dx wo n j * gt g n j

/-- The gradient of a branch: its projection's gradient against its weights. -/
def dy (gt : (Gt.Idx → EReal) → ℕ → Fin 1024 → EReal) (dx : Md.Idx → EReal) (g : Gt.Idx → EReal) (w : S512x1024.Idx → EReal) (wo : S1024x1024.Idx → EReal) (n : ℕ) (j : Fin 512) : EReal :=
  ∑ k : Fin 1024, du gt dx g wo n k * w (ix2 j k)

/-- The gradient of a gate's argument. -/
def dg (gt : (Gt.Idx → EReal) → ℕ → Fin 1024 → EReal) (dx : Md.Idx → EReal) (g : Gt.Idx → EReal) (y : Br.Idx → EReal) (w : S512x1024.Idx → EReal) (wo : S1024x1024.Idx → EReal) (n : ℕ) (j : Fin 1024) : EReal :=
  dm dx wo n j * up y w n j * gt g n j * (1 - gt g n j)

/-- The three gates' gradients side by side. -/
def beside (a b c : ℕ → Fin 1024 → EReal) (n : ℕ) (j : Fin 3072) : EReal :=
  if h : j.val < 1024 then a n ⟨j.val, h⟩ else if h' : j.val < 2048 then b n ⟨j.val - 1024, by omega⟩ else c n ⟨j.val - 2048, by omega⟩

/-- The gradient of the gates' arguments. -/
def dgate (dx : Md.Idx → EReal) (g : Gt.Idx → EReal) (ya yb yc : Br.Idx → EReal) (wa wb wc : S512x1024.Idx → EReal) (wo : S1024x1024.Idx → EReal) (n : ℕ) (j : Fin 3072) : EReal :=
  beside (dg gate0 dx g ya wa wo) (dg gate1 dx g yb wb wo) (dg gate2 dx g yc wc wo) n j

/-! ### The kernel's body, over the blocks that a point reads -/

theorem pay2_at (d : Vec Ideal S512x1024 .f32) (wo : Vec Ideal S1024x1024 .bf16) (r : Fin 512) (j : Fin 1024) : k0_pay2 (F := Ideal) d wo (ix2 r j) = ∑ k : Fin 1024, d (ix2 r k) * wo (ix2 j k) := by
  unfold k0_pay2
  pointwise
theorem pay3_at (g : Vec Ideal S512x1024 .bf16) (r : Fin 512) (j : Fin 1024) : k0_pay3 (F := Ideal) g (ix2 r j) = Ideal.logistic (g (ix2 r j)) := by
  unfold k0_pay3
  pointwise
theorem pay7_at (g : Vec Ideal S512x1024 .bf16) (r : Fin 512) (j : Fin 1024) : k0_pay7 (F := Ideal) g (ix2 r j) = Ideal.logistic (g (ix2 r j)) := by
  unfold k0_pay7
  pointwise
theorem pay11_at (g : Vec Ideal S512x1024 .bf16) (r : Fin 512) (j : Fin 1024) : k0_pay11 (F := Ideal) g (ix2 r j) = Ideal.logistic (g (ix2 r j)) := by
  unfold k0_pay11
  pointwise
theorem pay14_at (w : Vec Ideal S512x1024 .bf16) (r : Fin 512) (j : Fin 1024) : k0_pay14 (F := Ideal) w (ix2 r j) = w (ix2 r j) := by
  unfold k0_pay14
  pointwise
theorem pay4_at (d : Vec Ideal S512x1024 .f32) (wo : Vec Ideal S1024x1024 .bf16) (g : Vec Ideal S512x1024 .bf16) (r : Fin 512) (j : Fin 1024) : k0_pay4 (F := Ideal) d wo g (ix2 r j) = k0_pay2 (F := Ideal) d wo (ix2 r j) * k0_pay3 (F := Ideal) g (ix2 r j) := by
  unfold k0_pay4
  pointwise
theorem pay8_at (d : Vec Ideal S512x1024 .f32) (wo : Vec Ideal S1024x1024 .bf16) (g : Vec Ideal S512x1024 .bf16) (r : Fin 512) (j : Fin 1024) : k0_pay8 (F := Ideal) d wo g (ix2 r j) = k0_pay2 (F := Ideal) d wo (ix2 r j) * k0_pay7 (F := Ideal) g (ix2 r j) := by
  unfold k0_pay8
  pointwise
theorem pay12_at (a : FVec Ideal S512x1024 .f32) (g : Vec Ideal S512x1024 .bf16) (r : Fin 512) (j : Fin 1024) : k0_pay12 (F := Ideal) a g (ix2 r j) = a (ix2 r j) * k0_pay11 (F := Ideal) g (ix2 r j) := by
  unfold k0_pay12
  pointwise
theorem pay5_at (d : Vec Ideal S512x1024 .f32) (wo : Vec Ideal S1024x1024 .bf16) (g u : Vec Ideal S512x1024 .bf16) (r : Fin 512) (j : Fin 1024) : k0_pay5 (F := Ideal) d wo g u (ix2 r j) = k0_pay2 (F := Ideal) d wo (ix2 r j) * u (ix2 r j) * k0_pay3 (F := Ideal) g (ix2 r j) * (1 - k0_pay3 (F := Ideal) g (ix2 r j)) := by
  unfold k0_pay5
  pointwise
theorem pay9_at (a b : FVec Ideal S512x1024 .f32) (u : Vec Ideal S512x1024 .bf16) (r : Fin 512) (j : Fin 1024) : k0_pay9 (F := Ideal) a b u (ix2 r j) = a (ix2 r j) * u (ix2 r j) * b (ix2 r j) * (1 - b (ix2 r j)) := by
  unfold k0_pay9
  pointwise
theorem pay13_at (a : FVec Ideal S512x1024 .f32) (g u : Vec Ideal S512x1024 .bf16) (r : Fin 512) (j : Fin 1024) : k0_pay13 (F := Ideal) a g u (ix2 r j) = a (ix2 r j) * u (ix2 r j) * k0_pay11 (F := Ideal) g (ix2 r j) * (1 - k0_pay11 (F := Ideal) g (ix2 r j)) := by
  unfold k0_pay13
  pointwise
theorem pay6_at (d : Vec Ideal S512x1024 .f32) (wo : Vec Ideal S1024x1024 .bf16) (g w : Vec Ideal S512x1024 .bf16) (r : Fin 512) (j : Fin 512) : k0_pay6 (F := Ideal) d wo g w (ix2 r j) = ∑ k : Fin 1024, k0_pay4 (F := Ideal) d wo g (ix2 r k) * w (ix2 j k) := by
  unfold k0_pay6
  pointwise
theorem pay10_at (a : FVec Ideal S512x1024 .bf16) (w : Vec Ideal S512x1024 .bf16) (r : Fin 512) (j : Fin 512) : k0_pay10 (F := Ideal) a w (ix2 r j) = ∑ k : Fin 1024, a (ix2 r k) * w (ix2 j k) := by
  unfold k0_pay10
  pointwise
theorem pay1_at (a w : FVec Ideal S512x1024 .bf16) (r : Fin 512) (j : Fin 512) : k0_pay1 (F := Ideal) a w (ix2 r j) = ∑ k : Fin 1024, a (ix2 r k) * w (ix2 j k) := by
  unfold k0_pay1
  pointwise

/-- The gates' block: three runs of 1024 columns. -/
def dgBlk (d : Vec Ideal S512x1024 .f32) (g0 g1 g2 u0 u1 u2 : Vec Ideal S512x1024 .bf16) (wo : Vec Ideal S1024x1024 .bf16) : Vec Ideal S512x3072 .bf16 := fun y =>
  have h0 : (y 0).val < 512 := (y 0).isLt
  have h1 : (y 1).val < 3072 := (y 1).isLt
  if h : (y 1).val < 1024 then k0_pay5 (F := Ideal) d wo g0 u0 (ix2 (⟨(y 0).val, h0⟩ : Fin 512) (⟨(y 1).val, h⟩ : Fin 1024))
  else if h' : (y 1).val < 2048 then k0_pay9 (F := Ideal) (k0_pay2 d wo) (k0_pay7 g1) u1 (ix2 (⟨(y 0).val, h0⟩ : Fin 512) (⟨(y 1).val - 1024, by omega⟩ : Fin 1024))
  else k0_pay13 (F := Ideal) (k0_pay2 d wo) g2 u2 (ix2 (⟨(y 0).val, h0⟩ : Fin 512) (⟨(y 1).val - 2048, by omega⟩ : Fin 1024))

theorem dgBlk_emb0 (d : Vec Ideal S512x1024 .f32) (g0 g1 g2 u0 u1 u2 : Vec Ideal S512x1024 .bf16) (wo : Vec Ideal S1024x1024 .bf16) (inb) (x : S512x1024.Idx) :
    dgBlk d g0 g1 g2 u0 u1 u2 wo ((Rect.unit (s := S512x3072) ![0, 0] S512x1024.size inb).emb x) = k0_pay5 (F := Ideal) d wo g0 u0 x := by
  have h0 : (x 0).val < 512 := (x 0).isLt
  have h1 : (x 1).val < 1024 := (x 1).isLt
  unfold dgBlk
  dsimp only
  rw [dif_pos (show ((((Rect.unit (s := S512x3072) ![0, 0] S512x1024.size inb).emb x) 1).val < 1024) by show (0 + 1 * (x 1).val < 1024); omega)]
  congr 1
  funext a
  apply Fin.ext
  match a with
  | ⟨0, _⟩ => show 0 + 1 * (x 0).val = (x 0).val; omega
  | ⟨1, _⟩ => show 0 + 1 * (x 1).val = (x 1).val; omega
theorem dgBlk_emb1 (d : Vec Ideal S512x1024 .f32) (g0 g1 g2 u0 u1 u2 : Vec Ideal S512x1024 .bf16) (wo : Vec Ideal S1024x1024 .bf16) (inb) (x : S512x1024.Idx) :
    dgBlk d g0 g1 g2 u0 u1 u2 wo ((Rect.unit (s := S512x3072) ![0, 1024] S512x1024.size inb).emb x) = k0_pay9 (F := Ideal) (k0_pay2 d wo) (k0_pay7 g1) u1 x := by
  have h0 : (x 0).val < 512 := (x 0).isLt
  have h1 : (x 1).val < 1024 := (x 1).isLt
  unfold dgBlk
  dsimp only
  rw [dif_neg (show ¬((((Rect.unit (s := S512x3072) ![0, 1024] S512x1024.size inb).emb x) 1).val < 1024) by show ¬(1024 + 1 * (x 1).val < 1024); omega)]
  rw [dif_pos (show ((((Rect.unit (s := S512x3072) ![0, 1024] S512x1024.size inb).emb x) 1).val < 2048) by show (1024 + 1 * (x 1).val < 2048); omega)]
  congr 1
  funext a
  apply Fin.ext
  match a with
  | ⟨0, _⟩ => show 0 + 1 * (x 0).val = (x 0).val; omega
  | ⟨1, _⟩ => show 1024 + 1 * (x 1).val - 1024 = (x 1).val; omega
theorem dgBlk_emb2 (d : Vec Ideal S512x1024 .f32) (g0 g1 g2 u0 u1 u2 : Vec Ideal S512x1024 .bf16) (wo : Vec Ideal S1024x1024 .bf16) (inb) (x : S512x1024.Idx) :
    dgBlk d g0 g1 g2 u0 u1 u2 wo ((Rect.unit (s := S512x3072) ![0, 2048] S512x1024.size inb).emb x) = k0_pay13 (F := Ideal) (k0_pay2 d wo) g2 u2 x := by
  have h0 : (x 0).val < 512 := (x 0).isLt
  have h1 : (x 1).val < 1024 := (x 1).isLt
  unfold dgBlk
  dsimp only
  rw [dif_neg (show ¬((((Rect.unit (s := S512x3072) ![0, 2048] S512x1024.size inb).emb x) 1).val < 1024) by show ¬(2048 + 1 * (x 1).val < 1024); omega)]
  rw [dif_neg (show ¬((((Rect.unit (s := S512x3072) ![0, 2048] S512x1024.size inb).emb x) 1).val < 2048) by show ¬(2048 + 1 * (x 1).val < 2048); omega)]
  congr 1
  funext a
  apply Fin.ext
  match a with
  | ⟨0, _⟩ => show 0 + 1 * (x 0).val = (x 0).val; omega
  | ⟨1, _⟩ => show 2048 + 1 * (x 1).val - 2048 = (x 1).val; omega

/-- The body reads whole blocks. -/
theorem ld_512x1024 {e : EltTy} (x : Vec Ideal S512x1024 e) : View.ld x (Rect.unit ![0, 0] ![512, 1024] inb_S512x1024_S512x1024_0_0) = x :=
  View.ld_unit_zero (by funext a; fin_cases a <;> rfl) inb_S512x1024_S512x1024_0_0 x
theorem ld_1024x1024 {e : EltTy} (x : Vec Ideal S1024x1024 e) : View.ld x (Rect.unit ![0, 0] ![1024, 1024] inb_S1024x1024_S1024x1024_0_0) = x :=
  View.ld_unit_zero (by funext a; fin_cases a <;> rfl) inb_S1024x1024_S1024x1024_0_0 x

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S512x3072 .bf16) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole)
  (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S512x1024 .bf16) (x6 : Vec Ideal S512x1024 .bf16) (x7 : Vec Ideal S512x1024 .bf16) (x8 : Vec Ideal S512x1024 .bf16) (x9 : Vec Ideal S512x1024 .bf16) (x10 : Vec Ideal S1024x1024 .bf16)

/-- What a point leaves in each of its seven blocks. -/
theorem out_A11 :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = dgBlk x0 x1 x2 x3 x4 x5 x6 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  funext y
  refine View.canon_append_of_piecesOf _ [] [_, _, _] ⟨fun x => (dgBlk_emb2 x0 x1 x2 x3 x4 x5 x6 x10 inb_S512x3072_S512x1024_0_2048 x).symm, fun x => (dgBlk_emb1 x0 x1 x2 x3 x4 x5 x6 x10 inb_S512x3072_S512x1024_0_1024 x).symm, fun x => (dgBlk_emb0 x0 x1 x2 x3 x4 x5 x6 x10 inb_S512x3072_S512x1024_0_0 x).symm, trivial⟩ y ?_
  exact View.cover_of_tiledL (s := S512x3072) _ S512x1024.size (by sl_kernel_rfl) y
theorem out_A12 :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = k0_pay6 x0 x10 x1 x7 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  exact View.canon_unit_zero (by funext a; fin_cases a <;> rfl) inb_S512x512_S512x512_0_0 _
theorem out_A13 :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = k0_pay10 (k0_pay8 x0 x10 x2) x8 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  exact View.canon_unit_zero (by funext a; fin_cases a <;> rfl) inb_S512x512_S512x512_0_0 _
theorem out_A14 :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = k0_pay1 (k0_pay12 (k0_pay2 x0 x10) x3) (k0_pay14 x9) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  exact View.canon_unit_zero (by funext a; fin_cases a <;> rfl) inb_S512x512_S512x512_0_0 _
theorem out_A15 :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = k0_pay4 x0 x10 x1 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  exact View.canon_unit_zero (by funext a; fin_cases a <;> rfl) inb_S512x1024_S512x1024_0_0 _
theorem out_A16 :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = k0_pay8 x0 x10 x2 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  exact View.canon_unit_zero (by funext a; fin_cases a <;> rfl) inb_S512x1024_S512x1024_0_0 _
theorem out_A17 :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = k0_pay12 (k0_pay2 x0 x10) x3 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, ld_512x1024, ld_1024x1024]
  exact View.canon_unit_zero (by funext a; fin_cases a <;> rfl) inb_S512x1024_S512x1024_0_0 _

end

/-! ### The blocks -/

/-- The host's product, at a token. -/
theorem dot_at (y : S4x2048x512.Idx → EReal) (w : S512x1024.Idx → EReal) (b : Fin 4) (t : Fin 2048) (j : Fin 1024) :
    (Host.dotGeneral (F := Ideal) (φ₁ := .f32) (φ₂ := .f32) dot_S4x2048x512_S512x1024_S4x2048x1024_2_0_01_1_n_n none y w : S4x2048x1024.Idx → EReal) (ix3 b t j) = ∑ k : Fin 512, y (ix3 b t k) * w (ix2 k j) := by
  pointwise

section
variable (m : (ℓ : Loc nD τ sig) → Buf (Elt Ideal) ℓ) (c : Dev nD)

/-- The nine arguments on a device. -/
abbrev A0 : Md.Idx → EReal := m ((c : Thread nD τ).loc main_arg0)
abbrev A1 : Gt.Idx → EReal := m ((c : Thread nD τ).loc main_arg1)
abbrev A2 : Br.Idx → EReal := m ((c : Thread nD τ).loc main_arg2)
abbrev A3 : Br.Idx → EReal := m ((c : Thread nD τ).loc main_arg3)
abbrev A4 : Br.Idx → EReal := m ((c : Thread nD τ).loc main_arg4)
abbrev A5 : S512x1024.Idx → EReal := m ((c : Thread nD τ).loc main_arg5)
abbrev A6 : S512x1024.Idx → EReal := m ((c : Thread nD τ).loc main_arg6)
abbrev A7 : S512x1024.Idx → EReal := m ((c : Thread nD τ).loc main_arg7)
abbrev A8 : S1024x1024.Idx → EReal := m ((c : Thread nD τ).loc main_arg8)

/-- The arrays that the kernel is called on: the batches below one another. -/
theorem V_d (i : S8192x1024.Idx) : (V m c main_v13 : S8192x1024.Idx → EReal) i = flat (A0 m c) (i 0).val (i 1) := by
  have e : (V m c main_v13 : S8192x1024.Idx → EReal) = shapeCast S8192x1024 (A0 m c) shapeCasts_S4x2048x1024_S8192x1024 := by
    unfold_abbrev_sides
    after_results
    rfl
  rw [e]
  exact flat_shapeCast _ _ i
theorem V_ua (i : S8192x1024.Idx) : (V m c main_v2 : S8192x1024.Idx → EReal) i = ∑ k : Fin 512, flat (A2 m c) (i 0).val k * A5 m c (ix2 k (i 1)) := by
  have e : (V m c main_v2 : S8192x1024.Idx → EReal) = shapeCast S8192x1024 (Host.dotGeneral (F := Ideal) (φ₁ := .f32) (φ₂ := .f32) dot_S4x2048x512_S512x1024_S4x2048x1024_2_0_01_1_n_n none (A2 m c) (A5 m c) : S4x2048x1024.Idx → EReal) shapeCasts_S4x2048x1024_S8192x1024 := by
    unfold_abbrev_sides
    after_results
    rfl
  rw [e]
  refine (flat_shapeCast _ _ i).trans ?_
  exact dot_at _ _ _ _ _
theorem V_ub (i : S8192x1024.Idx) : (V m c main_v5 : S8192x1024.Idx → EReal) i = ∑ k : Fin 512, flat (A3 m c) (i 0).val k * A6 m c (ix2 k (i 1)) := by
  have e : (V m c main_v5 : S8192x1024.Idx → EReal) = shapeCast S8192x1024 (Host.dotGeneral (F := Ideal) (φ₁ := .f32) (φ₂ := .f32) dot_S4x2048x512_S512x1024_S4x2048x1024_2_0_01_1_n_n none (A3 m c) (A6 m c) : S4x2048x1024.Idx → EReal) shapeCasts_S4x2048x1024_S8192x1024 := by
    unfold_abbrev_sides
    after_results
    rfl
  rw [e]
  refine (flat_shapeCast _ _ i).trans ?_
  exact dot_at _ _ _ _ _
theorem V_uc (i : S8192x1024.Idx) : (V m c main_v8 : S8192x1024.Idx → EReal) i = ∑ k : Fin 512, flat (A4 m c) (i 0).val k * A7 m c (ix2 k (i 1)) := by
  have e : (V m c main_v8 : S8192x1024.Idx → EReal) = shapeCast S8192x1024 (Host.dotGeneral (F := Ideal) (φ₁ := .f32) (φ₂ := .f32) dot_S4x2048x512_S512x1024_S4x2048x1024_2_0_01_1_n_n none (A4 m c) (A7 m c) : S4x2048x1024.Idx → EReal) shapeCasts_S4x2048x1024_S8192x1024 := by
    unfold_abbrev_sides
    after_results
    rfl
  rw [e]
  refine (flat_shapeCast _ _ i).trans ?_
  exact dot_at _ _ _ _ _
theorem V_wa : (V m c main_v9 : S512x1024.Idx → EReal) = A5 m c := by
  unfold_abbrev_sides
  after_results
  rfl
theorem V_wb : (V m c main_v10 : S512x1024.Idx → EReal) = A6 m c := by
  unfold_abbrev_sides
  after_results
  rfl
theorem V_wc : (V m c main_v11 : S512x1024.Idx → EReal) = A7 m c := by
  unfold_abbrev_sides
  after_results
  rfl
theorem V_wo : (V m c main_v12 : S1024x1024.Idx → EReal) = A8 m c := by
  unfold_abbrev_sides
  after_results
  rfl

set_option maxRecDepth 65536 in
/-- The gates' columns of the wide array. -/
theorem V_z (i : S8192x7296.Idx) (hlo : 4096 ≤ (i 1).val) (hhi : (i 1).val < 7168) : (V m c main_v18 : S8192x7296.Idx → EReal) i
    = flat (A1 m c) (i 0).val (⟨(i 1).val - 4096, by omega⟩ : Fin 3072) := by
  have e : (V m c main_v18 : S8192x7296.Idx → EReal) = concatenate S8192x7296 1 [⟨S8192x4096, broadcastInDim S8192x4096 ![] bcast_S_S8192x4096 (constant (F := Ideal) S_ .f32 0x00000000#32)⟩,
      ⟨S8192x3072, shapeCast S8192x3072 (A1 m c) shapeCasts_S4x2048x3072_S8192x3072⟩,
      ⟨S8192x128, broadcastInDim S8192x128 ![] bcast_S_S8192x128 (constant (F := Ideal) S_ .f32 0x00000000#32)⟩] concatenates_S8192x4096_S8192x3072_S8192x128_S8192x7296_d1 := by
    unfold_abbrev_sides
    after_results
    rfl
  rw [e]
  refine (concatenate_apply_piece (t := S8192x7296) 1 _ _ i 1 (by show 1 < 3; omega) S8192x3072 _ rfl rfl 4096 rfl
    (ix2 (i 0) (⟨(i 1).val - 4096, by omega⟩ : Fin 3072)) ?_ ?_).trans ?_
  · intro b hb
    match b with
    | ⟨0, _⟩ => rfl
    | ⟨1, _⟩ => exact absurd rfl hb
  · show 4096 + ((i 1).val - 4096) = (i 1).val; omega
  · exact flat_shapeCast _ _ _

/-- The blocks of a grid point. -/
theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = t.val ∧ win0_1.index t (1 : Fin 2) = 4 :=
  (by decide +kernel : ∀ t : Fin grid0.N, _)
theorem index2_at : ∀ t : Fin cfg0.N, win0_2.index t (0 : Fin 2) = t.val ∧ win0_2.index t (1 : Fin 2) = 5 :=
  (by decide +kernel : ∀ t : Fin grid0.N, _)
theorem index3_at : ∀ t : Fin cfg0.N, win0_3.index t (0 : Fin 2) = t.val ∧ win0_3.index t (1 : Fin 2) = 6 :=
  (by decide +kernel : ∀ t : Fin grid0.N, _)
theorem index4_at : ∀ t : Fin cfg0.N, win0_4.index t (0 : Fin 2) = t.val ∧ win0_4.index t (1 : Fin 2) = 0 :=
  (by decide +kernel : ∀ t : Fin grid0.N, _)
theorem index5_at : ∀ t : Fin cfg0.N, win0_5.index t (0 : Fin 2) = t.val ∧ win0_5.index t (1 : Fin 2) = 0 :=
  (by decide +kernel : ∀ t : Fin grid0.N, _)
theorem index6_at : ∀ t : Fin cfg0.N, win0_6.index t (0 : Fin 2) = t.val ∧ win0_6.index t (1 : Fin 2) = 0 :=
  (by decide +kernel : ∀ t : Fin grid0.N, _)
theorem index7_at : ∀ t : Fin cfg0.N, win0_7.index t (0 : Fin 2) = 0 ∧ win0_7.index t (1 : Fin 2) = 0 :=
  (by decide +kernel : ∀ t : Fin grid0.N, _)
theorem index8_at : ∀ t : Fin cfg0.N, win0_8.index t (0 : Fin 2) = 0 ∧ win0_8.index t (1 : Fin 2) = 0 :=
  (by decide +kernel : ∀ t : Fin grid0.N, _)
theorem index9_at : ∀ t : Fin cfg0.N, win0_9.index t (0 : Fin 2) = 0 ∧ win0_9.index t (1 : Fin 2) = 0 :=
  (by decide +kernel : ∀ t : Fin grid0.N, _)
theorem index10_at : ∀ t : Fin cfg0.N, win0_10.index t (0 : Fin 2) = 0 ∧ win0_10.index t (1 : Fin 2) = 0 :=
  (by decide +kernel : ∀ t : Fin grid0.N, _)
theorem index11_at : ∀ t : Fin cfg0.N, win0_11.index t (0 : Fin 2) = t.val ∧ win0_11.index t (1 : Fin 2) = 0 :=
  (by decide +kernel : ∀ t : Fin grid0.N, _)
theorem index12_at : ∀ t : Fin cfg0.N, win0_12.index t (0 : Fin 2) = t.val ∧ win0_12.index t (1 : Fin 2) = 0 :=
  (by decide +kernel : ∀ t : Fin grid0.N, _)
theorem index13_at : ∀ t : Fin cfg0.N, win0_13.index t (0 : Fin 2) = t.val ∧ win0_13.index t (1 : Fin 2) = 0 :=
  (by decide +kernel : ∀ t : Fin grid0.N, _)
theorem index14_at : ∀ t : Fin cfg0.N, win0_14.index t (0 : Fin 2) = t.val ∧ win0_14.index t (1 : Fin 2) = 0 :=
  (by decide +kernel : ∀ t : Fin grid0.N, _)
theorem index15_at : ∀ t : Fin cfg0.N, win0_15.index t (0 : Fin 2) = t.val ∧ win0_15.index t (1 : Fin 2) = 0 :=
  (by decide +kernel : ∀ t : Fin grid0.N, _)
theorem index16_at : ∀ t : Fin cfg0.N, win0_16.index t (0 : Fin 2) = t.val ∧ win0_16.index t (1 : Fin 2) = 0 :=
  (by decide +kernel : ∀ t : Fin grid0.N, _)
theorem index17_at : ∀ t : Fin cfg0.N, win0_17.index t (0 : Fin 2) = t.val ∧ win0_17.index t (1 : Fin 2) = 0 :=
  (by decide +kernel : ∀ t : Fin grid0.N, _)

/-- The rows, the gates, the projections and the weights that a point reads. -/
theorem d_in (t : Fin cfg0.N) (r : Fin 512) (j : Fin 1024) : (iblk m c 0 t : S512x1024.Idx → EReal) (ix2 r j) = flat (A0 m c) (512 * t.val + r.val) j := by
  obtain ⟨e0, e1⟩ := index0_at t
  refine Eq.trans ?_ (V_d m c (ix2 (⟨512 * t.val + r.val, by have : t.val < 16 := lt_of_lt_of_eq t.isLt N_0; omega⟩ : Fin 8192) (⟨j.val, by omega⟩ : Fin 1024)))
  unfold iblk
  show (V m c main_v13 : S8192x1024.Idx → EReal) _ = _
  congr 1
  funext a
  apply Fin.ext
  match a with
  | ⟨0, _⟩ => show win0_0.index t (0 : Fin 2) * 512 + 1 * r.val = 512 * t.val + r.val; omega
  | ⟨1, _⟩ => show win0_0.index t (1 : Fin 2) * 1024 + 1 * j.val = j.val; omega
theorem g0_in (t : Fin cfg0.N) (r : Fin 512) (j : Fin 1024) : (X0_1 m c t : S512x1024.Idx → EReal) (ix2 r j) = flat (A1 m c) (512 * t.val + r.val) (⟨j.val, by omega⟩ : Fin 3072) := by
  obtain ⟨e0, e1⟩ := index1_at t
  refine Eq.trans ?_ ((V_z m c (ix2 (⟨512 * t.val + r.val, by have : t.val < 16 := lt_of_lt_of_eq t.isLt N_0; omega⟩ : Fin 8192) (⟨4096 + j.val, by omega⟩ : Fin 7296)) (by show 4096 ≤ 4096 + j.val; omega) (by show 4096 + j.val < 7168; omega)).trans (congrArg (flat (A1 m c) _) (Fin.ext (by show 4096 + j.val - 4096 = j.val; omega))))
  unfold X0_1 Pipeline.Window.fill
  rw [dif_pos (moved0_1 t _)]
  unfold iblk
  show (V m c main_v18 : S8192x7296.Idx → EReal) _ = _
  congr 1
  funext a
  apply Fin.ext
  match a with
  | ⟨0, _⟩ => show win0_1.index t (0 : Fin 2) * 512 + 1 * r.val = 512 * t.val + r.val; omega
  | ⟨1, _⟩ => show win0_1.index t (1 : Fin 2) * 1024 + 1 * j.val = 4096 + j.val; omega
theorem g1_in (t : Fin cfg0.N) (r : Fin 512) (j : Fin 1024) : (X0_2 m c t : S512x1024.Idx → EReal) (ix2 r j) = flat (A1 m c) (512 * t.val + r.val) (⟨1024 + j.val, by omega⟩ : Fin 3072) := by
  obtain ⟨e0, e1⟩ := index2_at t
  refine Eq.trans ?_ ((V_z m c (ix2 (⟨512 * t.val + r.val, by have : t.val < 16 := lt_of_lt_of_eq t.isLt N_0; omega⟩ : Fin 8192) (⟨5120 + j.val, by omega⟩ : Fin 7296)) (by show 4096 ≤ 5120 + j.val; omega) (by show 5120 + j.val < 7168; omega)).trans (congrArg (flat (A1 m c) _) (Fin.ext (by show 5120 + j.val - 4096 = 1024 + j.val; omega))))
  unfold X0_2 Pipeline.Window.fill
  rw [dif_pos (moved0_2 t _)]
  unfold iblk
  show (V m c main_v18 : S8192x7296.Idx → EReal) _ = _
  congr 1
  funext a
  apply Fin.ext
  match a with
  | ⟨0, _⟩ => show win0_2.index t (0 : Fin 2) * 512 + 1 * r.val = 512 * t.val + r.val; omega
  | ⟨1, _⟩ => show win0_2.index t (1 : Fin 2) * 1024 + 1 * j.val = 5120 + j.val; omega
theorem g2_in (t : Fin cfg0.N) (r : Fin 512) (j : Fin 1024) : (X0_3 m c t : S512x1024.Idx → EReal) (ix2 r j) = flat (A1 m c) (512 * t.val + r.val) (⟨2048 + j.val, by omega⟩ : Fin 3072) := by
  obtain ⟨e0, e1⟩ := index3_at t
  refine Eq.trans ?_ ((V_z m c (ix2 (⟨512 * t.val + r.val, by have : t.val < 16 := lt_of_lt_of_eq t.isLt N_0; omega⟩ : Fin 8192) (⟨6144 + j.val, by omega⟩ : Fin 7296)) (by show 4096 ≤ 6144 + j.val; omega) (by show 6144 + j.val < 7168; omega)).trans (congrArg (flat (A1 m c) _) (Fin.ext (by show 6144 + j.val - 4096 = 2048 + j.val; omega))))
  unfold X0_3 Pipeline.Window.fill
  rw [dif_pos (moved0_3 t _)]
  unfold iblk
  show (V m c main_v18 : S8192x7296.Idx → EReal) _ = _
  congr 1
  funext a
  apply Fin.ext
  match a with
  | ⟨0, _⟩ => show win0_3.index t (0 : Fin 2) * 512 + 1 * r.val = 512 * t.val + r.val; omega
  | ⟨1, _⟩ => show win0_3.index t (1 : Fin 2) * 1024 + 1 * j.val = 6144 + j.val; omega
theorem ua_in (t : Fin cfg0.N) (r : Fin 512) (j : Fin 1024) : (iblk m c 4 t : S512x1024.Idx → EReal) (ix2 r j) = up (A2 m c) (A5 m c) (512 * t.val + r.val) j := by
  obtain ⟨e0, e1⟩ := index4_at t
  refine Eq.trans ?_ (V_ua m c (ix2 (⟨512 * t.val + r.val, by have : t.val < 16 := lt_of_lt_of_eq t.isLt N_0; omega⟩ : Fin 8192) (⟨j.val, by omega⟩ : Fin 1024)))
  unfold iblk
  show (V m c main_v2 : S8192x1024.Idx → EReal) _ = _
  congr 1
  funext a
  apply Fin.ext
  match a with
  | ⟨0, _⟩ => show win0_4.index t (0 : Fin 2) * 512 + 1 * r.val = 512 * t.val + r.val; omega
  | ⟨1, _⟩ => show win0_4.index t (1 : Fin 2) * 1024 + 1 * j.val = j.val; omega
theorem ub_in (t : Fin cfg0.N) (r : Fin 512) (j : Fin 1024) : (iblk m c 5 t : S512x1024.Idx → EReal) (ix2 r j) = up (A3 m c) (A6 m c) (512 * t.val + r.val) j := by
  obtain ⟨e0, e1⟩ := index5_at t
  refine Eq.trans ?_ (V_ub m c (ix2 (⟨512 * t.val + r.val, by have : t.val < 16 := lt_of_lt_of_eq t.isLt N_0; omega⟩ : Fin 8192) (⟨j.val, by omega⟩ : Fin 1024)))
  unfold iblk
  show (V m c main_v5 : S8192x1024.Idx → EReal) _ = _
  congr 1
  funext a
  apply Fin.ext
  match a with
  | ⟨0, _⟩ => show win0_5.index t (0 : Fin 2) * 512 + 1 * r.val = 512 * t.val + r.val; omega
  | ⟨1, _⟩ => show win0_5.index t (1 : Fin 2) * 1024 + 1 * j.val = j.val; omega
theorem uc_in (t : Fin cfg0.N) (r : Fin 512) (j : Fin 1024) : (iblk m c 6 t : S512x1024.Idx → EReal) (ix2 r j) = up (A4 m c) (A7 m c) (512 * t.val + r.val) j := by
  obtain ⟨e0, e1⟩ := index6_at t
  refine Eq.trans ?_ (V_uc m c (ix2 (⟨512 * t.val + r.val, by have : t.val < 16 := lt_of_lt_of_eq t.isLt N_0; omega⟩ : Fin 8192) (⟨j.val, by omega⟩ : Fin 1024)))
  unfold iblk
  show (V m c main_v8 : S8192x1024.Idx → EReal) _ = _
  congr 1
  funext a
  apply Fin.ext
  match a with
  | ⟨0, _⟩ => show win0_6.index t (0 : Fin 2) * 512 + 1 * r.val = 512 * t.val + r.val; omega
  | ⟨1, _⟩ => show win0_6.index t (1 : Fin 2) * 1024 + 1 * j.val = j.val; omega
theorem wa_in (t : Fin cfg0.N) : (iblk m c 7 t : S512x1024.Idx → EReal) = A5 m c := by
  obtain ⟨e0, e1⟩ := index7_at t
  funext y
  refine Eq.trans ?_ (congrFun (V_wa m c) y)
  unfold iblk
  show (V m c main_v9 : S512x1024.Idx → EReal) _ = _
  congr 1
  funext a
  apply Fin.ext
  match a with
  | ⟨0, _⟩ => show win0_7.index t (0 : Fin 2) * 512 + 1 * (y 0).val = (y 0).val; omega
  | ⟨1, _⟩ => show win0_7.index t (1 : Fin 2) * 1024 + 1 * (y 1).val = (y 1).val; omega
theorem wb_in (t : Fin cfg0.N) : (iblk m c 8 t : S512x1024.Idx → EReal) = A6 m c := by
  obtain ⟨e0, e1⟩ := index8_at t
  funext y
  refine Eq.trans ?_ (congrFun (V_wb m c) y)
  unfold iblk
  show (V m c main_v10 : S512x1024.Idx → EReal) _ = _
  congr 1
  funext a
  apply Fin.ext
  match a with
  | ⟨0, _⟩ => show win0_8.index t (0 : Fin 2) * 512 + 1 * (y 0).val = (y 0).val; omega
  | ⟨1, _⟩ => show win0_8.index t (1 : Fin 2) * 1024 + 1 * (y 1).val = (y 1).val; omega
theorem wc_in (t : Fin cfg0.N) : (iblk m c 9 t : S512x1024.Idx → EReal) = A7 m c := by
  obtain ⟨e0, e1⟩ := index9_at t
  funext y
  refine Eq.trans ?_ (congrFun (V_wc m c) y)
  unfold iblk
  show (V m c main_v11 : S512x1024.Idx → EReal) _ = _
  congr 1
  funext a
  apply Fin.ext
  match a with
  | ⟨0, _⟩ => show win0_9.index t (0 : Fin 2) * 512 + 1 * (y 0).val = (y 0).val; omega
  | ⟨1, _⟩ => show win0_9.index t (1 : Fin 2) * 1024 + 1 * (y 1).val = (y 1).val; omega
theorem wo_in (t : Fin cfg0.N) : (iblk m c 10 t : S1024x1024.Idx → EReal) = A8 m c := by
  obtain ⟨e0, e1⟩ := index10_at t
  funext y
  refine Eq.trans ?_ (congrFun (V_wo m c) y)
  unfold iblk
  show (V m c main_v12 : S1024x1024.Idx → EReal) _ = _
  congr 1
  funext a
  apply Fin.ext
  match a with
  | ⟨0, _⟩ => show win0_10.index t (0 : Fin 2) * 1024 + 1 * (y 0).val = (y 0).val; omega
  | ⟨1, _⟩ => show win0_10.index t (1 : Fin 2) * 1024 + 1 * (y 1).val = (y 1).val; omega

/-- The merged gradient and the gates of a point's tile. -/
theorem dm_t (t : Fin cfg0.N) (r : Fin 512) (j : Fin 1024) : (k0_pay2 (F := Ideal) (iblk m c 0 t) (iblk m c 10 t) : S512x1024.Idx → EReal) (ix2 r j) = dm (A0 m c) (A8 m c) (512 * t.val + r.val) j :=
  (pay2_at _ _ _ _).trans (Finset.sum_congr rfl fun k _ => congrArg₂ (fun a b : EReal => a * b) (d_in m c t r k) (congrFun (wo_in m c t) _))
theorem gate0_t (t : Fin cfg0.N) (r : Fin 512) (j : Fin 1024) : (k0_pay3 (F := Ideal) (X0_1 m c t) : S512x1024.Idx → EReal) (ix2 r j) = gate0 (A1 m c) (512 * t.val + r.val) j :=
  (pay3_at _ _ _).trans (congrArg Ideal.logistic (g0_in m c t r j))
theorem gate1_t (t : Fin cfg0.N) (r : Fin 512) (j : Fin 1024) : (k0_pay7 (F := Ideal) (X0_2 m c t) : S512x1024.Idx → EReal) (ix2 r j) = gate1 (A1 m c) (512 * t.val + r.val) j :=
  (pay7_at _ _ _).trans (congrArg Ideal.logistic (g1_in m c t r j))
theorem gate2_t (t : Fin cfg0.N) (r : Fin 512) (j : Fin 1024) : (k0_pay11 (F := Ideal) (X0_3 m c t) : S512x1024.Idx → EReal) (ix2 r j) = gate2 (A1 m c) (512 * t.val + r.val) j :=
  (pay11_at _ _ _).trans (congrArg Ideal.logistic (g2_in m c t r j))
/-- The projections' gradients of a point's tile. -/
theorem tile15 (t : Fin cfg0.N) (r : Fin 512) (j : Fin 1024) : (k0_pay4 (F := Ideal) (iblk m c 0 t) (iblk m c 10 t) (X0_1 m c t) : S512x1024.Idx → EReal) (ix2 r j) = du gate0 (A0 m c) (A1 m c) (A8 m c) (512 * t.val + r.val) j :=
  (pay4_at _ _ _ _ _).trans (congrArg₂ (fun a b : EReal => a * b) (dm_t m c t r j) (gate0_t m c t r j))
theorem tile16 (t : Fin cfg0.N) (r : Fin 512) (j : Fin 1024) : (k0_pay8 (F := Ideal) (iblk m c 0 t) (iblk m c 10 t) (X0_2 m c t) : S512x1024.Idx → EReal) (ix2 r j) = du gate1 (A0 m c) (A1 m c) (A8 m c) (512 * t.val + r.val) j :=
  (pay8_at _ _ _ _ _).trans (congrArg₂ (fun a b : EReal => a * b) (dm_t m c t r j) (gate1_t m c t r j))
theorem tile17 (t : Fin cfg0.N) (r : Fin 512) (j : Fin 1024) : (k0_pay12 (F := Ideal) (k0_pay2 (F := Ideal) (iblk m c 0 t) (iblk m c 10 t)) (X0_3 m c t) : S512x1024.Idx → EReal) (ix2 r j) = du gate2 (A0 m c) (A1 m c) (A8 m c) (512 * t.val + r.val) j :=
  (pay12_at _ _ _ _).trans (congrArg₂ (fun a b : EReal => a * b) (dm_t m c t r j) (gate2_t m c t r j))
/-- The branches' gradients of a point's tile. -/
theorem tile12 (t : Fin cfg0.N) (r : Fin 512) (j : Fin 512) : (k0_pay6 (F := Ideal) (iblk m c 0 t) (iblk m c 10 t) (X0_1 m c t) (iblk m c 7 t) : S512x512.Idx → EReal) (ix2 r j) = dy gate0 (A0 m c) (A1 m c) (A5 m c) (A8 m c) (512 * t.val + r.val) j :=
  (pay6_at _ _ _ _ _ _).trans (Finset.sum_congr rfl fun k _ => congrArg₂ (fun a b : EReal => a * b) (tile15 m c t r k) (congrFun (wa_in m c t) _))
theorem tile13 (t : Fin cfg0.N) (r : Fin 512) (j : Fin 512) : (k0_pay10 (F := Ideal) (k0_pay8 (F := Ideal) (iblk m c 0 t) (iblk m c 10 t) (X0_2 m c t)) (iblk m c 8 t) : S512x512.Idx → EReal) (ix2 r j) = dy gate1 (A0 m c) (A1 m c) (A6 m c) (A8 m c) (512 * t.val + r.val) j :=
  (pay10_at _ _ _ _).trans (Finset.sum_congr rfl fun k _ => congrArg₂ (fun a b : EReal => a * b) (tile16 m c t r k) (congrFun (wb_in m c t) _))
theorem tile14 (t : Fin cfg0.N) (r : Fin 512) (j : Fin 512) : (k0_pay1 (F := Ideal) (k0_pay12 (F := Ideal) (k0_pay2 (F := Ideal) (iblk m c 0 t) (iblk m c 10 t)) (X0_3 m c t)) (k0_pay14 (F := Ideal) (iblk m c 9 t)) : S512x512.Idx → EReal) (ix2 r j) = dy gate2 (A0 m c) (A1 m c) (A7 m c) (A8 m c) (512 * t.val + r.val) j :=
  (pay1_at _ _ _ _).trans (Finset.sum_congr rfl fun k _ => congrArg₂ (fun a b : EReal => a * b) (tile17 m c t r k) ((pay14_at _ _ _).trans (congrFun (wc_in m c t) _)))
/-- The gates' gradients of a point's tile. -/
theorem dg0_t (t : Fin cfg0.N) (r : Fin 512) (j : Fin 1024) : (k0_pay5 (F := Ideal) (iblk m c 0 t) (iblk m c 10 t) (X0_1 m c t) (iblk m c 4 t) : S512x1024.Idx → EReal) (ix2 r j) = dg gate0 (A0 m c) (A1 m c) (A2 m c) (A5 m c) (A8 m c) (512 * t.val + r.val) j :=
  (pay5_at _ _ _ _ _ _).trans (congrArg₂ (fun a b : EReal => a * b) (congrArg₂ (fun a b : EReal => a * b) (congrArg₂ (fun a b : EReal => a * b) (dm_t m c t r j) (ua_in m c t r j)) (gate0_t m c t r j)) (congrArg₂ (fun a b : EReal => a - b) rfl (gate0_t m c t r j)))
theorem dg1_t (t : Fin cfg0.N) (r : Fin 512) (j : Fin 1024) : (k0_pay9 (F := Ideal) (k0_pay2 (iblk m c 0 t) (iblk m c 10 t)) (k0_pay7 (X0_2 m c t)) (iblk m c 5 t) : S512x1024.Idx → EReal) (ix2 r j) = dg gate1 (A0 m c) (A1 m c) (A3 m c) (A6 m c) (A8 m c) (512 * t.val + r.val) j :=
  (pay9_at _ _ _ _ _).trans (congrArg₂ (fun a b : EReal => a * b) (congrArg₂ (fun a b : EReal => a * b) (congrArg₂ (fun a b : EReal => a * b) (dm_t m c t r j) (ub_in m c t r j)) (gate1_t m c t r j)) (congrArg₂ (fun a b : EReal => a - b) rfl (gate1_t m c t r j)))
theorem dg2_t (t : Fin cfg0.N) (r : Fin 512) (j : Fin 1024) : (k0_pay13 (F := Ideal) (k0_pay2 (iblk m c 0 t) (iblk m c 10 t)) (X0_3 m c t) (iblk m c 6 t) : S512x1024.Idx → EReal) (ix2 r j) = dg gate2 (A0 m c) (A1 m c) (A4 m c) (A7 m c) (A8 m c) (512 * t.val + r.val) j :=
  (pay13_at _ _ _ _ _).trans (congrArg₂ (fun a b : EReal => a * b) (congrArg₂ (fun a b : EReal => a * b) (congrArg₂ (fun a b : EReal => a * b) (dm_t m c t r j) (uc_in m c t r j)) (gate2_t m c t r j)) (congrArg₂ (fun a b : EReal => a - b) rfl (gate2_t m c t r j)))
theorem tile11 (t : Fin cfg0.N) (r : Fin 512) (j : Fin 3072) : (dgBlk (iblk m c 0 t) (X0_1 m c t) (X0_2 m c t) (X0_3 m c t) (iblk m c 4 t) (iblk m c 5 t) (iblk m c 6 t) (iblk m c 10 t) : S512x3072.Idx → EReal) (ix2 r j) = dgate (A0 m c) (A1 m c) (A2 m c) (A3 m c) (A4 m c) (A5 m c) (A6 m c) (A7 m c) (A8 m c) (512 * t.val + r.val) j := by
  unfold dgBlk dgate beside
  dsimp only
  by_cases h : j.val < 1024
  · refine (dif_pos h).trans (Eq.trans ?_ (dif_pos h).symm)
    exact dg0_t m c t r ⟨j.val, h⟩
  · refine (dif_neg h).trans (Eq.trans ?_ (dif_neg h).symm)
    by_cases h' : j.val < 2048
    · refine (dif_pos h').trans (Eq.trans ?_ (dif_pos h').symm)
      exact dg1_t m c t r ⟨j.val - 1024, by omega⟩
    · refine (dif_neg h').trans (Eq.trans ?_ (dif_neg h').symm)
      exact dg2_t m c t r ⟨j.val - 2048, by omega⟩

/-- A function of the rows as an array. -/
def rows (f : ℕ → Fin 1024 → EReal) (i : S8192x1024.Idx) : EReal := f (i 0).val (i 1)
def rowsY (f : ℕ → Fin 512 → EReal) (i : S8192x512.Idx) : EReal := f (i 0).val (i 1)
def rowsG (f : ℕ → Fin 3072 → EReal) (i : S8192x3072.Idx) : EReal := f (i 0).val (i 1)

/-- The seven arrays that the kernel returns. -/
theorem arr11 : (Gen.dats m 0 c).arrAt 11 cfg0.N = (rowsG (dgate (A0 m c) (A1 m c) (A2 m c) (A3 m c) (A4 m c) (A5 m c) (A6 m c) (A7 m c) (A8 m c)) : S8192x3072.Idx → EReal) := by
  refine (Gen.dats m 0 c).arrAt_eq_of_cover 11 (rowsG (dgate (A0 m c) (A1 m c) (A2 m c) (A3 m c) (A4 m c) (A5 m c) (A6 m c) (A7 m c) (A8 m c)) : S8192x3072.Idx → EReal) (fun t _ => ?_) (fun i => ?_)
  · obtain ⟨e0, e1⟩ := index11_at t
    rw [Value.flushed11_A, out_A11]
    funext y
    have h0 : (y 0).val < 512 := (y 0).isLt
    have h1 : (y 1).val < 3072 := (y 1).isLt
    show (dgBlk (iblk m c 0 t) (X0_1 m c t) (X0_2 m c t) (X0_3 m c t) (iblk m c 4 t) (iblk m c 5 t) (iblk m c 6 t) (iblk m c 10 t) : S512x3072.Idx → EReal) y = rowsG (dgate (A0 m c) (A1 m c) (A2 m c) (A3 m c) (A4 m c) (A5 m c) (A6 m c) (A7 m c) (A8 m c)) (((cfg0.win 11).blk t).view.emb y)
    have ey : (y : S512x3072.Idx) = ix2 (⟨(y 0).val, h0⟩ : Fin 512) (⟨(y 1).val, h1⟩ : Fin 3072) := funext fun a => match a with
      | ⟨0, _⟩ => rfl
      | ⟨1, _⟩ => rfl
    refine (congrArg (dgBlk (iblk m c 0 t) (X0_1 m c t) (X0_2 m c t) (X0_3 m c t) (iblk m c 4 t) (iblk m c 5 t) (iblk m c 6 t) (iblk m c 10 t) : S512x3072.Idx → EReal) ey).trans ?_
    refine (tile11 m c t _ _).trans ?_
    have er : (((cfg0.win 11).blk t).view.emb y 0 : Fin 8192).val = 512 * t.val + (y 0).val := by show win0_11.index t (0 : Fin 2) * 512 + 1 * (y 0).val = _; omega
    have en : (((cfg0.win 11).blk t).view.emb y 1 : Fin 3072) = ⟨(y 1).val, h1⟩ := Fin.ext (by show win0_11.index t (1 : Fin 2) * 3072 + 1 * (y 1).val = (y 1).val; omega)
    exact congrArg₂ (dgate (A0 m c) (A1 m c) (A2 m c) (A3 m c) (A4 m c) (A5 m c) (A6 m c) (A7 m c) (A8 m c)) er.symm en.symm
  · have h0 : (i 0).val < 8192 := (i 0).isLt
    have h1 : (i 1).val < 3072 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index11_at t
    refine ⟨t, flush0_11 t, Finset.mem_map.mpr ⟨ix2 (⟨(i 0).val % 512, Nat.mod_lt _ (by norm_num)⟩ : Fin 512) (⟨(i 1).val, h1⟩ : Fin 3072), Finset.mem_univ _, ?_⟩⟩
    funext a
    apply Fin.ext
    match a with
    | ⟨0, _⟩ => show win0_11.index t (0 : Fin 2) * 512 + 1 * ((i 0).val % 512) = (i 0).val; omega
    | ⟨1, _⟩ => show win0_11.index t (1 : Fin 2) * 3072 + 1 * (i 1).val = (i 1).val; omega
theorem arr12 : (Gen.dats m 0 c).arrAt 12 cfg0.N = (rowsY (dy gate0 (A0 m c) (A1 m c) (A5 m c) (A8 m c)) : S8192x512.Idx → EReal) := by
  refine (Gen.dats m 0 c).arrAt_eq_of_cover 12 (rowsY (dy gate0 (A0 m c) (A1 m c) (A5 m c) (A8 m c)) : S8192x512.Idx → EReal) (fun t _ => ?_) (fun i => ?_)
  · obtain ⟨e0, e1⟩ := index12_at t
    rw [Value.flushed12_A, out_A12]
    funext y
    have h0 : (y 0).val < 512 := (y 0).isLt
    have h1 : (y 1).val < 512 := (y 1).isLt
    show (k0_pay6 (F := Ideal) (iblk m c 0 t) (iblk m c 10 t) (X0_1 m c t) (iblk m c 7 t) : S512x512.Idx → EReal) y = rowsY (dy gate0 (A0 m c) (A1 m c) (A5 m c) (A8 m c)) (((cfg0.win 12).blk t).view.emb y)
    have ey : (y : S512x512.Idx) = ix2 (⟨(y 0).val, h0⟩ : Fin 512) (⟨(y 1).val, h1⟩ : Fin 512) := funext fun a => match a with
      | ⟨0, _⟩ => rfl
      | ⟨1, _⟩ => rfl
    refine (congrArg (k0_pay6 (F := Ideal) (iblk m c 0 t) (iblk m c 10 t) (X0_1 m c t) (iblk m c 7 t) : S512x512.Idx → EReal) ey).trans ?_
    refine (tile12 m c t _ _).trans ?_
    have er : (((cfg0.win 12).blk t).view.emb y 0 : Fin 8192).val = 512 * t.val + (y 0).val := by show win0_12.index t (0 : Fin 2) * 512 + 1 * (y 0).val = _; omega
    have en : (((cfg0.win 12).blk t).view.emb y 1 : Fin 512) = ⟨(y 1).val, h1⟩ := Fin.ext (by show win0_12.index t (1 : Fin 2) * 512 + 1 * (y 1).val = (y 1).val; omega)
    exact congrArg₂ (dy gate0 (A0 m c) (A1 m c) (A5 m c) (A8 m c)) er.symm en.symm
  · have h0 : (i 0).val < 8192 := (i 0).isLt
    have h1 : (i 1).val < 512 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index12_at t
    refine ⟨t, flush0_12 t, Finset.mem_map.mpr ⟨ix2 (⟨(i 0).val % 512, Nat.mod_lt _ (by norm_num)⟩ : Fin 512) (⟨(i 1).val, h1⟩ : Fin 512), Finset.mem_univ _, ?_⟩⟩
    funext a
    apply Fin.ext
    match a with
    | ⟨0, _⟩ => show win0_12.index t (0 : Fin 2) * 512 + 1 * ((i 0).val % 512) = (i 0).val; omega
    | ⟨1, _⟩ => show win0_12.index t (1 : Fin 2) * 512 + 1 * (i 1).val = (i 1).val; omega
theorem arr13 : (Gen.dats m 0 c).arrAt 13 cfg0.N = (rowsY (dy gate1 (A0 m c) (A1 m c) (A6 m c) (A8 m c)) : S8192x512.Idx → EReal) := by
  refine (Gen.dats m 0 c).arrAt_eq_of_cover 13 (rowsY (dy gate1 (A0 m c) (A1 m c) (A6 m c) (A8 m c)) : S8192x512.Idx → EReal) (fun t _ => ?_) (fun i => ?_)
  · obtain ⟨e0, e1⟩ := index13_at t
    rw [Value.flushed13_A, out_A13]
    funext y
    have h0 : (y 0).val < 512 := (y 0).isLt
    have h1 : (y 1).val < 512 := (y 1).isLt
    show (k0_pay10 (F := Ideal) (k0_pay8 (F := Ideal) (iblk m c 0 t) (iblk m c 10 t) (X0_2 m c t)) (iblk m c 8 t) : S512x512.Idx → EReal) y = rowsY (dy gate1 (A0 m c) (A1 m c) (A6 m c) (A8 m c)) (((cfg0.win 13).blk t).view.emb y)
    have ey : (y : S512x512.Idx) = ix2 (⟨(y 0).val, h0⟩ : Fin 512) (⟨(y 1).val, h1⟩ : Fin 512) := funext fun a => match a with
      | ⟨0, _⟩ => rfl
      | ⟨1, _⟩ => rfl
    refine (congrArg (k0_pay10 (F := Ideal) (k0_pay8 (F := Ideal) (iblk m c 0 t) (iblk m c 10 t) (X0_2 m c t)) (iblk m c 8 t) : S512x512.Idx → EReal) ey).trans ?_
    refine (tile13 m c t _ _).trans ?_
    have er : (((cfg0.win 13).blk t).view.emb y 0 : Fin 8192).val = 512 * t.val + (y 0).val := by show win0_13.index t (0 : Fin 2) * 512 + 1 * (y 0).val = _; omega
    have en : (((cfg0.win 13).blk t).view.emb y 1 : Fin 512) = ⟨(y 1).val, h1⟩ := Fin.ext (by show win0_13.index t (1 : Fin 2) * 512 + 1 * (y 1).val = (y 1).val; omega)
    exact congrArg₂ (dy gate1 (A0 m c) (A1 m c) (A6 m c) (A8 m c)) er.symm en.symm
  · have h0 : (i 0).val < 8192 := (i 0).isLt
    have h1 : (i 1).val < 512 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index13_at t
    refine ⟨t, flush0_13 t, Finset.mem_map.mpr ⟨ix2 (⟨(i 0).val % 512, Nat.mod_lt _ (by norm_num)⟩ : Fin 512) (⟨(i 1).val, h1⟩ : Fin 512), Finset.mem_univ _, ?_⟩⟩
    funext a
    apply Fin.ext
    match a with
    | ⟨0, _⟩ => show win0_13.index t (0 : Fin 2) * 512 + 1 * ((i 0).val % 512) = (i 0).val; omega
    | ⟨1, _⟩ => show win0_13.index t (1 : Fin 2) * 512 + 1 * (i 1).val = (i 1).val; omega
theorem arr14 : (Gen.dats m 0 c).arrAt 14 cfg0.N = (rowsY (dy gate2 (A0 m c) (A1 m c) (A7 m c) (A8 m c)) : S8192x512.Idx → EReal) := by
  refine (Gen.dats m 0 c).arrAt_eq_of_cover 14 (rowsY (dy gate2 (A0 m c) (A1 m c) (A7 m c) (A8 m c)) : S8192x512.Idx → EReal) (fun t _ => ?_) (fun i => ?_)
  · obtain ⟨e0, e1⟩ := index14_at t
    rw [Value.flushed14_A, out_A14]
    funext y
    have h0 : (y 0).val < 512 := (y 0).isLt
    have h1 : (y 1).val < 512 := (y 1).isLt
    show (k0_pay1 (F := Ideal) (k0_pay12 (F := Ideal) (k0_pay2 (F := Ideal) (iblk m c 0 t) (iblk m c 10 t)) (X0_3 m c t)) (k0_pay14 (F := Ideal) (iblk m c 9 t)) : S512x512.Idx → EReal) y = rowsY (dy gate2 (A0 m c) (A1 m c) (A7 m c) (A8 m c)) (((cfg0.win 14).blk t).view.emb y)
    have ey : (y : S512x512.Idx) = ix2 (⟨(y 0).val, h0⟩ : Fin 512) (⟨(y 1).val, h1⟩ : Fin 512) := funext fun a => match a with
      | ⟨0, _⟩ => rfl
      | ⟨1, _⟩ => rfl
    refine (congrArg (k0_pay1 (F := Ideal) (k0_pay12 (F := Ideal) (k0_pay2 (F := Ideal) (iblk m c 0 t) (iblk m c 10 t)) (X0_3 m c t)) (k0_pay14 (F := Ideal) (iblk m c 9 t)) : S512x512.Idx → EReal) ey).trans ?_
    refine (tile14 m c t _ _).trans ?_
    have er : (((cfg0.win 14).blk t).view.emb y 0 : Fin 8192).val = 512 * t.val + (y 0).val := by show win0_14.index t (0 : Fin 2) * 512 + 1 * (y 0).val = _; omega
    have en : (((cfg0.win 14).blk t).view.emb y 1 : Fin 512) = ⟨(y 1).val, h1⟩ := Fin.ext (by show win0_14.index t (1 : Fin 2) * 512 + 1 * (y 1).val = (y 1).val; omega)
    exact congrArg₂ (dy gate2 (A0 m c) (A1 m c) (A7 m c) (A8 m c)) er.symm en.symm
  · have h0 : (i 0).val < 8192 := (i 0).isLt
    have h1 : (i 1).val < 512 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index14_at t
    refine ⟨t, flush0_14 t, Finset.mem_map.mpr ⟨ix2 (⟨(i 0).val % 512, Nat.mod_lt _ (by norm_num)⟩ : Fin 512) (⟨(i 1).val, h1⟩ : Fin 512), Finset.mem_univ _, ?_⟩⟩
    funext a
    apply Fin.ext
    match a with
    | ⟨0, _⟩ => show win0_14.index t (0 : Fin 2) * 512 + 1 * ((i 0).val % 512) = (i 0).val; omega
    | ⟨1, _⟩ => show win0_14.index t (1 : Fin 2) * 512 + 1 * (i 1).val = (i 1).val; omega
theorem arr15 : (Gen.dats m 0 c).arrAt 15 cfg0.N = (rows (du gate0 (A0 m c) (A1 m c) (A8 m c)) : S8192x1024.Idx → EReal) := by
  refine (Gen.dats m 0 c).arrAt_eq_of_cover 15 (rows (du gate0 (A0 m c) (A1 m c) (A8 m c)) : S8192x1024.Idx → EReal) (fun t _ => ?_) (fun i => ?_)
  · obtain ⟨e0, e1⟩ := index15_at t
    rw [Value.flushed15_A, out_A15]
    funext y
    have h0 : (y 0).val < 512 := (y 0).isLt
    have h1 : (y 1).val < 1024 := (y 1).isLt
    show (k0_pay4 (F := Ideal) (iblk m c 0 t) (iblk m c 10 t) (X0_1 m c t) : S512x1024.Idx → EReal) y = rows (du gate0 (A0 m c) (A1 m c) (A8 m c)) (((cfg0.win 15).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay4 (F := Ideal) (iblk m c 0 t) (iblk m c 10 t) (X0_1 m c t) : S512x1024.Idx → EReal) ey).trans ?_
    refine (tile15 m c t _ _).trans ?_
    have er : (((cfg0.win 15).blk t).view.emb y 0 : Fin 8192).val = 512 * t.val + (y 0).val := by show win0_15.index t (0 : Fin 2) * 512 + 1 * (y 0).val = _; omega
    have en : (((cfg0.win 15).blk t).view.emb y 1 : Fin 1024) = ⟨(y 1).val, h1⟩ := Fin.ext (by show win0_15.index t (1 : Fin 2) * 1024 + 1 * (y 1).val = (y 1).val; omega)
    exact congrArg₂ (du gate0 (A0 m c) (A1 m c) (A8 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index15_at t
    refine ⟨t, flush0_15 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_15.index t (0 : Fin 2) * 512 + 1 * ((i 0).val % 512) = (i 0).val; omega
    | ⟨1, _⟩ => show win0_15.index t (1 : Fin 2) * 1024 + 1 * (i 1).val = (i 1).val; omega
theorem arr16 : (Gen.dats m 0 c).arrAt 16 cfg0.N = (rows (du gate1 (A0 m c) (A1 m c) (A8 m c)) : S8192x1024.Idx → EReal) := by
  refine (Gen.dats m 0 c).arrAt_eq_of_cover 16 (rows (du gate1 (A0 m c) (A1 m c) (A8 m c)) : S8192x1024.Idx → EReal) (fun t _ => ?_) (fun i => ?_)
  · obtain ⟨e0, e1⟩ := index16_at t
    rw [Value.flushed16_A, out_A16]
    funext y
    have h0 : (y 0).val < 512 := (y 0).isLt
    have h1 : (y 1).val < 1024 := (y 1).isLt
    show (k0_pay8 (F := Ideal) (iblk m c 0 t) (iblk m c 10 t) (X0_2 m c t) : S512x1024.Idx → EReal) y = rows (du gate1 (A0 m c) (A1 m c) (A8 m c)) (((cfg0.win 16).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay8 (F := Ideal) (iblk m c 0 t) (iblk m c 10 t) (X0_2 m c t) : S512x1024.Idx → EReal) ey).trans ?_
    refine (tile16 m c t _ _).trans ?_
    have er : (((cfg0.win 16).blk t).view.emb y 0 : Fin 8192).val = 512 * t.val + (y 0).val := by show win0_16.index t (0 : Fin 2) * 512 + 1 * (y 0).val = _; omega
    have en : (((cfg0.win 16).blk t).view.emb y 1 : Fin 1024) = ⟨(y 1).val, h1⟩ := Fin.ext (by show win0_16.index t (1 : Fin 2) * 1024 + 1 * (y 1).val = (y 1).val; omega)
    exact congrArg₂ (du gate1 (A0 m c) (A1 m c) (A8 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index16_at t
    refine ⟨t, flush0_16 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_16.index t (0 : Fin 2) * 512 + 1 * ((i 0).val % 512) = (i 0).val; omega
    | ⟨1, _⟩ => show win0_16.index t (1 : Fin 2) * 1024 + 1 * (i 1).val = (i 1).val; omega
theorem arr17 : (Gen.dats m 0 c).arrAt 17 cfg0.N = (rows (du gate2 (A0 m c) (A1 m c) (A8 m c)) : S8192x1024.Idx → EReal) := by
  refine (Gen.dats m 0 c).arrAt_eq_of_cover 17 (rows (du gate2 (A0 m c) (A1 m c) (A8 m c)) : S8192x1024.Idx → EReal) (fun t _ => ?_) (fun i => ?_)
  · obtain ⟨e0, e1⟩ := index17_at t
    rw [Value.flushed17_A, out_A17]
    funext y
    have h0 : (y 0).val < 512 := (y 0).isLt
    have h1 : (y 1).val < 1024 := (y 1).isLt
    show (k0_pay12 (F := Ideal) (k0_pay2 (F := Ideal) (iblk m c 0 t) (iblk m c 10 t)) (X0_3 m c t) : S512x1024.Idx → EReal) y = rows (du gate2 (A0 m c) (A1 m c) (A8 m c)) (((cfg0.win 17).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay12 (F := Ideal) (k0_pay2 (F := Ideal) (iblk m c 0 t) (iblk m c 10 t)) (X0_3 m c t) : S512x1024.Idx → EReal) ey).trans ?_
    refine (tile17 m c t _ _).trans ?_
    have er : (((cfg0.win 17).blk t).view.emb y 0 : Fin 8192).val = 512 * t.val + (y 0).val := by show win0_17.index t (0 : Fin 2) * 512 + 1 * (y 0).val = _; omega
    have en : (((cfg0.win 17).blk t).view.emb y 1 : Fin 1024) = ⟨(y 1).val, h1⟩ := Fin.ext (by show win0_17.index t (1 : Fin 2) * 1024 + 1 * (y 1).val = (y 1).val; omega)
    exact congrArg₂ (du gate2 (A0 m c) (A1 m c) (A8 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index17_at t
    refine ⟨t, flush0_17 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_17.index t (0 : Fin 2) * 512 + 1 * ((i 0).val % 512) = (i 0).val; omega
    | ⟨1, _⟩ => show win0_17.index t (1 : Fin 2) * 1024 + 1 * (i 1).val = (i 1).val; omega

end

/-! ### The reference, at the token that row `n` is -/

open Cert.ReferenceMergeBIdeal Cert.ReferenceMergeBIdeal.Read

/-- The batch and the token of a row. -/
def bat (n : ℕ) : Fin 4 := ⟨n / 2048 % 4, Nat.mod_lt _ (by norm_num)⟩
def tok (n : ℕ) : Fin 2048 := ⟨n % 2048, Nat.mod_lt _ (by norm_num)⟩

theorem ref_u0 (x2 : Br.Idx → EReal) (x5 : S512x1024.Idx → EReal) (n : ℕ) (j : Fin 1024) : val_main_v0 (F := Ideal) x2 x5 (ix3 (bat n) (tok n) j) = up x2 x5 n j := by
  unfold val_main_v0
  pointwise
  rfl
theorem ref_u1 (x3 : Br.Idx → EReal) (x6 : S512x1024.Idx → EReal) (n : ℕ) (j : Fin 1024) : val_main_v1 (F := Ideal) x3 x6 (ix3 (bat n) (tok n) j) = up x3 x6 n j := by
  unfold val_main_v1
  pointwise
  rfl
theorem ref_u2 (x4 : Br.Idx → EReal) (x7 : S512x1024.Idx → EReal) (n : ℕ) (j : Fin 1024) : val_main_v2 (F := Ideal) x4 x7 (ix3 (bat n) (tok n) j) = up x4 x7 n j := by
  unfold val_main_v2
  pointwise
  rfl
theorem ref_dm (x0 : Md.Idx → EReal) (x8 : S1024x1024.Idx → EReal) (n : ℕ) (j : Fin 1024) : val_main_v25 (F := Ideal) x0 x8 (ix3 (bat n) (tok n) j) = dm x0 x8 n j := by
  unfold val_main_v25
  pointwise
  rfl

/-- The projections' gradients. -/
theorem ref_du0 (x0 : Md.Idx → EReal) (x1 : Gt.Idx → EReal) (x8 : S1024x1024.Idx → EReal) (n : ℕ) (j : Fin 1024) : val_main_v35 (F := Ideal) x0 x1 x8 (ix3 (bat n) (tok n) j) = du gate0 x0 x1 x8 n j := by
  unfold val_main_v35 val_main_v14 val_main_v13 val_main_v12 val_main_v8 val_main_v7 val_main_cst_0 val_main_v6 val_main_v5 val_main_cst val_main_v4 val_main_v3
  pointwise
  rw [ref_dm]
  exact mul_comm _ _
theorem ref_du1 (x0 : Md.Idx → EReal) (x1 : Gt.Idx → EReal) (x8 : S1024x1024.Idx → EReal) (n : ℕ) (j : Fin 1024) : val_main_v30 (F := Ideal) x0 x1 x8 (ix3 (bat n) (tok n) j) = du gate1 x0 x1 x8 n j := by
  unfold val_main_v30 val_main_v17 val_main_v16 val_main_v12 val_main_v8 val_main_v7 val_main_cst_0 val_main_v6 val_main_v5 val_main_cst val_main_v4 val_main_v3
  pointwise
  rw [ref_dm]
  exact mul_comm _ _
theorem ref_du2 (x0 : Md.Idx → EReal) (x1 : Gt.Idx → EReal) (x8 : S1024x1024.Idx → EReal) (n : ℕ) (j : Fin 1024) : val_main_v26 (F := Ideal) x0 x1 x8 (ix3 (bat n) (tok n) j) = du gate2 x0 x1 x8 n j := by
  unfold val_main_v26 val_main_v21 val_main_v20 val_main_v12 val_main_v8 val_main_v7 val_main_cst_0 val_main_v6 val_main_v5 val_main_cst val_main_v4 val_main_v3
  pointwise
  rw [ref_dm]
  exact mul_comm _ _

/-- The branches' gradients. -/
theorem ref_dy0 (x0 : Md.Idx → EReal) (x1 : Gt.Idx → EReal) (x5 : S512x1024.Idx → EReal) (x8 : S1024x1024.Idx → EReal) (n : ℕ) (j : Fin 512) : val_main_v43 (F := Ideal) x0 x1 x5 x8 (ix3 (bat n) (tok n) j) = dy gate0 x0 x1 x5 x8 n j := by
  unfold val_main_v43
  pointwise
  exact Finset.sum_congr rfl fun k _ => congrArg₂ (fun a b : EReal => a * b) (ref_du0 x0 x1 x8 n k) rfl
theorem ref_dy1 (x0 : Md.Idx → EReal) (x1 : Gt.Idx → EReal) (x6 : S512x1024.Idx → EReal) (x8 : S1024x1024.Idx → EReal) (n : ℕ) (j : Fin 512) : val_main_v45 (F := Ideal) x0 x1 x6 x8 (ix3 (bat n) (tok n) j) = dy gate1 x0 x1 x6 x8 n j := by
  unfold val_main_v45
  pointwise
  exact Finset.sum_congr rfl fun k _ => congrArg₂ (fun a b : EReal => a * b) (ref_du1 x0 x1 x8 n k) rfl
theorem ref_dy2 (x0 : Md.Idx → EReal) (x1 : Gt.Idx → EReal) (x7 : S512x1024.Idx → EReal) (x8 : S1024x1024.Idx → EReal) (n : ℕ) (j : Fin 512) : val_main_v47 (F := Ideal) x0 x1 x7 x8 (ix3 (bat n) (tok n) j) = dy gate2 x0 x1 x7 x8 n j := by
  unfold val_main_v47
  pointwise
  exact Finset.sum_congr rfl fun k _ => congrArg₂ (fun a b : EReal => a * b) (ref_du2 x0 x1 x8 n k) rfl

/-- The gates' gradients. -/
theorem ref_up0 (x0 : Md.Idx → EReal) (x2 : Br.Idx → EReal) (x5 : S512x1024.Idx → EReal) (x8 : S1024x1024.Idx → EReal) (n : ℕ) (j : Fin 1024) : val_main_v36 (F := Ideal) x0 x2 x5 x8 (ix3 (bat n) (tok n) j) = dm x0 x8 n j * up x2 x5 n j := by
  unfold val_main_v36
  pointwise
  rw [ref_dm, ref_u0]
theorem ref_up1 (x0 : Md.Idx → EReal) (x3 : Br.Idx → EReal) (x6 : S512x1024.Idx → EReal) (x8 : S1024x1024.Idx → EReal) (n : ℕ) (j : Fin 1024) : val_main_v31 (F := Ideal) x0 x3 x6 x8 (ix3 (bat n) (tok n) j) = dm x0 x8 n j * up x3 x6 n j := by
  unfold val_main_v31
  pointwise
  rw [ref_dm, ref_u1]
theorem ref_up2 (x0 : Md.Idx → EReal) (x4 : Br.Idx → EReal) (x7 : S512x1024.Idx → EReal) (x8 : S1024x1024.Idx → EReal) (n : ℕ) (j : Fin 1024) : val_main_v27 (F := Ideal) x0 x4 x7 x8 (ix3 (bat n) (tok n) j) = dm x0 x8 n j * up x4 x7 n j := by
  unfold val_main_v27
  pointwise
  rw [ref_dm, ref_u2]
theorem ref_slope (x1 : Gt.Idx → EReal) (b : Fin 4) (t : Fin 2048) (j : Fin 3072) : val_main_v11 (F := Ideal) x1 (ix3 b t j) = Ideal.logistic (x1 (ix3 b t j)) * (1 - Ideal.logistic (x1 (ix3 b t j))) := by
  unfold val_main_v11 val_main_v10 val_main_v9 val_main_cst_1 val_main_v8 val_main_v7 val_main_cst_0 val_main_v6 val_main_v5 val_main_cst val_main_v4 val_main_v3
  pointwise
  rfl
theorem ref_part0 (x0 : Md.Idx → EReal) (x1 : Gt.Idx → EReal) (x2 x3 x4 : Br.Idx → EReal) (x5 x6 x7 : S512x1024.Idx → EReal) (x8 : S1024x1024.Idx → EReal) (b : Fin 4) (t : Fin 2048) (j : Fin 1024) : val_main_v39 (F := Ideal) x0 x2 x3 x4 x5 x6 x7 x8 (ix4 b t (0 : Fin 3) j) = val_main_v36 (F := Ideal) x0 x2 x5 x8 (ix3 b t j) := by
  unfold val_main_v39 val_main_v38 val_main_cst_4 val_main_v37 val_main_v34 val_main_v33 val_main_cst_3 val_main_v32 val_main_v29 val_main_cst_2 val_main_v28
  pointwise
theorem ref_part1 (x0 : Md.Idx → EReal) (x1 : Gt.Idx → EReal) (x2 x3 x4 : Br.Idx → EReal) (x5 x6 x7 : S512x1024.Idx → EReal) (x8 : S1024x1024.Idx → EReal) (b : Fin 4) (t : Fin 2048) (j : Fin 1024) : val_main_v39 (F := Ideal) x0 x2 x3 x4 x5 x6 x7 x8 (ix4 b t (1 : Fin 3) j) = val_main_v31 (F := Ideal) x0 x3 x6 x8 (ix3 b t j) := by
  unfold val_main_v39 val_main_v38 val_main_cst_4 val_main_v37 val_main_v34 val_main_v33 val_main_cst_3 val_main_v32 val_main_v29 val_main_cst_2 val_main_v28
  pointwise
theorem ref_part2 (x0 : Md.Idx → EReal) (x1 : Gt.Idx → EReal) (x2 x3 x4 : Br.Idx → EReal) (x5 x6 x7 : S512x1024.Idx → EReal) (x8 : S1024x1024.Idx → EReal) (b : Fin 4) (t : Fin 2048) (j : Fin 1024) : val_main_v39 (F := Ideal) x0 x2 x3 x4 x5 x6 x7 x8 (ix4 b t (2 : Fin 3) j) = val_main_v27 (F := Ideal) x0 x4 x7 x8 (ix3 b t j) := by
  unfold val_main_v39 val_main_v38 val_main_cst_4 val_main_v37 val_main_v34 val_main_v33 val_main_cst_3 val_main_v32 val_main_v29 val_main_cst_2 val_main_v28
  pointwise
theorem ref_dg0 (x0 : Md.Idx → EReal) (x1 : Gt.Idx → EReal) (x2 x3 x4 : Br.Idx → EReal) (x5 x6 x7 : S512x1024.Idx → EReal) (x8 : S1024x1024.Idx → EReal) (n : ℕ) (j : Fin 1024) : val_main_v41 (F := Ideal) x0 x1 x2 x3 x4 x5 x6 x7 x8 (ix3 (bat n) (tok n) (⟨j.val, by omega⟩ : Fin 3072)) = dg gate0 x0 x1 x2 x5 x8 n j := by
  have e : idx_main_v40 (ix3 (bat n) (tok n) (⟨j.val, by omega⟩ : Fin 3072)) = ix4 (bat n) (tok n) (0 : Fin 3) j := by
    have hb : (bat n).val < 4 := (bat n).isLt
    have ht : (tok n).val < 2048 := (tok n).isLt
    have hj : j.val < 1024 := j.isLt
    funext a
    apply Fin.ext
    match a with
    | ⟨0, _⟩ => show (((bat n).val * 2048 + (tok n).val) * 3072 + (j.val)) / 6291456 = (bat n).val; omega
    | ⟨1, _⟩ => show (((bat n).val * 2048 + (tok n).val) * 3072 + (j.val)) / 3072 % 2048 = (tok n).val; omega
    | ⟨2, _⟩ => show (((bat n).val * 2048 + (tok n).val) * 3072 + (j.val)) / 1024 % 3 = 0; omega
    | ⟨3, _⟩ => show (((bat n).val * 2048 + (tok n).val) * 3072 + (j.val)) % 1024 = j.val; omega
  refine (val_main_v41_apply (F := Ideal) x0 x1 x2 x3 x4 x5 x6 x7 x8 _).trans ?_
  refine Eq.trans (congrArg₂ (fun a b : EReal => a * b) ((val_main_v40_apply (F := Ideal) x0 x2 x3 x4 x5 x6 x7 x8 _).trans ((congrArg _ e).trans
    ((ref_part0 x0 x1 x2 x3 x4 x5 x6 x7 x8 _ _ _).trans (ref_up0 x0 x2 x5 x8 n j)))) (ref_slope x1 _ _ _)) ?_
  exact (mul_assoc _ _ _).symm
theorem ref_dg1 (x0 : Md.Idx → EReal) (x1 : Gt.Idx → EReal) (x2 x3 x4 : Br.Idx → EReal) (x5 x6 x7 : S512x1024.Idx → EReal) (x8 : S1024x1024.Idx → EReal) (n : ℕ) (j : Fin 1024) : val_main_v41 (F := Ideal) x0 x1 x2 x3 x4 x5 x6 x7 x8 (ix3 (bat n) (tok n) (⟨1024 + j.val, by omega⟩ : Fin 3072)) = dg gate1 x0 x1 x3 x6 x8 n j := by
  have e : idx_main_v40 (ix3 (bat n) (tok n) (⟨1024 + j.val, by omega⟩ : Fin 3072)) = ix4 (bat n) (tok n) (1 : Fin 3) j := by
    have hb : (bat n).val < 4 := (bat n).isLt
    have ht : (tok n).val < 2048 := (tok n).isLt
    have hj : j.val < 1024 := j.isLt
    funext a
    apply Fin.ext
    match a with
    | ⟨0, _⟩ => show (((bat n).val * 2048 + (tok n).val) * 3072 + (1024 + j.val)) / 6291456 = (bat n).val; omega
    | ⟨1, _⟩ => show (((bat n).val * 2048 + (tok n).val) * 3072 + (1024 + j.val)) / 3072 % 2048 = (tok n).val; omega
    | ⟨2, _⟩ => show (((bat n).val * 2048 + (tok n).val) * 3072 + (1024 + j.val)) / 1024 % 3 = 1; omega
    | ⟨3, _⟩ => show (((bat n).val * 2048 + (tok n).val) * 3072 + (1024 + j.val)) % 1024 = j.val; omega
  refine (val_main_v41_apply (F := Ideal) x0 x1 x2 x3 x4 x5 x6 x7 x8 _).trans ?_
  refine Eq.trans (congrArg₂ (fun a b : EReal => a * b) ((val_main_v40_apply (F := Ideal) x0 x2 x3 x4 x5 x6 x7 x8 _).trans ((congrArg _ e).trans
    ((ref_part1 x0 x1 x2 x3 x4 x5 x6 x7 x8 _ _ _).trans (ref_up1 x0 x3 x6 x8 n j)))) (ref_slope x1 _ _ _)) ?_
  exact (mul_assoc _ _ _).symm
theorem ref_dg2 (x0 : Md.Idx → EReal) (x1 : Gt.Idx → EReal) (x2 x3 x4 : Br.Idx → EReal) (x5 x6 x7 : S512x1024.Idx → EReal) (x8 : S1024x1024.Idx → EReal) (n : ℕ) (j : Fin 1024) : val_main_v41 (F := Ideal) x0 x1 x2 x3 x4 x5 x6 x7 x8 (ix3 (bat n) (tok n) (⟨2048 + j.val, by omega⟩ : Fin 3072)) = dg gate2 x0 x1 x4 x7 x8 n j := by
  have e : idx_main_v40 (ix3 (bat n) (tok n) (⟨2048 + j.val, by omega⟩ : Fin 3072)) = ix4 (bat n) (tok n) (2 : Fin 3) j := by
    have hb : (bat n).val < 4 := (bat n).isLt
    have ht : (tok n).val < 2048 := (tok n).isLt
    have hj : j.val < 1024 := j.isLt
    funext a
    apply Fin.ext
    match a with
    | ⟨0, _⟩ => show (((bat n).val * 2048 + (tok n).val) * 3072 + (2048 + j.val)) / 6291456 = (bat n).val; omega
    | ⟨1, _⟩ => show (((bat n).val * 2048 + (tok n).val) * 3072 + (2048 + j.val)) / 3072 % 2048 = (tok n).val; omega
    | ⟨2, _⟩ => show (((bat n).val * 2048 + (tok n).val) * 3072 + (2048 + j.val)) / 1024 % 3 = 2; omega
    | ⟨3, _⟩ => show (((bat n).val * 2048 + (tok n).val) * 3072 + (2048 + j.val)) % 1024 = j.val; omega
  refine (val_main_v41_apply (F := Ideal) x0 x1 x2 x3 x4 x5 x6 x7 x8 _).trans ?_
  refine Eq.trans (congrArg₂ (fun a b : EReal => a * b) ((val_main_v40_apply (F := Ideal) x0 x2 x3 x4 x5 x6 x7 x8 _).trans ((congrArg _ e).trans
    ((ref_part2 x0 x1 x2 x3 x4 x5 x6 x7 x8 _ _ _).trans (ref_up2 x0 x4 x7 x8 n j)))) (ref_slope x1 _ _ _)) ?_
  exact (mul_assoc _ _ _).symm
theorem ref_dgate (x0 : Md.Idx → EReal) (x1 : Gt.Idx → EReal) (x2 x3 x4 : Br.Idx → EReal) (x5 x6 x7 : S512x1024.Idx → EReal) (x8 : S1024x1024.Idx → EReal) (n : ℕ) (j : Fin 3072) : val_main_v41 (F := Ideal) x0 x1 x2 x3 x4 x5 x6 x7 x8 (ix3 (bat n) (tok n) j) = dgate x0 x1 x2 x3 x4 x5 x6 x7 x8 n j := by
  unfold dgate beside
  by_cases h : j.val < 1024
  · refine Eq.trans ?_ (dif_pos h).symm
    exact ref_dg0 x0 x1 x2 x3 x4 x5 x6 x7 x8 n ⟨j.val, h⟩
  · refine Eq.trans ?_ (dif_neg h).symm
    have hj : j.val < 3072 := j.isLt
    by_cases h' : j.val < 2048
    · refine Eq.trans ?_ (dif_pos h').symm
      refine Eq.trans (congrArg (fun q => val_main_v41 (F := Ideal) x0 x1 x2 x3 x4 x5 x6 x7 x8 (ix3 (bat n) (tok n) q)) (Fin.ext ?_)) (ref_dg1 x0 x1 x2 x3 x4 x5 x6 x7 x8 n ⟨j.val - 1024, by omega⟩)
      show j.val = 1024 + (j.val - 1024)
      omega
    · refine Eq.trans ?_ (dif_neg h').symm
      refine Eq.trans (congrArg (fun q => val_main_v41 (F := Ideal) x0 x1 x2 x3 x4 x5 x6 x7 x8 (ix3 (bat n) (tok n) q)) (Fin.ext ?_)) (ref_dg2 x0 x1 x2 x3 x4 x5 x6 x7 x8 n ⟨j.val - 2048, by omega⟩)
      show j.val = 2048 + (j.val - 2048)
      omega

/-- The reference's seven arrays. -/
theorem ref11 (x0 : Md.Idx → EReal) (x1 : Gt.Idx → EReal) (x2 x3 x4 : Br.Idx → EReal) (x5 x6 x7 : S512x1024.Idx → EReal) (x8 : S1024x1024.Idx → EReal) : val_main_v49 (F := Ideal) x0 x1 x2 x3 x4 x5 x6 x7 x8 = rowsG (dgate x0 x1 x2 x3 x4 x5 x6 x7 x8) := by
  funext i
  have e : val_main_v49 (F := Ideal) x0 x1 x2 x3 x4 x5 x6 x7 x8 i = flat (val_main_v41 (F := Ideal) x0 x1 x2 x3 x4 x5 x6 x7 x8) (i 0).val (i 1) := by
    refine (val_main_v49_apply (F := Ideal) x0 x1 x2 x3 x4 x5 x6 x7 x8 i).trans ?_
    show val_main_v48 (F := Ideal) x0 x1 x2 x3 x4 x5 x6 x7 x8 i = _
    unfold val_main_v48
    exact flat_shapeCast _ _ i
  rw [e]
  exact ref_dgate x0 x1 x2 x3 x4 x5 x6 x7 x8 _ _
theorem ref12 (x0 : Md.Idx → EReal) (x1 : Gt.Idx → EReal) (x2 x3 x4 : Br.Idx → EReal) (x5 x6 x7 : S512x1024.Idx → EReal) (x8 : S1024x1024.Idx → EReal) : val_main_v50 (F := Ideal) x0 x1 x5 x8 = rowsY (dy gate0 x0 x1 x5 x8) := by
  funext i
  have e : val_main_v50 (F := Ideal) x0 x1 x5 x8 i = flat (val_main_v43 (F := Ideal) x0 x1 x5 x8) (i 0).val (i 1) := by
    unfold val_main_v50
    exact flat_shapeCast _ _ i
  rw [e]
  exact ref_dy0 x0 x1 x5 x8 _ _
theorem ref13 (x0 : Md.Idx → EReal) (x1 : Gt.Idx → EReal) (x2 x3 x4 : Br.Idx → EReal) (x5 x6 x7 : S512x1024.Idx → EReal) (x8 : S1024x1024.Idx → EReal) : val_main_v51 (F := Ideal) x0 x1 x6 x8 = rowsY (dy gate1 x0 x1 x6 x8) := by
  funext i
  have e : val_main_v51 (F := Ideal) x0 x1 x6 x8 i = flat (val_main_v45 (F := Ideal) x0 x1 x6 x8) (i 0).val (i 1) := by
    unfold val_main_v51
    exact flat_shapeCast _ _ i
  rw [e]
  exact ref_dy1 x0 x1 x6 x8 _ _
theorem ref14 (x0 : Md.Idx → EReal) (x1 : Gt.Idx → EReal) (x2 x3 x4 : Br.Idx → EReal) (x5 x6 x7 : S512x1024.Idx → EReal) (x8 : S1024x1024.Idx → EReal) : val_main_v52 (F := Ideal) x0 x1 x7 x8 = rowsY (dy gate2 x0 x1 x7 x8) := by
  funext i
  have e : val_main_v52 (F := Ideal) x0 x1 x7 x8 i = flat (val_main_v47 (F := Ideal) x0 x1 x7 x8) (i 0).val (i 1) := by
    unfold val_main_v52
    exact flat_shapeCast _ _ i
  rw [e]
  exact ref_dy2 x0 x1 x7 x8 _ _
theorem ref15 (x0 : Md.Idx → EReal) (x1 : Gt.Idx → EReal) (x2 x3 x4 : Br.Idx → EReal) (x5 x6 x7 : S512x1024.Idx → EReal) (x8 : S1024x1024.Idx → EReal) : val_main_v54 (F := Ideal) x0 x1 x8 = rows (du gate0 x0 x1 x8) := by
  funext i
  have e : val_main_v54 (F := Ideal) x0 x1 x8 i = flat (val_main_v35 (F := Ideal) x0 x1 x8) (i 0).val (i 1) := by
    refine (val_main_v54_apply (F := Ideal) x0 x1 x8 i).trans ?_
    show val_main_v53 (F := Ideal) x0 x1 x8 i = _
    unfold val_main_v53
    exact flat_shapeCast _ _ i
  rw [e]
  exact ref_du0 x0 x1 x8 _ _
theorem ref16 (x0 : Md.Idx → EReal) (x1 : Gt.Idx → EReal) (x2 x3 x4 : Br.Idx → EReal) (x5 x6 x7 : S512x1024.Idx → EReal) (x8 : S1024x1024.Idx → EReal) : val_main_v56 (F := Ideal) x0 x1 x8 = rows (du gate1 x0 x1 x8) := by
  funext i
  have e : val_main_v56 (F := Ideal) x0 x1 x8 i = flat (val_main_v30 (F := Ideal) x0 x1 x8) (i 0).val (i 1) := by
    refine (val_main_v56_apply (F := Ideal) x0 x1 x8 i).trans ?_
    show val_main_v55 (F := Ideal) x0 x1 x8 i = _
    unfold val_main_v55
    exact flat_shapeCast _ _ i
  rw [e]
  exact ref_du1 x0 x1 x8 _ _
theorem ref17 (x0 : Md.Idx → EReal) (x1 : Gt.Idx → EReal) (x2 x3 x4 : Br.Idx → EReal) (x5 x6 x7 : S512x1024.Idx → EReal) (x8 : S1024x1024.Idx → EReal) : val_main_v58 (F := Ideal) x0 x1 x8 = rows (du gate2 x0 x1 x8) := by
  funext i
  have e : val_main_v58 (F := Ideal) x0 x1 x8 i = flat (val_main_v26 (F := Ideal) x0 x1 x8) (i 0).val (i 1) := by
    refine (val_main_v58_apply (F := Ideal) x0 x1 x8 i).trans ?_
    show val_main_v57 (F := Ideal) x0 x1 x8 i = _
    unfold val_main_v57
    exact flat_shapeCast _ _ i
  rw [e]
  exact ref_du2 x0 x1 x8 _ _

end Cert.KernelMergeBIdeal.MergeB
-- ==== Proof.MergeF.lean ====
/- The forward pass that merges the three branches: what the kernel leaves in its six arrays, and that the reference's lines leave the same. -/
module

public import proofs.«01_k».proof.Proof.Gen.KernelMergeFIdeal.Value
public import proofs.«01_k».proof.Proof.Gen.ReferenceMergeFIdeal.Run
public import proofs.«01_k».proof.Proof.Gen.ReferenceMergeFIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelMergeFIdeal.MergeF

open Idealize.ShloMosaic Idealize.ShloMosaic.TcCoe Idealize.SL.Sem Cert.KernelMergeFIdeal Cert.KernelMergeFIdeal.Gen Cert.Sums

abbrev Br : Shape := ⟨3, ![4, 2048, 512]⟩
abbrev Gt : Shape := ⟨3, ![4, 2048, 3072]⟩
abbrev Md : Shape := ⟨3, ![4, 2048, 1024]⟩

/-- A branch's projection. -/
def up (y : Br.Idx → EReal) (w : S512x1024.Idx → EReal) (n : ℕ) (j : Fin 1024) : EReal :=
  ∑ k : Fin 512, flat y n k * w (ix2 k j)

/-- The three projections under their gates. -/
def merged (ya yb yc : Br.Idx → EReal) (g : Gt.Idx → EReal) (wa wb wc : S512x1024.Idx → EReal) (n : ℕ) (j : Fin 1024) : EReal :=
  Ideal.logistic (flat g n (⟨j.val, by omega⟩ : Fin 3072)) * up ya wa n j
    + Ideal.logistic (flat g n (⟨1024 + j.val, by omega⟩ : Fin 3072)) * up yb wb n j
    + Ideal.logistic (flat g n (⟨2048 + j.val, by omega⟩ : Fin 3072)) * up yc wc n j

/-- The block's output: the merged branches' projection on top of the input. -/
def mid (ya yb yc : Br.Idx → EReal) (g : Gt.Idx → EReal) (x : Md.Idx → EReal) (wa wb wc : S512x1024.Idx → EReal) (wo : S1024x1024.Idx → EReal) (n : ℕ) (j : Fin 1024) : EReal :=
  flat x n j + ∑ k : Fin 1024, merged ya yb yc g wa wb wc n k * wo (ix2 k j)

/-- A row under the root-mean-square norm with its gain. -/
def normed (x : Fin 1024 → EReal) (gn : S1x1024.Idx → EReal) (j : Fin 1024) : EReal :=
  x j * Ideal.rsqrt (Ideal.div (∑ k : Fin 1024, x k * x k) (Ideal.ofBits .f32 0x44800000#32) + Ideal.ofBits .f32 0x358637BD#32) * gn (ix2 0 j)

/-! ### The kernel's body, over the blocks that a point reads -/

theorem pay4_at (y : Vec Ideal S512x512 .bf16) (w : Vec Ideal S512x1024 .bf16) (r : Fin 512) (j : Fin 1024) :
    k0_pay4 (F := Ideal) y w (ix2 r j) = ∑ k : Fin 512, y (ix2 r k) * w (ix2 k j) := by
  unfold k0_pay4
  pointwise
theorem pay5_at (y : Vec Ideal S512x512 .bf16) (w : Vec Ideal S512x1024 .bf16) (r : Fin 512) (j : Fin 1024) :
    k0_pay5 (F := Ideal) y w (ix2 r j) = k0_pay4 (F := Ideal) y w (ix2 r j) := by
  unfold k0_pay5
  pointwise
theorem pay6_at (y : Vec Ideal S512x512 .bf16) (w : Vec Ideal S512x1024 .bf16) (r : Fin 512) (j : Fin 1024) :
    k0_pay6 (F := Ideal) y w (ix2 r j) = ∑ k : Fin 512, y (ix2 r k) * w (ix2 k j) := by
  unfold k0_pay6
  pointwise
theorem pay7_at (y : Vec Ideal S512x512 .bf16) (w : Vec Ideal S512x1024 .bf16) (r : Fin 512) (j : Fin 1024) :
    k0_pay7 (F := Ideal) y w (ix2 r j) = k0_pay6 (F := Ideal) y w (ix2 r j) := by
  unfold k0_pay7
  pointwise
theorem pay9_at (y : Vec Ideal S512x512 .bf16) (w : Vec Ideal S512x1024 .bf16) (r : Fin 512) (j : Fin 1024) :
    k0_pay9 (F := Ideal) y w (ix2 r j) = ∑ k : Fin 512, y (ix2 r k) * w (ix2 k j) := by
  unfold k0_pay9
  pointwise
theorem pay10_at (y : Vec Ideal S512x512 .bf16) (w : Vec Ideal S512x1024 .bf16) (r : Fin 512) (j : Fin 1024) :
    k0_pay10 (F := Ideal) y w (ix2 r j) = k0_pay9 (F := Ideal) y w (ix2 r j) := by
  unfold k0_pay10
  pointwise

/-- Two gated projections, and the third on top of them. -/
theorem pay8_at (y : Vec Ideal S512x512 .bf16) (w g : Vec Ideal S512x1024 .bf16) (y' : Vec Ideal S512x512 .bf16) (w' g' : Vec Ideal S512x1024 .bf16) (r : Fin 512) (j : Fin 1024) :
    k0_pay8 (F := Ideal) y w g y' w' g' (ix2 r j) = Ideal.logistic (g (ix2 r j)) * k0_pay4 (F := Ideal) y w (ix2 r j) + Ideal.logistic (g' (ix2 r j)) * k0_pay6 (F := Ideal) y' w' (ix2 r j) := by
  unfold k0_pay8
  pointwise
theorem pay1_at (a b : FVec Ideal S512x1024 .f32) (g : Vec Ideal S512x1024 .bf16) (r : Fin 512) (j : Fin 1024) :
    k0_pay1 (F := Ideal) a b g (ix2 r j) = a (ix2 r j) + Ideal.logistic (g (ix2 r j)) * b (ix2 r j) := by
  unfold k0_pay1
  pointwise

/-- The output's projection on top of the input, and its norm. -/
theorem pay2_at (a b : FVec Ideal S512x1024 .f32) (g : Vec Ideal S512x1024 .bf16) (x : Vec Ideal S512x1024 .f32) (wo : Vec Ideal S1024x1024 .bf16) (r : Fin 512) (j : Fin 1024) :
    k0_pay2 (F := Ideal) a b g x wo (ix2 r j) = x (ix2 r j) + ∑ k : Fin 1024, k0_pay1 (F := Ideal) a b g (ix2 r k) * wo (ix2 k j) := by
  unfold k0_pay2
  pointwise
theorem pay3_at (a b : FVec Ideal S512x1024 .f32) (g : Vec Ideal S512x1024 .bf16) (x : Vec Ideal S512x1024 .f32) (wo : Vec Ideal S1024x1024 .bf16) (gn : Vec Ideal S1x1024 .f32) (r : Fin 512) (j : Fin 1024) :
    k0_pay3 (F := Ideal) a b g x wo gn (ix2 r j) = normed (fun j => k0_pay2 (F := Ideal) a b g x wo (ix2 r j)) gn j := by
  unfold k0_pay3
  pointwise
  rfl

/-- The body reads whole blocks. -/
theorem ld_512x512 {e : EltTy} (x : Vec Ideal S512x512 e) : View.ld x (Rect.unit ![0, 0] ![512, 512] inb_S512x512_S512x512_0_0) = x :=
  View.ld_unit_zero (by funext a; fin_cases a <;> rfl) inb_S512x512_S512x512_0_0 x
theorem ld_512x1024 {e : EltTy} (x : Vec Ideal S512x1024 e) : View.ld x (Rect.unit ![0, 0] ![512, 1024] inb_S512x1024_S512x1024_0_0) = x :=
  View.ld_unit_zero (by funext a; fin_cases a <;> rfl) inb_S512x1024_S512x1024_0_0 x
theorem ld_1024x1024 {e : EltTy} (x : Vec Ideal S1024x1024 e) : View.ld x (Rect.unit ![0, 0] ![1024, 1024] inb_S1024x1024_S1024x1024_0_0) = x :=
  View.ld_unit_zero (by funext a; fin_cases a <;> rfl) inb_S1024x1024_S1024x1024_0_0 x
theorem ld_1x1024 {e : EltTy} (x : Vec Ideal S1x1024 e) : View.ld x (Rect.unit ![0, 0] ![1, 1024] inb_S1x1024_S1x1024_0_0) = x :=
  View.ld_unit_zero (by funext a; fin_cases a <;> rfl) inb_S1x1024_S1x1024_0_0 x

section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole)
  (x0 : Vec Ideal S512x512 .bf16) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .f32) (x7 : Vec Ideal S512x1024 .bf16) (x8 : Vec Ideal S512x1024 .bf16) (x9 : Vec Ideal S512x1024 .bf16) (x10 : Vec Ideal S1024x1024 .bf16) (x11 : Vec Ideal S1x1024 .f32)

/-- What a point leaves in each of its six blocks. -/
theorem out_A12 :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = k0_pay2 (k0_pay8 x0 x7 x3 x1 x8 x4) (k0_pay9 x2 x9) x5 x6 x10 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_512x512, ld_512x1024, ld_1024x1024, ld_1x1024]
  exact View.canon_unit_zero (by funext a; fin_cases a <;> rfl) inb_S512x1024_S512x1024_0_0 _
theorem out_A13 :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = k0_pay1 (k0_pay8 x0 x7 x3 x1 x8 x4) (k0_pay9 x2 x9) x5 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_512x512, ld_512x1024, ld_1024x1024, ld_1x1024]
  exact View.canon_unit_zero (by funext a; fin_cases a <;> rfl) inb_S512x1024_S512x1024_0_0 _
theorem out_A14 :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = k0_pay5 x0 x7 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_512x512, ld_512x1024, ld_1024x1024, ld_1x1024]
  exact View.canon_unit_zero (by funext a; fin_cases a <;> rfl) inb_S512x1024_S512x1024_0_0 _
theorem out_A15 :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = k0_pay7 x1 x8 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_512x512, ld_512x1024, ld_1024x1024, ld_1x1024]
  exact View.canon_unit_zero (by funext a; fin_cases a <;> rfl) inb_S512x1024_S512x1024_0_0 _
theorem out_A16 :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = k0_pay10 x2 x9 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_512x512, ld_512x1024, ld_1024x1024, ld_1x1024]
  exact View.canon_unit_zero (by funext a; fin_cases a <;> rfl) inb_S512x1024_S512x1024_0_0 _
theorem out_A17 :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = k0_pay3 (k0_pay8 x0 x7 x3 x1 x8 x4) (k0_pay9 x2 x9) x5 x6 x10 x11 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11)]
  unfold kernelRun0_A
  dsimp only
  sl_unfold_words
  simp (disch := first | decide | (intro a; fin_cases a <;> rfl)) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_512x512, ld_512x1024, ld_1024x1024, ld_1x1024]
  exact View.canon_unit_zero (by funext a; fin_cases a <;> rfl) inb_S512x1024_S512x1024_0_0 _

end

/-! ### The blocks -/

section
variable (m : (ℓ : Loc nD τ sig) → Buf (Elt Ideal) ℓ) (c : Dev nD)

/-- The ten arguments on a device. -/
abbrev A0 : Br.Idx → EReal := m ((c : Thread nD τ).loc main_arg0)
abbrev A1 : Br.Idx → EReal := m ((c : Thread nD τ).loc main_arg1)
abbrev A2 : Br.Idx → EReal := m ((c : Thread nD τ).loc main_arg2)
abbrev A3 : Gt.Idx → EReal := m ((c : Thread nD τ).loc main_arg3)
abbrev A4 : Md.Idx → EReal := m ((c : Thread nD τ).loc main_arg4)
abbrev A5 : S512x1024.Idx → EReal := m ((c : Thread nD τ).loc main_arg5)
abbrev A6 : S512x1024.Idx → EReal := m ((c : Thread nD τ).loc main_arg6)
abbrev A7 : S512x1024.Idx → EReal := m ((c : Thread nD τ).loc main_arg7)
abbrev A8 : S1024x1024.Idx → EReal := m ((c : Thread nD τ).loc main_arg8)
abbrev A9 : S1x1024.Idx → EReal := m ((c : Thread nD τ).loc main_arg9)

/-- The arrays that the kernel is called on: the batches below one another. -/
theorem V_ya (i : S8192x512.Idx) : (V m c main_v1 : S8192x512.Idx → EReal) i = flat (A0 m c) (i 0).val (i 1) := by
  have e : (V m c main_v1 : S8192x512.Idx → EReal) = shapeCast S8192x512 (A0 m c) shapeCasts_S4x2048x512_S8192x512 := by
    unfold_abbrev_sides
    after_results
    rfl
  rw [e]
  exact flat_shapeCast _ _ i
theorem V_yb (i : S8192x512.Idx) : (V m c main_v3 : S8192x512.Idx → EReal) i = flat (A1 m c) (i 0).val (i 1) := by
  have e : (V m c main_v3 : S8192x512.Idx → EReal) = shapeCast S8192x512 (A1 m c) shapeCasts_S4x2048x512_S8192x512 := by
    unfold_abbrev_sides
    after_results
    rfl
  rw [e]
  exact flat_shapeCast _ _ i
theorem V_yc (i : S8192x512.Idx) : (V m c main_v5 : S8192x512.Idx → EReal) i = flat (A2 m c) (i 0).val (i 1) := by
  have e : (V m c main_v5 : S8192x512.Idx → EReal) = shapeCast S8192x512 (A2 m c) shapeCasts_S4x2048x512_S8192x512 := by
    unfold_abbrev_sides
    after_results
    rfl
  rw [e]
  exact flat_shapeCast _ _ i
theorem V_x (i : S8192x1024.Idx) : (V m c main_v15 : S8192x1024.Idx → EReal) i = flat (A4 m c) (i 0).val (i 1) := by
  have e : (V m c main_v15 : S8192x1024.Idx → EReal) = shapeCast S8192x1024 (A4 m c) shapeCasts_S4x2048x1024_S8192x1024 := by
    unfold_abbrev_sides
    after_results
    rfl
  rw [e]
  exact flat_shapeCast _ _ i
theorem V_wa : (V m c main_v6 : S512x1024.Idx → EReal) = A5 m c := by
  unfold_abbrev_sides
  after_results
  rfl
theorem V_wb : (V m c main_v7 : S512x1024.Idx → EReal) = A6 m c := by
  unfold_abbrev_sides
  after_results
  rfl
theorem V_wc : (V m c main_v8 : S512x1024.Idx → EReal) = A7 m c := by
  unfold_abbrev_sides
  after_results
  rfl
theorem V_wo : (V m c main_v9 : S1024x1024.Idx → EReal) = A8 m c := by
  unfold_abbrev_sides
  after_results
  rfl
theorem V_gn : (V m c main_arg9 : S1x1024.Idx → EReal) = A9 m c := by
  unfold_abbrev_sides
  after_results

set_option maxRecDepth 65536 in
/-- The gates' columns of the wide array. -/
theorem V_z (i : S8192x7296.Idx) (hlo : 4096 ≤ (i 1).val) (hhi : (i 1).val < 7168) : (V m c main_v14 : S8192x7296.Idx → EReal) i
    = flat (A3 m c) (i 0).val (⟨(i 1).val - 4096, by omega⟩ : Fin 3072) := by
  have e : (V m c main_v14 : S8192x7296.Idx → EReal) = concatenate S8192x7296 1 [⟨S8192x4096, broadcastInDim S8192x4096 ![] bcast_S_S8192x4096 (constant (F := Ideal) S_ .f32 0x00000000#32)⟩,
      ⟨S8192x3072, shapeCast S8192x3072 (A3 m c) shapeCasts_S4x2048x3072_S8192x3072⟩,
      ⟨S8192x128, broadcastInDim S8192x128 ![] bcast_S_S8192x128 (constant (F := Ideal) S_ .f32 0x00000000#32)⟩] concatenates_S8192x4096_S8192x3072_S8192x128_S8192x7296_d1 := by
    unfold_abbrev_sides
    after_results
    rfl
  rw [e]
  refine (concatenate_apply_piece (t := S8192x7296) 1 _ _ i 1 (by show 1 < 3; omega) S8192x3072 _ rfl rfl 4096 rfl
    (ix2 (i 0) (⟨(i 1).val - 4096, by omega⟩ : Fin 3072)) ?_ ?_).trans ?_
  · intro b hb
    match b with
    | ⟨0, _⟩ => rfl
    | ⟨1, _⟩ => exact absurd rfl hb
  · show 4096 + ((i 1).val - 4096) = (i 1).val; omega
  · exact flat_shapeCast _ _ _

/-- The blocks of a grid point. -/
theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = t.val ∧ win0_1.index t (1 : Fin 2) = 0 :=
  (by decide +kernel : ∀ t : Fin grid0.N, _)
theorem index2_at : ∀ t : Fin cfg0.N, win0_2.index t (0 : Fin 2) = t.val ∧ win0_2.index t (1 : Fin 2) = 0 :=
  (by decide +kernel : ∀ t : Fin grid0.N, _)
theorem index3_at : ∀ t : Fin cfg0.N, win0_3.index t (0 : Fin 2) = t.val ∧ win0_3.index t (1 : Fin 2) = 4 :=
  (by decide +kernel : ∀ t : Fin grid0.N, _)
theorem index4_at : ∀ t : Fin cfg0.N, win0_4.index t (0 : Fin 2) = t.val ∧ win0_4.index t (1 : Fin 2) = 5 :=
  (by decide +kernel : ∀ t : Fin grid0.N, _)
theorem index5_at : ∀ t : Fin cfg0.N, win0_5.index t (0 : Fin 2) = t.val ∧ win0_5.index t (1 : Fin 2) = 6 :=
  (by decide +kernel : ∀ t : Fin grid0.N, _)
theorem index6_at : ∀ t : Fin cfg0.N, win0_6.index t (0 : Fin 2) = t.val ∧ win0_6.index t (1 : Fin 2) = 0 :=
  (by decide +kernel : ∀ t : Fin grid0.N, _)
theorem index7_at : ∀ t : Fin cfg0.N, win0_7.index t (0 : Fin 2) = 0 ∧ win0_7.index t (1 : Fin 2) = 0 :=
  (by decide +kernel : ∀ t : Fin grid0.N, _)
theorem index8_at : ∀ t : Fin cfg0.N, win0_8.index t (0 : Fin 2) = 0 ∧ win0_8.index t (1 : Fin 2) = 0 :=
  (by decide +kernel : ∀ t : Fin grid0.N, _)
theorem index9_at : ∀ t : Fin cfg0.N, win0_9.index t (0 : Fin 2) = 0 ∧ win0_9.index t (1 : Fin 2) = 0 :=
  (by decide +kernel : ∀ t : Fin grid0.N, _)
theorem index10_at : ∀ t : Fin cfg0.N, win0_10.index t (0 : Fin 2) = 0 ∧ win0_10.index t (1 : Fin 2) = 0 :=
  (by decide +kernel : ∀ t : Fin grid0.N, _)
theorem index11_at : ∀ t : Fin cfg0.N, win0_11.index t (0 : Fin 2) = 0 ∧ win0_11.index t (1 : Fin 2) = 0 :=
  (by decide +kernel : ∀ t : Fin grid0.N, _)
theorem index12_at : ∀ t : Fin cfg0.N, win0_12.index t (0 : Fin 2) = t.val ∧ win0_12.index t (1 : Fin 2) = 0 :=
  (by decide +kernel : ∀ t : Fin grid0.N, _)
theorem index13_at : ∀ t : Fin cfg0.N, win0_13.index t (0 : Fin 2) = t.val ∧ win0_13.index t (1 : Fin 2) = 0 :=
  (by decide +kernel : ∀ t : Fin grid0.N, _)
theorem index14_at : ∀ t : Fin cfg0.N, win0_14.index t (0 : Fin 2) = t.val ∧ win0_14.index t (1 : Fin 2) = 0 :=
  (by decide +kernel : ∀ t : Fin grid0.N, _)
theorem index15_at : ∀ t : Fin cfg0.N, win0_15.index t (0 : Fin 2) = t.val ∧ win0_15.index t (1 : Fin 2) = 0 :=
  (by decide +kernel : ∀ t : Fin grid0.N, _)
theorem index16_at : ∀ t : Fin cfg0.N, win0_16.index t (0 : Fin 2) = t.val ∧ win0_16.index t (1 : Fin 2) = 0 :=
  (by decide +kernel : ∀ t : Fin grid0.N, _)
theorem index17_at : ∀ t : Fin cfg0.N, win0_17.index t (0 : Fin 2) = t.val ∧ win0_17.index t (1 : Fin 2) = 0 :=
  (by decide +kernel : ∀ t : Fin grid0.N, _)

/-- The rows, the gates and the weights that a point reads. -/
theorem ya_in (t : Fin cfg0.N) (r : Fin 512) (j : Fin 512) : (iblk m c 0 t : S512x512.Idx → EReal) (ix2 r j) = flat (A0 m c) (512 * t.val + r.val) j := by
  obtain ⟨e0, e1⟩ := index0_at t
  refine Eq.trans ?_ (V_ya m c (ix2 (⟨512 * t.val + r.val, by have : t.val < 16 := lt_of_lt_of_eq t.isLt N_0; omega⟩ : Fin 8192) (⟨j.val, by omega⟩ : Fin 512)))
  unfold iblk
  show (V m c main_v1 : S8192x512.Idx → EReal) _ = _
  congr 1
  funext a
  apply Fin.ext
  match a with
  | ⟨0, _⟩ => show win0_0.index t (0 : Fin 2) * 512 + 1 * r.val = 512 * t.val + r.val; omega
  | ⟨1, _⟩ => show win0_0.index t (1 : Fin 2) * 512 + 1 * j.val = j.val; omega
theorem yb_in (t : Fin cfg0.N) (r : Fin 512) (j : Fin 512) : (iblk m c 1 t : S512x512.Idx → EReal) (ix2 r j) = flat (A1 m c) (512 * t.val + r.val) j := by
  obtain ⟨e0, e1⟩ := index1_at t
  refine Eq.trans ?_ (V_yb m c (ix2 (⟨512 * t.val + r.val, by have : t.val < 16 := lt_of_lt_of_eq t.isLt N_0; omega⟩ : Fin 8192) (⟨j.val, by omega⟩ : Fin 512)))
  unfold iblk
  show (V m c main_v3 : S8192x512.Idx → EReal) _ = _
  congr 1
  funext a
  apply Fin.ext
  match a with
  | ⟨0, _⟩ => show win0_1.index t (0 : Fin 2) * 512 + 1 * r.val = 512 * t.val + r.val; omega
  | ⟨1, _⟩ => show win0_1.index t (1 : Fin 2) * 512 + 1 * j.val = j.val; omega
theorem yc_in (t : Fin cfg0.N) (r : Fin 512) (j : Fin 512) : (iblk m c 2 t : S512x512.Idx → EReal) (ix2 r j) = flat (A2 m c) (512 * t.val + r.val) j := by
  obtain ⟨e0, e1⟩ := index2_at t
  refine Eq.trans ?_ (V_yc m c (ix2 (⟨512 * t.val + r.val, by have : t.val < 16 := lt_of_lt_of_eq t.isLt N_0; omega⟩ : Fin 8192) (⟨j.val, by omega⟩ : Fin 512)))
  unfold iblk
  show (V m c main_v5 : S8192x512.Idx → EReal) _ = _
  congr 1
  funext a
  apply Fin.ext
  match a with
  | ⟨0, _⟩ => show win0_2.index t (0 : Fin 2) * 512 + 1 * r.val = 512 * t.val + r.val; omega
  | ⟨1, _⟩ => show win0_2.index t (1 : Fin 2) * 512 + 1 * j.val = j.val; omega
theorem g0_in (t : Fin cfg0.N) (r : Fin 512) (j : Fin 1024) : (X0_3 m c t : S512x1024.Idx → EReal) (ix2 r j) = flat (A3 m c) (512 * t.val + r.val) (⟨j.val, by omega⟩ : Fin 3072) := by
  obtain ⟨e0, e1⟩ := index3_at t
  refine Eq.trans ?_ ((V_z m c (ix2 (⟨512 * t.val + r.val, by have : t.val < 16 := lt_of_lt_of_eq t.isLt N_0; omega⟩ : Fin 8192) (⟨4096 + j.val, by omega⟩ : Fin 7296)) (by show 4096 ≤ 4096 + j.val; omega) (by show 4096 + j.val < 7168; omega)).trans (congrArg (flat (A3 m c) _) (Fin.ext (by show 4096 + j.val - 4096 = j.val; omega))))
  unfold X0_3 Pipeline.Window.fill
  rw [dif_pos (moved0_3 t _)]
  unfold iblk
  show (V m c main_v14 : S8192x7296.Idx → EReal) _ = _
  congr 1
  funext a
  apply Fin.ext
  match a with
  | ⟨0, _⟩ => show win0_3.index t (0 : Fin 2) * 512 + 1 * r.val = 512 * t.val + r.val; omega
  | ⟨1, _⟩ => show win0_3.index t (1 : Fin 2) * 1024 + 1 * j.val = 4096 + j.val; omega
theorem g1_in (t : Fin cfg0.N) (r : Fin 512) (j : Fin 1024) : (X0_4 m c t : S512x1024.Idx → EReal) (ix2 r j) = flat (A3 m c) (512 * t.val + r.val) (⟨1024 + j.val, by omega⟩ : Fin 3072) := by
  obtain ⟨e0, e1⟩ := index4_at t
  refine Eq.trans ?_ ((V_z m c (ix2 (⟨512 * t.val + r.val, by have : t.val < 16 := lt_of_lt_of_eq t.isLt N_0; omega⟩ : Fin 8192) (⟨5120 + j.val, by omega⟩ : Fin 7296)) (by show 4096 ≤ 5120 + j.val; omega) (by show 5120 + j.val < 7168; omega)).trans (congrArg (flat (A3 m c) _) (Fin.ext (by show 5120 + j.val - 4096 = 1024 + j.val; omega))))
  unfold X0_4 Pipeline.Window.fill
  rw [dif_pos (moved0_4 t _)]
  unfold iblk
  show (V m c main_v14 : S8192x7296.Idx → EReal) _ = _
  congr 1
  funext a
  apply Fin.ext
  match a with
  | ⟨0, _⟩ => show win0_4.index t (0 : Fin 2) * 512 + 1 * r.val = 512 * t.val + r.val; omega
  | ⟨1, _⟩ => show win0_4.index t (1 : Fin 2) * 1024 + 1 * j.val = 5120 + j.val; omega
theorem g2_in (t : Fin cfg0.N) (r : Fin 512) (j : Fin 1024) : (X0_5 m c t : S512x1024.Idx → EReal) (ix2 r j) = flat (A3 m c) (512 * t.val + r.val) (⟨2048 + j.val, by omega⟩ : Fin 3072) := by
  obtain ⟨e0, e1⟩ := index5_at t
  refine Eq.trans ?_ ((V_z m c (ix2 (⟨512 * t.val + r.val, by have : t.val < 16 := lt_of_lt_of_eq t.isLt N_0; omega⟩ : Fin 8192) (⟨6144 + j.val, by omega⟩ : Fin 7296)) (by show 4096 ≤ 6144 + j.val; omega) (by show 6144 + j.val < 7168; omega)).trans (congrArg (flat (A3 m c) _) (Fin.ext (by show 6144 + j.val - 4096 = 2048 + j.val; omega))))
  unfold X0_5 Pipeline.Window.fill
  rw [dif_pos (moved0_5 t _)]
  unfold iblk
  show (V m c main_v14 : S8192x7296.Idx → EReal) _ = _
  congr 1
  funext a
  apply Fin.ext
  match a with
  | ⟨0, _⟩ => show win0_5.index t (0 : Fin 2) * 512 + 1 * r.val = 512 * t.val + r.val; omega
  | ⟨1, _⟩ => show win0_5.index t (1 : Fin 2) * 1024 + 1 * j.val = 6144 + j.val; omega
theorem x_in (t : Fin cfg0.N) (r : Fin 512) (j : Fin 1024) : (iblk m c 6 t : S512x1024.Idx → EReal) (ix2 r j) = flat (A4 m c) (512 * t.val + r.val) j := by
  obtain ⟨e0, e1⟩ := index6_at t
  refine Eq.trans ?_ (V_x m c (ix2 (⟨512 * t.val + r.val, by have : t.val < 16 := lt_of_lt_of_eq t.isLt N_0; omega⟩ : Fin 8192) (⟨j.val, by omega⟩ : Fin 1024)))
  unfold iblk
  show (V m c main_v15 : S8192x1024.Idx → EReal) _ = _
  congr 1
  funext a
  apply Fin.ext
  match a with
  | ⟨0, _⟩ => show win0_6.index t (0 : Fin 2) * 512 + 1 * r.val = 512 * t.val + r.val; omega
  | ⟨1, _⟩ => show win0_6.index t (1 : Fin 2) * 1024 + 1 * j.val = j.val; omega
theorem wa_in (t : Fin cfg0.N) : (iblk m c 7 t : S512x1024.Idx → EReal) = A5 m c := by
  obtain ⟨e0, e1⟩ := index7_at t
  funext y
  refine Eq.trans ?_ (congrFun (V_wa m c) y)
  unfold iblk
  show (V m c main_v6 : S512x1024.Idx → EReal) _ = _
  congr 1
  funext a
  apply Fin.ext
  match a with
  | ⟨0, _⟩ => show win0_7.index t (0 : Fin 2) * 512 + 1 * (y 0).val = (y 0).val; omega
  | ⟨1, _⟩ => show win0_7.index t (1 : Fin 2) * 1024 + 1 * (y 1).val = (y 1).val; omega
theorem wb_in (t : Fin cfg0.N) : (iblk m c 8 t : S512x1024.Idx → EReal) = A6 m c := by
  obtain ⟨e0, e1⟩ := index8_at t
  funext y
  refine Eq.trans ?_ (congrFun (V_wb m c) y)
  unfold iblk
  show (V m c main_v7 : S512x1024.Idx → EReal) _ = _
  congr 1
  funext a
  apply Fin.ext
  match a with
  | ⟨0, _⟩ => show win0_8.index t (0 : Fin 2) * 512 + 1 * (y 0).val = (y 0).val; omega
  | ⟨1, _⟩ => show win0_8.index t (1 : Fin 2) * 1024 + 1 * (y 1).val = (y 1).val; omega
theorem wc_in (t : Fin cfg0.N) : (iblk m c 9 t : S512x1024.Idx → EReal) = A7 m c := by
  obtain ⟨e0, e1⟩ := index9_at t
  funext y
  refine Eq.trans ?_ (congrFun (V_wc m c) y)
  unfold iblk
  show (V m c main_v8 : S512x1024.Idx → EReal) _ = _
  congr 1
  funext a
  apply Fin.ext
  match a with
  | ⟨0, _⟩ => show win0_9.index t (0 : Fin 2) * 512 + 1 * (y 0).val = (y 0).val; omega
  | ⟨1, _⟩ => show win0_9.index t (1 : Fin 2) * 1024 + 1 * (y 1).val = (y 1).val; omega
theorem wo_in (t : Fin cfg0.N) : (iblk m c 10 t : S1024x1024.Idx → EReal) = A8 m c := by
  obtain ⟨e0, e1⟩ := index10_at t
  funext y
  refine Eq.trans ?_ (congrFun (V_wo m c) y)
  unfold iblk
  show (V m c main_v9 : S1024x1024.Idx → EReal) _ = _
  congr 1
  funext a
  apply Fin.ext
  match a with
  | ⟨0, _⟩ => show win0_10.index t (0 : Fin 2) * 1024 + 1 * (y 0).val = (y 0).val; omega
  | ⟨1, _⟩ => show win0_10.index t (1 : Fin 2) * 1024 + 1 * (y 1).val = (y 1).val; omega
theorem gn_in (t : Fin cfg0.N) : (iblk m c 11 t : S1x1024.Idx → EReal) = A9 m c := by
  obtain ⟨e0, e1⟩ := index11_at t
  funext y
  refine Eq.trans ?_ (congrFun (V_gn m c) y)
  unfold iblk
  show (V m c main_arg9 : S1x1024.Idx → EReal) _ = _
  congr 1
  funext a
  apply Fin.ext
  match a with
  | ⟨0, _⟩ => show win0_11.index t (0 : Fin 2) * 1 + 1 * (y 0).val = (y 0).val; omega
  | ⟨1, _⟩ => show win0_11.index t (1 : Fin 2) * 1024 + 1 * (y 1).val = (y 1).val; omega

/-- The projections of a point's tile. -/
theorem raw14 (t : Fin cfg0.N) (r : Fin 512) (j : Fin 1024) : (k0_pay4 (F := Ideal) (iblk m c 0 t) (iblk m c 7 t) : S512x1024.Idx → EReal) (ix2 r j) = up (A0 m c) (A5 m c) (512 * t.val + r.val) j :=
  (pay4_at _ _ _ _).trans (Finset.sum_congr rfl fun k _ => congrArg₂ (fun a b : EReal => a * b) (ya_in m c t r k) (congrFun (wa_in m c t) _))
theorem tile14 (t : Fin cfg0.N) (r : Fin 512) (j : Fin 1024) : (k0_pay5 (F := Ideal) (iblk m c 0 t) (iblk m c 7 t) : S512x1024.Idx → EReal) (ix2 r j) = up (A0 m c) (A5 m c) (512 * t.val + r.val) j := by
  exact (pay5_at _ _ _ _).trans (raw14 m c t r j)
theorem raw15 (t : Fin cfg0.N) (r : Fin 512) (j : Fin 1024) : (k0_pay6 (F := Ideal) (iblk m c 1 t) (iblk m c 8 t) : S512x1024.Idx → EReal) (ix2 r j) = up (A1 m c) (A6 m c) (512 * t.val + r.val) j :=
  (pay6_at _ _ _ _).trans (Finset.sum_congr rfl fun k _ => congrArg₂ (fun a b : EReal => a * b) (yb_in m c t r k) (congrFun (wb_in m c t) _))
theorem tile15 (t : Fin cfg0.N) (r : Fin 512) (j : Fin 1024) : (k0_pay7 (F := Ideal) (iblk m c 1 t) (iblk m c 8 t) : S512x1024.Idx → EReal) (ix2 r j) = up (A1 m c) (A6 m c) (512 * t.val + r.val) j := by
  exact (pay7_at _ _ _ _).trans (raw15 m c t r j)
theorem raw16 (t : Fin cfg0.N) (r : Fin 512) (j : Fin 1024) : (k0_pay9 (F := Ideal) (iblk m c 2 t) (iblk m c 9 t) : S512x1024.Idx → EReal) (ix2 r j) = up (A2 m c) (A7 m c) (512 * t.val + r.val) j :=
  (pay9_at _ _ _ _).trans (Finset.sum_congr rfl fun k _ => congrArg₂ (fun a b : EReal => a * b) (yc_in m c t r k) (congrFun (wc_in m c t) _))
theorem tile16 (t : Fin cfg0.N) (r : Fin 512) (j : Fin 1024) : (k0_pay10 (F := Ideal) (iblk m c 2 t) (iblk m c 9 t) : S512x1024.Idx → EReal) (ix2 r j) = up (A2 m c) (A7 m c) (512 * t.val + r.val) j := by
  exact (pay10_at _ _ _ _).trans (raw16 m c t r j)
/-- The merged branches of a point's tile. -/
theorem tile13 (t : Fin cfg0.N) (r : Fin 512) (j : Fin 1024) : (k0_pay1 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) : S512x1024.Idx → EReal) (ix2 r j) = merged (A0 m c) (A1 m c) (A2 m c) (A3 m c) (A5 m c) (A6 m c) (A7 m c) (512 * t.val + r.val) j := by
  refine (pay1_at _ _ _ _ _).trans ?_
  exact congrArg₂ (fun a b : EReal => a + b) ((pay8_at _ _ _ _ _ _ _ _).trans (congrArg₂ (fun a b : EReal => a + b) (congrArg₂ (fun a b : EReal => a * b) (congrArg Ideal.logistic (g0_in m c t r j)) (raw14 m c t r j)) (congrArg₂ (fun a b : EReal => a * b) (congrArg Ideal.logistic (g1_in m c t r j)) (raw15 m c t r j)))) (congrArg₂ (fun a b : EReal => a * b) (congrArg Ideal.logistic (g2_in m c t r j)) (raw16 m c t r j))
/-- The output of a point's tile. -/
theorem tile12 (t : Fin cfg0.N) (r : Fin 512) (j : Fin 1024) : (k0_pay2 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) (iblk m c 6 t) (iblk m c 10 t) : S512x1024.Idx → EReal) (ix2 r j) = mid (A0 m c) (A1 m c) (A2 m c) (A3 m c) (A4 m c) (A5 m c) (A6 m c) (A7 m c) (A8 m c) (512 * t.val + r.val) j := by
  refine (pay2_at _ _ _ _ _ _ _).trans ?_
  exact congrArg₂ (fun a b : EReal => a + b) (x_in m c t r j) (Finset.sum_congr rfl fun k _ => congrArg₂ (fun a b : EReal => a * b) (tile13 m c t r k) (congrFun (wo_in m c t) _))
/-- The normed output. -/
def h2 (ya yb yc : Br.Idx → EReal) (g : Gt.Idx → EReal) (x : Md.Idx → EReal) (wa wb wc : S512x1024.Idx → EReal) (wo : S1024x1024.Idx → EReal) (gn : S1x1024.Idx → EReal) (n : ℕ) (j : Fin 1024) : EReal :=
  normed (mid ya yb yc g x wa wb wc wo n) gn j

/-- The normed output of a point's tile. -/
theorem tile17 (t : Fin cfg0.N) (r : Fin 512) (j : Fin 1024) : (k0_pay3 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) (iblk m c 6 t) (iblk m c 10 t) (iblk m c 11 t) : S512x1024.Idx → EReal) (ix2 r j) = h2 (A0 m c) (A1 m c) (A2 m c) (A3 m c) (A4 m c) (A5 m c) (A6 m c) (A7 m c) (A8 m c) (A9 m c) (512 * t.val + r.val) j := by
  refine (pay3_at _ _ _ _ _ _ _ _).trans ?_
  exact congrFun (congrArg₂ normed (funext fun k => tile12 m c t r k) (gn_in m c t)) j

/-- A function of the rows as an array. -/
def rows (f : ℕ → Fin 1024 → EReal) (i : S8192x1024.Idx) : EReal := f (i 0).val (i 1)

/-- The six arrays that the kernel returns. -/
theorem arr12 : (Gen.dats m 0 c).arrAt 12 cfg0.N = (rows (mid (A0 m c) (A1 m c) (A2 m c) (A3 m c) (A4 m c) (A5 m c) (A6 m c) (A7 m c) (A8 m c)) : S8192x1024.Idx → EReal) := by
  refine (Gen.dats m 0 c).arrAt_eq_of_cover 12 (rows (mid (A0 m c) (A1 m c) (A2 m c) (A3 m c) (A4 m c) (A5 m c) (A6 m c) (A7 m c) (A8 m c)) : S8192x1024.Idx → EReal) (fun t _ => ?_) (fun i => ?_)
  · obtain ⟨e0, e1⟩ := index12_at t
    rw [Value.flushed12_A, out_A12]
    funext y
    have h0 : (y 0).val < 512 := (y 0).isLt
    have h1 : (y 1).val < 1024 := (y 1).isLt
    show (k0_pay2 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) (iblk m c 6 t) (iblk m c 10 t) : S512x1024.Idx → EReal) y = rows (mid (A0 m c) (A1 m c) (A2 m c) (A3 m c) (A4 m c) (A5 m c) (A6 m c) (A7 m c) (A8 m c)) (((cfg0.win 12).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay2 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) (iblk m c 6 t) (iblk m c 10 t) : S512x1024.Idx → EReal) ey).trans ?_
    refine (tile12 m c t _ _).trans ?_
    have er : (((cfg0.win 12).blk t).view.emb y 0 : Fin 8192).val = 512 * t.val + (y 0).val := by show win0_12.index t (0 : Fin 2) * 512 + 1 * (y 0).val = _; omega
    have en : (((cfg0.win 12).blk t).view.emb y 1 : Fin 1024) = ⟨(y 1).val, h1⟩ := Fin.ext (by show win0_12.index t (1 : Fin 2) * 1024 + 1 * (y 1).val = (y 1).val; omega)
    exact congrArg₂ (mid (A0 m c) (A1 m c) (A2 m c) (A3 m c) (A4 m c) (A5 m c) (A6 m c) (A7 m c) (A8 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index12_at t
    refine ⟨t, flush0_12 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_12.index t (0 : Fin 2) * 512 + 1 * ((i 0).val % 512) = (i 0).val; omega
    | ⟨1, _⟩ => show win0_12.index t (1 : Fin 2) * 1024 + 1 * (i 1).val = (i 1).val; omega
theorem arr13 : (Gen.dats m 0 c).arrAt 13 cfg0.N = (rows (merged (A0 m c) (A1 m c) (A2 m c) (A3 m c) (A5 m c) (A6 m c) (A7 m c)) : S8192x1024.Idx → EReal) := by
  refine (Gen.dats m 0 c).arrAt_eq_of_cover 13 (rows (merged (A0 m c) (A1 m c) (A2 m c) (A3 m c) (A5 m c) (A6 m c) (A7 m c)) : S8192x1024.Idx → EReal) (fun t _ => ?_) (fun i => ?_)
  · obtain ⟨e0, e1⟩ := index13_at t
    rw [Value.flushed13_A, out_A13]
    funext y
    have h0 : (y 0).val < 512 := (y 0).isLt
    have h1 : (y 1).val < 1024 := (y 1).isLt
    show (k0_pay1 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) : S512x1024.Idx → EReal) y = rows (merged (A0 m c) (A1 m c) (A2 m c) (A3 m c) (A5 m c) (A6 m c) (A7 m c)) (((cfg0.win 13).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay1 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) : S512x1024.Idx → EReal) ey).trans ?_
    refine (tile13 m c t _ _).trans ?_
    have er : (((cfg0.win 13).blk t).view.emb y 0 : Fin 8192).val = 512 * t.val + (y 0).val := by show win0_13.index t (0 : Fin 2) * 512 + 1 * (y 0).val = _; omega
    have en : (((cfg0.win 13).blk t).view.emb y 1 : Fin 1024) = ⟨(y 1).val, h1⟩ := Fin.ext (by show win0_13.index t (1 : Fin 2) * 1024 + 1 * (y 1).val = (y 1).val; omega)
    exact congrArg₂ (merged (A0 m c) (A1 m c) (A2 m c) (A3 m c) (A5 m c) (A6 m c) (A7 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index13_at t
    refine ⟨t, flush0_13 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_13.index t (0 : Fin 2) * 512 + 1 * ((i 0).val % 512) = (i 0).val; omega
    | ⟨1, _⟩ => show win0_13.index t (1 : Fin 2) * 1024 + 1 * (i 1).val = (i 1).val; omega
theorem arr14 : (Gen.dats m 0 c).arrAt 14 cfg0.N = (rows (up (A0 m c) (A5 m c)) : S8192x1024.Idx → EReal) := by
  refine (Gen.dats m 0 c).arrAt_eq_of_cover 14 (rows (up (A0 m c) (A5 m c)) : S8192x1024.Idx → EReal) (fun t _ => ?_) (fun i => ?_)
  · obtain ⟨e0, e1⟩ := index14_at t
    rw [Value.flushed14_A, out_A14]
    funext y
    have h0 : (y 0).val < 512 := (y 0).isLt
    have h1 : (y 1).val < 1024 := (y 1).isLt
    show (k0_pay5 (F := Ideal) (iblk m c 0 t) (iblk m c 7 t) : S512x1024.Idx → EReal) y = rows (up (A0 m c) (A5 m c)) (((cfg0.win 14).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay5 (F := Ideal) (iblk m c 0 t) (iblk m c 7 t) : S512x1024.Idx → EReal) ey).trans ?_
    refine (tile14 m c t _ _).trans ?_
    have er : (((cfg0.win 14).blk t).view.emb y 0 : Fin 8192).val = 512 * t.val + (y 0).val := by show win0_14.index t (0 : Fin 2) * 512 + 1 * (y 0).val = _; omega
    have en : (((cfg0.win 14).blk t).view.emb y 1 : Fin 1024) = ⟨(y 1).val, h1⟩ := Fin.ext (by show win0_14.index t (1 : Fin 2) * 1024 + 1 * (y 1).val = (y 1).val; omega)
    exact congrArg₂ (up (A0 m c) (A5 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index14_at t
    refine ⟨t, flush0_14 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_14.index t (0 : Fin 2) * 512 + 1 * ((i 0).val % 512) = (i 0).val; omega
    | ⟨1, _⟩ => show win0_14.index t (1 : Fin 2) * 1024 + 1 * (i 1).val = (i 1).val; omega
theorem arr15 : (Gen.dats m 0 c).arrAt 15 cfg0.N = (rows (up (A1 m c) (A6 m c)) : S8192x1024.Idx → EReal) := by
  refine (Gen.dats m 0 c).arrAt_eq_of_cover 15 (rows (up (A1 m c) (A6 m c)) : S8192x1024.Idx → EReal) (fun t _ => ?_) (fun i => ?_)
  · obtain ⟨e0, e1⟩ := index15_at t
    rw [Value.flushed15_A, out_A15]
    funext y
    have h0 : (y 0).val < 512 := (y 0).isLt
    have h1 : (y 1).val < 1024 := (y 1).isLt
    show (k0_pay7 (F := Ideal) (iblk m c 1 t) (iblk m c 8 t) : S512x1024.Idx → EReal) y = rows (up (A1 m c) (A6 m c)) (((cfg0.win 15).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay7 (F := Ideal) (iblk m c 1 t) (iblk m c 8 t) : S512x1024.Idx → EReal) ey).trans ?_
    refine (tile15 m c t _ _).trans ?_
    have er : (((cfg0.win 15).blk t).view.emb y 0 : Fin 8192).val = 512 * t.val + (y 0).val := by show win0_15.index t (0 : Fin 2) * 512 + 1 * (y 0).val = _; omega
    have en : (((cfg0.win 15).blk t).view.emb y 1 : Fin 1024) = ⟨(y 1).val, h1⟩ := Fin.ext (by show win0_15.index t (1 : Fin 2) * 1024 + 1 * (y 1).val = (y 1).val; omega)
    exact congrArg₂ (up (A1 m c) (A6 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index15_at t
    refine ⟨t, flush0_15 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_15.index t (0 : Fin 2) * 512 + 1 * ((i 0).val % 512) = (i 0).val; omega
    | ⟨1, _⟩ => show win0_15.index t (1 : Fin 2) * 1024 + 1 * (i 1).val = (i 1).val; omega
theorem arr16 : (Gen.dats m 0 c).arrAt 16 cfg0.N = (rows (up (A2 m c) (A7 m c)) : S8192x1024.Idx → EReal) := by
  refine (Gen.dats m 0 c).arrAt_eq_of_cover 16 (rows (up (A2 m c) (A7 m c)) : S8192x1024.Idx → EReal) (fun t _ => ?_) (fun i => ?_)
  · obtain ⟨e0, e1⟩ := index16_at t
    rw [Value.flushed16_A, out_A16]
    funext y
    have h0 : (y 0).val < 512 := (y 0).isLt
    have h1 : (y 1).val < 1024 := (y 1).isLt
    show (k0_pay10 (F := Ideal) (iblk m c 2 t) (iblk m c 9 t) : S512x1024.Idx → EReal) y = rows (up (A2 m c) (A7 m c)) (((cfg0.win 16).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay10 (F := Ideal) (iblk m c 2 t) (iblk m c 9 t) : S512x1024.Idx → EReal) ey).trans ?_
    refine (tile16 m c t _ _).trans ?_
    have er : (((cfg0.win 16).blk t).view.emb y 0 : Fin 8192).val = 512 * t.val + (y 0).val := by show win0_16.index t (0 : Fin 2) * 512 + 1 * (y 0).val = _; omega
    have en : (((cfg0.win 16).blk t).view.emb y 1 : Fin 1024) = ⟨(y 1).val, h1⟩ := Fin.ext (by show win0_16.index t (1 : Fin 2) * 1024 + 1 * (y 1).val = (y 1).val; omega)
    exact congrArg₂ (up (A2 m c) (A7 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index16_at t
    refine ⟨t, flush0_16 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_16.index t (0 : Fin 2) * 512 + 1 * ((i 0).val % 512) = (i 0).val; omega
    | ⟨1, _⟩ => show win0_16.index t (1 : Fin 2) * 1024 + 1 * (i 1).val = (i 1).val; omega
theorem arr17 : (Gen.dats m 0 c).arrAt 17 cfg0.N = (rows (h2 (A0 m c) (A1 m c) (A2 m c) (A3 m c) (A4 m c) (A5 m c) (A6 m c) (A7 m c) (A8 m c) (A9 m c)) : S8192x1024.Idx → EReal) := by
  refine (Gen.dats m 0 c).arrAt_eq_of_cover 17 (rows (h2 (A0 m c) (A1 m c) (A2 m c) (A3 m c) (A4 m c) (A5 m c) (A6 m c) (A7 m c) (A8 m c) (A9 m c)) : S8192x1024.Idx → EReal) (fun t _ => ?_) (fun i => ?_)
  · obtain ⟨e0, e1⟩ := index17_at t
    rw [Value.flushed17_A, out_A17]
    funext y
    have h0 : (y 0).val < 512 := (y 0).isLt
    have h1 : (y 1).val < 1024 := (y 1).isLt
    show (k0_pay3 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) (iblk m c 6 t) (iblk m c 10 t) (iblk m c 11 t) : S512x1024.Idx → EReal) y = rows (h2 (A0 m c) (A1 m c) (A2 m c) (A3 m c) (A4 m c) (A5 m c) (A6 m c) (A7 m c) (A8 m c) (A9 m c)) (((cfg0.win 17).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay3 (F := Ideal) (k0_pay8 (F := Ideal) (iblk m c 0 t) (iblk m c 7 t) (X0_3 m c t) (iblk m c 1 t) (iblk m c 8 t) (X0_4 m c t)) (k0_pay9 (F := Ideal) (iblk m c 2 t) (iblk m c 9 t)) (X0_5 m c t) (iblk m c 6 t) (iblk m c 10 t) (iblk m c 11 t) : S512x1024.Idx → EReal) ey).trans ?_
    refine (tile17 m c t _ _).trans ?_
    have er : (((cfg0.win 17).blk t).view.emb y 0 : Fin 8192).val = 512 * t.val + (y 0).val := by show win0_17.index t (0 : Fin 2) * 512 + 1 * (y 0).val = _; omega
    have en : (((cfg0.win 17).blk t).view.emb y 1 : Fin 1024) = ⟨(y 1).val, h1⟩ := Fin.ext (by show win0_17.index t (1 : Fin 2) * 1024 + 1 * (y 1).val = (y 1).val; omega)
    exact congrArg₂ (h2 (A0 m c) (A1 m c) (A2 m c) (A3 m c) (A4 m c) (A5 m c) (A6 m c) (A7 m c) (A8 m c) (A9 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index17_at t
    refine ⟨t, flush0_17 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_17.index t (0 : Fin 2) * 512 + 1 * ((i 0).val % 512) = (i 0).val; omega
    | ⟨1, _⟩ => show win0_17.index t (1 : Fin 2) * 1024 + 1 * (i 1).val = (i 1).val; omega

end

/-! ### The reference, at the token that row `n` is -/

open Cert.ReferenceMergeFIdeal Cert.ReferenceMergeFIdeal.Read

/-- The batch and the token of a row. -/
def bat (n : ℕ) : Fin 4 := ⟨n / 2048 % 4, Nat.mod_lt _ (by norm_num)⟩
def tok (n : ℕ) : Fin 2048 := ⟨n % 2048, Nat.mod_lt _ (by norm_num)⟩

theorem ref_u0 (x0 : Br.Idx → EReal) (x5 : S512x1024.Idx → EReal) (n : ℕ) (j : Fin 1024) : val_main_v0 (F := Ideal) x0 x5 (ix3 (bat n) (tok n) j) = up x0 x5 n j := by
  unfold val_main_v0
  pointwise
  rfl
theorem ref_u1 (x1 : Br.Idx → EReal) (x6 : S512x1024.Idx → EReal) (n : ℕ) (j : Fin 1024) : val_main_v1 (F := Ideal) x1 x6 (ix3 (bat n) (tok n) j) = up x1 x6 n j := by
  unfold val_main_v1
  pointwise
  rfl
theorem ref_u2 (x2 : Br.Idx → EReal) (x7 : S512x1024.Idx → EReal) (n : ℕ) (j : Fin 1024) : val_main_v2 (F := Ideal) x2 x7 (ix3 (bat n) (tok n) j) = up x2 x7 n j := by
  unfold val_main_v2
  pointwise
  rfl
theorem ref_merged (x0 x1 x2 : Br.Idx → EReal) (x3 : Gt.Idx → EReal) (x4 : Md.Idx → EReal) (x5 x6 x7 : S512x1024.Idx → EReal) (x8 : S1024x1024.Idx → EReal) (x9 : S1x1024.Idx → EReal) (n : ℕ) (j : Fin 1024) : val_main_v20 (F := Ideal) x0 x1 x2 x3 x5 x6 x7 (ix3 (bat n) (tok n) j) = merged x0 x1 x2 x3 x5 x6 x7 n j := by
  unfold val_main_v20 val_main_v19 val_main_v18 val_main_v17 val_main_v16 val_main_v15 val_main_v14 val_main_v13 val_main_v12 val_main_v11 val_main_v10 val_main_v9 val_main_v8 val_main_v7 val_main_cst_0 val_main_v6 val_main_v5 val_main_cst val_main_v4 val_main_v3
  pointwise
  rw [ref_u0, ref_u1, ref_u2]
  rfl
theorem ref_mid (x0 x1 x2 : Br.Idx → EReal) (x3 : Gt.Idx → EReal) (x4 : Md.Idx → EReal) (x5 x6 x7 : S512x1024.Idx → EReal) (x8 : S1024x1024.Idx → EReal) (x9 : S1x1024.Idx → EReal) (n : ℕ) (j : Fin 1024) : val_main_v22 (F := Ideal) x0 x1 x2 x3 x4 x5 x6 x7 x8 (ix3 (bat n) (tok n) j) = mid x0 x1 x2 x3 x4 x5 x6 x7 x8 n j := by
  unfold val_main_v22 val_main_v21
  pointwise
  simp only [ref_merged x0 x1 x2 x3 x4 x5 x6 x7 x8 x9]
  rfl
theorem ref_h2 (x0 x1 x2 : Br.Idx → EReal) (x3 : Gt.Idx → EReal) (x4 : Md.Idx → EReal) (x5 x6 x7 : S512x1024.Idx → EReal) (x8 : S1024x1024.Idx → EReal) (x9 : S1x1024.Idx → EReal) (n : ℕ) (j : Fin 1024) : val_main_v36 (F := Ideal) x0 x1 x2 x3 x4 x5 x6 x7 x8 x9 (ix3 (bat n) (tok n) j) = h2 x0 x1 x2 x3 x4 x5 x6 x7 x8 x9 n j := by
  unfold val_main_v36 val_main_v35 val_main_v34 val_main_v33 val_main_v32 val_main_v31 val_main_v30 val_main_v29 val_main_cst_3 val_main_v28 val_main_v27 val_main_cst_2 val_main_v26 val_main_v25 val_main_cst_1 val_main_v24 val_main_v23
  pointwise
  simp only [ref_mid x0 x1 x2 x3 x4 x5 x6 x7 x8 x9]
  rfl

/-- The reference's six arrays. -/
theorem ref12 (x0 x1 x2 : Br.Idx → EReal) (x3 : Gt.Idx → EReal) (x4 : Md.Idx → EReal) (x5 x6 x7 : S512x1024.Idx → EReal) (x8 : S1024x1024.Idx → EReal) (x9 : S1x1024.Idx → EReal) : val_main_v37 (F := Ideal) x0 x1 x2 x3 x4 x5 x6 x7 x8 = rows (mid x0 x1 x2 x3 x4 x5 x6 x7 x8) := by
  funext i
  have e : val_main_v37 (F := Ideal) x0 x1 x2 x3 x4 x5 x6 x7 x8 i = flat (val_main_v22 (F := Ideal) x0 x1 x2 x3 x4 x5 x6 x7 x8) (i 0).val (i 1) := by
    unfold val_main_v37
    exact flat_shapeCast _ _ i
  rw [e]
  exact ref_mid x0 x1 x2 x3 x4 x5 x6 x7 x8 x9 _ _
theorem ref13 (x0 x1 x2 : Br.Idx → EReal) (x3 : Gt.Idx → EReal) (x4 : Md.Idx → EReal) (x5 x6 x7 : S512x1024.Idx → EReal) (x8 : S1024x1024.Idx → EReal) (x9 : S1x1024.Idx → EReal) : val_main_v39 (F := Ideal) x0 x1 x2 x3 x5 x6 x7 = rows (merged x0 x1 x2 x3 x5 x6 x7) := by
  funext i
  have e : val_main_v39 (F := Ideal) x0 x1 x2 x3 x5 x6 x7 i = flat (val_main_v20 (F := Ideal) x0 x1 x2 x3 x5 x6 x7) (i 0).val (i 1) := by
    refine (val_main_v39_apply (F := Ideal) x0 x1 x2 x3 x5 x6 x7 i).trans ?_
    show val_main_v38 (F := Ideal) x0 x1 x2 x3 x5 x6 x7 i = _
    unfold val_main_v38
    exact flat_shapeCast _ _ i
  rw [e]
  exact ref_merged x0 x1 x2 x3 x4 x5 x6 x7 x8 x9 _ _
theorem ref14 (x0 x1 x2 : Br.Idx → EReal) (x3 : Gt.Idx → EReal) (x4 : Md.Idx → EReal) (x5 x6 x7 : S512x1024.Idx → EReal) (x8 : S1024x1024.Idx → EReal) (x9 : S1x1024.Idx → EReal) : val_main_v41 (F := Ideal) x0 x5 = rows (up x0 x5) := by
  funext i
  have e : val_main_v41 (F := Ideal) x0 x5 i = flat (val_main_v0 (F := Ideal) x0 x5) (i 0).val (i 1) := by
    refine (val_main_v41_apply (F := Ideal) x0 x5 i).trans ?_
    show val_main_v40 (F := Ideal) x0 x5 i = _
    unfold val_main_v40
    exact flat_shapeCast _ _ i
  rw [e]
  exact ref_u0 x0 x5 _ _
theorem ref15 (x0 x1 x2 : Br.Idx → EReal) (x3 : Gt.Idx → EReal) (x4 : Md.Idx → EReal) (x5 x6 x7 : S512x1024.Idx → EReal) (x8 : S1024x1024.Idx → EReal) (x9 : S1x1024.Idx → EReal) : val_main_v43 (F := Ideal) x1 x6 = rows (up x1 x6) := by
  funext i
  have e : val_main_v43 (F := Ideal) x1 x6 i = flat (val_main_v1 (F := Ideal) x1 x6) (i 0).val (i 1) := by
    refine (val_main_v43_apply (F := Ideal) x1 x6 i).trans ?_
    show val_main_v42 (F := Ideal) x1 x6 i = _
    unfold val_main_v42
    exact flat_shapeCast _ _ i
  rw [e]
  exact ref_u1 x1 x6 _ _
theorem ref16 (x0 x1 x2 : Br.Idx → EReal) (x3 : Gt.Idx → EReal) (x4 : Md.Idx → EReal) (x5 x6 x7 : S512x1024.Idx → EReal) (x8 : S1024x1024.Idx → EReal) (x9 : S1x1024.Idx → EReal) : val_main_v45 (F := Ideal) x2 x7 = rows (up x2 x7) := by
  funext i
  have e : val_main_v45 (F := Ideal) x2 x7 i = flat (val_main_v2 (F := Ideal) x2 x7) (i 0).val (i 1) := by
    refine (val_main_v45_apply (F := Ideal) x2 x7 i).trans ?_
    show val_main_v44 (F := Ideal) x2 x7 i = _
    unfold val_main_v44
    exact flat_shapeCast _ _ i
  rw [e]
  exact ref_u2 x2 x7 _ _
theorem ref17 (x0 x1 x2 : Br.Idx → EReal) (x3 : Gt.Idx → EReal) (x4 : Md.Idx → EReal) (x5 x6 x7 : S512x1024.Idx → EReal) (x8 : S1024x1024.Idx → EReal) (x9 : S1x1024.Idx → EReal) : val_main_v47 (F := Ideal) x0 x1 x2 x3 x4 x5 x6 x7 x8 x9 = rows (h2 x0 x1 x2 x3 x4 x5 x6 x7 x8 x9) := by
  funext i
  have e : val_main_v47 (F := Ideal) x0 x1 x2 x3 x4 x5 x6 x7 x8 x9 i = flat (val_main_v36 (F := Ideal) x0 x1 x2 x3 x4 x5 x6 x7 x8 x9) (i 0).val (i 1) := by
    refine (val_main_v47_apply (F := Ideal) x0 x1 x2 x3 x4 x5 x6 x7 x8 x9 i).trans ?_
    show val_main_v46 (F := Ideal) x0 x1 x2 x3 x4 x5 x6 x7 x8 x9 i = _
    unfold val_main_v46
    exact flat_shapeCast _ _ i
  rw [e]
  exact ref_h2 x0 x1 x2 x3 x4 x5 x6 x7 x8 x9 _ _

end Cert.KernelMergeFIdeal.MergeF
-- ==== Proof.Loss.lean ====
/- The gradient at the model's output: what the kernel that ends the feed-forward block leaves, and that the derivative of the mean squared error is the same array. -/
module

public import proofs.«01_k».proof.Proof.Gen.KernelLossIdeal.Frame
public import Idealize.ShloMosaic.Lib.Pipeline.Value
public import proofs.«01_k».proof.Proof.Gen.ReferenceLossIdeal.Run
public import proofs.«01_k».proof.Proof.Gen.ReferenceLossIdeal.Read
public import proofs.«01_k».proof.Proof.Sums
public import proofs.«01_k».proof.Proof.RowsEq
public import Idealize.ShloMosaic.Lib.Pointwise
public import Idealize.ShloMosaic.Lib.Claim
public import Idealize.ShloMosaic.Lib.Pipeline.ReadBack

@[expose] public section

noncomputable section

namespace Cert.KernelLossIdeal.Loss

open Idealize.ShloMosaic Idealize.ShloMosaic.TcCoe Idealize.SL.Sem Cert.KernelLossIdeal Cert.KernelLossIdeal.Gen Cert.Sums

abbrev Ff : Shape := ⟨3, ![4, 2048, 2816]⟩
abbrev Md : Shape := ⟨3, ![4, 2048, 1024]⟩

/-- The output minus the target at row `n`. -/
def err (y : Ff.Idx → EReal) (w : S2816x1024.Idx → EReal) (x tg : Md.Idx → EReal) (n : ℕ) (j : Fin 1024) : EReal :=
  flat x n j + (∑ k : Fin 2816, flat y n k * w (ix2 k j)) - flat tg n j

/-- The gradient: the error over the width. -/
def val (y : Ff.Idx → EReal) (w : S2816x1024.Idx → EReal) (x tg : Md.Idx → EReal) (n : ℕ) (j : Fin 1024) : EReal :=
  err y w x tg n j * Ideal.ofBits .f32 0x3A800000#32

def grad (y : Ff.Idx → EReal) (w : S2816x1024.Idx → EReal) (x tg : Md.Idx → EReal) (i : S8192x1024.Idx) : EReal :=
  val y w x tg (i 0).val (i 1)

/-- An entry's share of the loss, the sums over every eighth token, and the whole sum. -/
def term (y : Ff.Idx → EReal) (w : S2816x1024.Idx → EReal) (x tg : Md.Idx → EReal) (n : ℕ) (j : Fin 1024) : EReal := err y w x tg n j * err y w x tg n j * Ideal.ofBits .f32 0x3A000000#32
def parts (y : Ff.Idx → EReal) (w : S2816x1024.Idx → EReal) (x tg : Md.Idx → EReal) (i : S8x1024.Idx) : EReal := ∑ u ∈ Finset.range 1024, term y w x tg (8 * u + (i 0).val) (i 1)
def total (y : Ff.Idx → EReal) (w : S2816x1024.Idx → EReal) (x tg : Md.Idx → EReal) (_ : S_.Idx) : EReal := ∑ n ∈ Finset.range (1024 * 8), ∑ j : Fin 1024, term y w x tg n j

/-! ### The kernel's body -/

/-- A tile's error. -/
theorem pay1_at (x : Vec Ideal S512x1024 .f32) (y : Vec Ideal S512x2816 .bf16) (w : Vec Ideal S2816x1024 .bf16) (tg : Vec Ideal S512x1024 .f32) (r : Fin 512) (j : Fin 1024) :
    k0_pay1 (F := Ideal) x y w tg (ix2 r j) = x (ix2 r j) + (∑ k : Fin 2816, y (ix2 r k) * w (ix2 k j)) - tg (ix2 r j) := by
  unfold k0_pay1
  pointwise

/-- A tile's gradient. -/
theorem pay2_at (x : Vec Ideal S512x1024 .f32) (y : Vec Ideal S512x2816 .bf16) (w : Vec Ideal S2816x1024 .bf16) (tg : Vec Ideal S512x1024 .f32) (r : Fin 512) (j : Fin 1024) :
    k0_pay2 (F := Ideal) x y w tg (ix2 r j) = k0_pay1 (F := Ideal) x y w tg (ix2 r j) * Ideal.ofBits .f32 0x3A800000#32 := by
  unfold k0_pay2
  pointwise

/-- The body reads whole blocks. -/
theorem ld_512x1024 {e : EltTy} (x : Vec Ideal S512x1024 e) : View.ld x (Rect.unit ![0, 0] ![512, 1024] inb_S512x1024_S512x1024_0_0) = x :=
  View.ld_unit_zero (by funext a; fin_cases a <;> rfl) inb_S512x1024_S512x1024_0_0 x
theorem ld_512x2816 {e : EltTy} (x : Vec Ideal S512x2816 e) : View.ld x (Rect.unit ![0, 0] ![512, 2816] inb_S512x2816_S512x2816_0_0) = x :=
  View.ld_unit_zero (by funext a; fin_cases a <;> rfl) inb_S512x2816_S512x2816_0_0 x
theorem ld_2816x1024 {e : EltTy} (x : Vec Ideal S2816x1024 e) : View.ld x (Rect.unit ![0, 0] ![2816, 1024] inb_S2816x1024_S2816x1024_0_0) = x :=
  View.ld_unit_zero (by funext a; fin_cases a <;> rfl) inb_S2816x1024_S2816x1024_0_0 x

/-- What a point leaves in the gradient's block, the first point and every other one. -/
theorem out_A4 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : cond0_0 i)
    (x0 : Vec Ideal S512x2816 .bf16) (x1 : Vec Ideal S2816x1024 .bf16) (x2 : Vec Ideal S512x1024 .f32) (x3 : Vec Ideal S512x1024 .f32) :
    out0_A_4 c i arg1 harg1 arg2 harg2 arg3 harg3 arg4 harg4 arg5 harg5 arg6 harg6 hc0 x0 x1 x2 x3 = k0_pay2 x2 x0 x1 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp (disch := first | decide | (intro a; fin_cases a <;> rfl)) only [View.readAt_eq_ld, harg1.read_unread, harg2.read_unread, harg3.read_unread, harg4.read_unread, ld_512x1024, ld_512x2816, ld_2816x1024]
  exact View.canon_unit_zero (by funext a; fin_cases a <;> rfl) inb_S512x1024_S512x1024_0_0 _
theorem out_B4 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : ¬cond0_0 i)
    (x0 : Vec Ideal S512x2816 .bf16) (x1 : Vec Ideal S2816x1024 .bf16) (x2 : Vec Ideal S512x1024 .f32) (x3 : Vec Ideal S512x1024 .f32) (xo5 : Vec Ideal S8x1024 .f32) :
    out0_B_4 c i arg1 harg1 arg2 harg2 arg3 harg3 arg4 harg4 arg5 harg5 arg6 harg6 hc0 x0 x1 x2 x3 xo5 = k0_pay2 x2 x0 x1 x3 := by
  unfold out0_B_4
  rw [View.read_writes_eq_canon _ _ _ (cover0_B_4 c i arg1 harg1 arg2 harg2 arg3 harg3 arg4 harg4 arg5 harg5 arg6 harg6 hc0 x0 x1 x2 x3 xo5)]
  unfold kernelRun0_B
  dsimp only
  sl_unfold_words
  simp (disch := first | decide | (intro a; fin_cases a <;> rfl)) only [View.readAt_eq_ld, harg1.read_unread, harg2.read_unread, harg3.read_unread, harg4.read_unread, ld_512x1024, ld_512x2816, ld_2816x1024]
  exact View.canon_unit_zero (by funext a; fin_cases a <;> rfl) inb_S512x1024_S512x1024_0_0 _

/-- The factor of a square in the loss. -/
theorem factor : Ideal.ofBits .f32 0x3A000000#32 = ((1/2048 : ℝ) : EReal) := by simp [Ideal.ofBits, Ideal.ieee, -EReal.coe_mul]; norm_num

/-- A tile's sums are added to what the block holds. -/
theorem pay4_at (x : Vec Ideal S512x1024 .f32) (y : Vec Ideal S512x2816 .bf16) (w : Vec Ideal S2816x1024 .bf16) (tg : Vec Ideal S512x1024 .f32) (o : Vec Ideal S8x1024 .f32) (s : Fin 8) (j : Fin 1024) :
    k0_pay4 (F := Ideal) x y w tg o (ix2 s j) = o (ix2 s j) + ∑ q : Fin 64, k0_pay1 (F := Ideal) x y w tg (ix2 ⟨8 * q.val + s.val, by omega⟩ j) * k0_pay1 (F := Ideal) x y w tg (ix2 ⟨8 * q.val + s.val, by omega⟩ j) * Ideal.ofBits .f32 0x3A000000#32 := by
  have e : ∀ q : Fin 64, shapeCast S64x8x1024 (mulf (F := Ideal) (k0_pay1 (F := Ideal) x y w tg) (k0_pay1 (F := Ideal) x y w tg)) shapeCasts_S512x1024_S64x8x1024 (ix3 q s j) = k0_pay1 (F := Ideal) x y w tg (ix2 ⟨8 * q.val + s.val, by omega⟩ j) * k0_pay1 (F := Ideal) x y w tg (ix2 ⟨8 * q.val + s.val, by omega⟩ j) := fun q =>
    groups _ _ q s j (by omega)
  unfold k0_pay4
  generalize hz : shapeCast S64x8x1024 (mulf (F := Ideal) (k0_pay1 (F := Ideal) x y w tg) (k0_pay1 (F := Ideal) x y w tg)) shapeCasts_S512x1024_S64x8x1024 = z at e ⊢
  pointwise
  rw [factor, Cert.Rows.sum_mul_real _ (by norm_num)]
  exact congrArg (_ + ·) (Finset.sum_congr rfl fun q _ => congrArg (· * _) (e q))

/-- The block starts from zero. -/
theorem pay3_at (i : S8x1024.Idx) : k0_pay3 (F := Ideal) i = 0 := Ideal.ofBits_zero .f32

theorem ld_8x1024 {e : EltTy} (x : Vec Ideal S8x1024 e) : View.ld x (Rect.unit ![0, 0] ![8, 1024] inb_S8x1024_S8x1024_0_0) = x :=
  View.ld_unit_zero (by funext a; fin_cases a <;> rfl) inb_S8x1024_S8x1024_0_0 x

/-- What a point leaves in the block of the loss. -/
theorem out_A5 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : cond0_0 i)
    (x0 : Vec Ideal S512x2816 .bf16) (x1 : Vec Ideal S2816x1024 .bf16) (x2 : Vec Ideal S512x1024 .f32) (x3 : Vec Ideal S512x1024 .f32) :
    out0_A_5 c i arg1 harg1 arg2 harg2 arg3 harg3 arg4 harg4 arg5 harg5 arg6 harg6 hc0 x0 x1 x2 x3 = k0_pay4 (F := Ideal) x2 x0 x1 x3 (k0_pay3 (F := Ideal)) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  simp (disch := first | decide | (intro a; fin_cases a <;> rfl)) only [View.readAt_eq_ld, ↓View.readCov_skip, ↓View.readCov_fill, View.readCov_cons_toLoadRect, harg6.read_unread, harg1.read_unread, harg2.read_unread, harg3.read_unread, harg4.read_unread, ld_512x1024, ld_512x2816, ld_2816x1024, ld_8x1024]
  exact View.canon_cons_unit_zero (by funext a; fin_cases a <;> rfl) inb_S8x1024_S8x1024_0_0 _ _
theorem out_B5 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : ¬cond0_0 i)
    (x0 : Vec Ideal S512x2816 .bf16) (x1 : Vec Ideal S2816x1024 .bf16) (x2 : Vec Ideal S512x1024 .f32) (x3 : Vec Ideal S512x1024 .f32) (xo5 : Vec Ideal S8x1024 .f32) :
    out0_B_5 c i arg1 harg1 arg2 harg2 arg3 harg3 arg4 harg4 arg5 harg5 arg6 harg6 hc0 x0 x1 x2 x3 xo5 = k0_pay4 (F := Ideal) x2 x0 x1 x3 xo5 := by
  unfold out0_B_5
  rw [View.read_writes_eq_canon _ _ _ (cover0_B_5 c i arg1 harg1 arg2 harg2 arg3 harg3 arg4 harg4 arg5 harg5 arg6 harg6 hc0 x0 x1 x2 x3 xo5)]
  unfold kernelRun0_B
  dsimp only
  sl_unfold_words
  simp (disch := first | decide | (intro a; fin_cases a <;> rfl)) only [View.readAt_eq_ld, ↓View.readCov_skip, ↓View.readCov_fill, View.readCov_cons_toLoadRect, harg6.read_unread, harg1.read_unread, harg2.read_unread, harg3.read_unread, harg4.read_unread, ld_512x1024, ld_512x2816, ld_2816x1024, ld_8x1024]
  exact View.canon_cons_unit_zero (by funext a; fin_cases a <;> rfl) inb_S8x1024_S8x1024_0_0 _ _

/-- The eight rows together are the loss. -/
theorem total_eq (y : Ff.Idx → EReal) (w : S2816x1024.Idx → EReal) (x tg : Md.Idx → EReal) :
    Host.reduceAdd (F := Ideal) (φ := .f32) (parts y w x tg) (constant (F := Ideal) S_ .f32 0x00000000#32) reducesTo_S8x1024_S_d0_1 h_S_ = total y w x tg := by
  funext i
  unfold total
  rw [← fold8 (fun n => ∑ j : Fin 1024, term y w x tg n j) 1024]
  generalize hp : parts y w x tg = p
  pointwise
  subst hp
  refine Finset.sum_congr rfl fun s _ => ?_
  rw [Finset.sum_comm]
  rfl

/-! ### The blocks -/

section
variable (m : (ℓ : Loc nD τ sig) → Buf (Elt Ideal) ℓ) (c : Dev nD)

/-- The four arguments on a device. -/
abbrev A0 : Ff.Idx → EReal := m ((c : Thread nD τ).loc main_arg0)
abbrev A1 : S2816x1024.Idx → EReal := m ((c : Thread nD τ).loc main_arg1)
abbrev A2 : Md.Idx → EReal := m ((c : Thread nD τ).loc main_arg2)
abbrev A3 : Md.Idx → EReal := m ((c : Thread nD τ).loc main_arg3)

/-- The arrays that the kernel is called on: the batches below one another. -/
theorem V_y (i : S8192x2816.Idx) : (V m c main_v1 : S8192x2816.Idx → EReal) i = flat (A0 m c) (i 0).val (i 1) := by
  have e : (V m c main_v1 : S8192x2816.Idx → EReal) = shapeCast S8192x2816 (A0 m c) shapeCasts_S4x2048x2816_S8192x2816 := by
    show StableHlo.after hostOps0 (fun b => m (c, b)) (Proc.devRef .tc main_v1) = _
    after_results
    rfl
  rw [e]
  exact flat_shapeCast _ _ i
theorem V_w : (V m c main_v2 : S2816x1024.Idx → EReal) = A1 m c := by
  show StableHlo.after hostOps0 (fun b => m (c, b)) (Proc.devRef .tc main_v2) = _
  after_results
  rfl
theorem V_x (i : S8192x1024.Idx) : (V m c main_v3 : S8192x1024.Idx → EReal) i = flat (A2 m c) (i 0).val (i 1) := by
  have e : (V m c main_v3 : S8192x1024.Idx → EReal) = shapeCast S8192x1024 (A2 m c) shapeCasts_S4x2048x1024_S8192x1024 := by
    show StableHlo.after hostOps0 (fun b => m (c, b)) (Proc.devRef .tc main_v3) = _
    after_results
    rfl
  rw [e]
  exact flat_shapeCast _ _ i
theorem V_t (i : S8192x1024.Idx) : (V m c main_v4 : S8192x1024.Idx → EReal) i = flat (A3 m c) (i 0).val (i 1) := by
  have e : (V m c main_v4 : S8192x1024.Idx → EReal) = shapeCast S8192x1024 (A3 m c) shapeCasts_S4x2048x1024_S8192x1024 := by
    show StableHlo.after hostOps0 (fun b => m (c, b)) (Proc.devRef .tc main_v4) = _
    after_results
    rfl
  rw [e]
  exact flat_shapeCast _ _ i

/-- The blocks of a grid point. -/
theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = 0 ∧ win0_1.index t (1 : Fin 2) = 0 :=
  (by decide +kernel : ∀ t : Fin grid0.N, _)
theorem index2_at : ∀ t : Fin cfg0.N, win0_2.index t (0 : Fin 2) = t.val ∧ win0_2.index t (1 : Fin 2) = 0 :=
  (by decide +kernel : ∀ t : Fin grid0.N, _)
theorem index3_at : ∀ t : Fin cfg0.N, win0_3.index t (0 : Fin 2) = t.val ∧ win0_3.index t (1 : Fin 2) = 0 :=
  (by decide +kernel : ∀ t : Fin grid0.N, _)
theorem index4_at : ∀ t : Fin cfg0.N, win0_4.index t (0 : Fin 2) = t.val ∧ win0_4.index t (1 : Fin 2) = 0 :=
  (by decide +kernel : ∀ t : Fin grid0.N, _)

/-- The rows and the weights that a point reads. -/
theorem y_in (t : Fin cfg0.N) (r : Fin 512) (j : Fin 2816) : (iblk m c 0 t : S512x2816.Idx → EReal) (ix2 r j) = flat (A0 m c) (512 * t.val + r.val) j := by
  obtain ⟨e0, e1⟩ := index0_at t
  refine Eq.trans ?_ (V_y m c (ix2 (⟨512 * t.val + r.val, by have : t.val < 16 := lt_of_lt_of_eq t.isLt N_0; omega⟩ : Fin 8192) (⟨j.val, by omega⟩ : Fin 2816)))
  unfold iblk
  show (V m c main_v1 : S8192x2816.Idx → EReal) _ = _
  congr 1
  funext a
  apply Fin.ext
  match a with
  | ⟨0, _⟩ => show win0_0.index t (0 : Fin 2) * 512 + 1 * r.val = 512 * t.val + r.val; omega
  | ⟨1, _⟩ => show win0_0.index t (1 : Fin 2) * 2816 + 1 * j.val = j.val; omega
theorem w_in (t : Fin cfg0.N) : (iblk m c 1 t : S2816x1024.Idx → EReal) = A1 m c := by
  obtain ⟨e0, e1⟩ := index1_at t
  funext y
  refine Eq.trans ?_ (congrFun (V_w m c) y)
  unfold iblk
  show (V m c main_v2 : S2816x1024.Idx → EReal) _ = _
  congr 1
  funext a
  apply Fin.ext
  match a with
  | ⟨0, _⟩ => show win0_1.index t (0 : Fin 2) * 2816 + 1 * (y 0).val = (y 0).val; omega
  | ⟨1, _⟩ => show win0_1.index t (1 : Fin 2) * 1024 + 1 * (y 1).val = (y 1).val; omega
theorem x_in (t : Fin cfg0.N) (r : Fin 512) (j : Fin 1024) : (iblk m c 2 t : S512x1024.Idx → EReal) (ix2 r j) = flat (A2 m c) (512 * t.val + r.val) j := by
  obtain ⟨e0, e1⟩ := index2_at t
  refine Eq.trans ?_ (V_x m c (ix2 (⟨512 * t.val + r.val, by have : t.val < 16 := lt_of_lt_of_eq t.isLt N_0; omega⟩ : Fin 8192) (⟨j.val, by omega⟩ : Fin 1024)))
  unfold iblk
  show (V m c main_v3 : S8192x1024.Idx → EReal) _ = _
  congr 1
  funext a
  apply Fin.ext
  match a with
  | ⟨0, _⟩ => show win0_2.index t (0 : Fin 2) * 512 + 1 * r.val = 512 * t.val + r.val; omega
  | ⟨1, _⟩ => show win0_2.index t (1 : Fin 2) * 1024 + 1 * j.val = j.val; omega
theorem t_in (t : Fin cfg0.N) (r : Fin 512) (j : Fin 1024) : (iblk m c 3 t : S512x1024.Idx → EReal) (ix2 r j) = flat (A3 m c) (512 * t.val + r.val) j := by
  obtain ⟨e0, e1⟩ := index3_at t
  refine Eq.trans ?_ (V_t m c (ix2 (⟨512 * t.val + r.val, by have : t.val < 16 := lt_of_lt_of_eq t.isLt N_0; omega⟩ : Fin 8192) (⟨j.val, by omega⟩ : Fin 1024)))
  unfold iblk
  show (V m c main_v4 : S8192x1024.Idx → EReal) _ = _
  congr 1
  funext a
  apply Fin.ext
  match a with
  | ⟨0, _⟩ => show win0_3.index t (0 : Fin 2) * 512 + 1 * r.val = 512 * t.val + r.val; omega
  | ⟨1, _⟩ => show win0_3.index t (1 : Fin 2) * 1024 + 1 * j.val = j.val; omega

/-- A point's error. -/
theorem tile_err (t : Fin cfg0.N) (r : Fin 512) (j : Fin 1024) : (k0_pay1 (F := Ideal) (iblk m c 2 t) (iblk m c 0 t) (iblk m c 1 t) (iblk m c 3 t) : S512x1024.Idx → EReal) (ix2 r j) = err (A0 m c) (A1 m c) (A2 m c) (A3 m c) (512 * t.val + r.val) j := by
  refine (pay1_at _ _ _ _ _ _).trans ?_
  exact congrArg₂ (· - ·) (congrArg₂ (· + ·) (x_in m c t r j) (Finset.sum_congr rfl fun k _ => congrArg₂ (· * ·) (y_in m c t r k) (congrFun (w_in m c t) _))) (t_in m c t r j)

/-- A point's tile. -/
theorem tile_eq (t : Fin cfg0.N) (r : Fin 512) (j : Fin 1024) : (k0_pay2 (F := Ideal) (iblk m c 2 t) (iblk m c 0 t) (iblk m c 1 t) (iblk m c 3 t) : S512x1024.Idx → EReal) (ix2 r j) = val (A0 m c) (A1 m c) (A2 m c) (A3 m c) (512 * t.val + r.val) j :=
  (pay2_at _ _ _ _ _ _).trans (congrArg (· * _) (tile_err m c t r j))

/-- The array that the kernel returns is the gradient. -/
theorem arr_eq : (Gen.dats m 0 c).arrAt 4 cfg0.N = (grad (A0 m c) (A1 m c) (A2 m c) (A3 m c) : S8192x1024.Idx → EReal) := by
  refine (Gen.dats m 0 c).arrAt_eq_of_cover 4 (grad (A0 m c) (A1 m c) (A2 m c) (A3 m c) : S8192x1024.Idx → EReal) (fun t _ => ?_) (fun i => ?_)
  · obtain ⟨e0, e1⟩ := index4_at t
    have ef : (Gen.dats m 0 c).flushed 4 t = (cfg0.win 4).cut (grid0.coords t) (k0_pay2 (F := Ideal) (iblk m c 2 t) (iblk m c 0 t) (iblk m c 1 t) (iblk m c 3 t)) := by
      by_cases h0 : t.val % 16 = 0
      · show (cfg0.win 4).cut _ ((Gen.dats m 0 c).after 4 t) = _
        rw [after0_4, outsAt0_A m c t h0, out_A4]
      · show (cfg0.win 4).cut _ ((Gen.dats m 0 c).after 4 t) = _
        rw [after0_4, outsAt0_B m c t h0, out_B4]
    rw [ef]
    funext y
    have h0 : (y 0).val < 512 := (y 0).isLt
    have h1 : (y 1).val < 1024 := (y 1).isLt
    show (k0_pay2 (F := Ideal) (iblk m c 2 t) (iblk m c 0 t) (iblk m c 1 t) (iblk m c 3 t) : S512x1024.Idx → EReal) y = grad (A0 m c) (A1 m c) (A2 m c) (A3 m c) (((cfg0.win 4).blk t).view.emb y)
    have ey : (y : S512x1024.Idx) = ix2 (⟨(y 0).val, h0⟩ : Fin 512) (⟨(y 1).val, h1⟩ : Fin 1024) := funext fun a => match a with
      | ⟨0, _⟩ => rfl
      | ⟨1, _⟩ => rfl
    refine (congrArg (k0_pay2 (F := Ideal) (iblk m c 2 t) (iblk m c 0 t) (iblk m c 1 t) (iblk m c 3 t) : S512x1024.Idx → EReal) ey).trans ?_
    refine (tile_eq m c t _ _).trans ?_
    have er : (((cfg0.win 4).blk t).view.emb y 0 : Fin 8192).val = 512 * t.val + (y 0).val := by show win0_4.index t (0 : Fin 2) * 512 + 1 * (y 0).val = _; omega
    have en : (((cfg0.win 4).blk t).view.emb y 1 : Fin 1024) = ⟨(y 1).val, h1⟩ := Fin.ext (by show win0_4.index t (1 : Fin 2) * 1024 + 1 * (y 1).val = (y 1).val; omega)
    exact congrArg₂ (val (A0 m c) (A1 m c) (A2 m c) (A3 m c)) er.symm en.symm
  · have h0 : (i 0).val < 8192 := (i 0).isLt
    have h1 : (i 1).val < 1024 := (i 1).isLt
    obtain ⟨t, ht⟩ : ∃ t : Fin cfg0.N, t.val = (i 0).val / 512 := ⟨⟨(i 0).val / 512, lt_of_lt_of_eq (by omega : _ < 16) N_0.symm⟩, rfl⟩
    obtain ⟨e0, e1⟩ := index4_at t
    refine ⟨t, flush0_4 t, Finset.mem_map.mpr ⟨ix2 (⟨(i 0).val % 512, Nat.mod_lt _ (by norm_num)⟩ : Fin 512) (⟨(i 1).val, h1⟩ : Fin 1024), Finset.mem_univ _, ?_⟩⟩
    funext a
    apply Fin.ext
    match a with
    | ⟨0, _⟩ => show win0_4.index t (0 : Fin 2) * 512 + 1 * ((i 0).val % 512) = (i 0).val; omega
    | ⟨1, _⟩ => show win0_4.index t (1 : Fin 2) * 1024 + 1 * (i 1).val = (i 1).val; omega

/-- A point's sums. -/
theorem tile5 (t : Fin cfg0.N) (o : Vec Ideal S8x1024 .f32) (s : Fin 8) (j : Fin 1024) :
    k0_pay4 (F := Ideal) (iblk m c 2 t) (iblk m c 0 t) (iblk m c 1 t) (iblk m c 3 t) o (ix2 s j) = o (ix2 s j) + ∑ q : Fin 64, term (A0 m c) (A1 m c) (A2 m c) (A3 m c) (8 * (64 * t.val + q.val) + s.val) j := by
  refine (pay4_at _ _ _ _ _ _ _).trans (congrArg (_ + ·) (Finset.sum_congr rfl fun q _ => ?_))
  rw [show 8 * (64 * t.val + q.val) + s.val = 512 * t.val + (8 * q.val + s.val) by omega]
  exact congrArg (fun a : EReal => a * a * Ideal.ofBits .f32 0x3A000000#32) (tile_err m c t ⟨8 * q.val + s.val, by omega⟩ j)

/-- The block of sums after the first point, and after every other one. -/
theorem step_A (t : Fin cfg0.N) (h0 : t.val % 16 = 0) : (outsAt0 m c t.val t.isLt).2 = k0_pay4 (F := Ideal) (iblk m c 2 t) (iblk m c 0 t) (iblk m c 1 t) (iblk m c 3 t) (k0_pay3 (F := Ideal)) := by
  rw [outsAt0_A m c t h0]
  dsimp only
  rw [out_A5]
theorem step_B (t : Fin cfg0.N) (h0 : ¬t.val % 16 = 0) : (outsAt0 m c t.val t.isLt).2 = k0_pay4 (F := Ideal) (iblk m c 2 t) (iblk m c 0 t) (iblk m c 1 t) (iblk m c 3 t) (outsAt0 m c (t.val - 1) (Nat.lt_of_le_of_lt (Nat.sub_le _ _) t.isLt)).2 := by
  rw [outsAt0_B m c t h0]
  dsimp only
  rw [out_B5]

/-- After a point the block holds the sums over the tiles so far. -/
theorem outs5_at (s : Fin 8) (j : Fin 1024) : ∀ (t : ℕ) (h : t < cfg0.N), (outsAt0 m c t h).2 (ix2 s j)
    = ∑ u ∈ Finset.range (t + 1), ∑ q : Fin 64, term (A0 m c) (A1 m c) (A2 m c) (A3 m c) (8 * (64 * u + q.val) + s.val) j := by
  intro t
  induction t with
  | zero =>
    intro h
    refine (congrFun (step_A m c ⟨0, h⟩ rfl) (ix2 s j)).trans ?_
    refine (tile5 m c ⟨0, h⟩ _ s j).trans ?_
    rw [pay3_at, zero_add]
    simp
  | succ t ih =>
    intro h
    refine (congrFun (step_B m c ⟨t + 1, h⟩ (by have := lt_of_lt_of_eq h N_0; show ¬(t + 1) % 16 = 0; omega)) (ix2 s j)).trans ?_
    refine (tile5 m c ⟨t + 1, h⟩ _ s j).trans ?_
    show (outsAt0 m c t _).2 (ix2 s j) + _ = _
    rw [ih (by omega), Finset.sum_range_succ _ (t + 1)]

/-- The block at the end: eight rows of sums. -/
theorem index5_at : ∀ t : Fin cfg0.N, win0_5.index t (0 : Fin 2) = 0 ∧ win0_5.index t (1 : Fin 2) = 0 :=
  (by decide +kernel : ∀ t : Fin grid0.N, _)

theorem parts_eq : (Gen.dats m 0 c).arrAt 5 cfg0.N = (parts (A0 m c) (A1 m c) (A2 m c) (A3 m c) : S8x1024.Idx → EReal) := by
  refine (Gen.dats m 0 c).arrAt_eq_of_cover 5 (parts (A0 m c) (A1 m c) (A2 m c) (A3 m c) : S8x1024.Idx → EReal) (fun t hf => ?_) (fun i => ?_)
  · have h3 := (flush0_5 t).mp hf
    have hN : t.val < 16 := lt_of_lt_of_eq t.isLt N_0
    obtain ⟨e0, e1⟩ := index5_at t
    show (cfg0.win 5).cut _ ((Gen.dats m 0 c).after 5 t) = _
    rw [after0_5]
    funext y
    have h0 : (y 0).val < 8 := (y 0).isLt
    have h1 : (y 1).val < 1024 := (y 1).isLt
    show (outsAt0 m c t.val t.isLt).2 y = parts (A0 m c) (A1 m c) (A2 m c) (A3 m c) (((cfg0.win 5).blk t).view.emb y)
    have ey : (y : S8x1024.Idx) = ix2 (⟨(y 0).val, h0⟩ : Fin 8) (⟨(y 1).val, h1⟩ : Fin 1024) := funext fun a => match a with
      | ⟨0, _⟩ => rfl
      | ⟨1, _⟩ => rfl
    have ez : (((cfg0.win 5).blk t).view.emb y : S8x1024.Idx) = ix2 (⟨(y 0).val, h0⟩ : Fin 8) (⟨(y 1).val, h1⟩ : Fin 1024) := funext fun a => Fin.ext (match a with
      | ⟨0, _⟩ => by show win0_5.index t (0 : Fin 2) * 8 + 1 * (y 0).val = (y 0).val; omega
      | ⟨1, _⟩ => by show win0_5.index t (1 : Fin 2) * 1024 + 1 * (y 1).val = (y 1).val; omega)
    refine (congrArg (outsAt0 m c t.val t.isLt).2 ey).trans (Eq.trans ?_ (congrArg (parts (A0 m c) (A1 m c) (A2 m c) (A3 m c)) ez).symm)
    rw [outs5_at, show t.val + 1 = 16 by omega, sum_runs 64 (fun u => term (A0 m c) (A1 m c) (A2 m c) (A3 m c) (8 * u + _) _) 16]
    rfl
  · have h0 : (i 0).val < 8 := (i 0).isLt
    have h1 : (i 1).val < 1024 := (i 1).isLt
    obtain ⟨t, ht⟩ : ∃ t : Fin cfg0.N, t.val = 15 := ⟨⟨15, lt_of_lt_of_eq (by omega : _ < 16) N_0.symm⟩, rfl⟩
    obtain ⟨e0, e1⟩ := index5_at t
    refine ⟨t, (flush0_5 t).mpr (by omega), Finset.mem_map.mpr ⟨ix2 (⟨(i 0).val, h0⟩ : Fin 8) (⟨(i 1).val, h1⟩ : Fin 1024), Finset.mem_univ _, ?_⟩⟩
    funext a
    apply Fin.ext
    match a with
    | ⟨0, _⟩ => show win0_5.index t (0 : Fin 2) * 8 + 1 * (i 0).val = (i 0).val; omega
    | ⟨1, _⟩ => show win0_5.index t (1 : Fin 2) * 1024 + 1 * (i 1).val = (i 1).val; omega

/-- What the call leaves, and the sum that the host takes after it. -/
theorem tail_eq : Pipeline.afterTail₀ cfgs (Gen.dats m) 0 (V0 m) [hostOps1] c main_v6 = total (A0 m c) (A1 m c) (A2 m c) (A3 m c) := by
  have e : Pipeline.afterTail₀ cfgs (Gen.dats m) 0 (V0 m) [hostOps1] c main_v6 = Host.reduceAdd (F := Ideal) (φ := .f32) (parts (A0 m c) (A1 m c) (A2 m c) (A3 m c) : S8x1024.Idx → EReal) (constant (F := Ideal) S_ .f32 0x00000000#32) reducesTo_S8x1024_S_d0_1 h_S_ := by
    unfold Pipeline.afterTail₀
    after_results_simp
    refine congrArg (fun x => Host.reduceAdd (F := Ideal) (φ := .f32) x (constant (F := Ideal) S_ .f32 0x00000000#32) reducesTo_S8x1024_S_d0_1 h_S_) ?_
    refine (StableHlo.nullary_result_ne _ _ _ _ (by decide)).trans ?_
    exact ((Pipeline.withArrays_arr spec0 (by decide) c (V0 m c) _ 5).trans (parts_eq m c))
  exact e.trans (total_eq (A0 m c) (A1 m c) (A2 m c) (A3 m c))

/-- The run of the program: the gradient, the sum, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v5_0) = grad (A0 m c) (A1 m c) (A2 m c) (A3 m c) ∧ r.2.mem ((c.tc : Thread nD τ).loc main_v6) = total (A0 m c) (A1 m c) (A2 m c) (A3 m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨((h.1 c).1 4).trans (arr_eq m c), ((h.1 c).2 main_v6 (Pipeline.mem_restRefs_of main_v6 (by decide) (by decide))).trans (tail_eq m c), h.2 c⟩)
    (θ_run_and (run_main m ρ) (unchanged m ρ))

end

/-! ### The reference -/

open Cert.ReferenceLossIdeal Cert.ReferenceLossIdeal.Read

/-- A half over the width, times twice the error. -/
theorem half_width (e : EReal) : Ideal.div (Ideal.ofBits .f32 0x3F000000#32) (Ideal.ofBits .f32 0x44800000#32) * (Ideal.ofBits .f32 0x40000000#32 * e) = e * Ideal.ofBits .f32 0x3A800000#32 := by
  have h1 : Ideal.ofBits .f32 0x3F000000#32 = ((1/2 : ℝ) : EReal) := by simp [Ideal.ofBits, Ideal.ieee, -EReal.coe_mul]; norm_num
  have h2 : Ideal.ofBits .f32 0x44800000#32 = ((1024 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1/1024 : ℝ) : EReal) := by simp [Ideal.ofBits, Ideal.ieee, -EReal.coe_mul]; norm_num
  have hd : Ideal.div ((1/2 : ℝ) : EReal) ((1024 : ℝ) : EReal) = ((1/2048 : ℝ) : EReal) := by
    unfold Ideal.div
    rw [if_neg (by norm_num), ← EReal.coe_inv, ← EReal.coe_mul]
    norm_num
  rw [h1, h2, h3, h4, hd, ← mul_assoc, ← EReal.coe_mul, mul_comm]
  norm_num

/-- The reference's error. -/
theorem ref_err (x0 : Ff.Idx → EReal) (x1 : S2816x1024.Idx → EReal) (x2 x3 : Md.Idx → EReal) (b : Fin 4) (t : Fin 2048) (j : Fin 1024) :
    val_main_v2 (F := Ideal) x0 x1 x2 x3 (ix3 b t j) = x2 (ix3 b t j) + (∑ k : Fin 2816, x0 (ix3 b t k) * x1 (ix2 k j)) - x3 (ix3 b t j) := by
  unfold val_main_v2 val_main_v1 val_main_v0
  pointwise

/-- The reference's gradient. -/
theorem ref_at (x0 : Ff.Idx → EReal) (x1 : S2816x1024.Idx → EReal) (x2 x3 : Md.Idx → EReal) (b : Fin 4) (t : Fin 2048) (j : Fin 1024) :
    val_main_v16 (F := Ideal) x0 x1 x2 x3 (ix3 b t j) = (x2 (ix3 b t j) + (∑ k : Fin 2816, x0 (ix3 b t k) * x1 (ix2 k j)) - x3 (ix3 b t j)) * Ideal.ofBits .f32 0x3A800000#32 := by
  rw [← ref_err x0 x1 x2 x3, ← half_width]
  unfold val_main_v16 val_main_v15 val_main_v14 val_main_v13 val_main_cst_6 val_main_v12 val_main_v11 val_main_cst_5 val_main_cst_4 val_main_v5 val_main_v4 val_main_cst
  pointwise

/-- The reference's array is the gradient. -/
theorem ref_eq (x0 : Ff.Idx → EReal) (x1 : S2816x1024.Idx → EReal) (x2 x3 : Md.Idx → EReal) : val_main_v17 (F := Ideal) x0 x1 x2 x3 = grad x0 x1 x2 x3 := by
  funext i
  have e : val_main_v17 (F := Ideal) x0 x1 x2 x3 i = flat (val_main_v16 (F := Ideal) x0 x1 x2 x3) (i 0).val (i 1) := by
    unfold val_main_v17
    exact flat_shapeCast _ _ i
  rw [e]
  exact ref_at x0 x1 x2 x3 _ _ _

/-- Half the sum of the rows' mean squares. -/
theorem half_mean (f : Fin 4 → Fin 2048 → Fin 1024 → EReal) : Ideal.ofBits .f32 0x3F000000#32 * (∑ b, ∑ t, Ideal.div (∑ j, f b t j) (Ideal.ofBits .f32 0x44800000#32)) = ∑ b, ∑ t, ∑ j, f b t j * Ideal.ofBits .f32 0x3A000000#32 := by
  have h1 : Ideal.ofBits .f32 0x3F000000#32 = ((1/2 : ℝ) : EReal) := by simp [Ideal.ofBits, Ideal.ieee, -EReal.coe_mul]; norm_num
  have h2 : Ideal.ofBits .f32 0x44800000#32 = ((1024 : ℝ) : EReal) := by simp [Ideal.ofBits, Ideal.ieee, -EReal.coe_mul]; norm_num
  rw [h1, h2, factor, mul_comm, Cert.Rows.sum_mul_real _ (by norm_num)]
  refine Finset.sum_congr rfl fun b _ => ?_
  rw [Cert.Rows.sum_mul_real _ (by norm_num)]
  refine Finset.sum_congr rfl fun t _ => ?_
  rw [Cert.Rows.div_real _ (by norm_num), mul_assoc, ← EReal.coe_mul, Cert.Rows.sum_mul_real _ (by norm_num)]
  norm_num

/-- The reference's loss. -/
theorem ref_loss (x0 : Ff.Idx → EReal) (x1 : S2816x1024.Idx → EReal) (x2 x3 : Md.Idx → EReal) : val_main_v10 (F := Ideal) x0 x1 x2 x3 = total x0 x1 x2 x3 := by
  funext i
  unfold val_main_v10 val_main_cst_3 val_main_v9 val_main_cst_2 val_main_v8 val_main_v7 val_main_cst_1 val_main_v6 val_main_cst_0 val_main_v3 total
  pointwise
  rw [show (8192 : ℕ) = 4 * 2048 from rfl, ← sum_pairs 4 2048]
  refine (half_mean _).trans ?_
  refine Finset.sum_congr rfl fun b _ => Finset.sum_congr rfl fun t _ => Finset.sum_congr rfl fun j _ => ?_
  rw [ref_err]
  unfold term err
  simp only [← flat_ix3]

end Cert.KernelLossIdeal.Loss
-- ==== Proof.Norm.lean ====
/- The root-mean-square norm of a row of 1024 numbers and its backward pass, in the kernel's form and in the derivative's, and that the two are the same. -/
module

public import proofs.«01_k».proof.Proof.RowsEq

@[expose] public section

noncomputable section

namespace Cert.Norm

open Idealize.ShloMosaic
open Cert.Rows (eps eps_real half half_eq div_real add_mul_real sum_mul_real sum_real twice exists_real)

/-- One row: 1024 numbers. -/
abbrev Row := Fin 1024 → EReal

/-- The row's width, as the programs write it. -/
def width : EReal := Ideal.ofBits .f32 0x44800000#32

/-- The row's mean square plus epsilon, its inverse root, and the row without its length. -/
def msq (x : Row) : EReal := Ideal.div (∑ j, x j * x j) width + eps
def inv (x : Row) : EReal := Ideal.rsqrt (msq x)
def hat (x : Row) : Row := fun j => x j * inv x

/-- The backward pass: the gradient of `x` from the gradient `u` of `hat x`. -/
def normBack (x u : Row) : Row := fun j => inv x * (u j - hat x j * Ideal.div (∑ i, u i * hat x i) width)

/-- The same as the derivatives of the inverse root and of the square. -/
def normBackR (x u : Row) : Row := fun j =>
  (u j * inv x + x j * Ideal.div ((∑ i, x i * u i) * (half * Ideal.div (inv x) (msq x))) width)
    + Ideal.div ((∑ i, x i * u i) * (half * Ideal.div (inv x) (msq x))) width * x j

theorem width_eq : width = ((1024 : ℝ) : EReal) := by
  unfold width; simp [Ideal.ofBits, Ideal.ieee, -EReal.coe_mul]; norm_num

/-- Either the row has an infinite mean square and the inverse root is 0, or the row is real and so is all of its norm. -/
theorem norm_cases (x : Row) : (inv x = 0 ∧ msq x = ⊤) ∨
    ∃ (f : Fin 1024 → ℝ) (v : ℝ), 0 < v ∧ (∀ j, x j = (f j : EReal)) ∧ msq x = (v : EReal) ∧ inv x = (((Real.sqrt v)⁻¹ : ℝ) : EReal) := by
  obtain ⟨e, he, hE⟩ := eps_real
  have hterm : ∀ j, 0 ≤ x j * x j := by
    intro j
    induction x j with
    | coe r => exact_mod_cast mul_self_nonneg r
    | top => simp
    | bot => simp
  by_cases hS : (∑ j, x j * x j) = ⊤
  · left
    have hm : msq x = ⊤ := by
      unfold msq
      rw [hS, width_eq, div_real _ (by norm_num), EReal.top_mul_coe_of_pos (by norm_num), hE]; rfl
    refine ⟨?_, hm⟩
    unfold inv; rw [hm]; rfl
  · right
    have hx : ∀ j, ∃ r : ℝ, x j = (r : EReal) := by
      intro j
      have hle : x j * x j ≤ ∑ i, x i * x i := Finset.single_le_sum (f := fun i => x i * x i) (fun i _ => hterm i) (Finset.mem_univ j)
      refine exists_real (fun h => hS (top_le_iff.mp ?_)) (fun h => hS (top_le_iff.mp ?_))
      · rw [h] at hle; simpa using hle
      · rw [h] at hle; simpa using hle
    choose f hf using hx
    have hs : (0 : ℝ) ≤ ∑ j, f j * f j := Finset.sum_nonneg fun j _ => mul_self_nonneg _
    have hv : 0 < (∑ j, f j * f j) * (1024 : ℝ)⁻¹ + e := by positivity
    have hm : msq x = (((∑ j, f j * f j) * (1024 : ℝ)⁻¹ + e : ℝ) : EReal) := by
      unfold msq
      rw [width_eq, div_real _ (by norm_num), hE]
      simp only [hf, ← EReal.coe_mul, sum_real, ← EReal.coe_add]
    refine ⟨f, _, hv, hf, hm, ?_⟩
    unfold inv
    rw [hm]
    show (if _ then _ else _) = _
    rw [if_neg (not_lt.mpr hv.le), if_neg hv.ne']

/-- The two forms of the norm's backward pass agree, whatever the row and the gradient are. -/
theorem normBack_eq (x u : Row) : normBackR x u = normBack x u := by
  funext j
  rcases norm_cases x with ⟨h, hm⟩ | ⟨f, v, hv, hf, hm, h⟩
  · have h0 : Ideal.div 0 ⊤ = 0 := by unfold Ideal.div; simp
    have h1 : Ideal.div 0 width = 0 := by rw [width_eq, div_real _ (by norm_num), zero_mul]
    unfold normBackR normBack
    rw [h, hm, h0]
    simp only [mul_zero, h1, zero_mul, add_zero]
  · obtain ⟨r, hr⟩ : ∃ r : ℝ, r = (Real.sqrt v)⁻¹ := ⟨_, rfl⟩
    have hrpos : 0 < r := by rw [hr]; positivity
    have hrr : r * r * v = 1 := by
      rw [hr]
      have := Real.mul_self_sqrt hv.le
      have hs : Real.sqrt v ≠ 0 := (Real.sqrt_pos.mpr hv).ne'
      field_simp
      linarith [this]
    have hv' : v⁻¹ = r * r := by field_simp; linarith
    rw [← hr] at h
    have hsum : (∑ i, u i * hat x i) = (∑ i, x i * u i) * (r : EReal) := by
      rw [sum_mul_real _ hrpos.le]
      refine Finset.sum_congr rfl fun i _ => ?_
      unfold hat
      rw [h, mul_left_comm, mul_assoc]
    unfold normBackR normBack
    rw [hsum]
    unfold hat
    generalize (∑ i, x i * u i) = S
    rw [h, hm, hf, half_eq, width_eq, div_real _ hv.ne', div_real _ (by norm_num), div_real _ (by norm_num), hv']
    have e1 : (r : EReal) * (u j - (f j : EReal) * r * (S * (r : EReal) * ((1024⁻¹ : ℝ) : EReal)))
        = u j * r + S * ((2 * (-(1/2) * (r * (r * r)) * 1024⁻¹ * f j) : ℝ) : EReal) := by
      rw [mul_comm, sub_eq_add_neg, add_mul_real _ _ hrpos.le]
      congr 1
      rw [show ((f j : EReal) * r * (S * (r : EReal) * ((1024⁻¹ : ℝ) : EReal))) = S * ((f j * r * r * 1024⁻¹ : ℝ) : EReal) by
        push_cast; ac_rfl]
      rw [← mul_neg, mul_assoc, ← EReal.coe_neg, ← EReal.coe_mul]
      congr 2; ring
    have e2 : (f j : EReal) * (S * (((-(1/2) : ℝ) : EReal) * ((r : EReal) * ((r * r : ℝ) : EReal))) * ((1024⁻¹ : ℝ) : EReal))
        = S * ((-(1/2) * (r * (r * r)) * 1024⁻¹ * f j : ℝ) : EReal) := by
      push_cast; ac_rfl
    rw [e1, ← twice, mul_comm _ (f j : EReal), e2, add_assoc]

end Cert.Norm
-- ==== Proof.NormB.lean ====
/- The backward pass of the block's norm, with the residual added: what the kernel leaves, and that the reference's derivative is the same array. -/
module

public import proofs.«01_k».proof.Proof.Gen.KernelNormBIdeal.Frame
public import Idealize.ShloMosaic.Lib.Pipeline.Value
public import proofs.«01_k».proof.Proof.Gen.ReferenceNormBIdeal.Run
public import proofs.«01_k».proof.Proof.Gen.ReferenceNormBIdeal.Read
public import proofs.«01_k».proof.Proof.Sums
public import proofs.«01_k».proof.Proof.Norm
public import Idealize.ShloMosaic.Lib.Pointwise
public import Idealize.ShloMosaic.Lib.Claim
public import Idealize.ShloMosaic.Lib.Pipeline.ReadBack

@[expose] public section

noncomputable section

namespace Cert.KernelNormBIdeal.NormB

open Idealize.ShloMosaic Idealize.ShloMosaic.TcCoe Idealize.SL.Sem Cert.KernelNormBIdeal Cert.KernelNormBIdeal.Gen Cert.Sums

abbrev Md : Shape := ⟨3, ![4, 2048, 1024]⟩

/-- Row `n` of the input, and of the output's gradient under the gain. -/
def row (x : Md.Idx → EReal) (n : ℕ) : Norm.Row := fun j => flat x n j
def gained (dh : Md.Idx → EReal) (g : S1x1024.Idx → EReal) (n : ℕ) : Norm.Row := fun j => flat dh n j * g (ix2 0 j)

/-- The gradient: the norm's backward pass plus the residual's gradient. -/
def val (dh x : Md.Idx → EReal) (g : S1x1024.Idx → EReal) (rs : Md.Idx → EReal) (n : ℕ) (j : Fin 1024) : EReal :=
  Norm.normBack (row x n) (gained dh g n) j + flat rs n j

def grad (dh x : Md.Idx → EReal) (g : S1x1024.Idx → EReal) (rs : Md.Idx → EReal) (i : S8192x1024.Idx) : EReal :=
  val dh x g rs (i 0).val (i 1)

/-- One token's share of the gain's gradient, the sums over every eighth token, and the whole sum. -/
def term (dh x : Md.Idx → EReal) (_ : S1x1024.Idx → EReal) (_ : Md.Idx → EReal) (n : ℕ) (j : Fin 1024) : EReal := flat dh n j * Norm.hat (row x n) j
def parts (dh x : Md.Idx → EReal) (g : S1x1024.Idx → EReal) (rs : Md.Idx → EReal) (i : S8x1024.Idx) : EReal := ∑ u ∈ Finset.range 1024, term dh x g rs (8 * u + (i 0).val) (i 1)
def gain (dh x : Md.Idx → EReal) (g : S1x1024.Idx → EReal) (rs : Md.Idx → EReal) (i : S1024.Idx) : EReal := ∑ n ∈ Finset.range (1024 * 8), term dh x g rs n (i 0)

/-! ### The kernel's body -/

theorem pay2_at (x : Vec Ideal S1024x1024 .f32) (r j : Fin 1024) : k0_pay2 (F := Ideal) x (ix2 r j) = x (ix2 r j) := by
  unfold k0_pay2
  pointwise
theorem pay3_at (x : Vec Ideal S1024x1024 .f32) (r j : Fin 1024) : k0_pay3 (F := Ideal) x (ix2 r j) = x (ix2 r j) := by
  unfold k0_pay3
  pointwise

/-- The inverse root of each row of a tile. -/
theorem pay4_at (x : Vec Ideal S1024x1024 .f32) (r : Fin 1024) : k0_pay4 (F := Ideal) x (ix2 r 0) = Norm.inv (fun j => x (ix2 r j)) := by
  unfold k0_pay4
  pointwise
  simp only [pay2_at]
  rfl

/-- The rows without their length. -/
theorem pay5_at (x : Vec Ideal S1024x1024 .f32) (r j : Fin 1024) : k0_pay5 (F := Ideal) x (ix2 r j) = Norm.hat (fun j => x (ix2 r j)) j := by
  unfold k0_pay5
  pointwise
  rw [pay2_at, pay4_at]
  rfl

/-- A tile's gradient. -/
theorem pay6_at (x dh : Vec Ideal S1024x1024 .f32) (g : Vec Ideal S1x1024 .f32) (rs : Vec Ideal S1024x1024 .f32) (r j : Fin 1024) :
    k0_pay6 (F := Ideal) x dh g rs (ix2 r j) = Norm.normBack (fun j => x (ix2 r j)) (fun j => dh (ix2 r j) * g (ix2 0 j)) j + rs (ix2 r j) := by
  unfold k0_pay6
  pointwise
  simp only [pay3_at, pay4_at, pay5_at]
  rfl

/-- The body reads whole blocks. -/
theorem ld_1024x1024 {e : EltTy} (x : Vec Ideal S1024x1024 e) : View.ld x (Rect.unit ![0, 0] ![1024, 1024] inb_S1024x1024_S1024x1024_0_0) = x :=
  View.ld_unit_zero (by funext a; fin_cases a <;> rfl) inb_S1024x1024_S1024x1024_0_0 x
theorem ld_1x1024 {e : EltTy} (x : Vec Ideal S1x1024 e) : View.ld x (Rect.unit ![0, 0] ![1, 1024] inb_S1x1024_S1x1024_0_0) = x :=
  View.ld_unit_zero (by funext a; fin_cases a <;> rfl) inb_S1x1024_S1x1024_0_0 x

/-- What a point leaves in the gradient's block, the first point and every other one. -/
theorem out_A4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S8x1024 .f32) (harg6 : arg6.IsWhole) (hc0 : cond0_0 i)
    (x0 : Vec Ideal S1024x1024 .f32) (x1 : Vec Ideal S1024x1024 .f32) (x2 : Vec Ideal S1x1024 .f32) (x3 : Vec Ideal S1024x1024 .f32) :
    out0_A_4 c i arg1 harg1 arg2 harg2 arg3 harg3 arg4 harg4 arg5 harg5 arg6 harg6 hc0 x0 x1 x2 x3 = k0_pay6 x1 x0 x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp (disch := first | decide | (intro a; fin_cases a <;> rfl)) only [View.readAt_eq_ld, harg1.read_unread, harg2.read_unread, harg3.read_unread, harg4.read_unread, ld_1024x1024, ld_1x1024]
  exact View.canon_unit_zero (by funext a; fin_cases a <;> rfl) inb_S1024x1024_S1024x1024_0_0 _
theorem out_B4 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S8x1024 .f32) (harg6 : arg6.IsWhole) (hc0 : ¬cond0_0 i)
    (x0 : Vec Ideal S1024x1024 .f32) (x1 : Vec Ideal S1024x1024 .f32) (x2 : Vec Ideal S1x1024 .f32) (x3 : Vec Ideal S1024x1024 .f32) (xo5 : Vec Ideal S8x1024 .f32) :
    out0_B_4 c i arg1 harg1 arg2 harg2 arg3 harg3 arg4 harg4 arg5 harg5 arg6 harg6 hc0 x0 x1 x2 x3 xo5 = k0_pay6 x1 x0 x2 x3 := by
  unfold out0_B_4
  rw [View.read_writes_eq_canon _ _ _ (cover0_B_4 c i arg1 harg1 arg2 harg2 arg3 harg3 arg4 harg4 arg5 harg5 arg6 harg6 hc0 x0 x1 x2 x3 xo5)]
  unfold kernelRun0_B
  dsimp only
  sl_unfold_words
  simp (disch := first | decide | (intro a; fin_cases a <;> rfl)) only [View.readAt_eq_ld, harg1.read_unread, harg2.read_unread, harg3.read_unread, harg4.read_unread, ld_1024x1024, ld_1x1024]
  exact View.canon_unit_zero (by funext a; fin_cases a <;> rfl) inb_S1024x1024_S1024x1024_0_0 _

/-- A tile's sums are added to what the block holds. -/
theorem pay1_at (x dh : Vec Ideal S1024x1024 .f32) (o : Vec Ideal S8x1024 .f32) (s : Fin 8) (j : Fin 1024) :
    k0_pay1 (F := Ideal) (k0_pay8 o) (k0_pay9 x dh) (ix2 s j) = o (ix2 s j) + ∑ q : Fin 128, dh (ix2 ⟨8 * q.val + s.val, by omega⟩ j) * Norm.hat (fun k => x (ix2 ⟨8 * q.val + s.val, by omega⟩ k)) j := by
  have e : ∀ q : Fin 128, k0_pay9 (F := Ideal) x dh (ix3 q s j) = dh (ix2 ⟨8 * q.val + s.val, by omega⟩ j) * Norm.hat (fun k => x (ix2 ⟨8 * q.val + s.val, by omega⟩ k)) j := fun q => by
    unfold k0_pay9
    refine (groups _ _ q s j (by omega)).trans ?_
    pointwise
    rw [pay3_at, pay5_at]
  unfold k0_pay1 k0_pay8
  generalize hz : k0_pay9 (F := Ideal) x dh = z at e ⊢
  pointwise
  exact congrArg (_ + ·) (Finset.sum_congr rfl fun q _ => e q)

/-- The block starts from zero. -/
theorem pay7_at (i : S8x1024.Idx) : k0_pay7 (F := Ideal) i = 0 := Ideal.ofBits_zero .f32

theorem ld_8x1024 {e : EltTy} (x : Vec Ideal S8x1024 e) : View.ld x (Rect.unit ![0, 0] ![8, 1024] inb_S8x1024_S8x1024_0_0) = x :=
  View.ld_unit_zero (by funext a; fin_cases a <;> rfl) inb_S8x1024_S8x1024_0_0 x

/-- What a point leaves in the block of the gain's gradient. -/
theorem out_A5 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S8x1024 .f32) (harg6 : arg6.IsWhole) (hc0 : cond0_0 i)
    (x0 : Vec Ideal S1024x1024 .f32) (x1 : Vec Ideal S1024x1024 .f32) (x2 : Vec Ideal S1x1024 .f32) (x3 : Vec Ideal S1024x1024 .f32) :
    out0_A_5 c i arg1 harg1 arg2 harg2 arg3 harg3 arg4 harg4 arg5 harg5 arg6 harg6 hc0 x0 x1 x2 x3 = k0_pay1 (k0_pay8 (F := Ideal) (k0_pay7 (F := Ideal))) (k0_pay9 x1 x0) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  simp (disch := first | decide | (intro a; fin_cases a <;> rfl)) only [View.readAt_eq_ld, ↓View.readCov_skip, ↓View.readCov_fill, View.readCov_cons_toLoadRect, harg6.read_unread, harg1.read_unread, harg2.read_unread, harg3.read_unread, harg4.read_unread, ld_1024x1024, ld_1x1024, ld_8x1024]
  exact View.canon_cons_unit_zero (by funext a; fin_cases a <;> rfl) inb_S8x1024_S8x1024_0_0 _ _
theorem out_B5 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S8x1024 .f32) (harg6 : arg6.IsWhole) (hc0 : ¬cond0_0 i)
    (x0 : Vec Ideal S1024x1024 .f32) (x1 : Vec Ideal S1024x1024 .f32) (x2 : Vec Ideal S1x1024 .f32) (x3 : Vec Ideal S1024x1024 .f32) (xo5 : Vec Ideal S8x1024 .f32) :
    out0_B_5 c i arg1 harg1 arg2 harg2 arg3 harg3 arg4 harg4 arg5 harg5 arg6 harg6 hc0 x0 x1 x2 x3 xo5 = k0_pay1 (k0_pay8 xo5) (k0_pay9 x1 x0) := by
  unfold out0_B_5
  rw [View.read_writes_eq_canon _ _ _ (cover0_B_5 c i arg1 harg1 arg2 harg2 arg3 harg3 arg4 harg4 arg5 harg5 arg6 harg6 hc0 x0 x1 x2 x3 xo5)]
  unfold kernelRun0_B
  dsimp only
  sl_unfold_words
  simp (disch := first | decide | (intro a; fin_cases a <;> rfl)) only [View.readAt_eq_ld, ↓View.readCov_skip, ↓View.readCov_fill, View.readCov_cons_toLoadRect, harg6.read_unread, harg1.read_unread, harg2.read_unread, harg3.read_unread, harg4.read_unread, ld_1024x1024, ld_1x1024, ld_8x1024]
  exact View.canon_cons_unit_zero (by funext a; fin_cases a <;> rfl) inb_S8x1024_S8x1024_0_0 _ _

/-- The eight rows together are the gradient. -/
theorem total_eq (dh x : Md.Idx → EReal) (g : S1x1024.Idx → EReal) (rs : Md.Idx → EReal) :
    Host.reduceAdd (F := Ideal) (φ := .f32) (parts dh x g rs) (constant (F := Ideal) S_ .f32 0x00000000#32) reducesTo_S8x1024_S1024_d0 h_S_ = gain dh x g rs := by
  funext i
  unfold gain
  rw [← fold8 (fun n => term dh x g rs n (i 0)) 1024]
  generalize hp : parts dh x g rs = p
  pointwise
  subst hp
  rfl

/-! ### The blocks -/

section
variable (m : (ℓ : Loc nD τ sig) → Buf (Elt Ideal) ℓ) (c : Dev nD)

/-- The four arguments on a device. -/
abbrev A0 : Md.Idx → EReal := m ((c : Thread nD τ).loc main_arg0)
abbrev A1 : Md.Idx → EReal := m ((c : Thread nD τ).loc main_arg1)
abbrev A2 : S1x1024.Idx → EReal := m ((c : Thread nD τ).loc main_arg2)
abbrev A3 : Md.Idx → EReal := m ((c : Thread nD τ).loc main_arg3)

/-- The arrays that the kernel is called on: the batches below one another. -/
theorem V_d (i : S8192x1024.Idx) : (V m c main_v0 : S8192x1024.Idx → EReal) i = flat (A0 m c) (i 0).val (i 1) := by
  have e : (V m c main_v0 : S8192x1024.Idx → EReal) = shapeCast S8192x1024 (A0 m c) shapeCasts_S4x2048x1024_S8192x1024 := by
    show StableHlo.after hostOps0 (fun b => m (c, b)) (Proc.devRef .tc main_v0) = _
    after_results
    rfl
  rw [e]
  exact flat_shapeCast _ _ i
theorem V_x (i : S8192x1024.Idx) : (V m c main_v1 : S8192x1024.Idx → EReal) i = flat (A1 m c) (i 0).val (i 1) := by
  have e : (V m c main_v1 : S8192x1024.Idx → EReal) = shapeCast S8192x1024 (A1 m c) shapeCasts_S4x2048x1024_S8192x1024 := by
    show StableHlo.after hostOps0 (fun b => m (c, b)) (Proc.devRef .tc main_v1) = _
    after_results
    rfl
  rw [e]
  exact flat_shapeCast _ _ i
theorem V_r (i : S8192x1024.Idx) : (V m c main_v2 : S8192x1024.Idx → EReal) i = flat (A3 m c) (i 0).val (i 1) := by
  have e : (V m c main_v2 : S8192x1024.Idx → EReal) = shapeCast S8192x1024 (A3 m c) shapeCasts_S4x2048x1024_S8192x1024 := by
    show StableHlo.after hostOps0 (fun b => m (c, b)) (Proc.devRef .tc main_v2) = _
    after_results
    rfl
  rw [e]
  exact flat_shapeCast _ _ i
theorem V_g : (V m c main_arg2 : S1x1024.Idx → EReal) = A2 m c := by
  show StableHlo.after hostOps0 (fun b => m (c, b)) (Proc.devRef .tc main_arg2) = _
  after_results

/-- The blocks of a grid point. -/
theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = t.val ∧ win0_1.index t (1 : Fin 2) = 0 :=
  (by decide +kernel : ∀ t : Fin grid0.N, _)
theorem index2_at : ∀ t : Fin cfg0.N, win0_2.index t (0 : Fin 2) = 0 ∧ win0_2.index t (1 : Fin 2) = 0 :=
  (by decide +kernel : ∀ t : Fin grid0.N, _)
theorem index3_at : ∀ t : Fin cfg0.N, win0_3.index t (0 : Fin 2) = t.val ∧ win0_3.index t (1 : Fin 2) = 0 :=
  (by decide +kernel : ∀ t : Fin grid0.N, _)
theorem index4_at : ∀ t : Fin cfg0.N, win0_4.index t (0 : Fin 2) = t.val ∧ win0_4.index t (1 : Fin 2) = 0 :=
  (by decide +kernel : ∀ t : Fin grid0.N, _)

/-- The rows and the gain that a point reads. -/
theorem d_in (t : Fin cfg0.N) (r : Fin 1024) (j : Fin 1024) : (iblk m c 0 t : S1024x1024.Idx → EReal) (ix2 r j) = flat (A0 m c) (1024 * t.val + r.val) j := by
  obtain ⟨e0, e1⟩ := index0_at t
  refine Eq.trans ?_ (V_d m c (ix2 (⟨1024 * t.val + r.val, by have : t.val < 8 := lt_of_lt_of_eq t.isLt N_0; omega⟩ : Fin 8192) (⟨j.val, by omega⟩ : Fin 1024)))
  unfold iblk
  show (V m c main_v0 : S8192x1024.Idx → EReal) _ = _
  congr 1
  funext a
  apply Fin.ext
  match a with
  | ⟨0, _⟩ => show win0_0.index t (0 : Fin 2) * 1024 + 1 * r.val = 1024 * t.val + r.val; omega
  | ⟨1, _⟩ => show win0_0.index t (1 : Fin 2) * 1024 + 1 * j.val = j.val; omega
theorem x_in (t : Fin cfg0.N) (r : Fin 1024) (j : Fin 1024) : (iblk m c 1 t : S1024x1024.Idx → EReal) (ix2 r j) = flat (A1 m c) (1024 * t.val + r.val) j := by
  obtain ⟨e0, e1⟩ := index1_at t
  refine Eq.trans ?_ (V_x m c (ix2 (⟨1024 * t.val + r.val, by have : t.val < 8 := lt_of_lt_of_eq t.isLt N_0; omega⟩ : Fin 8192) (⟨j.val, by omega⟩ : Fin 1024)))
  unfold iblk
  show (V m c main_v1 : S8192x1024.Idx → EReal) _ = _
  congr 1
  funext a
  apply Fin.ext
  match a with
  | ⟨0, _⟩ => show win0_1.index t (0 : Fin 2) * 1024 + 1 * r.val = 1024 * t.val + r.val; omega
  | ⟨1, _⟩ => show win0_1.index t (1 : Fin 2) * 1024 + 1 * j.val = j.val; omega
theorem g_in (t : Fin cfg0.N) : (iblk m c 2 t : S1x1024.Idx → EReal) = A2 m c := by
  obtain ⟨e0, e1⟩ := index2_at t
  funext y
  refine Eq.trans ?_ (congrFun (V_g m c) y)
  unfold iblk
  show (V m c main_arg2 : S1x1024.Idx → EReal) _ = _
  congr 1
  funext a
  apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega
theorem r_in (t : Fin cfg0.N) (r : Fin 1024) (j : Fin 1024) : (iblk m c 3 t : S1024x1024.Idx → EReal) (ix2 r j) = flat (A3 m c) (1024 * t.val + r.val) j := by
  obtain ⟨e0, e1⟩ := index3_at t
  refine Eq.trans ?_ (V_r m c (ix2 (⟨1024 * t.val + r.val, by have : t.val < 8 := lt_of_lt_of_eq t.isLt N_0; omega⟩ : Fin 8192) (⟨j.val, by omega⟩ : Fin 1024)))
  unfold iblk
  show (V m c main_v2 : S8192x1024.Idx → EReal) _ = _
  congr 1
  funext a
  apply Fin.ext
  match a with
  | ⟨0, _⟩ => show win0_3.index t (0 : Fin 2) * 1024 + 1 * r.val = 1024 * t.val + r.val; omega
  | ⟨1, _⟩ => show win0_3.index t (1 : Fin 2) * 1024 + 1 * j.val = j.val; omega

/-- A point's tile. -/
theorem tile_eq (t : Fin cfg0.N) (r : Fin 1024) (j : Fin 1024) : (k0_pay6 (F := Ideal) (iblk m c 1 t) (iblk m c 0 t) (iblk m c 2 t) (iblk m c 3 t) : S1024x1024.Idx → EReal) (ix2 r j) = val (A0 m c) (A1 m c) (A2 m c) (A3 m c) (1024 * t.val + r.val) j := by
  refine (pay6_at _ _ _ _ _ _).trans ?_
  exact congrArg₂ (· + ·) (congrFun (congrArg₂ Norm.normBack (funext fun k => x_in m c t r k) (funext fun k => congrArg₂ (fun a b : EReal => a * b) (d_in m c t r k) (congrFun (g_in m c t) _))) j) (r_in m c t r j)

/-- The array that the kernel returns is the gradient. -/
theorem arr_eq : (Gen.dats m 0 c).arrAt 4 cfg0.N = (grad (A0 m c) (A1 m c) (A2 m c) (A3 m c) : S8192x1024.Idx → EReal) := by
  refine (Gen.dats m 0 c).arrAt_eq_of_cover 4 (grad (A0 m c) (A1 m c) (A2 m c) (A3 m c) : S8192x1024.Idx → EReal) (fun t _ => ?_) (fun i => ?_)
  · obtain ⟨e0, e1⟩ := index4_at t
    have ef : (Gen.dats m 0 c).flushed 4 t = (cfg0.win 4).cut (grid0.coords t) (k0_pay6 (F := Ideal) (iblk m c 1 t) (iblk m c 0 t) (iblk m c 2 t) (iblk m c 3 t)) := by
      by_cases h0 : t.val % 8 = 0
      · show (cfg0.win 4).cut _ ((Gen.dats m 0 c).after 4 t) = _
        rw [after0_4, outsAt0_A m c t h0, out_A4]
      · show (cfg0.win 4).cut _ ((Gen.dats m 0 c).after 4 t) = _
        rw [after0_4, outsAt0_B m c t h0, out_B4]
    rw [ef]
    funext y
    have h0 : (y 0).val < 1024 := (y 0).isLt
    have h1 : (y 1).val < 1024 := (y 1).isLt
    show (k0_pay6 (F := Ideal) (iblk m c 1 t) (iblk m c 0 t) (iblk m c 2 t) (iblk m c 3 t) : S1024x1024.Idx → EReal) y = grad (A0 m c) (A1 m c) (A2 m c) (A3 m c) (((cfg0.win 4).blk t).view.emb y)
    have ey : (y : S1024x1024.Idx) = ix2 (⟨(y 0).val, h0⟩ : Fin 1024) (⟨(y 1).val, h1⟩ : Fin 1024) := funext fun a => match a with
      | ⟨0, _⟩ => rfl
      | ⟨1, _⟩ => rfl
    refine (congrArg (k0_pay6 (F := Ideal) (iblk m c 1 t) (iblk m c 0 t) (iblk m c 2 t) (iblk m c 3 t) : S1024x1024.Idx → EReal) ey).trans ?_
    refine (tile_eq m c t _ _).trans ?_
    have er : (((cfg0.win 4).blk t).view.emb y 0 : Fin 8192).val = 1024 * t.val + (y 0).val := by show win0_4.index t (0 : Fin 2) * 1024 + 1 * (y 0).val = _; omega
    have en : (((cfg0.win 4).blk t).view.emb y 1 : Fin 1024) = ⟨(y 1).val, h1⟩ := Fin.ext (by show win0_4.index t (1 : Fin 2) * 1024 + 1 * (y 1).val = (y 1).val; omega)
    exact congrArg₂ (val (A0 m c) (A1 m c) (A2 m c) (A3 m c)) er.symm en.symm
  · have h0 : (i 0).val < 8192 := (i 0).isLt
    have h1 : (i 1).val < 1024 := (i 1).isLt
    obtain ⟨t, ht⟩ : ∃ t : Fin cfg0.N, t.val = (i 0).val / 1024 := ⟨⟨(i 0).val / 1024, lt_of_lt_of_eq (by omega : _ < 8) N_0.symm⟩, rfl⟩
    obtain ⟨e0, e1⟩ := index4_at t
    refine ⟨t, flush0_4 t, Finset.mem_map.mpr ⟨ix2 (⟨(i 0).val % 1024, Nat.mod_lt _ (by norm_num)⟩ : Fin 1024) (⟨(i 1).val, h1⟩ : Fin 1024), Finset.mem_univ _, ?_⟩⟩
    funext a
    apply Fin.ext
    match a with
    | ⟨0, _⟩ => show win0_4.index t (0 : Fin 2) * 1024 + 1 * ((i 0).val % 1024) = (i 0).val; omega
    | ⟨1, _⟩ => show win0_4.index t (1 : Fin 2) * 1024 + 1 * (i 1).val = (i 1).val; omega

/-- A point's sums. -/
theorem tile5 (t : Fin cfg0.N) (o : Vec Ideal S8x1024 .f32) (s : Fin 8) (j : Fin 1024) :
    k0_pay1 (F := Ideal) (k0_pay8 o) (k0_pay9 (iblk m c 1 t) (iblk m c 0 t)) (ix2 s j) = o (ix2 s j) + ∑ q : Fin 128, term (A0 m c) (A1 m c) (A2 m c) (A3 m c) (8 * (128 * t.val + q.val) + s.val) j := by
  refine (pay1_at _ _ _ _ _).trans (congrArg (_ + ·) (Finset.sum_congr rfl fun q _ => ?_))
  rw [show 8 * (128 * t.val + q.val) + s.val = 1024 * t.val + (8 * q.val + s.val) by omega]
  exact congrArg₂ (· * ·) (d_in m c t ⟨8 * q.val + s.val, by omega⟩ j) (congrFun (congrArg Norm.hat (funext fun k => x_in m c t ⟨8 * q.val + s.val, by omega⟩ k)) j)

/-- The block of sums after the first point, and after every other one. -/
theorem step_A (t : Fin cfg0.N) (h0 : t.val % 8 = 0) : (outsAt0 m c t.val t.isLt).2 = k0_pay1 (F := Ideal) (k0_pay8 (F := Ideal) (k0_pay7 (F := Ideal))) (k0_pay9 (iblk m c 1 t) (iblk m c 0 t)) := by
  rw [outsAt0_A m c t h0]
  dsimp only
  rw [out_A5]
theorem step_B (t : Fin cfg0.N) (h0 : ¬t.val % 8 = 0) : (outsAt0 m c t.val t.isLt).2 = k0_pay1 (F := Ideal) (k0_pay8 (F := Ideal) (outsAt0 m c (t.val - 1) (Nat.lt_of_le_of_lt (Nat.sub_le _ _) t.isLt)).2) (k0_pay9 (iblk m c 1 t) (iblk m c 0 t)) := by
  rw [outsAt0_B m c t h0]
  dsimp only
  rw [out_B5]

/-- After a point the block holds the sums over the tiles so far. -/
theorem outs5_at (s : Fin 8) (j : Fin 1024) : ∀ (t : ℕ) (h : t < cfg0.N), (outsAt0 m c t h).2 (ix2 s j)
    = ∑ u ∈ Finset.range (t + 1), ∑ q : Fin 128, term (A0 m c) (A1 m c) (A2 m c) (A3 m c) (8 * (128 * u + q.val) + s.val) j := by
  intro t
  induction t with
  | zero =>
    intro h
    refine (congrFun (step_A m c ⟨0, h⟩ rfl) (ix2 s j)).trans ?_
    refine (tile5 m c ⟨0, h⟩ _ s j).trans ?_
    rw [pay7_at, zero_add]
    simp
  | succ t ih =>
    intro h
    refine (congrFun (step_B m c ⟨t + 1, h⟩ (by have := lt_of_lt_of_eq h N_0; show ¬(t + 1) % 8 = 0; omega)) (ix2 s j)).trans ?_
    refine (tile5 m c ⟨t + 1, h⟩ _ s j).trans ?_
    show (outsAt0 m c t _).2 (ix2 s j) + _ = _
    rw [ih (by omega), Finset.sum_range_succ _ (t + 1)]

/-- The block at the end: eight rows of sums. -/
theorem index5_at : ∀ t : Fin cfg0.N, win0_5.index t (0 : Fin 2) = 0 ∧ win0_5.index t (1 : Fin 2) = 0 :=
  (by decide +kernel : ∀ t : Fin grid0.N, _)

theorem parts_eq : (Gen.dats m 0 c).arrAt 5 cfg0.N = (parts (A0 m c) (A1 m c) (A2 m c) (A3 m c) : S8x1024.Idx → EReal) := by
  refine (Gen.dats m 0 c).arrAt_eq_of_cover 5 (parts (A0 m c) (A1 m c) (A2 m c) (A3 m c) : S8x1024.Idx → EReal) (fun t hf => ?_) (fun i => ?_)
  · have h3 := (flush0_5 t).mp hf
    have hN : t.val < 8 := lt_of_lt_of_eq t.isLt N_0
    obtain ⟨e0, e1⟩ := index5_at t
    show (cfg0.win 5).cut _ ((Gen.dats m 0 c).after 5 t) = _
    rw [after0_5]
    funext y
    have h0 : (y 0).val < 8 := (y 0).isLt
    have h1 : (y 1).val < 1024 := (y 1).isLt
    show (outsAt0 m c t.val t.isLt).2 y = parts (A0 m c) (A1 m c) (A2 m c) (A3 m c) (((cfg0.win 5).blk t).view.emb y)
    have ey : (y : S8x1024.Idx) = ix2 (⟨(y 0).val, h0⟩ : Fin 8) (⟨(y 1).val, h1⟩ : Fin 1024) := funext fun a => match a with
      | ⟨0, _⟩ => rfl
      | ⟨1, _⟩ => rfl
    have ez : (((cfg0.win 5).blk t).view.emb y : S8x1024.Idx) = ix2 (⟨(y 0).val, h0⟩ : Fin 8) (⟨(y 1).val, h1⟩ : Fin 1024) := funext fun a => Fin.ext (match a with
      | ⟨0, _⟩ => by show win0_5.index t (0 : Fin 2) * 8 + 1 * (y 0).val = (y 0).val; omega
      | ⟨1, _⟩ => by show win0_5.index t (1 : Fin 2) * 1024 + 1 * (y 1).val = (y 1).val; omega)
    refine (congrArg (outsAt0 m c t.val t.isLt).2 ey).trans (Eq.trans ?_ (congrArg (parts (A0 m c) (A1 m c) (A2 m c) (A3 m c)) ez).symm)
    rw [outs5_at, show t.val + 1 = 8 by omega, sum_runs 128 (fun u => term (A0 m c) (A1 m c) (A2 m c) (A3 m c) (8 * u + _) _) 8]
    rfl
  · have h0 : (i 0).val < 8 := (i 0).isLt
    have h1 : (i 1).val < 1024 := (i 1).isLt
    obtain ⟨t, ht⟩ : ∃ t : Fin cfg0.N, t.val = 7 := ⟨⟨7, lt_of_lt_of_eq (by omega : _ < 8) N_0.symm⟩, rfl⟩
    obtain ⟨e0, e1⟩ := index5_at t
    refine ⟨t, (flush0_5 t).mpr (by omega), Finset.mem_map.mpr ⟨ix2 (⟨(i 0).val, h0⟩ : Fin 8) (⟨(i 1).val, h1⟩ : Fin 1024), Finset.mem_univ _, ?_⟩⟩
    funext a
    apply Fin.ext
    match a with
    | ⟨0, _⟩ => show win0_5.index t (0 : Fin 2) * 8 + 1 * (i 0).val = (i 0).val; omega
    | ⟨1, _⟩ => show win0_5.index t (1 : Fin 2) * 1024 + 1 * (i 1).val = (i 1).val; omega

/-- What the call leaves, and the sum that the host takes after it. -/
theorem tail_eq : Pipeline.afterTail₀ cfgs (Gen.dats m) 0 (V0 m) [hostOps1] c main_v4 = gain (A0 m c) (A1 m c) (A2 m c) (A3 m c) := by
  have e : Pipeline.afterTail₀ cfgs (Gen.dats m) 0 (V0 m) [hostOps1] c main_v4 = Host.reduceAdd (F := Ideal) (φ := .f32) (parts (A0 m c) (A1 m c) (A2 m c) (A3 m c) : S8x1024.Idx → EReal) (constant (F := Ideal) S_ .f32 0x00000000#32) reducesTo_S8x1024_S1024_d0 h_S_ := by
    unfold Pipeline.afterTail₀
    after_results_simp
    refine congrArg (fun x => Host.reduceAdd (F := Ideal) (φ := .f32) x (constant (F := Ideal) S_ .f32 0x00000000#32) reducesTo_S8x1024_S1024_d0 h_S_) ?_
    refine (StableHlo.nullary_result_ne _ _ _ _ (by decide)).trans ?_
    exact ((Pipeline.withArrays_arr spec0 (by decide) c (V0 m c) _ 5).trans (parts_eq m c))
  exact e.trans (total_eq (A0 m c) (A1 m c) (A2 m c) (A3 m c))

/-- The run of the program: the gradient, the sum, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v3_0) = grad (A0 m c) (A1 m c) (A2 m c) (A3 m c) ∧ r.2.mem ((c.tc : Thread nD τ).loc main_v4) = gain (A0 m c) (A1 m c) (A2 m c) (A3 m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨((h.1 c).1 4).trans (arr_eq m c), ((h.1 c).2 main_v4 (Pipeline.mem_restRefs_of main_v4 (by decide) (by decide))).trans (tail_eq m c), h.2 c⟩)
    (θ_run_and (run_main m ρ) (unchanged m ρ))

end

/-! ### The reference -/

open Cert.ReferenceNormBIdeal Cert.ReferenceNormBIdeal.Read

/-- The reference's gradient, in the derivative's form. -/
theorem ref_at (x0 x1 : Md.Idx → EReal) (x2 : S1x1024.Idx → EReal) (x3 : Md.Idx → EReal) (b : Fin 4) (t : Fin 2048) (j : Fin 1024) :
    val_main_v37 (F := Ideal) x0 x1 x2 x3 (ix3 b t j) = Norm.normBackR (fun j => x1 (ix3 b t j)) (fun j => x0 (ix3 b t j) * x2 (ix2 0 j)) j + x3 (ix3 b t j) := by
  unfold val_main_v37 val_main_v36 val_main_v35 val_main_v34 val_main_v33 val_main_v32 val_main_v31 val_main_cst_7 val_main_v30 val_main_v29 val_main_cst_6 val_main_v28 val_main_v27 val_main_v26 val_main_v25 val_main_v24 val_main_cst_5 val_main_v23 val_main_v21 val_main_v20 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  rw [Fin.sum_univ_one]
  rfl

/-- The reference's array is the gradient. -/
theorem ref_eq (x0 x1 : Md.Idx → EReal) (x2 : S1x1024.Idx → EReal) (x3 : Md.Idx → EReal) : val_main_v38 (F := Ideal) x0 x1 x2 x3 = grad x0 x1 x2 x3 := by
  funext i
  have e : val_main_v38 (F := Ideal) x0 x1 x2 x3 i = flat (val_main_v37 (F := Ideal) x0 x1 x2 x3) (i 0).val (i 1) := by
    unfold val_main_v38
    exact flat_shapeCast _ _ i
  rw [e]
  exact (ref_at x0 x1 x2 x3 _ _ _).trans (congrArg (· + _) (congrFun (Norm.normBack_eq _ _) _))

/-- The reference's gradient of the gain. -/
theorem ref_gain_at (x0 x1 : Md.Idx → EReal) (x2 : S1x1024.Idx → EReal) (x3 : Md.Idx → EReal) (j : Fin 1024) : val_main_v22 (F := Ideal) x0 x1 (ix1 j) = gain x0 x1 x2 x3 (ix1 j) := by
  unfold val_main_v22 val_main_cst_4 val_main_v19
  pointwise
  refine (sum_first_two _ _ _ _).trans ?_
  rw [zero_add, Fin.sum_univ_one, Fin.sum_univ_one]
  pointwise
  unfold val_main_v18 val_main_cst_3 val_main_v17 val_main_v13 val_main_v12 val_main_v8 val_main_v7 val_main_v6 val_main_cst_1 val_main_v5 val_main_v4 val_main_cst_0 val_main_v3 val_main_v2 val_main_cst val_main_v1 gain
  pointwise
  refine (sum_first_two _ _ _ _).trans ?_
  rw [zero_add]
  pointwise
  rw [show (8192 : ℕ) = 4 * 2048 from rfl, ← sum_pairs 4 2048]
  refine Finset.sum_congr rfl fun b _ => Finset.sum_congr rfl fun t _ => ?_
  unfold term row
  simp only [← flat_ix3]
  exact mul_comm _ _

theorem ref_gain (x0 x1 : Md.Idx → EReal) (x2 : S1x1024.Idx → EReal) (x3 : Md.Idx → EReal) : val_main_v22 (F := Ideal) x0 x1 = gain x0 x1 x2 x3 := by
  funext i
  have e : i = ix1 (i 0) := funext fun a => match a with | ⟨0, _⟩ => rfl
  rw [e]
  exact ref_gain_at x0 x1 x2 x3 (i 0)

end Cert.KernelNormBIdeal.NormB
-- ==== Proof.AdamIn.lean ====
/- The AdamW step of one device's shard of the weight of the fused input projection (`adamw_w_in`): the update and the two moments the kernel leaves are those of the reference. -/
module

public import proofs.«01_k».proof.Proof.Gen.KernelAdamInIdeal.Value
public import proofs.«01_k».proof.Proof.Gen.ReferenceAdamInIdeal.Run
public import proofs.«01_k».proof.Proof.Gen.ReferenceAdamInIdeal.Read
public import proofs.«01_k».proof.Proof.Sums
public import Idealize.ShloMosaic.Lib.Pointwise
public import Idealize.ShloMosaic.Lib.Claim

@[expose] public section

noncomputable section

namespace Cert.KernelAdamInIdeal.AdamIn

open Idealize.ShloMosaic Idealize.ShloMosaic.TcCoe Idealize.SL.Sem Cert.KernelAdamInIdeal Cert.KernelAdamInIdeal.Gen Cert.Sums

/-- The update is the reference's. -/
theorem delta_eq (a0 a1 a2 a3 : S1024x897.Idx → EReal) :
    Value.G4 (F := Ideal) a0 a1 a2 a3 = Cert.ReferenceAdamInIdeal.Read.val_main_v23 (F := Ideal) a0 a1 a2 a3 :=
  rfl

/-- The new first moment is the reference's. -/
theorem newm_eq (a1 a2 : S1024x897.Idx → EReal) :
    Value.G5 (F := Ideal) a1 a2 = Cert.ReferenceAdamInIdeal.Read.val_main_v4 (F := Ideal) a1 a2 :=
  rfl

/-- The new second moment is the reference's. -/
theorem newv_eq (a1 a3 : S1024x897.Idx → EReal) :
    Value.G6 (F := Ideal) a1 a3 = Cert.ReferenceAdamInIdeal.Read.val_main_v10 (F := Ideal) a1 a3 :=
  rfl

end Cert.KernelAdamInIdeal.AdamIn
-- ==== Proof.AdamOut.lean ====
/- The AdamW step of one device's shard of the weight of the output projection and of the memory key/value projection (`adamw_w_out`, `adamw_mem_kv_w`): the update and the two moments the kernel leaves are those of the reference. -/
module

public import proofs.«01_k».proof.Proof.Gen.KernelAdamOutIdeal.Value
public import proofs.«01_k».proof.Proof.Gen.ReferenceAdamOutIdeal.Run
public import proofs.«01_k».proof.Proof.Gen.ReferenceAdamOutIdeal.Read
public import proofs.«01_k».proof.Proof.Sums
public import Idealize.ShloMosaic.Lib.Pointwise
public import Idealize.ShloMosaic.Lib.Claim

@[expose] public section

noncomputable section

namespace Cert.KernelAdamOutIdeal.AdamOut

open Idealize.ShloMosaic Idealize.ShloMosaic.TcCoe Idealize.SL.Sem Cert.KernelAdamOutIdeal Cert.KernelAdamOutIdeal.Gen Cert.Sums

/-- The update is the reference's. -/
theorem delta_eq (a0 a1 a2 a3 : S128x1024.Idx → EReal) :
    Value.G4 (F := Ideal) a0 a1 a2 a3 = Cert.ReferenceAdamOutIdeal.Read.val_main_v23 (F := Ideal) a0 a1 a2 a3 :=
  rfl

/-- The new first moment is the reference's. -/
theorem newm_eq (a1 a2 : S128x1024.Idx → EReal) :
    Value.G5 (F := Ideal) a1 a2 = Cert.ReferenceAdamOutIdeal.Read.val_main_v4 (F := Ideal) a1 a2 :=
  rfl

/-- The new second moment is the reference's. -/
theorem newv_eq (a1 a3 : S128x1024.Idx → EReal) :
    Value.G6 (F := Ideal) a1 a3 = Cert.ReferenceAdamOutIdeal.Read.val_main_v10 (F := Ideal) a1 a3 :=
  rfl

end Cert.KernelAdamOutIdeal.AdamOut
-- ==== Proof.AdamBr.lean ====
/- The AdamW step of one device's shard of the weight of a branch projection (`adamw_w_br_hgrn`, `adamw_w_br_fox`, `adamw_w_br_mem`): the update and the two moments the kernel leaves are those of the reference. -/
module

public import proofs.«01_k».proof.Proof.Gen.KernelAdamBrIdeal.Value
public import proofs.«01_k».proof.Proof.Gen.ReferenceAdamBrIdeal.Run
public import proofs.«01_k».proof.Proof.Gen.ReferenceAdamBrIdeal.Read
public import proofs.«01_k».proof.Proof.Sums
public import Idealize.ShloMosaic.Lib.Pointwise
public import Idealize.ShloMosaic.Lib.Claim

@[expose] public section

noncomputable section

namespace Cert.KernelAdamBrIdeal.AdamBr

open Idealize.ShloMosaic Idealize.ShloMosaic.TcCoe Idealize.SL.Sem Cert.KernelAdamBrIdeal Cert.KernelAdamBrIdeal.Gen Cert.Sums

/-- The update is the reference's. -/
theorem delta_eq (a0 a1 a2 a3 : S512x128.Idx → EReal) :
    Value.G4 (F := Ideal) a0 a1 a2 a3 = Cert.ReferenceAdamBrIdeal.Read.val_main_v23 (F := Ideal) a0 a1 a2 a3 :=
  rfl

/-- The new first moment is the reference's. -/
theorem newm_eq (a1 a2 : S512x128.Idx → EReal) :
    Value.G5 (F := Ideal) a1 a2 = Cert.ReferenceAdamBrIdeal.Read.val_main_v4 (F := Ideal) a1 a2 :=
  rfl

/-- The new second moment is the reference's. -/
theorem newv_eq (a1 a3 : S512x128.Idx → EReal) :
    Value.G6 (F := Ideal) a1 a3 = Cert.ReferenceAdamBrIdeal.Read.val_main_v10 (F := Ideal) a1 a3 :=
  rfl

end Cert.KernelAdamBrIdeal.AdamBr
-- ==== Proof.AdamUp.lean ====
/- The AdamW step of one device's shard of the weight of the feed-forward up projection (`adamw_ffn_w_up`): the update and the two moments the kernel leaves are those of the reference. -/
module

public import proofs.«01_k».proof.Proof.Gen.KernelAdamUpIdeal.Value
public import proofs.«01_k».proof.Proof.Gen.ReferenceAdamUpIdeal.Run
public import proofs.«01_k».proof.Proof.Gen.ReferenceAdamUpIdeal.Read
public import proofs.«01_k».proof.Proof.Sums
public import Idealize.ShloMosaic.Lib.Pointwise
public import Idealize.ShloMosaic.Lib.Claim

@[expose] public section

noncomputable section

namespace Cert.KernelAdamUpIdeal.AdamUp

open Idealize.ShloMosaic Idealize.ShloMosaic.TcCoe Idealize.SL.Sem Cert.KernelAdamUpIdeal Cert.KernelAdamUpIdeal.Gen Cert.Sums

/-- The update is the reference's. -/
theorem delta_eq (a0 a1 a2 a3 : S1024x704.Idx → EReal) :
    Value.G4 (F := Ideal) a0 a1 a2 a3 = Cert.ReferenceAdamUpIdeal.Read.val_main_v23 (F := Ideal) a0 a1 a2 a3 :=
  rfl

/-- The new first moment is the reference's. -/
theorem newm_eq (a1 a2 : S1024x704.Idx → EReal) :
    Value.G5 (F := Ideal) a1 a2 = Cert.ReferenceAdamUpIdeal.Read.val_main_v4 (F := Ideal) a1 a2 :=
  rfl

/-- The new second moment is the reference's. -/
theorem newv_eq (a1 a3 : S1024x704.Idx → EReal) :
    Value.G6 (F := Ideal) a1 a3 = Cert.ReferenceAdamUpIdeal.Read.val_main_v10 (F := Ideal) a1 a3 :=
  rfl

end Cert.KernelAdamUpIdeal.AdamUp
-- ==== Proof.AdamConv.lean ====
/- The AdamW step of one device's shard of the weight of the feed-forward convolution (`adamw_ffn_conv_w`): the update and the two moments the kernel leaves are those of the reference. -/
module

public import proofs.«01_k».proof.Proof.Gen.KernelAdamConvIdeal.Value
public import proofs.«01_k».proof.Proof.Gen.ReferenceAdamConvIdeal.Run
public import proofs.«01_k».proof.Proof.Gen.ReferenceAdamConvIdeal.Read
public import proofs.«01_k».proof.Proof.Sums
public import Idealize.ShloMosaic.Lib.Pointwise
public import Idealize.ShloMosaic.Lib.Claim

@[expose] public section

noncomputable section

namespace Cert.KernelAdamConvIdeal.AdamConv

open Idealize.ShloMosaic Idealize.ShloMosaic.TcCoe Idealize.SL.Sem Cert.KernelAdamConvIdeal Cert.KernelAdamConvIdeal.Gen Cert.Sums

/-- The update is the reference's. -/
theorem delta_eq (a0 a1 a2 a3 : S3x352.Idx → EReal) :
    Value.G4 (F := Ideal) a0 a1 a2 a3 = Cert.ReferenceAdamConvIdeal.Read.val_main_v23 (F := Ideal) a0 a1 a2 a3 :=
  rfl

/-- The new first moment is the reference's. -/
theorem newm_eq (a1 a2 : S3x352.Idx → EReal) :
    Value.G5 (F := Ideal) a1 a2 = Cert.ReferenceAdamConvIdeal.Read.val_main_v4 (F := Ideal) a1 a2 :=
  rfl

/-- The new second moment is the reference's. -/
theorem newv_eq (a1 a3 : S3x352.Idx → EReal) :
    Value.G6 (F := Ideal) a1 a3 = Cert.ReferenceAdamConvIdeal.Read.val_main_v10 (F := Ideal) a1 a3 :=
  rfl

end Cert.KernelAdamConvIdeal.AdamConv
-- ==== Proof.AdamDown.lean ====
/- The AdamW step of one device's shard of the weight of the feed-forward down projection (`adamw_ffn_w_down`): the update and the two moments the kernel leaves are those of the reference. -/
module

public import proofs.«01_k».proof.Proof.Gen.KernelAdamDownIdeal.Value
public import proofs.«01_k».proof.Proof.Gen.ReferenceAdamDownIdeal.Run
public import proofs.«01_k».proof.Proof.Gen.ReferenceAdamDownIdeal.Read
public import proofs.«01_k».proof.Proof.Sums
public import Idealize.ShloMosaic.Lib.Pointwise
public import Idealize.ShloMosaic.Lib.Claim

@[expose] public section

noncomputable section

namespace Cert.KernelAdamDownIdeal.AdamDown

open Idealize.ShloMosaic Idealize.ShloMosaic.TcCoe Idealize.SL.Sem Cert.KernelAdamDownIdeal Cert.KernelAdamDownIdeal.Gen Cert.Sums

/-- The update is the reference's. -/
theorem delta_eq (a0 a1 a2 a3 : S352x1024.Idx → EReal) :
    Value.G4 (F := Ideal) a0 a1 a2 a3 = Cert.ReferenceAdamDownIdeal.Read.val_main_v23 (F := Ideal) a0 a1 a2 a3 :=
  rfl

/-- The new first moment is the reference's. -/
theorem newm_eq (a1 a2 : S352x1024.Idx → EReal) :
    Value.G5 (F := Ideal) a1 a2 = Cert.ReferenceAdamDownIdeal.Read.val_main_v4 (F := Ideal) a1 a2 :=
  rfl

/-- The new second moment is the reference's. -/
theorem newv_eq (a1 a3 : S352x1024.Idx → EReal) :
    Value.G6 (F := Ideal) a1 a3 = Cert.ReferenceAdamDownIdeal.Read.val_main_v10 (F := Ideal) a1 a3 :=
  rfl

end Cert.KernelAdamDownIdeal.AdamDown
-- ==== Proof.AdamSmall.lean ====
/- The step of all small parameters at once, packed in 64 rows of 128: the sum of the gathered gradients over the devices, the update and the two moments are those of the reference. -/
module

public import proofs.«01_k».proof.Proof.Gen.KernelAdamSmallIdeal.Value
public import proofs.«01_k».proof.Proof.Gen.ReferenceAdamSmallIdeal.Run
public import proofs.«01_k».proof.Proof.Gen.ReferenceAdamSmallIdeal.Read
public import proofs.«01_k».proof.Proof.Sums
public import Idealize.ShloMosaic.Lib.Pointwise
public import Idealize.ShloMosaic.Lib.Claim

@[expose] public section

noncomputable section

namespace Cert.KernelAdamSmallIdeal.AdamSmall

open Idealize.ShloMosaic Idealize.ShloMosaic.TcCoe Idealize.SL.Sem Cert.KernelAdamSmallIdeal Cert.KernelAdamSmallIdeal.Gen Cert.Sums

/-- Slot `k` of the gathered arrays: the block of device `k`. -/
theorem slot (a0 : S8x64x128.Idx → EReal) (k : Fin 8) (inb : ∀ a, (![k.val, 0, 0] : Fin 3 → ℕ) a + S1x64x128.size a ≤ S8x64x128.size a) (i : S64x128.Idx) :
    (shapeCast S64x128 (View.ld (Val := Elt Ideal) (e' := .f32) a0 (Rect.unit (s := S8x64x128) ![k.val, 0, 0] S1x64x128.size inb)) shapeCasts_S1x64x128_S64x128 : S64x128.Idx → EReal) i
      = a0 (Cert.ReferenceAdamSmallIdeal.Read.idx_main_v0 i k) := by
  refine (shapeCast_dropUnit_apply ![64, 128] _ _ i).trans ?_
  refine congrArg a0 (funext fun a => Fin.ext ?_)
  match a with
  | ⟨0, _⟩ => exact Nat.add_zero _
  | ⟨1, _⟩ => show 0 + 1 * (i 0).val = (i 0).val; omega
  | ⟨2, _⟩ => show 0 + 1 * (i 1).val = (i 1).val; omega

/-- The sum of the eight devices' gradients is the reference's sum over the devices. -/
theorem sum_eq (a0 : S8x64x128.Idx → EReal) (a1 a2 a3 : S64x128.Idx → EReal) :
    Value.G4 (F := Ideal) a0 a1 a2 a3 = Cert.ReferenceAdamSmallIdeal.Read.val_main_v0 (F := Ideal) a0 := by
  funext i
  rw [Cert.ReferenceAdamSmallIdeal.Read.val_main_v0_apply, Fin.sum_univ_eight]
  refine Eq.trans ?_ (congrArg (· + _) (Ideal.ofBits_zero .f32).symm)
  refine Eq.trans ?_ (zero_add _).symm
  rw [← slot a0 0 (by decide) i, ← slot a0 1 (by decide) i, ← slot a0 2 (by decide) i, ← slot a0 3 (by decide) i, ← slot a0 4 (by decide) i, ← slot a0 5 (by decide) i, ← slot a0 6 (by decide) i, ← slot a0 7 (by decide) i]
  rfl

/-- The sum the kernel goes on with is the same. -/
theorem pay_eq (a0 : S8x64x128.Idx → EReal) (a1 a2 a3 : S64x128.Idx → EReal) :
    k0_pay5 (F := Ideal) a0 a1 a2 a3 = Cert.ReferenceAdamSmallIdeal.Read.val_main_v0 (F := Ideal) a0 :=
  sum_eq a0 a1 a2 a3

/-- The update is the reference's. -/
theorem delta_eq (a0 : S8x64x128.Idx → EReal) (a1 a2 a3 : S64x128.Idx → EReal) :
    Value.G5 (F := Ideal) a0 a1 a2 a3 = Cert.ReferenceAdamSmallIdeal.Read.val_main_v24 (F := Ideal) a0 a1 a2 a3 :=
  (congrArg (fun g => k0_pay3 (F := Ideal) g a1 a2 a3) (pay_eq a0 a1 a2 a3)).trans rfl

/-- The new first moment is the reference's. -/
theorem newm_eq (a0 : S8x64x128.Idx → EReal) (a1 a2 a3 : S64x128.Idx → EReal) :
    Value.G6 (F := Ideal) a0 a1 a2 a3 = Cert.ReferenceAdamSmallIdeal.Read.val_main_v5 (F := Ideal) a0 a2 :=
  (congrArg (fun g => k0_pay1 (F := Ideal) g a2) (pay_eq a0 a1 a2 a3)).trans rfl

/-- The new second moment is the reference's. -/
theorem newv_eq (a0 : S8x64x128.Idx → EReal) (a1 a2 a3 : S64x128.Idx → EReal) :
    Value.G7 (F := Ideal) a0 a1 a2 a3 = Cert.ReferenceAdamSmallIdeal.Read.val_main_v11 (F := Ideal) a0 a3 :=
  (congrArg (fun g => k0_pay2 (F := Ideal) g a3) (pay_eq a0 a1 a2 a3)).trans rfl

end Cert.KernelAdamSmallIdeal.AdamSmall
-- ==== Proof.WMem.lean ====
/- The gradient of the memory projection's weights: what the pipelined kernel leaves after its 4 row tiles of 256 tokens, and that the reference's product is the
   same array. -/
module

public import proofs.«01_k».proof.Proof.Gen.KernelWMemIdeal.Value
public import proofs.«01_k».proof.Proof.Gen.ReferenceWMemIdeal.Run
public import proofs.«01_k».proof.Proof.Gen.ReferenceWMemIdeal.Read
public import proofs.«01_k».proof.Proof.Sums
public import Idealize.ShloMosaic.Lib.Pointwise
public import Idealize.ShloMosaic.Lib.Claim
public import Idealize.ShloMosaic.Lib.Pipeline.ReadBack

@[expose] public section

noncomputable section

namespace Cert.KernelWMemIdeal.WMem

open Idealize.ShloMosaic Idealize.ShloMosaic.TcCoe Idealize.SL.Sem Cert.KernelWMemIdeal Cert.KernelWMemIdeal.Gen Cert.Sums

abbrev In : Shape := ⟨3, ![4, 256, 1024]⟩
abbrev Ct : Shape := ⟨3, ![4, 256, 1024]⟩

/-- The weights' gradient: the sum over every token of the input's feature times the output gradient's. -/
def grad (x0 : In.Idx → EReal) (x1 : Ct.Idx → EReal) (i : S1024x1024.Idx) : EReal :=
  ∑ b : Fin 4, ∑ t : Fin 256, x0 (ix3 b t (i 0)) * x1 (ix3 b t (i 1))

/-- The same sum over the rows. -/
theorem grad_flat (x0 : In.Idx → EReal) (x1 : Ct.Idx → EReal) (i : S1024x1024.Idx) :
    grad x0 x1 i = ∑ r ∈ Finset.range (4 * 256), flat x0 r (i 0) * flat x1 r (i 1) := sum_flat x0 x1 (i 0) (i 1)

/-! ### The kernel -/

section
variable (m : (ℓ : Loc nD τ sig) → Buf (Elt Ideal) ℓ) (c : Dev nD)

/-- The two arguments on a device. -/
abbrev A0 : In.Idx → EReal := m ((c : Thread nD τ).loc main_arg0)
abbrev A1 : Ct.Idx → EReal := m ((c : Thread nD τ).loc main_arg1)

/-- The input with its batches below one another. -/
theorem V_x (i : S1024x1024.Idx) : (V m c main_v1 : S1024x1024.Idx → EReal) i = flat (A0 m c) (i 0).val (i 1) := by
  have e : (V m c main_v1 : S1024x1024.Idx → EReal) = shapeCast S1024x1024 (A0 m c) shapeCasts_S4x256x1024_S1024x1024 := by
    unfold_abbrev_sides
    after_results
    rfl
  rw [e]
  exact flat_shapeCast _ _ i

/-- The output gradient likewise. -/
theorem V_y (i : S1024x1024.Idx) : (V m c main_v2 : S1024x1024.Idx → EReal) i = flat (A1 m c) (i 0).val (i 1) := by
  have e : (V m c main_v2 : S1024x1024.Idx → EReal) = shapeCast S1024x1024 (A1 m c) shapeCasts_S4x256x1024_S1024x1024 := by
    unfold_abbrev_sides
    after_results
    rfl
  rw [e]
  exact flat_shapeCast _ _ i

/-- The blocks of a grid point: the row tiles run fastest. -/
theorem index0_at : ∀ t : Fin cfg0.N, win0_0.index t (0 : Fin 2) = t.val % 4 ∧ win0_0.index t (1 : Fin 2) = 0 :=
  (by decide +kernel : ∀ t : Fin grid0.N, _)
theorem index1_at : ∀ t : Fin cfg0.N, win0_1.index t (0 : Fin 2) = t.val % 4 ∧ win0_1.index t (1 : Fin 2) = t.val / 4 :=
  (by decide +kernel : ∀ t : Fin grid0.N, _)
theorem index2_at : ∀ t : Fin cfg0.N, win0_2.index t (0 : Fin 2) = 0 ∧ win0_2.index t (1 : Fin 2) = t.val / 4 :=
  (by decide +kernel : ∀ t : Fin grid0.N, _)

/-- The column of the whole array that column `j` of a point's tile is. -/
def col (t : Fin cfg0.N) (j : Fin 512) : Fin 1024 := ⟨512 * (t.val / 4) + j.val, by have : t.val < 8 := lt_of_lt_of_eq t.isLt N_0; omega⟩

/-- A point's input block: the rows of its tile. -/
theorem x_in (t : Fin cfg0.N) (r : Fin 256) (j : Fin 1024) : (iblk m c 0 t : S256x1024.Idx → EReal) (ix2 r j) = flat (A0 m c) (256 * (t.val % 4) + r.val) j := by
  obtain ⟨e0, e1⟩ := index0_at t
  refine Eq.trans ?_ (V_x m c (ix2 (⟨256 * (t.val % 4) + r.val, by omega⟩ : Fin 1024) j))
  unfold iblk
  show (V m c main_v1 : S1024x1024.Idx → EReal) _ = _
  congr 1
  funext a
  apply Fin.ext
  match a with
  | ⟨0, _⟩ => show win0_0.index t (0 : Fin 2) * 256 + 1 * r.val = 256 * (t.val % 4) + r.val; omega
  | ⟨1, _⟩ => show win0_0.index t (1 : Fin 2) * 1024 + 1 * j.val = j.val; omega

/-- A point's block of the output gradient. -/
theorem y_in (t : Fin cfg0.N) (r : Fin 256) (j : Fin 512) : (iblk m c 1 t : S256x512.Idx → EReal) (ix2 r j) = flat (A1 m c) (256 * (t.val % 4) + r.val) (col t j) := by
  obtain ⟨e0, e1⟩ := index1_at t
  refine Eq.trans ?_ (V_y m c (ix2 (⟨256 * (t.val % 4) + r.val, by omega⟩ : Fin 1024) (col t j)))
  unfold iblk
  show (V m c main_v2 : S1024x1024.Idx → EReal) _ = _
  congr 1
  funext a
  apply Fin.ext
  match a with
  | ⟨0, _⟩ => show win0_1.index t (0 : Fin 2) * 256 + 1 * r.val = 256 * (t.val % 4) + r.val; omega
  | ⟨1, _⟩ => show win0_1.index t (1 : Fin 2) * 512 + 1 * j.val = 512 * (t.val / 4) + j.val; omega

/-- One tile's product. -/
theorem pay1_at (x : Vec Ideal S256x1024 .bf16) (y : Vec Ideal S256x512 .f32) (k : Fin 1024) (n : Fin 512) :
    k0_pay1 (F := Ideal) x y (ix2 k n) = ∑ r : Fin 256, x (ix2 r k) * y (ix2 r n) := by
  unfold k0_pay1
  pointwise

/-- A later tile's product is added to what the block holds. -/
theorem pay2_at (x : Vec Ideal S256x1024 .bf16) (y : Vec Ideal S256x512 .f32) (o : Vec Ideal S1024x512 .f32) (i : S1024x512.Idx) :
    k0_pay2 (F := Ideal) x y o i = o i + k0_pay1 (F := Ideal) x y i := by
  unfold k0_pay2
  generalize k0_pay1 (F := Ideal) x y = z
  pointwise

/-- The body reads and writes whole blocks. -/
theorem ld_x (x : Vec Ideal S256x1024 .bf16) : View.ld x (Rect.unit ![0, 0] ![256, 1024] inb_S256x1024_S256x1024_0_0) = x :=
  View.ld_unit_zero (by funext a; fin_cases a <;> rfl) inb_S256x1024_S256x1024_0_0 x
theorem ld_y (x : Vec Ideal S256x512 .f32) : View.ld x (Rect.unit ![0, 0] ![256, 512] inb_S256x512_S256x512_0_0) = x :=
  View.ld_unit_zero (by funext a; fin_cases a <;> rfl) inb_S256x512_S256x512_0_0 x
theorem ld_o (x : Vec Ideal S1024x512 .f32) : View.ld x (Rect.unit ![0, 0] ![1024, 512] inb_S1024x512_S1024x512_0_0) = x :=
  View.ld_unit_zero (by funext a; fin_cases a <;> rfl) inb_S1024x512_S1024x512_0_0 x

/-- The first tile of a column block leaves its product. -/
theorem out_A (i : grid0.Coords) (arg2 : Memref sig .tc .vmem S256x1024 .bf16) (harg2 : arg2.IsWhole) (arg3 : Memref sig .tc .vmem S256x512 .f32) (harg3 : arg3.IsWhole)
    (arg4 : Memref sig .tc .vmem S1024x512 .f32) (harg4 : arg4.IsWhole) (hc0 : cond0_0 i) (hc1 : ¬cond0_1 i) (x0 : Vec Ideal S256x1024 .bf16) (x1 : Vec Ideal S256x512 .f32) :
    out0_A_2 c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  simp (disch := first | decide | (intro a; fin_cases a <;> rfl)) only [View.readAt_eq_ld, harg2.read_unread, harg3.read_unread, ↓View.readCov_skip, ↓View.readCov_fill, View.readCov_cons_toLoadRect, ld_x, ld_y]
  exact View.canon_unit_zero (by funext a; fin_cases a <;> rfl) inb_S1024x512_S1024x512_0_0 _

/-- Every later tile adds its product. -/
theorem out_B (i : grid0.Coords) (arg2 : Memref sig .tc .vmem S256x1024 .bf16) (harg2 : arg2.IsWhole) (arg3 : Memref sig .tc .vmem S256x512 .f32) (harg3 : arg3.IsWhole)
    (arg4 : Memref sig .tc .vmem S1024x512 .f32) (harg4 : arg4.IsWhole) (hc0 : ¬cond0_0 i) (hc1 : cond0_1 i) (x0 : Vec Ideal S256x1024 .bf16) (x1 : Vec Ideal S256x512 .f32)
    (xo : Vec Ideal S1024x512 .f32) :
    out0_B_2 c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  simp (disch := first | decide | (intro a; fin_cases a <;> rfl)) only [View.readAt_eq_ld, harg2.read_unread, harg3.read_unread, harg4.read_unread, ↓View.readCov_skip, ↓View.readCov_fill, View.readCov_cons_toLoadRect, ld_x, ld_y, ld_o]
  exact View.canon_unit_zero (by funext a; fin_cases a <;> rfl) inb_S1024x512_S1024x512_0_0 _

/-- One token's share of an entry. -/
def term (k : Fin 1024) (n : Fin 1024) (r : ℕ) : EReal := flat (A0 m c) r k * flat (A1 m c) r n

/-- A tile's product at a grid point. -/
theorem tile_at (t : Fin cfg0.N) (k : Fin 1024) (n : Fin 512) :
    k0_pay1 (F := Ideal) (iblk m c 0 t) (iblk m c 1 t) (ix2 k n) = ∑ r : Fin 256, term m c k (col t n) (256 * (t.val % 4) + r.val) := by
  refine (pay1_at _ _ k n).trans (Finset.sum_congr rfl fun r _ => ?_)
  exact congrArg₂ (· * ·) (x_in m c t r k) (y_in m c t r n)

/-- After a point the output's block holds the sum of its column block's tiles so far. -/
theorem outs_at (k : Fin 1024) (n : Fin 512) : ∀ (t : ℕ) (h : t < cfg0.N), outsAt0 m c t h (ix2 k n)
    = ∑ s ∈ Finset.range (t % 4 + 1), ∑ r : Fin 256, term m c k (col ⟨t, h⟩ n) (256 * s + r.val) := by
  intro t
  induction t with
  | zero =>
    intro h
    refine (congrFun ((outsAt0_A m c ⟨0, h⟩ rfl (by show ¬1 ≤ 0 % 4; omega)).trans (out_A c _ _ _ _ _ _ _ _ _ _ _)) (ix2 k n)).trans ?_
    rw [tile_at]
    simp
  | succ t ih =>
    intro h
    by_cases h0 : (t + 1) % 4 = 0
    · refine (congrFun ((outsAt0_A m c ⟨t + 1, h⟩ h0 (by show ¬1 ≤ (t + 1) % 4; omega)).trans (out_A c _ _ _ _ _ _ _ _ _ _ _)) (ix2 k n)).trans ?_
      rw [tile_at]
      show ∑ r : Fin 256, term m c k (col ⟨t + 1, h⟩ n) (256 * ((t + 1) % 4) + r.val) = _
      rw [h0]
      simp
    · refine (congrFun ((outsAt0_B m c ⟨t + 1, h⟩ h0 (by show 1 ≤ (t + 1) % 4; omega)).trans (out_B c _ _ _ _ _ _ _ _ _ _ _ _)) (ix2 k n)).trans ?_
      rw [pay2_at, tile_at]
      have e : (t + 1) % 4 = t % 4 + 1 := by omega
      have ec : col ⟨t, by omega⟩ n = col ⟨t + 1, h⟩ n := Fin.ext (by show 512 * (t / 4) + n.val = 512 * ((t + 1) / 4) + n.val; omega)
      show outsAt0 m c t _ (ix2 k n) + _ = _
      rw [ih (by omega), ec]
      show _ + ∑ r : Fin 256, term m c k (col ⟨t + 1, h⟩ n) (256 * ((t + 1) % 4) + r.val) = _
      rw [e, Finset.sum_range_succ _ (t % 4 + 1)]

/-- The array that the kernel returns is the gradient. -/
theorem arr_eq : (Gen.dats m 0 c).arrAt 2 cfg0.N = (grad (A0 m c) (A1 m c) : S1024x1024.Idx → EReal) := by
  refine (Gen.dats m 0 c).arrAt_eq_of_cover 2 (grad (A0 m c) (A1 m c) : S1024x1024.Idx → EReal) (fun t hf => ?_) (fun i => ?_)
  · have h3 := (flush0_2 t).mp hf
    obtain ⟨e0, e1⟩ := index2_at t
    rw [Value.flushed2]
    funext y
    have h0 : (y 0).val < 1024 := (y 0).isLt
    have h1 : (y 1).val < 512 := (y 1).isLt
    show outsAt0 m c t.val t.isLt y = grad (A0 m c) (A1 m c) (((cfg0.win 2).blk t).view.emb y)
    have ey : (y : S1024x512.Idx) = ix2 (⟨(y 0).val, h0⟩ : Fin 1024) (⟨(y 1).val, h1⟩ : Fin 512) := funext fun a => match a with
      | ⟨0, _⟩ => rfl
      | ⟨1, _⟩ => rfl
    refine (congrArg (outsAt0 m c t.val t.isLt) ey).trans ?_
    rw [outs_at, grad_flat, h3, Cert.Sums.sum_runs]
    have ek : (((cfg0.win 2).blk t).view.emb y 0 : Fin 1024) = ⟨(y 0).val, h0⟩ := Fin.ext (by show win0_2.index t (0 : Fin 2) * 1024 + 1 * (y 0).val = (y 0).val; omega)
    have en : (((cfg0.win 2).blk t).view.emb y 1 : Fin 1024) = col t ⟨(y 1).val, h1⟩ := Fin.ext (by show win0_2.index t (1 : Fin 2) * 512 + 1 * (y 1).val = 512 * (t.val / 4) + (y 1).val; omega)
    refine Finset.sum_congr rfl fun r _ => ?_
    exact congrArg₂ (· * ·) (congrArg (flat (A0 m c) r) ek.symm) (congrArg (flat (A1 m c) r) en.symm)
  · have h0 : (i 0).val < 1024 := (i 0).isLt
    have h1 : (i 1).val < 1024 := (i 1).isLt
    obtain ⟨t, ht⟩ : ∃ t : Fin cfg0.N, t.val = 4 * ((i 1).val / 512) + 3 := ⟨⟨4 * ((i 1).val / 512) + 3, lt_of_lt_of_eq (by omega : _ < 8) N_0.symm⟩, rfl⟩
    obtain ⟨e0, e1⟩ := index2_at t
    refine ⟨t, (flush0_2 t).mpr (by omega), Finset.mem_map.mpr ⟨ix2 (⟨(i 0).val, h0⟩ : Fin 1024) (⟨(i 1).val % 512, Nat.mod_lt _ (by norm_num)⟩ : Fin 512), Finset.mem_univ _, ?_⟩⟩
    funext a
    apply Fin.ext
    match a with
    | ⟨0, _⟩ => show win0_2.index t (0 : Fin 2) * 1024 + 1 * (i 0).val = (i 0).val; omega
    | ⟨1, _⟩ => show win0_2.index t (1 : Fin 2) * 512 + 1 * ((i 1).val % 512) = (i 1).val; omega

end

/-! ### The reference -/

/-- The reference's contraction over batch and token is the gradient. -/
theorem ref_eq (x0 : In.Idx → EReal) (x1 : Ct.Idx → EReal) : Cert.ReferenceWMemIdeal.Read.val_main_v3 (F := Ideal) x0 x1 = grad x0 x1 := by
  funext i
  refine (Cert.ReferenceWMemIdeal.Read.val_main_v3_apply (F := Ideal) x0 x1 i).trans ?_
  unfold Cert.ReferenceWMemIdeal.Read.val_main_v2 grad
  pointwise
  refine Finset.sum_congr rfl fun b _ => Finset.sum_congr rfl fun t _ => ?_
  exact mul_comm _ _

end Cert.KernelWMemIdeal.WMem
-- ==== Proof.NormM.lean ====
/- The gradient of the memory's norm gain: what the norm's backward kernel leaves in the sums over the rows, added up, and that the reference's derivative is the same array. -/
module

public import proofs.«01_k».proof.Proof.Gen.KernelNormMIdeal.Frame
public import Idealize.ShloMosaic.Lib.Pipeline.Value
public import proofs.«01_k».proof.Proof.Gen.ReferenceNormMIdeal.Run
public import proofs.«01_k».proof.Proof.Gen.ReferenceNormMIdeal.Read
public import proofs.«01_k».proof.Proof.Sums
public import proofs.«01_k».proof.Proof.Norm
public import Idealize.ShloMosaic.Lib.Pointwise
public import Idealize.ShloMosaic.Lib.Claim
public import Idealize.ShloMosaic.Lib.Pipeline.ReadBack

@[expose] public section

noncomputable section

namespace Cert.KernelNormMIdeal.NormM

open Idealize.ShloMosaic Idealize.ShloMosaic.TcCoe Idealize.SL.Sem Cert.KernelNormMIdeal Cert.KernelNormMIdeal.Gen Cert.Sums

abbrev Md : Shape := ⟨3, ![4, 256, 1024]⟩

/-- One row's share of the gain's gradient, the sums over every eighth row, and the whole sum. -/
def term (dh x : Md.Idx → EReal) (n : ℕ) (j : Fin 1024) : EReal := flat dh n j * Norm.hat (fun k => flat x n k) j
def parts (dh x : Md.Idx → EReal) (i : S8x1024.Idx) : EReal := ∑ u ∈ Finset.range 128, term dh x (8 * u + (i 0).val) (i 1)
def gain (dh x : Md.Idx → EReal) (i : S1024.Idx) : EReal := ∑ n ∈ Finset.range (128 * 8), term dh x n (i 0)

/-! ### The kernel's body -/

theorem pay1_at (x : Vec Ideal S256x1024 .f32) (r : Fin 256) (j : Fin 1024) : k0_pay1 (F := Ideal) x (ix2 r j) = x (ix2 r j) := by
  unfold k0_pay1
  pointwise
theorem pay2_at (x : Vec Ideal S256x1024 .f32) (r : Fin 256) (j : Fin 1024) : k0_pay2 (F := Ideal) x (ix2 r j) = x (ix2 r j) := by
  unfold k0_pay2
  pointwise

/-- The inverse root of each row of a tile. -/
theorem pay3_at (x : Vec Ideal S256x1024 .f32) (r : Fin 256) : k0_pay3 (F := Ideal) x (ix2 r 0) = Norm.inv (fun j => x (ix2 r j)) := by
  unfold k0_pay3
  pointwise
  simp only [pay1_at]
  rfl

/-- The rows without their length. -/
theorem pay4_at (x : Vec Ideal S256x1024 .f32) (r : Fin 256) (j : Fin 1024) : k0_pay4 (F := Ideal) x (ix2 r j) = Norm.hat (fun j => x (ix2 r j)) j := by
  unfold k0_pay4
  pointwise
  rw [pay1_at, pay3_at]
  rfl

/-- A tile's sums are added to what the block holds. -/
theorem pay7_at (x dh : Vec Ideal S256x1024 .f32) (o : Vec Ideal S8x1024 .f32) (s : Fin 8) (j : Fin 1024) :
    k0_pay7 (F := Ideal) x dh o (ix2 s j) = o (ix2 s j) + ∑ q : Fin 32, dh (ix2 ⟨8 * q.val + s.val, by omega⟩ j) * Norm.hat (fun k => x (ix2 ⟨8 * q.val + s.val, by omega⟩ k)) j := by
  have e : ∀ q : Fin 32, shapeCast S32x8x1024 (mulf (k0_pay2 (F := Ideal) dh) (k0_pay4 (F := Ideal) x) : S256x1024.Idx → EReal) shapeCasts_S256x1024_S32x8x1024 (ix3 q s j)
      = dh (ix2 ⟨8 * q.val + s.val, by omega⟩ j) * Norm.hat (fun k => x (ix2 ⟨8 * q.val + s.val, by omega⟩ k)) j := fun q => by
    refine (groups _ _ q s j (by omega)).trans ?_
    pointwise
    rw [pay2_at, pay4_at]
  unfold k0_pay7
  dsimp only
  generalize hz : shapeCast S32x8x1024 (mulf (k0_pay2 (F := Ideal) dh) (k0_pay4 (F := Ideal) x)) shapeCasts_S256x1024_S32x8x1024 = z at e ⊢
  pointwise
  exact congrArg (_ + ·) (Finset.sum_congr rfl fun q _ => e q)

/-- The block starts from zero. -/
theorem pay6_at (i : S8x1024.Idx) : k0_pay6 (F := Ideal) i = 0 := Ideal.ofBits_zero .f32

/-- The body reads whole blocks. -/
theorem ld_256x1024 {e : EltTy} (x : Vec Ideal S256x1024 e) : View.ld x (Rect.unit ![0, 0] ![256, 1024] inb_S256x1024_S256x1024_0_0) = x :=
  View.ld_unit_zero (by funext a; fin_cases a <;> rfl) inb_S256x1024_S256x1024_0_0 x
theorem ld_8x1024 {e : EltTy} (x : Vec Ideal S8x1024 e) : View.ld x (Rect.unit ![0, 0] ![8, 1024] inb_S8x1024_S8x1024_0_0) = x :=
  View.ld_unit_zero (by funext a; fin_cases a <;> rfl) inb_S8x1024_S8x1024_0_0 x

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S8x1024 .f32) (harg5 : arg5.IsWhole)
  (x0 x1 : Vec Ideal S256x1024 .f32) (x2 : Vec Ideal S1x1024 .f32)

/-- What a point leaves in the block of sums, the first point and every other one. -/
theorem out_A4 (hc0 : cond0_0 i) :
    out0_A_4 c i arg1 harg1 arg2 harg2 arg3 harg3 arg4 harg4 arg5 harg5 hc0 x0 x1 x2 = k0_pay7 x1 x0 (k0_pay6 (F := Ideal)) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  simp (disch := first | decide | (intro a; fin_cases a <;> rfl)) only [View.readAt_eq_ld, ↓View.readCov_skip, ↓View.readCov_fill, View.readCov_cons_toLoadRect, harg5.read_unread, harg1.read_unread, harg2.read_unread, ld_256x1024, ld_8x1024]
  exact View.canon_cons_unit_zero (by funext a; fin_cases a <;> rfl) inb_S8x1024_S8x1024_0_0 _ _
theorem out_B4 (hc0 : ¬cond0_0 i) (xo4 : Vec Ideal S8x1024 .f32) :
    out0_B_4 c i arg1 harg1 arg2 harg2 arg3 harg3 arg4 harg4 arg5 harg5 hc0 x0 x1 x2 xo4 = k0_pay7 x1 x0 xo4 := by
  unfold out0_B_4
  rw [View.read_writes_eq_canon _ _ _ (cover0_B_4 c i arg1 harg1 arg2 harg2 arg3 harg3 arg4 harg4 arg5 harg5 hc0 x0 x1 x2 xo4)]
  unfold kernelRun0_B
  dsimp only
  sl_unfold_words
  simp (disch := first | decide | (intro a; fin_cases a <;> rfl)) only [View.readAt_eq_ld, ↓View.readCov_skip, ↓View.readCov_fill, View.readCov_cons_toLoadRect, harg5.read_unread, harg1.read_unread, harg2.read_unread, ld_256x1024, ld_8x1024]
  exact View.canon_cons_unit_zero (by funext a; fin_cases a <;> rfl) inb_S8x1024_S8x1024_0_0 _ _

end

/-- The eight rows together are the gradient. -/
theorem total_eq (dh x : Md.Idx → EReal) :
    Host.reduceAdd (F := Ideal) (φ := .f32) (parts dh x) (constant (F := Ideal) S_ .f32 0x00000000#32) reducesTo_S8x1024_S1024_d0 h_S_ = gain dh x := by
  funext i
  unfold gain
  rw [← fold8 (fun n => term dh x n (i 0)) 128]
  generalize hp : parts dh x = p
  pointwise
  subst hp
  rfl

/-! ### The blocks -/

section
variable (m : (ℓ : Loc nD τ sig) → Buf (Elt Ideal) ℓ) (c : Dev nD)

/-- The two arrays on a device. -/
abbrev A0 : Md.Idx → EReal := m ((c : Thread nD τ).loc main_arg0)
abbrev A1 : Md.Idx → EReal := m ((c : Thread nD τ).loc main_arg1)

/-- The arrays that the kernel is called on: the batches below one another. -/
theorem V_d (i : S1024x1024.Idx) : (V m c main_v0 : S1024x1024.Idx → EReal) i = flat (A0 m c) (i 0).val (i 1) := by
  have e : (V m c main_v0 : S1024x1024.Idx → EReal) = shapeCast S1024x1024 (A0 m c) shapeCasts_S4x256x1024_S1024x1024 := by
    show StableHlo.after hostOps0 (fun b => m (c, b)) (Proc.devRef .tc main_v0) = _
    after_results
    rfl
  rw [e]
  exact flat_shapeCast _ _ i
theorem V_x (i : S1024x1024.Idx) : (V m c main_v1 : S1024x1024.Idx → EReal) i = flat (A1 m c) (i 0).val (i 1) := by
  have e : (V m c main_v1 : S1024x1024.Idx → EReal) = shapeCast S1024x1024 (A1 m c) shapeCasts_S4x256x1024_S1024x1024 := by
    show StableHlo.after hostOps0 (fun b => m (c, b)) (Proc.devRef .tc main_v1) = _
    after_results
    rfl
  rw [e]
  exact flat_shapeCast _ _ i

/-- The blocks of a grid point. -/
theorem index0_at : ∀ t : Fin cfg0.N, win0_0.index t (0 : Fin 2) = t.val ∧ win0_0.index t (1 : Fin 2) = 0 :=
  (by decide +kernel : ∀ t : Fin grid0.N, _)
theorem index1_at : ∀ t : Fin cfg0.N, win0_1.index t (0 : Fin 2) = t.val ∧ win0_1.index t (1 : Fin 2) = 0 :=
  (by decide +kernel : ∀ t : Fin grid0.N, _)
theorem index4_at : ∀ t : Fin cfg0.N, win0_4.index t (0 : Fin 2) = 0 ∧ win0_4.index t (1 : Fin 2) = 0 :=
  (by decide +kernel : ∀ t : Fin grid0.N, _)

/-- The rows that a point reads. -/
theorem d_in (t : Fin cfg0.N) (r : Fin 256) (j : Fin 1024) : (iblk m c 0 t : S256x1024.Idx → EReal) (ix2 r j) = flat (A0 m c) (256 * t.val + r.val) j := by
  obtain ⟨e0, e1⟩ := index0_at t
  refine Eq.trans ?_ (V_d m c (ix2 (⟨256 * t.val + r.val, by have : t.val < 4 := lt_of_lt_of_eq t.isLt N_0; omega⟩ : Fin 1024) (⟨j.val, by omega⟩ : Fin 1024)))
  unfold iblk
  show (V m c main_v0 : S1024x1024.Idx → EReal) _ = _
  congr 1
  funext a
  apply Fin.ext
  match a with
  | ⟨0, _⟩ => show win0_0.index t (0 : Fin 2) * 256 + 1 * r.val = 256 * t.val + r.val; omega
  | ⟨1, _⟩ => show win0_0.index t (1 : Fin 2) * 1024 + 1 * j.val = j.val; omega
theorem x_in (t : Fin cfg0.N) (r : Fin 256) (j : Fin 1024) : (iblk m c 1 t : S256x1024.Idx → EReal) (ix2 r j) = flat (A1 m c) (256 * t.val + r.val) j := by
  obtain ⟨e0, e1⟩ := index1_at t
  refine Eq.trans ?_ (V_x m c (ix2 (⟨256 * t.val + r.val, by have : t.val < 4 := lt_of_lt_of_eq t.isLt N_0; omega⟩ : Fin 1024) (⟨j.val, by omega⟩ : Fin 1024)))
  unfold iblk
  show (V m c main_v1 : S1024x1024.Idx → EReal) _ = _
  congr 1
  funext a
  apply Fin.ext
  match a with
  | ⟨0, _⟩ => show win0_1.index t (0 : Fin 2) * 256 + 1 * r.val = 256 * t.val + r.val; omega
  | ⟨1, _⟩ => show win0_1.index t (1 : Fin 2) * 1024 + 1 * j.val = j.val; omega

/-- A point's sums. -/
theorem tile4 (t : Fin cfg0.N) (o : Vec Ideal S8x1024 .f32) (s : Fin 8) (j : Fin 1024) :
    k0_pay7 (F := Ideal) (iblk m c 1 t) (iblk m c 0 t) o (ix2 s j) = o (ix2 s j) + ∑ q : Fin 32, term (A0 m c) (A1 m c) (8 * (32 * t.val + q.val) + s.val) j := by
  refine (pay7_at _ _ _ _ _).trans (congrArg (_ + ·) (Finset.sum_congr rfl fun q _ => ?_))
  rw [show 8 * (32 * t.val + q.val) + s.val = 256 * t.val + (8 * q.val + s.val) by omega]
  exact congrArg₂ (· * ·) (d_in m c t ⟨8 * q.val + s.val, by omega⟩ j) (congrFun (congrArg Norm.hat (funext fun k => x_in m c t ⟨8 * q.val + s.val, by omega⟩ k)) j)

/-- The block of sums after the first point, and after every other one. -/
theorem step_A (t : Fin cfg0.N) (h0 : t.val % 4 = 0) : (outsAt0 m c t.val t.isLt).2 = k0_pay7 (F := Ideal) (iblk m c 1 t) (iblk m c 0 t) (k0_pay6 (F := Ideal)) := by
  rw [outsAt0_A m c t h0]
  dsimp only
  rw [out_A4]
theorem step_B (t : Fin cfg0.N) (h0 : ¬t.val % 4 = 0) : (outsAt0 m c t.val t.isLt).2 = k0_pay7 (F := Ideal) (iblk m c 1 t) (iblk m c 0 t) (outsAt0 m c (t.val - 1) (Nat.lt_of_le_of_lt (Nat.sub_le _ _) t.isLt)).2 := by
  rw [outsAt0_B m c t h0]
  dsimp only
  rw [out_B4]

/-- After a point the block holds the sums over the tiles so far. -/
theorem outs4_at (s : Fin 8) (j : Fin 1024) : ∀ (t : ℕ) (h : t < cfg0.N), (outsAt0 m c t h).2 (ix2 s j)
    = ∑ u ∈ Finset.range (t + 1), ∑ q : Fin 32, term (A0 m c) (A1 m c) (8 * (32 * u + q.val) + s.val) j := by
  intro t
  induction t with
  | zero =>
    intro h
    refine (congrFun (step_A m c ⟨0, h⟩ rfl) (ix2 s j)).trans ?_
    refine (tile4 m c ⟨0, h⟩ _ s j).trans ?_
    rw [pay6_at, zero_add]
    simp
  | succ t ih =>
    intro h
    refine (congrFun (step_B m c ⟨t + 1, h⟩ (by have := lt_of_lt_of_eq h N_0; show ¬(t + 1) % 4 = 0; omega)) (ix2 s j)).trans ?_
    refine (tile4 m c ⟨t + 1, h⟩ _ s j).trans ?_
    show (outsAt0 m c t _).2 (ix2 s j) + _ = _
    rw [ih (by omega), Finset.sum_range_succ _ (t + 1)]

/-- The block at the end: eight rows of sums. -/
theorem parts_eq : (Gen.dats m 0 c).arrAt 4 cfg0.N = (parts (A0 m c) (A1 m c) : S8x1024.Idx → EReal) := by
  refine (Gen.dats m 0 c).arrAt_eq_of_cover 4 (parts (A0 m c) (A1 m c) : S8x1024.Idx → EReal) (fun t hf => ?_) (fun i => ?_)
  · have h3 := (flush0_4 t).mp hf
    have hN : t.val < 4 := lt_of_lt_of_eq t.isLt N_0
    obtain ⟨e0, e1⟩ := index4_at t
    show (cfg0.win 4).cut _ ((Gen.dats m 0 c).after 4 t) = _
    rw [after0_4]
    funext y
    have h0 : (y 0).val < 8 := (y 0).isLt
    have h1 : (y 1).val < 1024 := (y 1).isLt
    show (outsAt0 m c t.val t.isLt).2 y = parts (A0 m c) (A1 m c) (((cfg0.win 4).blk t).view.emb y)
    have ey : (y : S8x1024.Idx) = ix2 (⟨(y 0).val, h0⟩ : Fin 8) (⟨(y 1).val, h1⟩ : Fin 1024) := funext fun a => match a with
      | ⟨0, _⟩ => rfl
      | ⟨1, _⟩ => rfl
    have ez : (((cfg0.win 4).blk t).view.emb y : S8x1024.Idx) = ix2 (⟨(y 0).val, h0⟩ : Fin 8) (⟨(y 1).val, h1⟩ : Fin 1024) := funext fun a => Fin.ext (match a with
      | ⟨0, _⟩ => by show win0_4.index t (0 : Fin 2) * 8 + 1 * (y 0).val = (y 0).val; omega
      | ⟨1, _⟩ => by show win0_4.index t (1 : Fin 2) * 1024 + 1 * (y 1).val = (y 1).val; omega)
    refine (congrArg (outsAt0 m c t.val t.isLt).2 ey).trans (Eq.trans ?_ (congrArg (parts (A0 m c) (A1 m c)) ez).symm)
    rw [outs4_at, show t.val + 1 = 4 by omega, sum_runs 32 (fun u => term (A0 m c) (A1 m c) (8 * u + _) _) 4]
    rfl
  · have h0 : (i 0).val < 8 := (i 0).isLt
    have h1 : (i 1).val < 1024 := (i 1).isLt
    obtain ⟨t, ht⟩ : ∃ t : Fin cfg0.N, t.val = 3 := ⟨⟨3, lt_of_lt_of_eq (by omega : _ < 4) N_0.symm⟩, rfl⟩
    obtain ⟨e0, e1⟩ := index4_at t
    refine ⟨t, (flush0_4 t).mpr (by omega), Finset.mem_map.mpr ⟨ix2 (⟨(i 0).val, h0⟩ : Fin 8) (⟨(i 1).val, h1⟩ : Fin 1024), Finset.mem_univ _, ?_⟩⟩
    funext a
    apply Fin.ext
    match a with
    | ⟨0, _⟩ => show win0_4.index t (0 : Fin 2) * 8 + 1 * (i 0).val = (i 0).val; omega
    | ⟨1, _⟩ => show win0_4.index t (1 : Fin 2) * 1024 + 1 * (i 1).val = (i 1).val; omega

/-- What the call leaves, and the sum that the host takes after it. -/
theorem tail_eq : Pipeline.afterTail₀ cfgs (Gen.dats m) 0 (V0 m) [hostOps1] c main_v3 = gain (A0 m c) (A1 m c) := by
  have e : Pipeline.afterTail₀ cfgs (Gen.dats m) 0 (V0 m) [hostOps1] c main_v3 = Host.reduceAdd (F := Ideal) (φ := .f32) (parts (A0 m c) (A1 m c) : S8x1024.Idx → EReal) (constant (F := Ideal) S_ .f32 0x00000000#32) reducesTo_S8x1024_S1024_d0 h_S_ := by
    unfold Pipeline.afterTail₀
    after_results_simp
    refine congrArg (fun x => Host.reduceAdd (F := Ideal) (φ := .f32) x (constant (F := Ideal) S_ .f32 0x00000000#32) reducesTo_S8x1024_S1024_d0 h_S_) ?_
    refine (StableHlo.nullary_result_ne _ _ _ _ (by decide)).trans ?_
    exact ((Pipeline.withArrays_arr spec0 (by decide) c (V0 m c) _ 4).trans (parts_eq m c))
  exact e.trans (total_eq (A0 m c) (A1 m c))

/-- The run of the program: the gradient, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v3) = gain (A0 m c) (A1 m c)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v3 (Pipeline.mem_restRefs_of main_v3 (by decide) (by decide))).trans (tail_eq m c), h.2 c⟩)
    (θ_run_and (run_main m ρ) (unchanged m ρ))

end

/-! ### The reference -/

open Cert.ReferenceNormMIdeal Cert.ReferenceNormMIdeal.Read

/-- The reference's gradient of the gain. -/
theorem ref_gain_at (x0 x1 : Md.Idx → EReal) (j : Fin 1024) : val_main_v17 (F := Ideal) x0 x1 (ix1 j) = gain x0 x1 (ix1 j) := by
  unfold val_main_v17 val_main_cst_3 val_main_v16
  pointwise
  refine (sum_first_two _ _ _ _).trans ?_
  rw [zero_add, Fin.sum_univ_one, Fin.sum_univ_one]
  pointwise
  unfold val_main_v15 val_main_cst_2 val_main_v14 val_main_v10 val_main_v9 val_main_v8 val_main_v7 val_main_v6 val_main_cst_1 val_main_v5 val_main_v4 val_main_cst_0 val_main_v3 val_main_v2 val_main_cst val_main_v1 gain
  pointwise
  refine (sum_first_two _ _ _ _).trans ?_
  rw [zero_add]
  pointwise
  refine Eq.trans ?_ (sum_pairs 4 256 fun n => term x0 x1 n j)
  refine Finset.sum_congr rfl fun b _ => Finset.sum_congr rfl fun t _ => ?_
  unfold term
  simp only [← flat_ix3]
  exact mul_comm _ _

theorem ref_gain (x0 x1 : Md.Idx → EReal) : val_main_v17 (F := Ideal) x0 x1 = gain x0 x1 := by
  funext i
  have e : i = ix1 (i 0) := funext fun a => match a with | ⟨0, _⟩ => rfl
  rw [e]
  exact ref_gain_at x0 x1 (i 0)

end Cert.KernelNormMIdeal.NormM
-- ==== Proof.ProjMem.lean ====
/- The memory's key and value projection: what the kernel leaves from its tiles' products, and that the reference's product is the same array. -/
module

public import proofs.«01_k».proof.Proof.Gen.KernelProjMemIdeal.Value
public import proofs.«01_k».proof.Proof.Gen.ReferenceProjMemIdeal.Run
public import proofs.«01_k».proof.Proof.Gen.ReferenceProjMemIdeal.Read
public import proofs.«01_k».proof.Proof.Sums
public import Idealize.ShloMosaic.Lib.Pointwise
public import Idealize.ShloMosaic.Lib.Claim

@[expose] public section

noncomputable section

namespace Cert.KernelProjMemIdeal.ProjMem

open Idealize.ShloMosaic Idealize.ShloMosaic.TcCoe Idealize.SL.Sem Cert.KernelProjMemIdeal Cert.KernelProjMemIdeal.Gen Cert.Sums

abbrev In : Shape := ⟨3, ![4, 256, 1024]⟩

/-- The product of the memory tokens' rows and the weights. -/
def out (x : In.Idx → EReal) (w : S1024x1024.Idx → EReal) (i : S1024x1024.Idx) : EReal :=
  ∑ k : Fin 1024, flat x (i 0).val k * w (ix2 k (i 1))

section
variable (m : (ℓ : Loc nD τ sig) → Buf (Elt Ideal) ℓ) (c : Dev nD)

/-- The two arguments on a device. -/
abbrev A0 : In.Idx → EReal := m ((c : Thread nD τ).loc main_arg0)
abbrev A1 : S1024x1024.Idx → EReal := m ((c : Thread nD τ).loc main_arg1)

/-- The arrays that the kernel is called on: the first with its batches below one another. -/
theorem V_x (i : S1024x1024.Idx) : (V m c main_v1 : S1024x1024.Idx → EReal) i = flat (A0 m c) (i 0).val (i 1) := by
  have e : (V m c main_v1 : S1024x1024.Idx → EReal) = shapeCast S1024x1024 (A0 m c) shapeCasts_S4x256x1024_S1024x1024 := by
    unfold_abbrev_sides
    after_results
    rfl
  rw [e]
  exact flat_shapeCast _ _ i
theorem V_w : (V m c main_v2 : S1024x1024.Idx → EReal) = A1 m c := by
  unfold_abbrev_sides
  after_results
  rfl

/-- The blocks of a grid point. -/
theorem index_at : ∀ t : Fin cfg0.N, (win0_0.index t (0 : Fin 2) = t.val % 4 ∧ win0_0.index t (1 : Fin 2) = 0)
    ∧ (win0_1.index t (0 : Fin 2) = 0 ∧ win0_1.index t (1 : Fin 2) = t.val / 4) ∧ (win0_2.index t (0 : Fin 2) = t.val % 4 ∧ win0_2.index t (1 : Fin 2) = t.val / 4) :=
  (by decide +kernel : ∀ t : Fin grid0.N, _)

/-- A point's block of rows, and its block of the second argument. -/
theorem x_in (t : Fin cfg0.N) (r : Fin 256) (j : Fin 1024) : (iblk m c 0 t : S256x1024.Idx → EReal) (ix2 r j) = flat (A0 m c) (256 * (t.val % 4) + r.val) j := by
  obtain ⟨⟨e0, e1⟩, -⟩ := index_at t
  have ht : t.val < 8 := lt_of_lt_of_eq t.isLt N_0
  refine Eq.trans ?_ (V_x m c (ix2 (⟨256 * (t.val % 4) + r.val, by omega⟩ : Fin 1024) j))
  unfold iblk
  show (V m c main_v1 : S1024x1024.Idx → EReal) _ = _
  congr 1
  funext a
  apply Fin.ext
  match a with
  | ⟨0, _⟩ => show win0_0.index t (0 : Fin 2) * 256 + 1 * r.val = 256 * (t.val % 4) + r.val; omega
  | ⟨1, _⟩ => show win0_0.index t (1 : Fin 2) * 1024 + 1 * j.val = j.val; omega
theorem w_in (t : Fin cfg0.N) (k : Fin 1024) (j : Fin 512) : (iblk m c 1 t : S1024x512.Idx → EReal) (ix2 k j)
    = A1 m c (ix2 k (⟨512 * (t.val / 4) + j.val, by have : t.val < 8 := lt_of_lt_of_eq t.isLt N_0; omega⟩ : Fin 1024)) := by
  obtain ⟨-, ⟨e0, e1⟩, -⟩ := index_at t
  rw [← V_w]
  unfold iblk
  show (V m c main_v2 : S1024x1024.Idx → EReal) _ = _
  congr 1
  funext a
  apply Fin.ext
  match a with
  | ⟨0, _⟩ => show win0_1.index t (0 : Fin 2) * 1024 + 1 * k.val = k.val; omega
  | ⟨1, _⟩ => show win0_1.index t (1 : Fin 2) * 512 + 1 * j.val = 512 * (t.val / 4) + j.val; omega

/-- What the body computes from its two blocks. -/
theorem pay1_at (x : Vec Ideal S256x1024 .bf16) (w : Vec Ideal S1024x512 .bf16) (r : Fin 256) (n : Fin 512) :
    k0_pay1 (F := Ideal) x w (ix2 r n) = ∑ k : Fin 1024, x (ix2 r k) * w (ix2 k n) := by
  unfold k0_pay1
  pointwise

theorem ld_x (x : Vec Ideal S256x1024 .bf16) : View.ld x r0_0 = x := View.ld_unit_zero (by funext a; fin_cases a <;> rfl) inb_S256x1024_S256x1024_0_0 x
theorem ld_w (x : Vec Ideal S1024x512 .bf16) : View.ld x r0_1 = x := View.ld_unit_zero (by funext a; fin_cases a <;> rfl) inb_S1024x512_S1024x512_0_0 x

/-- What a point leaves in the output's block. -/
theorem out_eq (x : Vec Ideal S256x1024 .bf16) (w : Vec Ideal S1024x512 .bf16) : out0_2 x w = k0_pay1 x w := by
  unfold out0_2
  rw [ld_x, ld_w]
  exact View.canon_unit_zero (by funext a; fin_cases a <;> rfl) inb_S256x512_S256x512_0_0 _

/-- The array that the kernel returns. -/
theorem arr_eq : (Gen.dats m 0 c).arrAt 2 cfg0.N = (out (A0 m c) (A1 m c) : S1024x1024.Idx → EReal) := by
  refine (Gen.dats m 0 c).arrAt_eq_of_cover 2 (out (A0 m c) (A1 m c) : S1024x1024.Idx → EReal) (fun t _ => ?_) (fun i => ?_)
  · obtain ⟨-, -, e0, e1⟩ := index_at t
    rw [Value.flushed2, out_eq]
    funext y
    have h0 : (y 0).val < 256 := (y 0).isLt
    have h1 : (y 1).val < 512 := (y 1).isLt
    have ht : t.val < 8 := lt_of_lt_of_eq t.isLt N_0
    show k0_pay1 (F := Ideal) (iblk m c 0 t) (iblk m c 1 t) y = out (A0 m c) (A1 m c) (((cfg0.win 2).blk t).view.emb y)
    have ey : (y : S256x512.Idx) = ix2 (⟨(y 0).val, h0⟩ : Fin 256) (⟨(y 1).val, h1⟩ : Fin 512) := funext fun a => match a with
      | ⟨0, _⟩ => rfl
      | ⟨1, _⟩ => rfl
    refine (congrArg (k0_pay1 (F := Ideal) (iblk m c 0 t) (iblk m c 1 t)) ey).trans ?_
    refine (pay1_at _ _ _ _).trans ?_
    have er : (((cfg0.win 2).blk t).view.emb y 0 : Fin 1024).val = 256 * (t.val % 4) + (y 0).val := by show win0_2.index t (0 : Fin 2) * 256 + 1 * (y 0).val = _; omega
    have en : (((cfg0.win 2).blk t).view.emb y 1 : Fin 1024) = (⟨512 * (t.val / 4) + (y 1).val, by omega⟩ : Fin 1024) := Fin.ext (by show win0_2.index t (1 : Fin 2) * 512 + 1 * (y 1).val = 512 * (t.val / 4) + (y 1).val; omega)
    unfold out
    rw [er, en]
    exact Finset.sum_congr rfl fun k _ => congrArg₂ (· * ·) (x_in m c t _ k) (w_in m c t k _)
  · have h0 : (i 0).val < 1024 := (i 0).isLt
    have h1 : (i 1).val < 1024 := (i 1).isLt
    obtain ⟨t, ht⟩ : ∃ t : Fin cfg0.N, t.val = 4 * ((i 1).val / 512) + (i 0).val / 256 := ⟨⟨4 * ((i 1).val / 512) + (i 0).val / 256, lt_of_lt_of_eq (by omega : _ < 8) N_0.symm⟩, rfl⟩
    obtain ⟨-, -, e0, e1⟩ := index_at t
    refine ⟨t, flush0_2 t, Finset.mem_map.mpr ⟨ix2 (⟨(i 0).val % 256, Nat.mod_lt _ (by norm_num)⟩ : Fin 256) (⟨(i 1).val % 512, Nat.mod_lt _ (by norm_num)⟩ : Fin 512), Finset.mem_univ _, ?_⟩⟩
    funext a
    apply Fin.ext
    match a with
    | ⟨0, _⟩ => show win0_2.index t (0 : Fin 2) * 256 + 1 * ((i 0).val % 256) = (i 0).val; omega
    | ⟨1, _⟩ => show win0_2.index t (1 : Fin 2) * 512 + 1 * ((i 1).val % 512) = (i 1).val; omega

end

/-! ### The reference -/

open Cert.ReferenceProjMemIdeal Cert.ReferenceProjMemIdeal.Read

/-- The reference's product, its batches below one another. -/
theorem ref_eq (x : In.Idx → EReal) (w : S1024x1024.Idx → EReal) : val_main_v1 (F := Ideal) x w = out x w := by
  funext i
  have e : val_main_v1 (F := Ideal) x w i = flat (val_main_v0 (F := Ideal) x w) (i 0).val (i 1) := by
    unfold val_main_v1
    exact flat_shapeCast _ _ i
  rw [e]
  unfold flat
  refine (val_main_v0_apply x w _).trans ?_
  unfold out flat
  refine Finset.sum_congr rfl fun k _ => congrArg₂ (· * ·) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

end Cert.KernelProjMemIdeal.ProjMem
-- ==== Proof.DMemn.lean ====
/- The gradient of the memory projection's input: what the kernel leaves from its tiles' products, and that the reference's derivative is the same array. -/
module

public import proofs.«01_k».proof.Proof.Gen.KernelDMemnIdeal.Value
public import proofs.«01_k».proof.Proof.Gen.ReferenceDMemnIdeal.Run
public import proofs.«01_k».proof.Proof.Gen.ReferenceDMemnIdeal.Read
public import proofs.«01_k».proof.Proof.Sums
public import Idealize.ShloMosaic.Lib.Pointwise
public import Idealize.ShloMosaic.Lib.Claim

@[expose] public section

noncomputable section

namespace Cert.KernelDMemnIdeal.DMemn

open Idealize.ShloMosaic Idealize.ShloMosaic.TcCoe Idealize.SL.Sem Cert.KernelDMemnIdeal Cert.KernelDMemnIdeal.Gen Cert.Sums

abbrev In : Shape := ⟨3, ![4, 256, 1024]⟩

/-- The product of the gradient's rows and the weights' rows. -/
def out (x : In.Idx → EReal) (w : S1024x1024.Idx → EReal) (i : S1024x1024.Idx) : EReal :=
  ∑ k : Fin 1024, flat x (i 0).val k * w (ix2 (i 1) k)

section
variable (m : (ℓ : Loc nD τ sig) → Buf (Elt Ideal) ℓ) (c : Dev nD)

/-- The two arguments on a device. -/
abbrev A0 : In.Idx → EReal := m ((c : Thread nD τ).loc main_arg0)
abbrev A1 : S1024x1024.Idx → EReal := m ((c : Thread nD τ).loc main_arg1)

/-- The arrays that the kernel is called on: the first with its batches below one another. -/
theorem V_x (i : S1024x1024.Idx) : (V m c main_v1 : S1024x1024.Idx → EReal) i = flat (A0 m c) (i 0).val (i 1) := by
  have e : (V m c main_v1 : S1024x1024.Idx → EReal) = shapeCast S1024x1024 (A0 m c) shapeCasts_S4x256x1024_S1024x1024 := by
    unfold_abbrev_sides
    after_results
    rfl
  rw [e]
  exact flat_shapeCast _ _ i
theorem V_w : (V m c main_v2 : S1024x1024.Idx → EReal) = A1 m c := by
  unfold_abbrev_sides
  after_results
  rfl

/-- The blocks of a grid point. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0) :=
  (by decide +kernel : ∀ t : Fin grid0.N, _)

/-- A point's block of rows, and its block of the second argument. -/
theorem x_in (t : Fin cfg0.N) (r : Fin 256) (j : Fin 1024) : (iblk m c 0 t : S256x1024.Idx → EReal) (ix2 r j) = flat (A0 m c) (256 * t.val + r.val) j := by
  obtain ⟨⟨e0, e1⟩, -⟩ := index_at t
  have ht : t.val < 4 := lt_of_lt_of_eq t.isLt N_0
  refine Eq.trans ?_ (V_x m c (ix2 (⟨256 * t.val + r.val, by omega⟩ : Fin 1024) j))
  unfold iblk
  show (V m c main_v1 : S1024x1024.Idx → EReal) _ = _
  congr 1
  funext a
  apply Fin.ext
  match a with
  | ⟨0, _⟩ => show win0_0.index t (0 : Fin 2) * 256 + 1 * r.val = 256 * t.val + r.val; omega
  | ⟨1, _⟩ => show win0_0.index t (1 : Fin 2) * 1024 + 1 * j.val = j.val; omega
theorem w_in (t : Fin cfg0.N) (k : Fin 1024) (j : Fin 1024) : (iblk m c 1 t : S1024x1024.Idx → EReal) (ix2 k j)
    = A1 m c (ix2 k j) := by
  obtain ⟨-, ⟨e0, e1⟩, -⟩ := index_at t
  rw [← V_w]
  unfold iblk
  show (V m c main_v2 : S1024x1024.Idx → EReal) _ = _
  congr 1
  funext a
  apply Fin.ext
  match a with
  | ⟨0, _⟩ => show win0_1.index t (0 : Fin 2) * 1024 + 1 * k.val = k.val; omega
  | ⟨1, _⟩ => show win0_1.index t (1 : Fin 2) * 1024 + 1 * j.val = j.val; omega

/-- What the body computes from its two blocks. -/
theorem pay1_at (x : Vec Ideal S256x1024 .bf16) (w : Vec Ideal S1024x1024 .bf16) (r : Fin 256) (n : Fin 1024) :
    k0_pay1 (F := Ideal) x w (ix2 r n) = ∑ k : Fin 1024, x (ix2 r k) * w (ix2 n k) := by
  unfold k0_pay1
  pointwise

theorem ld_x (x : Vec Ideal S256x1024 .bf16) : View.ld x r0_0 = x := View.ld_unit_zero (by funext a; fin_cases a <;> rfl) inb_S256x1024_S256x1024_0_0 x
theorem ld_w (x : Vec Ideal S1024x1024 .bf16) : View.ld x r0_1 = x := View.ld_unit_zero (by funext a; fin_cases a <;> rfl) inb_S1024x1024_S1024x1024_0_0 x

/-- What a point leaves in the output's block. -/
theorem out_eq (x : Vec Ideal S256x1024 .bf16) (w : Vec Ideal S1024x1024 .bf16) : out0_2 x w = k0_pay1 x w := by
  unfold out0_2
  rw [ld_x, ld_w]
  exact View.canon_unit_zero (by funext a; fin_cases a <;> rfl) inb_S256x1024_S256x1024_0_0 _

/-- The array that the kernel returns. -/
theorem arr_eq : (Gen.dats m 0 c).arrAt 2 cfg0.N = (out (A0 m c) (A1 m c) : S1024x1024.Idx → EReal) := by
  refine (Gen.dats m 0 c).arrAt_eq_of_cover 2 (out (A0 m c) (A1 m c) : S1024x1024.Idx → EReal) (fun t _ => ?_) (fun i => ?_)
  · obtain ⟨-, -, e0, e1⟩ := index_at t
    rw [Value.flushed2, out_eq]
    funext y
    have h0 : (y 0).val < 256 := (y 0).isLt
    have h1 : (y 1).val < 1024 := (y 1).isLt
    have ht : t.val < 4 := lt_of_lt_of_eq t.isLt N_0
    show k0_pay1 (F := Ideal) (iblk m c 0 t) (iblk m c 1 t) y = out (A0 m c) (A1 m c) (((cfg0.win 2).blk t).view.emb y)
    have ey : (y : S256x1024.Idx) = ix2 (⟨(y 0).val, h0⟩ : Fin 256) (⟨(y 1).val, h1⟩ : Fin 1024) := funext fun a => match a with
      | ⟨0, _⟩ => rfl
      | ⟨1, _⟩ => rfl
    refine (congrArg (k0_pay1 (F := Ideal) (iblk m c 0 t) (iblk m c 1 t)) ey).trans ?_
    refine (pay1_at _ _ _ _).trans ?_
    have er : (((cfg0.win 2).blk t).view.emb y 0 : Fin 1024).val = 256 * t.val + (y 0).val := by show win0_2.index t (0 : Fin 2) * 256 + 1 * (y 0).val = _; omega
    have en : (((cfg0.win 2).blk t).view.emb y 1 : Fin 1024) = ⟨(y 1).val, h1⟩ := Fin.ext (by show win0_2.index t (1 : Fin 2) * 1024 + 1 * (y 1).val = (y 1).val; omega)
    unfold out
    rw [er, en]
    refine Finset.sum_congr rfl fun k _ => congrArg₂ (· * ·) (x_in m c t _ k) (w_in m c t _ k)
  · have h0 : (i 0).val < 1024 := (i 0).isLt
    have h1 : (i 1).val < 1024 := (i 1).isLt
    obtain ⟨t, ht⟩ : ∃ t : Fin cfg0.N, t.val = (i 0).val / 256 := ⟨⟨(i 0).val / 256, lt_of_lt_of_eq (by omega : _ < 4) N_0.symm⟩, rfl⟩
    obtain ⟨-, -, e0, e1⟩ := index_at t
    refine ⟨t, flush0_2 t, Finset.mem_map.mpr ⟨ix2 (⟨(i 0).val % 256, Nat.mod_lt _ (by norm_num)⟩ : Fin 256) (⟨(i 1).val % 1024, Nat.mod_lt _ (by norm_num)⟩ : Fin 1024), Finset.mem_univ _, ?_⟩⟩
    funext a
    apply Fin.ext
    match a with
    | ⟨0, _⟩ => show win0_2.index t (0 : Fin 2) * 256 + 1 * ((i 0).val % 256) = (i 0).val; omega
    | ⟨1, _⟩ => show win0_2.index t (1 : Fin 2) * 1024 + 1 * ((i 1).val % 1024) = (i 1).val; omega

end

/-! ### The reference -/

open Cert.ReferenceDMemnIdeal Cert.ReferenceDMemnIdeal.Read

/-- The reference's derivative, its batches below one another. -/
theorem ref_eq (x : In.Idx → EReal) (w : S1024x1024.Idx → EReal) : val_main_v3 (F := Ideal) x w = out x w := by
  funext i
  have e : val_main_v3 (F := Ideal) x w i = flat (val_main_v2 (F := Ideal) x w) (i 0).val (i 1) := by
    unfold val_main_v3
    exact flat_shapeCast _ _ i
  rw [e]
  unfold flat
  refine (val_main_v2_apply x w _).trans ?_
  unfold out flat
  refine Finset.sum_congr rfl fun k _ => congrArg₂ (· * ·) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

end Cert.KernelDMemnIdeal.DMemn
-- ==== Proof.NormF.lean ====
/- The norm of the block's input: what the kernel leaves from its tiles, and that the reference's norm is the same array. -/
module

public import proofs.«01_k».proof.Proof.Gen.KernelNormFIdeal.Value
public import proofs.«01_k».proof.Proof.Gen.ReferenceNormFIdeal.Run
public import proofs.«01_k».proof.Proof.Gen.ReferenceNormFIdeal.Read
public import proofs.«01_k».proof.Proof.Norm
public import proofs.«01_k».proof.Proof.Sums
public import Idealize.ShloMosaic.Lib.Pointwise
public import Idealize.ShloMosaic.Lib.Claim

@[expose] public section

noncomputable section

namespace Cert.KernelNormFIdeal.NormF

open Idealize.ShloMosaic Idealize.ShloMosaic.TcCoe Idealize.SL.Sem Cert.KernelNormFIdeal Cert.KernelNormFIdeal.Gen Cert.Sums

abbrev In : Shape := ⟨3, ![4, 2048, 1024]⟩

/-- The root-mean-square norm of each row times the gain. -/
def out (x : In.Idx → EReal) (w : S1x1024.Idx → EReal) (i : S8192x1024.Idx) : EReal :=
  Norm.hat (fun k => flat x (i 0).val k) (i 1) * w (ix2 0 (i 1))

section
variable (m : (ℓ : Loc nD τ sig) → Buf (Elt Ideal) ℓ) (c : Dev nD)

/-- The two arguments on a device. -/
abbrev A0 : In.Idx → EReal := m ((c : Thread nD τ).loc main_arg0)
abbrev A1 : S1x1024.Idx → EReal := m ((c : Thread nD τ).loc main_arg1)

/-- The arrays that the kernel is called on: the first with its batches below one another. -/
theorem V_x (i : S8192x1024.Idx) : (V m c main_v0 : S8192x1024.Idx → EReal) i = flat (A0 m c) (i 0).val (i 1) := by
  have e : (V m c main_v0 : S8192x1024.Idx → EReal) = shapeCast S8192x1024 (A0 m c) shapeCasts_S4x2048x1024_S8192x1024 := by
    unfold_abbrev_sides
    after_results
    rfl
  rw [e]
  exact flat_shapeCast _ _ i
theorem V_w : (V m c main_arg1 : S1x1024.Idx → EReal) = A1 m c := by
  unfold_abbrev_sides
  after_results

/-- The blocks of a grid point. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0) :=
  (by decide +kernel : ∀ t : Fin grid0.N, _)

/-- A point's block of rows, and its block of the second argument. -/
theorem x_in (t : Fin cfg0.N) (r : Fin 1024) (j : Fin 1024) : (iblk m c 0 t : S1024x1024.Idx → EReal) (ix2 r j) = flat (A0 m c) (1024 * t.val + r.val) j := by
  obtain ⟨⟨e0, e1⟩, -⟩ := index_at t
  have ht : t.val < 8 := lt_of_lt_of_eq t.isLt N_0
  refine Eq.trans ?_ (V_x m c (ix2 (⟨1024 * t.val + r.val, by omega⟩ : Fin 8192) j))
  unfold iblk
  show (V m c main_v0 : S8192x1024.Idx → EReal) _ = _
  congr 1
  funext a
  apply Fin.ext
  match a with
  | ⟨0, _⟩ => show win0_0.index t (0 : Fin 2) * 1024 + 1 * r.val = 1024 * t.val + r.val; omega
  | ⟨1, _⟩ => show win0_0.index t (1 : Fin 2) * 1024 + 1 * j.val = j.val; omega
theorem w_in (t : Fin cfg0.N) (k : Fin 1) (j : Fin 1024) : (iblk m c 1 t : S1x1024.Idx → EReal) (ix2 k j)
    = A1 m c (ix2 k j) := by
  obtain ⟨-, ⟨e0, e1⟩, -⟩ := index_at t
  rw [← V_w]
  unfold iblk
  show (V m c main_arg1 : S1x1024.Idx → EReal) _ = _
  congr 1
  funext a
  apply Fin.ext
  match a with
  | ⟨0, _⟩ => show win0_1.index t (0 : Fin 2) * 1 + 1 * k.val = k.val; omega
  | ⟨1, _⟩ => show win0_1.index t (1 : Fin 2) * 1024 + 1 * j.val = j.val; omega

/-- What the body computes from its two blocks. -/
theorem pay1_at (x : Vec Ideal S1024x1024 .f32) (w : Vec Ideal S1x1024 .f32) (r : Fin 1024) (n : Fin 1024) :
    k0_pay1 (F := Ideal) x w (ix2 r n) = Norm.hat (fun k => x (ix2 r k)) n * w (ix2 0 n) := by
  unfold k0_pay1
  pointwise
  rfl

theorem ld_x (x : Vec Ideal S1024x1024 .f32) : View.ld x r0_0 = x := View.ld_unit_zero (by funext a; fin_cases a <;> rfl) inb_S1024x1024_S1024x1024_0_0 x
theorem ld_w (x : Vec Ideal S1x1024 .f32) : View.ld x r0_1 = x := View.ld_unit_zero (by funext a; fin_cases a <;> rfl) inb_S1x1024_S1x1024_0_0 x

/-- What a point leaves in the output's block. -/
theorem out_eq (x : Vec Ideal S1024x1024 .f32) (w : Vec Ideal S1x1024 .f32) : out0_2 x w = k0_pay1 x w := by
  unfold out0_2
  rw [ld_x, ld_w]
  exact View.canon_unit_zero (by funext a; fin_cases a <;> rfl) inb_S1024x1024_S1024x1024_0_0 _

/-- The array that the kernel returns. -/
theorem arr_eq : (Gen.dats m 0 c).arrAt 2 cfg0.N = (out (A0 m c) (A1 m c) : S8192x1024.Idx → EReal) := by
  refine (Gen.dats m 0 c).arrAt_eq_of_cover 2 (out (A0 m c) (A1 m c) : S8192x1024.Idx → EReal) (fun t _ => ?_) (fun i => ?_)
  · obtain ⟨-, -, e0, e1⟩ := index_at t
    rw [Value.flushed2, out_eq]
    funext y
    have h0 : (y 0).val < 1024 := (y 0).isLt
    have h1 : (y 1).val < 1024 := (y 1).isLt
    have ht : t.val < 8 := lt_of_lt_of_eq t.isLt N_0
    show k0_pay1 (F := Ideal) (iblk m c 0 t) (iblk m c 1 t) y = out (A0 m c) (A1 m c) (((cfg0.win 2).blk t).view.emb y)
    have ey : (y : S1024x1024.Idx) = ix2 (⟨(y 0).val, h0⟩ : Fin 1024) (⟨(y 1).val, h1⟩ : Fin 1024) := funext fun a => match a with
      | ⟨0, _⟩ => rfl
      | ⟨1, _⟩ => rfl
    refine (congrArg (k0_pay1 (F := Ideal) (iblk m c 0 t) (iblk m c 1 t)) ey).trans ?_
    refine (pay1_at _ _ _ _).trans ?_
    have er : (((cfg0.win 2).blk t).view.emb y 0 : Fin 8192).val = 1024 * t.val + (y 0).val := by show win0_2.index t (0 : Fin 2) * 1024 + 1 * (y 0).val = _; omega
    have en : (((cfg0.win 2).blk t).view.emb y 1 : Fin 1024) = ⟨(y 1).val, h1⟩ := Fin.ext (by show win0_2.index t (1 : Fin 2) * 1024 + 1 * (y 1).val = (y 1).val; omega)
    unfold out
    rw [er, en]
    exact congrArg₂ (· * ·) (congrArg (Norm.hat · (⟨(y 1).val, h1⟩ : Fin 1024)) (funext fun k => x_in m c t _ k)) (w_in m c t 0 _)
  · have h0 : (i 0).val < 8192 := (i 0).isLt
    have h1 : (i 1).val < 1024 := (i 1).isLt
    obtain ⟨t, ht⟩ : ∃ t : Fin cfg0.N, t.val = (i 0).val / 1024 := ⟨⟨(i 0).val / 1024, lt_of_lt_of_eq (by omega : _ < 8) N_0.symm⟩, rfl⟩
    obtain ⟨-, -, e0, e1⟩ := index_at t
    refine ⟨t, flush0_2 t, Finset.mem_map.mpr ⟨ix2 (⟨(i 0).val % 1024, Nat.mod_lt _ (by norm_num)⟩ : Fin 1024) (⟨(i 1).val % 1024, Nat.mod_lt _ (by norm_num)⟩ : Fin 1024), Finset.mem_univ _, ?_⟩⟩
    funext a
    apply Fin.ext
    match a with
    | ⟨0, _⟩ => show win0_2.index t (0 : Fin 2) * 1024 + 1 * ((i 0).val % 1024) = (i 0).val; omega
    | ⟨1, _⟩ => show win0_2.index t (1 : Fin 2) * 1024 + 1 * ((i 1).val % 1024) = (i 1).val; omega

end

/-! ### The reference -/

open Cert.ReferenceNormFIdeal Cert.ReferenceNormFIdeal.Read

/-- The reference's norm of a token. -/
theorem ref_at (x : In.Idx → EReal) (w : S1x1024.Idx → EReal) (b : Fin 4) (t : Fin 2048) (j : Fin 1024) :
    val_main_v13 (F := Ideal) x w (ix3 b t j) = Norm.hat (fun k => x (ix3 b t k)) j * w (ix2 0 j) := by
  unfold val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  rfl

/-- The reference's norm, its batches below one another. -/
theorem ref_eq (x : In.Idx → EReal) (w : S1x1024.Idx → EReal) : val_main_v15 (F := Ideal) x w = out x w := by
  funext i
  refine Eq.trans (b := flat (val_main_v13 (F := Ideal) x w) (i 0).val (i 1)) ?_ (ref_at x w _ _ _)
  refine (val_main_v15_apply (F := Ideal) x w i).trans ?_
  show val_main_v14 (F := Ideal) x w i = _
  unfold val_main_v14
  exact flat_shapeCast _ _ i

end Cert.KernelNormFIdeal.NormF
-- ==== Proof.NormMF.lean ====
/- The norm of the memory: what the kernel leaves from its tiles, and that the reference's norm is the same array. -/
module

public import proofs.«01_k».proof.Proof.Gen.KernelNormMFIdeal.Value
public import proofs.«01_k».proof.Proof.Gen.ReferenceNormMFIdeal.Run
public import proofs.«01_k».proof.Proof.Gen.ReferenceNormMFIdeal.Read
public import proofs.«01_k».proof.Proof.Norm
public import proofs.«01_k».proof.Proof.Sums
public import Idealize.ShloMosaic.Lib.Pointwise
public import Idealize.ShloMosaic.Lib.Claim

@[expose] public section

noncomputable section

namespace Cert.KernelNormMFIdeal.NormMF

open Idealize.ShloMosaic Idealize.ShloMosaic.TcCoe Idealize.SL.Sem Cert.KernelNormMFIdeal Cert.KernelNormMFIdeal.Gen Cert.Sums

abbrev In : Shape := ⟨3, ![4, 256, 1024]⟩

/-- The root-mean-square norm of each row times the gain. -/
def out (x : In.Idx → EReal) (w : S1x1024.Idx → EReal) (i : S1024x1024.Idx) : EReal :=
  Norm.hat (fun k => flat x (i 0).val k) (i 1) * w (ix2 0 (i 1))

section
variable (m : (ℓ : Loc nD τ sig) → Buf (Elt Ideal) ℓ) (c : Dev nD)

/-- The two arguments on a device. -/
abbrev A0 : In.Idx → EReal := m ((c : Thread nD τ).loc main_arg0)
abbrev A1 : S1x1024.Idx → EReal := m ((c : Thread nD τ).loc main_arg1)

/-- The arrays that the kernel is called on: the first with its batches below one another. -/
theorem V_x (i : S1024x1024.Idx) : (V m c main_v0 : S1024x1024.Idx → EReal) i = flat (A0 m c) (i 0).val (i 1) := by
  have e : (V m c main_v0 : S1024x1024.Idx → EReal) = shapeCast S1024x1024 (A0 m c) shapeCasts_S4x256x1024_S1024x1024 := by
    unfold_abbrev_sides
    after_results
    rfl
  rw [e]
  exact flat_shapeCast _ _ i
theorem V_w : (V m c main_arg1 : S1x1024.Idx → EReal) = A1 m c := by
  unfold_abbrev_sides
  after_results

/-- The blocks of a grid point. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0) :=
  (by decide +kernel : ∀ t : Fin grid0.N, _)

/-- A point's block of rows, and its block of the second argument. -/
theorem x_in (t : Fin cfg0.N) (r : Fin 256) (j : Fin 1024) : (iblk m c 0 t : S256x1024.Idx → EReal) (ix2 r j) = flat (A0 m c) (256 * t.val + r.val) j := by
  obtain ⟨⟨e0, e1⟩, -⟩ := index_at t
  have ht : t.val < 4 := lt_of_lt_of_eq t.isLt N_0
  refine Eq.trans ?_ (V_x m c (ix2 (⟨256 * t.val + r.val, by omega⟩ : Fin 1024) j))
  unfold iblk
  show (V m c main_v0 : S1024x1024.Idx → EReal) _ = _
  congr 1
  funext a
  apply Fin.ext
  match a with
  | ⟨0, _⟩ => show win0_0.index t (0 : Fin 2) * 256 + 1 * r.val = 256 * t.val + r.val; omega
  | ⟨1, _⟩ => show win0_0.index t (1 : Fin 2) * 1024 + 1 * j.val = j.val; omega
theorem w_in (t : Fin cfg0.N) (k : Fin 1) (j : Fin 1024) : (iblk m c 1 t : S1x1024.Idx → EReal) (ix2 k j)
    = A1 m c (ix2 k j) := by
  obtain ⟨-, ⟨e0, e1⟩, -⟩ := index_at t
  rw [← V_w]
  unfold iblk
  show (V m c main_arg1 : S1x1024.Idx → EReal) _ = _
  congr 1
  funext a
  apply Fin.ext
  match a with
  | ⟨0, _⟩ => show win0_1.index t (0 : Fin 2) * 1 + 1 * k.val = k.val; omega
  | ⟨1, _⟩ => show win0_1.index t (1 : Fin 2) * 1024 + 1 * j.val = j.val; omega

/-- What the body computes from its two blocks. -/
theorem pay1_at (x : Vec Ideal S256x1024 .f32) (w : Vec Ideal S1x1024 .f32) (r : Fin 256) (n : Fin 1024) :
    k0_pay1 (F := Ideal) x w (ix2 r n) = Norm.hat (fun k => x (ix2 r k)) n * w (ix2 0 n) := by
  unfold k0_pay1
  pointwise
  rfl

theorem ld_x (x : Vec Ideal S256x1024 .f32) : View.ld x r0_0 = x := View.ld_unit_zero (by funext a; fin_cases a <;> rfl) inb_S256x1024_S256x1024_0_0 x
theorem ld_w (x : Vec Ideal S1x1024 .f32) : View.ld x r0_1 = x := View.ld_unit_zero (by funext a; fin_cases a <;> rfl) inb_S1x1024_S1x1024_0_0 x

/-- What a point leaves in the output's block. -/
theorem out_eq (x : Vec Ideal S256x1024 .f32) (w : Vec Ideal S1x1024 .f32) : out0_2 x w = k0_pay1 x w := by
  unfold out0_2
  rw [ld_x, ld_w]
  exact View.canon_unit_zero (by funext a; fin_cases a <;> rfl) inb_S256x1024_S256x1024_0_0 _

/-- The array that the kernel returns. -/
theorem arr_eq : (Gen.dats m 0 c).arrAt 2 cfg0.N = (out (A0 m c) (A1 m c) : S1024x1024.Idx → EReal) := by
  refine (Gen.dats m 0 c).arrAt_eq_of_cover 2 (out (A0 m c) (A1 m c) : S1024x1024.Idx → EReal) (fun t _ => ?_) (fun i => ?_)
  · obtain ⟨-, -, e0, e1⟩ := index_at t
    rw [Value.flushed2, out_eq]
    funext y
    have h0 : (y 0).val < 256 := (y 0).isLt
    have h1 : (y 1).val < 1024 := (y 1).isLt
    have ht : t.val < 4 := lt_of_lt_of_eq t.isLt N_0
    show k0_pay1 (F := Ideal) (iblk m c 0 t) (iblk m c 1 t) y = out (A0 m c) (A1 m c) (((cfg0.win 2).blk t).view.emb y)
    have ey : (y : S256x1024.Idx) = ix2 (⟨(y 0).val, h0⟩ : Fin 256) (⟨(y 1).val, h1⟩ : Fin 1024) := funext fun a => match a with
      | ⟨0, _⟩ => rfl
      | ⟨1, _⟩ => rfl
    refine (congrArg (k0_pay1 (F := Ideal) (iblk m c 0 t) (iblk m c 1 t)) ey).trans ?_
    refine (pay1_at _ _ _ _).trans ?_
    have er : (((cfg0.win 2).blk t).view.emb y 0 : Fin 1024).val = 256 * t.val + (y 0).val := by show win0_2.index t (0 : Fin 2) * 256 + 1 * (y 0).val = _; omega
    have en : (((cfg0.win 2).blk t).view.emb y 1 : Fin 1024) = ⟨(y 1).val, h1⟩ := Fin.ext (by show win0_2.index t (1 : Fin 2) * 1024 + 1 * (y 1).val = (y 1).val; omega)
    unfold out
    rw [er, en]
    exact congrArg₂ (· * ·) (congrArg (Norm.hat · (⟨(y 1).val, h1⟩ : Fin 1024)) (funext fun k => x_in m c t _ k)) (w_in m c t 0 _)
  · have h0 : (i 0).val < 1024 := (i 0).isLt
    have h1 : (i 1).val < 1024 := (i 1).isLt
    obtain ⟨t, ht⟩ : ∃ t : Fin cfg0.N, t.val = (i 0).val / 256 := ⟨⟨(i 0).val / 256, lt_of_lt_of_eq (by omega : _ < 4) N_0.symm⟩, rfl⟩
    obtain ⟨-, -, e0, e1⟩ := index_at t
    refine ⟨t, flush0_2 t, Finset.mem_map.mpr ⟨ix2 (⟨(i 0).val % 256, Nat.mod_lt _ (by norm_num)⟩ : Fin 256) (⟨(i 1).val % 1024, Nat.mod_lt _ (by norm_num)⟩ : Fin 1024), Finset.mem_univ _, ?_⟩⟩
    funext a
    apply Fin.ext
    match a with
    | ⟨0, _⟩ => show win0_2.index t (0 : Fin 2) * 256 + 1 * ((i 0).val % 256) = (i 0).val; omega
    | ⟨1, _⟩ => show win0_2.index t (1 : Fin 2) * 1024 + 1 * ((i 1).val % 1024) = (i 1).val; omega

end

/-! ### The reference -/

open Cert.ReferenceNormMFIdeal Cert.ReferenceNormMFIdeal.Read

/-- The reference's norm of a token. -/
theorem ref_at (x : In.Idx → EReal) (w : S1x1024.Idx → EReal) (b : Fin 4) (t : Fin 256) (j : Fin 1024) :
    val_main_v13 (F := Ideal) x w (ix3 b t j) = Norm.hat (fun k => x (ix3 b t k)) j * w (ix2 0 j) := by
  unfold val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  rfl

/-- The reference's norm, its batches below one another. -/
theorem ref_eq (x : In.Idx → EReal) (w : S1x1024.Idx → EReal) : val_main_v15 (F := Ideal) x w = out x w := by
  funext i
  refine Eq.trans (b := flat (val_main_v13 (F := Ideal) x w) (i 0).val (i 1)) ?_ (ref_at x w _ _ _)
  refine (val_main_v15_apply (F := Ideal) x w i).trans ?_
  show val_main_v14 (F := Ideal) x w i = _
  unfold val_main_v14
  exact flat_shapeCast _ _ i

end Cert.KernelNormMFIdeal.NormMF
-- ==== Proof.MemF.lean ====
/- The memory cross-attention forward: what the kernel leaves from its tiles, and that the reference's attention is the same array. -/
module

public import proofs.«01_k».proof.Proof.Gen.KernelMemFIdeal.Value
public import proofs.«01_k».proof.Proof.Blocks
public import proofs.«01_k».proof.Proof.HeadAt
public import proofs.«01_k».proof.Proof.Arrays
public import Idealize.ShloMosaic.Lib.Pointwise
public import Idealize.ShloMosaic.Lib.Claim

@[expose] public section

noncomputable section

namespace Cert.Arrays

open Idealize.ShloMosaic Cert.Rows

/-- The attention of one query: the values weighted by the softmax of its scores. -/
def attAt (x0 : Tok.Idx → EReal) (x1 : Mem.Idx → EReal) (x2 x3 : Gain.Idx → EReal) (b : Fin 4) (t : Fin 2048) (h : Fin 4) : Row := fun j =>
  ∑ m, prob (scoreAt x0 x1 x2 x3 b t h) m * memRow x1 b m (valOf h) j

/-- The result: the tokens of all batches below one another, the heads beside one another. -/
def attArr (x0 : Tok.Idx → EReal) (x1 : Mem.Idx → EReal) (x2 x3 : Gain.Idx → EReal) (i : (⟨2, ![8192, 512]⟩ : Shape).Idx) : EReal :=
  attAt x0 x1 x2 x3 (⟨(i 0).val / 2048, by have : (i 0).val < 8192 := (i 0).isLt; omega⟩ : Fin 4)
    (⟨(i 0).val % 2048, Nat.mod_lt _ (by norm_num)⟩ : Fin 2048) (⟨(i 1).val / 128, by have : (i 1).val < 512 := (i 1).isLt; omega⟩ : Fin 4)
    (⟨(i 1).val % 128, Nat.mod_lt _ (by norm_num)⟩ : Fin 128)

end Cert.Arrays

namespace Cert.KernelMemFIdeal.MemF

open Idealize.ShloMosaic Idealize.ShloMosaic.TcCoe Idealize.SL.Sem Cert.KernelMemFIdeal Cert.KernelMemFIdeal.Gen Cert.Arrays Cert.Rows
open Cert.KernelIdeal.Blocks (colsQ colsK kOf vOf hdQ inQ hdQ_emb inQ_emb)
open Cert.KernelIdeal.HeadAt (row)

/-! ### One head -/

section
variable {F : FTy → Type} [FloatOps F]

/-- The block that one head computes, from the two gains and the head's columns of the query, the key and the value. -/
def att (gq gk : Vec F S1x128 .f32) (q : Vec F S1024x128 .bf16) (k v : Vec F S256x128 .f32) : FVec F S1024x128 .bf16 := k0_pay3 (k0_pay2 gq gk q k) v

/-- The block of one tile, all four heads. -/
def attBlk (x0 : Vec F S1024x512 .bf16) (x1 : Vec F S256x1024 .f32) (x2 x3 : Vec F S1x128 .f32) : Vec F S1024x512 .bf16 := fun y =>
  att x2 x3 (colsQ (hdQ y) x0) (colsK (kOf (hdQ y)) x1) (colsK (vOf (hdQ y)) x1) (inQ y)

/-- The tile's block, read inside head `h`. -/
theorem attBlk_emb (x0 : Vec F S1024x512 .bf16) (x1 : Vec F S256x1024 .f32) (x2 x3 : Vec F S1x128 .f32) (h : Fin 4) (o : ℕ) (ho : o = 128 * h.val) (inb) (x : S1024x128.Idx) :
    attBlk x0 x1 x2 x3 ((Rect.unit (s := S1024x512) ![0, o] S1024x128.size inb).emb x) = att x2 x3 (colsQ h x0) (colsK (kOf h) x1) (colsK (vOf h) x1) x := by
  unfold attBlk; rw [hdQ_emb h o ho, inQ_emb h o ho]

/-- A gain's load is the whole gain. -/
theorem ld_gain (x : Vec F S1x128 .f32) : View.ld x (Rect.unit ![0, 0] ![1, 128] inb_S1x128_S1x128_0_0) = x :=
  View.ld_unit_zero (by funext a; fin_cases a <;> rfl) inb_S1x128_S1x128_0_0 x

/-- What a tile leaves in the output's block. -/
theorem out_A (c : Dev nD) (i : grid0.Coords) (arg2 : Memref sig .tc .vmem S1024x512 .bf16) (harg2 : arg2.IsWhole) (arg3 : Memref sig .tc .vmem S256x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x512 .bf16) (harg6 : arg6.IsWhole)
    (x0 : Vec F S1024x512 .bf16) (x1 : Vec F S256x1024 .f32) (x2 x3 : Vec F S1x128 .f32) :
    out0_A_4 c i arg2 harg2 arg3 harg3 arg4 harg4 arg5 harg5 arg6 harg6 x0 x1 x2 x3 = attBlk x0 x1 x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  simp (disch := first | decide | (intro a; fin_cases a <;> rfl)) only [View.readAt_eq_ld, harg2.read_unread, harg3.read_unread, harg4.read_unread, harg5.read_unread, ld_gain]
  funext y
  refine View.canon_append_of_piecesOf _ [] [_, _, _, _] ⟨fun x => (attBlk_emb x0 x1 x2 x3 3 384 rfl inb_S1024x512_S1024x128_0_384 x).symm, fun x => (attBlk_emb x0 x1 x2 x3 2 256 rfl inb_S1024x512_S1024x128_0_256 x).symm, fun x => (attBlk_emb x0 x1 x2 x3 1 128 rfl inb_S1024x512_S1024x128_0_128 x).symm, fun x => (attBlk_emb x0 x1 x2 x3 0 0 rfl inb_S1024x512_S1024x128_0_0 x).symm, trivial⟩ y ?_
  exact View.cover_of_tiledL (s := S1024x512) _ S1024x128.size (by sl_kernel_rfl) y
end

/-- The exponentials of one query's scores. -/
theorem ex_at (gq gk : Vec Ideal S1x128 .f32) (q : Vec Ideal S1024x128 .bf16) (k : Vec Ideal S256x128 .f32) (t : Fin 1024) (m : Fin 256) :
    k0_pay2 (F := Ideal) gq gk q k (ix2 t m) = ex (score (row gq 0) (row gk 0) (row q t) (row k)) m := by
  unfold k0_pay2
  pointwise
  rfl

/-- One head's entry. -/
theorem att_at (gq gk : Vec Ideal S1x128 .f32) (q : Vec Ideal S1024x128 .bf16) (k v : Vec Ideal S256x128 .f32) (t : Fin 1024) (j : Fin 128) :
    att (F := Ideal) gq gk q k v (ix2 t j) = ∑ m, prob (score (row gq 0) (row gk 0) (row q t) (row k)) m * row v m j := by
  unfold att k0_pay3
  pointwise [ex_at]
  rfl

/-! ### The arrays that the host prepares, and the blocks -/

variable (m : (ℓ : Loc nD τ sig) → Buf (Elt Ideal) ℓ) (c : Dev nD)

/-- The four arguments on a device. -/
abbrev A0 : Tok.Idx → EReal := m ((c : Thread nD τ).loc main_arg0)
abbrev A1 : Mem.Idx → EReal := m ((c : Thread nD τ).loc main_arg1)
abbrev A2 : Gain.Idx → EReal := m ((c : Thread nD τ).loc main_arg2)
abbrev A3 : Gain.Idx → EReal := m ((c : Thread nD τ).loc main_arg3)

/-- The memory's array with its batches below one another. -/
theorem V_mem (i : S1024x1024.Idx) : (V m c main_v5 : S1024x1024.Idx → EReal) i
    = A1 m c (ix3 (⟨(i 0).val / 256, by have : (i 0).val < 1024 := (i 0).isLt; omega⟩ : Fin 4) (⟨(i 0).val % 256, by omega⟩ : Fin 256) (i 1)) := by
  have e : (V m c main_v5 : S1024x1024.Idx → EReal) = shapeCast S1024x1024 (A1 m c) shapeCasts_S4x256x1024_S1024x1024 := by
    unfold_abbrev_sides
    after_results
    rfl
  rw [e]
  refine shapeCast_apply _ _ i _ ?_
  rw [Shape.rowMajor_val_three, Shape.rowMajor_val_two]
  have h0 : (i 0).val < 1024 := (i 0).isLt
  have h1 : (i 1).val < 1024 := (i 1).isLt
  show ((i 0).val / 256 * 256 + (i 0).val % 256) * 1024 + (i 1).val = (i 0).val * 1024 + (i 1).val
  omega

/-- The memory query's columns of the wide array. -/
theorem V_mq (i : S8192x7296.Idx) (hlo : 1536 ≤ (i 1).val) (hhi : (i 1).val < 2048) : (V m c main_v4 : S8192x7296.Idx → EReal) i
    = A0 m c (ix3 (⟨(i 0).val / 2048, by have : (i 0).val < 8192 := (i 0).isLt; omega⟩ : Fin 4) (⟨(i 0).val % 2048, by omega⟩ : Fin 2048)
        (⟨(i 1).val - 1536, by omega⟩ : Fin 512)) := by
  have e : (V m c main_v4 : S8192x7296.Idx → EReal) = concatenate S8192x7296 1 [⟨S8192x1536, broadcastInDim S8192x1536 ![] bcast_S_S8192x1536 (constant (F := Ideal) S_ .f32 0x00000000#32)⟩,
      ⟨S8192x512, shapeCast S8192x512 (A0 m c) shapeCasts_S4x2048x512_S8192x512⟩,
      ⟨S8192x5248, broadcastInDim S8192x5248 ![] bcast_S_S8192x5248 (constant (F := Ideal) S_ .f32 0x00000000#32)⟩] concatenates_S8192x1536_S8192x512_S8192x5248_S8192x7296_d1 := by
    unfold_abbrev_sides
    after_results
    rfl
  rw [e]
  have h0 : (i 0).val < 8192 := (i 0).isLt
  have h1 : (i 1).val < 7296 := (i 1).isLt
  refine (concatenate_apply_piece (t := S8192x7296) 1 _ _ i 1 (by show 1 < 3; omega) S8192x512 _ rfl rfl 1536 rfl
    (ix2 (i 0) (⟨(i 1).val - 1536, by omega⟩ : Fin 512)) ?_ ?_).trans ?_
  · intro b hb
    match b with
    | ⟨0, _⟩ => rfl
    | ⟨1, _⟩ => exact absurd rfl hb
  · show 1536 + ((i 1).val - 1536) = (i 1).val; omega
  · refine shapeCast_apply _ _ _ _ ?_
    rw [Shape.rowMajor_val_three, Shape.rowMajor_val_two]
    show ((i 0).val / 2048 * 2048 + (i 0).val % 2048) * 512 + ((i 1).val - 1536) = (i 0).val * 512 + ((i 1).val - 1536)
    omega

/-- The blocks of a grid point. -/
theorem index0_at : ∀ t : Fin cfg0.N, win0_0.index t (0 : Fin 2) = t.val ∧ win0_0.index t (1 : Fin 2) = 3 :=
  (by decide +kernel : ∀ t : Fin grid0.N, _)
theorem index1_at : ∀ t : Fin cfg0.N, win0_1.index t (0 : Fin 2) = t.val / 2 ∧ win0_1.index t (1 : Fin 2) = 0 :=
  (by decide +kernel : ∀ t : Fin grid0.N, _)
theorem index4_at : ∀ t : Fin cfg0.N, win0_4.index t (0 : Fin 2) = t.val ∧ win0_4.index t (1 : Fin 2) = 0 :=
  (by decide +kernel : ∀ t : Fin grid0.N, _)

/-- The batch of a grid point, and the first token of its tile. -/
def bat (t : Fin cfg0.N) : Fin 4 := ⟨t.val / 2, by have := t.isLt; have : t.val < 8 := lt_of_lt_of_eq t.isLt N_0; omega⟩
def tok (t : Fin cfg0.N) (r : Fin 1024) : Fin 2048 := ⟨1024 * (t.val % 2) + r.val, by omega⟩

theorem q_in (t : Fin cfg0.N) (r : Fin 1024) (j : Fin 512) : (X0_0 m c t : S1024x512.Idx → EReal) (ix2 r j) = A0 m c (ix3 (bat t) (tok t r) j) := by
  obtain ⟨e0, e1⟩ := index0_at t
  have ht : t.val < 8 := lt_of_lt_of_eq t.isLt N_0
  have h : (X0_0 m c t : S1024x512.Idx → EReal) (ix2 r j) = (V m c main_v4 : S8192x7296.Idx → EReal)
      (ix2 (⟨1024 * t.val + r.val, by omega⟩ : Fin 8192) (⟨1536 + j.val, by omega⟩ : Fin 7296)) := by
    unfold X0_0 Pipeline.Window.fill
    rw [dif_pos (moved0_0 t _)]
    unfold iblk
    show (V m c main_v4 : S8192x7296.Idx → EReal) _ = _
    congr 1
    funext a
    apply Fin.ext
    match a with
    | ⟨0, _⟩ => show win0_0.index t (0 : Fin 2) * 1024 + 1 * r.val = 1024 * t.val + r.val; omega
    | ⟨1, _⟩ => show win0_0.index t (1 : Fin 2) * 512 + 1 * j.val = 1536 + j.val; omega
  rw [h, V_mq m c _ (by show 1536 ≤ 1536 + j.val; omega) (by show 1536 + j.val < 2048; omega)]
  congr 1
  funext a
  apply Fin.ext
  match a with
  | ⟨0, _⟩ => show (1024 * t.val + r.val) / 2048 = t.val / 2; omega
  | ⟨1, _⟩ => show (1024 * t.val + r.val) % 2048 = 1024 * (t.val % 2) + r.val; omega
  | ⟨2, _⟩ => show 1536 + j.val - 1536 = j.val; omega

theorem kv_in (t : Fin cfg0.N) (r : Fin 256) (j : Fin 1024) : (iblk m c 1 t : S256x1024.Idx → EReal) (ix2 r j) = A1 m c (ix3 (bat t) r j) := by
  obtain ⟨e0, e1⟩ := index1_at t
  have ht : t.val < 8 := lt_of_lt_of_eq t.isLt N_0
  have h : (iblk m c 1 t : S256x1024.Idx → EReal) (ix2 r j) = (V m c main_v5 : S1024x1024.Idx → EReal)
      (ix2 (⟨256 * (t.val / 2) + r.val, by omega⟩ : Fin 1024) j) := by
    unfold iblk
    show (V m c main_v5 : S1024x1024.Idx → EReal) _ = _
    congr 1
    funext a
    apply Fin.ext
    match a with
    | ⟨0, _⟩ => show win0_1.index t (0 : Fin 2) * 256 + 1 * r.val = 256 * (t.val / 2) + r.val; omega
    | ⟨1, _⟩ => show win0_1.index t (1 : Fin 2) * 1024 + 1 * j.val = j.val; omega
  rw [h, V_mem]
  congr 1
  funext a
  apply Fin.ext
  match a with
  | ⟨0, _⟩ => show (256 * (t.val / 2) + r.val) / 256 = t.val / 2; omega
  | ⟨1, _⟩ => show (256 * (t.val / 2) + r.val) % 256 = r.val; omega
  | ⟨2, _⟩ => rfl

theorem gq_in (t : Fin cfg0.N) (j : Fin 128) : (iblk m c 2 t : S1x128.Idx → EReal) (ix2 (0 : Fin 1) j) = A2 m c (ix2 (0 : Fin 1) j) := by
  rw [A2, ← V_main_arg2 m c]
  unfold iblk
  show (V m c main_arg2 : S1x128.Idx → EReal) _ = _
  congr 1
  funext a
  apply Fin.ext
  match a with
  | ⟨0, _⟩ => rfl
  | ⟨1, _⟩ => show 0 * 128 + 1 * j.val = j.val; omega

theorem gk_in (t : Fin cfg0.N) (j : Fin 128) : (iblk m c 3 t : S1x128.Idx → EReal) (ix2 (0 : Fin 1) j) = A3 m c (ix2 (0 : Fin 1) j) := by
  rw [A3, ← V_main_arg3 m c]
  unfold iblk
  show (V m c main_arg3 : S1x128.Idx → EReal) _ = _
  congr 1
  funext a
  apply Fin.ext
  match a with
  | ⟨0, _⟩ => rfl
  | ⟨1, _⟩ => show 0 * 128 + 1 * j.val = j.val; omega

theorem row_q (t : Fin cfg0.N) (h : Fin 4) (r : Fin 1024) : row (colsQ h (X0_0 m c t)) r = tokRow (A0 m c) (bat t) (tok t r) h := by
  funext j
  refine Eq.trans ?_ (q_in m c t r (⟨128 * h + j, by omega⟩ : Fin 512))
  refine congrArg (X0_0 m c t) (funext fun a => ?_)
  apply Fin.ext
  match a with
  | ⟨0, _⟩ => show 0 + 1 * r.val = r.val; omega
  | ⟨1, _⟩ => show 128 * h.val + 1 * j.val = 128 * h.val + j.val; omega

theorem row_kv (t : Fin cfg0.N) (h : Fin 8) : row (colsK h (iblk m c 1 t)) = fun s => memRow (A1 m c) (bat t) s h := by
  funext r j
  refine Eq.trans ?_ (kv_in m c t r (⟨128 * h + j, by omega⟩ : Fin 1024))
  refine congrArg (iblk m c 1 t) (funext fun a => ?_)
  apply Fin.ext
  match a with
  | ⟨0, _⟩ => show 0 + 1 * r.val = r.val; omega
  | ⟨1, _⟩ => show 128 * h.val + 1 * j.val = 128 * h.val + j.val; omega

theorem row_gq (t : Fin cfg0.N) : row (iblk m c 2 t) (0 : Fin 1) = gainRow (A2 m c) := funext fun j => gq_in m c t j
theorem row_gk (t : Fin cfg0.N) : row (iblk m c 3 t) (0 : Fin 1) = gainRow (A3 m c) := funext fun j => gk_in m c t j

/-- One entry of a tile's block. -/
theorem att_in (t : Fin cfg0.N) (h : Fin 4) (r : Fin 1024) (j : Fin 128) :
    att (F := Ideal) (iblk m c 2 t) (iblk m c 3 t) (colsQ h (X0_0 m c t)) (colsK (kOf h) (iblk m c 1 t)) (colsK (vOf h) (iblk m c 1 t)) (ix2 r j)
      = attAt (A0 m c) (A1 m c) (A2 m c) (A3 m c) (bat t) (tok t r) h j := by
  rw [att_at, row_q, row_kv, row_kv, row_gq, row_gk]
  rfl

/-- The array that the kernel returns. -/
theorem arr_eq : (Gen.dats m 0 c).arrAt 4 cfg0.N = (attArr (A0 m c) (A1 m c) (A2 m c) (A3 m c) : S8192x512.Idx → EReal) := by
  refine (Gen.dats m 0 c).arrAt_eq_of_cover 4 (attArr (A0 m c) (A1 m c) (A2 m c) (A3 m c) : S8192x512.Idx → EReal) (fun t _ => ?_) (fun i => ?_)
  · obtain ⟨e0, e1⟩ := index4_at t
    rw [Value.flushed4_A, out_A]
    funext y
    have h0 : (y 0).val < 1024 := (y 0).isLt
    have h1 : (y 1).val < 512 := (y 1).isLt
    have ht : t.val < 8 := lt_of_lt_of_eq t.isLt N_0
    show attBlk (F := Ideal) (X0_0 m c t) (iblk m c 1 t) (iblk m c 2 t) (iblk m c 3 t) y = attArr (A0 m c) (A1 m c) (A2 m c) (A3 m c) (((cfg0.win 4).blk t).view.emb y)
    refine (att_in m c t (⟨(y 1).val / 128, by omega⟩ : Fin 4) (⟨(y 0).val, h0⟩ : Fin 1024) (⟨(y 1).val % 128, Nat.mod_lt _ (by norm_num)⟩ : Fin 128)).trans ?_
    have er : (((cfg0.win 4).blk t).view.emb y 0 : Fin 8192).val = 1024 * t.val + (y 0).val := by show win0_4.index t (0 : Fin 2) * 1024 + 1 * (y 0).val = _; omega
    have en : (((cfg0.win 4).blk t).view.emb y 1 : Fin 512).val = (y 1).val := by show win0_4.index t (1 : Fin 2) * 512 + 1 * (y 1).val = (y 1).val; omega
    unfold attArr
    congr 1
    · apply Fin.ext; show t.val / 2 = (((cfg0.win 4).blk t).view.emb y 0 : Fin 8192).val / 2048; rw [er]; omega
    · apply Fin.ext; show 1024 * (t.val % 2) + (y 0).val = (((cfg0.win 4).blk t).view.emb y 0 : Fin 8192).val % 2048; rw [er]; omega
    · apply Fin.ext; show (y 1).val / 128 = (((cfg0.win 4).blk t).view.emb y 1 : Fin 512).val / 128; rw [en]
    · apply Fin.ext; show (y 1).val % 128 = (((cfg0.win 4).blk t).view.emb y 1 : Fin 512).val % 128; rw [en]
  · have h0 : (i 0).val < 8192 := (i 0).isLt
    have h1 : (i 1).val < 512 := (i 1).isLt
    obtain ⟨t, ht⟩ : ∃ t : Fin cfg0.N, t.val = (i 0).val / 1024 := ⟨⟨(i 0).val / 1024, lt_of_lt_of_eq (by omega : _ < 8) N_0.symm⟩, rfl⟩
    obtain ⟨e0, e1⟩ := index4_at t
    refine ⟨t, flush0_4 t, Finset.mem_map.mpr ⟨ix2 (⟨(i 0).val % 1024, Nat.mod_lt _ (by norm_num)⟩ : Fin 1024) (⟨(i 1).val % 512, Nat.mod_lt _ (by norm_num)⟩ : Fin 512), Finset.mem_univ _, ?_⟩⟩
    funext a
    apply Fin.ext
    match a with
    | ⟨0, _⟩ => show win0_4.index t (0 : Fin 2) * 1024 + 1 * ((i 0).val % 1024) = (i 0).val; omega
    | ⟨1, _⟩ => show win0_4.index t (1 : Fin 2) * 512 + 1 * ((i 1).val % 512) = (i 1).val; omega

end Cert.KernelMemFIdeal.MemF
-- ==== Proof.RefMemF.lean ====
/- The reference's memory cross-attention, value by value, is the array of `attArr`. -/
module

public import proofs.«01_k».proof.Proof.Gen.ReferenceMemFIdeal.Read
public import proofs.«01_k».proof.Proof.MemF
public import proofs.«01_k».proof.Proof.RowsEq
public import Idealize.ShloMosaic.Lib.Pointwise

@[expose] public section

noncomputable section

namespace Cert.ReferenceMemFIdeal.RefMemF

open Idealize.ShloMosaic Cert.ReferenceMemFIdeal Cert.ReferenceMemFIdeal.Read Cert.Rows Cert.Arrays

variable (x0 : Tok.Idx → EReal) (x1 : Mem.Idx → EReal) (x2 x3 : Gain.Idx → EReal)

/-! ### The normalised query and key -/

theorem q_at (i : S4x2048x4x128.Idx) : val_main_v2 (F := Ideal) x0 i = tokRow x0 (i 0) (i 1) (i 2) (i 3) := by
  rw [val_main_v2_apply]
  refine congrArg x0 (funext fun a => ?_)
  have h0 : (i 0).val < 4 := (i 0).isLt
  have h1 : (i 1).val < 2048 := (i 1).isLt
  have h2 : (i 2).val < 4 := (i 2).isLt
  have h3 : (i 3).val < 128 := (i 3).isLt
  fin_cases a <;> apply Fin.ext
  · show ((((i 0).val * 2048 + (i 1).val) * 4 + (i 2).val) * 128 + (i 3).val) / 1048576 = (i 0).val; omega
  · show ((((i 0).val * 2048 + (i 1).val) * 4 + (i 2).val) * 128 + (i 3).val) / 512 % 2048 = (i 1).val; omega
  · show ((((i 0).val * 2048 + (i 1).val) * 4 + (i 2).val) * 128 + (i 3).val) % 512 = 128 * (i 2).val + (i 3).val; omega

theorem gq_at (i : S128.Idx) : val_main_v0 (F := Ideal) x2 i = gainRow x2 (i 0) := by
  rw [val_main_v0_apply]
  refine congrArg x2 (funext fun a => ?_)
  have h0 : (i 0).val < 128 := (i 0).isLt
  fin_cases a <;> apply Fin.ext
  · rfl
  · exact Nat.mod_eq_of_lt h0

theorem gk_at (i : S128.Idx) : val_main_v1 (F := Ideal) x3 i = gainRow x3 (i 0) := by
  rw [val_main_v1_apply]
  refine congrArg x3 (funext fun a => ?_)
  have h0 : (i 0).val < 128 := (i 0).isLt
  fin_cases a <;> apply Fin.ext
  · rfl
  · exact Nat.mod_eq_of_lt h0

theorem qhat_at (i : S4x2048x4x128.Idx) : val_main_v12 (F := Ideal) x0 i = hat (tokRow x0 (i 0) (i 1) (i 2)) (i 3) := by
  pointwise [val_main_v3_apply, val_main_v4_apply, val_main_v5_apply, val_main_v6_apply, val_main_v7_apply, val_main_v8_apply, val_main_v9_apply, val_main_v10_apply, val_main_v11_apply, val_main_v12_apply, val_main_cst_apply, val_main_cst_0_apply, val_main_cst_1_apply, q_at]
  rfl

theorem qn_at (i : S4x2048x4x128.Idx) : val_main_v15 (F := Ideal) x0 x2 i = hat (tokRow x0 (i 0) (i 1) (i 2)) (i 3) * gainRow x2 (i 3) := by
  pointwise [val_main_v15_apply, val_main_v14_apply, val_main_v13_apply, qhat_at, gq_at]
  rfl

theorem k_at (i : S4x256x4x128.Idx) : val_main_v18 (F := Ideal) x1 i = memRow x1 (i 0) (i 1) (keyOf (i 2)) (i 3) := by
  rw [val_main_v18_apply, val_main_v16_apply]
  refine congrArg x1 (funext fun a => ?_)
  have h0 : (i 0).val < 4 := (i 0).isLt
  have h1 : (i 1).val < 256 := (i 1).isLt
  have h2 : (i 2).val < 4 := (i 2).isLt
  have h3 : (i 3).val < 128 := (i 3).isLt
  fin_cases a <;> apply Fin.ext
  · show ((((i 0).val * 256 + (i 1).val) * 4 + (i 2).val) * 128 + (i 3).val) / 131072 = (i 0).val; omega
  · show ((((i 0).val * 256 + (i 1).val) * 4 + (i 2).val) * 128 + (i 3).val) / 512 % 256 = (i 1).val; omega
  · show ((((i 0).val * 256 + (i 1).val) * 4 + (i 2).val) * 128 + (i 3).val) % 512 = 128 * (i 2).val + (i 3).val; omega

theorem v_at (i : S4x256x4x128.Idx) : val_main_v32 (F := Ideal) x1 i = memRow x1 (i 0) (i 1) (valOf (i 2)) (i 3) := by
  rw [val_main_v32_apply, val_main_v17_apply]
  refine congrArg x1 (funext fun a => ?_)
  have h0 : (i 0).val < 4 := (i 0).isLt
  have h1 : (i 1).val < 256 := (i 1).isLt
  have h2 : (i 2).val < 4 := (i 2).isLt
  have h3 : (i 3).val < 128 := (i 3).isLt
  fin_cases a <;> apply Fin.ext
  · show ((((i 0).val * 256 + (i 1).val) * 4 + (i 2).val) * 128 + (i 3).val) / 131072 = (i 0).val; omega
  · show ((((i 0).val * 256 + (i 1).val) * 4 + (i 2).val) * 128 + (i 3).val) / 512 % 256 = (i 1).val; omega
  · show 512 + ((((i 0).val * 256 + (i 1).val) * 4 + (i 2).val) * 128 + (i 3).val) % 512 = 128 * (4 + (i 2).val) + (i 3).val; omega

theorem khat_at (i : S4x256x4x128.Idx) : val_main_v28 (F := Ideal) x1 i = hat (memRow x1 (i 0) (i 1) (keyOf (i 2))) (i 3) := by
  pointwise [val_main_v19_apply, val_main_v20_apply, val_main_v21_apply, val_main_v22_apply, val_main_v23_apply, val_main_v24_apply, val_main_v25_apply, val_main_v26_apply, val_main_v27_apply, val_main_v28_apply, val_main_cst_2_apply, val_main_cst_3_apply, val_main_cst_4_apply, k_at]
  rfl

theorem kn_at (i : S4x256x4x128.Idx) : val_main_v31 (F := Ideal) x1 x3 i = kn (gainRow x3) (memRow x1 (i 0) (i 1) (keyOf (i 2))) (i 3) := by
  pointwise [val_main_v31_apply, val_main_v30_apply, val_main_v29_apply, khat_at, gk_at]
  rfl

/-! ### The scores and the softmax -/

theorem score_at (i : S4x4x2048x256.Idx) : val_main_v35 (F := Ideal) x0 x1 x2 x3 i = scoreAt x0 x1 x2 x3 (i 0) (i 2) (i 1) (i 3) := by
  refine Eq.trans ?_ (congrFun (score_eq (gainRow x2) (gainRow x3) (tokRow x0 (i 0) (i 2) (i 1)) fun m => memRow x1 (i 0) m (keyOf (i 1))) (i 3))
  pointwise [val_main_v35_apply, val_main_v34_apply, val_main_cst_5_apply, val_main_v33_apply, qn_at, kn_at]
  rfl

theorem top_at (i : S4x4x2048.Idx) : val_main_v36 (F := Ideal) x0 x1 x2 x3 i = top (scoreAt x0 x1 x2 x3 (i 0) (i 2) (i 1)) := by
  unfold val_main_v36
  pointwise [score_at, val_main_cst_6_apply]
  rfl

theorem topm_at (i : S4x4x2048.Idx) : val_main_v38 (F := Ideal) x0 x1 x2 x3 i = top (scoreAt x0 x1 x2 x3 (i 0) (i 2) (i 1)) := by
  rw [val_main_v38_apply, val_main_v37_apply, val_main_cst_7_apply, top_at]
  exact (congrArg (max · _) bot_eq).trans (bot_sup_eq _)

theorem ex_at (i : S4x4x2048x256.Idx) : val_main_v42 (F := Ideal) x0 x1 x2 x3 i = ex (scoreAt x0 x1 x2 x3 (i 0) (i 2) (i 1)) (i 3) := by
  pointwise [val_main_v42_apply, val_main_v41_apply, val_main_v40_apply, val_main_v39_apply, topm_at, score_at]
  rfl

theorem prob_at (i : S4x4x2048x256.Idx) : val_main_v46 (F := Ideal) x0 x1 x2 x3 i = prob (scoreAt x0 x1 x2 x3 (i 0) (i 2) (i 1)) (i 3) := by
  pointwise [val_main_v46_apply, val_main_v45_apply, val_main_v44_apply, val_main_v43_apply, val_main_cst_8_apply, ex_at]
  rfl

/-! ### The result -/

theorem att_at (i : S4x2048x4x128.Idx) : val_main_v48 (F := Ideal) x0 x1 x2 x3 i = attAt x0 x1 x2 x3 (i 0) (i 1) (i 2) (i 3) := by
  rw [val_main_v48_apply, val_main_v47_apply]
  refine Finset.sum_congr rfl fun m _ => ?_
  rw [v_at, prob_at]
  exact mul_comm _ _

/-- The reference's attention, its batches below one another and its heads beside one another. -/
theorem ref_eq : val_main_v51 (F := Ideal) x0 x1 x2 x3 = attArr x0 x1 x2 x3 := by
  funext i
  have h0 : (i 0).val < 8192 := (i 0).isLt
  have h1 : (i 1).val < 512 := (i 1).isLt
  have e : val_main_v51 (F := Ideal) x0 x1 x2 x3 i = val_main_v48 (F := Ideal) x0 x1 x2 x3 (idx_main_v49 (idx_main_v50 i)) := by
    rw [val_main_v51_apply, val_main_v50_apply, val_main_v49_apply]; rfl
  rw [e, att_at]
  unfold attArr
  congr 1 <;> apply Fin.ext
  · show ((((i 0).val * 512 + (i 1).val) / 1048576 * 2048 + ((i 0).val * 512 + (i 1).val) / 512 % 2048) * 512 + ((i 0).val * 512 + (i 1).val) % 512) / 1048576 = (i 0).val / 2048; omega
  · show ((((i 0).val * 512 + (i 1).val) / 1048576 * 2048 + ((i 0).val * 512 + (i 1).val) / 512 % 2048) * 512 + ((i 0).val * 512 + (i 1).val) % 512) / 512 % 2048 = (i 0).val % 2048; omega
  · show ((((i 0).val * 512 + (i 1).val) / 1048576 * 2048 + ((i 0).val * 512 + (i 1).val) / 512 % 2048) * 512 + ((i 0).val * 512 + (i 1).val) % 512) / 128 % 4 = (i 1).val / 128; omega
  · show ((((i 0).val * 512 + (i 1).val) / 1048576 * 2048 + ((i 0).val * 512 + (i 1).val) / 512 % 2048) * 512 + ((i 0).val * 512 + (i 1).val) % 512) % 128 = (i 1).val % 128; omega

end Cert.ReferenceMemFIdeal.RefMemF
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.KernelOut
public import proofs.«01_k».proof.Proof.RefOut
public import proofs.«01_k».proof.Proof.Finite
public import proofs.«01_k».proof.Proof.Gen.KernelDh2.Frame
public import proofs.«01_k».proof.Proof.Gen.KernelDh2Ideal.Frame
public import proofs.«01_k».proof.Proof.Gen.KernelDh2Ideal.Value
public import proofs.«01_k».proof.Proof.Gen.ReferenceDh2Ideal
public import proofs.«01_k».proof.Proof.Gen.ReferenceDh2Ideal.Read
public import proofs.«01_k».proof.Proof.Dh2
public import proofs.«01_k».proof.Proof.Gen.KernelWUp.Frame
public import proofs.«01_k».proof.Proof.Gen.KernelWUpIdeal.Frame
public import proofs.«01_k».proof.Proof.Gen.KernelWUpIdeal.Value
public import proofs.«01_k».proof.Proof.Gen.ReferenceWUpIdeal
public import proofs.«01_k».proof.Proof.Gen.ReferenceWUpIdeal.Read
public import proofs.«01_k».proof.Proof.WUp
public import proofs.«01_k».proof.Proof.Gen.KernelConv.Frame
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Read
public import proofs.«01_k».proof.Proof.Conv
public import proofs.«01_k».proof.Proof.Gen.KernelWDown.Frame
public import proofs.«01_k».proof.Proof.Gen.KernelWDownIdeal.Frame
public import proofs.«01_k».proof.Proof.Gen.KernelWDownIdeal.Value
public import proofs.«01_k».proof.Proof.Gen.ReferenceWDownIdeal
public import proofs.«01_k».proof.Proof.Gen.ReferenceWDownIdeal.Read
public import proofs.«01_k».proof.Proof.WDown
public import proofs.«01_k».proof.Proof.Gen.KernelWOut.Frame
public import proofs.«01_k».proof.Proof.Gen.KernelWOutIdeal.Frame
public import proofs.«01_k».proof.Proof.Gen.KernelWOutIdeal.Value
public import proofs.«01_k».proof.Proof.Gen.ReferenceWOutIdeal
public import proofs.«01_k».proof.Proof.Gen.ReferenceWOutIdeal.Read
public import proofs.«01_k».proof.Proof.WOut
public import proofs.«01_k».proof.Proof.Gen.KernelWBr.Frame
public import proofs.«01_k».proof.Proof.Gen.KernelWBrIdeal.Frame
public import proofs.«01_k».proof.Proof.Gen.KernelWBrIdeal.Value
public import proofs.«01_k».proof.Proof.Gen.ReferenceWBrIdeal
public import proofs.«01_k».proof.Proof.Gen.ReferenceWBrIdeal.Read
public import proofs.«01_k».proof.Proof.WBr
public import proofs.«01_k».proof.Proof.Gen.KernelWInFox.Frame
public import proofs.«01_k».proof.Proof.Gen.KernelWInFoxIdeal.Frame
public import proofs.«01_k».proof.Proof.Gen.KernelWInFoxIdeal.Value
public import proofs.«01_k».proof.Proof.Gen.ReferenceWInFoxIdeal
public import proofs.«01_k».proof.Proof.Gen.ReferenceWInFoxIdeal.Read
public import proofs.«01_k».proof.Proof.WInFox
public import proofs.«01_k».proof.Proof.Gen.KernelWInMq.Frame
public import proofs.«01_k».proof.Proof.Gen.KernelWInMqIdeal.Frame
public import proofs.«01_k».proof.Proof.Gen.KernelWInMqIdeal.Value
public import proofs.«01_k».proof.Proof.Gen.ReferenceWInMqIdeal
public import proofs.«01_k».proof.Proof.Gen.ReferenceWInMqIdeal.Read
public import proofs.«01_k».proof.Proof.WInMq
public import proofs.«01_k».proof.Proof.Gen.KernelWInHg.Frame
public import proofs.«01_k».proof.Proof.Gen.KernelWInHgIdeal.Frame
public import proofs.«01_k».proof.Proof.Gen.KernelWInHgIdeal.Value
public import proofs.«01_k».proof.Proof.Gen.ReferenceWInHgIdeal
public import proofs.«01_k».proof.Proof.Gen.ReferenceWInHgIdeal.Read
public import proofs.«01_k».proof.Proof.WInHg
public import proofs.«01_k».proof.Proof.Gen.KernelWInGate.Frame
public import proofs.«01_k».proof.Proof.Gen.KernelWInGateIdeal.Frame
public import proofs.«01_k».proof.Proof.Gen.KernelWInGateIdeal.Value
public import proofs.«01_k».proof.Proof.Gen.ReferenceWInGateIdeal
public import proofs.«01_k».proof.Proof.Gen.ReferenceWInGateIdeal.Read
public import proofs.«01_k».proof.Proof.WInGate
public import proofs.«01_k».proof.Proof.Gen.KernelWInFf.Frame
public import proofs.«01_k».proof.Proof.Gen.KernelWInFfIdeal.Frame
public import proofs.«01_k».proof.Proof.Gen.KernelWInFfIdeal.Value
public import proofs.«01_k».proof.Proof.Gen.ReferenceWInFfIdeal
public import proofs.«01_k».proof.Proof.Gen.ReferenceWInFfIdeal.Read
public import proofs.«01_k».proof.Proof.WInFf
public import proofs.«01_k».proof.Proof.Gen.KernelProjIn.Frame
public import proofs.«01_k».proof.Proof.Gen.KernelProjInIdeal.Frame
public import proofs.«01_k».proof.Proof.Gen.KernelProjInIdeal.Value
public import proofs.«01_k».proof.Proof.Gen.ReferenceProjInIdeal
public import proofs.«01_k».proof.Proof.Gen.ReferenceProjInIdeal.Read
public import proofs.«01_k».proof.Proof.ProjIn
public import proofs.«01_k».proof.Proof.Gen.KernelFfnUp.Frame
public import proofs.«01_k».proof.Proof.Gen.KernelFfnUpIdeal.Frame
public import proofs.«01_k».proof.Proof.Gen.KernelFfnUpIdeal.Value
public import proofs.«01_k».proof.Proof.Gen.ReferenceFfnUpIdeal
public import proofs.«01_k».proof.Proof.Gen.ReferenceFfnUpIdeal.Read
public import proofs.«01_k».proof.Proof.FfnUp
public import proofs.«01_k».proof.Proof.Gen.KernelDh.Frame
public import proofs.«01_k».proof.Proof.Gen.KernelDhIdeal.Frame
public import proofs.«01_k».proof.Proof.Gen.KernelDhIdeal.Value
public import proofs.«01_k».proof.Proof.Gen.ReferenceDhIdeal
public import proofs.«01_k».proof.Proof.Gen.ReferenceDhIdeal.Read
public import proofs.«01_k».proof.Proof.Dh
public import proofs.«01_k».proof.Proof.Gen.KernelMergeB.Frame
public import proofs.«01_k».proof.Proof.Gen.KernelMergeBIdeal.Frame
public import proofs.«01_k».proof.Proof.Gen.KernelMergeBIdeal.Value
public import proofs.«01_k».proof.Proof.Gen.ReferenceMergeBIdeal
public import proofs.«01_k».proof.Proof.Gen.ReferenceMergeBIdeal.Read
public import proofs.«01_k».proof.Proof.MergeB
public import proofs.«01_k».proof.Proof.Gen.KernelMergeF.Frame
public import proofs.«01_k».proof.Proof.Gen.KernelMergeFIdeal.Frame
public import proofs.«01_k».proof.Proof.Gen.KernelMergeFIdeal.Value
public import proofs.«01_k».proof.Proof.Gen.ReferenceMergeFIdeal
public import proofs.«01_k».proof.Proof.Gen.ReferenceMergeFIdeal.Read
public import proofs.«01_k».proof.Proof.MergeF
public import proofs.«01_k».proof.Proof.Gen.KernelLoss.Frame
public import proofs.«01_k».proof.Proof.Gen.KernelLossIdeal.Frame
public import proofs.«01_k».proof.Proof.Gen.ReferenceLossIdeal
public import proofs.«01_k».proof.Proof.Gen.ReferenceLossIdeal.Read
public import proofs.«01_k».proof.Proof.Loss
public import proofs.«01_k».proof.Proof.Gen.KernelNormB.Frame
public import proofs.«01_k».proof.Proof.Gen.KernelNormBIdeal.Frame

public import proofs.«01_k».proof.Proof.Gen.ReferenceNormBIdeal
public import proofs.«01_k».proof.Proof.Gen.ReferenceNormBIdeal.Read
public import proofs.«01_k».proof.Proof.NormB
public import proofs.«01_k».proof.Proof.Gen.KernelAdamIn.Frame
public import proofs.«01_k».proof.Proof.Gen.KernelAdamInIdeal.Frame
public import proofs.«01_k».proof.Proof.Gen.KernelAdamInIdeal.Value
public import proofs.«01_k».proof.Proof.Gen.ReferenceAdamInIdeal
public import proofs.«01_k».proof.Proof.Gen.ReferenceAdamInIdeal.Read
public import proofs.«01_k».proof.Proof.AdamIn
public import proofs.«01_k».proof.Proof.Gen.KernelAdamOut.Frame
public import proofs.«01_k».proof.Proof.Gen.KernelAdamOutIdeal.Frame
public import proofs.«01_k».proof.Proof.Gen.KernelAdamOutIdeal.Value
public import proofs.«01_k».proof.Proof.Gen.ReferenceAdamOutIdeal
public import proofs.«01_k».proof.Proof.Gen.ReferenceAdamOutIdeal.Read
public import proofs.«01_k».proof.Proof.AdamOut
public import proofs.«01_k».proof.Proof.Gen.KernelAdamBr.Frame
public import proofs.«01_k».proof.Proof.Gen.KernelAdamBrIdeal.Frame
public import proofs.«01_k».proof.Proof.Gen.KernelAdamBrIdeal.Value
public import proofs.«01_k».proof.Proof.Gen.ReferenceAdamBrIdeal
public import proofs.«01_k».proof.Proof.Gen.ReferenceAdamBrIdeal.Read
public import proofs.«01_k».proof.Proof.AdamBr
public import proofs.«01_k».proof.Proof.Gen.KernelAdamUp.Frame
public import proofs.«01_k».proof.Proof.Gen.KernelAdamUpIdeal.Frame
public import proofs.«01_k».proof.Proof.Gen.KernelAdamUpIdeal.Value
public import proofs.«01_k».proof.Proof.Gen.ReferenceAdamUpIdeal
public import proofs.«01_k».proof.Proof.Gen.ReferenceAdamUpIdeal.Read
public import proofs.«01_k».proof.Proof.AdamUp
public import proofs.«01_k».proof.Proof.Gen.KernelAdamConv.Frame
public import proofs.«01_k».proof.Proof.Gen.KernelAdamConvIdeal.Frame
public import proofs.«01_k».proof.Proof.Gen.KernelAdamConvIdeal.Value
public import proofs.«01_k».proof.Proof.Gen.ReferenceAdamConvIdeal
public import proofs.«01_k».proof.Proof.Gen.ReferenceAdamConvIdeal.Read
public import proofs.«01_k».proof.Proof.AdamConv
public import proofs.«01_k».proof.Proof.Gen.KernelAdamDown.Frame
public import proofs.«01_k».proof.Proof.Gen.KernelAdamDownIdeal.Frame
public import proofs.«01_k».proof.Proof.Gen.KernelAdamDownIdeal.Value
public import proofs.«01_k».proof.Proof.Gen.ReferenceAdamDownIdeal
public import proofs.«01_k».proof.Proof.Gen.ReferenceAdamDownIdeal.Read
public import proofs.«01_k».proof.Proof.AdamDown
public import proofs.«01_k».proof.Proof.Gen.KernelAdamSmall.Frame
public import proofs.«01_k».proof.Proof.Gen.KernelAdamSmallIdeal.Frame
public import proofs.«01_k».proof.Proof.Gen.KernelAdamSmallIdeal.Value
public import proofs.«01_k».proof.Proof.Gen.ReferenceAdamSmallIdeal
public import proofs.«01_k».proof.Proof.Gen.ReferenceAdamSmallIdeal.Read
public import proofs.«01_k».proof.Proof.AdamSmall
public import proofs.«01_k».proof.Proof.Gen.KernelWMem.Frame
public import proofs.«01_k».proof.Proof.Gen.KernelWMemIdeal.Frame
public import proofs.«01_k».proof.Proof.Gen.KernelWMemIdeal.Value
public import proofs.«01_k».proof.Proof.Gen.ReferenceWMemIdeal
public import proofs.«01_k».proof.Proof.Gen.ReferenceWMemIdeal.Read
public import proofs.«01_k».proof.Proof.WMem
public import proofs.«01_k».proof.Proof.Gen.KernelNormM.Frame
public import proofs.«01_k».proof.Proof.Gen.KernelNormMIdeal.Frame
public import proofs.«01_k».proof.Proof.Gen.ReferenceNormMIdeal
public import proofs.«01_k».proof.Proof.Gen.ReferenceNormMIdeal.Read
public import proofs.«01_k».proof.Proof.NormM
public import proofs.«01_k».proof.Proof.Gen.KernelProjMem.Frame
public import proofs.«01_k».proof.Proof.Gen.KernelProjMemIdeal.Frame
public import proofs.«01_k».proof.Proof.Gen.KernelProjMemIdeal.Value
public import proofs.«01_k».proof.Proof.Gen.ReferenceProjMemIdeal
public import proofs.«01_k».proof.Proof.Gen.ReferenceProjMemIdeal.Read
public import proofs.«01_k».proof.Proof.ProjMem
public import proofs.«01_k».proof.Proof.Gen.KernelDMemn.Frame
public import proofs.«01_k».proof.Proof.Gen.KernelDMemnIdeal.Frame
public import proofs.«01_k».proof.Proof.Gen.KernelDMemnIdeal.Value
public import proofs.«01_k».proof.Proof.Gen.ReferenceDMemnIdeal
public import proofs.«01_k».proof.Proof.Gen.ReferenceDMemnIdeal.Read
public import proofs.«01_k».proof.Proof.DMemn
public import proofs.«01_k».proof.Proof.Gen.KernelNormF.Frame
public import proofs.«01_k».proof.Proof.Gen.KernelNormFIdeal.Frame
public import proofs.«01_k».proof.Proof.Gen.KernelNormFIdeal.Value
public import proofs.«01_k».proof.Proof.Gen.ReferenceNormFIdeal
public import proofs.«01_k».proof.Proof.Gen.ReferenceNormFIdeal.Read
public import proofs.«01_k».proof.Proof.NormF
public import proofs.«01_k».proof.Proof.Gen.KernelNormMF.Frame
public import proofs.«01_k».proof.Proof.Gen.KernelNormMFIdeal.Frame
public import proofs.«01_k».proof.Proof.Gen.KernelNormMFIdeal.Value
public import proofs.«01_k».proof.Proof.Gen.ReferenceNormMFIdeal
public import proofs.«01_k».proof.Proof.Gen.ReferenceNormMFIdeal.Read
public import proofs.«01_k».proof.Proof.NormMF
public import proofs.«01_k».proof.Proof.Gen.KernelMemF.Frame
public import proofs.«01_k».proof.Proof.Gen.KernelMemFIdeal.Frame
public import proofs.«01_k».proof.Proof.Gen.KernelMemFIdeal.Value
public import proofs.«01_k».proof.Proof.Gen.ReferenceMemFIdeal
public import proofs.«01_k».proof.Proof.Gen.ReferenceMemFIdeal.Read
public import proofs.«01_k».proof.Proof.MemF
public import proofs.«01_k».proof.Proof.RefMemF
public import Idealize.ShloMosaic.Adequacy
public import Idealize.ShloMosaic.Init

@[expose] public section

noncomputable section

namespace Cert.Proof

open Idealize.ShloMosaic Idealize.SL.Sem

attribute [local instance] Cert.Finite.facts

/-- The reference's frame: it is a straight line of host operations and declares no semaphore. -/
theorem frame_ref : quiescent_ReferenceIdeal := fun m ρ _ =>
  (θ_run ReferenceIdeal.defs _ _).mono (fun r h => ⟨fun c => (h c).2.2, sem_eq_zero_of_no_sems (by decide) r.2⟩)
    (ReferenceIdeal.Value.run (F := Ideal) m ρ)

/-- The reference's first result over contents whose five arguments are the kernel's, where the gains are finite. -/
theorem ref_dq (m : (ℓ : Loc KernelIdeal.nD KernelIdeal.τ KernelIdeal.sig) → Buf (Elt Ideal) ℓ) (c : Dev KernelIdeal.nD)
    (hq : Rows.IsReal (Arrays.gainRow (KernelIdeal.BlocksIn.A3 m c))) (hk : Rows.IsReal (Arrays.gainRow (KernelIdeal.BlocksIn.A4 m c)))
    (y0 : Arrays.Tok.Idx → EReal) (y1 : Arrays.Mem.Idx → EReal) (y2 : Arrays.Tok.Idx → EReal) (y3 y4 : Arrays.Gain.Idx → EReal)
    (e0 : y0 = KernelIdeal.BlocksIn.A0 m c) (e1 : y1 = KernelIdeal.BlocksIn.A1 m c) (e2 : y2 = KernelIdeal.BlocksIn.A2 m c)
    (e3 : y3 = KernelIdeal.BlocksIn.A3 m c) (e4 : y4 = KernelIdeal.BlocksIn.A4 m c) :
    ReferenceIdeal.Read.val_main_v141 (F := Ideal) y0 y1 y2 y3 y4 = (KernelIdeal.Value.G5 m c : KernelIdeal.S8192x512.Idx → EReal) := by
  subst e0 e1 e2 e3 e4
  exact (ReferenceIdeal.RefOut.dq_eq _ _ _ _ _ hq hk).trans (KernelIdeal.KernelOut.dq_eq m c).symm

/-- The second result likewise. -/
theorem ref_dkv (m : (ℓ : Loc KernelIdeal.nD KernelIdeal.τ KernelIdeal.sig) → Buf (Elt Ideal) ℓ) (c : Dev KernelIdeal.nD)
    (hq : Rows.IsReal (Arrays.gainRow (KernelIdeal.BlocksIn.A3 m c))) (hk : Rows.IsReal (Arrays.gainRow (KernelIdeal.BlocksIn.A4 m c)))
    (y0 : Arrays.Tok.Idx → EReal) (y1 : Arrays.Mem.Idx → EReal) (y2 : Arrays.Tok.Idx → EReal) (y3 y4 : Arrays.Gain.Idx → EReal)
    (e0 : y0 = KernelIdeal.BlocksIn.A0 m c) (e1 : y1 = KernelIdeal.BlocksIn.A1 m c) (e2 : y2 = KernelIdeal.BlocksIn.A2 m c)
    (e3 : y3 = KernelIdeal.BlocksIn.A3 m c) (e4 : y4 = KernelIdeal.BlocksIn.A4 m c) :
    ReferenceIdeal.Read.val_main_v143 (F := Ideal) y0 y1 y2 y3 y4 = (KernelIdeal.Value.G6 m c : KernelIdeal.S1024x1024.Idx → EReal) := by
  subst e0 e1 e2 e3 e4
  exact (ReferenceIdeal.RefOut.dkv_eq _ _ _ _ _ hq hk).trans (KernelIdeal.KernelOut.dkv_eq m c).symm

/-- The two results, equal wherever the gains are finite: each side's run ends at the two arrays of Proof/Arrays.lean. -/
theorem algebraic : algebraic_KernelIdeal_ReferenceIdeal_pre_gains_finite := by
  intro m g m' g' hpre hag
  refine ⟨fun c => KernelIdeal.Value.G5 m c, fun c => KernelIdeal.Value.G6 m c, ?_, ?_⟩
  · exact (θ_run KernelIdeal.defs _ _).mono (fun r h c => ⟨(h c).1, (h c).2.1, (h c).2.2.2.2⟩)
      (KernelIdeal.Value.run (F := Ideal) m g)
  · refine (θ_run ReferenceIdeal.defs _ _).mono (fun r h c => ?_) (ReferenceIdeal.Value.run (F := Ideal) m' g')
    obtain ⟨e0, e1, e2, e3, e4⟩ := hag c
    obtain ⟨hq, hk⟩ := Cert.Finite.real_of_pre _ _ _ _ _ (hpre c)
    exact ⟨(h c).1.trans ((ReferenceIdeal.Read.val_main_v141_eq (F := Ideal) _).trans (ref_dq m c hq hk _ _ _ _ _ e0 e1 e2 e3 e4)),
      (h c).2.1.trans ((ReferenceIdeal.Read.val_main_v143_eq (F := Ideal) _).trans (ref_dkv m c hq hk _ _ _ _ _ e0 e1 e2 e3 e4)), (h c).2.2⟩

/-- Six equal arguments give equal values. -/
theorem congr6 {α β γ δ ε ζ η : Type} (f : α → β → γ → δ → ε → ζ → η) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha hb hc hd he hg
  rfl

/-- Three equal arguments give equal values. -/
theorem congr3 {α β γ δ : Type} (f : α → β → γ → δ) {a a' : α} {b b' : β} {c c' : γ} (ha : a = a') (hb : b = b') (hc : c = c') : f a b c = f a' b' c' := by
  subst ha hb hc
  rfl

/-- Four equal arguments give equal values. -/
theorem congr4 {α β γ δ ε : Type} (f : α → β → γ → δ → ε) {a a' : α} {b b' : β} {c c' : γ} {d d' : δ} (ha : a = a') (hb : b = b') (hc : c = c') (hd : d = d') : f a b c d = f a' b' c' d' := by
  subst ha hb hc hd
  rfl

/-- The frame of `ReferenceDh2Ideal`, a straight line of host operations. -/
theorem frame_ref_Dh2 : quiescent_ReferenceDh2Ideal := fun m ρ _ =>
  (θ_run ReferenceDh2Ideal.defs _ _).mono (fun r h => ⟨fun c => (h c).2, sem_eq_zero_of_no_sems (by decide) r.2⟩)
    (ReferenceDh2Ideal.Value.run (F := Ideal) m ρ)

open KernelDh2Ideal.Dh2 ReferenceDh2Ideal.Read in
/-- The array of `KernelDh2Ideal` and that of its reference are the same function of the arguments. -/
theorem algebraic_Dh2 : algebraic_KernelDh2Ideal_ReferenceDh2Ideal := by
  intro m g m' g' _ hag
  refine ⟨fun c => grad (A0 m c) (A1 m c) (A2 m c), ?_, ?_⟩
  · exact (θ_run KernelDh2Ideal.defs _ _).mono (fun r h c => ⟨(h c).1.trans (arr_eq m c), (h c).2⟩)
      (KernelDh2Ideal.Value.run_blocks (F := Ideal) m g)
  · refine (θ_run ReferenceDh2Ideal.defs _ _).mono (fun r h c => ?_) (ReferenceDh2Ideal.Value.run (F := Ideal) m' g')
    obtain ⟨e0, e1, e2⟩ := hag c
    refine ⟨(h c).1.trans ((val_main_v4_eq (F := Ideal) _ _ _).trans ((ref_eq _ _ _).trans ?_)), (h c).2⟩
    exact congr3 grad e0 e1 e2

/-- The frame of `ReferenceWUpIdeal`, a straight line of host operations. -/
theorem frame_ref_WUp : quiescent_ReferenceWUpIdeal := fun m ρ _ =>
  (θ_run ReferenceWUpIdeal.defs _ _).mono (fun r h => ⟨fun c => (h c).2, sem_eq_zero_of_no_sems (by decide) r.2⟩)
    (ReferenceWUpIdeal.Value.run (F := Ideal) m ρ)

open KernelWUpIdeal.WUp ReferenceWUpIdeal.Read in
/-- The array of `KernelWUpIdeal` and that of its reference are the same function of the arguments. -/
theorem algebraic_WUp : algebraic_KernelWUpIdeal_ReferenceWUpIdeal := by
  intro m g m' g' _ hag
  refine ⟨fun c => grad (A0 m c) (A1 m c), ?_, ?_⟩
  · exact (θ_run KernelWUpIdeal.defs _ _).mono (fun r h c => ⟨(h c).1.trans (arr_eq m c), (h c).2⟩)
      (KernelWUpIdeal.Value.run_blocks (F := Ideal) m g)
  · refine (θ_run ReferenceWUpIdeal.defs _ _).mono (fun r h c => ?_) (ReferenceWUpIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceConvIdeal`, a straight line of host operations. -/
theorem frame_ref_Conv : quiescent_ReferenceConvIdeal := fun m ρ _ =>
  (θ_run ReferenceConvIdeal.defs _ _).mono (fun r h => ⟨fun c => (h c).2, sem_eq_zero_of_no_sems (by decide) r.2⟩)
    (ReferenceConvIdeal.Value.run (F := Ideal) m ρ)

open KernelConvIdeal.Conv ReferenceConvIdeal.Read in
/-- The array of `KernelConvIdeal` and that of its reference are the same function of the arguments. -/
theorem algebraic_Conv : algebraic_KernelConvIdeal_ReferenceConvIdeal := by
  intro m g m' g' _ hag
  refine ⟨fun c => grad (A0 m c) (A1 m c), ?_, ?_⟩
  · exact (θ_run KernelConvIdeal.defs _ _).mono (fun r h c => ⟨(h c).1.trans (arr_eq m c), (h c).2⟩)
      (KernelConvIdeal.Value.run_blocks (F := Ideal) m g)
  · refine (θ_run ReferenceConvIdeal.defs _ _).mono (fun r h c => ?_) (ReferenceConvIdeal.Value.run (F := Ideal) m' g')
    obtain ⟨e0, e1⟩ := hag c
    refine ⟨(h c).1.trans ((val_main_v42_eq (F := Ideal) _ _).trans ((ref_eq _ _).trans ?_)), (h c).2⟩
    exact congrArg₂ grad e0 e1

/-- The frame of `ReferenceWDownIdeal`, a straight line of host operations. -/
theorem frame_ref_WDown : quiescent_ReferenceWDownIdeal := fun m ρ _ =>
  (θ_run ReferenceWDownIdeal.defs _ _).mono (fun r h => ⟨fun c => (h c).2, sem_eq_zero_of_no_sems (by decide) r.2⟩)
    (ReferenceWDownIdeal.Value.run (F := Ideal) m ρ)

open KernelWDownIdeal.WDown ReferenceWDownIdeal.Read in
/-- The array of `KernelWDownIdeal` and that of its reference are the same function of the arguments. -/
theorem algebraic_WDown : algebraic_KernelWDownIdeal_ReferenceWDownIdeal := by
  intro m g m' g' _ hag
  refine ⟨fun c => grad (A0 m c) (A1 m c), ?_, ?_⟩
  · exact (θ_run KernelWDownIdeal.defs _ _).mono (fun r h c => ⟨(h c).1.trans (arr_eq m c), (h c).2⟩)
      (KernelWDownIdeal.Value.run_blocks (F := Ideal) m g)
  · refine (θ_run ReferenceWDownIdeal.defs _ _).mono (fun r h c => ?_) (ReferenceWDownIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWOutIdeal`, a straight line of host operations. -/
theorem frame_ref_WOut : quiescent_ReferenceWOutIdeal := fun m ρ _ =>
  (θ_run ReferenceWOutIdeal.defs _ _).mono (fun r h => ⟨fun c => (h c).2, sem_eq_zero_of_no_sems (by decide) r.2⟩)
    (ReferenceWOutIdeal.Value.run (F := Ideal) m ρ)

open KernelWOutIdeal.WOut ReferenceWOutIdeal.Read in
/-- The array of `KernelWOutIdeal` and that of its reference are the same function of the arguments. -/
theorem algebraic_WOut : algebraic_KernelWOutIdeal_ReferenceWOutIdeal := by
  intro m g m' g' _ hag
  refine ⟨fun c => grad (A0 m c) (A1 m c), ?_, ?_⟩
  · exact (θ_run KernelWOutIdeal.defs _ _).mono (fun r h c => ⟨(h c).1.trans (arr_eq m c), (h c).2⟩)
      (KernelWOutIdeal.Value.run_blocks (F := Ideal) m g)
  · refine (θ_run ReferenceWOutIdeal.defs _ _).mono (fun r h c => ?_) (ReferenceWOutIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWBrIdeal`, a straight line of host operations. -/
theorem frame_ref_WBr : quiescent_ReferenceWBrIdeal := fun m ρ _ =>
  (θ_run ReferenceWBrIdeal.defs _ _).mono (fun r h => ⟨fun c => (h c).2, sem_eq_zero_of_no_sems (by decide) r.2⟩)
    (ReferenceWBrIdeal.Value.run (F := Ideal) m ρ)

open KernelWBrIdeal.WBr ReferenceWBrIdeal.Read in
/-- The array of `KernelWBrIdeal` and that of its reference are the same function of the arguments. -/
theorem algebraic_WBr : algebraic_KernelWBrIdeal_ReferenceWBrIdeal := by
  intro m g m' g' _ hag
  refine ⟨fun c => grad (A0 m c) (A1 m c), ?_, ?_⟩
  · exact (θ_run KernelWBrIdeal.defs _ _).mono (fun r h c => ⟨(h c).1.trans (arr_eq m c), (h c).2⟩)
      (KernelWBrIdeal.Value.run_blocks (F := Ideal) m g)
  · refine (θ_run ReferenceWBrIdeal.defs _ _).mono (fun r h c => ?_) (ReferenceWBrIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWInFoxIdeal`, a straight line of host operations. -/
theorem frame_ref_WInFox : quiescent_ReferenceWInFoxIdeal := fun m ρ _ =>
  (θ_run ReferenceWInFoxIdeal.defs _ _).mono (fun r h => ⟨fun c => (h c).2, sem_eq_zero_of_no_sems (by decide) r.2⟩)
    (ReferenceWInFoxIdeal.Value.run (F := Ideal) m ρ)

open KernelWInFoxIdeal.WInFox ReferenceWInFoxIdeal.Read in
/-- The array of `KernelWInFoxIdeal` and that of its reference are the same function of the arguments. -/
theorem algebraic_WInFox : algebraic_KernelWInFoxIdeal_ReferenceWInFoxIdeal := by
  intro m g m' g' _ hag
  refine ⟨fun c => grad (A0 m c) (A1 m c), ?_, ?_⟩
  · exact (θ_run KernelWInFoxIdeal.defs _ _).mono (fun r h c => ⟨(h c).1.trans (arr_eq m c), (h c).2⟩)
      (KernelWInFoxIdeal.Value.run_blocks (F := Ideal) m g)
  · refine (θ_run ReferenceWInFoxIdeal.defs _ _).mono (fun r h c => ?_) (ReferenceWInFoxIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWInMqIdeal`, a straight line of host operations. -/
theorem frame_ref_WInMq : quiescent_ReferenceWInMqIdeal := fun m ρ _ =>
  (θ_run ReferenceWInMqIdeal.defs _ _).mono (fun r h => ⟨fun c => (h c).2, sem_eq_zero_of_no_sems (by decide) r.2⟩)
    (ReferenceWInMqIdeal.Value.run (F := Ideal) m ρ)

open KernelWInMqIdeal.WInMq ReferenceWInMqIdeal.Read in
/-- The array of `KernelWInMqIdeal` and that of its reference are the same function of the arguments. -/
theorem algebraic_WInMq : algebraic_KernelWInMqIdeal_ReferenceWInMqIdeal := by
  intro m g m' g' _ hag
  refine ⟨fun c => grad (A0 m c) (A1 m c), ?_, ?_⟩
  · exact (θ_run KernelWInMqIdeal.defs _ _).mono (fun r h c => ⟨(h c).1.trans (arr_eq m c), (h c).2⟩)
      (KernelWInMqIdeal.Value.run_blocks (F := Ideal) m g)
  · refine (θ_run ReferenceWInMqIdeal.defs _ _).mono (fun r h c => ?_) (ReferenceWInMqIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWInHgIdeal`, a straight line of host operations. -/
theorem frame_ref_WInHg : quiescent_ReferenceWInHgIdeal := fun m ρ _ =>
  (θ_run ReferenceWInHgIdeal.defs _ _).mono (fun r h => ⟨fun c => (h c).2, sem_eq_zero_of_no_sems (by decide) r.2⟩)
    (ReferenceWInHgIdeal.Value.run (F := Ideal) m ρ)

open KernelWInHgIdeal.WInHg ReferenceWInHgIdeal.Read in
/-- The array of `KernelWInHgIdeal` and that of its reference are the same function of the arguments. -/
theorem algebraic_WInHg : algebraic_KernelWInHgIdeal_ReferenceWInHgIdeal := by
  intro m g m' g' _ hag
  refine ⟨fun c => grad (A0 m c) (A1 m c), ?_, ?_⟩
  · exact (θ_run KernelWInHgIdeal.defs _ _).mono (fun r h c => ⟨(h c).1.trans (arr_eq m c), (h c).2⟩)
      (KernelWInHgIdeal.Value.run_blocks (F := Ideal) m g)
  · refine (θ_run ReferenceWInHgIdeal.defs _ _).mono (fun r h c => ?_) (ReferenceWInHgIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWInGateIdeal`, a straight line of host operations. -/
theorem frame_ref_WInGate : quiescent_ReferenceWInGateIdeal := fun m ρ _ =>
  (θ_run ReferenceWInGateIdeal.defs _ _).mono (fun r h => ⟨fun c => (h c).2, sem_eq_zero_of_no_sems (by decide) r.2⟩)
    (ReferenceWInGateIdeal.Value.run (F := Ideal) m ρ)

open KernelWInGateIdeal.WInGate ReferenceWInGateIdeal.Read in
/-- The array of `KernelWInGateIdeal` and that of its reference are the same function of the arguments. -/
theorem algebraic_WInGate : algebraic_KernelWInGateIdeal_ReferenceWInGateIdeal := by
  intro m g m' g' _ hag
  refine ⟨fun c => grad (A0 m c) (A1 m c), ?_, ?_⟩
  · exact (θ_run KernelWInGateIdeal.defs _ _).mono (fun r h c => ⟨(h c).1.trans (arr_eq m c), (h c).2⟩)
      (KernelWInGateIdeal.Value.run_blocks (F := Ideal) m g)
  · refine (θ_run ReferenceWInGateIdeal.defs _ _).mono (fun r h c => ?_) (ReferenceWInGateIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceWInFfIdeal`, a straight line of host operations. -/
theorem frame_ref_WInFf : quiescent_ReferenceWInFfIdeal := fun m ρ _ =>
  (θ_run ReferenceWInFfIdeal.defs _ _).mono (fun r h => ⟨fun c => (h c).2, sem_eq_zero_of_no_sems (by decide) r.2⟩)
    (ReferenceWInFfIdeal.Value.run (F := Ideal) m ρ)

open KernelWInFfIdeal.WInFf ReferenceWInFfIdeal.Read in
/-- The array of `KernelWInFfIdeal` and that of its reference are the same function of the arguments. -/
theorem algebraic_WInFf : algebraic_KernelWInFfIdeal_ReferenceWInFfIdeal := by
  intro m g m' g' _ hag
  refine ⟨fun c => grad (A0 m c) (A1 m c), ?_, ?_⟩
  · exact (θ_run KernelWInFfIdeal.defs _ _).mono (fun r h c => ⟨(h c).1.trans (arr_eq m c), (h c).2⟩)
      (KernelWInFfIdeal.Value.run_blocks (F := Ideal) m g)
  · refine (θ_run ReferenceWInFfIdeal.defs _ _).mono (fun r h c => ?_) (ReferenceWInFfIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceProjInIdeal`, a straight line of host operations. -/
theorem frame_ref_ProjIn : quiescent_ReferenceProjInIdeal := fun m ρ _ =>
  (θ_run ReferenceProjInIdeal.defs _ _).mono (fun r h => ⟨fun c => (h c).2, sem_eq_zero_of_no_sems (by decide) r.2⟩)
    (ReferenceProjInIdeal.Value.run (F := Ideal) m ρ)

open KernelProjInIdeal.ProjIn ReferenceProjInIdeal.Read in
/-- The array of `KernelProjInIdeal` and that of its reference are the same function of the arguments. -/
theorem algebraic_ProjIn : algebraic_KernelProjInIdeal_ReferenceProjInIdeal := by
  intro m g m' g' _ hag
  refine ⟨fun c => grad (A0 m c) (A1 m c), ?_, ?_⟩
  · exact (θ_run KernelProjInIdeal.defs _ _).mono (fun r h c => ⟨(h c).1.trans (arr_eq m c), (h c).2⟩)
      (KernelProjInIdeal.Value.run_blocks (F := Ideal) m g)
  · refine (θ_run ReferenceProjInIdeal.defs _ _).mono (fun r h c => ?_) (ReferenceProjInIdeal.Value.run (F := Ideal) m' g')
    obtain ⟨e0, e1⟩ := hag c
    refine ⟨(h c).1.trans ((val_main_v2_eq (F := Ideal) _ _).trans ((ref_eq _ _).trans ?_)), (h c).2⟩
    exact congrArg₂ grad e0 e1

/-- The frame of `ReferenceFfnUpIdeal`, a straight line of host operations. -/
theorem frame_ref_FfnUp : quiescent_ReferenceFfnUpIdeal := fun m ρ _ =>
  (θ_run ReferenceFfnUpIdeal.defs _ _).mono (fun r h => ⟨fun c => (h c).2, sem_eq_zero_of_no_sems (by decide) r.2⟩)
    (ReferenceFfnUpIdeal.Value.run (F := Ideal) m ρ)

open KernelFfnUpIdeal.FfnUp ReferenceFfnUpIdeal.Read in
/-- The array of `KernelFfnUpIdeal` and that of its reference are the same function of the arguments. -/
theorem algebraic_FfnUp : algebraic_KernelFfnUpIdeal_ReferenceFfnUpIdeal := by
  intro m g m' g' _ hag
  refine ⟨fun c => grad (A0 m c) (A1 m c), ?_, ?_⟩
  · exact (θ_run KernelFfnUpIdeal.defs _ _).mono (fun r h c => ⟨(h c).1.trans (arr_eq m c), (h c).2⟩)
      (KernelFfnUpIdeal.Value.run_blocks (F := Ideal) m g)
  · refine (θ_run ReferenceFfnUpIdeal.defs _ _).mono (fun r h c => ?_) (ReferenceFfnUpIdeal.Value.run (F := Ideal) m' g')
    obtain ⟨e0, e1⟩ := hag c
    refine ⟨(h c).1.trans ((val_main_v2_eq (F := Ideal) _ _).trans ((ref_eq _ _).trans ?_)), (h c).2⟩
    exact congrArg₂ grad e0 e1

/-- The frame of `ReferenceDhIdeal`, a straight line of host operations. -/
theorem frame_ref_Dh : quiescent_ReferenceDhIdeal := fun m ρ _ =>
  (θ_run ReferenceDhIdeal.defs _ _).mono (fun r h => ⟨fun c => (h c).2, sem_eq_zero_of_no_sems (by decide) r.2⟩)
    (ReferenceDhIdeal.Value.run (F := Ideal) m ρ)

open KernelDhIdeal.Dh ReferenceDhIdeal.Read in
/-- The array of `KernelDhIdeal` and that of its reference are the same function of the arguments. -/
theorem algebraic_Dh : algebraic_KernelDhIdeal_ReferenceDhIdeal := by
  intro m g m' g' _ hag
  refine ⟨fun c => grad (A0 m c) (A1 m c) (A2 m c) (A3 m c) (A4 m c) (A5 m c), ?_, ?_⟩
  · exact (θ_run KernelDhIdeal.defs _ _).mono (fun r h c => ⟨(h c).1.trans (arr_eq m c), (h c).2⟩)
      (KernelDhIdeal.Value.run_blocks (F := Ideal) m g)
  · refine (θ_run ReferenceDhIdeal.defs _ _).mono (fun r h c => ?_) (ReferenceDhIdeal.Value.run (F := Ideal) m' g')
    obtain ⟨e0, e1, e2, e3, e4, e5⟩ := hag c
    refine ⟨(h c).1.trans ((val_main_v4_eq (F := Ideal) _ _ _ _ _ _).trans ((ref_eq _ _ _ _ _ _).trans ?_)), (h c).2⟩
    exact congr6 grad e0 e1 e2 e3 e4 e5

/-- The frame of `ReferenceMergeBIdeal`, a straight line of host operations. -/
theorem frame_ref_MergeB : quiescent_ReferenceMergeBIdeal := fun m ρ _ =>
  (θ_run ReferenceMergeBIdeal.defs _ _).mono (fun r h => ⟨fun c => (h c).2.2.2.2.2.2.2, sem_eq_zero_of_no_sems (by decide) r.2⟩)
    (ReferenceMergeBIdeal.Value.run (F := Ideal) m ρ)

open KernelMergeBIdeal.MergeB ReferenceMergeBIdeal.Read in
/-- The arrays of `KernelMergeBIdeal` and those of its reference are the same functions of the arguments. -/
theorem algebraic_MergeB : algebraic_KernelMergeBIdeal_ReferenceMergeBIdeal := by
  intro m g m' g' _ hag
  refine ⟨fun c => rowsG (dgate (A0 m c) (A1 m c) (A2 m c) (A3 m c) (A4 m c) (A5 m c) (A6 m c) (A7 m c) (A8 m c)),
    fun c => rowsY (dy gate0 (A0 m c) (A1 m c) (A5 m c) (A8 m c)),
    fun c => rowsY (dy gate1 (A0 m c) (A1 m c) (A6 m c) (A8 m c)),
    fun c => rowsY (dy gate2 (A0 m c) (A1 m c) (A7 m c) (A8 m c)),
    fun c => rows (du gate0 (A0 m c) (A1 m c) (A8 m c)),
    fun c => rows (du gate1 (A0 m c) (A1 m c) (A8 m c)),
    fun c => rows (du gate2 (A0 m c) (A1 m c) (A8 m c)), ?_, ?_⟩
  · exact (θ_run KernelMergeBIdeal.defs _ _).mono (fun r h c => ⟨(h c).1.trans (arr11 m c),
      (h c).2.1.trans (arr12 m c),
      (h c).2.2.1.trans (arr13 m c),
      (h c).2.2.2.1.trans (arr14 m c),
      (h c).2.2.2.2.1.trans (arr15 m c),
      (h c).2.2.2.2.2.1.trans (arr16 m c),
      (h c).2.2.2.2.2.2.1.trans (arr17 m c),
      (h c).2.2.2.2.2.2.2⟩)
      (KernelMergeBIdeal.Value.run_blocks (F := Ideal) m g)
  · refine (θ_run ReferenceMergeBIdeal.defs _ _).mono (fun r h c => ?_) (ReferenceMergeBIdeal.Value.run (F := Ideal) m' g')
    obtain ⟨e0, e1, e2, e3, e4, e5, e6, e7, e8⟩ := hag c
    refine ⟨?_, ?_, ?_, ?_, ?_, ?_, ?_, (h c).2.2.2.2.2.2.2⟩
    · exact (h c).1.trans ((val_main_v49_eq (F := Ideal) _ _ _ _ _ _ _ _ _).trans ((ref11 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e2, e3, e4, e5, e6, e7, e8])))
    · exact (h c).2.1.trans ((val_main_v50_eq (F := Ideal) _ _ _ _).trans ((ref12 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e5, e8])))
    · exact (h c).2.2.1.trans ((val_main_v51_eq (F := Ideal) _ _ _ _).trans ((ref13 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e6, e8])))
    · exact (h c).2.2.2.1.trans ((val_main_v52_eq (F := Ideal) _ _ _ _).trans ((ref14 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e7, e8])))
    · exact (h c).2.2.2.2.1.trans ((val_main_v54_eq (F := Ideal) _ _ _).trans ((ref15 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e8])))
    · exact (h c).2.2.2.2.2.1.trans ((val_main_v56_eq (F := Ideal) _ _ _).trans ((ref16 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e8])))
    · exact (h c).2.2.2.2.2.2.1.trans ((val_main_v58_eq (F := Ideal) _ _ _).trans ((ref17 (m' ((c.tc : Thread ReferenceMergeBIdeal.nD ReferenceMergeBIdeal.τ).loc ReferenceMergeBIdeal.main_arg0)) (m' ((c.tc : Thread ReferenceMergeBIdeal.nD ReferenceMergeBIdeal.τ).loc ReferenceMergeBIdeal.main_arg1)) (m' ((c.tc : Thread ReferenceMergeBIdeal.nD ReferenceMergeBIdeal.τ).loc ReferenceMergeBIdeal.main_arg2)) (m' ((c.tc : Thread ReferenceMergeBIdeal.nD ReferenceMergeBIdeal.τ).loc ReferenceMergeBIdeal.main_arg3)) (m' ((c.tc : Thread ReferenceMergeBIdeal.nD ReferenceMergeBIdeal.τ).loc ReferenceMergeBIdeal.main_arg4)) (m' ((c.tc : Thread ReferenceMergeBIdeal.nD ReferenceMergeBIdeal.τ).loc ReferenceMergeBIdeal.main_arg5)) (m' ((c.tc : Thread ReferenceMergeBIdeal.nD ReferenceMergeBIdeal.τ).loc ReferenceMergeBIdeal.main_arg6)) (m' ((c.tc : Thread ReferenceMergeBIdeal.nD ReferenceMergeBIdeal.τ).loc ReferenceMergeBIdeal.main_arg7)) (m' ((c.tc : Thread ReferenceMergeBIdeal.nD ReferenceMergeBIdeal.τ).loc ReferenceMergeBIdeal.main_arg8))).trans (by rw [e0, e1, e8])))

/-- The frame of `ReferenceMergeFIdeal`, a straight line of host operations. -/
theorem frame_ref_MergeF : quiescent_ReferenceMergeFIdeal := fun m ρ _ =>
  (θ_run ReferenceMergeFIdeal.defs _ _).mono (fun r h => ⟨fun c => (h c).2.2.2.2.2.2, sem_eq_zero_of_no_sems (by decide) r.2⟩)
    (ReferenceMergeFIdeal.Value.run (F := Ideal) m ρ)

open KernelMergeFIdeal.MergeF ReferenceMergeFIdeal.Read in
/-- The arrays of `KernelMergeFIdeal` and those of its reference are the same functions of the arguments. -/
theorem algebraic_MergeF : algebraic_KernelMergeFIdeal_ReferenceMergeFIdeal := by
  intro m g m' g' _ hag
  refine ⟨fun c => rows (mid (A0 m c) (A1 m c) (A2 m c) (A3 m c) (A4 m c) (A5 m c) (A6 m c) (A7 m c) (A8 m c)),
    fun c => rows (merged (A0 m c) (A1 m c) (A2 m c) (A3 m c) (A5 m c) (A6 m c) (A7 m c)),
    fun c => rows (up (A0 m c) (A5 m c)),
    fun c => rows (up (A1 m c) (A6 m c)),
    fun c => rows (up (A2 m c) (A7 m c)),
    fun c => rows (h2 (A0 m c) (A1 m c) (A2 m c) (A3 m c) (A4 m c) (A5 m c) (A6 m c) (A7 m c) (A8 m c) (A9 m c)), ?_, ?_⟩
  · exact (θ_run KernelMergeFIdeal.defs _ _).mono (fun r h c => ⟨(h c).1.trans (arr12 m c),
      (h c).2.1.trans (arr13 m c),
      (h c).2.2.1.trans (arr14 m c),
      (h c).2.2.2.1.trans (arr15 m c),
      (h c).2.2.2.2.1.trans (arr16 m c),
      (h c).2.2.2.2.2.1.trans (arr17 m c),
      (h c).2.2.2.2.2.2⟩)
      (KernelMergeFIdeal.Value.run_blocks (F := Ideal) m g)
  · refine (θ_run ReferenceMergeFIdeal.defs _ _).mono (fun r h c => ?_) (ReferenceMergeFIdeal.Value.run (F := Ideal) m' g')
    obtain ⟨e0, e1, e2, e3, e4, e5, e6, e7, e8, e9⟩ := hag c
    refine ⟨?_, ?_, ?_, ?_, ?_, ?_, (h c).2.2.2.2.2.2⟩
    · exact (h c).1.trans ((val_main_v37_eq (F := Ideal) _ _ _ _ _ _ _ _ _).trans ((ref12 (m' ((c.tc : Thread ReferenceMergeFIdeal.nD ReferenceMergeFIdeal.τ).loc ReferenceMergeFIdeal.main_arg0)) (m' ((c.tc : Thread ReferenceMergeFIdeal.nD ReferenceMergeFIdeal.τ).loc ReferenceMergeFIdeal.main_arg1)) (m' ((c.tc : Thread ReferenceMergeFIdeal.nD ReferenceMergeFIdeal.τ).loc ReferenceMergeFIdeal.main_arg2)) (m' ((c.tc : Thread ReferenceMergeFIdeal.nD ReferenceMergeFIdeal.τ).loc ReferenceMergeFIdeal.main_arg3)) (m' ((c.tc : Thread ReferenceMergeFIdeal.nD ReferenceMergeFIdeal.τ).loc ReferenceMergeFIdeal.main_arg4)) (m' ((c.tc : Thread ReferenceMergeFIdeal.nD ReferenceMergeFIdeal.τ).loc ReferenceMergeFIdeal.main_arg5)) (m' ((c.tc : Thread ReferenceMergeFIdeal.nD ReferenceMergeFIdeal.τ).loc ReferenceMergeFIdeal.main_arg6)) (m' ((c.tc : Thread ReferenceMergeFIdeal.nD ReferenceMergeFIdeal.τ).loc ReferenceMergeFIdeal.main_arg7)) (m' ((c.tc : Thread ReferenceMergeFIdeal.nD ReferenceMergeFIdeal.τ).loc ReferenceMergeFIdeal.main_arg8)) (m' ((c.tc : Thread ReferenceMergeFIdeal.nD ReferenceMergeFIdeal.τ).loc ReferenceMergeFIdeal.main_arg9))).trans (by rw [e0, e1, e2, e3, e4, e5, e6, e7, e8])))
    · exact (h c).2.1.trans ((val_main_v39_eq (F := Ideal) _ _ _ _ _ _ _).trans ((ref13 (m' ((c.tc : Thread ReferenceMergeFIdeal.nD ReferenceMergeFIdeal.τ).loc ReferenceMergeFIdeal.main_arg0)) (m' ((c.tc : Thread ReferenceMergeFIdeal.nD ReferenceMergeFIdeal.τ).loc ReferenceMergeFIdeal.main_arg1)) (m' ((c.tc : Thread ReferenceMergeFIdeal.nD ReferenceMergeFIdeal.τ).loc ReferenceMergeFIdeal.main_arg2)) (m' ((c.tc : Thread ReferenceMergeFIdeal.nD ReferenceMergeFIdeal.τ).loc ReferenceMergeFIdeal.main_arg3)) (m' ((c.tc : Thread ReferenceMergeFIdeal.nD ReferenceMergeFIdeal.τ).loc ReferenceMergeFIdeal.main_arg4)) (m' ((c.tc : Thread ReferenceMergeFIdeal.nD ReferenceMergeFIdeal.τ).loc ReferenceMergeFIdeal.main_arg5)) (m' ((c.tc : Thread ReferenceMergeFIdeal.nD ReferenceMergeFIdeal.τ).loc ReferenceMergeFIdeal.main_arg6)) (m' ((c.tc : Thread ReferenceMergeFIdeal.nD ReferenceMergeFIdeal.τ).loc ReferenceMergeFIdeal.main_arg7)) (m' ((c.tc : Thread ReferenceMergeFIdeal.nD ReferenceMergeFIdeal.τ).loc ReferenceMergeFIdeal.main_arg8)) (m' ((c.tc : Thread ReferenceMergeFIdeal.nD ReferenceMergeFIdeal.τ).loc ReferenceMergeFIdeal.main_arg9))).trans (by rw [e0, e1, e2, e3, e5, e6, e7])))
    · exact (h c).2.2.1.trans ((val_main_v41_eq (F := Ideal) _ _).trans ((ref14 (m' ((c.tc : Thread ReferenceMergeFIdeal.nD ReferenceMergeFIdeal.τ).loc ReferenceMergeFIdeal.main_arg0)) (m' ((c.tc : Thread ReferenceMergeFIdeal.nD ReferenceMergeFIdeal.τ).loc ReferenceMergeFIdeal.main_arg1)) (m' ((c.tc : Thread ReferenceMergeFIdeal.nD ReferenceMergeFIdeal.τ).loc ReferenceMergeFIdeal.main_arg2)) (m' ((c.tc : Thread ReferenceMergeFIdeal.nD ReferenceMergeFIdeal.τ).loc ReferenceMergeFIdeal.main_arg3)) (m' ((c.tc : Thread ReferenceMergeFIdeal.nD ReferenceMergeFIdeal.τ).loc ReferenceMergeFIdeal.main_arg4)) (m' ((c.tc : Thread ReferenceMergeFIdeal.nD ReferenceMergeFIdeal.τ).loc ReferenceMergeFIdeal.main_arg5)) (m' ((c.tc : Thread ReferenceMergeFIdeal.nD ReferenceMergeFIdeal.τ).loc ReferenceMergeFIdeal.main_arg6)) (m' ((c.tc : Thread ReferenceMergeFIdeal.nD ReferenceMergeFIdeal.τ).loc ReferenceMergeFIdeal.main_arg7)) (m' ((c.tc : Thread ReferenceMergeFIdeal.nD ReferenceMergeFIdeal.τ).loc ReferenceMergeFIdeal.main_arg8)) (m' ((c.tc : Thread ReferenceMergeFIdeal.nD ReferenceMergeFIdeal.τ).loc ReferenceMergeFIdeal.main_arg9))).trans (by rw [e0, e5])))
    · exact (h c).2.2.2.1.trans ((val_main_v43_eq (F := Ideal) _ _).trans ((ref15 (m' ((c.tc : Thread ReferenceMergeFIdeal.nD ReferenceMergeFIdeal.τ).loc ReferenceMergeFIdeal.main_arg0)) (m' ((c.tc : Thread ReferenceMergeFIdeal.nD ReferenceMergeFIdeal.τ).loc ReferenceMergeFIdeal.main_arg1)) (m' ((c.tc : Thread ReferenceMergeFIdeal.nD ReferenceMergeFIdeal.τ).loc ReferenceMergeFIdeal.main_arg2)) (m' ((c.tc : Thread ReferenceMergeFIdeal.nD ReferenceMergeFIdeal.τ).loc ReferenceMergeFIdeal.main_arg3)) (m' ((c.tc : Thread ReferenceMergeFIdeal.nD ReferenceMergeFIdeal.τ).loc ReferenceMergeFIdeal.main_arg4)) (m' ((c.tc : Thread ReferenceMergeFIdeal.nD ReferenceMergeFIdeal.τ).loc ReferenceMergeFIdeal.main_arg5)) (m' ((c.tc : Thread ReferenceMergeFIdeal.nD ReferenceMergeFIdeal.τ).loc ReferenceMergeFIdeal.main_arg6)) (m' ((c.tc : Thread ReferenceMergeFIdeal.nD ReferenceMergeFIdeal.τ).loc ReferenceMergeFIdeal.main_arg7)) (m' ((c.tc : Thread ReferenceMergeFIdeal.nD ReferenceMergeFIdeal.τ).loc ReferenceMergeFIdeal.main_arg8)) (m' ((c.tc : Thread ReferenceMergeFIdeal.nD ReferenceMergeFIdeal.τ).loc ReferenceMergeFIdeal.main_arg9))).trans (by rw [e1, e6])))
    · exact (h c).2.2.2.2.1.trans ((val_main_v45_eq (F := Ideal) _ _).trans ((ref16 (m' ((c.tc : Thread ReferenceMergeFIdeal.nD ReferenceMergeFIdeal.τ).loc ReferenceMergeFIdeal.main_arg0)) (m' ((c.tc : Thread ReferenceMergeFIdeal.nD ReferenceMergeFIdeal.τ).loc ReferenceMergeFIdeal.main_arg1)) (m' ((c.tc : Thread ReferenceMergeFIdeal.nD ReferenceMergeFIdeal.τ).loc ReferenceMergeFIdeal.main_arg2)) (m' ((c.tc : Thread ReferenceMergeFIdeal.nD ReferenceMergeFIdeal.τ).loc ReferenceMergeFIdeal.main_arg3)) (m' ((c.tc : Thread ReferenceMergeFIdeal.nD ReferenceMergeFIdeal.τ).loc ReferenceMergeFIdeal.main_arg4)) (m' ((c.tc : Thread ReferenceMergeFIdeal.nD ReferenceMergeFIdeal.τ).loc ReferenceMergeFIdeal.main_arg5)) (m' ((c.tc : Thread ReferenceMergeFIdeal.nD ReferenceMergeFIdeal.τ).loc ReferenceMergeFIdeal.main_arg6)) (m' ((c.tc : Thread ReferenceMergeFIdeal.nD ReferenceMergeFIdeal.τ).loc ReferenceMergeFIdeal.main_arg7)) (m' ((c.tc : Thread ReferenceMergeFIdeal.nD ReferenceMergeFIdeal.τ).loc ReferenceMergeFIdeal.main_arg8)) (m' ((c.tc : Thread ReferenceMergeFIdeal.nD ReferenceMergeFIdeal.τ).loc ReferenceMergeFIdeal.main_arg9))).trans (by rw [e2, e7])))
    · exact (h c).2.2.2.2.2.1.trans ((val_main_v47_eq (F := Ideal) m' c).trans ((ref17 (m' ((c.tc : Thread ReferenceMergeFIdeal.nD ReferenceMergeFIdeal.τ).loc ReferenceMergeFIdeal.main_arg0)) (m' ((c.tc : Thread ReferenceMergeFIdeal.nD ReferenceMergeFIdeal.τ).loc ReferenceMergeFIdeal.main_arg1)) (m' ((c.tc : Thread ReferenceMergeFIdeal.nD ReferenceMergeFIdeal.τ).loc ReferenceMergeFIdeal.main_arg2)) (m' ((c.tc : Thread ReferenceMergeFIdeal.nD ReferenceMergeFIdeal.τ).loc ReferenceMergeFIdeal.main_arg3)) (m' ((c.tc : Thread ReferenceMergeFIdeal.nD ReferenceMergeFIdeal.τ).loc ReferenceMergeFIdeal.main_arg4)) (m' ((c.tc : Thread ReferenceMergeFIdeal.nD ReferenceMergeFIdeal.τ).loc ReferenceMergeFIdeal.main_arg5)) (m' ((c.tc : Thread ReferenceMergeFIdeal.nD ReferenceMergeFIdeal.τ).loc ReferenceMergeFIdeal.main_arg6)) (m' ((c.tc : Thread ReferenceMergeFIdeal.nD ReferenceMergeFIdeal.τ).loc ReferenceMergeFIdeal.main_arg7)) (m' ((c.tc : Thread ReferenceMergeFIdeal.nD ReferenceMergeFIdeal.τ).loc ReferenceMergeFIdeal.main_arg8)) (m' ((c.tc : Thread ReferenceMergeFIdeal.nD ReferenceMergeFIdeal.τ).loc ReferenceMergeFIdeal.main_arg9))).trans (by rw [e0, e1, e2, e3, e4, e5, e6, e7, e8, e9])))

/-- The frame of `ReferenceLossIdeal`, a straight line of host operations. -/
theorem frame_ref_Loss : quiescent_ReferenceLossIdeal := fun m ρ _ =>
  (θ_run ReferenceLossIdeal.defs _ _).mono (fun r h => ⟨fun c => (h c).2.2, sem_eq_zero_of_no_sems (by decide) r.2⟩)
    (ReferenceLossIdeal.Value.run (F := Ideal) m ρ)

open KernelLossIdeal.Loss ReferenceLossIdeal.Read in
/-- The arrays of `KernelLossIdeal` and those of its reference are the same functions of the arguments. -/
theorem algebraic_Loss : algebraic_KernelLossIdeal_ReferenceLossIdeal := by
  intro m g m' g' _ hag
  refine ⟨fun c => grad (A0 m c) (A1 m c) (A2 m c) (A3 m c), fun c => total (A0 m c) (A1 m c) (A2 m c) (A3 m c), ?_, ?_⟩
  · exact run m g
  · refine (θ_run ReferenceLossIdeal.defs _ _).mono (fun r h c => ?_) (ReferenceLossIdeal.Value.run (F := Ideal) m' g')
    obtain ⟨e0, e1, e2, e3⟩ := hag c
    refine ⟨(h c).1.trans ((val_main_v17_eq (F := Ideal) _ _ _ _).trans ((ref_eq _ _ _ _).trans ?_)), (h c).2.1.trans ((val_main_v10_eq (F := Ideal) _ _ _ _).trans ((ref_loss _ _ _ _).trans ?_)), (h c).2.2⟩
    · exact congr4 grad e0 e1 e2 e3
    · exact congr4 total e0 e1 e2 e3

/-- The frame of `ReferenceNormBIdeal`, a straight line of host operations. -/
theorem frame_ref_NormB : quiescent_ReferenceNormBIdeal := fun m ρ _ =>
  (θ_run ReferenceNormBIdeal.defs _ _).mono (fun r h => ⟨fun c => (h c).2.2, sem_eq_zero_of_no_sems (by decide) r.2⟩)
    (ReferenceNormBIdeal.Value.run (F := Ideal) m ρ)

open KernelNormBIdeal.NormB ReferenceNormBIdeal.Read in
/-- The arrays of `KernelNormBIdeal` and those of its reference are the same functions of the arguments. -/
theorem algebraic_NormB : algebraic_KernelNormBIdeal_ReferenceNormBIdeal := by
  intro m g m' g' _ hag
  refine ⟨fun c => grad (A0 m c) (A1 m c) (A2 m c) (A3 m c), fun c => gain (A0 m c) (A1 m c) (A2 m c) (A3 m c), ?_, ?_⟩
  · exact run m g
  · refine (θ_run ReferenceNormBIdeal.defs _ _).mono (fun r h c => ?_) (ReferenceNormBIdeal.Value.run (F := Ideal) m' g')
    obtain ⟨e0, e1, e2, e3⟩ := hag c
    refine ⟨(h c).1.trans ((val_main_v38_eq (F := Ideal) m' c).trans ((ref_eq _ _ _ _).trans ?_)), (h c).2.1.trans ((val_main_v22_eq (F := Ideal) _ _).trans ((ref_gain _ _ (m' ((c.tc : Thread ReferenceNormBIdeal.nD ReferenceNormBIdeal.τ).loc ReferenceNormBIdeal.main_arg2)) (m' ((c.tc : Thread ReferenceNormBIdeal.nD ReferenceNormBIdeal.τ).loc ReferenceNormBIdeal.main_arg3))).trans ?_)), (h c).2.2⟩
    · exact congr4 grad e0 e1 e2 e3
    · exact congr4 gain e0 e1 e2 e3

/-- The frame of `ReferenceAdamInIdeal`, a straight line of host operations. -/
theorem frame_ref_AdamIn : quiescent_ReferenceAdamInIdeal := fun m ρ _ =>
  (θ_run ReferenceAdamInIdeal.defs _ _).mono (fun r h => ⟨fun c => (h c).2.2.2, sem_eq_zero_of_no_sems (by decide) r.2⟩)
    (ReferenceAdamInIdeal.Value.run (F := Ideal) m ρ)

open KernelAdamInIdeal in
/-- The arrays of `KernelAdamInIdeal` and those of its reference are the same functions of the arguments. -/
theorem algebraic_AdamIn : algebraic_KernelAdamInIdeal_ReferenceAdamInIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg1)) (m ((c.tc : Thread nD τ).loc main_arg2)),
    fun c => Value.G6 (F := Ideal) (m ((c.tc : Thread nD τ).loc main_arg1)) (m ((c.tc : Thread nD τ).loc main_arg3)), Value.run (F := Ideal) m g, ?_⟩
  refine (θ_run ReferenceAdamInIdeal.defs _ _).mono (fun r h c => ?_) (ReferenceAdamInIdeal.Value.run (F := Ideal) m' g')
  obtain ⟨e0, e1, e2, e3⟩ := hag c
  refine ⟨?_, ?_, ?_, (h c).2.2.2⟩
  · exact (h c).1.trans ((ReferenceAdamInIdeal.Read.val_main_v23_eq (F := Ideal) _ _ _ _).trans ((by rw [e0, e1, e2, e3] : _ = ReferenceAdamInIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3))).trans (AdamIn.delta_eq _ _ _ _).symm))
  · exact (h c).2.1.trans ((ReferenceAdamInIdeal.Read.val_main_v4_eq (F := Ideal) _ _).trans ((by rw [e1, e2] : _ = ReferenceAdamInIdeal.Read.val_main_v4 (F := Ideal) (m ((c.tc : Thread nD τ).loc main_arg1)) (m ((c.tc : Thread nD τ).loc main_arg2))).trans (AdamIn.newm_eq _ _).symm))
  · exact (h c).2.2.1.trans ((ReferenceAdamInIdeal.Read.val_main_v10_eq (F := Ideal) _ _).trans ((by rw [e1, e3] : _ = ReferenceAdamInIdeal.Read.val_main_v10 (F := Ideal) (m ((c.tc : Thread nD τ).loc main_arg1)) (m ((c.tc : Thread nD τ).loc main_arg3))).trans (AdamIn.newv_eq _ _).symm))

/-- The frame of `ReferenceAdamOutIdeal`, a straight line of host operations. -/
theorem frame_ref_AdamOut : quiescent_ReferenceAdamOutIdeal := fun m ρ _ =>
  (θ_run ReferenceAdamOutIdeal.defs _ _).mono (fun r h => ⟨fun c => (h c).2.2.2, sem_eq_zero_of_no_sems (by decide) r.2⟩)
    (ReferenceAdamOutIdeal.Value.run (F := Ideal) m ρ)

open KernelAdamOutIdeal in
/-- The arrays of `KernelAdamOutIdeal` and those of its reference are the same functions of the arguments. -/
theorem algebraic_AdamOut : algebraic_KernelAdamOutIdeal_ReferenceAdamOutIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg1)) (m ((c.tc : Thread nD τ).loc main_arg2)),
    fun c => Value.G6 (F := Ideal) (m ((c.tc : Thread nD τ).loc main_arg1)) (m ((c.tc : Thread nD τ).loc main_arg3)), Value.run (F := Ideal) m g, ?_⟩
  refine (θ_run ReferenceAdamOutIdeal.defs _ _).mono (fun r h c => ?_) (ReferenceAdamOutIdeal.Value.run (F := Ideal) m' g')
  obtain ⟨e0, e1, e2, e3⟩ := hag c
  refine ⟨?_, ?_, ?_, (h c).2.2.2⟩
  · exact (h c).1.trans ((ReferenceAdamOutIdeal.Read.val_main_v23_eq (F := Ideal) _ _ _ _).trans ((by rw [e0, e1, e2, e3] : _ = ReferenceAdamOutIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3))).trans (AdamOut.delta_eq _ _ _ _).symm))
  · exact (h c).2.1.trans ((ReferenceAdamOutIdeal.Read.val_main_v4_eq (F := Ideal) _ _).trans ((by rw [e1, e2] : _ = ReferenceAdamOutIdeal.Read.val_main_v4 (F := Ideal) (m ((c.tc : Thread nD τ).loc main_arg1)) (m ((c.tc : Thread nD τ).loc main_arg2))).trans (AdamOut.newm_eq _ _).symm))
  · exact (h c).2.2.1.trans ((ReferenceAdamOutIdeal.Read.val_main_v10_eq (F := Ideal) _ _).trans ((by rw [e1, e3] : _ = ReferenceAdamOutIdeal.Read.val_main_v10 (F := Ideal) (m ((c.tc : Thread nD τ).loc main_arg1)) (m ((c.tc : Thread nD τ).loc main_arg3))).trans (AdamOut.newv_eq _ _).symm))

/-- The frame of `ReferenceAdamBrIdeal`, a straight line of host operations. -/
theorem frame_ref_AdamBr : quiescent_ReferenceAdamBrIdeal := fun m ρ _ =>
  (θ_run ReferenceAdamBrIdeal.defs _ _).mono (fun r h => ⟨fun c => (h c).2.2.2, sem_eq_zero_of_no_sems (by decide) r.2⟩)
    (ReferenceAdamBrIdeal.Value.run (F := Ideal) m ρ)

open KernelAdamBrIdeal in
/-- The arrays of `KernelAdamBrIdeal` and those of its reference are the same functions of the arguments. -/
theorem algebraic_AdamBr : algebraic_KernelAdamBrIdeal_ReferenceAdamBrIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg1)) (m ((c.tc : Thread nD τ).loc main_arg2)),
    fun c => Value.G6 (F := Ideal) (m ((c.tc : Thread nD τ).loc main_arg1)) (m ((c.tc : Thread nD τ).loc main_arg3)), Value.run (F := Ideal) m g, ?_⟩
  refine (θ_run ReferenceAdamBrIdeal.defs _ _).mono (fun r h c => ?_) (ReferenceAdamBrIdeal.Value.run (F := Ideal) m' g')
  obtain ⟨e0, e1, e2, e3⟩ := hag c
  refine ⟨?_, ?_, ?_, (h c).2.2.2⟩
  · exact (h c).1.trans ((ReferenceAdamBrIdeal.Read.val_main_v23_eq (F := Ideal) _ _ _ _).trans ((by rw [e0, e1, e2, e3] : _ = ReferenceAdamBrIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3))).trans (AdamBr.delta_eq _ _ _ _).symm))
  · exact (h c).2.1.trans ((ReferenceAdamBrIdeal.Read.val_main_v4_eq (F := Ideal) _ _).trans ((by rw [e1, e2] : _ = ReferenceAdamBrIdeal.Read.val_main_v4 (F := Ideal) (m ((c.tc : Thread nD τ).loc main_arg1)) (m ((c.tc : Thread nD τ).loc main_arg2))).trans (AdamBr.newm_eq _ _).symm))
  · exact (h c).2.2.1.trans ((ReferenceAdamBrIdeal.Read.val_main_v10_eq (F := Ideal) _ _).trans ((by rw [e1, e3] : _ = ReferenceAdamBrIdeal.Read.val_main_v10 (F := Ideal) (m ((c.tc : Thread nD τ).loc main_arg1)) (m ((c.tc : Thread nD τ).loc main_arg3))).trans (AdamBr.newv_eq _ _).symm))

/-- The frame of `ReferenceAdamUpIdeal`, a straight line of host operations. -/
theorem frame_ref_AdamUp : quiescent_ReferenceAdamUpIdeal := fun m ρ _ =>
  (θ_run ReferenceAdamUpIdeal.defs _ _).mono (fun r h => ⟨fun c => (h c).2.2.2, sem_eq_zero_of_no_sems (by decide) r.2⟩)
    (ReferenceAdamUpIdeal.Value.run (F := Ideal) m ρ)

open KernelAdamUpIdeal in
/-- The arrays of `KernelAdamUpIdeal` and those of its reference are the same functions of the arguments. -/
theorem algebraic_AdamUp : algebraic_KernelAdamUpIdeal_ReferenceAdamUpIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg1)) (m ((c.tc : Thread nD τ).loc main_arg2)),
    fun c => Value.G6 (F := Ideal) (m ((c.tc : Thread nD τ).loc main_arg1)) (m ((c.tc : Thread nD τ).loc main_arg3)), Value.run (F := Ideal) m g, ?_⟩
  refine (θ_run ReferenceAdamUpIdeal.defs _ _).mono (fun r h c => ?_) (ReferenceAdamUpIdeal.Value.run (F := Ideal) m' g')
  obtain ⟨e0, e1, e2, e3⟩ := hag c
  refine ⟨?_, ?_, ?_, (h c).2.2.2⟩
  · exact (h c).1.trans ((ReferenceAdamUpIdeal.Read.val_main_v23_eq (F := Ideal) _ _ _ _).trans ((by rw [e0, e1, e2, e3] : _ = ReferenceAdamUpIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3))).trans (AdamUp.delta_eq _ _ _ _).symm))
  · exact (h c).2.1.trans ((ReferenceAdamUpIdeal.Read.val_main_v4_eq (F := Ideal) _ _).trans ((by rw [e1, e2] : _ = ReferenceAdamUpIdeal.Read.val_main_v4 (F := Ideal) (m ((c.tc : Thread nD τ).loc main_arg1)) (m ((c.tc : Thread nD τ).loc main_arg2))).trans (AdamUp.newm_eq _ _).symm))
  · exact (h c).2.2.1.trans ((ReferenceAdamUpIdeal.Read.val_main_v10_eq (F := Ideal) _ _).trans ((by rw [e1, e3] : _ = ReferenceAdamUpIdeal.Read.val_main_v10 (F := Ideal) (m ((c.tc : Thread nD τ).loc main_arg1)) (m ((c.tc : Thread nD τ).loc main_arg3))).trans (AdamUp.newv_eq _ _).symm))

/-- The frame of `ReferenceAdamConvIdeal`, a straight line of host operations. -/
theorem frame_ref_AdamConv : quiescent_ReferenceAdamConvIdeal := fun m ρ _ =>
  (θ_run ReferenceAdamConvIdeal.defs _ _).mono (fun r h => ⟨fun c => (h c).2.2.2, sem_eq_zero_of_no_sems (by decide) r.2⟩)
    (ReferenceAdamConvIdeal.Value.run (F := Ideal) m ρ)

open KernelAdamConvIdeal in
/-- The arrays of `KernelAdamConvIdeal` and those of its reference are the same functions of the arguments. -/
theorem algebraic_AdamConv : algebraic_KernelAdamConvIdeal_ReferenceAdamConvIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg1)) (m ((c.tc : Thread nD τ).loc main_arg2)),
    fun c => Value.G6 (F := Ideal) (m ((c.tc : Thread nD τ).loc main_arg1)) (m ((c.tc : Thread nD τ).loc main_arg3)), Value.run (F := Ideal) m g, ?_⟩
  refine (θ_run ReferenceAdamConvIdeal.defs _ _).mono (fun r h c => ?_) (ReferenceAdamConvIdeal.Value.run (F := Ideal) m' g')
  obtain ⟨e0, e1, e2, e3⟩ := hag c
  refine ⟨?_, ?_, ?_, (h c).2.2.2⟩
  · exact (h c).1.trans ((ReferenceAdamConvIdeal.Read.val_main_v23_eq (F := Ideal) _ _ _ _).trans ((by rw [e0, e1, e2, e3] : _ = ReferenceAdamConvIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3))).trans (AdamConv.delta_eq _ _ _ _).symm))
  · exact (h c).2.1.trans ((ReferenceAdamConvIdeal.Read.val_main_v4_eq (F := Ideal) _ _).trans ((by rw [e1, e2] : _ = ReferenceAdamConvIdeal.Read.val_main_v4 (F := Ideal) (m ((c.tc : Thread nD τ).loc main_arg1)) (m ((c.tc : Thread nD τ).loc main_arg2))).trans (AdamConv.newm_eq _ _).symm))
  · exact (h c).2.2.1.trans ((ReferenceAdamConvIdeal.Read.val_main_v10_eq (F := Ideal) _ _).trans ((by rw [e1, e3] : _ = ReferenceAdamConvIdeal.Read.val_main_v10 (F := Ideal) (m ((c.tc : Thread nD τ).loc main_arg1)) (m ((c.tc : Thread nD τ).loc main_arg3))).trans (AdamConv.newv_eq _ _).symm))

/-- The frame of `ReferenceAdamDownIdeal`, a straight line of host operations. -/
theorem frame_ref_AdamDown : quiescent_ReferenceAdamDownIdeal := fun m ρ _ =>
  (θ_run ReferenceAdamDownIdeal.defs _ _).mono (fun r h => ⟨fun c => (h c).2.2.2, sem_eq_zero_of_no_sems (by decide) r.2⟩)
    (ReferenceAdamDownIdeal.Value.run (F := Ideal) m ρ)

open KernelAdamDownIdeal in
/-- The arrays of `KernelAdamDownIdeal` and those of its reference are the same functions of the arguments. -/
theorem algebraic_AdamDown : algebraic_KernelAdamDownIdeal_ReferenceAdamDownIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg1)) (m ((c.tc : Thread nD τ).loc main_arg2)),
    fun c => Value.G6 (F := Ideal) (m ((c.tc : Thread nD τ).loc main_arg1)) (m ((c.tc : Thread nD τ).loc main_arg3)), Value.run (F := Ideal) m g, ?_⟩
  refine (θ_run ReferenceAdamDownIdeal.defs _ _).mono (fun r h c => ?_) (ReferenceAdamDownIdeal.Value.run (F := Ideal) m' g')
  obtain ⟨e0, e1, e2, e3⟩ := hag c
  refine ⟨?_, ?_, ?_, (h c).2.2.2⟩
  · exact (h c).1.trans ((ReferenceAdamDownIdeal.Read.val_main_v23_eq (F := Ideal) _ _ _ _).trans ((by rw [e0, e1, e2, e3] : _ = ReferenceAdamDownIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3))).trans (AdamDown.delta_eq _ _ _ _).symm))
  · exact (h c).2.1.trans ((ReferenceAdamDownIdeal.Read.val_main_v4_eq (F := Ideal) _ _).trans ((by rw [e1, e2] : _ = ReferenceAdamDownIdeal.Read.val_main_v4 (F := Ideal) (m ((c.tc : Thread nD τ).loc main_arg1)) (m ((c.tc : Thread nD τ).loc main_arg2))).trans (AdamDown.newm_eq _ _).symm))
  · exact (h c).2.2.1.trans ((ReferenceAdamDownIdeal.Read.val_main_v10_eq (F := Ideal) _ _).trans ((by rw [e1, e3] : _ = ReferenceAdamDownIdeal.Read.val_main_v10 (F := Ideal) (m ((c.tc : Thread nD τ).loc main_arg1)) (m ((c.tc : Thread nD τ).loc main_arg3))).trans (AdamDown.newv_eq _ _).symm))

/-- The frame of `ReferenceAdamSmallIdeal`, a straight line of host operations. -/
theorem frame_ref_AdamSmall : quiescent_ReferenceAdamSmallIdeal := fun m ρ _ =>
  (θ_run ReferenceAdamSmallIdeal.defs _ _).mono (fun r h => ⟨fun c => (h c).2.2.2.2, sem_eq_zero_of_no_sems (by decide) r.2⟩)
    (ReferenceAdamSmallIdeal.Value.run (F := Ideal) m ρ)

open KernelAdamSmallIdeal in
/-- The arrays of `KernelAdamSmallIdeal` and those of its reference are the same functions of the arguments. -/
theorem algebraic_AdamSmall : algebraic_KernelAdamSmallIdeal_ReferenceAdamSmallIdeal := by
  intro m g m' g' _ hag
  refine ⟨fun c => Value.G4 (F := Ideal) (m ((c.tc : Thread nD τ).loc main_arg0)) (m ((c.tc : Thread nD τ).loc main_arg1)) (m ((c.tc : Thread nD τ).loc main_arg2)) (m ((c.tc : Thread nD τ).loc main_arg3)),
    fun c => Value.G5 (F := Ideal) (m ((c.tc : Thread nD τ).loc main_arg0)) (m ((c.tc : Thread nD τ).loc main_arg1)) (m ((c.tc : Thread nD τ).loc main_arg2)) (m ((c.tc : Thread nD τ).loc main_arg3)),
    fun c => Value.G6 (F := Ideal) (m ((c.tc : Thread nD τ).loc main_arg0)) (m ((c.tc : Thread nD τ).loc main_arg1)) (m ((c.tc : Thread nD τ).loc main_arg2)) (m ((c.tc : Thread nD τ).loc main_arg3)),
    fun c => Value.G7 (F := Ideal) (m ((c.tc : Thread nD τ).loc main_arg0)) (m ((c.tc : Thread nD τ).loc main_arg1)) (m ((c.tc : Thread nD τ).loc main_arg2)) (m ((c.tc : Thread nD τ).loc main_arg3)), Value.run (F := Ideal) m g, ?_⟩
  refine (θ_run ReferenceAdamSmallIdeal.defs _ _).mono (fun r h c => ?_) (ReferenceAdamSmallIdeal.Value.run (F := Ideal) m' g')
  obtain ⟨e0, e1, e2, e3⟩ := hag c
  refine ⟨?_, ?_, ?_, ?_, (h c).2.2.2.2⟩
  · exact (h c).1.trans ((ReferenceAdamSmallIdeal.Read.val_main_v0_eq (F := Ideal) _).trans ((by rw [e0] : _ = ReferenceAdamSmallIdeal.Read.val_main_v0 (F := Ideal) (m ((c.tc : Thread nD τ).loc main_arg0))).trans (AdamSmall.sum_eq _ _ _ _).symm))
  · exact (h c).2.1.trans ((ReferenceAdamSmallIdeal.Read.val_main_v24_eq (F := Ideal) _ _ _ _).trans ((by rw [e0, e1, e2, e3] : _ = ReferenceAdamSmallIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3))).trans (AdamSmall.delta_eq _ _ _ _).symm))
  · exact (h c).2.2.1.trans ((ReferenceAdamSmallIdeal.Read.val_main_v5_eq (F := Ideal) _ _).trans ((by rw [e0, e2] : _ = ReferenceAdamSmallIdeal.Read.val_main_v5 (F := Ideal) (m ((c.tc : Thread nD τ).loc main_arg0)) (m ((c.tc : Thread nD τ).loc main_arg2))).trans (AdamSmall.newm_eq _ _ _ _).symm))
  · exact (h c).2.2.2.1.trans ((ReferenceAdamSmallIdeal.Read.val_main_v11_eq (F := Ideal) _ _).trans ((by rw [e0, e3] : _ = ReferenceAdamSmallIdeal.Read.val_main_v11 (F := Ideal) (m ((c.tc : Thread nD τ).loc main_arg0)) (m ((c.tc : Thread nD τ).loc main_arg3))).trans (AdamSmall.newv_eq _ _ _ _).symm))

/-- The frame of `ReferenceWMemIdeal`, a straight line of host operations. -/
theorem frame_ref_WMem : quiescent_ReferenceWMemIdeal := fun m ρ _ =>
  (θ_run ReferenceWMemIdeal.defs _ _).mono (fun r h => ⟨fun c => (h c).2, sem_eq_zero_of_no_sems (by decide) r.2⟩)
    (ReferenceWMemIdeal.Value.run (F := Ideal) m ρ)

open KernelWMemIdeal.WMem ReferenceWMemIdeal.Read in
/-- The array of `KernelWMemIdeal` and that of its reference are the same function of the arguments. -/
theorem algebraic_WMem : algebraic_KernelWMemIdeal_ReferenceWMemIdeal := by
  intro m g m' g' _ hag
  refine ⟨fun c => grad (A0 m c) (A1 m c), ?_, ?_⟩
  · exact (θ_run KernelWMemIdeal.defs _ _).mono (fun r h c => ⟨(h c).1.trans (arr_eq m c), (h c).2⟩)
      (KernelWMemIdeal.Value.run_blocks (F := Ideal) m g)
  · refine (θ_run ReferenceWMemIdeal.defs _ _).mono (fun r h c => ?_) (ReferenceWMemIdeal.Value.run (F := Ideal) m' g')
    obtain ⟨e0, e1⟩ := hag c
    refine ⟨(h c).1.trans ((val_main_v3_eq (F := Ideal) _ _).trans ((ref_eq _ _).trans ?_)), (h c).2⟩
    exact congrArg₂ grad e0 e1

/-- The frame of `ReferenceNormMIdeal`, a straight line of host operations. -/
theorem frame_ref_NormM : quiescent_ReferenceNormMIdeal := fun m ρ _ =>
  (θ_run ReferenceNormMIdeal.defs _ _).mono (fun r h => ⟨fun c => (h c).2, sem_eq_zero_of_no_sems (by decide) r.2⟩)
    (ReferenceNormMIdeal.Value.run (F := Ideal) m ρ)

open KernelNormMIdeal.NormM ReferenceNormMIdeal.Read in
/-- The array of `KernelNormMIdeal` and that of its reference are the same function of the arguments. -/
theorem algebraic_NormM : algebraic_KernelNormMIdeal_ReferenceNormMIdeal := by
  intro m g m' g' _ hag
  refine ⟨fun c => gain (A0 m c) (A1 m c), run m g, ?_⟩
  refine (θ_run ReferenceNormMIdeal.defs _ _).mono (fun r h c => ?_) (ReferenceNormMIdeal.Value.run (F := Ideal) m' g')
  obtain ⟨e0, e1, _⟩ := hag c
  refine ⟨(h c).1.trans ((val_main_v17_eq (F := Ideal) _ _).trans ((ref_gain _ _).trans ?_)), (h c).2⟩
  exact congrArg₂ gain e0 e1

/-- The frame of `ReferenceProjMemIdeal`, a straight line of host operations. -/
theorem frame_ref_ProjMem : quiescent_ReferenceProjMemIdeal := fun m ρ _ =>
  (θ_run ReferenceProjMemIdeal.defs _ _).mono (fun r h => ⟨fun c => (h c).2, sem_eq_zero_of_no_sems (by decide) r.2⟩)
    (ReferenceProjMemIdeal.Value.run (F := Ideal) m ρ)

open KernelProjMemIdeal.ProjMem ReferenceProjMemIdeal.Read in
/-- The array of `KernelProjMemIdeal` and that of its reference are the same function of the arguments. -/
theorem algebraic_ProjMem : algebraic_KernelProjMemIdeal_ReferenceProjMemIdeal := by
  intro m g m' g' _ hag
  refine ⟨fun c => out (A0 m c) (A1 m c), ?_, ?_⟩
  · exact (θ_run KernelProjMemIdeal.defs _ _).mono (fun r h c => ⟨(h c).1.trans (arr_eq m c), (h c).2⟩)
      (KernelProjMemIdeal.Value.run_blocks (F := Ideal) m g)
  · refine (θ_run ReferenceProjMemIdeal.defs _ _).mono (fun r h c => ?_) (ReferenceProjMemIdeal.Value.run (F := Ideal) m' g')
    obtain ⟨e0, e1⟩ := hag c
    refine ⟨(h c).1.trans ((val_main_v1_eq (F := Ideal) _ _).trans ((ref_eq _ _).trans ?_)), (h c).2⟩
    exact congrArg₂ out e0 e1

/-- The frame of `ReferenceDMemnIdeal`, a straight line of host operations. -/
theorem frame_ref_DMemn : quiescent_ReferenceDMemnIdeal := fun m ρ _ =>
  (θ_run ReferenceDMemnIdeal.defs _ _).mono (fun r h => ⟨fun c => (h c).2, sem_eq_zero_of_no_sems (by decide) r.2⟩)
    (ReferenceDMemnIdeal.Value.run (F := Ideal) m ρ)

open KernelDMemnIdeal.DMemn ReferenceDMemnIdeal.Read in
/-- The array of `KernelDMemnIdeal` and that of its reference are the same function of the arguments. -/
theorem algebraic_DMemn : algebraic_KernelDMemnIdeal_ReferenceDMemnIdeal := by
  intro m g m' g' _ hag
  refine ⟨fun c => out (A0 m c) (A1 m c), ?_, ?_⟩
  · exact (θ_run KernelDMemnIdeal.defs _ _).mono (fun r h c => ⟨(h c).1.trans (arr_eq m c), (h c).2⟩)
      (KernelDMemnIdeal.Value.run_blocks (F := Ideal) m g)
  · refine (θ_run ReferenceDMemnIdeal.defs _ _).mono (fun r h c => ?_) (ReferenceDMemnIdeal.Value.run (F := Ideal) m' g')
    obtain ⟨e0, e1⟩ := hag c
    refine ⟨(h c).1.trans ((val_main_v3_eq (F := Ideal) _ _).trans ((ref_eq _ _).trans ?_)), (h c).2⟩
    exact congrArg₂ out e0 e1

/-- The frame of `ReferenceNormFIdeal`, a straight line of host operations. -/
theorem frame_ref_NormF : quiescent_ReferenceNormFIdeal := fun m ρ _ =>
  (θ_run ReferenceNormFIdeal.defs _ _).mono (fun r h => ⟨fun c => (h c).2, sem_eq_zero_of_no_sems (by decide) r.2⟩)
    (ReferenceNormFIdeal.Value.run (F := Ideal) m ρ)

open KernelNormFIdeal.NormF ReferenceNormFIdeal.Read in
/-- The array of `KernelNormFIdeal` and that of its reference are the same function of the arguments. -/
theorem algebraic_NormF : algebraic_KernelNormFIdeal_ReferenceNormFIdeal := by
  intro m g m' g' _ hag
  refine ⟨fun c => out (A0 m c) (A1 m c), ?_, ?_⟩
  · exact (θ_run KernelNormFIdeal.defs _ _).mono (fun r h c => ⟨(h c).1.trans (arr_eq m c), (h c).2⟩)
      (KernelNormFIdeal.Value.run_blocks (F := Ideal) m g)
  · refine (θ_run ReferenceNormFIdeal.defs _ _).mono (fun r h c => ?_) (ReferenceNormFIdeal.Value.run (F := Ideal) m' g')
    obtain ⟨e0, e1⟩ := hag c
    refine ⟨(h c).1.trans ((val_main_v15_eq (F := Ideal) _ _).trans ((ref_eq _ _).trans ?_)), (h c).2⟩
    exact congrArg₂ out e0 e1

/-- The frame of `ReferenceNormMFIdeal`, a straight line of host operations. -/
theorem frame_ref_NormMF : quiescent_ReferenceNormMFIdeal := fun m ρ _ =>
  (θ_run ReferenceNormMFIdeal.defs _ _).mono (fun r h => ⟨fun c => (h c).2, sem_eq_zero_of_no_sems (by decide) r.2⟩)
    (ReferenceNormMFIdeal.Value.run (F := Ideal) m ρ)

open KernelNormMFIdeal.NormMF ReferenceNormMFIdeal.Read in
/-- The array of `KernelNormMFIdeal` and that of its reference are the same function of the arguments. -/
theorem algebraic_NormMF : algebraic_KernelNormMFIdeal_ReferenceNormMFIdeal := by
  intro m g m' g' _ hag
  refine ⟨fun c => out (A0 m c) (A1 m c), ?_, ?_⟩
  · exact (θ_run KernelNormMFIdeal.defs _ _).mono (fun r h c => ⟨(h c).1.trans (arr_eq m c), (h c).2⟩)
      (KernelNormMFIdeal.Value.run_blocks (F := Ideal) m g)
  · refine (θ_run ReferenceNormMFIdeal.defs _ _).mono (fun r h c => ?_) (ReferenceNormMFIdeal.Value.run (F := Ideal) m' g')
    obtain ⟨e0, e1⟩ := hag c
    refine ⟨(h c).1.trans ((val_main_v15_eq (F := Ideal) _ _).trans ((ref_eq _ _).trans ?_)), (h c).2⟩
    exact congrArg₂ out e0 e1

/-- The frame of `ReferenceMemFIdeal`, a straight line of host operations. -/
theorem frame_ref_MemF : quiescent_ReferenceMemFIdeal := fun m ρ _ =>
  (θ_run ReferenceMemFIdeal.defs _ _).mono (fun r h => ⟨fun c => (h c).2, sem_eq_zero_of_no_sems (by decide) r.2⟩)
    (ReferenceMemFIdeal.Value.run (F := Ideal) m ρ)

open KernelMemFIdeal.MemF ReferenceMemFIdeal.Read Arrays in
/-- The array of `KernelMemFIdeal` and that of its reference are the same function of the arguments. -/
theorem algebraic_MemF : algebraic_KernelMemFIdeal_ReferenceMemFIdeal := by
  intro m g m' g' _ hag
  refine ⟨fun c => attArr (A0 m c) (A1 m c) (A2 m c) (A3 m c), ?_, ?_⟩
  · exact (θ_run KernelMemFIdeal.defs _ _).mono (fun r h c => ⟨(h c).1.trans (arr_eq m c), (h c).2⟩)
      (KernelMemFIdeal.Value.run_blocks (F := Ideal) m g)
  · refine (θ_run ReferenceMemFIdeal.defs _ _).mono (fun r h c => ?_) (ReferenceMemFIdeal.Value.run (F := Ideal) m' g')
    obtain ⟨e0, e1, e2, e3⟩ := hag c
    refine ⟨(h c).1.trans ((val_main_v51_eq (F := Ideal) _ _).trans ((ReferenceMemFIdeal.RefMemF.ref_eq _ _ _ _).trans ?_)), (h c).2⟩
    exact (congrArg₂ (attArr · · _ _) e0 e1).trans (congrArg₂ (attArr _ _) e2 e3)

/-- Everything claimed. -/
theorem claim : Cert.Claim := ⟨Kernel.Gen.facts, KernelIdeal.Gen.facts, ReferenceIdeal.Gen.facts, KernelDh2.Gen.facts, KernelDh2Ideal.Gen.facts, ReferenceDh2Ideal.Gen.facts, KernelWUp.Gen.facts, KernelWUpIdeal.Gen.facts, ReferenceWUpIdeal.Gen.facts, KernelConv.Gen.facts, KernelConvIdeal.Gen.facts, ReferenceConvIdeal.Gen.facts, KernelWDown.Gen.facts, KernelWDownIdeal.Gen.facts, ReferenceWDownIdeal.Gen.facts, KernelWOut.Gen.facts, KernelWOutIdeal.Gen.facts, ReferenceWOutIdeal.Gen.facts, KernelWBr.Gen.facts, KernelWBrIdeal.Gen.facts, ReferenceWBrIdeal.Gen.facts, KernelWInFox.Gen.facts, KernelWInFoxIdeal.Gen.facts, ReferenceWInFoxIdeal.Gen.facts, KernelWInMq.Gen.facts, KernelWInMqIdeal.Gen.facts, ReferenceWInMqIdeal.Gen.facts, KernelWInHg.Gen.facts, KernelWInHgIdeal.Gen.facts, ReferenceWInHgIdeal.Gen.facts, KernelWInGate.Gen.facts, KernelWInGateIdeal.Gen.facts, ReferenceWInGateIdeal.Gen.facts, KernelWInFf.Gen.facts, KernelWInFfIdeal.Gen.facts, ReferenceWInFfIdeal.Gen.facts, KernelProjIn.Gen.facts, KernelProjInIdeal.Gen.facts, ReferenceProjInIdeal.Gen.facts, KernelFfnUp.Gen.facts, KernelFfnUpIdeal.Gen.facts, ReferenceFfnUpIdeal.Gen.facts, KernelDh.Gen.facts, KernelDhIdeal.Gen.facts, ReferenceDhIdeal.Gen.facts, KernelMergeB.Gen.facts, KernelMergeBIdeal.Gen.facts, ReferenceMergeBIdeal.Gen.facts, KernelMergeF.Gen.facts, KernelMergeFIdeal.Gen.facts, ReferenceMergeFIdeal.Gen.facts, KernelLoss.Gen.facts, KernelLossIdeal.Gen.facts, ReferenceLossIdeal.Gen.facts, KernelNormB.Gen.facts, KernelNormBIdeal.Gen.facts, ReferenceNormBIdeal.Gen.facts, KernelAdamIn.Gen.facts, KernelAdamInIdeal.Gen.facts, ReferenceAdamInIdeal.Gen.facts, KernelAdamOut.Gen.facts, KernelAdamOutIdeal.Gen.facts, ReferenceAdamOutIdeal.Gen.facts, KernelAdamBr.Gen.facts, KernelAdamBrIdeal.Gen.facts, ReferenceAdamBrIdeal.Gen.facts, KernelAdamUp.Gen.facts, KernelAdamUpIdeal.Gen.facts, ReferenceAdamUpIdeal.Gen.facts, KernelAdamConv.Gen.facts, KernelAdamConvIdeal.Gen.facts, ReferenceAdamConvIdeal.Gen.facts, KernelAdamDown.Gen.facts, KernelAdamDownIdeal.Gen.facts, ReferenceAdamDownIdeal.Gen.facts, KernelAdamSmall.Gen.facts, KernelAdamSmallIdeal.Gen.facts, ReferenceAdamSmallIdeal.Gen.facts, KernelWMem.Gen.facts, KernelWMemIdeal.Gen.facts, ReferenceWMemIdeal.Gen.facts, KernelNormM.Gen.facts, KernelNormMIdeal.Gen.facts, ReferenceNormMIdeal.Gen.facts, KernelProjMem.Gen.facts, KernelProjMemIdeal.Gen.facts, ReferenceProjMemIdeal.Gen.facts, KernelDMemn.Gen.facts, KernelDMemnIdeal.Gen.facts, ReferenceDMemnIdeal.Gen.facts, KernelNormF.Gen.facts, KernelNormFIdeal.Gen.facts, ReferenceNormFIdeal.Gen.facts, KernelNormMF.Gen.facts, KernelNormMFIdeal.Gen.facts, ReferenceNormMFIdeal.Gen.facts, KernelMemF.Gen.facts, KernelMemFIdeal.Gen.facts, ReferenceMemFIdeal.Gen.facts, Cert.Finite.facts,
  fun m ρ _ => Kernel.Gen.frame m ρ,
  fun m ρ _ => KernelIdeal.Gen.frame m ρ,
  fun m ρ _ => KernelIdeal.Gen.frame m ρ,
  frame_ref,
  fun m ρ _ => frame_ref m ρ trivial,
  fun m ρ _ => KernelDh2.Gen.frame m ρ,
  fun m ρ _ => KernelDh2Ideal.Gen.frame m ρ,
  frame_ref_Dh2,
  fun m ρ _ => KernelWUp.Gen.frame m ρ,
  fun m ρ _ => KernelWUpIdeal.Gen.frame m ρ,
  frame_ref_WUp,
  fun m ρ _ => KernelConv.Gen.frame m ρ,
  fun m ρ _ => KernelConvIdeal.Gen.frame m ρ,
  frame_ref_Conv,
  fun m ρ _ => KernelWDown.Gen.frame m ρ,
  fun m ρ _ => KernelWDownIdeal.Gen.frame m ρ,
  frame_ref_WDown,
  fun m ρ _ => KernelWOut.Gen.frame m ρ,
  fun m ρ _ => KernelWOutIdeal.Gen.frame m ρ,
  frame_ref_WOut,
  fun m ρ _ => KernelWBr.Gen.frame m ρ,
  fun m ρ _ => KernelWBrIdeal.Gen.frame m ρ,
  frame_ref_WBr,
  fun m ρ _ => KernelWInFox.Gen.frame m ρ,
  fun m ρ _ => KernelWInFoxIdeal.Gen.frame m ρ,
  frame_ref_WInFox,
  fun m ρ _ => KernelWInMq.Gen.frame m ρ,
  fun m ρ _ => KernelWInMqIdeal.Gen.frame m ρ,
  frame_ref_WInMq,
  fun m ρ _ => KernelWInHg.Gen.frame m ρ,
  fun m ρ _ => KernelWInHgIdeal.Gen.frame m ρ,
  frame_ref_WInHg,
  fun m ρ _ => KernelWInGate.Gen.frame m ρ,
  fun m ρ _ => KernelWInGateIdeal.Gen.frame m ρ,
  frame_ref_WInGate,
  fun m ρ _ => KernelWInFf.Gen.frame m ρ,
  fun m ρ _ => KernelWInFfIdeal.Gen.frame m ρ,
  frame_ref_WInFf,
  fun m ρ _ => KernelProjIn.Gen.frame m ρ,
  fun m ρ _ => KernelProjInIdeal.Gen.frame m ρ,
  frame_ref_ProjIn,
  fun m ρ _ => KernelFfnUp.Gen.frame m ρ,
  fun m ρ _ => KernelFfnUpIdeal.Gen.frame m ρ,
  frame_ref_FfnUp,
  fun m ρ _ => KernelDh.Gen.frame m ρ,
  fun m ρ _ => KernelDhIdeal.Gen.frame m ρ,
  frame_ref_Dh,
  fun m ρ _ => KernelMergeB.Gen.frame m ρ,
  fun m ρ _ => KernelMergeBIdeal.Gen.frame m ρ,
  frame_ref_MergeB,
  fun m ρ _ => KernelMergeF.Gen.frame m ρ,
  fun m ρ _ => KernelMergeFIdeal.Gen.frame m ρ,
  frame_ref_MergeF,
  fun m ρ _ => KernelLoss.Gen.frame m ρ,
  fun m ρ _ => KernelLossIdeal.Gen.frame m ρ,
  frame_ref_Loss,
  fun m ρ _ => KernelNormB.Gen.frame m ρ,
  fun m ρ _ => KernelNormBIdeal.Gen.frame m ρ,
  frame_ref_NormB,
  fun m ρ _ => KernelAdamIn.Gen.frame m ρ,
  fun m ρ _ => KernelAdamInIdeal.Gen.frame m ρ,
  frame_ref_AdamIn,
  fun m ρ _ => KernelAdamOut.Gen.frame m ρ,
  fun m ρ _ => KernelAdamOutIdeal.Gen.frame m ρ,
  frame_ref_AdamOut,
  fun m ρ _ => KernelAdamBr.Gen.frame m ρ,
  fun m ρ _ => KernelAdamBrIdeal.Gen.frame m ρ,
  frame_ref_AdamBr,
  fun m ρ _ => KernelAdamUp.Gen.frame m ρ,
  fun m ρ _ => KernelAdamUpIdeal.Gen.frame m ρ,
  frame_ref_AdamUp,
  fun m ρ _ => KernelAdamConv.Gen.frame m ρ,
  fun m ρ _ => KernelAdamConvIdeal.Gen.frame m ρ,
  frame_ref_AdamConv,
  fun m ρ _ => KernelAdamDown.Gen.frame m ρ,
  fun m ρ _ => KernelAdamDownIdeal.Gen.frame m ρ,
  frame_ref_AdamDown,
  fun m ρ _ => KernelAdamSmall.Gen.frame m ρ,
  fun m ρ _ => KernelAdamSmallIdeal.Gen.frame m ρ,
  frame_ref_AdamSmall,
  fun m ρ _ => KernelWMem.Gen.frame m ρ,
  fun m ρ _ => KernelWMemIdeal.Gen.frame m ρ,
  frame_ref_WMem,
  fun m ρ _ => KernelNormM.Gen.frame m ρ,
  fun m ρ _ => KernelNormMIdeal.Gen.frame m ρ,
  frame_ref_NormM,
  fun m ρ _ => KernelProjMem.Gen.frame m ρ,
  fun m ρ _ => KernelProjMemIdeal.Gen.frame m ρ,
  frame_ref_ProjMem,
  fun m ρ _ => KernelDMemn.Gen.frame m ρ,
  fun m ρ _ => KernelDMemnIdeal.Gen.frame m ρ,
  frame_ref_DMemn,
  fun m ρ _ => KernelNormF.Gen.frame m ρ,
  fun m ρ _ => KernelNormFIdeal.Gen.frame m ρ,
  frame_ref_NormF,
  fun m ρ _ => KernelNormMF.Gen.frame m ρ,
  fun m ρ _ => KernelNormMFIdeal.Gen.frame m ρ,
  frame_ref_NormMF,
  fun m ρ _ => KernelMemF.Gen.frame m ρ,
  fun m ρ _ => KernelMemFIdeal.Gen.frame m ρ,
  frame_ref_MemF,
  trivial,
  algebraic,
  trivial,
  algebraic_Dh2,
  trivial,
  algebraic_WUp,
  trivial,
  algebraic_Conv,
  trivial,
  algebraic_WDown,
  trivial,
  algebraic_WOut,
  trivial,
  algebraic_WBr,
  trivial,
  algebraic_WInFox,
  trivial,
  algebraic_WInMq,
  trivial,
  algebraic_WInHg,
  trivial,
  algebraic_WInGate,
  trivial,
  algebraic_WInFf,
  trivial,
  algebraic_ProjIn,
  trivial,
  algebraic_FfnUp,
  trivial,
  algebraic_Dh,
  trivial,
  algebraic_MergeB,
  trivial,
  algebraic_MergeF,
  trivial,
  algebraic_Loss,
  trivial,
  algebraic_NormB,
  trivial,
  algebraic_AdamIn,
  trivial,
  algebraic_AdamOut,
  trivial,
  algebraic_AdamBr,
  trivial,
  algebraic_AdamUp,
  trivial,
  algebraic_AdamConv,
  trivial,
  algebraic_AdamDown,
  trivial,
  algebraic_AdamSmall,
  trivial,
  algebraic_WMem,
  trivial,
  algebraic_NormM,
  trivial,
  algebraic_ProjMem,
  trivial,
  algebraic_DMemn,
  trivial,
  algebraic_NormF,
  trivial,
  algebraic_NormMF,
  trivial,
  algebraic_MemF⟩

end Cert.Proof

end
